-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_qk3 [hPre_finite_qk3 : Cert.Pre_finite_qk3.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_qk3.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_qk3 [hPre_finite_qk3 : Cert.Pre_finite_qk3.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_qk3.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_qk3 [hKernel5Ideal : Cert.Kernel5Ideal.Facts] [hPre_finite_qk3 : Cert.Pre_finite_qk3.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_qk3 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_qk3 [hReference5Ideal : Cert.Reference5Ideal.Facts] [hPre_finite_qk3 : Cert.Pre_finite_qk3.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_qk3 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16)
      ∧ r.2.mem ((c.tc : Thread Cert.Kernel7.nD Cert.Kernel7.τ).loc Cert.Kernel7.main_arg17) = m ((c.tc : Thread Cert.Kernel7.nD Cert.Kernel7.τ).loc Cert.Kernel7.main_arg17)
      ∧ r.2.mem ((c.tc : Thread Cert.Kernel7.nD Cert.Kernel7.τ).loc Cert.Kernel7.main_arg18) = m ((c.tc : Thread Cert.Kernel7.nD Cert.Kernel7.τ).loc Cert.Kernel7.main_arg18)
      ∧ r.2.mem ((c.tc : Thread Cert.Kernel7.nD Cert.Kernel7.τ).loc Cert.Kernel7.main_arg19) = m ((c.tc : Thread Cert.Kernel7.nD Cert.Kernel7.τ).loc Cert.Kernel7.main_arg19)
      ∧ r.2.mem ((c.tc : Thread Cert.Kernel7.nD Cert.Kernel7.τ).loc Cert.Kernel7.main_arg20) = m ((c.tc : Thread Cert.Kernel7.nD Cert.Kernel7.τ).loc Cert.Kernel7.main_arg20)
      ∧ r.2.mem ((c.tc : Thread Cert.Kernel7.nD Cert.Kernel7.τ).loc Cert.Kernel7.main_arg21) = m ((c.tc : Thread Cert.Kernel7.nD Cert.Kernel7.τ).loc Cert.Kernel7.main_arg21)
      ∧ r.2.mem ((c.tc : Thread Cert.Kernel7.nD Cert.Kernel7.τ).loc Cert.Kernel7.main_arg22) = m ((c.tc : Thread Cert.Kernel7.nD Cert.Kernel7.τ).loc Cert.Kernel7.main_arg22)
      ∧ r.2.mem ((c.tc : Thread Cert.Kernel7.nD Cert.Kernel7.τ).loc Cert.Kernel7.main_arg23) = m ((c.tc : Thread Cert.Kernel7.nD Cert.Kernel7.τ).loc Cert.Kernel7.main_arg23)
      ∧ r.2.mem ((c.tc : Thread Cert.Kernel7.nD Cert.Kernel7.τ).loc Cert.Kernel7.main_arg24) = m ((c.tc : Thread Cert.Kernel7.nD Cert.Kernel7.τ).loc Cert.Kernel7.main_arg24)
      ∧ r.2.mem ((c.tc : Thread Cert.Kernel7.nD Cert.Kernel7.τ).loc Cert.Kernel7.main_arg25) = m ((c.tc : Thread Cert.Kernel7.nD Cert.Kernel7.τ).loc Cert.Kernel7.main_arg25)
      ∧ r.2.mem ((c.tc : Thread Cert.Kernel7.nD Cert.Kernel7.τ).loc Cert.Kernel7.main_arg26) = m ((c.tc : Thread Cert.Kernel7.nD Cert.Kernel7.τ).loc Cert.Kernel7.main_arg26)
      ∧ r.2.mem ((c.tc : Thread Cert.Kernel7.nD Cert.Kernel7.τ).loc Cert.Kernel7.main_arg27) = m ((c.tc : Thread Cert.Kernel7.nD Cert.Kernel7.τ).loc Cert.Kernel7.main_arg27)
      ∧ r.2.mem ((c.tc : Thread Cert.Kernel7.nD Cert.Kernel7.τ).loc Cert.Kernel7.main_arg28) = m ((c.tc : Thread Cert.Kernel7.nD Cert.Kernel7.τ).loc Cert.Kernel7.main_arg28)
      ∧ r.2.mem ((c.tc : Thread Cert.Kernel7.nD Cert.Kernel7.τ).loc Cert.Kernel7.main_arg29) = m ((c.tc : Thread Cert.Kernel7.nD Cert.Kernel7.τ).loc Cert.Kernel7.main_arg29)
      ∧ r.2.mem ((c.tc : Thread Cert.Kernel7.nD Cert.Kernel7.τ).loc Cert.Kernel7.main_arg30) = m ((c.tc : Thread Cert.Kernel7.nD Cert.Kernel7.τ).loc Cert.Kernel7.main_arg30)
      ∧ r.2.mem ((c.tc : Thread Cert.Kernel7.nD Cert.Kernel7.τ).loc Cert.Kernel7.main_arg31) = m ((c.tc : Thread Cert.Kernel7.nD Cert.Kernel7.τ).loc Cert.Kernel7.main_arg31)
      ∧ r.2.mem ((c.tc : Thread Cert.Kernel7.nD Cert.Kernel7.τ).loc Cert.Kernel7.main_arg32) = m ((c.tc : Thread Cert.Kernel7.nD Cert.Kernel7.τ).loc Cert.Kernel7.main_arg32)
      ∧ r.2.mem ((c.tc : Thread Cert.Kernel7.nD Cert.Kernel7.τ).loc Cert.Kernel7.main_arg33) = m ((c.tc : Thread Cert.Kernel7.nD Cert.Kernel7.τ).loc Cert.Kernel7.main_arg33)
      ∧ r.2.mem ((c.tc : Thread Cert.Kernel7.nD Cert.Kernel7.τ).loc Cert.Kernel7.main_arg34) = m ((c.tc : Thread Cert.Kernel7.nD Cert.Kernel7.τ).loc Cert.Kernel7.main_arg34)
      ∧ r.2.mem ((c.tc : Thread Cert.Kernel7.nD Cert.Kernel7.τ).loc Cert.Kernel7.main_arg35) = m ((c.tc : Thread Cert.Kernel7.nD Cert.Kernel7.τ).loc Cert.Kernel7.main_arg35)
      ∧ r.2.mem ((c.tc : Thread Cert.Kernel7.nD Cert.Kernel7.τ).loc Cert.Kernel7.main_arg36) = m ((c.tc : Thread Cert.Kernel7.nD Cert.Kernel7.τ).loc Cert.Kernel7.main_arg36)
      ∧ r.2.mem ((c.tc : Thread Cert.Kernel7.nD Cert.Kernel7.τ).loc Cert.Kernel7.main_arg37) = m ((c.tc : Thread Cert.Kernel7.nD Cert.Kernel7.τ).loc Cert.Kernel7.main_arg37)
      ∧ r.2.mem ((c.tc : Thread Cert.Kernel7.nD Cert.Kernel7.τ).loc Cert.Kernel7.main_arg38) = m ((c.tc : Thread Cert.Kernel7.nD Cert.Kernel7.τ).loc Cert.Kernel7.main_arg38)
      ∧ r.2.mem ((c.tc : Thread Cert.Kernel7.nD Cert.Kernel7.τ).loc Cert.Kernel7.main_arg39) = m ((c.tc : Thread Cert.Kernel7.nD Cert.Kernel7.τ).loc Cert.Kernel7.main_arg39)
      ∧ r.2.mem ((c.tc : Thread Cert.Kernel7.nD Cert.Kernel7.τ).loc Cert.Kernel7.main_arg40) = m ((c.tc : Thread Cert.Kernel7.nD Cert.Kernel7.τ).loc Cert.Kernel7.main_arg40)
      ∧ r.2.mem ((c.tc : Thread Cert.Kernel7.nD Cert.Kernel7.τ).loc Cert.Kernel7.main_arg41) = m ((c.tc : Thread Cert.Kernel7.nD Cert.Kernel7.τ).loc Cert.Kernel7.main_arg41)
      ∧ r.2.mem ((c.tc : Thread Cert.Kernel7.nD Cert.Kernel7.τ).loc Cert.Kernel7.main_arg42) = m ((c.tc : Thread Cert.Kernel7.nD Cert.Kernel7.τ).loc Cert.Kernel7.main_arg42)
      ∧ r.2.mem ((c.tc : Thread Cert.Kernel7.nD Cert.Kernel7.τ).loc Cert.Kernel7.main_arg43) = m ((c.tc : Thread Cert.Kernel7.nD Cert.Kernel7.τ).loc Cert.Kernel7.main_arg43)
      ∧ r.2.mem ((c.tc : Thread Cert.Kernel7.nD Cert.Kernel7.τ).loc Cert.Kernel7.main_arg44) = m ((c.tc : Thread Cert.Kernel7.nD Cert.Kernel7.τ).loc Cert.Kernel7.main_arg44)
      ∧ r.2.mem ((c.tc : Thread Cert.Kernel7.nD Cert.Kernel7.τ).loc Cert.Kernel7.main_arg45) = m ((c.tc : Thread Cert.Kernel7.nD Cert.Kernel7.τ).loc Cert.Kernel7.main_arg45)
      ∧ r.2.mem ((c.tc : Thread Cert.Kernel7.nD Cert.Kernel7.τ).loc Cert.Kernel7.main_arg46) = m ((c.tc : Thread Cert.Kernel7.nD Cert.Kernel7.τ).loc Cert.Kernel7.main_arg46)
      ∧ r.2.mem ((c.tc : Thread Cert.Kernel7.nD Cert.Kernel7.τ).loc Cert.Kernel7.main_arg47) = m ((c.tc : Thread Cert.Kernel7.nD Cert.Kernel7.τ).loc Cert.Kernel7.main_arg47)
      ∧ r.2.mem ((c.tc : Thread Cert.Kernel7.nD Cert.Kernel7.τ).loc Cert.Kernel7.main_arg48) = m ((c.tc : Thread Cert.Kernel7.nD Cert.Kernel7.τ).loc Cert.Kernel7.main_arg48)
      ∧ r.2.mem ((c.tc : Thread Cert.Kernel7.nD Cert.Kernel7.τ).loc Cert.Kernel7.main_arg49) = m ((c.tc : Thread Cert.Kernel7.nD Cert.Kernel7.τ).loc Cert.Kernel7.main_arg49)
      ∧ r.2.mem ((c.tc : Thread Cert.Kernel7.nD Cert.Kernel7.τ).loc Cert.Kernel7.main_arg50) = m ((c.tc : Thread Cert.Kernel7.nD Cert.Kernel7.τ).loc Cert.Kernel7.main_arg50)
      ∧ r.2.mem ((c.tc : Thread Cert.Kernel7.nD Cert.Kernel7.τ).loc Cert.Kernel7.main_arg51) = m ((c.tc : Thread Cert.Kernel7.nD Cert.Kernel7.τ).loc Cert.Kernel7.main_arg51))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
      ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
      ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
      ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
      ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
      ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
      ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
      ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
      ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
      ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
      ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
      ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
      ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29)
      ∧ r.2.mem ((c.tc : Thread Cert.Kernel7Ideal.nD Cert.Kernel7Ideal.τ).loc Cert.Kernel7Ideal.main_arg30) = m ((c.tc : Thread Cert.Kernel7Ideal.nD Cert.Kernel7Ideal.τ).loc Cert.Kernel7Ideal.main_arg30)
      ∧ r.2.mem ((c.tc : Thread Cert.Kernel7Ideal.nD Cert.Kernel7Ideal.τ).loc Cert.Kernel7Ideal.main_arg31) = m ((c.tc : Thread Cert.Kernel7Ideal.nD Cert.Kernel7Ideal.τ).loc Cert.Kernel7Ideal.main_arg31)
      ∧ r.2.mem ((c.tc : Thread Cert.Kernel7Ideal.nD Cert.Kernel7Ideal.τ).loc Cert.Kernel7Ideal.main_arg32) = m ((c.tc : Thread Cert.Kernel7Ideal.nD Cert.Kernel7Ideal.τ).loc Cert.Kernel7Ideal.main_arg32)
      ∧ r.2.mem ((c.tc : Thread Cert.Kernel7Ideal.nD Cert.Kernel7Ideal.τ).loc Cert.Kernel7Ideal.main_arg33) = m ((c.tc : Thread Cert.Kernel7Ideal.nD Cert.Kernel7Ideal.τ).loc Cert.Kernel7Ideal.main_arg33)
      ∧ r.2.mem ((c.tc : Thread Cert.Kernel7Ideal.nD Cert.Kernel7Ideal.τ).loc Cert.Kernel7Ideal.main_arg34) = m ((c.tc : Thread Cert.Kernel7Ideal.nD Cert.Kernel7Ideal.τ).loc Cert.Kernel7Ideal.main_arg34)
      ∧ r.2.mem ((c.tc : Thread Cert.Kernel7Ideal.nD Cert.Kernel7Ideal.τ).loc Cert.Kernel7Ideal.main_arg35) = m ((c.tc : Thread Cert.Kernel7Ideal.nD Cert.Kernel7Ideal.τ).loc Cert.Kernel7Ideal.main_arg35)
      ∧ r.2.mem ((c.tc : Thread Cert.Kernel7Ideal.nD Cert.Kernel7Ideal.τ).loc Cert.Kernel7Ideal.main_arg36) = m ((c.tc : Thread Cert.Kernel7Ideal.nD Cert.Kernel7Ideal.τ).loc Cert.Kernel7Ideal.main_arg36)
      ∧ r.2.mem ((c.tc : Thread Cert.Kernel7Ideal.nD Cert.Kernel7Ideal.τ).loc Cert.Kernel7Ideal.main_arg37) = m ((c.tc : Thread Cert.Kernel7Ideal.nD Cert.Kernel7Ideal.τ).loc Cert.Kernel7Ideal.main_arg37)
      ∧ r.2.mem ((c.tc : Thread Cert.Kernel7Ideal.nD Cert.Kernel7Ideal.τ).loc Cert.Kernel7Ideal.main_arg38) = m ((c.tc : Thread Cert.Kernel7Ideal.nD Cert.Kernel7Ideal.τ).loc Cert.Kernel7Ideal.main_arg38)
      ∧ r.2.mem ((c.tc : Thread Cert.Kernel7Ideal.nD Cert.Kernel7Ideal.τ).loc Cert.Kernel7Ideal.main_arg39) = m ((c.tc : Thread Cert.Kernel7Ideal.nD Cert.Kernel7Ideal.τ).loc Cert.Kernel7Ideal.main_arg39)
      ∧ r.2.mem ((c.tc : Thread Cert.Kernel7Ideal.nD Cert.Kernel7Ideal.τ).loc Cert.Kernel7Ideal.main_arg40) = m ((c.tc : Thread Cert.Kernel7Ideal.nD Cert.Kernel7Ideal.τ).loc Cert.Kernel7Ideal.main_arg40)
      ∧ r.2.mem ((c.tc : Thread Cert.Kernel7Ideal.nD Cert.Kernel7Ideal.τ).loc Cert.Kernel7Ideal.main_arg41) = m ((c.tc : Thread Cert.Kernel7Ideal.nD Cert.Kernel7Ideal.τ).loc Cert.Kernel7Ideal.main_arg41)
      ∧ r.2.mem ((c.tc : Thread Cert.Kernel7Ideal.nD Cert.Kernel7Ideal.τ).loc Cert.Kernel7Ideal.main_arg42) = m ((c.tc : Thread Cert.Kernel7Ideal.nD Cert.Kernel7Ideal.τ).loc Cert.Kernel7Ideal.main_arg42)
      ∧ r.2.mem ((c.tc : Thread Cert.Kernel7Ideal.nD Cert.Kernel7Ideal.τ).loc Cert.Kernel7Ideal.main_arg43) = m ((c.tc : Thread Cert.Kernel7Ideal.nD Cert.Kernel7Ideal.τ).loc Cert.Kernel7Ideal.main_arg43)
      ∧ r.2.mem ((c.tc : Thread Cert.Kernel7Ideal.nD Cert.Kernel7Ideal.τ).loc Cert.Kernel7Ideal.main_arg44) = m ((c.tc : Thread Cert.Kernel7Ideal.nD Cert.Kernel7Ideal.τ).loc Cert.Kernel7Ideal.main_arg44)
      ∧ r.2.mem ((c.tc : Thread Cert.Kernel7Ideal.nD Cert.Kernel7Ideal.τ).loc Cert.Kernel7Ideal.main_arg45) = m ((c.tc : Thread Cert.Kernel7Ideal.nD Cert.Kernel7Ideal.τ).loc Cert.Kernel7Ideal.main_arg45)
      ∧ r.2.mem ((c.tc : Thread Cert.Kernel7Ideal.nD Cert.Kernel7Ideal.τ).loc Cert.Kernel7Ideal.main_arg46) = m ((c.tc : Thread Cert.Kernel7Ideal.nD Cert.Kernel7Ideal.τ).loc Cert.Kernel7Ideal.main_arg46)
      ∧ r.2.mem ((c.tc : Thread Cert.Kernel7Ideal.nD Cert.Kernel7Ideal.τ).loc Cert.Kernel7Ideal.main_arg47) = m ((c.tc : Thread Cert.Kernel7Ideal.nD Cert.Kernel7Ideal.τ).loc Cert.Kernel7Ideal.main_arg47)
      ∧ r.2.mem ((c.tc : Thread Cert.Kernel7Ideal.nD Cert.Kernel7Ideal.τ).loc Cert.Kernel7Ideal.main_arg48) = m ((c.tc : Thread Cert.Kernel7Ideal.nD Cert.Kernel7Ideal.τ).loc Cert.Kernel7Ideal.main_arg48)
      ∧ r.2.mem ((c.tc : Thread Cert.Kernel7Ideal.nD Cert.Kernel7Ideal.τ).loc Cert.Kernel7Ideal.main_arg49) = m ((c.tc : Thread Cert.Kernel7Ideal.nD Cert.Kernel7Ideal.τ).loc Cert.Kernel7Ideal.main_arg49)
      ∧ r.2.mem ((c.tc : Thread Cert.Kernel7Ideal.nD Cert.Kernel7Ideal.τ).loc Cert.Kernel7Ideal.main_arg50) = m ((c.tc : Thread Cert.Kernel7Ideal.nD Cert.Kernel7Ideal.τ).loc Cert.Kernel7Ideal.main_arg50)
      ∧ r.2.mem ((c.tc : Thread Cert.Kernel7Ideal.nD Cert.Kernel7Ideal.τ).loc Cert.Kernel7Ideal.main_arg51) = m ((c.tc : Thread Cert.Kernel7Ideal.nD Cert.Kernel7Ideal.τ).loc Cert.Kernel7Ideal.main_arg51))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16)
      ∧ r.2.mem ((c.tc : Thread Cert.Reference7Ideal.nD Cert.Reference7Ideal.τ).loc Cert.Reference7Ideal.main_arg17) = m ((c.tc : Thread Cert.Reference7Ideal.nD Cert.Reference7Ideal.τ).loc Cert.Reference7Ideal.main_arg17)
      ∧ r.2.mem ((c.tc : Thread Cert.Reference7Ideal.nD Cert.Reference7Ideal.τ).loc Cert.Reference7Ideal.main_arg18) = m ((c.tc : Thread Cert.Reference7Ideal.nD Cert.Reference7Ideal.τ).loc Cert.Reference7Ideal.main_arg18)
      ∧ r.2.mem ((c.tc : Thread Cert.Reference7Ideal.nD Cert.Reference7Ideal.τ).loc Cert.Reference7Ideal.main_arg19) = m ((c.tc : Thread Cert.Reference7Ideal.nD Cert.Reference7Ideal.τ).loc Cert.Reference7Ideal.main_arg19)
      ∧ r.2.mem ((c.tc : Thread Cert.Reference7Ideal.nD Cert.Reference7Ideal.τ).loc Cert.Reference7Ideal.main_arg20) = m ((c.tc : Thread Cert.Reference7Ideal.nD Cert.Reference7Ideal.τ).loc Cert.Reference7Ideal.main_arg20)
      ∧ r.2.mem ((c.tc : Thread Cert.Reference7Ideal.nD Cert.Reference7Ideal.τ).loc Cert.Reference7Ideal.main_arg21) = m ((c.tc : Thread Cert.Reference7Ideal.nD Cert.Reference7Ideal.τ).loc Cert.Reference7Ideal.main_arg21)
      ∧ r.2.mem ((c.tc : Thread Cert.Reference7Ideal.nD Cert.Reference7Ideal.τ).loc Cert.Reference7Ideal.main_arg22) = m ((c.tc : Thread Cert.Reference7Ideal.nD Cert.Reference7Ideal.τ).loc Cert.Reference7Ideal.main_arg22)
      ∧ r.2.mem ((c.tc : Thread Cert.Reference7Ideal.nD Cert.Reference7Ideal.τ).loc Cert.Reference7Ideal.main_arg23) = m ((c.tc : Thread Cert.Reference7Ideal.nD Cert.Reference7Ideal.τ).loc Cert.Reference7Ideal.main_arg23)
      ∧ r.2.mem ((c.tc : Thread Cert.Reference7Ideal.nD Cert.Reference7Ideal.τ).loc Cert.Reference7Ideal.main_arg24) = m ((c.tc : Thread Cert.Reference7Ideal.nD Cert.Reference7Ideal.τ).loc Cert.Reference7Ideal.main_arg24)
      ∧ r.2.mem ((c.tc : Thread Cert.Reference7Ideal.nD Cert.Reference7Ideal.τ).loc Cert.Reference7Ideal.main_arg25) = m ((c.tc : Thread Cert.Reference7Ideal.nD Cert.Reference7Ideal.τ).loc Cert.Reference7Ideal.main_arg25)
      ∧ r.2.mem ((c.tc : Thread Cert.Reference7Ideal.nD Cert.Reference7Ideal.τ).loc Cert.Reference7Ideal.main_arg26) = m ((c.tc : Thread Cert.Reference7Ideal.nD Cert.Reference7Ideal.τ).loc Cert.Reference7Ideal.main_arg26)
      ∧ r.2.mem ((c.tc : Thread Cert.Reference7Ideal.nD Cert.Reference7Ideal.τ).loc Cert.Reference7Ideal.main_arg27) = m ((c.tc : Thread Cert.Reference7Ideal.nD Cert.Reference7Ideal.τ).loc Cert.Reference7Ideal.main_arg27)
      ∧ r.2.mem ((c.tc : Thread Cert.Reference7Ideal.nD Cert.Reference7Ideal.τ).loc Cert.Reference7Ideal.main_arg28) = m ((c.tc : Thread Cert.Reference7Ideal.nD Cert.Reference7Ideal.τ).loc Cert.Reference7Ideal.main_arg28)
      ∧ r.2.mem ((c.tc : Thread Cert.Reference7Ideal.nD Cert.Reference7Ideal.τ).loc Cert.Reference7Ideal.main_arg29) = m ((c.tc : Thread Cert.Reference7Ideal.nD Cert.Reference7Ideal.τ).loc Cert.Reference7Ideal.main_arg29)
      ∧ r.2.mem ((c.tc : Thread Cert.Reference7Ideal.nD Cert.Reference7Ideal.τ).loc Cert.Reference7Ideal.main_arg30) = m ((c.tc : Thread Cert.Reference7Ideal.nD Cert.Reference7Ideal.τ).loc Cert.Reference7Ideal.main_arg30)
      ∧ r.2.mem ((c.tc : Thread Cert.Reference7Ideal.nD Cert.Reference7Ideal.τ).loc Cert.Reference7Ideal.main_arg31) = m ((c.tc : Thread Cert.Reference7Ideal.nD Cert.Reference7Ideal.τ).loc Cert.Reference7Ideal.main_arg31)
      ∧ r.2.mem ((c.tc : Thread Cert.Reference7Ideal.nD Cert.Reference7Ideal.τ).loc Cert.Reference7Ideal.main_arg32) = m ((c.tc : Thread Cert.Reference7Ideal.nD Cert.Reference7Ideal.τ).loc Cert.Reference7Ideal.main_arg32)
      ∧ r.2.mem ((c.tc : Thread Cert.Reference7Ideal.nD Cert.Reference7Ideal.τ).loc Cert.Reference7Ideal.main_arg33) = m ((c.tc : Thread Cert.Reference7Ideal.nD Cert.Reference7Ideal.τ).loc Cert.Reference7Ideal.main_arg33)
      ∧ r.2.mem ((c.tc : Thread Cert.Reference7Ideal.nD Cert.Reference7Ideal.τ).loc Cert.Reference7Ideal.main_arg34) = m ((c.tc : Thread Cert.Reference7Ideal.nD Cert.Reference7Ideal.τ).loc Cert.Reference7Ideal.main_arg34)
      ∧ r.2.mem ((c.tc : Thread Cert.Reference7Ideal.nD Cert.Reference7Ideal.τ).loc Cert.Reference7Ideal.main_arg35) = m ((c.tc : Thread Cert.Reference7Ideal.nD Cert.Reference7Ideal.τ).loc Cert.Reference7Ideal.main_arg35)
      ∧ r.2.mem ((c.tc : Thread Cert.Reference7Ideal.nD Cert.Reference7Ideal.τ).loc Cert.Reference7Ideal.main_arg36) = m ((c.tc : Thread Cert.Reference7Ideal.nD Cert.Reference7Ideal.τ).loc Cert.Reference7Ideal.main_arg36)
      ∧ r.2.mem ((c.tc : Thread Cert.Reference7Ideal.nD Cert.Reference7Ideal.τ).loc Cert.Reference7Ideal.main_arg37) = m ((c.tc : Thread Cert.Reference7Ideal.nD Cert.Reference7Ideal.τ).loc Cert.Reference7Ideal.main_arg37)
      ∧ r.2.mem ((c.tc : Thread Cert.Reference7Ideal.nD Cert.Reference7Ideal.τ).loc Cert.Reference7Ideal.main_arg38) = m ((c.tc : Thread Cert.Reference7Ideal.nD Cert.Reference7Ideal.τ).loc Cert.Reference7Ideal.main_arg38)
      ∧ r.2.mem ((c.tc : Thread Cert.Reference7Ideal.nD Cert.Reference7Ideal.τ).loc Cert.Reference7Ideal.main_arg39) = m ((c.tc : Thread Cert.Reference7Ideal.nD Cert.Reference7Ideal.τ).loc Cert.Reference7Ideal.main_arg39)
      ∧ r.2.mem ((c.tc : Thread Cert.Reference7Ideal.nD Cert.Reference7Ideal.τ).loc Cert.Reference7Ideal.main_arg40) = m ((c.tc : Thread Cert.Reference7Ideal.nD Cert.Reference7Ideal.τ).loc Cert.Reference7Ideal.main_arg40)
      ∧ r.2.mem ((c.tc : Thread Cert.Reference7Ideal.nD Cert.Reference7Ideal.τ).loc Cert.Reference7Ideal.main_arg41) = m ((c.tc : Thread Cert.Reference7Ideal.nD Cert.Reference7Ideal.τ).loc Cert.Reference7Ideal.main_arg41)
      ∧ r.2.mem ((c.tc : Thread Cert.Reference7Ideal.nD Cert.Reference7Ideal.τ).loc Cert.Reference7Ideal.main_arg42) = m ((c.tc : Thread Cert.Reference7Ideal.nD Cert.Reference7Ideal.τ).loc Cert.Reference7Ideal.main_arg42)
      ∧ r.2.mem ((c.tc : Thread Cert.Reference7Ideal.nD Cert.Reference7Ideal.τ).loc Cert.Reference7Ideal.main_arg43) = m ((c.tc : Thread Cert.Reference7Ideal.nD Cert.Reference7Ideal.τ).loc Cert.Reference7Ideal.main_arg43)
      ∧ r.2.mem ((c.tc : Thread Cert.Reference7Ideal.nD Cert.Reference7Ideal.τ).loc Cert.Reference7Ideal.main_arg44) = m ((c.tc : Thread Cert.Reference7Ideal.nD Cert.Reference7Ideal.τ).loc Cert.Reference7Ideal.main_arg44)
      ∧ r.2.mem ((c.tc : Thread Cert.Reference7Ideal.nD Cert.Reference7Ideal.τ).loc Cert.Reference7Ideal.main_arg45) = m ((c.tc : Thread Cert.Reference7Ideal.nD Cert.Reference7Ideal.τ).loc Cert.Reference7Ideal.main_arg45)
      ∧ r.2.mem ((c.tc : Thread Cert.Reference7Ideal.nD Cert.Reference7Ideal.τ).loc Cert.Reference7Ideal.main_arg46) = m ((c.tc : Thread Cert.Reference7Ideal.nD Cert.Reference7Ideal.τ).loc Cert.Reference7Ideal.main_arg46)
      ∧ r.2.mem ((c.tc : Thread Cert.Reference7Ideal.nD Cert.Reference7Ideal.τ).loc Cert.Reference7Ideal.main_arg47) = m ((c.tc : Thread Cert.Reference7Ideal.nD Cert.Reference7Ideal.τ).loc Cert.Reference7Ideal.main_arg47)
      ∧ r.2.mem ((c.tc : Thread Cert.Reference7Ideal.nD Cert.Reference7Ideal.τ).loc Cert.Reference7Ideal.main_arg48) = m ((c.tc : Thread Cert.Reference7Ideal.nD Cert.Reference7Ideal.τ).loc Cert.Reference7Ideal.main_arg48)
      ∧ r.2.mem ((c.tc : Thread Cert.Reference7Ideal.nD Cert.Reference7Ideal.τ).loc Cert.Reference7Ideal.main_arg49) = m ((c.tc : Thread Cert.Reference7Ideal.nD Cert.Reference7Ideal.τ).loc Cert.Reference7Ideal.main_arg49)
      ∧ r.2.mem ((c.tc : Thread Cert.Reference7Ideal.nD Cert.Reference7Ideal.τ).loc Cert.Reference7Ideal.main_arg50) = m ((c.tc : Thread Cert.Reference7Ideal.nD Cert.Reference7Ideal.τ).loc Cert.Reference7Ideal.main_arg50)
      ∧ r.2.mem ((c.tc : Thread Cert.Reference7Ideal.nD Cert.Reference7Ideal.τ).loc Cert.Reference7Ideal.main_arg51) = m ((c.tc : Thread Cert.Reference7Ideal.nD Cert.Reference7Ideal.τ).loc Cert.Reference7Ideal.main_arg51))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def preserves_Kernel_KernelIdeal : Prop :=
  IdealRules.named_const.Statement Cert.KernelIdeal.κ "scale" .f32 0x3D93CD3A#32 (((Real.sqrt 192)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v11)) (v1 : (c : Dev Cert.Kernel2Ideal.nD) → Buf (Elt Ideal) ((c.tc : Thread Cert.Kernel2Ideal.nD Cert.Kernel2Ideal.τ).loc Cert.Kernel2Ideal.main_v21_0)) (v2 : (c : Dev Cert.Kernel2Ideal.nD) → Buf (Elt Ideal) ((c.tc : Thread Cert.Kernel2Ideal.nD Cert.Kernel2Ideal.τ).loc Cert.Kernel2Ideal.main_v23)) (v3 : (c : Dev Cert.Kernel2Ideal.nD) → Buf (Elt Ideal) ((c.tc : Thread Cert.Kernel2Ideal.nD Cert.Kernel2Ideal.τ).loc Cert.Kernel2Ideal.main_v27)) (v4 : (c : Dev Cert.Kernel2Ideal.nD) → Buf (Elt Ideal) ((c.tc : Thread Cert.Kernel2Ideal.nD Cert.Kernel2Ideal.τ).loc Cert.Kernel2Ideal.main_v31)) (v5 : (c : Dev Cert.Kernel2Ideal.nD) → Buf (Elt Ideal) ((c.tc : Thread Cert.Kernel2Ideal.nD Cert.Kernel2Ideal.τ).loc Cert.Kernel2Ideal.main_v33)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_v21_0) = v1 c
          ∧ r.2.mem ((c.tc : Thread Cert.Kernel2Ideal.nD Cert.Kernel2Ideal.τ).loc Cert.Kernel2Ideal.main_v23) = v2 c
          ∧ r.2.mem ((c.tc : Thread Cert.Kernel2Ideal.nD Cert.Kernel2Ideal.τ).loc Cert.Kernel2Ideal.main_v27) = v3 c
          ∧ r.2.mem ((c.tc : Thread Cert.Kernel2Ideal.nD Cert.Kernel2Ideal.τ).loc Cert.Kernel2Ideal.main_v31) = v4 c
          ∧ r.2.mem ((c.tc : Thread Cert.Kernel2Ideal.nD Cert.Kernel2Ideal.τ).loc Cert.Kernel2Ideal.main_v33) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_v45) = v2 c
          ∧ r.2.mem ((c.tc : Thread Cert.Reference2Ideal.nD Cert.Reference2Ideal.τ).loc Cert.Reference2Ideal.main_v37) = v3 c
          ∧ r.2.mem ((c.tc : Thread Cert.Reference2Ideal.nD Cert.Reference2Ideal.τ).loc Cert.Reference2Ideal.main_v33) = v4 c
          ∧ r.2.mem ((c.tc : Thread Cert.Reference2Ideal.nD Cert.Reference2Ideal.τ).loc Cert.Reference2Ideal.main_v28) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v10)) (v1 : (c : Dev Cert.Kernel3Ideal.nD) → Buf (Elt Ideal) ((c.tc : Thread Cert.Kernel3Ideal.nD Cert.Kernel3Ideal.τ).loc Cert.Kernel3Ideal.main_v20)) (v2 : (c : Dev Cert.Kernel3Ideal.nD) → Buf (Elt Ideal) ((c.tc : Thread Cert.Kernel3Ideal.nD Cert.Kernel3Ideal.τ).loc Cert.Kernel3Ideal.main_v21)) (v3 : (c : Dev Cert.Kernel3Ideal.nD) → Buf (Elt Ideal) ((c.tc : Thread Cert.Kernel3Ideal.nD Cert.Kernel3Ideal.τ).loc Cert.Kernel3Ideal.main_v16)) (v4 : (c : Dev Cert.Kernel3Ideal.nD) → Buf (Elt Ideal) ((c.tc : Thread Cert.Kernel3Ideal.nD Cert.Kernel3Ideal.τ).loc Cert.Kernel3Ideal.main_v22)) (v5 : (c : Dev Cert.Kernel3Ideal.nD) → Buf (Elt Ideal) ((c.tc : Thread Cert.Kernel3Ideal.nD Cert.Kernel3Ideal.τ).loc Cert.Kernel3Ideal.main_v15)) (v6 : (c : Dev Cert.Kernel3Ideal.nD) → Buf (Elt Ideal) ((c.tc : Thread Cert.Kernel3Ideal.nD Cert.Kernel3Ideal.τ).loc Cert.Kernel3Ideal.main_v17)) (v7 : (c : Dev Cert.Kernel3Ideal.nD) → Buf (Elt Ideal) ((c.tc : Thread Cert.Kernel3Ideal.nD Cert.Kernel3Ideal.τ).loc Cert.Kernel3Ideal.main_v19)) (v8 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_v20) = v1 c
          ∧ r.2.mem ((c.tc : Thread Cert.Kernel3Ideal.nD Cert.Kernel3Ideal.τ).loc Cert.Kernel3Ideal.main_v21) = v2 c
          ∧ r.2.mem ((c.tc : Thread Cert.Kernel3Ideal.nD Cert.Kernel3Ideal.τ).loc Cert.Kernel3Ideal.main_v16) = v3 c
          ∧ r.2.mem ((c.tc : Thread Cert.Kernel3Ideal.nD Cert.Kernel3Ideal.τ).loc Cert.Kernel3Ideal.main_v22) = v4 c
          ∧ r.2.mem ((c.tc : Thread Cert.Kernel3Ideal.nD Cert.Kernel3Ideal.τ).loc Cert.Kernel3Ideal.main_v15) = v5 c
          ∧ r.2.mem ((c.tc : Thread Cert.Kernel3Ideal.nD Cert.Kernel3Ideal.τ).loc Cert.Kernel3Ideal.main_v17) = v6 c
          ∧ r.2.mem ((c.tc : Thread Cert.Kernel3Ideal.nD Cert.Kernel3Ideal.τ).loc Cert.Kernel3Ideal.main_v19) = v7 c
          ∧ r.2.mem ((c.tc : Thread Cert.Kernel3Ideal.nD Cert.Kernel3Ideal.τ).loc Cert.Kernel3Ideal.main_v12) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v53) = v1 c
          ∧ r.2.mem ((c.tc : Thread Cert.Reference3Ideal.nD Cert.Reference3Ideal.τ).loc Cert.Reference3Ideal.main_v48) = v2 c
          ∧ r.2.mem ((c.tc : Thread Cert.Reference3Ideal.nD Cert.Reference3Ideal.τ).loc Cert.Reference3Ideal.main_v40) = v3 c
          ∧ r.2.mem ((c.tc : Thread Cert.Reference3Ideal.nD Cert.Reference3Ideal.τ).loc Cert.Reference3Ideal.main_v33) = v4 c
          ∧ r.2.mem ((c.tc : Thread Cert.Reference3Ideal.nD Cert.Reference3Ideal.τ).loc Cert.Reference3Ideal.main_v47) = v5 c
          ∧ r.2.mem ((c.tc : Thread Cert.Reference3Ideal.nD Cert.Reference3Ideal.τ).loc Cert.Reference3Ideal.main_v39) = v6 c
          ∧ r.2.mem ((c.tc : Thread Cert.Reference3Ideal.nD Cert.Reference3Ideal.τ).loc Cert.Reference3Ideal.main_v32) = v7 c
          ∧ r.2.mem ((c.tc : Thread Cert.Reference3Ideal.nD Cert.Reference3Ideal.τ).loc Cert.Reference3Ideal.main_v27) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v71)) (v1 : (c : Dev Cert.Kernel4Ideal.nD) → Buf (Elt Ideal) ((c.tc : Thread Cert.Kernel4Ideal.nD Cert.Kernel4Ideal.τ).loc Cert.Kernel4Ideal.main_v43_0)) (v2 : (c : Dev Cert.Kernel4Ideal.nD) → Buf (Elt Ideal) ((c.tc : Thread Cert.Kernel4Ideal.nD Cert.Kernel4Ideal.τ).loc Cert.Kernel4Ideal.main_v73)) (v3 : (c : Dev Cert.Kernel4Ideal.nD) → Buf (Elt Ideal) ((c.tc : Thread Cert.Kernel4Ideal.nD Cert.Kernel4Ideal.τ).loc Cert.Kernel4Ideal.main_v64)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v71) = v0 c
          ∧ r.2.mem ((c.tc : Thread Cert.Kernel4Ideal.nD Cert.Kernel4Ideal.τ).loc Cert.Kernel4Ideal.main_v43_0) = v1 c
          ∧ r.2.mem ((c.tc : Thread Cert.Kernel4Ideal.nD Cert.Kernel4Ideal.τ).loc Cert.Kernel4Ideal.main_v73) = v2 c
          ∧ r.2.mem ((c.tc : Thread Cert.Kernel4Ideal.nD Cert.Kernel4Ideal.τ).loc Cert.Kernel4Ideal.main_v64) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_v18) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_qk3 [hKernel5Ideal : Cert.Kernel5Ideal.Facts] [hReference5Ideal : Cert.Reference5Ideal.Facts] [hPre_finite_qk3 : Cert.Pre_finite_qk3.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_qk3 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v55)) (v1 : (c : Dev Cert.Kernel6Ideal.nD) → Buf (Elt Ideal) ((c.tc : Thread Cert.Kernel6Ideal.nD Cert.Kernel6Ideal.τ).loc Cert.Kernel6Ideal.main_v56)) (v2 : (c : Dev Cert.Kernel6Ideal.nD) → Buf (Elt Ideal) ((c.tc : Thread Cert.Kernel6Ideal.nD Cert.Kernel6Ideal.τ).loc Cert.Kernel6Ideal.main_v58)) (v3 : (c : Dev Cert.Kernel6Ideal.nD) → Buf (Elt Ideal) ((c.tc : Thread Cert.Kernel6Ideal.nD Cert.Kernel6Ideal.τ).loc Cert.Kernel6Ideal.main_v60)) (v4 : (c : Dev Cert.Kernel6Ideal.nD) → Buf (Elt Ideal) ((c.tc : Thread Cert.Kernel6Ideal.nD Cert.Kernel6Ideal.τ).loc Cert.Kernel6Ideal.main_v65)) (v5 : (c : Dev Cert.Kernel6Ideal.nD) → Buf (Elt Ideal) ((c.tc : Thread Cert.Kernel6Ideal.nD Cert.Kernel6Ideal.τ).loc Cert.Kernel6Ideal.main_v48)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v55) = v0 c
          ∧ r.2.mem ((c.tc : Thread Cert.Kernel6Ideal.nD Cert.Kernel6Ideal.τ).loc Cert.Kernel6Ideal.main_v56) = v1 c
          ∧ r.2.mem ((c.tc : Thread Cert.Kernel6Ideal.nD Cert.Kernel6Ideal.τ).loc Cert.Kernel6Ideal.main_v58) = v2 c
          ∧ r.2.mem ((c.tc : Thread Cert.Kernel6Ideal.nD Cert.Kernel6Ideal.τ).loc Cert.Kernel6Ideal.main_v60) = v3 c
          ∧ r.2.mem ((c.tc : Thread Cert.Kernel6Ideal.nD Cert.Kernel6Ideal.τ).loc Cert.Kernel6Ideal.main_v65) = v4 c
          ∧ r.2.mem ((c.tc : Thread Cert.Kernel6Ideal.nD Cert.Kernel6Ideal.τ).loc Cert.Kernel6Ideal.main_v48) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v79) = v0 c
          ∧ r.2.mem ((c.tc : Thread Cert.Reference6Ideal.nD Cert.Reference6Ideal.τ).loc Cert.Reference6Ideal.main_v56) = v1 c
          ∧ r.2.mem ((c.tc : Thread Cert.Reference6Ideal.nD Cert.Reference6Ideal.τ).loc Cert.Reference6Ideal.main_v65) = v2 c
          ∧ r.2.mem ((c.tc : Thread Cert.Reference6Ideal.nD Cert.Reference6Ideal.τ).loc Cert.Reference6Ideal.main_v42) = v3 c
          ∧ r.2.mem ((c.tc : Thread Cert.Reference6Ideal.nD Cert.Reference6Ideal.τ).loc Cert.Reference6Ideal.main_v58) = v4 c
          ∧ r.2.mem ((c.tc : Thread Cert.Reference6Ideal.nD Cert.Reference6Ideal.τ).loc Cert.Reference6Ideal.main_v35) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)
      ∧ m' ((c.tc : Thread Cert.Reference7Ideal.nD Cert.Reference7Ideal.τ).loc Cert.Reference7Ideal.main_arg17) = m ((c.tc : Thread Cert.Kernel7Ideal.nD Cert.Kernel7Ideal.τ).loc Cert.Kernel7Ideal.main_arg17)
      ∧ m' ((c.tc : Thread Cert.Reference7Ideal.nD Cert.Reference7Ideal.τ).loc Cert.Reference7Ideal.main_arg18) = m ((c.tc : Thread Cert.Kernel7Ideal.nD Cert.Kernel7Ideal.τ).loc Cert.Kernel7Ideal.main_arg18)
      ∧ m' ((c.tc : Thread Cert.Reference7Ideal.nD Cert.Reference7Ideal.τ).loc Cert.Reference7Ideal.main_arg19) = m ((c.tc : Thread Cert.Kernel7Ideal.nD Cert.Kernel7Ideal.τ).loc Cert.Kernel7Ideal.main_arg19)
      ∧ m' ((c.tc : Thread Cert.Reference7Ideal.nD Cert.Reference7Ideal.τ).loc Cert.Reference7Ideal.main_arg20) = m ((c.tc : Thread Cert.Kernel7Ideal.nD Cert.Kernel7Ideal.τ).loc Cert.Kernel7Ideal.main_arg20)
      ∧ m' ((c.tc : Thread Cert.Reference7Ideal.nD Cert.Reference7Ideal.τ).loc Cert.Reference7Ideal.main_arg21) = m ((c.tc : Thread Cert.Kernel7Ideal.nD Cert.Kernel7Ideal.τ).loc Cert.Kernel7Ideal.main_arg21)
      ∧ m' ((c.tc : Thread Cert.Reference7Ideal.nD Cert.Reference7Ideal.τ).loc Cert.Reference7Ideal.main_arg22) = m ((c.tc : Thread Cert.Kernel7Ideal.nD Cert.Kernel7Ideal.τ).loc Cert.Kernel7Ideal.main_arg22)
      ∧ m' ((c.tc : Thread Cert.Reference7Ideal.nD Cert.Reference7Ideal.τ).loc Cert.Reference7Ideal.main_arg23) = m ((c.tc : Thread Cert.Kernel7Ideal.nD Cert.Kernel7Ideal.τ).loc Cert.Kernel7Ideal.main_arg23)
      ∧ m' ((c.tc : Thread Cert.Reference7Ideal.nD Cert.Reference7Ideal.τ).loc Cert.Reference7Ideal.main_arg24) = m ((c.tc : Thread Cert.Kernel7Ideal.nD Cert.Kernel7Ideal.τ).loc Cert.Kernel7Ideal.main_arg24)
      ∧ m' ((c.tc : Thread Cert.Reference7Ideal.nD Cert.Reference7Ideal.τ).loc Cert.Reference7Ideal.main_arg25) = m ((c.tc : Thread Cert.Kernel7Ideal.nD Cert.Kernel7Ideal.τ).loc Cert.Kernel7Ideal.main_arg25)
      ∧ m' ((c.tc : Thread Cert.Reference7Ideal.nD Cert.Reference7Ideal.τ).loc Cert.Reference7Ideal.main_arg26) = m ((c.tc : Thread Cert.Kernel7Ideal.nD Cert.Kernel7Ideal.τ).loc Cert.Kernel7Ideal.main_arg26)
      ∧ m' ((c.tc : Thread Cert.Reference7Ideal.nD Cert.Reference7Ideal.τ).loc Cert.Reference7Ideal.main_arg27) = m ((c.tc : Thread Cert.Kernel7Ideal.nD Cert.Kernel7Ideal.τ).loc Cert.Kernel7Ideal.main_arg27)
      ∧ m' ((c.tc : Thread Cert.Reference7Ideal.nD Cert.Reference7Ideal.τ).loc Cert.Reference7Ideal.main_arg28) = m ((c.tc : Thread Cert.Kernel7Ideal.nD Cert.Kernel7Ideal.τ).loc Cert.Kernel7Ideal.main_arg28)
      ∧ m' ((c.tc : Thread Cert.Reference7Ideal.nD Cert.Reference7Ideal.τ).loc Cert.Reference7Ideal.main_arg29) = m ((c.tc : Thread Cert.Kernel7Ideal.nD Cert.Kernel7Ideal.τ).loc Cert.Kernel7Ideal.main_arg29)
      ∧ m' ((c.tc : Thread Cert.Reference7Ideal.nD Cert.Reference7Ideal.τ).loc Cert.Reference7Ideal.main_arg30) = m ((c.tc : Thread Cert.Kernel7Ideal.nD Cert.Kernel7Ideal.τ).loc Cert.Kernel7Ideal.main_arg30)
      ∧ m' ((c.tc : Thread Cert.Reference7Ideal.nD Cert.Reference7Ideal.τ).loc Cert.Reference7Ideal.main_arg31) = m ((c.tc : Thread Cert.Kernel7Ideal.nD Cert.Kernel7Ideal.τ).loc Cert.Kernel7Ideal.main_arg31)
      ∧ m' ((c.tc : Thread Cert.Reference7Ideal.nD Cert.Reference7Ideal.τ).loc Cert.Reference7Ideal.main_arg32) = m ((c.tc : Thread Cert.Kernel7Ideal.nD Cert.Kernel7Ideal.τ).loc Cert.Kernel7Ideal.main_arg32)
      ∧ m' ((c.tc : Thread Cert.Reference7Ideal.nD Cert.Reference7Ideal.τ).loc Cert.Reference7Ideal.main_arg33) = m ((c.tc : Thread Cert.Kernel7Ideal.nD Cert.Kernel7Ideal.τ).loc Cert.Kernel7Ideal.main_arg33)
      ∧ m' ((c.tc : Thread Cert.Reference7Ideal.nD Cert.Reference7Ideal.τ).loc Cert.Reference7Ideal.main_arg34) = m ((c.tc : Thread Cert.Kernel7Ideal.nD Cert.Kernel7Ideal.τ).loc Cert.Kernel7Ideal.main_arg34)
      ∧ m' ((c.tc : Thread Cert.Reference7Ideal.nD Cert.Reference7Ideal.τ).loc Cert.Reference7Ideal.main_arg35) = m ((c.tc : Thread Cert.Kernel7Ideal.nD Cert.Kernel7Ideal.τ).loc Cert.Kernel7Ideal.main_arg35)
      ∧ m' ((c.tc : Thread Cert.Reference7Ideal.nD Cert.Reference7Ideal.τ).loc Cert.Reference7Ideal.main_arg36) = m ((c.tc : Thread Cert.Kernel7Ideal.nD Cert.Kernel7Ideal.τ).loc Cert.Kernel7Ideal.main_arg36)
      ∧ m' ((c.tc : Thread Cert.Reference7Ideal.nD Cert.Reference7Ideal.τ).loc Cert.Reference7Ideal.main_arg37) = m ((c.tc : Thread Cert.Kernel7Ideal.nD Cert.Kernel7Ideal.τ).loc Cert.Kernel7Ideal.main_arg37)
      ∧ m' ((c.tc : Thread Cert.Reference7Ideal.nD Cert.Reference7Ideal.τ).loc Cert.Reference7Ideal.main_arg38) = m ((c.tc : Thread Cert.Kernel7Ideal.nD Cert.Kernel7Ideal.τ).loc Cert.Kernel7Ideal.main_arg38)
      ∧ m' ((c.tc : Thread Cert.Reference7Ideal.nD Cert.Reference7Ideal.τ).loc Cert.Reference7Ideal.main_arg39) = m ((c.tc : Thread Cert.Kernel7Ideal.nD Cert.Kernel7Ideal.τ).loc Cert.Kernel7Ideal.main_arg39)
      ∧ m' ((c.tc : Thread Cert.Reference7Ideal.nD Cert.Reference7Ideal.τ).loc Cert.Reference7Ideal.main_arg40) = m ((c.tc : Thread Cert.Kernel7Ideal.nD Cert.Kernel7Ideal.τ).loc Cert.Kernel7Ideal.main_arg40)
      ∧ m' ((c.tc : Thread Cert.Reference7Ideal.nD Cert.Reference7Ideal.τ).loc Cert.Reference7Ideal.main_arg41) = m ((c.tc : Thread Cert.Kernel7Ideal.nD Cert.Kernel7Ideal.τ).loc Cert.Kernel7Ideal.main_arg41)
      ∧ m' ((c.tc : Thread Cert.Reference7Ideal.nD Cert.Reference7Ideal.τ).loc Cert.Reference7Ideal.main_arg42) = m ((c.tc : Thread Cert.Kernel7Ideal.nD Cert.Kernel7Ideal.τ).loc Cert.Kernel7Ideal.main_arg42)
      ∧ m' ((c.tc : Thread Cert.Reference7Ideal.nD Cert.Reference7Ideal.τ).loc Cert.Reference7Ideal.main_arg43) = m ((c.tc : Thread Cert.Kernel7Ideal.nD Cert.Kernel7Ideal.τ).loc Cert.Kernel7Ideal.main_arg43)
      ∧ m' ((c.tc : Thread Cert.Reference7Ideal.nD Cert.Reference7Ideal.τ).loc Cert.Reference7Ideal.main_arg44) = m ((c.tc : Thread Cert.Kernel7Ideal.nD Cert.Kernel7Ideal.τ).loc Cert.Kernel7Ideal.main_arg44)
      ∧ m' ((c.tc : Thread Cert.Reference7Ideal.nD Cert.Reference7Ideal.τ).loc Cert.Reference7Ideal.main_arg45) = m ((c.tc : Thread Cert.Kernel7Ideal.nD Cert.Kernel7Ideal.τ).loc Cert.Kernel7Ideal.main_arg45)
      ∧ m' ((c.tc : Thread Cert.Reference7Ideal.nD Cert.Reference7Ideal.τ).loc Cert.Reference7Ideal.main_arg46) = m ((c.tc : Thread Cert.Kernel7Ideal.nD Cert.Kernel7Ideal.τ).loc Cert.Kernel7Ideal.main_arg46)
      ∧ m' ((c.tc : Thread Cert.Reference7Ideal.nD Cert.Reference7Ideal.τ).loc Cert.Reference7Ideal.main_arg47) = m ((c.tc : Thread Cert.Kernel7Ideal.nD Cert.Kernel7Ideal.τ).loc Cert.Kernel7Ideal.main_arg47)
      ∧ m' ((c.tc : Thread Cert.Reference7Ideal.nD Cert.Reference7Ideal.τ).loc Cert.Reference7Ideal.main_arg48) = m ((c.tc : Thread Cert.Kernel7Ideal.nD Cert.Kernel7Ideal.τ).loc Cert.Kernel7Ideal.main_arg48)
      ∧ m' ((c.tc : Thread Cert.Reference7Ideal.nD Cert.Reference7Ideal.τ).loc Cert.Reference7Ideal.main_arg49) = m ((c.tc : Thread Cert.Kernel7Ideal.nD Cert.Kernel7Ideal.τ).loc Cert.Kernel7Ideal.main_arg49)
      ∧ m' ((c.tc : Thread Cert.Reference7Ideal.nD Cert.Reference7Ideal.τ).loc Cert.Reference7Ideal.main_arg50) = m ((c.tc : Thread Cert.Kernel7Ideal.nD Cert.Kernel7Ideal.τ).loc Cert.Kernel7Ideal.main_arg50)
      ∧ m' ((c.tc : Thread Cert.Reference7Ideal.nD Cert.Reference7Ideal.τ).loc Cert.Reference7Ideal.main_arg51) = m ((c.tc : Thread Cert.Kernel7Ideal.nD Cert.Kernel7Ideal.τ).loc Cert.Kernel7Ideal.main_arg51)) →
    ∃ (v0 : (c : Dev Cert.Kernel7Ideal.nD) → Buf (Elt Ideal) ((c.tc : Thread Cert.Kernel7Ideal.nD Cert.Kernel7Ideal.τ).loc Cert.Kernel7Ideal.main_v67)) (v1 : (c : Dev Cert.Kernel7Ideal.nD) → Buf (Elt Ideal) ((c.tc : Thread Cert.Kernel7Ideal.nD Cert.Kernel7Ideal.τ).loc Cert.Kernel7Ideal.main_v76)) (v2 : (c : Dev Cert.Kernel7Ideal.nD) → Buf (Elt Ideal) ((c.tc : Thread Cert.Kernel7Ideal.nD Cert.Kernel7Ideal.τ).loc Cert.Kernel7Ideal.main_v85)) (v3 : (c : Dev Cert.Kernel7Ideal.nD) → Buf (Elt Ideal) ((c.tc : Thread Cert.Kernel7Ideal.nD Cert.Kernel7Ideal.τ).loc Cert.Kernel7Ideal.main_v94)) (v4 : (c : Dev Cert.Kernel7Ideal.nD) → Buf (Elt Ideal) ((c.tc : Thread Cert.Kernel7Ideal.nD Cert.Kernel7Ideal.τ).loc Cert.Kernel7Ideal.main_v103)) (v5 : (c : Dev Cert.Kernel7Ideal.nD) → Buf (Elt Ideal) ((c.tc : Thread Cert.Kernel7Ideal.nD Cert.Kernel7Ideal.τ).loc Cert.Kernel7Ideal.main_v112)) (v6 : (c : Dev Cert.Kernel7Ideal.nD) → Buf (Elt Ideal) ((c.tc : Thread Cert.Kernel7Ideal.nD Cert.Kernel7Ideal.τ).loc Cert.Kernel7Ideal.main_v121)) (v7 : (c : Dev Cert.Kernel7Ideal.nD) → Buf (Elt Ideal) ((c.tc : Thread Cert.Kernel7Ideal.nD Cert.Kernel7Ideal.τ).loc Cert.Kernel7Ideal.main_v130)) (v8 : (c : Dev Cert.Kernel7Ideal.nD) → Buf (Elt Ideal) ((c.tc : Thread Cert.Kernel7Ideal.nD Cert.Kernel7Ideal.τ).loc Cert.Kernel7Ideal.main_v139)) (v9 : (c : Dev Cert.Kernel7Ideal.nD) → Buf (Elt Ideal) ((c.tc : Thread Cert.Kernel7Ideal.nD Cert.Kernel7Ideal.τ).loc Cert.Kernel7Ideal.main_v148)) (v10 : (c : Dev Cert.Kernel7Ideal.nD) → Buf (Elt Ideal) ((c.tc : Thread Cert.Kernel7Ideal.nD Cert.Kernel7Ideal.τ).loc Cert.Kernel7Ideal.main_v157)) (v11 : (c : Dev Cert.Kernel7Ideal.nD) → Buf (Elt Ideal) ((c.tc : Thread Cert.Kernel7Ideal.nD Cert.Kernel7Ideal.τ).loc Cert.Kernel7Ideal.main_v166)) (v12 : (c : Dev Cert.Kernel7Ideal.nD) → Buf (Elt Ideal) ((c.tc : Thread Cert.Kernel7Ideal.nD Cert.Kernel7Ideal.τ).loc Cert.Kernel7Ideal.main_v175)) (v13 : (c : Dev Cert.Kernel7Ideal.nD) → Buf (Elt Ideal) ((c.tc : Thread Cert.Kernel7Ideal.nD Cert.Kernel7Ideal.τ).loc Cert.Kernel7Ideal.main_v70)) (v14 : (c : Dev Cert.Kernel7Ideal.nD) → Buf (Elt Ideal) ((c.tc : Thread Cert.Kernel7Ideal.nD Cert.Kernel7Ideal.τ).loc Cert.Kernel7Ideal.main_v79)) (v15 : (c : Dev Cert.Kernel7Ideal.nD) → Buf (Elt Ideal) ((c.tc : Thread Cert.Kernel7Ideal.nD Cert.Kernel7Ideal.τ).loc Cert.Kernel7Ideal.main_v88)) (v16 : (c : Dev Cert.Kernel7Ideal.nD) → Buf (Elt Ideal) ((c.tc : Thread Cert.Kernel7Ideal.nD Cert.Kernel7Ideal.τ).loc Cert.Kernel7Ideal.main_v97)) (v17 : (c : Dev Cert.Kernel7Ideal.nD) → Buf (Elt Ideal) ((c.tc : Thread Cert.Kernel7Ideal.nD Cert.Kernel7Ideal.τ).loc Cert.Kernel7Ideal.main_v106)) (v18 : (c : Dev Cert.Kernel7Ideal.nD) → Buf (Elt Ideal) ((c.tc : Thread Cert.Kernel7Ideal.nD Cert.Kernel7Ideal.τ).loc Cert.Kernel7Ideal.main_v115)) (v19 : (c : Dev Cert.Kernel7Ideal.nD) → Buf (Elt Ideal) ((c.tc : Thread Cert.Kernel7Ideal.nD Cert.Kernel7Ideal.τ).loc Cert.Kernel7Ideal.main_v124)) (v20 : (c : Dev Cert.Kernel7Ideal.nD) → Buf (Elt Ideal) ((c.tc : Thread Cert.Kernel7Ideal.nD Cert.Kernel7Ideal.τ).loc Cert.Kernel7Ideal.main_v133)) (v21 : (c : Dev Cert.Kernel7Ideal.nD) → Buf (Elt Ideal) ((c.tc : Thread Cert.Kernel7Ideal.nD Cert.Kernel7Ideal.τ).loc Cert.Kernel7Ideal.main_v142)) (v22 : (c : Dev Cert.Kernel7Ideal.nD) → Buf (Elt Ideal) ((c.tc : Thread Cert.Kernel7Ideal.nD Cert.Kernel7Ideal.τ).loc Cert.Kernel7Ideal.main_v151)) (v23 : (c : Dev Cert.Kernel7Ideal.nD) → Buf (Elt Ideal) ((c.tc : Thread Cert.Kernel7Ideal.nD Cert.Kernel7Ideal.τ).loc Cert.Kernel7Ideal.main_v160)) (v24 : (c : Dev Cert.Kernel7Ideal.nD) → Buf (Elt Ideal) ((c.tc : Thread Cert.Kernel7Ideal.nD Cert.Kernel7Ideal.τ).loc Cert.Kernel7Ideal.main_v169)) (v25 : (c : Dev Cert.Kernel7Ideal.nD) → Buf (Elt Ideal) ((c.tc : Thread Cert.Kernel7Ideal.nD Cert.Kernel7Ideal.τ).loc Cert.Kernel7Ideal.main_v178)) (v26 : (c : Dev Cert.Kernel7Ideal.nD) → Buf (Elt Ideal) ((c.tc : Thread Cert.Kernel7Ideal.nD Cert.Kernel7Ideal.τ).loc Cert.Kernel7Ideal.main_v73)) (v27 : (c : Dev Cert.Kernel7Ideal.nD) → Buf (Elt Ideal) ((c.tc : Thread Cert.Kernel7Ideal.nD Cert.Kernel7Ideal.τ).loc Cert.Kernel7Ideal.main_v82)) (v28 : (c : Dev Cert.Kernel7Ideal.nD) → Buf (Elt Ideal) ((c.tc : Thread Cert.Kernel7Ideal.nD Cert.Kernel7Ideal.τ).loc Cert.Kernel7Ideal.main_v91)) (v29 : (c : Dev Cert.Kernel7Ideal.nD) → Buf (Elt Ideal) ((c.tc : Thread Cert.Kernel7Ideal.nD Cert.Kernel7Ideal.τ).loc Cert.Kernel7Ideal.main_v100)) (v30 : (c : Dev Cert.Kernel7Ideal.nD) → Buf (Elt Ideal) ((c.tc : Thread Cert.Kernel7Ideal.nD Cert.Kernel7Ideal.τ).loc Cert.Kernel7Ideal.main_v109)) (v31 : (c : Dev Cert.Kernel7Ideal.nD) → Buf (Elt Ideal) ((c.tc : Thread Cert.Kernel7Ideal.nD Cert.Kernel7Ideal.τ).loc Cert.Kernel7Ideal.main_v118)) (v32 : (c : Dev Cert.Kernel7Ideal.nD) → Buf (Elt Ideal) ((c.tc : Thread Cert.Kernel7Ideal.nD Cert.Kernel7Ideal.τ).loc Cert.Kernel7Ideal.main_v127)) (v33 : (c : Dev Cert.Kernel7Ideal.nD) → Buf (Elt Ideal) ((c.tc : Thread Cert.Kernel7Ideal.nD Cert.Kernel7Ideal.τ).loc Cert.Kernel7Ideal.main_v136)) (v34 : (c : Dev Cert.Kernel7Ideal.nD) → Buf (Elt Ideal) ((c.tc : Thread Cert.Kernel7Ideal.nD Cert.Kernel7Ideal.τ).loc Cert.Kernel7Ideal.main_v145)) (v35 : (c : Dev Cert.Kernel7Ideal.nD) → Buf (Elt Ideal) ((c.tc : Thread Cert.Kernel7Ideal.nD Cert.Kernel7Ideal.τ).loc Cert.Kernel7Ideal.main_v154)) (v36 : (c : Dev Cert.Kernel7Ideal.nD) → Buf (Elt Ideal) ((c.tc : Thread Cert.Kernel7Ideal.nD Cert.Kernel7Ideal.τ).loc Cert.Kernel7Ideal.main_v163)) (v37 : (c : Dev Cert.Kernel7Ideal.nD) → Buf (Elt Ideal) ((c.tc : Thread Cert.Kernel7Ideal.nD Cert.Kernel7Ideal.τ).loc Cert.Kernel7Ideal.main_v172)) (v38 : (c : Dev Cert.Kernel7Ideal.nD) → Buf (Elt Ideal) ((c.tc : Thread Cert.Kernel7Ideal.nD Cert.Kernel7Ideal.τ).loc Cert.Kernel7Ideal.main_v181)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v67) = v0 c
          ∧ r.2.mem ((c.tc : Thread Cert.Kernel7Ideal.nD Cert.Kernel7Ideal.τ).loc Cert.Kernel7Ideal.main_v76) = v1 c
          ∧ r.2.mem ((c.tc : Thread Cert.Kernel7Ideal.nD Cert.Kernel7Ideal.τ).loc Cert.Kernel7Ideal.main_v85) = v2 c
          ∧ r.2.mem ((c.tc : Thread Cert.Kernel7Ideal.nD Cert.Kernel7Ideal.τ).loc Cert.Kernel7Ideal.main_v94) = v3 c
          ∧ r.2.mem ((c.tc : Thread Cert.Kernel7Ideal.nD Cert.Kernel7Ideal.τ).loc Cert.Kernel7Ideal.main_v103) = v4 c
          ∧ r.2.mem ((c.tc : Thread Cert.Kernel7Ideal.nD Cert.Kernel7Ideal.τ).loc Cert.Kernel7Ideal.main_v112) = v5 c
          ∧ r.2.mem ((c.tc : Thread Cert.Kernel7Ideal.nD Cert.Kernel7Ideal.τ).loc Cert.Kernel7Ideal.main_v121) = v6 c
          ∧ r.2.mem ((c.tc : Thread Cert.Kernel7Ideal.nD Cert.Kernel7Ideal.τ).loc Cert.Kernel7Ideal.main_v130) = v7 c
          ∧ r.2.mem ((c.tc : Thread Cert.Kernel7Ideal.nD Cert.Kernel7Ideal.τ).loc Cert.Kernel7Ideal.main_v139) = v8 c
          ∧ r.2.mem ((c.tc : Thread Cert.Kernel7Ideal.nD Cert.Kernel7Ideal.τ).loc Cert.Kernel7Ideal.main_v148) = v9 c
          ∧ r.2.mem ((c.tc : Thread Cert.Kernel7Ideal.nD Cert.Kernel7Ideal.τ).loc Cert.Kernel7Ideal.main_v157) = v10 c
          ∧ r.2.mem ((c.tc : Thread Cert.Kernel7Ideal.nD Cert.Kernel7Ideal.τ).loc Cert.Kernel7Ideal.main_v166) = v11 c
          ∧ r.2.mem ((c.tc : Thread Cert.Kernel7Ideal.nD Cert.Kernel7Ideal.τ).loc Cert.Kernel7Ideal.main_v175) = v12 c
          ∧ r.2.mem ((c.tc : Thread Cert.Kernel7Ideal.nD Cert.Kernel7Ideal.τ).loc Cert.Kernel7Ideal.main_v70) = v13 c
          ∧ r.2.mem ((c.tc : Thread Cert.Kernel7Ideal.nD Cert.Kernel7Ideal.τ).loc Cert.Kernel7Ideal.main_v79) = v14 c
          ∧ r.2.mem ((c.tc : Thread Cert.Kernel7Ideal.nD Cert.Kernel7Ideal.τ).loc Cert.Kernel7Ideal.main_v88) = v15 c
          ∧ r.2.mem ((c.tc : Thread Cert.Kernel7Ideal.nD Cert.Kernel7Ideal.τ).loc Cert.Kernel7Ideal.main_v97) = v16 c
          ∧ r.2.mem ((c.tc : Thread Cert.Kernel7Ideal.nD Cert.Kernel7Ideal.τ).loc Cert.Kernel7Ideal.main_v106) = v17 c
          ∧ r.2.mem ((c.tc : Thread Cert.Kernel7Ideal.nD Cert.Kernel7Ideal.τ).loc Cert.Kernel7Ideal.main_v115) = v18 c
          ∧ r.2.mem ((c.tc : Thread Cert.Kernel7Ideal.nD Cert.Kernel7Ideal.τ).loc Cert.Kernel7Ideal.main_v124) = v19 c
          ∧ r.2.mem ((c.tc : Thread Cert.Kernel7Ideal.nD Cert.Kernel7Ideal.τ).loc Cert.Kernel7Ideal.main_v133) = v20 c
          ∧ r.2.mem ((c.tc : Thread Cert.Kernel7Ideal.nD Cert.Kernel7Ideal.τ).loc Cert.Kernel7Ideal.main_v142) = v21 c
          ∧ r.2.mem ((c.tc : Thread Cert.Kernel7Ideal.nD Cert.Kernel7Ideal.τ).loc Cert.Kernel7Ideal.main_v151) = v22 c
          ∧ r.2.mem ((c.tc : Thread Cert.Kernel7Ideal.nD Cert.Kernel7Ideal.τ).loc Cert.Kernel7Ideal.main_v160) = v23 c
          ∧ r.2.mem ((c.tc : Thread Cert.Kernel7Ideal.nD Cert.Kernel7Ideal.τ).loc Cert.Kernel7Ideal.main_v169) = v24 c
          ∧ r.2.mem ((c.tc : Thread Cert.Kernel7Ideal.nD Cert.Kernel7Ideal.τ).loc Cert.Kernel7Ideal.main_v178) = v25 c
          ∧ r.2.mem ((c.tc : Thread Cert.Kernel7Ideal.nD Cert.Kernel7Ideal.τ).loc Cert.Kernel7Ideal.main_v73) = v26 c
          ∧ r.2.mem ((c.tc : Thread Cert.Kernel7Ideal.nD Cert.Kernel7Ideal.τ).loc Cert.Kernel7Ideal.main_v82) = v27 c
          ∧ r.2.mem ((c.tc : Thread Cert.Kernel7Ideal.nD Cert.Kernel7Ideal.τ).loc Cert.Kernel7Ideal.main_v91) = v28 c
          ∧ r.2.mem ((c.tc : Thread Cert.Kernel7Ideal.nD Cert.Kernel7Ideal.τ).loc Cert.Kernel7Ideal.main_v100) = v29 c
          ∧ r.2.mem ((c.tc : Thread Cert.Kernel7Ideal.nD Cert.Kernel7Ideal.τ).loc Cert.Kernel7Ideal.main_v109) = v30 c
          ∧ r.2.mem ((c.tc : Thread Cert.Kernel7Ideal.nD Cert.Kernel7Ideal.τ).loc Cert.Kernel7Ideal.main_v118) = v31 c
          ∧ r.2.mem ((c.tc : Thread Cert.Kernel7Ideal.nD Cert.Kernel7Ideal.τ).loc Cert.Kernel7Ideal.main_v127) = v32 c
          ∧ r.2.mem ((c.tc : Thread Cert.Kernel7Ideal.nD Cert.Kernel7Ideal.τ).loc Cert.Kernel7Ideal.main_v136) = v33 c
          ∧ r.2.mem ((c.tc : Thread Cert.Kernel7Ideal.nD Cert.Kernel7Ideal.τ).loc Cert.Kernel7Ideal.main_v145) = v34 c
          ∧ r.2.mem ((c.tc : Thread Cert.Kernel7Ideal.nD Cert.Kernel7Ideal.τ).loc Cert.Kernel7Ideal.main_v154) = v35 c
          ∧ r.2.mem ((c.tc : Thread Cert.Kernel7Ideal.nD Cert.Kernel7Ideal.τ).loc Cert.Kernel7Ideal.main_v163) = v36 c
          ∧ r.2.mem ((c.tc : Thread Cert.Kernel7Ideal.nD Cert.Kernel7Ideal.τ).loc Cert.Kernel7Ideal.main_v172) = v37 c
          ∧ r.2.mem ((c.tc : Thread Cert.Kernel7Ideal.nD Cert.Kernel7Ideal.τ).loc Cert.Kernel7Ideal.main_v181) = v38 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
          ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
          ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
          ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
          ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
          ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
          ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
          ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
          ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
          ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
          ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
          ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
          ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
          ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29)
          ∧ r.2.mem ((c.tc : Thread Cert.Kernel7Ideal.nD Cert.Kernel7Ideal.τ).loc Cert.Kernel7Ideal.main_arg30) = m ((c.tc : Thread Cert.Kernel7Ideal.nD Cert.Kernel7Ideal.τ).loc Cert.Kernel7Ideal.main_arg30)
          ∧ r.2.mem ((c.tc : Thread Cert.Kernel7Ideal.nD Cert.Kernel7Ideal.τ).loc Cert.Kernel7Ideal.main_arg31) = m ((c.tc : Thread Cert.Kernel7Ideal.nD Cert.Kernel7Ideal.τ).loc Cert.Kernel7Ideal.main_arg31)
          ∧ r.2.mem ((c.tc : Thread Cert.Kernel7Ideal.nD Cert.Kernel7Ideal.τ).loc Cert.Kernel7Ideal.main_arg32) = m ((c.tc : Thread Cert.Kernel7Ideal.nD Cert.Kernel7Ideal.τ).loc Cert.Kernel7Ideal.main_arg32)
          ∧ r.2.mem ((c.tc : Thread Cert.Kernel7Ideal.nD Cert.Kernel7Ideal.τ).loc Cert.Kernel7Ideal.main_arg33) = m ((c.tc : Thread Cert.Kernel7Ideal.nD Cert.Kernel7Ideal.τ).loc Cert.Kernel7Ideal.main_arg33)
          ∧ r.2.mem ((c.tc : Thread Cert.Kernel7Ideal.nD Cert.Kernel7Ideal.τ).loc Cert.Kernel7Ideal.main_arg34) = m ((c.tc : Thread Cert.Kernel7Ideal.nD Cert.Kernel7Ideal.τ).loc Cert.Kernel7Ideal.main_arg34)
          ∧ r.2.mem ((c.tc : Thread Cert.Kernel7Ideal.nD Cert.Kernel7Ideal.τ).loc Cert.Kernel7Ideal.main_arg35) = m ((c.tc : Thread Cert.Kernel7Ideal.nD Cert.Kernel7Ideal.τ).loc Cert.Kernel7Ideal.main_arg35)
          ∧ r.2.mem ((c.tc : Thread Cert.Kernel7Ideal.nD Cert.Kernel7Ideal.τ).loc Cert.Kernel7Ideal.main_arg36) = m ((c.tc : Thread Cert.Kernel7Ideal.nD Cert.Kernel7Ideal.τ).loc Cert.Kernel7Ideal.main_arg36)
          ∧ r.2.mem ((c.tc : Thread Cert.Kernel7Ideal.nD Cert.Kernel7Ideal.τ).loc Cert.Kernel7Ideal.main_arg37) = m ((c.tc : Thread Cert.Kernel7Ideal.nD Cert.Kernel7Ideal.τ).loc Cert.Kernel7Ideal.main_arg37)
          ∧ r.2.mem ((c.tc : Thread Cert.Kernel7Ideal.nD Cert.Kernel7Ideal.τ).loc Cert.Kernel7Ideal.main_arg38) = m ((c.tc : Thread Cert.Kernel7Ideal.nD Cert.Kernel7Ideal.τ).loc Cert.Kernel7Ideal.main_arg38)
          ∧ r.2.mem ((c.tc : Thread Cert.Kernel7Ideal.nD Cert.Kernel7Ideal.τ).loc Cert.Kernel7Ideal.main_arg39) = m ((c.tc : Thread Cert.Kernel7Ideal.nD Cert.Kernel7Ideal.τ).loc Cert.Kernel7Ideal.main_arg39)
          ∧ r.2.mem ((c.tc : Thread Cert.Kernel7Ideal.nD Cert.Kernel7Ideal.τ).loc Cert.Kernel7Ideal.main_arg40) = m ((c.tc : Thread Cert.Kernel7Ideal.nD Cert.Kernel7Ideal.τ).loc Cert.Kernel7Ideal.main_arg40)
          ∧ r.2.mem ((c.tc : Thread Cert.Kernel7Ideal.nD Cert.Kernel7Ideal.τ).loc Cert.Kernel7Ideal.main_arg41) = m ((c.tc : Thread Cert.Kernel7Ideal.nD Cert.Kernel7Ideal.τ).loc Cert.Kernel7Ideal.main_arg41)
          ∧ r.2.mem ((c.tc : Thread Cert.Kernel7Ideal.nD Cert.Kernel7Ideal.τ).loc Cert.Kernel7Ideal.main_arg42) = m ((c.tc : Thread Cert.Kernel7Ideal.nD Cert.Kernel7Ideal.τ).loc Cert.Kernel7Ideal.main_arg42)
          ∧ r.2.mem ((c.tc : Thread Cert.Kernel7Ideal.nD Cert.Kernel7Ideal.τ).loc Cert.Kernel7Ideal.main_arg43) = m ((c.tc : Thread Cert.Kernel7Ideal.nD Cert.Kernel7Ideal.τ).loc Cert.Kernel7Ideal.main_arg43)
          ∧ r.2.mem ((c.tc : Thread Cert.Kernel7Ideal.nD Cert.Kernel7Ideal.τ).loc Cert.Kernel7Ideal.main_arg44) = m ((c.tc : Thread Cert.Kernel7Ideal.nD Cert.Kernel7Ideal.τ).loc Cert.Kernel7Ideal.main_arg44)
          ∧ r.2.mem ((c.tc : Thread Cert.Kernel7Ideal.nD Cert.Kernel7Ideal.τ).loc Cert.Kernel7Ideal.main_arg45) = m ((c.tc : Thread Cert.Kernel7Ideal.nD Cert.Kernel7Ideal.τ).loc Cert.Kernel7Ideal.main_arg45)
          ∧ r.2.mem ((c.tc : Thread Cert.Kernel7Ideal.nD Cert.Kernel7Ideal.τ).loc Cert.Kernel7Ideal.main_arg46) = m ((c.tc : Thread Cert.Kernel7Ideal.nD Cert.Kernel7Ideal.τ).loc Cert.Kernel7Ideal.main_arg46)
          ∧ r.2.mem ((c.tc : Thread Cert.Kernel7Ideal.nD Cert.Kernel7Ideal.τ).loc Cert.Kernel7Ideal.main_arg47) = m ((c.tc : Thread Cert.Kernel7Ideal.nD Cert.Kernel7Ideal.τ).loc Cert.Kernel7Ideal.main_arg47)
          ∧ r.2.mem ((c.tc : Thread Cert.Kernel7Ideal.nD Cert.Kernel7Ideal.τ).loc Cert.Kernel7Ideal.main_arg48) = m ((c.tc : Thread Cert.Kernel7Ideal.nD Cert.Kernel7Ideal.τ).loc Cert.Kernel7Ideal.main_arg48)
          ∧ r.2.mem ((c.tc : Thread Cert.Kernel7Ideal.nD Cert.Kernel7Ideal.τ).loc Cert.Kernel7Ideal.main_arg49) = m ((c.tc : Thread Cert.Kernel7Ideal.nD Cert.Kernel7Ideal.τ).loc Cert.Kernel7Ideal.main_arg49)
          ∧ r.2.mem ((c.tc : Thread Cert.Kernel7Ideal.nD Cert.Kernel7Ideal.τ).loc Cert.Kernel7Ideal.main_arg50) = m ((c.tc : Thread Cert.Kernel7Ideal.nD Cert.Kernel7Ideal.τ).loc Cert.Kernel7Ideal.main_arg50)
          ∧ r.2.mem ((c.tc : Thread Cert.Kernel7Ideal.nD Cert.Kernel7Ideal.τ).loc Cert.Kernel7Ideal.main_arg51) = m ((c.tc : Thread Cert.Kernel7Ideal.nD Cert.Kernel7Ideal.τ).loc Cert.Kernel7Ideal.main_arg51))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_v71) = v2 c
          ∧ r.2.mem ((c.tc : Thread Cert.Reference7Ideal.nD Cert.Reference7Ideal.τ).loc Cert.Reference7Ideal.main_v95) = v3 c
          ∧ r.2.mem ((c.tc : Thread Cert.Reference7Ideal.nD Cert.Reference7Ideal.τ).loc Cert.Reference7Ideal.main_v119) = v4 c
          ∧ r.2.mem ((c.tc : Thread Cert.Reference7Ideal.nD Cert.Reference7Ideal.τ).loc Cert.Reference7Ideal.main_v143) = v5 c
          ∧ r.2.mem ((c.tc : Thread Cert.Reference7Ideal.nD Cert.Reference7Ideal.τ).loc Cert.Reference7Ideal.main_v167) = v6 c
          ∧ r.2.mem ((c.tc : Thread Cert.Reference7Ideal.nD Cert.Reference7Ideal.τ).loc Cert.Reference7Ideal.main_v191) = v7 c
          ∧ r.2.mem ((c.tc : Thread Cert.Reference7Ideal.nD Cert.Reference7Ideal.τ).loc Cert.Reference7Ideal.main_v215) = v8 c
          ∧ r.2.mem ((c.tc : Thread Cert.Reference7Ideal.nD Cert.Reference7Ideal.τ).loc Cert.Reference7Ideal.main_v239) = v9 c
          ∧ r.2.mem ((c.tc : Thread Cert.Reference7Ideal.nD Cert.Reference7Ideal.τ).loc Cert.Reference7Ideal.main_v263) = v10 c
          ∧ r.2.mem ((c.tc : Thread Cert.Reference7Ideal.nD Cert.Reference7Ideal.τ).loc Cert.Reference7Ideal.main_v287) = v11 c
          ∧ r.2.mem ((c.tc : Thread Cert.Reference7Ideal.nD Cert.Reference7Ideal.τ).loc Cert.Reference7Ideal.main_v311) = v12 c
          ∧ r.2.mem ((c.tc : Thread Cert.Reference7Ideal.nD Cert.Reference7Ideal.τ).loc Cert.Reference7Ideal.main_v4) = v13 c
          ∧ r.2.mem ((c.tc : Thread Cert.Reference7Ideal.nD Cert.Reference7Ideal.τ).loc Cert.Reference7Ideal.main_v28) = v14 c
          ∧ r.2.mem ((c.tc : Thread Cert.Reference7Ideal.nD Cert.Reference7Ideal.τ).loc Cert.Reference7Ideal.main_v52) = v15 c
          ∧ r.2.mem ((c.tc : Thread Cert.Reference7Ideal.nD Cert.Reference7Ideal.τ).loc Cert.Reference7Ideal.main_v76) = v16 c
          ∧ r.2.mem ((c.tc : Thread Cert.Reference7Ideal.nD Cert.Reference7Ideal.τ).loc Cert.Reference7Ideal.main_v100) = v17 c
          ∧ r.2.mem ((c.tc : Thread Cert.Reference7Ideal.nD Cert.Reference7Ideal.τ).loc Cert.Reference7Ideal.main_v124) = v18 c
          ∧ r.2.mem ((c.tc : Thread Cert.Reference7Ideal.nD Cert.Reference7Ideal.τ).loc Cert.Reference7Ideal.main_v148) = v19 c
          ∧ r.2.mem ((c.tc : Thread Cert.Reference7Ideal.nD Cert.Reference7Ideal.τ).loc Cert.Reference7Ideal.main_v172) = v20 c
          ∧ r.2.mem ((c.tc : Thread Cert.Reference7Ideal.nD Cert.Reference7Ideal.τ).loc Cert.Reference7Ideal.main_v196) = v21 c
          ∧ r.2.mem ((c.tc : Thread Cert.Reference7Ideal.nD Cert.Reference7Ideal.τ).loc Cert.Reference7Ideal.main_v220) = v22 c
          ∧ r.2.mem ((c.tc : Thread Cert.Reference7Ideal.nD Cert.Reference7Ideal.τ).loc Cert.Reference7Ideal.main_v244) = v23 c
          ∧ r.2.mem ((c.tc : Thread Cert.Reference7Ideal.nD Cert.Reference7Ideal.τ).loc Cert.Reference7Ideal.main_v268) = v24 c
          ∧ r.2.mem ((c.tc : Thread Cert.Reference7Ideal.nD Cert.Reference7Ideal.τ).loc Cert.Reference7Ideal.main_v292) = v25 c
          ∧ r.2.mem ((c.tc : Thread Cert.Reference7Ideal.nD Cert.Reference7Ideal.τ).loc Cert.Reference7Ideal.main_v10) = v26 c
          ∧ r.2.mem ((c.tc : Thread Cert.Reference7Ideal.nD Cert.Reference7Ideal.τ).loc Cert.Reference7Ideal.main_v34) = v27 c
          ∧ r.2.mem ((c.tc : Thread Cert.Reference7Ideal.nD Cert.Reference7Ideal.τ).loc Cert.Reference7Ideal.main_v58) = v28 c
          ∧ r.2.mem ((c.tc : Thread Cert.Reference7Ideal.nD Cert.Reference7Ideal.τ).loc Cert.Reference7Ideal.main_v82) = v29 c
          ∧ r.2.mem ((c.tc : Thread Cert.Reference7Ideal.nD Cert.Reference7Ideal.τ).loc Cert.Reference7Ideal.main_v106) = v30 c
          ∧ r.2.mem ((c.tc : Thread Cert.Reference7Ideal.nD Cert.Reference7Ideal.τ).loc Cert.Reference7Ideal.main_v130) = v31 c
          ∧ r.2.mem ((c.tc : Thread Cert.Reference7Ideal.nD Cert.Reference7Ideal.τ).loc Cert.Reference7Ideal.main_v154) = v32 c
          ∧ r.2.mem ((c.tc : Thread Cert.Reference7Ideal.nD Cert.Reference7Ideal.τ).loc Cert.Reference7Ideal.main_v178) = v33 c
          ∧ r.2.mem ((c.tc : Thread Cert.Reference7Ideal.nD Cert.Reference7Ideal.τ).loc Cert.Reference7Ideal.main_v202) = v34 c
          ∧ r.2.mem ((c.tc : Thread Cert.Reference7Ideal.nD Cert.Reference7Ideal.τ).loc Cert.Reference7Ideal.main_v226) = v35 c
          ∧ r.2.mem ((c.tc : Thread Cert.Reference7Ideal.nD Cert.Reference7Ideal.τ).loc Cert.Reference7Ideal.main_v250) = v36 c
          ∧ r.2.mem ((c.tc : Thread Cert.Reference7Ideal.nD Cert.Reference7Ideal.τ).loc Cert.Reference7Ideal.main_v274) = v37 c
          ∧ r.2.mem ((c.tc : Thread Cert.Reference7Ideal.nD Cert.Reference7Ideal.τ).loc Cert.Reference7Ideal.main_v298) = v38 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16)
          ∧ r.2.mem ((c.tc : Thread Cert.Reference7Ideal.nD Cert.Reference7Ideal.τ).loc Cert.Reference7Ideal.main_arg17) = m' ((c.tc : Thread Cert.Reference7Ideal.nD Cert.Reference7Ideal.τ).loc Cert.Reference7Ideal.main_arg17)
          ∧ r.2.mem ((c.tc : Thread Cert.Reference7Ideal.nD Cert.Reference7Ideal.τ).loc Cert.Reference7Ideal.main_arg18) = m' ((c.tc : Thread Cert.Reference7Ideal.nD Cert.Reference7Ideal.τ).loc Cert.Reference7Ideal.main_arg18)
          ∧ r.2.mem ((c.tc : Thread Cert.Reference7Ideal.nD Cert.Reference7Ideal.τ).loc Cert.Reference7Ideal.main_arg19) = m' ((c.tc : Thread Cert.Reference7Ideal.nD Cert.Reference7Ideal.τ).loc Cert.Reference7Ideal.main_arg19)
          ∧ r.2.mem ((c.tc : Thread Cert.Reference7Ideal.nD Cert.Reference7Ideal.τ).loc Cert.Reference7Ideal.main_arg20) = m' ((c.tc : Thread Cert.Reference7Ideal.nD Cert.Reference7Ideal.τ).loc Cert.Reference7Ideal.main_arg20)
          ∧ r.2.mem ((c.tc : Thread Cert.Reference7Ideal.nD Cert.Reference7Ideal.τ).loc Cert.Reference7Ideal.main_arg21) = m' ((c.tc : Thread Cert.Reference7Ideal.nD Cert.Reference7Ideal.τ).loc Cert.Reference7Ideal.main_arg21)
          ∧ r.2.mem ((c.tc : Thread Cert.Reference7Ideal.nD Cert.Reference7Ideal.τ).loc Cert.Reference7Ideal.main_arg22) = m' ((c.tc : Thread Cert.Reference7Ideal.nD Cert.Reference7Ideal.τ).loc Cert.Reference7Ideal.main_arg22)
          ∧ r.2.mem ((c.tc : Thread Cert.Reference7Ideal.nD Cert.Reference7Ideal.τ).loc Cert.Reference7Ideal.main_arg23) = m' ((c.tc : Thread Cert.Reference7Ideal.nD Cert.Reference7Ideal.τ).loc Cert.Reference7Ideal.main_arg23)
          ∧ r.2.mem ((c.tc : Thread Cert.Reference7Ideal.nD Cert.Reference7Ideal.τ).loc Cert.Reference7Ideal.main_arg24) = m' ((c.tc : Thread Cert.Reference7Ideal.nD Cert.Reference7Ideal.τ).loc Cert.Reference7Ideal.main_arg24)
          ∧ r.2.mem ((c.tc : Thread Cert.Reference7Ideal.nD Cert.Reference7Ideal.τ).loc Cert.Reference7Ideal.main_arg25) = m' ((c.tc : Thread Cert.Reference7Ideal.nD Cert.Reference7Ideal.τ).loc Cert.Reference7Ideal.main_arg25)
          ∧ r.2.mem ((c.tc : Thread Cert.Reference7Ideal.nD Cert.Reference7Ideal.τ).loc Cert.Reference7Ideal.main_arg26) = m' ((c.tc : Thread Cert.Reference7Ideal.nD Cert.Reference7Ideal.τ).loc Cert.Reference7Ideal.main_arg26)
          ∧ r.2.mem ((c.tc : Thread Cert.Reference7Ideal.nD Cert.Reference7Ideal.τ).loc Cert.Reference7Ideal.main_arg27) = m' ((c.tc : Thread Cert.Reference7Ideal.nD Cert.Reference7Ideal.τ).loc Cert.Reference7Ideal.main_arg27)
          ∧ r.2.mem ((c.tc : Thread Cert.Reference7Ideal.nD Cert.Reference7Ideal.τ).loc Cert.Reference7Ideal.main_arg28) = m' ((c.tc : Thread Cert.Reference7Ideal.nD Cert.Reference7Ideal.τ).loc Cert.Reference7Ideal.main_arg28)
          ∧ r.2.mem ((c.tc : Thread Cert.Reference7Ideal.nD Cert.Reference7Ideal.τ).loc Cert.Reference7Ideal.main_arg29) = m' ((c.tc : Thread Cert.Reference7Ideal.nD Cert.Reference7Ideal.τ).loc Cert.Reference7Ideal.main_arg29)
          ∧ r.2.mem ((c.tc : Thread Cert.Reference7Ideal.nD Cert.Reference7Ideal.τ).loc Cert.Reference7Ideal.main_arg30) = m' ((c.tc : Thread Cert.Reference7Ideal.nD Cert.Reference7Ideal.τ).loc Cert.Reference7Ideal.main_arg30)
          ∧ r.2.mem ((c.tc : Thread Cert.Reference7Ideal.nD Cert.Reference7Ideal.τ).loc Cert.Reference7Ideal.main_arg31) = m' ((c.tc : Thread Cert.Reference7Ideal.nD Cert.Reference7Ideal.τ).loc Cert.Reference7Ideal.main_arg31)
          ∧ r.2.mem ((c.tc : Thread Cert.Reference7Ideal.nD Cert.Reference7Ideal.τ).loc Cert.Reference7Ideal.main_arg32) = m' ((c.tc : Thread Cert.Reference7Ideal.nD Cert.Reference7Ideal.τ).loc Cert.Reference7Ideal.main_arg32)
          ∧ r.2.mem ((c.tc : Thread Cert.Reference7Ideal.nD Cert.Reference7Ideal.τ).loc Cert.Reference7Ideal.main_arg33) = m' ((c.tc : Thread Cert.Reference7Ideal.nD Cert.Reference7Ideal.τ).loc Cert.Reference7Ideal.main_arg33)
          ∧ r.2.mem ((c.tc : Thread Cert.Reference7Ideal.nD Cert.Reference7Ideal.τ).loc Cert.Reference7Ideal.main_arg34) = m' ((c.tc : Thread Cert.Reference7Ideal.nD Cert.Reference7Ideal.τ).loc Cert.Reference7Ideal.main_arg34)
          ∧ r.2.mem ((c.tc : Thread Cert.Reference7Ideal.nD Cert.Reference7Ideal.τ).loc Cert.Reference7Ideal.main_arg35) = m' ((c.tc : Thread Cert.Reference7Ideal.nD Cert.Reference7Ideal.τ).loc Cert.Reference7Ideal.main_arg35)
          ∧ r.2.mem ((c.tc : Thread Cert.Reference7Ideal.nD Cert.Reference7Ideal.τ).loc Cert.Reference7Ideal.main_arg36) = m' ((c.tc : Thread Cert.Reference7Ideal.nD Cert.Reference7Ideal.τ).loc Cert.Reference7Ideal.main_arg36)
          ∧ r.2.mem ((c.tc : Thread Cert.Reference7Ideal.nD Cert.Reference7Ideal.τ).loc Cert.Reference7Ideal.main_arg37) = m' ((c.tc : Thread Cert.Reference7Ideal.nD Cert.Reference7Ideal.τ).loc Cert.Reference7Ideal.main_arg37)
          ∧ r.2.mem ((c.tc : Thread Cert.Reference7Ideal.nD Cert.Reference7Ideal.τ).loc Cert.Reference7Ideal.main_arg38) = m' ((c.tc : Thread Cert.Reference7Ideal.nD Cert.Reference7Ideal.τ).loc Cert.Reference7Ideal.main_arg38)
          ∧ r.2.mem ((c.tc : Thread Cert.Reference7Ideal.nD Cert.Reference7Ideal.τ).loc Cert.Reference7Ideal.main_arg39) = m' ((c.tc : Thread Cert.Reference7Ideal.nD Cert.Reference7Ideal.τ).loc Cert.Reference7Ideal.main_arg39)
          ∧ r.2.mem ((c.tc : Thread Cert.Reference7Ideal.nD Cert.Reference7Ideal.τ).loc Cert.Reference7Ideal.main_arg40) = m' ((c.tc : Thread Cert.Reference7Ideal.nD Cert.Reference7Ideal.τ).loc Cert.Reference7Ideal.main_arg40)
          ∧ r.2.mem ((c.tc : Thread Cert.Reference7Ideal.nD Cert.Reference7Ideal.τ).loc Cert.Reference7Ideal.main_arg41) = m' ((c.tc : Thread Cert.Reference7Ideal.nD Cert.Reference7Ideal.τ).loc Cert.Reference7Ideal.main_arg41)
          ∧ r.2.mem ((c.tc : Thread Cert.Reference7Ideal.nD Cert.Reference7Ideal.τ).loc Cert.Reference7Ideal.main_arg42) = m' ((c.tc : Thread Cert.Reference7Ideal.nD Cert.Reference7Ideal.τ).loc Cert.Reference7Ideal.main_arg42)
          ∧ r.2.mem ((c.tc : Thread Cert.Reference7Ideal.nD Cert.Reference7Ideal.τ).loc Cert.Reference7Ideal.main_arg43) = m' ((c.tc : Thread Cert.Reference7Ideal.nD Cert.Reference7Ideal.τ).loc Cert.Reference7Ideal.main_arg43)
          ∧ r.2.mem ((c.tc : Thread Cert.Reference7Ideal.nD Cert.Reference7Ideal.τ).loc Cert.Reference7Ideal.main_arg44) = m' ((c.tc : Thread Cert.Reference7Ideal.nD Cert.Reference7Ideal.τ).loc Cert.Reference7Ideal.main_arg44)
          ∧ r.2.mem ((c.tc : Thread Cert.Reference7Ideal.nD Cert.Reference7Ideal.τ).loc Cert.Reference7Ideal.main_arg45) = m' ((c.tc : Thread Cert.Reference7Ideal.nD Cert.Reference7Ideal.τ).loc Cert.Reference7Ideal.main_arg45)
          ∧ r.2.mem ((c.tc : Thread Cert.Reference7Ideal.nD Cert.Reference7Ideal.τ).loc Cert.Reference7Ideal.main_arg46) = m' ((c.tc : Thread Cert.Reference7Ideal.nD Cert.Reference7Ideal.τ).loc Cert.Reference7Ideal.main_arg46)
          ∧ r.2.mem ((c.tc : Thread Cert.Reference7Ideal.nD Cert.Reference7Ideal.τ).loc Cert.Reference7Ideal.main_arg47) = m' ((c.tc : Thread Cert.Reference7Ideal.nD Cert.Reference7Ideal.τ).loc Cert.Reference7Ideal.main_arg47)
          ∧ r.2.mem ((c.tc : Thread Cert.Reference7Ideal.nD Cert.Reference7Ideal.τ).loc Cert.Reference7Ideal.main_arg48) = m' ((c.tc : Thread Cert.Reference7Ideal.nD Cert.Reference7Ideal.τ).loc Cert.Reference7Ideal.main_arg48)
          ∧ r.2.mem ((c.tc : Thread Cert.Reference7Ideal.nD Cert.Reference7Ideal.τ).loc Cert.Reference7Ideal.main_arg49) = m' ((c.tc : Thread Cert.Reference7Ideal.nD Cert.Reference7Ideal.τ).loc Cert.Reference7Ideal.main_arg49)
          ∧ r.2.mem ((c.tc : Thread Cert.Reference7Ideal.nD Cert.Reference7Ideal.τ).loc Cert.Reference7Ideal.main_arg50) = m' ((c.tc : Thread Cert.Reference7Ideal.nD Cert.Reference7Ideal.τ).loc Cert.Reference7Ideal.main_arg50)
          ∧ r.2.mem ((c.tc : Thread Cert.Reference7Ideal.nD Cert.Reference7Ideal.τ).loc Cert.Reference7Ideal.main_arg51) = m' ((c.tc : Thread Cert.Reference7Ideal.nD Cert.Reference7Ideal.τ).loc Cert.Reference7Ideal.main_arg51))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4)) (v1 : (c : Dev Cert.Kernel8Ideal.nD) → Buf (Elt Ideal) ((c.tc : Thread Cert.Kernel8Ideal.nD Cert.Kernel8Ideal.τ).loc Cert.Kernel8Ideal.main_v5)) (v2 : (c : Dev Cert.Kernel8Ideal.nD) → Buf (Elt Ideal) ((c.tc : Thread Cert.Kernel8Ideal.nD Cert.Kernel8Ideal.τ).loc Cert.Kernel8Ideal.main_v6)) (v3 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_v5) = v1 c
          ∧ r.2.mem ((c.tc : Thread Cert.Kernel8Ideal.nD Cert.Kernel8Ideal.τ).loc Cert.Kernel8Ideal.main_v6) = v2 c
          ∧ r.2.mem ((c.tc : Thread Cert.Kernel8Ideal.nD Cert.Kernel8Ideal.τ).loc Cert.Kernel8Ideal.main_v7) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v4)) (v1 : (c : Dev Cert.Kernel9Ideal.nD) → Buf (Elt Ideal) ((c.tc : Thread Cert.Kernel9Ideal.nD Cert.Kernel9Ideal.τ).loc Cert.Kernel9Ideal.main_v5)) (v2 : (c : Dev Cert.Kernel9Ideal.nD) → Buf (Elt Ideal) ((c.tc : Thread Cert.Kernel9Ideal.nD Cert.Kernel9Ideal.τ).loc Cert.Kernel9Ideal.main_v6)) (v3 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_v5) = v1 c
          ∧ r.2.mem ((c.tc : Thread Cert.Kernel9Ideal.nD Cert.Kernel9Ideal.τ).loc Cert.Kernel9Ideal.main_v6) = v2 c
          ∧ r.2.mem ((c.tc : Thread Cert.Kernel9Ideal.nD Cert.Kernel9Ideal.τ).loc Cert.Kernel9Ideal.main_v7) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v4)) (v1 : (c : Dev Cert.Kernel10Ideal.nD) → Buf (Elt Ideal) ((c.tc : Thread Cert.Kernel10Ideal.nD Cert.Kernel10Ideal.τ).loc Cert.Kernel10Ideal.main_v5)) (v2 : (c : Dev Cert.Kernel10Ideal.nD) → Buf (Elt Ideal) ((c.tc : Thread Cert.Kernel10Ideal.nD Cert.Kernel10Ideal.τ).loc Cert.Kernel10Ideal.main_v6)) (v3 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_v5) = v1 c
          ∧ r.2.mem ((c.tc : Thread Cert.Kernel10Ideal.nD Cert.Kernel10Ideal.τ).loc Cert.Kernel10Ideal.main_v6) = v2 c
          ∧ r.2.mem ((c.tc : Thread Cert.Kernel10Ideal.nD Cert.Kernel10Ideal.τ).loc Cert.Kernel10Ideal.main_v7) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4)) (v1 : (c : Dev Cert.Kernel11Ideal.nD) → Buf (Elt Ideal) ((c.tc : Thread Cert.Kernel11Ideal.nD Cert.Kernel11Ideal.τ).loc Cert.Kernel11Ideal.main_v5)) (v2 : (c : Dev Cert.Kernel11Ideal.nD) → Buf (Elt Ideal) ((c.tc : Thread Cert.Kernel11Ideal.nD Cert.Kernel11Ideal.τ).loc Cert.Kernel11Ideal.main_v6)) (v3 : (c : Dev Cert.Kernel11Ideal.nD) → Buf (Elt Ideal) ((c.tc : Thread Cert.Kernel11Ideal.nD Cert.Kernel11Ideal.τ).loc Cert.Kernel11Ideal.main_v7)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_v5) = v1 c
          ∧ r.2.mem ((c.tc : Thread Cert.Kernel11Ideal.nD Cert.Kernel11Ideal.τ).loc Cert.Kernel11Ideal.main_v6) = v2 c
          ∧ r.2.mem ((c.tc : Thread Cert.Kernel11Ideal.nD Cert.Kernel11Ideal.τ).loc Cert.Kernel11Ideal.main_v7) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v4)) (v1 : (c : Dev Cert.Kernel12Ideal.nD) → Buf (Elt Ideal) ((c.tc : Thread Cert.Kernel12Ideal.nD Cert.Kernel12Ideal.τ).loc Cert.Kernel12Ideal.main_v5)) (v2 : (c : Dev Cert.Kernel12Ideal.nD) → Buf (Elt Ideal) ((c.tc : Thread Cert.Kernel12Ideal.nD Cert.Kernel12Ideal.τ).loc Cert.Kernel12Ideal.main_v6)) (v3 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_v5) = v1 c
          ∧ r.2.mem ((c.tc : Thread Cert.Kernel12Ideal.nD Cert.Kernel12Ideal.τ).loc Cert.Kernel12Ideal.main_v6) = v2 c
          ∧ r.2.mem ((c.tc : Thread Cert.Kernel12Ideal.nD Cert.Kernel12Ideal.τ).loc Cert.Kernel12Ideal.main_v7) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v4)) (v1 : (c : Dev Cert.Kernel13Ideal.nD) → Buf (Elt Ideal) ((c.tc : Thread Cert.Kernel13Ideal.nD Cert.Kernel13Ideal.τ).loc Cert.Kernel13Ideal.main_v5)) (v2 : (c : Dev Cert.Kernel13Ideal.nD) → Buf (Elt Ideal) ((c.tc : Thread Cert.Kernel13Ideal.nD Cert.Kernel13Ideal.τ).loc Cert.Kernel13Ideal.main_v6)) (v3 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_v5) = v1 c
          ∧ r.2.mem ((c.tc : Thread Cert.Kernel13Ideal.nD Cert.Kernel13Ideal.τ).loc Cert.Kernel13Ideal.main_v6) = v2 c
          ∧ r.2.mem ((c.tc : Thread Cert.Kernel13Ideal.nD Cert.Kernel13Ideal.τ).loc Cert.Kernel13Ideal.main_v7) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v4)) (v1 : (c : Dev Cert.Kernel14Ideal.nD) → Buf (Elt Ideal) ((c.tc : Thread Cert.Kernel14Ideal.nD Cert.Kernel14Ideal.τ).loc Cert.Kernel14Ideal.main_v5)) (v2 : (c : Dev Cert.Kernel14Ideal.nD) → Buf (Elt Ideal) ((c.tc : Thread Cert.Kernel14Ideal.nD Cert.Kernel14Ideal.τ).loc Cert.Kernel14Ideal.main_v6)) (v3 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_v5) = v1 c
          ∧ r.2.mem ((c.tc : Thread Cert.Kernel14Ideal.nD Cert.Kernel14Ideal.τ).loc Cert.Kernel14Ideal.main_v6) = v2 c
          ∧ r.2.mem ((c.tc : Thread Cert.Kernel14Ideal.nD Cert.Kernel14Ideal.τ).loc Cert.Kernel14Ideal.main_v7) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v4)) (v1 : (c : Dev Cert.Kernel15Ideal.nD) → Buf (Elt Ideal) ((c.tc : Thread Cert.Kernel15Ideal.nD Cert.Kernel15Ideal.τ).loc Cert.Kernel15Ideal.main_v5)) (v2 : (c : Dev Cert.Kernel15Ideal.nD) → Buf (Elt Ideal) ((c.tc : Thread Cert.Kernel15Ideal.nD Cert.Kernel15Ideal.τ).loc Cert.Kernel15Ideal.main_v6)) (v3 : (c : Dev Cert.Kernel15Ideal.nD) → Buf (Elt Ideal) ((c.tc : Thread Cert.Kernel15Ideal.nD Cert.Kernel15Ideal.τ).loc Cert.Kernel15Ideal.main_v7)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_v5) = v1 c
          ∧ r.2.mem ((c.tc : Thread Cert.Kernel15Ideal.nD Cert.Kernel15Ideal.τ).loc Cert.Kernel15Ideal.main_v6) = v2 c
          ∧ r.2.mem ((c.tc : Thread Cert.Kernel15Ideal.nD Cert.Kernel15Ideal.τ).loc Cert.Kernel15Ideal.main_v7) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite_qk : Cert.Pre_finite_qk.Facts) (hPre_finite_ffn : Cert.Pre_finite_ffn.Facts) (hPre_finite_qk3 : Cert.Pre_finite_qk3.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_qk3 (hKernel5Ideal := hKernel5Ideal) (hPre_finite_qk3 := hPre_finite_qk3)
    ∧ quiescent_Reference5Ideal (hReference5Ideal := hReference5Ideal)
    ∧ quiescent_Reference5Ideal_pre_finite_qk3 (hReference5Ideal := hReference5Ideal) (hPre_finite_qk3 := hPre_finite_qk3)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_qk3 (hKernel5Ideal := hKernel5Ideal) (hReference5Ideal := hReference5Ideal) (hPre_finite_qk3 := hPre_finite_qk3)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite_ffn.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1024 .f32) (main_arg2 : FVec F S1024x2816 .f32) (main_arg3 : FVec F S1024x2816 .f32) (main_arg4 : FVec F S2816x1024 .f32) (main_arg5 : FVec F S4096x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2816 .f32 := Host.absf main_arg3
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg4
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg5
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite_qk.lean ====
abbrev S1x4096x4x256 : Shape := ⟨4, ![1, 4096, 4, 256]⟩
abbrev S1x4096x4x128 : Shape := ⟨4, ![1, 4096, 4, 128]⟩
abbrev S1x4096x512 : Shape := ⟨3, ![1, 4096, 512]⟩
abbrev S_ : Shape := ⟨0, ![]⟩

class Facts : Prop where
  bcast_S_S1x4096x4x256 : S_.BroadcastsInDim S1x4096x4x256 (![] : Fin 0 → Fin S1x4096x4x256.rank)

variable [Facts]

def fn {F : FTy → Type} [FloatOps F] (main_arg0 : FVec F S1x4096x4x256 .f32) (main_arg1 : FVec F S1x4096x4x256 .f32) (main_arg2 : FVec F S1x4096x4x128 .f32) (main_arg3 : FVec F S1x4096x512 .f32) : IVec S1x4096x4x256 1 :=
  let main_v0 : FVec F S1x4096x4x256 .f32 := Host.absf main_arg0
  let main_cst : FVec F S_ .f32 := constant S_ .f32 0x7F800000#32
  let main_v1 : FVec F S1x4096x4x256 .f32 := broadcastInDim S1x4096x4x256 ![] bcast_S_S1x4096x4x256 main_cst
  let main_v2 : IVec S1x4096x4x256 1 := cmpf .olt main_v0 main_v1
  let main_v3 : FVec F S1x4096x4x256 .f32 := Host.absf main_arg1
  let main_cst_0 : FVec F S_ .f32 := constant S_ .f32 0x7F800000#32
  let main_v4 : FVec F S1x4096x4x256 .f32 := broadcastInDim S1x4096x4x256 ![] bcast_S_S1x4096x4x256 main_cst_0
  let main_v5 : IVec S1x4096x4x256 1 := cmpf .olt main_v3 main_v4
  let main_v6 : IVec S1x4096x4x256 1 := andi main_v2 main_v5
  main_v6
-- ==== Pre_finite_qk3.lean ====
abbrev S1x4096x4x256 : Shape := ⟨4, ![1, 4096, 4, 256]⟩
abbrev S1x4096x4x128 : Shape := ⟨4, ![1, 4096, 4, 128]⟩
abbrev S_ : Shape := ⟨0, ![]⟩

class Facts : Prop where
  bcast_S_S1x4096x4x256 : S_.BroadcastsInDim S1x4096x4x256 (![] : Fin 0 → Fin S1x4096x4x256.rank)

variable [Facts]

def fn {F : FTy → Type} [FloatOps F] (main_arg0 : FVec F S1x4096x4x256 .f32) (main_arg1 : FVec F S1x4096x4x256 .f32) (main_arg2 : FVec F S1x4096x4x128 .f32) : IVec S1x4096x4x256 1 :=
  let main_v0 : FVec F S1x4096x4x256 .f32 := Host.absf main_arg0
  let main_cst : FVec F S_ .f32 := constant S_ .f32 0x7F800000#32
  let main_v1 : FVec F S1x4096x4x256 .f32 := broadcastInDim S1x4096x4x256 ![] bcast_S_S1x4096x4x256 main_cst
  let main_v2 : IVec S1x4096x4x256 1 := cmpf .olt main_v0 main_v1
  let main_v3 : FVec F S1x4096x4x256 .f32 := Host.absf main_arg1
  let main_cst_0 : FVec F S_ .f32 := constant S_ .f32 0x7F800000#32
  let main_v4 : FVec F S1x4096x4x256 .f32 := broadcastInDim S1x4096x4x256 ![] bcast_S_S1x4096x4x256 main_cst_0
  let main_v5 : IVec S1x4096x4x256 1 := cmpf .olt main_v3 main_v4
  let main_v6 : IVec S1x4096x4x256 1 := andi main_v2 main_v5
  main_v6
-- ==== Kernel.lean ====
abbrev S1x4096x4x256 : Shape := ⟨4, ![1, 4096, 4, 256]⟩
abbrev S1x4096x4x128 : Shape := ⟨4, ![1, 4096, 4, 128]⟩
abbrev S1x4096x512 : Shape := ⟨3, ![1, 4096, 512]⟩
abbrev S_ : Shape := ⟨0, ![]⟩
abbrev S4096x1024 : Shape := ⟨2, ![4096, 1024]⟩
abbrev S4096x512 : Shape := ⟨2, ![4096, 512]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S256x256 : Shape := ⟨2, ![256, 256]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 22
  | .vmem => 14
  | .smem => 0
  | _ => 0

abbrev bufTy : (tb : Table) → Fin (tcTables nBuf tb) → BufTy
  | .hbm, ⟨0, _⟩ => ⟨S1x4096x4x256, .f32⟩
  | .hbm, ⟨1, _⟩ => ⟨S1x4096x4x256, .f32⟩
  | .hbm, ⟨2, _⟩ => ⟨S1x4096x4x128, .f32⟩
  | .hbm, ⟨3, _⟩ => ⟨S1x4096x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x4096x4x256, .f32⟩
  | .hbm, ⟨10, _⟩ => ⟨S1x4096x4x256, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .bf16⟩
  | .hbm, ⟨15, _⟩ => ⟨S4096x512, .f32⟩
  | .hbm, ⟨16, _⟩ => ⟨S4096x512, .bf16⟩
  | .hbm, ⟨17, _⟩ => ⟨S4096x512, .f32⟩
  | .hbm, ⟨18, _⟩ => ⟨S4096x512, .bf16⟩
  | .hbm, ⟨19, _⟩ => ⟨S4096x1024, .f32⟩
  | .hbm, ⟨20, _⟩ => ⟨S4096x1024, .f32⟩
  | .hbm, ⟨21, _⟩ => ⟨S4096x512, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S512x256, .f32⟩
  | .local _ .vmem, ⟨9, _⟩ => ⟨S512x256, .f32⟩
  | .local _ .vmem, ⟨10, _⟩ => ⟨S4096x256, .f32⟩
  | .local _ .vmem, ⟨11, _⟩ => ⟨S4096x256, .f32⟩
  | .local _ .vmem, ⟨12, _⟩ => ⟨S4096x128, .f32⟩
  | .local _ .vmem, ⟨13, _⟩ => ⟨S4096x128, .f32⟩
  | _, _ => ⟨S1x4096x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
abbrev S1x4096x4x256 : Shape := ⟨4, ![1, 4096, 4, 256]⟩
abbrev S1x4096x4x128 : Shape := ⟨4, ![1, 4096, 4, 128]⟩
abbrev S1x4096x512 : Shape := ⟨3, ![1, 4096, 512]⟩
abbrev S_ : Shape := ⟨0, ![]⟩
abbrev S4096x1024 : Shape := ⟨2, ![4096, 1024]⟩
abbrev S4096x512 : Shape := ⟨2, ![4096, 512]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S256x256 : Shape := ⟨2, ![256, 256]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 22
  | .vmem => 14
  | .smem => 0
  | _ => 0

abbrev bufTy : (tb : Table) → Fin (tcTables nBuf tb) → BufTy
  | .hbm, ⟨0, _⟩ => ⟨S1x4096x4x256, .f32⟩
  | .hbm, ⟨1, _⟩ => ⟨S1x4096x4x256, .f32⟩
  | .hbm, ⟨2, _⟩ => ⟨S1x4096x4x128, .f32⟩
  | .hbm, ⟨3, _⟩ => ⟨S1x4096x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x4096x4x256, .f32⟩
  | .hbm, ⟨10, _⟩ => ⟨S1x4096x4x256, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .bf16⟩
  | .hbm, ⟨15, _⟩ => ⟨S4096x512, .f32⟩
  | .hbm, ⟨16, _⟩ => ⟨S4096x512, .bf16⟩
  | .hbm, ⟨17, _⟩ => ⟨S4096x512, .f32⟩
  | .hbm, ⟨18, _⟩ => ⟨S4096x512, .bf16⟩
  | .hbm, ⟨19, _⟩ => ⟨S4096x1024, .f32⟩
  | .hbm, ⟨20, _⟩ => ⟨S4096x1024, .f32⟩
  | .hbm, ⟨21, _⟩ => ⟨S4096x512, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S512x256, .f32⟩
  | .local _ .vmem, ⟨9, _⟩ => ⟨S512x256, .f32⟩
  | .local _ .vmem, ⟨10, _⟩ => ⟨S4096x256, .f32⟩
  | .local _ .vmem, ⟨11, _⟩ => ⟨S4096x256, .f32⟩
  | .local _ .vmem, ⟨12, _⟩ => ⟨S4096x128, .f32⟩
  | .local _ .vmem, ⟨13, _⟩ => ⟨S4096x128, .f32⟩
  | _, _ => ⟨S1x4096x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "scale" => some (((Real.sqrt 192)⁻¹ : ℝ) : EReal)
  | _ => none

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S1x4096x4x256 : Shape := ⟨4, ![1, 4096, 4, 256]⟩
abbrev S1x4096x4x128 : Shape := ⟨4, ![1, 4096, 4, 128]⟩
abbrev S1x4096x512 : Shape := ⟨3, ![1, 4096, 512]⟩
abbrev S1x4x4096x4096 : Shape := ⟨4, ![1, 4, 4096, 4096]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S4x4096 : Shape := ⟨2, ![4, 4096]⟩
abbrev S1x4x4096x256 : Shape := ⟨4, ![1, 4, 4096, 256]⟩
abbrev S4096x1024 : Shape := ⟨2, ![4096, 1024]⟩
abbrev S4096x512 : Shape := ⟨2, ![4096, 512]⟩

abbrev nBuf : Space → Nat
  | .hbm => 86
  | .vmem => 0
  | .smem => 0
  | _ => 0

abbrev bufTy : (tb : Table) → Fin (tcTables nBuf tb) → BufTy
  | .hbm, ⟨0, _⟩ => ⟨S1x4096x4x256, .f32⟩
  | .hbm, ⟨1, _⟩ => ⟨S1x4096x4x256, .f32⟩
  | .hbm, ⟨2, _⟩ => ⟨S1x4096x4x128, .f32⟩
  | .hbm, ⟨3, _⟩ => ⟨S1x4096x512, .f32⟩
  | .hbm, ⟨4, _⟩ => ⟨S1x4x4096x4096, .f32⟩
  | .hbm, ⟨5, _⟩ => ⟨S_, .f32⟩
  | .hbm, ⟨6, _⟩ => ⟨S_, .f32⟩
  | .hbm, ⟨7, _⟩ => ⟨S1x4x4096x4096, .f32⟩
  | .hbm, ⟨8, _⟩ => ⟨S1x4x4096x4096, .f32⟩
  | .hbm, ⟨9, _⟩ => ⟨S_, .f32⟩
  | .hbm, ⟨10, _⟩ => ⟨S1x4x4096, .f32⟩
  | .hbm, ⟨11, _⟩ => ⟨S1x4x4096x1, .f32⟩
  | .hbm, ⟨12, _⟩ => ⟨S1x4x4096x4096, .f32⟩
  | .hbm, ⟨13, _⟩ => ⟨S1x4x4096x4096, .i1⟩
  | .hbm, ⟨14, _⟩ => ⟨S1x4x4096x4096, .f32⟩
  | .hbm, ⟨15, _⟩ => ⟨S_, .f32⟩
  | .hbm, ⟨16, _⟩ => ⟨S1x4x4096, .f32⟩
  | .hbm, ⟨17, _⟩ => ⟨S_, .f32⟩
  | .hbm, ⟨18, _⟩ => ⟨S1x4x4096, .f32⟩
  | .hbm, ⟨19, _⟩ => ⟨S1x4x4096, .f32⟩
  | .hbm, ⟨20, _⟩ => ⟨S_, .f32⟩
  | .hbm, ⟨21, _⟩ => ⟨S1x4x4096, .f32⟩
  | .hbm, ⟨22, _⟩ => ⟨S1x4x4096, .i1⟩
  | .hbm, ⟨23, _⟩ => ⟨S_, .f32⟩
  | .hbm, ⟨24, _⟩ => ⟨S1x4x4096, .f32⟩
  | .hbm, ⟨25, _⟩ => ⟨S1x4x4096, .i1⟩
  | .hbm, ⟨26, _⟩ => ⟨S_, .f32⟩
  | .hbm, ⟨27, _⟩ => ⟨S1x4x4096, .f32⟩
  | .hbm, ⟨28, _⟩ => ⟨S_, .f32⟩
  | .hbm, ⟨29, _⟩ => ⟨S1x4x4096, .f32⟩
  | .hbm, ⟨30, _⟩ => ⟨S_, .f32⟩
  | .hbm, ⟨31, _⟩ => ⟨S1x4x4096, .f32⟩
  | .hbm, ⟨32, _⟩ => ⟨S1x4x4096, .f32⟩
  | .hbm, ⟨33, _⟩ => ⟨S1x4x4096, .f32⟩
  | .hbm, ⟨34, _⟩ => ⟨S1x4x4096x1, .f32⟩
  | .hbm, ⟨35, _⟩ => ⟨S1x4x4096x4096, .f32⟩
  | .hbm, ⟨36, _⟩ => ⟨S1x4x4096x4096, .f32⟩
  | .hbm, ⟨37, _⟩ => ⟨S1x4x4096x4096, .f32⟩
  | .hbm, ⟨38, _⟩ => ⟨S_, .f32⟩
  | .hbm, ⟨39, _⟩ => ⟨S1x4x4096, .f32⟩
  | .hbm, ⟨40, _⟩ => ⟨S1x4x4096x1, .f32⟩
  | .hbm, ⟨41, _⟩ => ⟨S1x4x4096x4096, .f32⟩
  | .hbm, ⟨42, _⟩ => ⟨S1x4x4096x4096, .f32⟩
  | .hbm, ⟨43, _⟩ => ⟨S1x4x4096x1, .f32⟩
  | .hbm, ⟨44, _⟩ => ⟨S_, .f32⟩
  | .hbm, ⟨45, _⟩ => ⟨S1x4x4096x1, .f32⟩
  | .hbm, ⟨46, _⟩ => ⟨S1x4x4096x1, .f32⟩
  | .hbm, ⟨47, _⟩ => ⟨S1x4x128x4096, .f32⟩
  | .hbm, ⟨48, _⟩ => ⟨S1x4096x4x128, .f32⟩
  | .hbm, ⟨49, _⟩ => ⟨S1x4096x512, .f32⟩
  | .hbm, ⟨50, _⟩ => ⟨S1x4096x4x128, .f32⟩
  | .hbm, ⟨51, _⟩ => ⟨S1x4x128x4096, .f32⟩
  | .hbm, ⟨52, _⟩ => ⟨S1x4x4096x4096, .f32⟩
  | .hbm, ⟨53, _⟩ => ⟨S1x4x128x4096, .f32⟩
  | .hbm, ⟨54, _⟩ => ⟨S1x4096x4x128, .f32⟩
  | .hbm, ⟨55, _⟩ => ⟨S1x4x4096x4096, .f32⟩
  | .hbm, ⟨56, _⟩ => ⟨S1x4x4096x4096, .f32⟩
  | .hbm, ⟨57, _⟩ => ⟨S1x4x4096x4096, .f32⟩
  | .hbm, ⟨58, _⟩ => ⟨S_, .f32⟩
  | .hbm, ⟨59, _⟩ => ⟨S1x4x4096, .f32⟩
  | .hbm, ⟨60, _⟩ => ⟨S1x4x4096x1, .f32⟩
  | .hbm, ⟨61, _⟩ => ⟨S1x4x4096x1, .f32⟩
  | .hbm, ⟨62, _⟩ => ⟨S1x4x4096x4096, .f32⟩
  | .hbm, ⟨63, _⟩ => ⟨S1x4x4096x4096, .f32⟩
  | .hbm, ⟨64, _⟩ => ⟨S_, .f32⟩
  | .hbm, ⟨65, _⟩ => ⟨S4x4096, .f32⟩
  | .hbm, ⟨66, _⟩ => ⟨S1x4x4096, .f32⟩
  | .hbm, ⟨67, _⟩ => ⟨S1x4x4096x4096, .f32⟩
  | .hbm, ⟨68, _⟩ => ⟨S1x4x4096x4096, .f32⟩
  | .hbm, ⟨69, _⟩ => ⟨S1x4x4096x4096, .f32⟩
  | .hbm, ⟨70, _⟩ => ⟨S1x4x4096x4096, .f32⟩
  | .hbm, ⟨71, _⟩ => ⟨S1x4x4096x4096, .f32⟩
  | .hbm, ⟨72, _⟩ => ⟨S1x4x4096x256, .f32⟩
  | .hbm, ⟨73, _⟩ => ⟨S1x4096x4x256, .f32⟩
  | .hbm, ⟨74, _⟩ => ⟨S1x4x4096x256, .f32⟩
  | .hbm, ⟨75, _⟩ => ⟨S1x4096x4x256, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S1x4096x4x256, .f32⟩
  | .hbm, ⟨82, _⟩ => ⟨S1x4096x4x256, .f32⟩
  | .hbm, ⟨83, _⟩ => ⟨S4096x1024, .f32⟩
  | .hbm, ⟨84, _⟩ => ⟨S4096x1024, .f32⟩
  | .hbm, ⟨85, _⟩ => ⟨S4096x512, .f32⟩
  | _, _ => ⟨S1x4096x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S4x4096x704 : Shape := ⟨3, ![4, 4096, 704]⟩
abbrev S1024x1024 : Shape := ⟨2, ![1024, 1024]⟩
abbrev S1x1024x704 : Shape := ⟨3, ![1, 1024, 704]⟩
abbrev S256x1024 : Shape := ⟨2, ![256, 1024]⟩
abbrev S1024x704 : Shape := ⟨2, ![1024, 704]⟩
abbrev S256x704 : Shape := ⟨2, ![256, 704]⟩
abbrev S1x256x704 : Shape := ⟨3, ![1, 256, 704]⟩
abbrev S1x704x1024 : Shape := ⟨3, ![1, 704, 1024]⟩
abbrev S704x1024 : Shape := ⟨2, ![704, 1024]⟩
abbrev S_ : Shape := ⟨0, ![]⟩
abbrev S4x1x1024x704 : Shape := ⟨4, ![4, 1, 1024, 704]⟩
abbrev S4x1x704x1024 : Shape := ⟨4, ![4, 1, 704, 1024]⟩
abbrev S1x4096x704 : Shape := ⟨3, ![1, 4096, 704]⟩
abbrev S4096x512 : Shape := ⟨2, ![4096, 512]⟩
abbrev S1x1x704x512 : Shape := ⟨4, ![1, 1, 704, 512]⟩
abbrev S4096x704 : Shape := ⟨2, ![4096, 704]⟩
abbrev S704x512 : Shape := ⟨2, ![704, 512]⟩
abbrev S1x1x1024x704 : Shape := ⟨4, ![1, 1, 1024, 704]⟩
abbrev S1x512x704 : Shape := ⟨3, ![1, 512, 704]⟩
abbrev S512x704 : Shape := ⟨2, ![512, 704]⟩
abbrev S8x1024 : Shape := ⟨2, ![8, 1024]⟩

abbrev nBuf : Space → Nat
  | .hbm => 47
  | .vmem => 97
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1024x4x704, .f32⟩
  | .hbm, ⟨7, _⟩ => ⟨S4x1024x704, .f32⟩
  | .hbm, ⟨8, _⟩ => ⟨S4x1024x704, .bf16⟩
  | .hbm, ⟨9, _⟩ => ⟨S1024x4x704, .f32⟩
  | .hbm, ⟨10, _⟩ => ⟨S4x1024x704, .f32⟩
  | .hbm, ⟨11, _⟩ => ⟨S4x1024x704, .bf16⟩
  | .hbm, ⟨12, _⟩ => ⟨S4x704x1024, .f32⟩
  | .hbm, ⟨13, _⟩ => ⟨S4x704x1024, .bf16⟩
  | .hbm, ⟨14, _⟩ => ⟨S1x1024, .f32⟩
  | .hbm, ⟨15, _⟩ => ⟨S4096x1024, .bf16⟩
  | .hbm, ⟨16, _⟩ => ⟨S4x4096x704, .bf16⟩
  | .hbm, ⟨17, _⟩ => ⟨S4x4096x704, .bf16⟩
  | .hbm, ⟨18, _⟩ => ⟨S4x4096x704, .bf16⟩
  | .hbm, ⟨19, _⟩ => ⟨S4096x1024, .f32⟩
  | .hbm, ⟨20, _⟩ => ⟨S_, .bf16⟩
  | .hbm, ⟨21, _⟩ => ⟨S4x1x1024x704, .bf16⟩
  | .hbm, ⟨22, _⟩ => ⟨S_, .bf16⟩
  | .hbm, ⟨23, _⟩ => ⟨S4x1x1024x704, .bf16⟩
  | .hbm, ⟨24, _⟩ => ⟨S_, .bf16⟩
  | .hbm, ⟨25, _⟩ => ⟨S4x1x704x1024, .bf16⟩
  | .hbm, ⟨26, _⟩ => ⟨S1x1024, .f32⟩
  | .hbm, ⟨27, _⟩ => ⟨S4x4096x704, .bf16⟩
  | .hbm, ⟨28, _⟩ => ⟨S4x4096x704, .bf16⟩
  | .hbm, ⟨29, _⟩ => ⟨S4x1x704x1024, .bf16⟩
  | .hbm, ⟨30, _⟩ => ⟨S4x1x1024x704, .bf16⟩
  | .hbm, ⟨31, _⟩ => ⟨S4x1x1024x704, .bf16⟩
  | .hbm, ⟨32, _⟩ => ⟨S4096x1024, .f32⟩
  | .hbm, ⟨33, _⟩ => ⟨S4096x1024, .f32⟩
  | .hbm, ⟨34, _⟩ => ⟨S8x1024, .f32⟩
  | .hbm, ⟨35, _⟩ => ⟨S1x1024, .f32⟩
  | .hbm, ⟨36, _⟩ => ⟨S1024, .f32⟩
  | .hbm, ⟨37, _⟩ => ⟨S4x1024x704, .bf16⟩
  | .hbm, ⟨38, _⟩ => ⟨S1024x4x704, .bf16⟩
  | .hbm, ⟨39, _⟩ => ⟨S1024x2816, .bf16⟩
  | .hbm, ⟨40, _⟩ => ⟨S1024x2816, .f32⟩
  | .hbm, ⟨41, _⟩ => ⟨S4x1024x704, .bf16⟩
  | .hbm, ⟨42, _⟩ => ⟨S1024x4x704, .bf16⟩
  | .hbm, ⟨43, _⟩ => ⟨S1024x2816, .bf16⟩
  | .hbm, ⟨44, _⟩ => ⟨S1024x2816, .f32⟩
  | .hbm, ⟨45, _⟩ => ⟨S2816x1024, .bf16⟩
  | .hbm, ⟨46, _⟩ => ⟨S2816x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x704x1024, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x704x1024, .bf16⟩
  | .local _ .vmem, ⟨23, _⟩ => ⟨S1x1024x704, .bf16⟩
  | .local _ .vmem, ⟨24, _⟩ => ⟨S1x1024x704, .bf16⟩
  | .local _ .vmem, ⟨25, _⟩ => ⟨S1x704x1024, .bf16⟩
  | .local _ .vmem, ⟨26, _⟩ => ⟨S1x1024x704, .bf16⟩
  | .local _ .vmem, ⟨27, _⟩ => ⟨S1x1024x704, .bf16⟩
  | .local _ .vmem, ⟨28, _⟩ => ⟨S1x704x1024, .bf16⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | .local _ .vmem, ⟨34, _⟩ => ⟨S1024x1024, .f32⟩
  | .local _ .vmem, ⟨35, _⟩ => ⟨S1x704x1024, .bf16⟩
  | .local _ .vmem, ⟨36, _⟩ => ⟨S1x704x1024, .bf16⟩
  | .local _ .vmem, ⟨37, _⟩ => ⟨S1x1024x704, .bf16⟩
  | .local _ .vmem, ⟨38, _⟩ => ⟨S1x1024x704, .bf16⟩
  | .local _ .vmem, ⟨39, _⟩ => ⟨S1x1024x704, .bf16⟩
  | .local _ .vmem, ⟨40, _⟩ => ⟨S1x1024x704, .bf16⟩
  | .local _ .vmem, ⟨41, _⟩ => ⟨S1x1024x704, .bf16⟩
  | .local _ .vmem, ⟨42, _⟩ => ⟨S1x1024x704, .bf16⟩
  | .local _ .vmem, ⟨43, _⟩ => ⟨S1x1024x704, .bf16⟩
  | .local _ .vmem, ⟨44, _⟩ => ⟨S1x1024x704, .bf16⟩
  | .local _ .vmem, ⟨45, _⟩ => ⟨S1x4096x704, .bf16⟩
  | .local _ .vmem, ⟨46, _⟩ => ⟨S1x4096x704, .bf16⟩
  | .local _ .vmem, ⟨47, _⟩ => ⟨S4096x512, .f32⟩
  | .local _ .vmem, ⟨48, _⟩ => ⟨S4096x512, .f32⟩
  | .local _ .vmem, ⟨49, _⟩ => ⟨S1x1x704x512, .bf16⟩
  | .local _ .vmem, ⟨50, _⟩ => ⟨S1x1x704x512, .bf16⟩
  | .local _ .vmem, ⟨51, _⟩ => ⟨S4096x1024, .bf16⟩
  | .local _ .vmem, ⟨52, _⟩ => ⟨S1x4096x704, .bf16⟩
  | .local _ .vmem, ⟨53, _⟩ => ⟨S1x4096x704, .bf16⟩
  | .local _ .vmem, ⟨54, _⟩ => ⟨S1x1x1024x704, .bf16⟩
  | .local _ .vmem, ⟨55, _⟩ => ⟨S1x1x1024x704, .bf16⟩
  | .local _ .vmem, ⟨56, _⟩ => ⟨S4096x1024, .bf16⟩
  | .local _ .vmem, ⟨57, _⟩ => ⟨S1x4096x704, .bf16⟩
  | .local _ .vmem, ⟨58, _⟩ => ⟨S1x4096x704, .bf16⟩
  | .local _ .vmem, ⟨59, _⟩ => ⟨S1x1x1024x704, .bf16⟩
  | .local _ .vmem, ⟨60, _⟩ => ⟨S1x1x1024x704, .bf16⟩
  | .local _ .vmem, ⟨61, _⟩ => ⟨S1x512x704, .bf16⟩
  | .local _ .vmem, ⟨62, _⟩ => ⟨S1x512x704, .bf16⟩
  | .local _ .vmem, ⟨63, _⟩ => ⟨S1x1024x704, .bf16⟩
  | .local _ .vmem, ⟨64, _⟩ => ⟨S1x512x704, .bf16⟩
  | .local _ .vmem, ⟨65, _⟩ => ⟨S1x512x704, .bf16⟩
  | .local _ .vmem, ⟨66, _⟩ => ⟨S1x1024x704, .bf16⟩
  | .local _ .vmem, ⟨67, _⟩ => ⟨S1x512x704, .bf16⟩
  | .local _ .vmem, ⟨68, _⟩ => ⟨S1x512x704, .bf16⟩
  | .local _ .vmem, ⟨69, _⟩ => ⟨S1x1024x704, .bf16⟩
  | .local _ .vmem, ⟨70, _⟩ => ⟨S1x512x704, .bf16⟩
  | .local _ .vmem, ⟨71, _⟩ => ⟨S1x512x704, .bf16⟩
  | .local _ .vmem, ⟨72, _⟩ => ⟨S1x1024x704, .bf16⟩
  | .local _ .vmem, ⟨73, _⟩ => ⟨S1x512x704, .bf16⟩
  | .local _ .vmem, ⟨74, _⟩ => ⟨S1x512x704, .bf16⟩
  | .local _ .vmem, ⟨75, _⟩ => ⟨S1x1024x704, .bf16⟩
  | .local _ .vmem, ⟨76, _⟩ => ⟨S1x512x704, .bf16⟩
  | .local _ .vmem, ⟨77, _⟩ => ⟨S1x512x704, .bf16⟩
  | .local _ .vmem, ⟨78, _⟩ => ⟨S1x1024x704, .bf16⟩
  | .local _ .vmem, ⟨79, _⟩ => ⟨S1x512x704, .bf16⟩
  | .local _ .vmem, ⟨80, _⟩ => ⟨S1x512x704, .bf16⟩
  | .local _ .vmem, ⟨81, _⟩ => ⟨S1x1024x704, .bf16⟩
  | .local _ .vmem, ⟨82, _⟩ => ⟨S1x512x704, .bf16⟩
  | .local _ .vmem, ⟨83, _⟩ => ⟨S1x512x704, .bf16⟩
  | .local _ .vmem, ⟨84, _⟩ => ⟨S1x1024x704, .bf16⟩
  | .local _ .vmem, ⟨85, _⟩ => ⟨S512x1024, .f32⟩
  | .local _ .vmem, ⟨86, _⟩ => ⟨S512x1024, .f32⟩
  | .local _ .vmem, ⟨87, _⟩ => ⟨S512x1024, .f32⟩
  | .local _ .vmem, ⟨88, _⟩ => ⟨S512x1024, .f32⟩
  | .local _ .vmem, ⟨89, _⟩ => ⟨S1x1024, .f32⟩
  | .local _ .vmem, ⟨90, _⟩ => ⟨S512x1024, .f32⟩
  | .local _ .vmem, ⟨91, _⟩ => ⟨S512x1024, .f32⟩
  | .local _ .vmem, ⟨92, _⟩ => ⟨S512x1024, .f32⟩
  | .local _ .vmem, ⟨93, _⟩ => ⟨S512x1024, .f32⟩
  | .local _ .vmem, ⟨94, _⟩ => ⟨S512x1024, .f32⟩
  | .local _ .vmem, ⟨95, _⟩ => ⟨S512x1024, .f32⟩
  | .local _ .vmem, ⟨96, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | _, _ => false

abbrev semScoped : Fin 0 → Bool
  | ⟨_, h⟩ => absurd h (Nat.not_lt_zero _)

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTc nBuf bufTy 0 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg8_1 : Ref sig .tc := ⟨.vmem, 30, rfl⟩
abbrev cc2_stg9_0 : Ref sig .tc := ⟨.vmem, 31, rfl⟩
abbrev cc2_stg9_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc3_stg5_0 : Ref sig .tc := ⟨.vmem, 43, rfl⟩
abbrev cc3_stg5_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg2_1 : Ref sig .tc := ⟨.vmem, 50, rfl⟩
abbrev cc5_stg0_0 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc6_stg0_0 : Ref sig .tc := ⟨.vmem, 56, rfl⟩
abbrev cc6_stg1_0 : Ref sig .tc := ⟨.vmem, 57, rfl⟩
abbrev cc6_stg1_1 : Ref sig .tc := ⟨.vmem, 58, rfl⟩
abbrev cc6_stg2_0 : Ref sig .tc := ⟨.vmem, 59, rfl⟩
abbrev cc6_stg2_1 : Ref sig .tc := ⟨.vmem, 60, rfl⟩
abbrev cc7_stg0_0 : Ref sig .tc := ⟨.vmem, 61, rfl⟩
abbrev cc7_stg0_1 : Ref sig .tc := ⟨.vmem, 62, rfl⟩
abbrev cc7_stg1_0 : Ref sig .tc := ⟨.vmem, 63, rfl⟩
abbrev cc7_stg2_0 : Ref sig .tc := ⟨.vmem, 64, rfl⟩
abbrev cc7_stg2_1 : Ref sig .tc := ⟨.vmem, 65, rfl⟩
abbrev cc7_stg3_0 : Ref sig .tc := ⟨.vmem, 66, rfl⟩
abbrev cc7_stg4_0 : Ref sig .tc := ⟨.vmem, 67, rfl⟩
abbrev cc7_stg4_1 : Ref sig .tc := ⟨.vmem, 68, rfl⟩
abbrev cc7_stg5_0 : Ref sig .tc := ⟨.vmem, 69, rfl⟩
abbrev cc7_stg6_0 : Ref sig .tc := ⟨.vmem, 70, rfl⟩
abbrev cc7_stg6_1 : Ref sig .tc := ⟨.vmem, 71, rfl⟩
abbrev cc7_stg7_0 : Ref sig .tc := ⟨.vmem, 72, rfl⟩
abbrev cc7_stg8_0 : Ref sig .tc := ⟨.vmem, 73, rfl⟩
abbrev cc7_stg8_1 : Ref sig .tc := ⟨.vmem, 74, rfl⟩
abbrev cc7_stg9_0 : Ref sig .tc := ⟨.vmem, 75, rfl⟩
abbrev cc7_stg10_0 : Ref sig .tc := ⟨.vmem, 76, rfl⟩
abbrev cc7_stg10_1 : Ref sig .tc := ⟨.vmem, 77, rfl⟩
abbrev cc7_stg11_0 : Ref sig .tc := ⟨.vmem, 78, rfl⟩
abbrev cc7_stg12_0 : Ref sig .tc := ⟨.vmem, 79, rfl⟩
abbrev cc7_stg12_1 : Ref sig .tc := ⟨.vmem, 80, rfl⟩
abbrev cc7_stg13_0 : Ref sig .tc := ⟨.vmem, 81, rfl⟩
abbrev cc7_stg14_0 : Ref sig .tc := ⟨.vmem, 82, rfl⟩
abbrev cc7_stg14_1 : Ref sig .tc := ⟨.vmem, 83, rfl⟩
abbrev cc7_stg15_0 : Ref sig .tc := ⟨.vmem, 84, rfl⟩
abbrev cc7_stg16_0 : Ref sig .tc := ⟨.vmem, 85, rfl⟩
abbrev cc7_stg16_1 : Ref sig .tc := ⟨.vmem, 86, rfl⟩
abbrev cc8_stg0_0 : Ref sig .tc := ⟨.vmem, 87, rfl⟩
abbrev cc8_stg0_1 : Ref sig .tc := ⟨.vmem, 88, rfl⟩
abbrev cc8_stg1_0 : Ref sig .tc := ⟨.vmem, 89, rfl⟩
abbrev cc8_stg2_0 : Ref sig .tc := ⟨.vmem, 90, rfl⟩
abbrev cc8_stg2_1 : Ref sig .tc := ⟨.vmem, 91, rfl⟩
abbrev cc8_stg3_0 : Ref sig .tc := ⟨.vmem, 92, rfl⟩
abbrev cc8_stg3_1 : Ref sig .tc := ⟨.vmem, 93, rfl⟩
abbrev cc8_stg4_0 : Ref sig .tc := ⟨.vmem, 94, rfl⟩
abbrev cc8_stg4_1 : Ref sig .tc := ⟨.vmem, 95, rfl⟩
abbrev cc8_stg5_0 : Ref sig .tc := ⟨.vmem, 96, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem8_0 : DmaSem sig := 29
abbrev cc2_sem8_1 : DmaSem sig := 30
abbrev cc2_sem9_0 : DmaSem sig := 31
abbrev cc2_sem9_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem4_1 : DmaSem sig := 42
abbrev cc3_sem5_0 : DmaSem sig := 43
abbrev cc3_sem5_1 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc4_sem2_1 : DmaSem sig := 50
abbrev cc5_sem0_0 : DmaSem sig := 51
abbrev cc5_sem1_0 : DmaSem sig := 52
abbrev cc5_sem1_1 : DmaSem sig := 53
abbrev cc5_sem2_0 : DmaSem sig := 54
abbrev cc5_sem2_1 : DmaSem sig := 55
abbrev cc6_sem0_0 : DmaSem sig := 56
abbrev cc6_sem1_0 : DmaSem sig := 57
abbrev cc6_sem1_1 : DmaSem sig := 58
abbrev cc6_sem2_0 : DmaSem sig := 59
abbrev cc6_sem2_1 : DmaSem sig := 60
abbrev cc7_sem0_0 : DmaSem sig := 61
abbrev cc7_sem0_1 : DmaSem sig := 62
abbrev cc7_sem1_0 : DmaSem sig := 63
abbrev cc7_sem2_0 : DmaSem sig := 64
abbrev cc7_sem2_1 : DmaSem sig := 65
abbrev cc7_sem3_0 : DmaSem sig := 66
abbrev cc7_sem4_0 : DmaSem sig := 67
abbrev cc7_sem4_1 : DmaSem sig := 68
abbrev cc7_sem5_0 : DmaSem sig := 69
abbrev cc7_sem6_0 : DmaSem sig := 70
abbrev cc7_sem6_1 : DmaSem sig := 71
abbrev cc7_sem7_0 : DmaSem sig := 72
abbrev cc7_sem8_0 : DmaSem sig := 73
abbrev cc7_sem8_1 : DmaSem sig := 74
abbrev cc7_sem9_0 : DmaSem sig := 75
abbrev cc7_sem10_0 : DmaSem sig := 76
abbrev cc7_sem10_1 : DmaSem sig := 77
abbrev cc7_sem11_0 : DmaSem sig := 78
abbrev cc7_sem12_0 : DmaSem sig := 79
abbrev cc7_sem12_1 : DmaSem sig := 80
abbrev cc7_sem13_0 : DmaSem sig := 81
abbrev cc7_sem14_0 : DmaSem sig := 82
abbrev cc7_sem14_1 : DmaSem sig := 83
abbrev cc7_sem15_0 : DmaSem sig := 84
abbrev cc7_sem16_0 : DmaSem sig := 85
abbrev cc7_sem16_1 : DmaSem sig := 86
abbrev cc8_sem0_0 : DmaSem sig := 87
abbrev cc8_sem0_1 : DmaSem sig := 88
abbrev cc8_sem1_0 : DmaSem sig := 89
abbrev cc8_sem2_0 : DmaSem sig := 90
abbrev cc8_sem2_1 : DmaSem sig := 91
abbrev cc8_sem3_0 : DmaSem sig := 92
abbrev cc8_sem3_1 : DmaSem sig := 93
abbrev cc8_sem4_0 : DmaSem sig := 94
abbrev cc8_sem4_1 : DmaSem sig := 95
abbrev cc8_sem5_0 : DmaSem sig := 96

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x704 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨3, ![1, 4, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  let c0_i32_2 : BitVec 32 := 0#32
  ![c0_i32_0.toNat, c0_i32_1.toNat, v0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c1_i32 : BitVec 32 := 1#32
  let c0_i32_0 : BitVec 32 := 0#32
  let c0_i32_1 : BitVec 32 := 0#32
  ![c1_i32.toNat, c0_i32_0.toNat, v0.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c2_i32 : BitVec 32 := 2#32
  let c0_i32_0 : BitVec 32 := 0#32
  let c0_i32_1 : BitVec 32 := 0#32
  ![c2_i32.toNat, c0_i32_0.toNat, v0.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c3_i32 : BitVec 32 := 3#32
  let c0_i32_0 : BitVec 32 := 0#32
  let c0_i32_1 : BitVec 32 := 0#32
  ![c3_i32.toNat, c0_i32_0.toNat, v0.toNat]

def cc2_transform_8 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_9 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage2_0 : Fin 2 → Memref sig .tc .vmem S1x1024x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false]

abbrev stage2_1 : Fin 1 → Memref sig .tc .vmem S1x704x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, true]

abbrev stage2_2 : Fin 2 → Memref sig .tc .vmem S1x1024x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 1 → Memref sig .tc .vmem S1x704x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, true]

abbrev stage2_4 : Fin 2 → Memref sig .tc .vmem S1x1024x704 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, false]

abbrev stage2_5 : Fin 1 → Memref sig .tc .vmem S1x704x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false, true]

abbrev stage2_6 : Fin 2 → Memref sig .tc .vmem S1x1024x704 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true, false]

abbrev stage2_7 : Fin 1 → Memref sig .tc .vmem S1x704x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false, true]

abbrev stage2_8 : Fin 2 → Memref sig .tc .vmem S1024x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![false, true, true]

abbrev stage2_9 : Fin 2 → Memref sig .tc .vmem S1024x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![false, true, true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x704x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1024x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1024x704 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x1024x704 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x1024x704 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨3, ![4, 1, 2], ![false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc4_transform_3 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg0.toNat, c0_i32_0.toNat, arg1.toNat, v0.toNat]

abbrev stage4_0 : Fin 2 → Memref sig .tc .vmem S1x4096x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, false]

abbrev stage4_1 : Fin 2 → Memref sig .tc .vmem S4096x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, false, true]

abbrev stage4_2 : Fin 2 → Memref sig .tc .vmem S1x1x704x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg0.toNat, c0_i32_0.toNat, v0.toNat]

def cc5_transform_3 (i : grid5.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg0.toNat, c0_i32_0.toNat, arg1.toNat, v0.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, true, false]

abbrev stage5_1 : Fin 2 → Memref sig .tc .vmem S1x4096x704 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S1x1x1024x704 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, true]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg0.toNat, c0_i32_0.toNat, v0.toNat]

def cc6_transform_3 (i : grid6.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg0.toNat, c0_i32_0.toNat, arg1.toNat, v0.toNat]

abbrev stage6_0 : Fin 1 → Memref sig .tc .vmem S4096x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, true, false]

abbrev stage6_1 : Fin 2 → Memref sig .tc .vmem S1x4096x704 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false, true]

abbrev stage6_2 : Fin 2 → Memref sig .tc .vmem S1x1x1024x704 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, true]

abbrev grid7 : Pipeline.Grid := ⟨3, ![1, 8, 1], ![false, false, false]⟩

def cc7_transform_0 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat]

def cc7_transform_3 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc7_transform_4 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg1.toNat, c0_i32.toNat]

def cc7_transform_5 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg2.toNat, c0_i32.toNat]

def cc7_transform_6 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg1.toNat, c0_i32.toNat]

def cc7_transform_7 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg2.toNat, c0_i32.toNat]

def cc7_transform_8 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc7_transform_9 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc7_transform_10 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat]

def cc7_transform_11 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc7_transform_12 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg1.toNat, c0_i32.toNat]

def cc7_transform_13 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg2.toNat, c0_i32.toNat]

def cc7_transform_14 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg1.toNat, c0_i32.toNat]

def cc7_transform_15 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg2.toNat, c0_i32.toNat]

def cc7_transform_16 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage7_0 : Fin 2 → Memref sig .tc .vmem S1x512x704 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true, false]

abbrev stage7_1 : Fin 1 → Memref sig .tc .vmem S1x1024x704 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false, true]

abbrev stage7_2 : Fin 2 → Memref sig .tc .vmem S1x512x704 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true, false]

abbrev stage7_3 : Fin 1 → Memref sig .tc .vmem S1x1024x704 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false, true]

abbrev stage7_4 : Fin 2 → Memref sig .tc .vmem S1x512x704 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![false, true, false]

abbrev stage7_5 : Fin 1 → Memref sig .tc .vmem S1x1024x704 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false, false, true]

abbrev stage7_6 : Fin 2 → Memref sig .tc .vmem S1x512x704 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![false, true, false]

abbrev stage7_7 : Fin 1 → Memref sig .tc .vmem S1x1024x704 .bf16 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false, false, true]

abbrev stage7_8 : Fin 2 → Memref sig .tc .vmem S1x512x704 .bf16 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![false, true, false]

abbrev stage7_9 : Fin 1 → Memref sig .tc .vmem S1x1024x704 .bf16 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false, false, true]

abbrev stage7_10 : Fin 2 → Memref sig .tc .vmem S1x512x704 .bf16 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![false, true, false]

abbrev stage7_11 : Fin 1 → Memref sig .tc .vmem S1x1024x704 .bf16 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false, false, true]

abbrev stage7_12 : Fin 2 → Memref sig .tc .vmem S1x512x704 .bf16 := fun | 0 => Memref.whole cc7_stg12_0 | 1 => Memref.whole cc7_stg12_1 | ⟨_ + 2, h⟩ => absurd h (Nat.not_lt.2 (Nat.le_add_left _ _))
abbrev sem7_12 : Fin 2 → DmaSem sig := fun | 0 => cc7_sem12_0 | 1 => cc7_sem12_1 | ⟨_ + 2, h⟩ => absurd h (Nat.not_lt.2 (Nat.le_add_left _ _))
abbrev reads7_12 : Fin grid7.rank → Bool := ![false, true, false]

abbrev stage7_13 : Fin 1 → Memref sig .tc .vmem S1x1024x704 .bf16 := fun | 0 => Memref.whole cc7_stg13_0 | ⟨_ + 1, h⟩ => absurd h (Nat.not_lt.2 (Nat.le_add_left _ _))
abbrev sem7_13 : Fin 1 → DmaSem sig := fun | 0 => cc7_sem13_0 | ⟨_ + 1, h⟩ => absurd h (Nat.not_lt.2 (Nat.le_add_left _ _))
abbrev reads7_13 : Fin grid7.rank → Bool := ![false, false, true]

abbrev stage7_14 : Fin 2 → Memref sig .tc .vmem S1x512x704 .bf16 := fun | 0 => Memref.whole cc7_stg14_0 | 1 => Memref.whole cc7_stg14_1 | ⟨_ + 2, h⟩ => absurd h (Nat.not_lt.2 (Nat.le_add_left _ _))
abbrev sem7_14 : Fin 2 → DmaSem sig := fun | 0 => cc7_sem14_0 | 1 => cc7_sem14_1 | ⟨_ + 2, h⟩ => absurd h (Nat.not_lt.2 (Nat.le_add_left _ _))
abbrev reads7_14 : Fin grid7.rank → Bool := ![false, true, false]

abbrev stage7_15 : Fin 1 → Memref sig .tc .vmem S1x1024x704 .bf16 := fun | 0 => Memref.whole cc7_stg15_0 | ⟨_ + 1, h⟩ => absurd h (Nat.not_lt.2 (Nat.le_add_left _ _))
abbrev sem7_15 : Fin 1 → DmaSem sig := fun | 0 => cc7_sem15_0 | ⟨_ + 1, h⟩ => absurd h (Nat.not_lt.2 (Nat.le_add_left _ _))
abbrev reads7_15 : Fin grid7.rank → Bool := ![false, false, true]

abbrev stage7_16 : Fin 2 → Memref sig .tc .vmem S512x1024 .f32 := fun | 0 => Memref.whole cc7_stg16_0 | 1 => Memref.whole cc7_stg16_1 | ⟨_ + 2, h⟩ => absurd h (Nat.not_lt.2 (Nat.le_add_left _ _))
abbrev sem7_16 : Fin 2 → DmaSem sig := fun | 0 => cc7_sem16_0 | 1 => cc7_sem16_1 | ⟨_ + 2, h⟩ => absurd h (Nat.not_lt.2 (Nat.le_add_left _ _))
abbrev reads7_16 : Fin grid7.rank → Bool := ![false, true, true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S512x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S512x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S512x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S512x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S8x1024 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]
-- ==== Reference2Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S1024x2816, .f32⟩
  | .hbm, ⟨52, _⟩ => ⟨S2816x1024, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S2816x1024, .f32⟩
  | .hbm, ⟨57, _⟩ => ⟨S1024x2816, .f32⟩
  | .hbm, ⟨58, _⟩ => ⟨S4096x1024, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S2816x1024, .f32⟩
  | .hbm, ⟨64, _⟩ => ⟨S1024x2816, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S4096x1024, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩

abbrev nD : Nat := 1
abbrev τ : Topo := Topo.v7x

variable {F : FTy → Type} [FloatOps F]
-- ==== Kernel3.lean ====
abbrev S4096x1024 : Shape := ⟨2, ![4096, 1024]⟩
abbrev S4096x3072 : Shape := ⟨2, ![4096, 3072]⟩
abbrev S4096x512 : Shape := ⟨2, ![4096, 512]⟩
abbrev S512x1024 : Shape := ⟨2, ![512, 1024]⟩
abbrev S1024x1024 : Shape := ⟨2, ![1024, 1024]⟩
abbrev S_ : Shape := ⟨0, ![]⟩
abbrev S4096x6144 : Shape := ⟨2, ![4096, 6144]⟩
abbrev S4096x9216 : Shape := ⟨2, ![4096, 9216]⟩
abbrev S512x512 : Shape := ⟨2, ![512, 512]⟩
abbrev S512x3072 : Shape := ⟨2, ![512, 3072]⟩
abbrev S4096x256 : Shape := ⟨2, ![4096, 256]⟩
abbrev S1024x256 : Shape := ⟨2, ![1024, 256]⟩

abbrev nBuf : Space → Nat
  | .hbm => 40
  | .vmem => 85
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S4096x1024, .f32⟩
  | .hbm, ⟨10, _⟩ => ⟨S_, .f32⟩
  | .hbm, ⟨11, _⟩ => ⟨S4096x6144, .f32⟩
  | .hbm, ⟨12, _⟩ => ⟨S4096x9216, .f32⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S512x1024, .bf16⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S4096x1024, .bf16⟩
  | .hbm, ⟨21, _⟩ => ⟨S4096x1024, .bf16⟩
  | .hbm, ⟨22, _⟩ => ⟨S4096x1024, .bf16⟩
  | .hbm, ⟨23, _⟩ => ⟨S4096x1024, .bf16⟩
  | .hbm, ⟨24, _⟩ => ⟨S4096x1024, .f32⟩
  | .hbm, ⟨25, _⟩ => ⟨S4096x1024, .f32⟩
  | .hbm, ⟨26, _⟩ => ⟨S1024x1024, .f32⟩
  | .hbm, ⟨27, _⟩ => ⟨S4096x1024, .bf16⟩
  | .hbm, ⟨28, _⟩ => ⟨S4096x1024, .bf16⟩
  | .hbm, ⟨29, _⟩ => ⟨S4096x1024, .bf16⟩
  | .hbm, ⟨30, _⟩ => ⟨S4096x3072, .bf16⟩
  | .hbm, ⟨31, _⟩ => ⟨S4096x512, .bf16⟩
  | .hbm, ⟨32, _⟩ => ⟨S512x1024, .f32⟩
  | .hbm, ⟨33, _⟩ => ⟨S4096x512, .f32⟩
  | .hbm, ⟨34, _⟩ => ⟨S512x1024, .f32⟩
  | .hbm, ⟨35, _⟩ => ⟨S4096x512, .bf16⟩
  | .hbm, ⟨36, _⟩ => ⟨S512x1024, .f32⟩
  | .hbm, ⟨37, _⟩ => ⟨S4096x3072, .f32⟩
  | .hbm, ⟨38, _⟩ => ⟨S4096x512, .f32⟩
  | .hbm, ⟨39, _⟩ => ⟨S4096x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x3072, .f32⟩
  | .local _ .vmem, ⟨10, _⟩ => ⟨S512x3072, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | .local _ .vmem, ⟨30, _⟩ => ⟨S512x512, .f32⟩
  | .local _ .vmem, ⟨31, _⟩ => ⟨S512x512, .f32⟩
  | .local _ .vmem, ⟨32, _⟩ => ⟨S4096x1024, .bf16⟩
  | .local _ .vmem, ⟨33, _⟩ => ⟨S4096x256, .f32⟩
  | .local _ .vmem, ⟨34, _⟩ => ⟨S4096x256, .f32⟩
  | .local _ .vmem, ⟨35, _⟩ => ⟨S1024x256, .f32⟩
  | .local _ .vmem, ⟨36, _⟩ => ⟨S1024x256, .f32⟩
  | .local _ .vmem, ⟨37, _⟩ => ⟨S512x1024, .f32⟩
  | .local _ .vmem, ⟨38, _⟩ => ⟨S512x1024, .f32⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S512x1024, .bf16⟩
  | .local _ .vmem, ⟨43, _⟩ => ⟨S512x1024, .bf16⟩
  | .local _ .vmem, ⟨44, _⟩ => ⟨S512x1024, .bf16⟩
  | .local _ .vmem, ⟨45, _⟩ => ⟨S512x3072, .f32⟩
  | .local _ .vmem, ⟨46, _⟩ => ⟨S512x3072, .f32⟩
  | .local _ .vmem, ⟨47, _⟩ => ⟨S512x1024, .bf16⟩
  | .local _ .vmem, ⟨48, _⟩ => ⟨S512x1024, .bf16⟩
  | .local _ .vmem, ⟨49, _⟩ => ⟨S512x1024, .bf16⟩
  | .local _ .vmem, ⟨50, _⟩ => ⟨S512x1024, .bf16⟩
  | .local _ .vmem, ⟨51, _⟩ => ⟨S512x1024, .bf16⟩
  | .local _ .vmem, ⟨52, _⟩ => ⟨S512x1024, .bf16⟩
  | .local _ .vmem, ⟨53, _⟩ => ⟨S512x3072, .bf16⟩
  | .local _ .vmem, ⟨54, _⟩ => ⟨S512x3072, .bf16⟩
  | .local _ .vmem, ⟨55, _⟩ => ⟨S512x1024, .bf16⟩
  | .local _ .vmem, ⟨56, _⟩ => ⟨S512x1024, .bf16⟩
  | .local _ .vmem, ⟨57, _⟩ => ⟨S512x1024, .bf16⟩
  | .local _ .vmem, ⟨58, _⟩ => ⟨S512x512, .bf16⟩
  | .local _ .vmem, ⟨59, _⟩ => ⟨S512x512, .bf16⟩
  | .local _ .vmem, ⟨60, _⟩ => ⟨S4096x512, .bf16⟩
  | .local _ .vmem, ⟨61, _⟩ => ⟨S4096x512, .bf16⟩
  | .local _ .vmem, ⟨62, _⟩ => ⟨S4096x512, .bf16⟩
  | .local _ .vmem, ⟨63, _⟩ => ⟨S512x512, .f32⟩
  | .local _ .vmem, ⟨64, _⟩ => ⟨S512x512, .f32⟩
  | .local _ .vmem, ⟨65, _⟩ => ⟨S512x1024, .bf16⟩
  | .local _ .vmem, ⟨66, _⟩ => ⟨S512x1024, .bf16⟩
  | .local _ .vmem, ⟨67, _⟩ => ⟨S512x1024, .bf16⟩
  | .local _ .vmem, ⟨68, _⟩ => ⟨S512x512, .f32⟩
  | .local _ .vmem, ⟨69, _⟩ => ⟨S512x512, .f32⟩
  | .local _ .vmem, ⟨70, _⟩ => ⟨S4096x512, .bf16⟩
  | .local _ .vmem, ⟨71, _⟩ => ⟨S4096x512, .bf16⟩
  | .local _ .vmem, ⟨72, _⟩ => ⟨S4096x512, .bf16⟩
  | .local _ .vmem, ⟨73, _⟩ => ⟨S512x512, .f32⟩
  | .local _ .vmem, ⟨74, _⟩ => ⟨S512x512, .f32⟩
  | .local _ .vmem, ⟨75, _⟩ => ⟨S512x1024, .bf16⟩
  | .local _ .vmem, ⟨76, _⟩ => ⟨S512x1024, .bf16⟩
  | .local _ .vmem, ⟨77, _⟩ => ⟨S512x1024, .bf16⟩
  | .local _ .vmem, ⟨78, _⟩ => ⟨S512x512, .bf16⟩
  | .local _ .vmem, ⟨79, _⟩ => ⟨S512x512, .bf16⟩
  | .local _ .vmem, ⟨80, _⟩ => ⟨S4096x512, .bf16⟩
  | .local _ .vmem, ⟨81, _⟩ => ⟨S4096x512, .bf16⟩
  | .local _ .vmem, ⟨82, _⟩ => ⟨S4096x512, .bf16⟩
  | .local _ .vmem, ⟨83, _⟩ => ⟨S512x512, .f32⟩
  | .local _ .vmem, ⟨84, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg3_1 : Ref sig .tc := ⟨.vmem, 44, rfl⟩
abbrev cc4_stg4_0 : Ref sig .tc := ⟨.vmem, 45, rfl⟩
abbrev cc4_stg4_1 : Ref sig .tc := ⟨.vmem, 46, rfl⟩
abbrev cc4_stg5_0 : Ref sig .tc := ⟨.vmem, 47, rfl⟩
abbrev cc4_stg5_1 : Ref sig .tc := ⟨.vmem, 48, rfl⟩
abbrev cc4_stg6_0 : Ref sig .tc := ⟨.vmem, 49, rfl⟩
abbrev cc4_stg6_1 : Ref sig .tc := ⟨.vmem, 50, rfl⟩
abbrev cc4_stg7_0 : Ref sig .tc := ⟨.vmem, 51, rfl⟩
abbrev cc4_stg7_1 : Ref sig .tc := ⟨.vmem, 52, rfl⟩
abbrev cc4_stg8_0 : Ref sig .tc := ⟨.vmem, 53, rfl⟩
abbrev cc4_stg8_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg2_1 : Ref sig .tc := ⟨.vmem, 59, rfl⟩
abbrev cc6_stg0_0 : Ref sig .tc := ⟨.vmem, 60, rfl⟩
abbrev cc6_stg1_0 : Ref sig .tc := ⟨.vmem, 61, rfl⟩
abbrev cc6_stg1_1 : Ref sig .tc := ⟨.vmem, 62, rfl⟩
abbrev cc6_stg2_0 : Ref sig .tc := ⟨.vmem, 63, rfl⟩
abbrev cc6_stg2_1 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg2_0 : Ref sig .tc := ⟨.vmem, 68, rfl⟩
abbrev cc7_stg2_1 : Ref sig .tc := ⟨.vmem, 69, rfl⟩
abbrev cc8_stg0_0 : Ref sig .tc := ⟨.vmem, 70, rfl⟩
abbrev cc8_stg1_0 : Ref sig .tc := ⟨.vmem, 71, rfl⟩
abbrev cc8_stg1_1 : Ref sig .tc := ⟨.vmem, 72, rfl⟩
abbrev cc8_stg2_0 : Ref sig .tc := ⟨.vmem, 73, rfl⟩
abbrev cc8_stg2_1 : Ref sig .tc := ⟨.vmem, 74, rfl⟩
abbrev cc9_stg0_0 : Ref sig .tc := ⟨.vmem, 75, rfl⟩
abbrev cc9_stg0_1 : Ref sig .tc := ⟨.vmem, 76, rfl⟩
abbrev cc9_stg1_0 : Ref sig .tc := ⟨.vmem, 77, rfl⟩
abbrev cc9_stg2_0 : Ref sig .tc := ⟨.vmem, 78, rfl⟩
abbrev cc9_stg2_1 : Ref sig .tc := ⟨.vmem, 79, rfl⟩
abbrev cc10_stg0_0 : Ref sig .tc := ⟨.vmem, 80, rfl⟩
abbrev cc10_stg1_0 : Ref sig .tc := ⟨.vmem, 81, rfl⟩
abbrev cc10_stg1_1 : Ref sig .tc := ⟨.vmem, 82, rfl⟩
abbrev cc10_stg2_0 : Ref sig .tc := ⟨.vmem, 83, rfl⟩
abbrev cc10_stg2_1 : Ref sig .tc := ⟨.vmem, 84, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc3_sem0_0 : DmaSem sig := 32
abbrev cc3_sem1_0 : DmaSem sig := 33
abbrev cc3_sem1_1 : DmaSem sig := 34
abbrev cc3_sem2_0 : DmaSem sig := 35
abbrev cc3_sem2_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem3_1 : DmaSem sig := 44
abbrev cc4_sem4_0 : DmaSem sig := 45
abbrev cc4_sem4_1 : DmaSem sig := 46
abbrev cc4_sem5_0 : DmaSem sig := 47
abbrev cc4_sem5_1 : DmaSem sig := 48
abbrev cc4_sem6_0 : DmaSem sig := 49
abbrev cc4_sem6_1 : DmaSem sig := 50
abbrev cc4_sem7_0 : DmaSem sig := 51
abbrev cc4_sem7_1 : DmaSem sig := 52
abbrev cc4_sem8_0 : DmaSem sig := 53
abbrev cc4_sem8_1 : DmaSem sig := 54
abbrev cc5_sem0_0 : DmaSem sig := 55
abbrev cc5_sem0_1 : DmaSem sig := 56
abbrev cc5_sem1_0 : DmaSem sig := 57
abbrev cc5_sem2_0 : DmaSem sig := 58
abbrev cc5_sem2_1 : DmaSem sig := 59
abbrev cc6_sem0_0 : DmaSem sig := 60
abbrev cc6_sem1_0 : DmaSem sig := 61
abbrev cc6_sem1_1 : DmaSem sig := 62
abbrev cc6_sem2_0 : DmaSem sig := 63
abbrev cc6_sem2_1 : DmaSem sig := 64
abbrev cc7_sem0_0 : DmaSem sig := 65
abbrev cc7_sem0_1 : DmaSem sig := 66
abbrev cc7_sem1_0 : DmaSem sig := 67
abbrev cc7_sem2_0 : DmaSem sig := 68
abbrev cc7_sem2_1 : DmaSem sig := 69
abbrev cc8_sem0_0 : DmaSem sig := 70
abbrev cc8_sem1_0 : DmaSem sig := 71
abbrev cc8_sem1_1 : DmaSem sig := 72
abbrev cc8_sem2_0 : DmaSem sig := 73
abbrev cc8_sem2_1 : DmaSem sig := 74
abbrev cc9_sem0_0 : DmaSem sig := 75
abbrev cc9_sem0_1 : DmaSem sig := 76
abbrev cc9_sem1_0 : DmaSem sig := 77
abbrev cc9_sem2_0 : DmaSem sig := 78
abbrev cc9_sem2_1 : DmaSem sig := 79
abbrev cc10_sem0_0 : DmaSem sig := 80
abbrev cc10_sem1_0 : DmaSem sig := 81
abbrev cc10_sem1_1 : DmaSem sig := 82
abbrev cc10_sem2_0 : DmaSem sig := 83
abbrev cc10_sem2_1 : DmaSem sig := 84

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨3, ![1, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev grid2 : Pipeline.Grid := ⟨3, ![1, 8, 2], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev grid3 : Pipeline.Grid := ⟨3, ![1, 1, 4], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true, false]

abbrev stage3_1 : Fin 2 → Memref sig .tc .vmem S4096x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, false, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S512x3072 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S512x1024 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S512x1024 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S512x1024 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S512x3072 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨3, ![1, 8, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, false]

abbrev stage5_1 : Fin 1 → Memref sig .tc .vmem S512x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false, true]

abbrev stage5_2 : Fin 2 → Memref sig .tc .vmem S512x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, true]

abbrev grid6 : Pipeline.Grid := ⟨3, ![1, 1, 2], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage6_0 : Fin 1 → Memref sig .tc .vmem S4096x512 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, true, false]

abbrev stage6_1 : Fin 2 → Memref sig .tc .vmem S4096x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, false, true]

abbrev stage6_2 : Fin 2 → Memref sig .tc .vmem S512x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true, true]

abbrev grid7 : Pipeline.Grid := ⟨3, ![1, 8, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage7_0 : Fin 2 → Memref sig .tc .vmem S512x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true, false]

abbrev stage7_1 : Fin 1 → Memref sig .tc .vmem S512x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false, true]

abbrev stage7_2 : Fin 2 → Memref sig .tc .vmem S512x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true, true]

abbrev grid8 : Pipeline.Grid := ⟨3, ![1, 1, 2], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage8_0 : Fin 1 → Memref sig .tc .vmem S4096x512 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false, true, false]

abbrev stage8_1 : Fin 2 → Memref sig .tc .vmem S4096x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, false, true]

abbrev stage8_2 : Fin 2 → Memref sig .tc .vmem S512x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true, true]

abbrev grid9 : Pipeline.Grid := ⟨3, ![1, 8, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage9_0 : Fin 2 → Memref sig .tc .vmem S512x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true, false]

abbrev stage9_1 : Fin 1 → Memref sig .tc .vmem S512x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, false, true]

abbrev stage9_2 : Fin 2 → Memref sig .tc .vmem S512x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![false, true, true]

abbrev grid10 : Pipeline.Grid := ⟨3, ![1, 1, 2], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage10_0 : Fin 1 → Memref sig .tc .vmem S4096x512 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false, true, false]

abbrev stage10_1 : Fin 2 → Memref sig .tc .vmem S4096x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, false, true]

abbrev stage10_2 : Fin 2 → Memref sig .tc .vmem S512x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![false, true, true]
-- ==== Reference3Ideal.lean ====
abbrev S4096x1024 : Shape := ⟨2, ![4096, 1024]⟩
abbrev S4096x3072 : Shape := ⟨2, ![4096, 3072]⟩
abbrev S4096x512 : Shape := ⟨2, ![4096, 512]⟩
abbrev S512x1024 : Shape := ⟨2, ![512, 1024]⟩
abbrev S1024x1024 : Shape := ⟨2, ![1024, 1024]⟩
abbrev S4096x3x1024 : Shape := ⟨3, ![4096, 3, 1024]⟩
abbrev S_ : Shape := ⟨0, ![]⟩
abbrev S4096x1x1024 : Shape := ⟨3, ![4096, 1, 1024]⟩
abbrev S1024x512 : Shape := ⟨2, ![1024, 512]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S4096x1024, .f32⟩
  | .hbm, ⟨10, _⟩ => ⟨S4096x3x1024, .f32⟩
  | .hbm, ⟨11, _⟩ => ⟨S4096x3x1024, .f32⟩
  | .hbm, ⟨12, _⟩ => ⟨S4096x3x1024, .f32⟩
  | .hbm, ⟨13, _⟩ => ⟨S_, .f32⟩
  | .hbm, ⟨14, _⟩ => ⟨S4096x3x1024, .f32⟩
  | .hbm, ⟨15, _⟩ => ⟨S4096x3x1024, .f32⟩
  | .hbm, ⟨16, _⟩ => ⟨S_, .f32⟩
  | .hbm, ⟨17, _⟩ => ⟨S4096x3x1024, .f32⟩
  | .hbm, ⟨18, _⟩ => ⟨S4096x3x1024, .f32⟩
  | .hbm, ⟨19, _⟩ => ⟨S_, .f32⟩
  | .hbm, ⟨20, _⟩ => ⟨S4096x3x1024, .f32⟩
  | .hbm, ⟨21, _⟩ => ⟨S4096x3x1024, .f32⟩
  | .hbm, ⟨22, _⟩ => ⟨S4096x3x1024, .f32⟩
  | .hbm, ⟨23, _⟩ => ⟨S4096x1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S1024x1024, .f32⟩
  | .hbm, ⟨40, _⟩ => ⟨S1024x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S1024x512, .f32⟩
  | .hbm, ⟨45, _⟩ => ⟨S512x1024, .f32⟩
  | .hbm, ⟨46, _⟩ => ⟨S4096x512, .f32⟩
  | .hbm, ⟨47, _⟩ => ⟨S4096x1x1024, .f32⟩
  | .hbm, ⟨48, _⟩ => ⟨S_, .f32⟩
  | .hbm, ⟨49, _⟩ => ⟨S4096x3x1024, .f32⟩
  | .hbm, ⟨50, _⟩ => ⟨S4096x1024, .f32⟩
  | .hbm, ⟨51, _⟩ => ⟨S4096x1024, .f32⟩
  | .hbm, ⟨52, _⟩ => ⟨S1024x512, .f32⟩
  | .hbm, ⟨53, _⟩ => ⟨S512x1024, .f32⟩
  | .hbm, ⟨54, _⟩ => ⟨S4096x512, .f32⟩
  | .hbm, ⟨55, _⟩ => ⟨S4096x1x1024, .f32⟩
  | .hbm, ⟨56, _⟩ => ⟨S_, .f32⟩
  | .hbm, ⟨57, _⟩ => ⟨S4096x3x1024, .f32⟩
  | .hbm, ⟨58, _⟩ => ⟨S4096x3x1024, .f32⟩
  | .hbm, ⟨59, _⟩ => ⟨S4096x1024, .f32⟩
  | .hbm, ⟨60, _⟩ => ⟨S4096x1024, .f32⟩
  | .hbm, ⟨61, _⟩ => ⟨S1024x512, .f32⟩
  | .hbm, ⟨62, _⟩ => ⟨S512x1024, .f32⟩
  | .hbm, ⟨63, _⟩ => ⟨S4096x512, .f32⟩
  | .hbm, ⟨64, _⟩ => ⟨S4096x1x1024, .f32⟩
  | .hbm, ⟨65, _⟩ => ⟨S_, .f32⟩
  | .hbm, ⟨66, _⟩ => ⟨S4096x3x1024, .f32⟩
  | .hbm, ⟨67, _⟩ => ⟨S4096x3x1024, .f32⟩
  | .hbm, ⟨68, _⟩ => ⟨S4096x3x1024, .f32⟩
  | .hbm, ⟨69, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x6752 : Shape := ⟨2, ![1024, 6752]⟩
abbrev S4096x6752 : Shape := ⟨2, ![4096, 6752]⟩
abbrev S1024x3072 : Shape := ⟨2, ![1024, 3072]⟩
abbrev S1024x512 : Shape := ⟨2, ![1024, 512]⟩
abbrev S1024x32 : Shape := ⟨2, ![1024, 32]⟩
abbrev S_ : Shape := ⟨0, ![]⟩
abbrev S1024x96 : Shape := ⟨2, ![1024, 96]⟩
abbrev S1024x6912 : Shape := ⟨2, ![1024, 6912]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S4096x6912 : Shape := ⟨2, ![4096, 6912]⟩
abbrev S1024x1024 : Shape := ⟨2, ![1024, 1024]⟩
abbrev S1024x1152 : Shape := ⟨2, ![1024, 1152]⟩
abbrev S4096x3072 : Shape := ⟨2, ![4096, 3072]⟩
abbrev S4096x512 : Shape := ⟨2, ![4096, 512]⟩
abbrev S4096x32 : Shape := ⟨2, ![4096, 32]⟩
abbrev S4096x96 : Shape := ⟨2, ![4096, 96]⟩
abbrev S4096x1536 : Shape := ⟨2, ![4096, 1536]⟩
abbrev S4096x256 : Shape := ⟨2, ![4096, 256]⟩
abbrev S4096x128 : Shape := ⟨2, ![4096, 128]⟩
abbrev S1024x2304 : Shape := ⟨2, ![1024, 2304]⟩
abbrev S1024x9216 : Shape := ⟨2, ![1024, 9216]⟩
abbrev S512x3072 : Shape := ⟨2, ![512, 3072]⟩
abbrev S512x1536 : Shape := ⟨2, ![512, 1536]⟩
abbrev S512x256 : Shape := ⟨2, ![512, 256]⟩
abbrev S512x128 : Shape := ⟨2, ![512, 128]⟩
abbrev S512x512 : Shape := ⟨2, ![512, 512]⟩
abbrev S1024x256 : Shape := ⟨2, ![1024, 256]⟩
abbrev S1024x1536 : Shape := ⟨2, ![1024, 1536]⟩
abbrev S1024x128 : Shape := ⟨2, ![1024, 128]⟩
abbrev S8x1024 : Shape := ⟨2, ![8, 1024]⟩
abbrev S1024x152 : Shape := ⟨2, ![1024, 152]⟩
abbrev S1024x1688 : Shape := ⟨2, ![1024, 1688]⟩
abbrev S1024x1384 : Shape := ⟨2, ![1024, 1384]⟩
abbrev S1024x16 : Shape := ⟨2, ![1024, 16]⟩
abbrev S1024x240 : Shape := ⟨2, ![1024, 240]⟩
abbrev S1x1024x1688 : Shape := ⟨3, ![1, 1024, 1688]⟩
abbrev S4x1024x1688 : Shape := ⟨3, ![4, 1024, 1688]⟩
abbrev S1024x4x1688 : Shape := ⟨3, ![1024, 4, 1688]⟩

abbrev nBuf : Space → Nat
  | .hbm => 87
  | .vmem => 78
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6752, .f32⟩
  | .hbm, ⟨3, _⟩ => ⟨S4096x6752, .f32⟩
  | .hbm, ⟨4, _⟩ => ⟨S4096x1024, .f32⟩
  | .hbm, ⟨5, _⟩ => ⟨S1024x6752, .bf16⟩
  | .hbm, ⟨6, _⟩ => ⟨S1024x3072, .bf16⟩
  | .hbm, ⟨7, _⟩ => ⟨S1024x3072, .bf16⟩
  | .hbm, ⟨8, _⟩ => ⟨S1024x512, .bf16⟩
  | .hbm, ⟨9, _⟩ => ⟨S1024x32, .bf16⟩
  | .hbm, ⟨10, _⟩ => ⟨S_, .bf16⟩
  | .hbm, ⟨11, _⟩ => ⟨S1024x96, .bf16⟩
  | .hbm, ⟨12, _⟩ => ⟨S1024x32, .bf16⟩
  | .hbm, ⟨13, _⟩ => ⟨S_, .bf16⟩
  | .hbm, ⟨14, _⟩ => ⟨S1024x32, .bf16⟩
  | .hbm, ⟨15, _⟩ => ⟨S1024x32, .bf16⟩
  | .hbm, ⟨16, _⟩ => ⟨S_, .bf16⟩
  | .hbm, ⟨17, _⟩ => ⟨S1024x32, .bf16⟩
  | .hbm, ⟨18, _⟩ => ⟨S1024x6912, .bf16⟩
  | .hbm, ⟨19, _⟩ => ⟨S1x1024, .f32⟩
  | .hbm, ⟨20, _⟩ => ⟨S4096x1024, .bf16⟩
  | .hbm, ⟨21, _⟩ => ⟨S4096x6912, .f32⟩
  | .hbm, ⟨22, _⟩ => ⟨S4096x6752, .bf16⟩
  | .hbm, ⟨23, _⟩ => ⟨S4096x3072, .bf16⟩
  | .hbm, ⟨24, _⟩ => ⟨S4096x3072, .bf16⟩
  | .hbm, ⟨25, _⟩ => ⟨S4096x512, .bf16⟩
  | .hbm, ⟨26, _⟩ => ⟨S4096x32, .bf16⟩
  | .hbm, ⟨27, _⟩ => ⟨S_, .bf16⟩
  | .hbm, ⟨28, _⟩ => ⟨S4096x96, .bf16⟩
  | .hbm, ⟨29, _⟩ => ⟨S4096x32, .bf16⟩
  | .hbm, ⟨30, _⟩ => ⟨S_, .bf16⟩
  | .hbm, ⟨31, _⟩ => ⟨S4096x32, .bf16⟩
  | .hbm, ⟨32, _⟩ => ⟨S4096x32, .bf16⟩
  | .hbm, ⟨33, _⟩ => ⟨S_, .bf16⟩
  | .hbm, ⟨34, _⟩ => ⟨S4096x32, .bf16⟩
  | .hbm, ⟨35, _⟩ => ⟨S4096x6912, .bf16⟩
  | .hbm, ⟨36, _⟩ => ⟨S4096x3072, .bf16⟩
  | .hbm, ⟨37, _⟩ => ⟨S4096x1536, .bf16⟩
  | .hbm, ⟨38, _⟩ => ⟨S4096x1536, .bf16⟩
  | .hbm, ⟨39, _⟩ => ⟨S4096x256, .bf16⟩
  | .hbm, ⟨40, _⟩ => ⟨S4096x256, .bf16⟩
  | .hbm, ⟨41, _⟩ => ⟨S4096x128, .bf16⟩
  | .hbm, ⟨42, _⟩ => ⟨S4096x128, .bf16⟩
  | .hbm, ⟨43, _⟩ => ⟨S_, .bf16⟩
  | .hbm, ⟨44, _⟩ => ⟨S1024x2304, .bf16⟩
  | .hbm, ⟨45, _⟩ => ⟨S1024x9216, .bf16⟩
  | .hbm, ⟨46, _⟩ => ⟨S4096x1024, .f32⟩
  | .hbm, ⟨47, _⟩ => ⟨S1024x3072, .f32⟩
  | .hbm, ⟨48, _⟩ => ⟨S1024x1536, .f32⟩
  | .hbm, ⟨49, _⟩ => ⟨S1024x1536, .f32⟩
  | .hbm, ⟨50, _⟩ => ⟨S1024x256, .f32⟩
  | .hbm, ⟨51, _⟩ => ⟨S1024x256, .f32⟩
  | .hbm, ⟨52, _⟩ => ⟨S1024x128, .f32⟩
  | .hbm, ⟨53, _⟩ => ⟨S1024x128, .f32⟩
  | .hbm, ⟨54, _⟩ => ⟨S1x1024, .f32⟩
  | .hbm, ⟨55, _⟩ => ⟨S4096x1024, .f32⟩
  | .hbm, ⟨56, _⟩ => ⟨S8x1024, .f32⟩
  | .hbm, ⟨57, _⟩ => ⟨S1024x32, .f32⟩
  | .hbm, ⟨58, _⟩ => ⟨S1024x32, .f32⟩
  | .hbm, ⟨59, _⟩ => ⟨S1024x32, .f32⟩
  | .hbm, ⟨60, _⟩ => ⟨S1024x152, .f32⟩
  | .hbm, ⟨61, _⟩ => ⟨S1024x1688, .f32⟩
  | .hbm, ⟨62, _⟩ => ⟨S1024x1384, .f32⟩
  | .hbm, ⟨63, _⟩ => ⟨S1024x16, .f32⟩
  | .hbm, ⟨64, _⟩ => ⟨S1024x1688, .f32⟩
  | .hbm, ⟨65, _⟩ => ⟨S1024x240, .f32⟩
  | .hbm, ⟨66, _⟩ => ⟨S1024x1384, .f32⟩
  | .hbm, ⟨67, _⟩ => ⟨S1024x1688, .f32⟩
  | .hbm, ⟨68, _⟩ => ⟨S1024x1688, .f32⟩
  | .hbm, ⟨69, _⟩ => ⟨S1x1024x1688, .f32⟩
  | .hbm, ⟨70, _⟩ => ⟨S1x1024x1688, .f32⟩
  | .hbm, ⟨71, _⟩ => ⟨S1x1024x1688, .f32⟩
  | .hbm, ⟨72, _⟩ => ⟨S1x1024x1688, .f32⟩
  | .hbm, ⟨73, _⟩ => ⟨S4x1024x1688, .f32⟩
  | .hbm, ⟨74, _⟩ => ⟨S4x1024x1688, .bf16⟩
  | .hbm, ⟨75, _⟩ => ⟨S1024x4x1688, .bf16⟩
  | .hbm, ⟨76, _⟩ => ⟨S1024x6752, .bf16⟩
  | .hbm, ⟨77, _⟩ => ⟨S1024x6752, .f32⟩
  | .hbm, ⟨78, _⟩ => ⟨S4096x3072, .f32⟩
  | .hbm, ⟨79, _⟩ => ⟨S4096x32, .f32⟩
  | .hbm, ⟨80, _⟩ => ⟨S4096x512, .f32⟩
  | .hbm, ⟨81, _⟩ => ⟨S4096x32, .f32⟩
  | .hbm, ⟨82, _⟩ => ⟨S4096x32, .f32⟩
  | .hbm, ⟨83, _⟩ => ⟨S4096x3072, .f32⟩
  | .hbm, ⟨84, _⟩ => ⟨S4096x6752, .f32⟩
  | .hbm, ⟨85, _⟩ => ⟨S1x1024, .f32⟩
  | .hbm, ⟨86, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1152, .bf16⟩
  | .local _ .vmem, ⟨8, _⟩ => ⟨S1024x1152, .bf16⟩
  | .local _ .vmem, ⟨9, _⟩ => ⟨S1024x1152, .f32⟩
  | .local _ .vmem, ⟨10, _⟩ => ⟨S1024x1152, .f32⟩
  | .local _ .vmem, ⟨11, _⟩ => ⟨S512x3072, .bf16⟩
  | .local _ .vmem, ⟨12, _⟩ => ⟨S512x3072, .bf16⟩
  | .local _ .vmem, ⟨13, _⟩ => ⟨S512x3072, .bf16⟩
  | .local _ .vmem, ⟨14, _⟩ => ⟨S512x3072, .bf16⟩
  | .local _ .vmem, ⟨15, _⟩ => ⟨S512x1536, .bf16⟩
  | .local _ .vmem, ⟨16, _⟩ => ⟨S512x1536, .bf16⟩
  | .local _ .vmem, ⟨17, _⟩ => ⟨S512x1536, .bf16⟩
  | .local _ .vmem, ⟨18, _⟩ => ⟨S512x1536, .bf16⟩
  | .local _ .vmem, ⟨19, _⟩ => ⟨S512x1536, .bf16⟩
  | .local _ .vmem, ⟨20, _⟩ => ⟨S512x1536, .bf16⟩
  | .local _ .vmem, ⟨21, _⟩ => ⟨S512x1536, .bf16⟩
  | .local _ .vmem, ⟨22, _⟩ => ⟨S512x1536, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x128, .bf16⟩
  | .local _ .vmem, ⟨32, _⟩ => ⟨S512x128, .bf16⟩
  | .local _ .vmem, ⟨33, _⟩ => ⟨S512x128, .bf16⟩
  | .local _ .vmem, ⟨34, _⟩ => ⟨S512x128, .bf16⟩
  | .local _ .vmem, ⟨35, _⟩ => ⟨S512x128, .bf16⟩
  | .local _ .vmem, ⟨36, _⟩ => ⟨S512x128, .bf16⟩
  | .local _ .vmem, ⟨37, _⟩ => ⟨S512x128, .bf16⟩
  | .local _ .vmem, ⟨38, _⟩ => ⟨S512x128, .bf16⟩
  | .local _ .vmem, ⟨39, _⟩ => ⟨S512x512, .f32⟩
  | .local _ .vmem, ⟨40, _⟩ => ⟨S512x512, .f32⟩
  | .local _ .vmem, ⟨41, _⟩ => ⟨S4096x1024, .bf16⟩
  | .local _ .vmem, ⟨42, _⟩ => ⟨S4096x256, .bf16⟩
  | .local _ .vmem, ⟨43, _⟩ => ⟨S4096x256, .bf16⟩
  | .local _ .vmem, ⟨44, _⟩ => ⟨S1024x256, .f32⟩
  | .local _ .vmem, ⟨45, _⟩ => ⟨S1024x256, .f32⟩
  | .local _ .vmem, ⟨46, _⟩ => ⟨S4096x1024, .bf16⟩
  | .local _ .vmem, ⟨47, _⟩ => ⟨S4096x256, .bf16⟩
  | .local _ .vmem, ⟨48, _⟩ => ⟨S4096x256, .bf16⟩
  | .local _ .vmem, ⟨49, _⟩ => ⟨S1024x256, .f32⟩
  | .local _ .vmem, ⟨50, _⟩ => ⟨S1024x256, .f32⟩
  | .local _ .vmem, ⟨51, _⟩ => ⟨S4096x1024, .bf16⟩
  | .local _ .vmem, ⟨52, _⟩ => ⟨S4096x256, .bf16⟩
  | .local _ .vmem, ⟨53, _⟩ => ⟨S4096x256, .bf16⟩
  | .local _ .vmem, ⟨54, _⟩ => ⟨S1024x256, .f32⟩
  | .local _ .vmem, ⟨55, _⟩ => ⟨S1024x256, .f32⟩
  | .local _ .vmem, ⟨56, _⟩ => ⟨S4096x1024, .bf16⟩
  | .local _ .vmem, ⟨57, _⟩ => ⟨S4096x256, .bf16⟩
  | .local _ .vmem, ⟨58, _⟩ => ⟨S1024x256, .f32⟩
  | .local _ .vmem, ⟨59, _⟩ => ⟨S4096x1024, .bf16⟩
  | .local _ .vmem, ⟨60, _⟩ => ⟨S4096x256, .bf16⟩
  | .local _ .vmem, ⟨61, _⟩ => ⟨S1024x256, .f32⟩
  | .local _ .vmem, ⟨62, _⟩ => ⟨S4096x1024, .bf16⟩
  | .local _ .vmem, ⟨63, _⟩ => ⟨S4096x128, .bf16⟩
  | .local _ .vmem, ⟨64, _⟩ => ⟨S1024x128, .f32⟩
  | .local _ .vmem, ⟨65, _⟩ => ⟨S4096x1024, .bf16⟩
  | .local _ .vmem, ⟨66, _⟩ => ⟨S4096x128, .bf16⟩
  | .local _ .vmem, ⟨67, _⟩ => ⟨S1024x128, .f32⟩
  | .local _ .vmem, ⟨68, _⟩ => ⟨S512x1024, .f32⟩
  | .local _ .vmem, ⟨69, _⟩ => ⟨S512x1024, .f32⟩
  | .local _ .vmem, ⟨70, _⟩ => ⟨S1x1024, .f32⟩
  | .local _ .vmem, ⟨71, _⟩ => ⟨S512x1024, .f32⟩
  | .local _ .vmem, ⟨72, _⟩ => ⟨S512x1024, .f32⟩
  | .local _ .vmem, ⟨73, _⟩ => ⟨S512x1024, .f32⟩
  | .local _ .vmem, ⟨74, _⟩ => ⟨S512x1024, .f32⟩
  | .local _ .vmem, ⟨75, _⟩ => ⟨S512x1024, .f32⟩
  | .local _ .vmem, ⟨76, _⟩ => ⟨S512x1024, .f32⟩
  | .local _ .vmem, ⟨77, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43_0 : Ref sig .tc := ⟨.hbm, 55, rfl⟩
abbrev main_v43_1 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg7_1 : Ref sig .tc := ⟨.vmem, 26, rfl⟩
abbrev cc2_stg8_0 : Ref sig .tc := ⟨.vmem, 27, rfl⟩
abbrev cc2_stg8_1 : Ref sig .tc := ⟨.vmem, 28, rfl⟩
abbrev cc2_stg9_0 : Ref sig .tc := ⟨.vmem, 29, rfl⟩
abbrev cc2_stg9_1 : Ref sig .tc := ⟨.vmem, 30, rfl⟩
abbrev cc2_stg10_0 : Ref sig .tc := ⟨.vmem, 31, rfl⟩
abbrev cc2_stg10_1 : Ref sig .tc := ⟨.vmem, 32, rfl⟩
abbrev cc2_stg11_0 : Ref sig .tc := ⟨.vmem, 33, rfl⟩
abbrev cc2_stg11_1 : Ref sig .tc := ⟨.vmem, 34, rfl⟩
abbrev cc2_stg12_0 : Ref sig .tc := ⟨.vmem, 35, rfl⟩
abbrev cc2_stg12_1 : Ref sig .tc := ⟨.vmem, 36, rfl⟩
abbrev cc2_stg13_0 : Ref sig .tc := ⟨.vmem, 37, rfl⟩
abbrev cc2_stg13_1 : Ref sig .tc := ⟨.vmem, 38, rfl⟩
abbrev cc2_stg14_0 : Ref sig .tc := ⟨.vmem, 39, rfl⟩
abbrev cc2_stg14_1 : Ref sig .tc := ⟨.vmem, 40, rfl⟩
abbrev cc3_stg0_0 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc4_stg0_0 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg2_1 : Ref sig .tc := ⟨.vmem, 50, rfl⟩
abbrev cc5_stg0_0 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc6_stg0_0 : Ref sig .tc := ⟨.vmem, 56, rfl⟩
abbrev cc6_stg1_0 : Ref sig .tc := ⟨.vmem, 57, rfl⟩
abbrev cc6_stg2_0 : Ref sig .tc := ⟨.vmem, 58, rfl⟩
abbrev cc7_stg0_0 : Ref sig .tc := ⟨.vmem, 59, rfl⟩
abbrev cc7_stg1_0 : Ref sig .tc := ⟨.vmem, 60, rfl⟩
abbrev cc7_stg2_0 : Ref sig .tc := ⟨.vmem, 61, rfl⟩
abbrev cc8_stg0_0 : Ref sig .tc := ⟨.vmem, 62, rfl⟩
abbrev cc8_stg1_0 : Ref sig .tc := ⟨.vmem, 63, rfl⟩
abbrev cc8_stg2_0 : Ref sig .tc := ⟨.vmem, 64, rfl⟩
abbrev cc9_stg0_0 : Ref sig .tc := ⟨.vmem, 65, rfl⟩
abbrev cc9_stg1_0 : Ref sig .tc := ⟨.vmem, 66, rfl⟩
abbrev cc9_stg2_0 : Ref sig .tc := ⟨.vmem, 67, rfl⟩
abbrev cc10_stg0_0 : Ref sig .tc := ⟨.vmem, 68, rfl⟩
abbrev cc10_stg0_1 : Ref sig .tc := ⟨.vmem, 69, rfl⟩
abbrev cc10_stg1_0 : Ref sig .tc := ⟨.vmem, 70, rfl⟩
abbrev cc10_stg2_0 : Ref sig .tc := ⟨.vmem, 71, rfl⟩
abbrev cc10_stg2_1 : Ref sig .tc := ⟨.vmem, 72, rfl⟩
abbrev cc10_stg3_0 : Ref sig .tc := ⟨.vmem, 73, rfl⟩
abbrev cc10_stg3_1 : Ref sig .tc := ⟨.vmem, 74, rfl⟩
abbrev cc10_stg4_0 : Ref sig .tc := ⟨.vmem, 75, rfl⟩
abbrev cc10_stg4_1 : Ref sig .tc := ⟨.vmem, 76, rfl⟩
abbrev cc10_stg5_0 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24
abbrev cc2_sem7_0 : DmaSem sig := 25
abbrev cc2_sem7_1 : DmaSem sig := 26
abbrev cc2_sem8_0 : DmaSem sig := 27
abbrev cc2_sem8_1 : DmaSem sig := 28
abbrev cc2_sem9_0 : DmaSem sig := 29
abbrev cc2_sem9_1 : DmaSem sig := 30
abbrev cc2_sem10_0 : DmaSem sig := 31
abbrev cc2_sem10_1 : DmaSem sig := 32
abbrev cc2_sem11_0 : DmaSem sig := 33
abbrev cc2_sem11_1 : DmaSem sig := 34
abbrev cc2_sem12_0 : DmaSem sig := 35
abbrev cc2_sem12_1 : DmaSem sig := 36
abbrev cc2_sem13_0 : DmaSem sig := 37
abbrev cc2_sem13_1 : DmaSem sig := 38
abbrev cc2_sem14_0 : DmaSem sig := 39
abbrev cc2_sem14_1 : DmaSem sig := 40
abbrev cc3_sem0_0 : DmaSem sig := 41
abbrev cc3_sem1_0 : DmaSem sig := 42
abbrev cc3_sem1_1 : DmaSem sig := 43
abbrev cc3_sem2_0 : DmaSem sig := 44
abbrev cc3_sem2_1 : DmaSem sig := 45
abbrev cc4_sem0_0 : DmaSem sig := 46
abbrev cc4_sem1_0 : DmaSem sig := 47
abbrev cc4_sem1_1 : DmaSem sig := 48
abbrev cc4_sem2_0 : DmaSem sig := 49
abbrev cc4_sem2_1 : DmaSem sig := 50
abbrev cc5_sem0_0 : DmaSem sig := 51
abbrev cc5_sem1_0 : DmaSem sig := 52
abbrev cc5_sem1_1 : DmaSem sig := 53
abbrev cc5_sem2_0 : DmaSem sig := 54
abbrev cc5_sem2_1 : DmaSem sig := 55
abbrev cc6_sem0_0 : DmaSem sig := 56
abbrev cc6_sem1_0 : DmaSem sig := 57
abbrev cc6_sem2_0 : DmaSem sig := 58
abbrev cc7_sem0_0 : DmaSem sig := 59
abbrev cc7_sem1_0 : DmaSem sig := 60
abbrev cc7_sem2_0 : DmaSem sig := 61
abbrev cc8_sem0_0 : DmaSem sig := 62
abbrev cc8_sem1_0 : DmaSem sig := 63
abbrev cc8_sem2_0 : DmaSem sig := 64
abbrev cc9_sem0_0 : DmaSem sig := 65
abbrev cc9_sem1_0 : DmaSem sig := 66
abbrev cc9_sem2_0 : DmaSem sig := 67
abbrev cc10_sem0_0 : DmaSem sig := 68
abbrev cc10_sem0_1 : DmaSem sig := 69
abbrev cc10_sem1_0 : DmaSem sig := 70
abbrev cc10_sem2_0 : DmaSem sig := 71
abbrev cc10_sem2_1 : DmaSem sig := 72
abbrev cc10_sem3_0 : DmaSem sig := 73
abbrev cc10_sem3_1 : DmaSem sig := 74
abbrev cc10_sem4_0 : DmaSem sig := 75
abbrev cc10_sem4_1 : DmaSem sig := 76
abbrev cc10_sem5_0 : DmaSem sig := 77

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 4, 6], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 2 → Memref sig .tc .vmem S1024x1152 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S1024x1152 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev grid2 : Pipeline.Grid := ⟨3, ![1, 8, 2], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg2.toNat, c2_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg2.toNat, c3_i32.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let c0_i32 : BitVec 32 := 0#32
  ![arg2.toNat, c24_i32.toNat]

def cc2_transform_8 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_9 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c25_i32 : BitVec 32 := 25#32
  let c0_i32 : BitVec 32 := 0#32
  ![arg2.toNat, c25_i32.toNat]

def cc2_transform_10 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_11 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c52_i32 : BitVec 32 := 52#32
  let c0_i32 : BitVec 32 := 0#32
  ![arg2.toNat, c52_i32.toNat]

def cc2_transform_12 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_13 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c53_i32 : BitVec 32 := 53#32
  let c0_i32 : BitVec 32 := 0#32
  ![arg2.toNat, c53_i32.toNat]

def cc2_transform_14 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage2_0 : Fin 2 → Memref sig .tc .vmem S512x3072 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false]

abbrev stage2_1 : Fin 2 → Memref sig .tc .vmem S512x3072 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true]

abbrev stage2_2 : Fin 2 → Memref sig .tc .vmem S512x1536 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S512x1536 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, false, true]

abbrev stage2_4 : Fin 2 → Memref sig .tc .vmem S512x1536 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, false]

abbrev stage2_5 : Fin 2 → Memref sig .tc .vmem S512x1536 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, false, true]

abbrev stage2_6 : Fin 2 → Memref sig .tc .vmem S512x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true, false]

abbrev stage2_7 : Fin 2 → Memref sig .tc .vmem S512x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, false, true]

abbrev stage2_8 : Fin 2 → Memref sig .tc .vmem S512x256 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![false, true, false]

abbrev stage2_9 : Fin 2 → Memref sig .tc .vmem S512x256 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![false, false, true]

abbrev stage2_10 : Fin 2 → Memref sig .tc .vmem S512x128 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![false, true, false]

abbrev stage2_11 : Fin 2 → Memref sig .tc .vmem S512x128 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![false, false, true]

abbrev stage2_12 : Fin 2 → Memref sig .tc .vmem S512x128 .bf16 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![false, true, false]

abbrev stage2_13 : Fin 2 → Memref sig .tc .vmem S512x128 .bf16 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![false, false, true]

abbrev stage2_14 : Fin 2 → Memref sig .tc .vmem S512x512 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![false, true, true]

abbrev grid3 : Pipeline.Grid := ⟨3, ![1, 1, 12], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true, false]

abbrev stage3_1 : Fin 2 → Memref sig .tc .vmem S4096x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, false, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev grid4 : Pipeline.Grid := ⟨3, ![1, 1, 6], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, true, false]

abbrev stage4_1 : Fin 2 → Memref sig .tc .vmem S4096x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, false, true]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, true]

abbrev grid5 : Pipeline.Grid := ⟨3, ![1, 1, 6], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, true, false]

abbrev stage5_1 : Fin 2 → Memref sig .tc .vmem S4096x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, false, true]

abbrev stage5_2 : Fin 2 → Memref sig .tc .vmem S1024x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, true]

abbrev grid6 : Pipeline.Grid := ⟨3, ![1, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage6_0 : Fin 1 → Memref sig .tc .vmem S4096x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, true, false]

abbrev stage6_1 : Fin 1 → Memref sig .tc .vmem S4096x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false, true]

abbrev stage6_2 : Fin 1 → Memref sig .tc .vmem S1024x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, true, true]

abbrev grid7 : Pipeline.Grid := ⟨3, ![1, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage7_0 : Fin 1 → Memref sig .tc .vmem S4096x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false, true, false]

abbrev stage7_1 : Fin 1 → Memref sig .tc .vmem S4096x256 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false, true]

abbrev stage7_2 : Fin 1 → Memref sig .tc .vmem S1024x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, true, true]

abbrev grid8 : Pipeline.Grid := ⟨3, ![1, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage8_0 : Fin 1 → Memref sig .tc .vmem S4096x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false, true, false]

abbrev stage8_1 : Fin 1 → Memref sig .tc .vmem S4096x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, false, true]

abbrev stage8_2 : Fin 1 → Memref sig .tc .vmem S1024x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, true, true]

abbrev grid9 : Pipeline.Grid := ⟨3, ![1, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage9_0 : Fin 1 → Memref sig .tc .vmem S4096x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false, true, false]

abbrev stage9_1 : Fin 1 → Memref sig .tc .vmem S4096x128 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, false, true]

abbrev stage9_2 : Fin 1 → Memref sig .tc .vmem S1024x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, true, true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S512x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x1024 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S512x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S512x1024 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S512x1024 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S8x1024 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]
-- ==== Reference4Ideal.lean ====
abbrev S4096x1024 : Shape := ⟨2, ![4096, 1024]⟩
abbrev S1024 : Shape := ⟨1, ![1024]⟩
abbrev S1024x6752 : Shape := ⟨2, ![1024, 6752]⟩
abbrev S4096x6752 : Shape := ⟨2, ![4096, 6752]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S6752x1024 : Shape := ⟨2, ![6752, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6752, .f32⟩
  | .hbm, ⟨3, _⟩ => ⟨S4096x6752, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x6752, .f32⟩
  | .hbm, ⟨26, _⟩ => ⟨S6752x1024, .f32⟩
  | .hbm, ⟨27, _⟩ => ⟨S1024x6752, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel5.lean ====
abbrev S1x4096x4x256 : Shape := ⟨4, ![1, 4096, 4, 256]⟩
abbrev S1x4096x4x128 : Shape := ⟨4, ![1, 4096, 4, 128]⟩
abbrev S_ : Shape := ⟨0, ![]⟩
abbrev S4096x1024 : Shape := ⟨2, ![4096, 1024]⟩
abbrev S4096x512 : Shape := ⟨2, ![4096, 512]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩

abbrev nBuf : Space → Nat
  | .hbm => 18
  | .vmem => 8
  | .smem => 0
  | _ => 0

abbrev bufTy : (tb : Table) → Fin (tcTables nBuf tb) → BufTy
  | .hbm, ⟨0, _⟩ => ⟨S1x4096x4x256, .f32⟩
  | .hbm, ⟨1, _⟩ => ⟨S1x4096x4x256, .f32⟩
  | .hbm, ⟨2, _⟩ => ⟨S1x4096x4x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x4096x4x256, .f32⟩
  | .hbm, ⟨9, _⟩ => ⟨S1x4096x4x256, .f32⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S4096x1024, .bf16⟩
  | .hbm, ⟨14, _⟩ => ⟨S4096x512, .f32⟩
  | .hbm, ⟨15, _⟩ => ⟨S4096x512, .bf16⟩
  | .hbm, ⟨16, _⟩ => ⟨S4096x512, .bf16⟩
  | .hbm, ⟨17, _⟩ => ⟨S4096x512, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | _, _ => ⟨S1x4096x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S1x4096x4x256 : Shape := ⟨4, ![1, 4096, 4, 256]⟩
abbrev S1x4096x4x128 : Shape := ⟨4, ![1, 4096, 4, 128]⟩
abbrev S1x4x4096x4096 : Shape := ⟨4, ![1, 4, 4096, 4096]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x4096x512 : Shape := ⟨3, ![1, 4096, 512]⟩
abbrev S4096x512 : Shape := ⟨2, ![4096, 512]⟩

abbrev nBuf : Space → Nat
  | .hbm => 26
  | .vmem => 0
  | .smem => 0
  | _ => 0

abbrev bufTy : (tb : Table) → Fin (tcTables nBuf tb) → BufTy
  | .hbm, ⟨0, _⟩ => ⟨S1x4096x4x256, .f32⟩
  | .hbm, ⟨1, _⟩ => ⟨S1x4096x4x256, .f32⟩
  | .hbm, ⟨2, _⟩ => ⟨S1x4096x4x128, .f32⟩
  | .hbm, ⟨3, _⟩ => ⟨S1x4x4096x4096, .f32⟩
  | .hbm, ⟨4, _⟩ => ⟨S_, .f32⟩
  | .hbm, ⟨5, _⟩ => ⟨S_, .f32⟩
  | .hbm, ⟨6, _⟩ => ⟨S1x4x4096x4096, .f32⟩
  | .hbm, ⟨7, _⟩ => ⟨S1x4x4096x4096, .f32⟩
  | .hbm, ⟨8, _⟩ => ⟨S_, .f32⟩
  | .hbm, ⟨9, _⟩ => ⟨S1x4x4096, .f32⟩
  | .hbm, ⟨10, _⟩ => ⟨S_, .f32⟩
  | .hbm, ⟨11, _⟩ => ⟨S1x4x4096, .f32⟩
  | .hbm, ⟨12, _⟩ => ⟨S1x4x4096, .f32⟩
  | .hbm, ⟨13, _⟩ => ⟨S1x4x4096x1, .f32⟩
  | .hbm, ⟨14, _⟩ => ⟨S1x4x4096x4096, .f32⟩
  | .hbm, ⟨15, _⟩ => ⟨S1x4x4096x4096, .f32⟩
  | .hbm, ⟨16, _⟩ => ⟨S1x4x4096x4096, .f32⟩
  | .hbm, ⟨17, _⟩ => ⟨S_, .f32⟩
  | .hbm, ⟨18, _⟩ => ⟨S1x4x4096, .f32⟩
  | .hbm, ⟨19, _⟩ => ⟨S1x4x4096x1, .f32⟩
  | .hbm, ⟨20, _⟩ => ⟨S1x4x4096x4096, .f32⟩
  | .hbm, ⟨21, _⟩ => ⟨S1x4x4096x4096, .f32⟩
  | .hbm, ⟨22, _⟩ => ⟨S1x4x128x4096, .f32⟩
  | .hbm, ⟨23, _⟩ => ⟨S1x4096x4x128, .f32⟩
  | .hbm, ⟨24, _⟩ => ⟨S1x4096x512, .f32⟩
  | .hbm, ⟨25, _⟩ => ⟨S4096x512, .f32⟩
  | _, _ => ⟨S1x4096x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel6.lean ====
abbrev S4096x256 : Shape := ⟨2, ![4096, 256]⟩
abbrev S256 : Shape := ⟨1, ![256]⟩
abbrev S256x768 : Shape := ⟨2, ![256, 768]⟩
abbrev S256x1024 : Shape := ⟨2, ![256, 1024]⟩
abbrev S4096x768 : Shape := ⟨2, ![4096, 768]⟩
abbrev S4096x1024 : Shape := ⟨2, ![4096, 1024]⟩
abbrev S_ : Shape := ⟨0, ![]⟩
abbrev S4096x4608 : Shape := ⟨2, ![4096, 4608]⟩
abbrev S4096x1792 : Shape := ⟨2, ![4096, 1792]⟩
abbrev S4096x6912 : Shape := ⟨2, ![4096, 6912]⟩
abbrev S4096 : Shape := ⟨1, ![4096]⟩
abbrev S4096x1 : Shape := ⟨2, ![4096, 1]⟩
abbrev S1x256 : Shape := ⟨2, ![1, 256]⟩
abbrev S256x4x192 : Shape := ⟨3, ![256, 4, 192]⟩
abbrev S256x4x32 : Shape := ⟨3, ![256, 4, 32]⟩
abbrev S256x4x160 : Shape := ⟨3, ![256, 4, 160]⟩
abbrev S256x4x256 : Shape := ⟨3, ![256, 4, 256]⟩
abbrev S4096x4x192 : Shape := ⟨3, ![4096, 4, 192]⟩
abbrev S4096x4x32 : Shape := ⟨3, ![4096, 4, 32]⟩
abbrev S4096x4x160 : Shape := ⟨3, ![4096, 4, 160]⟩
abbrev S4096x4x256 : Shape := ⟨3, ![4096, 4, 256]⟩
abbrev S4096x512 : Shape := ⟨2, ![4096, 512]⟩
abbrev S256x512 : Shape := ⟨2, ![256, 512]⟩
abbrev S512x1024 : Shape := ⟨2, ![512, 1024]⟩
abbrev S512x256 : Shape := ⟨2, ![512, 256]⟩
abbrev S8x256 : Shape := ⟨2, ![8, 256]⟩
abbrev S512 : Shape := ⟨1, ![512]⟩
abbrev S512x1 : Shape := ⟨2, ![512, 1]⟩

abbrev nBuf : Space → Nat
  | .hbm => 86
  | .vmem => 36
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256, .f32⟩
  | .hbm, ⟨3, _⟩ => ⟨S256, .f32⟩
  | .hbm, ⟨4, _⟩ => ⟨S256x768, .f32⟩
  | .hbm, ⟨5, _⟩ => ⟨S256x1024, .f32⟩
  | .hbm, ⟨6, _⟩ => ⟨S4096x768, .f32⟩
  | .hbm, ⟨7, _⟩ => ⟨S4096x1024, .f32⟩
  | .hbm, ⟨8, _⟩ => ⟨S_, .f32⟩
  | .hbm, ⟨9, _⟩ => ⟨S4096x4608, .f32⟩
  | .hbm, ⟨10, _⟩ => ⟨S_, .f32⟩
  | .hbm, ⟨11, _⟩ => ⟨S4096x1792, .f32⟩
  | .hbm, ⟨12, _⟩ => ⟨S4096x6912, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x256, .f32⟩
  | .hbm, ⟨25, _⟩ => ⟨S4096x256, .f32⟩
  | .hbm, ⟨26, _⟩ => ⟨S1x256, .f32⟩
  | .hbm, ⟨27, _⟩ => ⟨S4096x256, .f32⟩
  | .hbm, ⟨28, _⟩ => ⟨S4096x256, .f32⟩
  | .hbm, ⟨29, _⟩ => ⟨S4096x256, .bf16⟩
  | .hbm, ⟨30, _⟩ => ⟨S4096x256, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x256, .f32⟩
  | .hbm, ⟨42, _⟩ => ⟨S4096x256, .f32⟩
  | .hbm, ⟨43, _⟩ => ⟨S1x256, .f32⟩
  | .hbm, ⟨44, _⟩ => ⟨S4096x256, .f32⟩
  | .hbm, ⟨45, _⟩ => ⟨S4096x256, .f32⟩
  | .hbm, ⟨46, _⟩ => ⟨S4096x256, .bf16⟩
  | .hbm, ⟨47, _⟩ => ⟨S256x768, .bf16⟩
  | .hbm, ⟨48, _⟩ => ⟨S256x4x192, .bf16⟩
  | .hbm, ⟨49, _⟩ => ⟨S_, .bf16⟩
  | .hbm, ⟨50, _⟩ => ⟨S256x4x32, .bf16⟩
  | .hbm, ⟨51, _⟩ => ⟨S256x4x160, .bf16⟩
  | .hbm, ⟨52, _⟩ => ⟨S256x4x32, .bf16⟩
  | .hbm, ⟨53, _⟩ => ⟨S256x4x256, .bf16⟩
  | .hbm, ⟨54, _⟩ => ⟨S256x1024, .bf16⟩
  | .hbm, ⟨55, _⟩ => ⟨S256x1024, .bf16⟩
  | .hbm, ⟨56, _⟩ => ⟨S4096x768, .bf16⟩
  | .hbm, ⟨57, _⟩ => ⟨S4096x4x192, .bf16⟩
  | .hbm, ⟨58, _⟩ => ⟨S_, .bf16⟩
  | .hbm, ⟨59, _⟩ => ⟨S4096x4x32, .bf16⟩
  | .hbm, ⟨60, _⟩ => ⟨S4096x4x160, .bf16⟩
  | .hbm, ⟨61, _⟩ => ⟨S4096x4x32, .bf16⟩
  | .hbm, ⟨62, _⟩ => ⟨S4096x4x256, .bf16⟩
  | .hbm, ⟨63, _⟩ => ⟨S4096x1024, .bf16⟩
  | .hbm, ⟨64, _⟩ => ⟨S4096x1024, .bf16⟩
  | .hbm, ⟨65, _⟩ => ⟨S256x1024, .f32⟩
  | .hbm, ⟨66, _⟩ => ⟨S256x1024, .f32⟩
  | .hbm, ⟨67, _⟩ => ⟨S4096x256, .f32⟩
  | .hbm, ⟨68, _⟩ => ⟨S4096x256, .f32⟩
  | .hbm, ⟨69, _⟩ => ⟨S1x256, .f32⟩
  | .hbm, ⟨70, _⟩ => ⟨S4096x256, .bf16⟩
  | .hbm, ⟨71, _⟩ => ⟨S8x256, .f32⟩
  | .hbm, ⟨72, _⟩ => ⟨S1x256, .f32⟩
  | .hbm, ⟨73, _⟩ => ⟨S4096x256, .bf16⟩
  | .hbm, ⟨74, _⟩ => ⟨S8x256, .f32⟩
  | .hbm, ⟨75, _⟩ => ⟨S4096x256, .f32⟩
  | .hbm, ⟨76, _⟩ => ⟨S4096x256, .f32⟩
  | .hbm, ⟨77, _⟩ => ⟨S1x256, .f32⟩
  | .hbm, ⟨78, _⟩ => ⟨S256, .f32⟩
  | .hbm, ⟨79, _⟩ => ⟨S1x256, .f32⟩
  | .hbm, ⟨80, _⟩ => ⟨S256, .f32⟩
  | .hbm, ⟨81, _⟩ => ⟨S256x4x256, .f32⟩
  | .hbm, ⟨82, _⟩ => ⟨S256x4x160, .f32⟩
  | .hbm, ⟨83, _⟩ => ⟨S256x4x32, .f32⟩
  | .hbm, ⟨84, _⟩ => ⟨S256x4x192, .f32⟩
  | .hbm, ⟨85, _⟩ => ⟨S256x768, .f32⟩
  | .local _ .vmem, ⟨0, _⟩ => ⟨S4096x256, .bf16⟩
  | .local _ .vmem, ⟨1, _⟩ => ⟨S4096x512, .bf16⟩
  | .local _ .vmem, ⟨2, _⟩ => ⟨S4096x512, .bf16⟩
  | .local _ .vmem, ⟨3, _⟩ => ⟨S256x512, .f32⟩
  | .local _ .vmem, ⟨4, _⟩ => ⟨S256x512, .f32⟩
  | .local _ .vmem, ⟨5, _⟩ => ⟨S4096x256, .bf16⟩
  | .local _ .vmem, ⟨6, _⟩ => ⟨S4096x512, .bf16⟩
  | .local _ .vmem, ⟨7, _⟩ => ⟨S4096x512, .bf16⟩
  | .local _ .vmem, ⟨8, _⟩ => ⟨S256x512, .f32⟩
  | .local _ .vmem, ⟨9, _⟩ => ⟨S256x512, .f32⟩
  | .local _ .vmem, ⟨10, _⟩ => ⟨S512x1024, .bf16⟩
  | .local _ .vmem, ⟨11, _⟩ => ⟨S512x1024, .bf16⟩
  | .local _ .vmem, ⟨12, _⟩ => ⟨S256x1024, .bf16⟩
  | .local _ .vmem, ⟨13, _⟩ => ⟨S512x256, .f32⟩
  | .local _ .vmem, ⟨14, _⟩ => ⟨S512x256, .f32⟩
  | .local _ .vmem, ⟨15, _⟩ => ⟨S512x1024, .bf16⟩
  | .local _ .vmem, ⟨16, _⟩ => ⟨S512x1024, .bf16⟩
  | .local _ .vmem, ⟨17, _⟩ => ⟨S256x1024, .bf16⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S1x256, .f32⟩
  | .local _ .vmem, ⟨23, _⟩ => ⟨S512x256, .f32⟩
  | .local _ .vmem, ⟨24, _⟩ => ⟨S512x256, .f32⟩
  | .local _ .vmem, ⟨25, _⟩ => ⟨S512x256, .bf16⟩
  | .local _ .vmem, ⟨26, _⟩ => ⟨S512x256, .bf16⟩
  | .local _ .vmem, ⟨27, _⟩ => ⟨S8x256, .f32⟩
  | .local _ .vmem, ⟨28, _⟩ => ⟨S512x256, .f32⟩
  | .local _ .vmem, ⟨29, _⟩ => ⟨S512x256, .f32⟩
  | .local _ .vmem, ⟨30, _⟩ => ⟨S1x256, .f32⟩
  | .local _ .vmem, ⟨31, _⟩ => ⟨S512x256, .f32⟩
  | .local _ .vmem, ⟨32, _⟩ => ⟨S512x256, .f32⟩
  | .local _ .vmem, ⟨33, _⟩ => ⟨S512x256, .bf16⟩
  | .local _ .vmem, ⟨34, _⟩ => ⟨S512x256, .bf16⟩
  | .local _ .vmem, ⟨35, _⟩ => ⟨S8x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52_0 : Ref sig .tc := ⟨.hbm, 70, rfl⟩
abbrev main_v52_1 : Ref sig .tc := ⟨.hbm, 71, rfl⟩
abbrev main_v53 : Ref sig .tc := ⟨.hbm, 72, rfl⟩
abbrev main_v54_0 : Ref sig .tc := ⟨.hbm, 73, rfl⟩
abbrev main_v54_1 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc4_stg3_0 : Ref sig .tc := ⟨.vmem, 25, rfl⟩
abbrev cc4_stg3_1 : Ref sig .tc := ⟨.vmem, 26, rfl⟩
abbrev cc4_stg4_0 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc5_stg3_0 : Ref sig .tc := ⟨.vmem, 33, rfl⟩
abbrev cc5_stg3_1 : Ref sig .tc := ⟨.vmem, 34, rfl⟩
abbrev cc5_stg4_0 : Ref sig .tc := ⟨.vmem, 35, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc4_sem3_0 : DmaSem sig := 25
abbrev cc4_sem3_1 : DmaSem sig := 26
abbrev cc4_sem4_0 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc5_sem3_0 : DmaSem sig := 33
abbrev cc5_sem3_1 : DmaSem sig := 34
abbrev cc5_sem4_0 : DmaSem sig := 35

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev grid1 : Pipeline.Grid := ⟨3, ![1, 1, 2], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage1_0 : Fin 1 → Memref sig .tc .vmem S4096x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev grid2 : Pipeline.Grid := ⟨3, ![1, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false]

abbrev stage2_1 : Fin 1 → Memref sig .tc .vmem S256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, true]

abbrev stage2_2 : Fin 2 → Memref sig .tc .vmem S512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev grid3 : Pipeline.Grid := ⟨3, ![1, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, false]

abbrev stage3_1 : Fin 1 → Memref sig .tc .vmem S256x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false, true]

abbrev stage3_2 : Fin 2 → Memref sig .tc .vmem S512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev grid4 : Pipeline.Grid := ⟨1, ![8], ![false]⟩

def cc4_transform_0 (i : grid4.Coords) : Fin 2 → Nat :=
  let arg0 : BitVec 32 := BitVec.ofNat 32 (i 0).val
  let c18_i32 : BitVec 32 := 18#32
  let c0_i32 : BitVec 32 := 0#32
  ![arg0.toNat, c18_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S512x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S8x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![8], ![false]⟩

def cc5_transform_0 (i : grid5.Coords) : Fin 2 → Nat :=
  let arg0 : BitVec 32 := BitVec.ofNat 32 (i 0).val
  let c19_i32 : BitVec 32 := 19#32
  let c0_i32 : BitVec 32 := 0#32
  ![arg0.toNat, c19_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S8x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]
-- ==== Reference6Ideal.lean ====
abbrev S4096x256 : Shape := ⟨2, ![4096, 256]⟩
abbrev S256 : Shape := ⟨1, ![256]⟩
abbrev S256x768 : Shape := ⟨2, ![256, 768]⟩
abbrev S256x1024 : Shape := ⟨2, ![256, 1024]⟩
abbrev S4096x768 : Shape := ⟨2, ![4096, 768]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S1024x256 : Shape := ⟨2, ![1024, 256]⟩
abbrev S768x256 : Shape := ⟨2, ![768, 256]⟩

abbrev nBuf : Space → Nat
  | .hbm => 106
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256, .f32⟩
  | .hbm, ⟨3, _⟩ => ⟨S256, .f32⟩
  | .hbm, ⟨4, _⟩ => ⟨S256x768, .f32⟩
  | .hbm, ⟨5, _⟩ => ⟨S256x1024, .f32⟩
  | .hbm, ⟨6, _⟩ => ⟨S4096x768, .f32⟩
  | .hbm, ⟨7, _⟩ => ⟨S4096x1024, .f32⟩
  | .hbm, ⟨8, _⟩ => ⟨S4096x256, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x256, .f32⟩
  | .hbm, ⟨24, _⟩ => ⟨S4096x256, .f32⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S4096x768, .f32⟩
  | .hbm, ⟨29, _⟩ => ⟨S4096x256, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x256, .f32⟩
  | .hbm, ⟨45, _⟩ => ⟨S4096x256, .f32⟩
  | .hbm, ⟨46, _⟩ => ⟨S1x256, .f32⟩
  | .hbm, ⟨47, _⟩ => ⟨S4096x256, .f32⟩
  | .hbm, ⟨48, _⟩ => ⟨S4096x256, .f32⟩
  | .hbm, ⟨49, _⟩ => ⟨S4096x1024, .f32⟩
  | .hbm, ⟨50, _⟩ => ⟨S1024x256, .f32⟩
  | .hbm, ⟨51, _⟩ => ⟨S256x1024, .f32⟩
  | .hbm, ⟨52, _⟩ => ⟨S4096x256, .f32⟩
  | .hbm, ⟨53, _⟩ => ⟨S4096x256, .f32⟩
  | .hbm, ⟨54, _⟩ => ⟨S_, .f32⟩
  | .hbm, ⟨55, _⟩ => ⟨S256, .f32⟩
  | .hbm, ⟨56, _⟩ => ⟨S1x256, .f32⟩
  | .hbm, ⟨57, _⟩ => ⟨S4096x256, .f32⟩
  | .hbm, ⟨58, _⟩ => ⟨S4096x256, .f32⟩
  | .hbm, ⟨59, _⟩ => ⟨S_, .f32⟩
  | .hbm, ⟨60, _⟩ => ⟨S256, .f32⟩
  | .hbm, ⟨61, _⟩ => ⟨S4096x256, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x256, .f32⟩
  | .hbm, ⟨66, _⟩ => ⟨S4096x256, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x256, .f32⟩
  | .hbm, ⟨74, _⟩ => ⟨S4096x256, .f32⟩
  | .hbm, ⟨75, _⟩ => ⟨S4096x256, .f32⟩
  | .hbm, ⟨76, _⟩ => ⟨S4096x256, .f32⟩
  | .hbm, ⟨77, _⟩ => ⟨S4096x256, .f32⟩
  | .hbm, ⟨78, _⟩ => ⟨S768x256, .f32⟩
  | .hbm, ⟨79, _⟩ => ⟨S256x768, .f32⟩
  | .hbm, ⟨80, _⟩ => ⟨S4096x256, .f32⟩
  | .hbm, ⟨81, _⟩ => ⟨S4096x256, .f32⟩
  | .hbm, ⟨82, _⟩ => ⟨S_, .f32⟩
  | .hbm, ⟨83, _⟩ => ⟨S256, .f32⟩
  | .hbm, ⟨84, _⟩ => ⟨S1x256, .f32⟩
  | .hbm, ⟨85, _⟩ => ⟨S4096x256, .f32⟩
  | .hbm, ⟨86, _⟩ => ⟨S4096x256, .f32⟩
  | .hbm, ⟨87, _⟩ => ⟨S_, .f32⟩
  | .hbm, ⟨88, _⟩ => ⟨S256, .f32⟩
  | .hbm, ⟨89, _⟩ => ⟨S4096x256, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x256, .f32⟩
  | .hbm, ⟨94, _⟩ => ⟨S4096x256, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x256, .f32⟩
  | .hbm, ⟨102, _⟩ => ⟨S4096x256, .f32⟩
  | .hbm, ⟨103, _⟩ => ⟨S4096x256, .f32⟩
  | .hbm, ⟨104, _⟩ => ⟨S4096x256, .f32⟩
  | .hbm, ⟨105, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_13 : Ref sig .tc := ⟨.hbm, 87, rfl⟩
abbrev main_v65 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_15 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== Kernel7.lean ====
abbrev S4x1024 : Shape := ⟨2, ![4, 1024]⟩
abbrev S4x64 : Shape := ⟨2, ![4, 64]⟩
abbrev S4x8x15x31 : Shape := ⟨4, ![4, 8, 15, 31]⟩
abbrev S4x256 : Shape := ⟨2, ![4, 256]⟩
abbrev S4x128 : Shape := ⟨2, ![4, 128]⟩
abbrev S4x192 : Shape := ⟨2, ![4, 192]⟩
abbrev S4096 : Shape := ⟨1, ![4096]⟩
abbrev S256 : Shape := ⟨1, ![256]⟩
abbrev S14880 : Shape := ⟨1, ![14880]⟩
abbrev S1024 : Shape := ⟨1, ![1024]⟩
abbrev S512 : Shape := ⟨1, ![512]⟩
abbrev S768 : Shape := ⟨1, ![768]⟩
abbrev S33824 : Shape := ⟨1, ![33824]⟩
abbrev S_ : Shape := ⟨0, ![]⟩
abbrev S34816 : Shape := ⟨1, ![34816]⟩
abbrev S272x128 : Shape := ⟨2, ![272, 128]⟩
abbrev S16x128 : Shape := ⟨2, ![16, 128]⟩

abbrev nBuf : Space → Nat
  | .hbm => 244
  | .vmem => 14
  | .smem => 0
  | _ => 0

abbrev hbmTy0_0 (i : Nat) : BufTy := match i % 128 with
  | 0 => ⟨S4x1024, .f32⟩
  | 1 => ⟨S4x1024, .f32⟩
  | 2 => ⟨S4x64, .f32⟩
  | 3 => ⟨S4x64, .f32⟩
  | 4 => ⟨S4x8x15x31, .f32⟩
  | 5 => ⟨S4x256, .f32⟩
  | 6 => ⟨S4x256, .f32⟩
  | 7 => ⟨S4x128, .f32⟩
  | 8 => ⟨S4x256, .f32⟩
  | 9 => ⟨S4x256, .f32⟩
  | 10 => ⟨S4x192, .f32⟩
  | 11 => ⟨S4x192, .f32⟩
  | 12 => ⟨S4x1024, .f32⟩
  | 13 => ⟨S4x1024, .f32⟩
  | 14 => ⟨S4x1024, .f32⟩
  | 15 => ⟨S4x64, .f32⟩
  | 16 => ⟨S4x64, .f32⟩
  | 17 => ⟨S4x8x15x31, .f32⟩
  | 18 => ⟨S4x256, .f32⟩
  | 19 => ⟨S4x256, .f32⟩
  | 20 => ⟨S4x128, .f32⟩
  | 21 => ⟨S4x256, .f32⟩
  | 22 => ⟨S4x256, .f32⟩
  | 23 => ⟨S4x192, .f32⟩
  | 24 => ⟨S4x192, .f32⟩
  | 25 => ⟨S4x1024, .f32⟩
  | 26 => ⟨S4x1024, .f32⟩
  | 27 => ⟨S4x1024, .f32⟩
  | 28 => ⟨S4x64, .f32⟩
  | 29 => ⟨S4x64, .f32⟩
  | 30 => ⟨S4x8x15x31, .f32⟩
  | 31 => ⟨S4x256, .f32⟩
  | 32 => ⟨S4x256, .f32⟩
  | 33 => ⟨S4x128, .f32⟩
  | 34 => ⟨S4x256, .f32⟩
  | 35 => ⟨S4x256, .f32⟩
  | 36 => ⟨S4x192, .f32⟩
  | 37 => ⟨S4x192, .f32⟩
  | 38 => ⟨S4x1024, .f32⟩
  | 39 => ⟨S4x1024, .f32⟩
  | 40 => ⟨S4x1024, .f32⟩
  | 41 => ⟨S4x64, .f32⟩
  | 42 => ⟨S4x64, .f32⟩
  | 43 => ⟨S4x8x15x31, .f32⟩
  | 44 => ⟨S4x256, .f32⟩
  | 45 => ⟨S4x256, .f32⟩
  | 46 => ⟨S4x128, .f32⟩
  | 47 => ⟨S4x256, .f32⟩
  | 48 => ⟨S4x256, .f32⟩
  | 49 => ⟨S4x192, .f32⟩
  | 50 => ⟨S4x192, .f32⟩
  | 51 => ⟨S4x1024, .f32⟩
  | 52 => ⟨S4096, .f32⟩
  | 53 => ⟨S4096, .f32⟩
  | 54 => ⟨S256, .f32⟩
  | 55 => ⟨S256, .f32⟩
  | 56 => ⟨S14880, .f32⟩
  | 57 => ⟨S1024, .f32⟩
  | 58 => ⟨S1024, .f32⟩
  | 59 => ⟨S512, .f32⟩
  | 60 => ⟨S1024, .f32⟩
  | 61 => ⟨S1024, .f32⟩
  | 62 => ⟨S768, .f32⟩
  | 63 => ⟨S768, .f32⟩
  | 64 => ⟨S4096, .f32⟩
  | 65 => ⟨S33824, .f32⟩
  | 66 => ⟨S_, .i32⟩
  | 67 => ⟨S_, .f32⟩
  | 68 => ⟨S34816, .f32⟩
  | 69 => ⟨S272x128, .f32⟩
  | 70 => ⟨S4096, .f32⟩
  | 71 => ⟨S4096, .f32⟩
  | 72 => ⟨S256, .f32⟩
  | 73 => ⟨S256, .f32⟩
  | 74 => ⟨S14880, .f32⟩
  | 75 => ⟨S1024, .f32⟩
  | 76 => ⟨S1024, .f32⟩
  | 77 => ⟨S512, .f32⟩
  | 78 => ⟨S1024, .f32⟩
  | 79 => ⟨S1024, .f32⟩
  | 80 => ⟨S768, .f32⟩
  | 81 => ⟨S768, .f32⟩
  | 82 => ⟨S4096, .f32⟩
  | 83 => ⟨S33824, .f32⟩
  | 84 => ⟨S_, .i32⟩
  | 85 => ⟨S_, .f32⟩
  | 86 => ⟨S34816, .f32⟩
  | 87 => ⟨S272x128, .f32⟩
  | 88 => ⟨S4096, .f32⟩
  | 89 => ⟨S4096, .f32⟩
  | 90 => ⟨S256, .f32⟩
  | 91 => ⟨S256, .f32⟩
  | 92 => ⟨S14880, .f32⟩
  | 93 => ⟨S1024, .f32⟩
  | 94 => ⟨S1024, .f32⟩
  | 95 => ⟨S512, .f32⟩
  | 96 => ⟨S1024, .f32⟩
  | 97 => ⟨S1024, .f32⟩
  | 98 => ⟨S768, .f32⟩
  | 99 => ⟨S768, .f32⟩
  | 100 => ⟨S4096, .f32⟩
  | 101 => ⟨S33824, .f32⟩
  | 102 => ⟨S_, .i32⟩
  | 103 => ⟨S_, .f32⟩
  | 104 => ⟨S34816, .f32⟩
  | 105 => ⟨S272x128, .f32⟩
  | 106 => ⟨S4096, .f32⟩
  | 107 => ⟨S4096, .f32⟩
  | 108 => ⟨S256, .f32⟩
  | 109 => ⟨S256, .f32⟩
  | 110 => ⟨S14880, .f32⟩
  | 111 => ⟨S1024, .f32⟩
  | 112 => ⟨S1024, .f32⟩
  | 113 => ⟨S512, .f32⟩
  | 114 => ⟨S1024, .f32⟩
  | 115 => ⟨S1024, .f32⟩
  | 116 => ⟨S768, .f32⟩
  | 117 => ⟨S768, .f32⟩
  | 118 => ⟨S4096, .f32⟩
  | 119 => ⟨S33824, .f32⟩
  | 120 => ⟨S_, .i32⟩
  | 121 => ⟨S_, .f32⟩
  | 122 => ⟨S34816, .f32⟩
  | 123 => ⟨S272x128, .f32⟩
  | 124 => ⟨S272x128, .f32⟩
  | 125 => ⟨S272x128, .f32⟩
  | 126 => ⟨S272x128, .f32⟩
  | 127 => ⟨S34816, .f32⟩
  | _ => ⟨S4x1024, .f32⟩

abbrev hbmTy0_1 (i : Nat) : BufTy := match i % 128 with
  | 0 => ⟨S4096, .f32⟩
  | 1 => ⟨S4x1024, .f32⟩
  | 2 => ⟨S34816, .f32⟩
  | 3 => ⟨S4096, .f32⟩
  | 4 => ⟨S4x1024, .f32⟩
  | 5 => ⟨S34816, .f32⟩
  | 6 => ⟨S4096, .f32⟩
  | 7 => ⟨S4x1024, .f32⟩
  | 8 => ⟨S34816, .f32⟩
  | 9 => ⟨S4096, .f32⟩
  | 10 => ⟨S4x1024, .f32⟩
  | 11 => ⟨S34816, .f32⟩
  | 12 => ⟨S4096, .f32⟩
  | 13 => ⟨S4x1024, .f32⟩
  | 14 => ⟨S34816, .f32⟩
  | 15 => ⟨S4096, .f32⟩
  | 16 => ⟨S4x1024, .f32⟩
  | 17 => ⟨S34816, .f32⟩
  | 18 => ⟨S256, .f32⟩
  | 19 => ⟨S4x64, .f32⟩
  | 20 => ⟨S34816, .f32⟩
  | 21 => ⟨S256, .f32⟩
  | 22 => ⟨S4x64, .f32⟩
  | 23 => ⟨S34816, .f32⟩
  | 24 => ⟨S256, .f32⟩
  | 25 => ⟨S4x64, .f32⟩
  | 26 => ⟨S34816, .f32⟩
  | 27 => ⟨S256, .f32⟩
  | 28 => ⟨S4x64, .f32⟩
  | 29 => ⟨S34816, .f32⟩
  | 30 => ⟨S256, .f32⟩
  | 31 => ⟨S4x64, .f32⟩
  | 32 => ⟨S34816, .f32⟩
  | 33 => ⟨S256, .f32⟩
  | 34 => ⟨S4x64, .f32⟩
  | 35 => ⟨S34816, .f32⟩
  | 36 => ⟨S14880, .f32⟩
  | 37 => ⟨S4x8x15x31, .f32⟩
  | 38 => ⟨S34816, .f32⟩
  | 39 => ⟨S14880, .f32⟩
  | 40 => ⟨S4x8x15x31, .f32⟩
  | 41 => ⟨S34816, .f32⟩
  | 42 => ⟨S14880, .f32⟩
  | 43 => ⟨S4x8x15x31, .f32⟩
  | 44 => ⟨S34816, .f32⟩
  | 45 => ⟨S1024, .f32⟩
  | 46 => ⟨S4x256, .f32⟩
  | 47 => ⟨S34816, .f32⟩
  | 48 => ⟨S1024, .f32⟩
  | 49 => ⟨S4x256, .f32⟩
  | 50 => ⟨S34816, .f32⟩
  | 51 => ⟨S1024, .f32⟩
  | 52 => ⟨S4x256, .f32⟩
  | 53 => ⟨S34816, .f32⟩
  | 54 => ⟨S1024, .f32⟩
  | 55 => ⟨S4x256, .f32⟩
  | 56 => ⟨S34816, .f32⟩
  | 57 => ⟨S1024, .f32⟩
  | 58 => ⟨S4x256, .f32⟩
  | 59 => ⟨S34816, .f32⟩
  | 60 => ⟨S1024, .f32⟩
  | 61 => ⟨S4x256, .f32⟩
  | 62 => ⟨S34816, .f32⟩
  | 63 => ⟨S512, .f32⟩
  | 64 => ⟨S4x128, .f32⟩
  | 65 => ⟨S34816, .f32⟩
  | 66 => ⟨S512, .f32⟩
  | 67 => ⟨S4x128, .f32⟩
  | 68 => ⟨S34816, .f32⟩
  | 69 => ⟨S512, .f32⟩
  | 70 => ⟨S4x128, .f32⟩
  | 71 => ⟨S34816, .f32⟩
  | 72 => ⟨S1024, .f32⟩
  | 73 => ⟨S4x256, .f32⟩
  | 74 => ⟨S34816, .f32⟩
  | 75 => ⟨S1024, .f32⟩
  | 76 => ⟨S4x256, .f32⟩
  | 77 => ⟨S34816, .f32⟩
  | 78 => ⟨S1024, .f32⟩
  | 79 => ⟨S4x256, .f32⟩
  | 80 => ⟨S34816, .f32⟩
  | 81 => ⟨S1024, .f32⟩
  | 82 => ⟨S4x256, .f32⟩
  | 83 => ⟨S34816, .f32⟩
  | 84 => ⟨S1024, .f32⟩
  | 85 => ⟨S4x256, .f32⟩
  | 86 => ⟨S34816, .f32⟩
  | 87 => ⟨S1024, .f32⟩
  | 88 => ⟨S4x256, .f32⟩
  | 89 => ⟨S34816, .f32⟩
  | 90 => ⟨S768, .f32⟩
  | 91 => ⟨S4x192, .f32⟩
  | 92 => ⟨S34816, .f32⟩
  | 93 => ⟨S768, .f32⟩
  | 94 => ⟨S4x192, .f32⟩
  | 95 => ⟨S34816, .f32⟩
  | 96 => ⟨S768, .f32⟩
  | 97 => ⟨S4x192, .f32⟩
  | 98 => ⟨S34816, .f32⟩
  | 99 => ⟨S768, .f32⟩
  | 100 => ⟨S4x192, .f32⟩
  | 101 => ⟨S34816, .f32⟩
  | 102 => ⟨S768, .f32⟩
  | 103 => ⟨S4x192, .f32⟩
  | 104 => ⟨S34816, .f32⟩
  | 105 => ⟨S768, .f32⟩
  | 106 => ⟨S4x192, .f32⟩
  | 107 => ⟨S34816, .f32⟩
  | 108 => ⟨S4096, .f32⟩
  | 109 => ⟨S4x1024, .f32⟩
  | 110 => ⟨S34816, .f32⟩
  | 111 => ⟨S4096, .f32⟩
  | 112 => ⟨S4x1024, .f32⟩
  | 113 => ⟨S34816, .f32⟩
  | 114 => ⟨S4096, .f32⟩
  | 115 => ⟨S4x1024, .f32⟩
  | _ => ⟨S4x1024, .f32⟩

abbrev hbmTy (i : Nat) : BufTy := match i / 128 with
  | 0 => hbmTy0_0 i
  | 1 => hbmTy0_1 i
  | _ => ⟨S4x1024, .f32⟩

abbrev bufTy : (tb : Table) → Fin (tcTables nBuf tb) → BufTy
  | .hbm, ⟨i, _⟩ => hbmTy i
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_c : Ref sig .tc := ⟨.hbm, 66, rfl⟩
abbrev main_call0_v0 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_c_0 : Ref sig .tc := ⟨.hbm, 84, rfl⟩
abbrev main_call1_v0 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_c_1 : Ref sig .tc := ⟨.hbm, 102, rfl⟩
abbrev main_call2_v0 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_c_2 : Ref sig .tc := ⟨.hbm, 120, rfl⟩
abbrev main_call3_v0 : Ref sig .tc := ⟨.hbm, 121, rfl⟩
abbrev main_v62 : Ref sig .tc := ⟨.hbm, 122, rfl⟩
abbrev main_v63 : Ref sig .tc := ⟨.hbm, 123, rfl⟩
abbrev main_v64_0 : Ref sig .tc := ⟨.hbm, 124, rfl⟩
abbrev main_v64_1 : Ref sig .tc := ⟨.hbm, 125, rfl⟩
abbrev main_v64_2 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S4x1024 : Shape := ⟨2, ![4, 1024]⟩
abbrev S4x64 : Shape := ⟨2, ![4, 64]⟩
abbrev S4x8x15x31 : Shape := ⟨4, ![4, 8, 15, 31]⟩
abbrev S4x256 : Shape := ⟨2, ![4, 256]⟩
abbrev S4x128 : Shape := ⟨2, ![4, 128]⟩
abbrev S4x192 : Shape := ⟨2, ![4, 192]⟩
abbrev S_ : Shape := ⟨0, ![]⟩

abbrev nBuf : Space → Nat
  | .hbm => 481
  | .vmem => 0
  | .smem => 0
  | _ => 0

abbrev hbmTy0_0 (i : Nat) : BufTy := match i % 128 with
  | 0 => ⟨S4x1024, .f32⟩
  | 1 => ⟨S4x1024, .f32⟩
  | 2 => ⟨S4x64, .f32⟩
  | 3 => ⟨S4x64, .f32⟩
  | 4 => ⟨S4x8x15x31, .f32⟩
  | 5 => ⟨S4x256, .f32⟩
  | 6 => ⟨S4x256, .f32⟩
  | 7 => ⟨S4x128, .f32⟩
  | 8 => ⟨S4x256, .f32⟩
  | 9 => ⟨S4x256, .f32⟩
  | 10 => ⟨S4x192, .f32⟩
  | 11 => ⟨S4x192, .f32⟩
  | 12 => ⟨S4x1024, .f32⟩
  | 13 => ⟨S4x1024, .f32⟩
  | 14 => ⟨S4x1024, .f32⟩
  | 15 => ⟨S4x64, .f32⟩
  | 16 => ⟨S4x64, .f32⟩
  | 17 => ⟨S4x8x15x31, .f32⟩
  | 18 => ⟨S4x256, .f32⟩
  | 19 => ⟨S4x256, .f32⟩
  | 20 => ⟨S4x128, .f32⟩
  | 21 => ⟨S4x256, .f32⟩
  | 22 => ⟨S4x256, .f32⟩
  | 23 => ⟨S4x192, .f32⟩
  | 24 => ⟨S4x192, .f32⟩
  | 25 => ⟨S4x1024, .f32⟩
  | 26 => ⟨S4x1024, .f32⟩
  | 27 => ⟨S4x1024, .f32⟩
  | 28 => ⟨S4x64, .f32⟩
  | 29 => ⟨S4x64, .f32⟩
  | 30 => ⟨S4x8x15x31, .f32⟩
  | 31 => ⟨S4x256, .f32⟩
  | 32 => ⟨S4x256, .f32⟩
  | 33 => ⟨S4x128, .f32⟩
  | 34 => ⟨S4x256, .f32⟩
  | 35 => ⟨S4x256, .f32⟩
  | 36 => ⟨S4x192, .f32⟩
  | 37 => ⟨S4x192, .f32⟩
  | 38 => ⟨S4x1024, .f32⟩
  | 39 => ⟨S4x1024, .f32⟩
  | 40 => ⟨S4x1024, .f32⟩
  | 41 => ⟨S4x64, .f32⟩
  | 42 => ⟨S4x64, .f32⟩
  | 43 => ⟨S4x8x15x31, .f32⟩
  | 44 => ⟨S4x256, .f32⟩
  | 45 => ⟨S4x256, .f32⟩
  | 46 => ⟨S4x128, .f32⟩
  | 47 => ⟨S4x256, .f32⟩
  | 48 => ⟨S4x256, .f32⟩
  | 49 => ⟨S4x192, .f32⟩
  | 50 => ⟨S4x192, .f32⟩
  | 51 => ⟨S4x1024, .f32⟩
  | 52 => ⟨S_, .f32⟩
  | 53 => ⟨S4x1024, .f32⟩
  | 54 => ⟨S4x1024, .f32⟩
  | 55 => ⟨S_, .f32⟩
  | 56 => ⟨S4x1024, .f32⟩
  | 57 => ⟨S4x1024, .f32⟩
  | 58 => ⟨S4x1024, .f32⟩
  | 59 => ⟨S_, .f32⟩
  | 60 => ⟨S4x1024, .f32⟩
  | 61 => ⟨S4x1024, .f32⟩
  | 62 => ⟨S4x1024, .f32⟩
  | 63 => ⟨S_, .f32⟩
  | 64 => ⟨S4x1024, .f32⟩
  | 65 => ⟨S4x1024, .f32⟩
  | 66 => ⟨S4x1024, .f32⟩
  | 67 => ⟨S_, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S4x1024, .f32⟩
  | 74 => ⟨S_, .f32⟩
  | 75 => ⟨S4x1024, .f32⟩
  | 76 => ⟨S4x1024, .f32⟩
  | 77 => ⟨S4x1024, .f32⟩
  | 78 => ⟨S_, .f32⟩
  | 79 => ⟨S4x1024, .f32⟩
  | 80 => ⟨S4x1024, .f32⟩
  | 81 => ⟨S4x1024, .f32⟩
  | 82 => ⟨S_, .f32⟩
  | 83 => ⟨S4x1024, .f32⟩
  | 84 => ⟨S4x1024, .f32⟩
  | 85 => ⟨S_, .f32⟩
  | 86 => ⟨S4x1024, .f32⟩
  | 87 => ⟨S4x1024, .f32⟩
  | 88 => ⟨S_, .f32⟩
  | 89 => ⟨S4x1024, .f32⟩
  | 90 => ⟨S4x1024, .f32⟩
  | 91 => ⟨S4x1024, .f32⟩
  | 92 => ⟨S_, .f32⟩
  | 93 => ⟨S4x1024, .f32⟩
  | 94 => ⟨S4x1024, .f32⟩
  | 95 => ⟨S4x1024, .f32⟩
  | 96 => ⟨S_, .f32⟩
  | 97 => ⟨S4x1024, .f32⟩
  | 98 => ⟨S4x1024, .f32⟩
  | 99 => ⟨S4x1024, .f32⟩
  | 100 => ⟨S_, .f32⟩
  | 101 => ⟨S4x1024, .f32⟩
  | 102 => ⟨S4x1024, .f32⟩
  | 103 => ⟨S_, .f32⟩
  | 104 => ⟨S4x1024, .f32⟩
  | 105 => ⟨S4x1024, .f32⟩
  | 106 => ⟨S4x1024, .f32⟩
  | 107 => ⟨S_, .f32⟩
  | 108 => ⟨S4x1024, .f32⟩
  | 109 => ⟨S4x1024, .f32⟩
  | 110 => ⟨S4x1024, .f32⟩
  | 111 => ⟨S_, .f32⟩
  | 112 => ⟨S4x1024, .f32⟩
  | 113 => ⟨S4x1024, .f32⟩
  | 114 => ⟨S4x1024, .f32⟩
  | 115 => ⟨S_, .f32⟩
  | 116 => ⟨S4x1024, .f32⟩
  | 117 => ⟨S4x1024, .f32⟩
  | 118 => ⟨S_, .f32⟩
  | 119 => ⟨S4x64, .f32⟩
  | 120 => ⟨S4x64, .f32⟩
  | 121 => ⟨S_, .f32⟩
  | 122 => ⟨S4x64, .f32⟩
  | 123 => ⟨S4x64, .f32⟩
  | 124 => ⟨S4x64, .f32⟩
  | 125 => ⟨S_, .f32⟩
  | 126 => ⟨S4x64, .f32⟩
  | 127 => ⟨S4x64, .f32⟩
  | _ => ⟨S4x1024, .f32⟩

abbrev hbmTy0_1 (i : Nat) : BufTy := match i % 128 with
  | 0 => ⟨S4x64, .f32⟩
  | 1 => ⟨S_, .f32⟩
  | 2 => ⟨S4x64, .f32⟩
  | 3 => ⟨S4x64, .f32⟩
  | 4 => ⟨S4x64, .f32⟩
  | 5 => ⟨S_, .f32⟩
  | 6 => ⟨S4x64, .f32⟩
  | 7 => ⟨S4x64, .f32⟩
  | 8 => ⟨S_, .f32⟩
  | 9 => ⟨S4x64, .f32⟩
  | 10 => ⟨S4x64, .f32⟩
  | 11 => ⟨S4x64, .f32⟩
  | 12 => ⟨S_, .f32⟩
  | 13 => ⟨S4x64, .f32⟩
  | 14 => ⟨S4x64, .f32⟩
  | 15 => ⟨S4x64, .f32⟩
  | 16 => ⟨S_, .f32⟩
  | 17 => ⟨S4x64, .f32⟩
  | 18 => ⟨S4x64, .f32⟩
  | 19 => ⟨S4x64, .f32⟩
  | 20 => ⟨S_, .f32⟩
  | 21 => ⟨S4x64, .f32⟩
  | 22 => ⟨S4x64, .f32⟩
  | 23 => ⟨S_, .f32⟩
  | 24 => ⟨S4x64, .f32⟩
  | 25 => ⟨S4x64, .f32⟩
  | 26 => ⟨S_, .f32⟩
  | 27 => ⟨S4x64, .f32⟩
  | 28 => ⟨S4x64, .f32⟩
  | 29 => ⟨S4x64, .f32⟩
  | 30 => ⟨S_, .f32⟩
  | 31 => ⟨S4x64, .f32⟩
  | 32 => ⟨S4x64, .f32⟩
  | 33 => ⟨S4x64, .f32⟩
  | 34 => ⟨S_, .f32⟩
  | 35 => ⟨S4x64, .f32⟩
  | 36 => ⟨S4x64, .f32⟩
  | 37 => ⟨S4x64, .f32⟩
  | 38 => ⟨S_, .f32⟩
  | 39 => ⟨S4x64, .f32⟩
  | 40 => ⟨S4x64, .f32⟩
  | 41 => ⟨S_, .f32⟩
  | 42 => ⟨S4x64, .f32⟩
  | 43 => ⟨S4x64, .f32⟩
  | 44 => ⟨S4x64, .f32⟩
  | 45 => ⟨S_, .f32⟩
  | 46 => ⟨S4x64, .f32⟩
  | 47 => ⟨S4x64, .f32⟩
  | 48 => ⟨S4x64, .f32⟩
  | 49 => ⟨S_, .f32⟩
  | 50 => ⟨S4x64, .f32⟩
  | 51 => ⟨S4x64, .f32⟩
  | 52 => ⟨S4x64, .f32⟩
  | 53 => ⟨S_, .f32⟩
  | 54 => ⟨S4x64, .f32⟩
  | 55 => ⟨S4x64, .f32⟩
  | 56 => ⟨S_, .f32⟩
  | 57 => ⟨S4x8x15x31, .f32⟩
  | 58 => ⟨S4x8x15x31, .f32⟩
  | 59 => ⟨S_, .f32⟩
  | 60 => ⟨S4x8x15x31, .f32⟩
  | 61 => ⟨S4x8x15x31, .f32⟩
  | 62 => ⟨S4x8x15x31, .f32⟩
  | 63 => ⟨S_, .f32⟩
  | 64 => ⟨S4x8x15x31, .f32⟩
  | 65 => ⟨S4x8x15x31, .f32⟩
  | 66 => ⟨S4x8x15x31, .f32⟩
  | 67 => ⟨S_, .f32⟩
  | 68 => ⟨S4x8x15x31, .f32⟩
  | 69 => ⟨S4x8x15x31, .f32⟩
  | 70 => ⟨S4x8x15x31, .f32⟩
  | 71 => ⟨S_, .f32⟩
  | 72 => ⟨S4x8x15x31, .f32⟩
  | 73 => ⟨S4x8x15x31, .f32⟩
  | 74 => ⟨S_, .f32⟩
  | 75 => ⟨S4x8x15x31, .f32⟩
  | 76 => ⟨S4x8x15x31, .f32⟩
  | 77 => ⟨S4x8x15x31, .f32⟩
  | 78 => ⟨S_, .f32⟩
  | 79 => ⟨S4x8x15x31, .f32⟩
  | 80 => ⟨S4x8x15x31, .f32⟩
  | 81 => ⟨S4x8x15x31, .f32⟩
  | 82 => ⟨S_, .f32⟩
  | 83 => ⟨S4x8x15x31, .f32⟩
  | 84 => ⟨S4x8x15x31, .f32⟩
  | 85 => ⟨S4x8x15x31, .f32⟩
  | 86 => ⟨S_, .f32⟩
  | 87 => ⟨S4x8x15x31, .f32⟩
  | 88 => ⟨S4x8x15x31, .f32⟩
  | 89 => ⟨S_, .f32⟩
  | 90 => ⟨S4x256, .f32⟩
  | 91 => ⟨S4x256, .f32⟩
  | 92 => ⟨S_, .f32⟩
  | 93 => ⟨S4x256, .f32⟩
  | 94 => ⟨S4x256, .f32⟩
  | 95 => ⟨S4x256, .f32⟩
  | 96 => ⟨S_, .f32⟩
  | 97 => ⟨S4x256, .f32⟩
  | 98 => ⟨S4x256, .f32⟩
  | 99 => ⟨S4x256, .f32⟩
  | 100 => ⟨S_, .f32⟩
  | 101 => ⟨S4x256, .f32⟩
  | 102 => ⟨S4x256, .f32⟩
  | 103 => ⟨S4x256, .f32⟩
  | 104 => ⟨S_, .f32⟩
  | 105 => ⟨S4x256, .f32⟩
  | 106 => ⟨S4x256, .f32⟩
  | 107 => ⟨S_, .f32⟩
  | 108 => ⟨S4x256, .f32⟩
  | 109 => ⟨S4x256, .f32⟩
  | 110 => ⟨S4x256, .f32⟩
  | 111 => ⟨S_, .f32⟩
  | 112 => ⟨S4x256, .f32⟩
  | 113 => ⟨S4x256, .f32⟩
  | 114 => ⟨S4x256, .f32⟩
  | 115 => ⟨S_, .f32⟩
  | 116 => ⟨S4x256, .f32⟩
  | 117 => ⟨S4x256, .f32⟩
  | 118 => ⟨S4x256, .f32⟩
  | 119 => ⟨S_, .f32⟩
  | 120 => ⟨S4x256, .f32⟩
  | 121 => ⟨S4x256, .f32⟩
  | 122 => ⟨S_, .f32⟩
  | 123 => ⟨S4x256, .f32⟩
  | 124 => ⟨S4x256, .f32⟩
  | 125 => ⟨S_, .f32⟩
  | 126 => ⟨S4x256, .f32⟩
  | 127 => ⟨S4x256, .f32⟩
  | _ => ⟨S4x1024, .f32⟩

abbrev hbmTy0_2 (i : Nat) : BufTy := match i % 128 with
  | 0 => ⟨S4x256, .f32⟩
  | 1 => ⟨S_, .f32⟩
  | 2 => ⟨S4x256, .f32⟩
  | 3 => ⟨S4x256, .f32⟩
  | 4 => ⟨S4x256, .f32⟩
  | 5 => ⟨S_, .f32⟩
  | 6 => ⟨S4x256, .f32⟩
  | 7 => ⟨S4x256, .f32⟩
  | 8 => ⟨S4x256, .f32⟩
  | 9 => ⟨S_, .f32⟩
  | 10 => ⟨S4x256, .f32⟩
  | 11 => ⟨S4x256, .f32⟩
  | 12 => ⟨S_, .f32⟩
  | 13 => ⟨S4x256, .f32⟩
  | 14 => ⟨S4x256, .f32⟩
  | 15 => ⟨S4x256, .f32⟩
  | 16 => ⟨S_, .f32⟩
  | 17 => ⟨S4x256, .f32⟩
  | 18 => ⟨S4x256, .f32⟩
  | 19 => ⟨S4x256, .f32⟩
  | 20 => ⟨S_, .f32⟩
  | 21 => ⟨S4x256, .f32⟩
  | 22 => ⟨S4x256, .f32⟩
  | 23 => ⟨S4x256, .f32⟩
  | 24 => ⟨S_, .f32⟩
  | 25 => ⟨S4x256, .f32⟩
  | 26 => ⟨S4x256, .f32⟩
  | 27 => ⟨S_, .f32⟩
  | 28 => ⟨S4x128, .f32⟩
  | 29 => ⟨S4x128, .f32⟩
  | 30 => ⟨S_, .f32⟩
  | 31 => ⟨S4x128, .f32⟩
  | 32 => ⟨S4x128, .f32⟩
  | 33 => ⟨S4x128, .f32⟩
  | 34 => ⟨S_, .f32⟩
  | 35 => ⟨S4x128, .f32⟩
  | 36 => ⟨S4x128, .f32⟩
  | 37 => ⟨S4x128, .f32⟩
  | 38 => ⟨S_, .f32⟩
  | 39 => ⟨S4x128, .f32⟩
  | 40 => ⟨S4x128, .f32⟩
  | 41 => ⟨S4x128, .f32⟩
  | 42 => ⟨S_, .f32⟩
  | 43 => ⟨S4x128, .f32⟩
  | 44 => ⟨S4x128, .f32⟩
  | 45 => ⟨S_, .f32⟩
  | 46 => ⟨S4x128, .f32⟩
  | 47 => ⟨S4x128, .f32⟩
  | 48 => ⟨S4x128, .f32⟩
  | 49 => ⟨S_, .f32⟩
  | 50 => ⟨S4x128, .f32⟩
  | 51 => ⟨S4x128, .f32⟩
  | 52 => ⟨S4x128, .f32⟩
  | 53 => ⟨S_, .f32⟩
  | 54 => ⟨S4x128, .f32⟩
  | 55 => ⟨S4x128, .f32⟩
  | 56 => ⟨S4x128, .f32⟩
  | 57 => ⟨S_, .f32⟩
  | 58 => ⟨S4x128, .f32⟩
  | 59 => ⟨S4x128, .f32⟩
  | 60 => ⟨S_, .f32⟩
  | 61 => ⟨S4x256, .f32⟩
  | 62 => ⟨S4x256, .f32⟩
  | 63 => ⟨S_, .f32⟩
  | 64 => ⟨S4x256, .f32⟩
  | 65 => ⟨S4x256, .f32⟩
  | 66 => ⟨S4x256, .f32⟩
  | 67 => ⟨S_, .f32⟩
  | 68 => ⟨S4x256, .f32⟩
  | 69 => ⟨S4x256, .f32⟩
  | 70 => ⟨S4x256, .f32⟩
  | 71 => ⟨S_, .f32⟩
  | 72 => ⟨S4x256, .f32⟩
  | 73 => ⟨S4x256, .f32⟩
  | 74 => ⟨S4x256, .f32⟩
  | 75 => ⟨S_, .f32⟩
  | 76 => ⟨S4x256, .f32⟩
  | 77 => ⟨S4x256, .f32⟩
  | 78 => ⟨S_, .f32⟩
  | 79 => ⟨S4x256, .f32⟩
  | 80 => ⟨S4x256, .f32⟩
  | 81 => ⟨S4x256, .f32⟩
  | 82 => ⟨S_, .f32⟩
  | 83 => ⟨S4x256, .f32⟩
  | 84 => ⟨S4x256, .f32⟩
  | 85 => ⟨S4x256, .f32⟩
  | 86 => ⟨S_, .f32⟩
  | 87 => ⟨S4x256, .f32⟩
  | 88 => ⟨S4x256, .f32⟩
  | 89 => ⟨S4x256, .f32⟩
  | 90 => ⟨S_, .f32⟩
  | 91 => ⟨S4x256, .f32⟩
  | 92 => ⟨S4x256, .f32⟩
  | 93 => ⟨S_, .f32⟩
  | 94 => ⟨S4x256, .f32⟩
  | 95 => ⟨S4x256, .f32⟩
  | 96 => ⟨S_, .f32⟩
  | 97 => ⟨S4x256, .f32⟩
  | 98 => ⟨S4x256, .f32⟩
  | 99 => ⟨S4x256, .f32⟩
  | 100 => ⟨S_, .f32⟩
  | 101 => ⟨S4x256, .f32⟩
  | 102 => ⟨S4x256, .f32⟩
  | 103 => ⟨S4x256, .f32⟩
  | 104 => ⟨S_, .f32⟩
  | 105 => ⟨S4x256, .f32⟩
  | 106 => ⟨S4x256, .f32⟩
  | 107 => ⟨S4x256, .f32⟩
  | 108 => ⟨S_, .f32⟩
  | 109 => ⟨S4x256, .f32⟩
  | 110 => ⟨S4x256, .f32⟩
  | 111 => ⟨S_, .f32⟩
  | 112 => ⟨S4x256, .f32⟩
  | 113 => ⟨S4x256, .f32⟩
  | 114 => ⟨S4x256, .f32⟩
  | 115 => ⟨S_, .f32⟩
  | 116 => ⟨S4x256, .f32⟩
  | 117 => ⟨S4x256, .f32⟩
  | 118 => ⟨S4x256, .f32⟩
  | 119 => ⟨S_, .f32⟩
  | 120 => ⟨S4x256, .f32⟩
  | 121 => ⟨S4x256, .f32⟩
  | 122 => ⟨S4x256, .f32⟩
  | 123 => ⟨S_, .f32⟩
  | 124 => ⟨S4x256, .f32⟩
  | 125 => ⟨S4x256, .f32⟩
  | 126 => ⟨S_, .f32⟩
  | 127 => ⟨S4x192, .f32⟩
  | _ => ⟨S4x1024, .f32⟩

abbrev hbmTy0_3 (i : Nat) : BufTy := match i % 128 with
  | 0 => ⟨S4x192, .f32⟩
  | 1 => ⟨S_, .f32⟩
  | 2 => ⟨S4x192, .f32⟩
  | 3 => ⟨S4x192, .f32⟩
  | 4 => ⟨S4x192, .f32⟩
  | 5 => ⟨S_, .f32⟩
  | 6 => ⟨S4x192, .f32⟩
  | 7 => ⟨S4x192, .f32⟩
  | 8 => ⟨S4x192, .f32⟩
  | 9 => ⟨S_, .f32⟩
  | 10 => ⟨S4x192, .f32⟩
  | 11 => ⟨S4x192, .f32⟩
  | 12 => ⟨S4x192, .f32⟩
  | 13 => ⟨S_, .f32⟩
  | 14 => ⟨S4x192, .f32⟩
  | 15 => ⟨S4x192, .f32⟩
  | 16 => ⟨S_, .f32⟩
  | 17 => ⟨S4x192, .f32⟩
  | 18 => ⟨S4x192, .f32⟩
  | 19 => ⟨S4x192, .f32⟩
  | 20 => ⟨S_, .f32⟩
  | 21 => ⟨S4x192, .f32⟩
  | 22 => ⟨S4x192, .f32⟩
  | 23 => ⟨S4x192, .f32⟩
  | 24 => ⟨S_, .f32⟩
  | 25 => ⟨S4x192, .f32⟩
  | 26 => ⟨S4x192, .f32⟩
  | 27 => ⟨S4x192, .f32⟩
  | 28 => ⟨S_, .f32⟩
  | 29 => ⟨S4x192, .f32⟩
  | 30 => ⟨S4x192, .f32⟩
  | 31 => ⟨S_, .f32⟩
  | 32 => ⟨S4x192, .f32⟩
  | 33 => ⟨S4x192, .f32⟩
  | 34 => ⟨S_, .f32⟩
  | 35 => ⟨S4x192, .f32⟩
  | 36 => ⟨S4x192, .f32⟩
  | 37 => ⟨S4x192, .f32⟩
  | 38 => ⟨S_, .f32⟩
  | 39 => ⟨S4x192, .f32⟩
  | 40 => ⟨S4x192, .f32⟩
  | 41 => ⟨S4x192, .f32⟩
  | 42 => ⟨S_, .f32⟩
  | 43 => ⟨S4x192, .f32⟩
  | 44 => ⟨S4x192, .f32⟩
  | 45 => ⟨S4x192, .f32⟩
  | 46 => ⟨S_, .f32⟩
  | 47 => ⟨S4x192, .f32⟩
  | 48 => ⟨S4x192, .f32⟩
  | 49 => ⟨S_, .f32⟩
  | 50 => ⟨S4x192, .f32⟩
  | 51 => ⟨S4x192, .f32⟩
  | 52 => ⟨S4x192, .f32⟩
  | 53 => ⟨S_, .f32⟩
  | 54 => ⟨S4x192, .f32⟩
  | 55 => ⟨S4x192, .f32⟩
  | 56 => ⟨S4x192, .f32⟩
  | 57 => ⟨S_, .f32⟩
  | 58 => ⟨S4x192, .f32⟩
  | 59 => ⟨S4x192, .f32⟩
  | 60 => ⟨S4x192, .f32⟩
  | 61 => ⟨S_, .f32⟩
  | 62 => ⟨S4x192, .f32⟩
  | 63 => ⟨S4x192, .f32⟩
  | 64 => ⟨S_, .f32⟩
  | 65 => ⟨S4x1024, .f32⟩
  | 66 => ⟨S4x1024, .f32⟩
  | 67 => ⟨S_, .f32⟩
  | 68 => ⟨S4x1024, .f32⟩
  | 69 => ⟨S4x1024, .f32⟩
  | 70 => ⟨S4x1024, .f32⟩
  | 71 => ⟨S_, .f32⟩
  | 72 => ⟨S4x1024, .f32⟩
  | 73 => ⟨S4x1024, .f32⟩
  | 74 => ⟨S4x1024, .f32⟩
  | 75 => ⟨S_, .f32⟩
  | 76 => ⟨S4x1024, .f32⟩
  | 77 => ⟨S4x1024, .f32⟩
  | 78 => ⟨S4x1024, .f32⟩
  | 79 => ⟨S_, .f32⟩
  | 80 => ⟨S4x1024, .f32⟩
  | 81 => ⟨S4x1024, .f32⟩
  | 82 => ⟨S_, .f32⟩
  | 83 => ⟨S4x1024, .f32⟩
  | 84 => ⟨S4x1024, .f32⟩
  | 85 => ⟨S4x1024, .f32⟩
  | 86 => ⟨S_, .f32⟩
  | 87 => ⟨S4x1024, .f32⟩
  | 88 => ⟨S4x1024, .f32⟩
  | 89 => ⟨S4x1024, .f32⟩
  | 90 => ⟨S_, .f32⟩
  | 91 => ⟨S4x1024, .f32⟩
  | 92 => ⟨S4x1024, .f32⟩
  | 93 => ⟨S4x1024, .f32⟩
  | 94 => ⟨S_, .f32⟩
  | 95 => ⟨S4x1024, .f32⟩
  | 96 => ⟨S4x1024, .f32⟩
  | _ => ⟨S4x1024, .f32⟩

abbrev hbmTy (i : Nat) : BufTy := match i / 128 with
  | 0 => hbmTy0_0 i
  | 1 => hbmTy0_1 i
  | 2 => hbmTy0_2 i
  | 3 => hbmTy0_3 i
  | _ => ⟨S4x1024, .f32⟩

abbrev bufTy : (tb : Table) → Fin (tcTables nBuf tb) → BufTy
  | .hbm, ⟨i, _⟩ => hbmTy i
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_0 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_cst_1 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst_2 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_v12 : Ref sig .tc := ⟨.hbm, 69, rfl⟩
abbrev main_cst_4 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_5 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_6 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_7 : Ref sig .tc := ⟨.hbm, 82, rfl⟩
abbrev main_v22 : Ref sig .tc := ⟨.hbm, 83, rfl⟩
abbrev main_v23 : Ref sig .tc := ⟨.hbm, 84, rfl⟩
abbrev main_cst_8 : Ref sig .tc := ⟨.hbm, 85, rfl⟩
abbrev main_v24 : Ref sig .tc := ⟨.hbm, 86, rfl⟩
abbrev main_v25 : Ref sig .tc := ⟨.hbm, 87, rfl⟩
abbrev main_cst_9 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_11 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_12 : Ref sig .tc := ⟨.hbm, 100, rfl⟩
abbrev main_v35 : Ref sig .tc := ⟨.hbm, 101, rfl⟩
abbrev main_v36 : Ref sig .tc := ⟨.hbm, 102, rfl⟩
abbrev main_cst_13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_14 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_15 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_16 : Ref sig .tc := ⟨.hbm, 115, rfl⟩
abbrev main_v46 : Ref sig .tc := ⟨.hbm, 116, rfl⟩
abbrev main_v47 : Ref sig .tc := ⟨.hbm, 117, rfl⟩
abbrev main_cst_17 : Ref sig .tc := ⟨.hbm, 118, rfl⟩
abbrev main_v48 : Ref sig .tc := ⟨.hbm, 119, rfl⟩
abbrev main_v49 : Ref sig .tc := ⟨.hbm, 120, rfl⟩
abbrev main_cst_18 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_19 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_20 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_21 : Ref sig .tc := ⟨.hbm, 133, rfl⟩
abbrev main_v59 : Ref sig .tc := ⟨.hbm, 134, rfl⟩
abbrev main_v60 : Ref sig .tc := ⟨.hbm, 135, rfl⟩
abbrev main_cst_22 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_23 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_24 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_25 : Ref sig .tc := ⟨.hbm, 148, rfl⟩
abbrev main_v70 : Ref sig .tc := ⟨.hbm, 149, rfl⟩
abbrev main_v71 : Ref sig .tc := ⟨.hbm, 150, rfl⟩
abbrev main_cst_26 : Ref sig .tc := ⟨.hbm, 151, rfl⟩
abbrev main_v72 : Ref sig .tc := ⟨.hbm, 152, rfl⟩
abbrev main_v73 : Ref sig .tc := ⟨.hbm, 153, rfl⟩
abbrev main_cst_27 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_28 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_29 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_30 : Ref sig .tc := ⟨.hbm, 166, rfl⟩
abbrev main_v83 : Ref sig .tc := ⟨.hbm, 167, rfl⟩
abbrev main_v84 : Ref sig .tc := ⟨.hbm, 168, rfl⟩
abbrev main_cst_31 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_32 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_33 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_34 : Ref sig .tc := ⟨.hbm, 181, rfl⟩
abbrev main_v94 : Ref sig .tc := ⟨.hbm, 182, rfl⟩
abbrev main_v95 : Ref sig .tc := ⟨.hbm, 183, rfl⟩
abbrev main_cst_35 : Ref sig .tc := ⟨.hbm, 184, rfl⟩
abbrev main_v96 : Ref sig .tc := ⟨.hbm, 185, rfl⟩
abbrev main_v97 : Ref sig .tc := ⟨.hbm, 186, rfl⟩
abbrev main_cst_36 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_37 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_38 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_39 : Ref sig .tc := ⟨.hbm, 199, rfl⟩
abbrev main_v107 : Ref sig .tc := ⟨.hbm, 200, rfl⟩
abbrev main_v108 : Ref sig .tc := ⟨.hbm, 201, rfl⟩
abbrev main_cst_40 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_41 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_cst_42 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_43 : Ref sig .tc := ⟨.hbm, 214, rfl⟩
abbrev main_v118 : Ref sig .tc := ⟨.hbm, 215, rfl⟩
abbrev main_v119 : Ref sig .tc := ⟨.hbm, 216, rfl⟩
abbrev main_cst_44 : Ref sig .tc := ⟨.hbm, 217, rfl⟩
abbrev main_v120 : Ref sig .tc := ⟨.hbm, 218, rfl⟩
abbrev main_v121 : Ref sig .tc := ⟨.hbm, 219, rfl⟩
abbrev main_cst_45 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_46 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_cst_47 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_48 : Ref sig .tc := ⟨.hbm, 232, rfl⟩
abbrev main_v131 : Ref sig .tc := ⟨.hbm, 233, rfl⟩
abbrev main_v132 : Ref sig .tc := ⟨.hbm, 234, rfl⟩
abbrev main_cst_49 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_50 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_51 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_52 : Ref sig .tc := ⟨.hbm, 247, rfl⟩
abbrev main_v142 : Ref sig .tc := ⟨.hbm, 248, rfl⟩
abbrev main_v143 : Ref sig .tc := ⟨.hbm, 249, rfl⟩
abbrev main_cst_53 : Ref sig .tc := ⟨.hbm, 250, rfl⟩
abbrev main_v144 : Ref sig .tc := ⟨.hbm, 251, rfl⟩
abbrev main_v145 : Ref sig .tc := ⟨.hbm, 252, rfl⟩
abbrev main_cst_54 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_cst_55 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_cst_56 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_cst_57 : Ref sig .tc := ⟨.hbm, 265, rfl⟩
abbrev main_v155 : Ref sig .tc := ⟨.hbm, 266, rfl⟩
abbrev main_v156 : Ref sig .tc := ⟨.hbm, 267, rfl⟩
abbrev main_cst_58 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_59 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_60 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_cst_61 : Ref sig .tc := ⟨.hbm, 280, rfl⟩
abbrev main_v166 : Ref sig .tc := ⟨.hbm, 281, rfl⟩
abbrev main_v167 : Ref sig .tc := ⟨.hbm, 282, rfl⟩
abbrev main_cst_62 : Ref sig .tc := ⟨.hbm, 283, rfl⟩
abbrev main_v168 : Ref sig .tc := ⟨.hbm, 284, rfl⟩
abbrev main_v169 : Ref sig .tc := ⟨.hbm, 285, rfl⟩
abbrev main_cst_63 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_64 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_cst_65 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_66 : Ref sig .tc := ⟨.hbm, 298, rfl⟩
abbrev main_v179 : Ref sig .tc := ⟨.hbm, 299, rfl⟩
abbrev main_v180 : Ref sig .tc := ⟨.hbm, 300, rfl⟩
abbrev main_cst_67 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_68 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_69 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_cst_70 : Ref sig .tc := ⟨.hbm, 313, rfl⟩
abbrev main_v190 : Ref sig .tc := ⟨.hbm, 314, rfl⟩
abbrev main_v191 : Ref sig .tc := ⟨.hbm, 315, rfl⟩
abbrev main_cst_71 : Ref sig .tc := ⟨.hbm, 316, rfl⟩
abbrev main_v192 : Ref sig .tc := ⟨.hbm, 317, rfl⟩
abbrev main_v193 : Ref sig .tc := ⟨.hbm, 318, rfl⟩
abbrev main_cst_72 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_cst_73 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_cst_74 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_cst_75 : Ref sig .tc := ⟨.hbm, 331, rfl⟩
abbrev main_v203 : Ref sig .tc := ⟨.hbm, 332, rfl⟩
abbrev main_v204 : Ref sig .tc := ⟨.hbm, 333, rfl⟩
abbrev main_cst_76 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_77 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_78 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_79 : Ref sig .tc := ⟨.hbm, 346, rfl⟩
abbrev main_v214 : Ref sig .tc := ⟨.hbm, 347, rfl⟩
abbrev main_v215 : Ref sig .tc := ⟨.hbm, 348, rfl⟩
abbrev main_cst_80 : Ref sig .tc := ⟨.hbm, 349, rfl⟩
abbrev main_v216 : Ref sig .tc := ⟨.hbm, 350, rfl⟩
abbrev main_v217 : Ref sig .tc := ⟨.hbm, 351, rfl⟩
abbrev main_cst_81 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_cst_82 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_cst_83 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_cst_84 : Ref sig .tc := ⟨.hbm, 364, rfl⟩
abbrev main_v227 : Ref sig .tc := ⟨.hbm, 365, rfl⟩
abbrev main_v228 : Ref sig .tc := ⟨.hbm, 366, rfl⟩
abbrev main_cst_85 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_86 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_87 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_cst_88 : Ref sig .tc := ⟨.hbm, 379, rfl⟩
abbrev main_v238 : Ref sig .tc := ⟨.hbm, 380, rfl⟩
abbrev main_v239 : Ref sig .tc := ⟨.hbm, 381, rfl⟩
abbrev main_cst_89 : Ref sig .tc := ⟨.hbm, 382, rfl⟩
abbrev main_v240 : Ref sig .tc := ⟨.hbm, 383, rfl⟩
abbrev main_v241 : Ref sig .tc := ⟨.hbm, 384, rfl⟩
abbrev main_cst_90 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_cst_91 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_cst_92 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_cst_93 : Ref sig .tc := ⟨.hbm, 397, rfl⟩
abbrev main_v251 : Ref sig .tc := ⟨.hbm, 398, rfl⟩
abbrev main_v252 : Ref sig .tc := ⟨.hbm, 399, rfl⟩
abbrev main_cst_94 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_95 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_96 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_97 : Ref sig .tc := ⟨.hbm, 412, rfl⟩
abbrev main_v262 : Ref sig .tc := ⟨.hbm, 413, rfl⟩
abbrev main_v263 : Ref sig .tc := ⟨.hbm, 414, rfl⟩
abbrev main_cst_98 : Ref sig .tc := ⟨.hbm, 415, rfl⟩
abbrev main_v264 : Ref sig .tc := ⟨.hbm, 416, rfl⟩
abbrev main_v265 : Ref sig .tc := ⟨.hbm, 417, rfl⟩
abbrev main_cst_99 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_cst_100 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_cst_101 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_cst_102 : Ref sig .tc := ⟨.hbm, 430, rfl⟩
abbrev main_v275 : Ref sig .tc := ⟨.hbm, 431, rfl⟩
abbrev main_v276 : Ref sig .tc := ⟨.hbm, 432, rfl⟩
abbrev main_cst_103 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_cst_104 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_cst_105 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_cst_106 : Ref sig .tc := ⟨.hbm, 445, rfl⟩
abbrev main_v286 : Ref sig .tc := ⟨.hbm, 446, rfl⟩
abbrev main_v287 : Ref sig .tc := ⟨.hbm, 447, rfl⟩
abbrev main_cst_107 : Ref sig .tc := ⟨.hbm, 448, rfl⟩
abbrev main_v288 : Ref sig .tc := ⟨.hbm, 449, rfl⟩
abbrev main_v289 : Ref sig .tc := ⟨.hbm, 450, rfl⟩
abbrev main_cst_108 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_cst_109 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_cst_110 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_cst_111 : Ref sig .tc := ⟨.hbm, 463, rfl⟩
abbrev main_v299 : Ref sig .tc := ⟨.hbm, 464, rfl⟩
abbrev main_v300 : Ref sig .tc := ⟨.hbm, 465, rfl⟩
abbrev main_cst_112 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_cst_113 : Ref sig .tc := ⟨.hbm, 470, rfl⟩
abbrev main_v304 : Ref sig .tc := ⟨.hbm, 471, rfl⟩
abbrev main_v305 : Ref sig .tc := ⟨.hbm, 472, rfl⟩
abbrev main_v306 : Ref sig .tc := ⟨.hbm, 473, rfl⟩
abbrev main_cst_114 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_cst_115 : Ref sig .tc := ⟨.hbm, 478, rfl⟩
abbrev main_v310 : Ref sig .tc := ⟨.hbm, 479, rfl⟩
abbrev main_v311 : Ref sig .tc := ⟨.hbm, 480, rfl⟩

abbrev nD : Nat := 1
abbrev τ : Topo := Topo.v7x

variable {F : FTy → Type} [FloatOps F]
-- ==== Kernel8.lean ====
abbrev S4x1024x704 : Shape := ⟨3, ![4, 1024, 704]⟩
abbrev S4096x704 : Shape := ⟨2, ![4096, 704]⟩
abbrev S512x704 : Shape := ⟨2, ![512, 704]⟩

abbrev nBuf : Space → Nat
  | .hbm => 16
  | .vmem => 18
  | .smem => 0
  | _ => 0

abbrev bufTy : (tb : Table) → Fin (tcTables nBuf tb) → BufTy
  | .hbm, ⟨0, _⟩ => ⟨S4x1024x704, .f32⟩
  | .hbm, ⟨1, _⟩ => ⟨S4096x704, .f32⟩
  | .hbm, ⟨2, _⟩ => ⟨S4096x704, .f32⟩
  | .hbm, ⟨3, _⟩ => ⟨S4x1024x704, .f32⟩
  | .hbm, ⟨4, _⟩ => ⟨S4x1024x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S4096x704, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S4x1024x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | .local _ .vmem, ⟨16, _⟩ => ⟨S512x704, .f32⟩
  | .local _ .vmem, ⟨17, _⟩ => ⟨S512x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel8Ideal.lean ====
abbrev S4x1024x704 : Shape := ⟨3, ![4, 1024, 704]⟩
abbrev S4096x704 : Shape := ⟨2, ![4096, 704]⟩
abbrev S512x704 : Shape := ⟨2, ![512, 704]⟩

abbrev nBuf : Space → Nat
  | .hbm => 16
  | .vmem => 18
  | .smem => 0
  | _ => 0

abbrev bufTy : (tb : Table) → Fin (tcTables nBuf tb) → BufTy
  | .hbm, ⟨0, _⟩ => ⟨S4x1024x704, .f32⟩
  | .hbm, ⟨1, _⟩ => ⟨S4096x704, .f32⟩
  | .hbm, ⟨2, _⟩ => ⟨S4096x704, .f32⟩
  | .hbm, ⟨3, _⟩ => ⟨S4x1024x704, .f32⟩
  | .hbm, ⟨4, _⟩ => ⟨S4x1024x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S4096x704, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S4x1024x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | .local _ .vmem, ⟨16, _⟩ => ⟨S512x704, .f32⟩
  | .local _ .vmem, ⟨17, _⟩ => ⟨S512x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S4x1024x704 : Shape := ⟨3, ![4, 1024, 704]⟩
abbrev S4096x704 : Shape := ⟨2, ![4096, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4096x704, .f32⟩
  | .hbm, ⟨2, _⟩ => ⟨S4096x704, .f32⟩
  | .hbm, ⟨3, _⟩ => ⟨S4x1024x704, .f32⟩
  | .hbm, ⟨4, _⟩ => ⟨S4x1024x704, .f32⟩
  | .hbm, ⟨5, _⟩ => ⟨S4096x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S_, .f32⟩
  | .hbm, ⟨11, _⟩ => ⟨S4x1024x704, .f32⟩
  | .hbm, ⟨12, _⟩ => ⟨S4x1024x704, .f32⟩
  | .hbm, ⟨13, _⟩ => ⟨S4x1024x704, .f32⟩
  | .hbm, ⟨14, _⟩ => ⟨S_, .f32⟩
  | .hbm, ⟨15, _⟩ => ⟨S4x1024x704, .f32⟩
  | .hbm, ⟨16, _⟩ => ⟨S4x1024x704, .f32⟩
  | .hbm, ⟨17, _⟩ => ⟨S4x1024x704, .f32⟩
  | .hbm, ⟨18, _⟩ => ⟨S_, .f32⟩
  | .hbm, ⟨19, _⟩ => ⟨S4x1024x704, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S_, .f32⟩
  | .hbm, ⟨26, _⟩ => ⟨S4x1024x704, .f32⟩
  | .hbm, ⟨27, _⟩ => ⟨S4x1024x704, .f32⟩
  | .hbm, ⟨28, _⟩ => ⟨S4x1024x704, .f32⟩
  | .hbm, ⟨29, _⟩ => ⟨S_, .f32⟩
  | .hbm, ⟨30, _⟩ => ⟨S4x1024x704, .f32⟩
  | .hbm, ⟨31, _⟩ => ⟨S4x1024x704, .f32⟩
  | .hbm, ⟨32, _⟩ => ⟨S4x1024x704, .f32⟩
  | .hbm, ⟨33, _⟩ => ⟨S_, .f32⟩
  | .hbm, ⟨34, _⟩ => ⟨S4x1024x704, .f32⟩
  | .hbm, ⟨35, _⟩ => ⟨S4x1024x704, .f32⟩
  | .hbm, ⟨36, _⟩ => ⟨S4x1024x704, .f32⟩
  | .hbm, ⟨37, _⟩ => ⟨S_, .f32⟩
  | .hbm, ⟨38, _⟩ => ⟨S4x1024x704, .f32⟩
  | .hbm, ⟨39, _⟩ => ⟨S4x1024x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 16
  | .vmem => 18
  | .smem => 0
  | _ => 0

abbrev bufTy : (tb : Table) → Fin (tcTables nBuf tb) → BufTy
  | .hbm, ⟨0, _⟩ => ⟨S4x704x1024, .f32⟩
  | .hbm, ⟨1, _⟩ => ⟨S2816x1024, .f32⟩
  | .hbm, ⟨2, _⟩ => ⟨S2816x1024, .f32⟩
  | .hbm, ⟨3, _⟩ => ⟨S4x704x1024, .f32⟩
  | .hbm, ⟨4, _⟩ => ⟨S4x704x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S4x704x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel9Ideal.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 16
  | .vmem => 18
  | .smem => 0
  | _ => 0

abbrev bufTy : (tb : Table) → Fin (tcTables nBuf tb) → BufTy
  | .hbm, ⟨0, _⟩ => ⟨S4x704x1024, .f32⟩
  | .hbm, ⟨1, _⟩ => ⟨S2816x1024, .f32⟩
  | .hbm, ⟨2, _⟩ => ⟨S2816x1024, .f32⟩
  | .hbm, ⟨3, _⟩ => ⟨S4x704x1024, .f32⟩
  | .hbm, ⟨4, _⟩ => ⟨S4x704x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S4x704x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S4x704x1024 : Shape := ⟨3, ![4, 704, 1024]⟩
abbrev S2816x1024 : Shape := ⟨2, ![2816, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S2816x1024, .f32⟩
  | .hbm, ⟨2, _⟩ => ⟨S2816x1024, .f32⟩
  | .hbm, ⟨3, _⟩ => ⟨S4x704x1024, .f32⟩
  | .hbm, ⟨4, _⟩ => ⟨S4x704x1024, .f32⟩
  | .hbm, ⟨5, _⟩ => ⟨S2816x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S_, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .hbm, ⟨14, _⟩ => ⟨S_, .f32⟩
  | .hbm, ⟨15, _⟩ => ⟨S4x704x1024, .f32⟩
  | .hbm, ⟨16, _⟩ => ⟨S4x704x1024, .f32⟩
  | .hbm, ⟨17, _⟩ => ⟨S4x704x1024, .f32⟩
  | .hbm, ⟨18, _⟩ => ⟨S_, .f32⟩
  | .hbm, ⟨19, _⟩ => ⟨S4x704x1024, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S_, .f32⟩
  | .hbm, ⟨26, _⟩ => ⟨S4x704x1024, .f32⟩
  | .hbm, ⟨27, _⟩ => ⟨S4x704x1024, .f32⟩
  | .hbm, ⟨28, _⟩ => ⟨S4x704x1024, .f32⟩
  | .hbm, ⟨29, _⟩ => ⟨S_, .f32⟩
  | .hbm, ⟨30, _⟩ => ⟨S4x704x1024, .f32⟩
  | .hbm, ⟨31, _⟩ => ⟨S4x704x1024, .f32⟩
  | .hbm, ⟨32, _⟩ => ⟨S4x704x1024, .f32⟩
  | .hbm, ⟨33, _⟩ => ⟨S_, .f32⟩
  | .hbm, ⟨34, _⟩ => ⟨S4x704x1024, .f32⟩
  | .hbm, ⟨35, _⟩ => ⟨S4x704x1024, .f32⟩
  | .hbm, ⟨36, _⟩ => ⟨S4x704x1024, .f32⟩
  | .hbm, ⟨37, _⟩ => ⟨S_, .f32⟩
  | .hbm, ⟨38, _⟩ => ⟨S4x704x1024, .f32⟩
  | .hbm, ⟨39, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S4x1024x1688 : Shape := ⟨3, ![4, 1024, 1688]⟩
abbrev S4096x1688 : Shape := ⟨2, ![4096, 1688]⟩
abbrev S256x1688 : Shape := ⟨2, ![256, 1688]⟩

abbrev nBuf : Space → Nat
  | .hbm => 16
  | .vmem => 18
  | .smem => 0
  | _ => 0

abbrev bufTy : (tb : Table) → Fin (tcTables nBuf tb) → BufTy
  | .hbm, ⟨0, _⟩ => ⟨S4x1024x1688, .f32⟩
  | .hbm, ⟨1, _⟩ => ⟨S4096x1688, .f32⟩
  | .hbm, ⟨2, _⟩ => ⟨S4096x1688, .f32⟩
  | .hbm, ⟨3, _⟩ => ⟨S4x1024x1688, .f32⟩
  | .hbm, ⟨4, _⟩ => ⟨S4x1024x1688, .f32⟩
  | .hbm, ⟨5, _⟩ => ⟨S4096x1688, .f32⟩
  | .hbm, ⟨6, _⟩ => ⟨S4096x1688, .f32⟩
  | .hbm, ⟨7, _⟩ => ⟨S4096x1688, .f32⟩
  | .hbm, ⟨8, _⟩ => ⟨S4096x1688, .f32⟩
  | .hbm, ⟨9, _⟩ => ⟨S4096x1688, .f32⟩
  | .hbm, ⟨10, _⟩ => ⟨S4096x1688, .f32⟩
  | .hbm, ⟨11, _⟩ => ⟨S4096x1688, .f32⟩
  | .hbm, ⟨12, _⟩ => ⟨S4x1024x1688, .f32⟩
  | .hbm, ⟨13, _⟩ => ⟨S4x1024x1688, .f32⟩
  | .hbm, ⟨14, _⟩ => ⟨S4x1024x1688, .f32⟩
  | .hbm, ⟨15, _⟩ => ⟨S4x1024x1688, .f32⟩
  | .local _ .vmem, ⟨0, _⟩ => ⟨S256x1688, .f32⟩
  | .local _ .vmem, ⟨1, _⟩ => ⟨S256x1688, .f32⟩
  | .local _ .vmem, ⟨2, _⟩ => ⟨S256x1688, .f32⟩
  | .local _ .vmem, ⟨3, _⟩ => ⟨S256x1688, .f32⟩
  | .local _ .vmem, ⟨4, _⟩ => ⟨S256x1688, .f32⟩
  | .local _ .vmem, ⟨5, _⟩ => ⟨S256x1688, .f32⟩
  | .local _ .vmem, ⟨6, _⟩ => ⟨S256x1688, .f32⟩
  | .local _ .vmem, ⟨7, _⟩ => ⟨S256x1688, .f32⟩
  | .local _ .vmem, ⟨8, _⟩ => ⟨S256x1688, .f32⟩
  | .local _ .vmem, ⟨9, _⟩ => ⟨S256x1688, .f32⟩
  | .local _ .vmem, ⟨10, _⟩ => ⟨S256x1688, .f32⟩
  | .local _ .vmem, ⟨11, _⟩ => ⟨S256x1688, .f32⟩
  | .local _ .vmem, ⟨12, _⟩ => ⟨S256x1688, .f32⟩
  | .local _ .vmem, ⟨13, _⟩ => ⟨S256x1688, .f32⟩
  | .local _ .vmem, ⟨14, _⟩ => ⟨S256x1688, .f32⟩
  | .local _ .vmem, ⟨15, _⟩ => ⟨S256x1688, .f32⟩
  | .local _ .vmem, ⟨16, _⟩ => ⟨S256x1688, .f32⟩
  | .local _ .vmem, ⟨17, _⟩ => ⟨S256x1688, .f32⟩
  | _, _ => ⟨S4x1024x1688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1688 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1688 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1688 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1688 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1688 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel10Ideal.lean ====
abbrev S4x1024x1688 : Shape := ⟨3, ![4, 1024, 1688]⟩
abbrev S4096x1688 : Shape := ⟨2, ![4096, 1688]⟩
abbrev S256x1688 : Shape := ⟨2, ![256, 1688]⟩

abbrev nBuf : Space → Nat
  | .hbm => 16
  | .vmem => 18
  | .smem => 0
  | _ => 0

abbrev bufTy : (tb : Table) → Fin (tcTables nBuf tb) → BufTy
  | .hbm, ⟨0, _⟩ => ⟨S4x1024x1688, .f32⟩
  | .hbm, ⟨1, _⟩ => ⟨S4096x1688, .f32⟩
  | .hbm, ⟨2, _⟩ => ⟨S4096x1688, .f32⟩
  | .hbm, ⟨3, _⟩ => ⟨S4x1024x1688, .f32⟩
  | .hbm, ⟨4, _⟩ => ⟨S4x1024x1688, .f32⟩
  | .hbm, ⟨5, _⟩ => ⟨S4096x1688, .f32⟩
  | .hbm, ⟨6, _⟩ => ⟨S4096x1688, .f32⟩
  | .hbm, ⟨7, _⟩ => ⟨S4096x1688, .f32⟩
  | .hbm, ⟨8, _⟩ => ⟨S4096x1688, .f32⟩
  | .hbm, ⟨9, _⟩ => ⟨S4096x1688, .f32⟩
  | .hbm, ⟨10, _⟩ => ⟨S4096x1688, .f32⟩
  | .hbm, ⟨11, _⟩ => ⟨S4096x1688, .f32⟩
  | .hbm, ⟨12, _⟩ => ⟨S4x1024x1688, .f32⟩
  | .hbm, ⟨13, _⟩ => ⟨S4x1024x1688, .f32⟩
  | .hbm, ⟨14, _⟩ => ⟨S4x1024x1688, .f32⟩
  | .hbm, ⟨15, _⟩ => ⟨S4x1024x1688, .f32⟩
  | .local _ .vmem, ⟨0, _⟩ => ⟨S256x1688, .f32⟩
  | .local _ .vmem, ⟨1, _⟩ => ⟨S256x1688, .f32⟩
  | .local _ .vmem, ⟨2, _⟩ => ⟨S256x1688, .f32⟩
  | .local _ .vmem, ⟨3, _⟩ => ⟨S256x1688, .f32⟩
  | .local _ .vmem, ⟨4, _⟩ => ⟨S256x1688, .f32⟩
  | .local _ .vmem, ⟨5, _⟩ => ⟨S256x1688, .f32⟩
  | .local _ .vmem, ⟨6, _⟩ => ⟨S256x1688, .f32⟩
  | .local _ .vmem, ⟨7, _⟩ => ⟨S256x1688, .f32⟩
  | .local _ .vmem, ⟨8, _⟩ => ⟨S256x1688, .f32⟩
  | .local _ .vmem, ⟨9, _⟩ => ⟨S256x1688, .f32⟩
  | .local _ .vmem, ⟨10, _⟩ => ⟨S256x1688, .f32⟩
  | .local _ .vmem, ⟨11, _⟩ => ⟨S256x1688, .f32⟩
  | .local _ .vmem, ⟨12, _⟩ => ⟨S256x1688, .f32⟩
  | .local _ .vmem, ⟨13, _⟩ => ⟨S256x1688, .f32⟩
  | .local _ .vmem, ⟨14, _⟩ => ⟨S256x1688, .f32⟩
  | .local _ .vmem, ⟨15, _⟩ => ⟨S256x1688, .f32⟩
  | .local _ .vmem, ⟨16, _⟩ => ⟨S256x1688, .f32⟩
  | .local _ .vmem, ⟨17, _⟩ => ⟨S256x1688, .f32⟩
  | _, _ => ⟨S4x1024x1688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1688 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1688 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1688 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1688 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1688 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S4x1024x1688 : Shape := ⟨3, ![4, 1024, 1688]⟩
abbrev S4096x1688 : Shape := ⟨2, ![4096, 1688]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1688, .f32⟩
  | .hbm, ⟨1, _⟩ => ⟨S4096x1688, .f32⟩
  | .hbm, ⟨2, _⟩ => ⟨S4096x1688, .f32⟩
  | .hbm, ⟨3, _⟩ => ⟨S4x1024x1688, .f32⟩
  | .hbm, ⟨4, _⟩ => ⟨S4x1024x1688, .f32⟩
  | .hbm, ⟨5, _⟩ => ⟨S4096x1688, .f32⟩
  | .hbm, ⟨6, _⟩ => ⟨S4x1024x1688, .f32⟩
  | .hbm, ⟨7, _⟩ => ⟨S_, .f32⟩
  | .hbm, ⟨8, _⟩ => ⟨S4x1024x1688, .f32⟩
  | .hbm, ⟨9, _⟩ => ⟨S4x1024x1688, .f32⟩
  | .hbm, ⟨10, _⟩ => ⟨S_, .f32⟩
  | .hbm, ⟨11, _⟩ => ⟨S4x1024x1688, .f32⟩
  | .hbm, ⟨12, _⟩ => ⟨S4x1024x1688, .f32⟩
  | .hbm, ⟨13, _⟩ => ⟨S4x1024x1688, .f32⟩
  | .hbm, ⟨14, _⟩ => ⟨S_, .f32⟩
  | .hbm, ⟨15, _⟩ => ⟨S4x1024x1688, .f32⟩
  | .hbm, ⟨16, _⟩ => ⟨S4x1024x1688, .f32⟩
  | .hbm, ⟨17, _⟩ => ⟨S4x1024x1688, .f32⟩
  | .hbm, ⟨18, _⟩ => ⟨S_, .f32⟩
  | .hbm, ⟨19, _⟩ => ⟨S4x1024x1688, .f32⟩
  | .hbm, ⟨20, _⟩ => ⟨S4x1024x1688, .f32⟩
  | .hbm, ⟨21, _⟩ => ⟨S4x1024x1688, .f32⟩
  | .hbm, ⟨22, _⟩ => ⟨S_, .f32⟩
  | .hbm, ⟨23, _⟩ => ⟨S4x1024x1688, .f32⟩
  | .hbm, ⟨24, _⟩ => ⟨S4x1024x1688, .f32⟩
  | .hbm, ⟨25, _⟩ => ⟨S_, .f32⟩
  | .hbm, ⟨26, _⟩ => ⟨S4x1024x1688, .f32⟩
  | .hbm, ⟨27, _⟩ => ⟨S4x1024x1688, .f32⟩
  | .hbm, ⟨28, _⟩ => ⟨S4x1024x1688, .f32⟩
  | .hbm, ⟨29, _⟩ => ⟨S_, .f32⟩
  | .hbm, ⟨30, _⟩ => ⟨S4x1024x1688, .f32⟩
  | .hbm, ⟨31, _⟩ => ⟨S4x1024x1688, .f32⟩
  | .hbm, ⟨32, _⟩ => ⟨S4x1024x1688, .f32⟩
  | .hbm, ⟨33, _⟩ => ⟨S_, .f32⟩
  | .hbm, ⟨34, _⟩ => ⟨S4x1024x1688, .f32⟩
  | .hbm, ⟨35, _⟩ => ⟨S4x1024x1688, .f32⟩
  | .hbm, ⟨36, _⟩ => ⟨S4x1024x1688, .f32⟩
  | .hbm, ⟨37, _⟩ => ⟨S_, .f32⟩
  | .hbm, ⟨38, _⟩ => ⟨S4x1024x1688, .f32⟩
  | .hbm, ⟨39, _⟩ => ⟨S4x1024x1688, .f32⟩
  | _, _ => ⟨S4x1024x1688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S4x16x64 : Shape := ⟨3, ![4, 16, 64]⟩
abbrev S64x64 : Shape := ⟨2, ![64, 64]⟩

abbrev nBuf : Space → Nat
  | .hbm => 16
  | .vmem => 9
  | .smem => 0
  | _ => 0

abbrev bufTy : (tb : Table) → Fin (tcTables nBuf tb) → BufTy
  | .hbm, ⟨0, _⟩ => ⟨S4x16x64, .f32⟩
  | .hbm, ⟨1, _⟩ => ⟨S64x64, .f32⟩
  | .hbm, ⟨2, _⟩ => ⟨S64x64, .f32⟩
  | .hbm, ⟨3, _⟩ => ⟨S4x16x64, .f32⟩
  | .hbm, ⟨4, _⟩ => ⟨S4x16x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S4x16x64, .f32⟩
  | .hbm, ⟨13, _⟩ => ⟨S4x16x64, .f32⟩
  | .hbm, ⟨14, _⟩ => ⟨S4x16x64, .f32⟩
  | .hbm, ⟨15, _⟩ => ⟨S4x16x64, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | _, _ => ⟨S4x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel11Ideal.lean ====
abbrev S4x16x64 : Shape := ⟨3, ![4, 16, 64]⟩
abbrev S64x64 : Shape := ⟨2, ![64, 64]⟩

abbrev nBuf : Space → Nat
  | .hbm => 16
  | .vmem => 9
  | .smem => 0
  | _ => 0

abbrev bufTy : (tb : Table) → Fin (tcTables nBuf tb) → BufTy
  | .hbm, ⟨0, _⟩ => ⟨S4x16x64, .f32⟩
  | .hbm, ⟨1, _⟩ => ⟨S64x64, .f32⟩
  | .hbm, ⟨2, _⟩ => ⟨S64x64, .f32⟩
  | .hbm, ⟨3, _⟩ => ⟨S4x16x64, .f32⟩
  | .hbm, ⟨4, _⟩ => ⟨S4x16x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S4x16x64, .f32⟩
  | .hbm, ⟨13, _⟩ => ⟨S4x16x64, .f32⟩
  | .hbm, ⟨14, _⟩ => ⟨S4x16x64, .f32⟩
  | .hbm, ⟨15, _⟩ => ⟨S4x16x64, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | _, _ => ⟨S4x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference11Ideal.lean ====
abbrev S4x16x64 : Shape := ⟨3, ![4, 16, 64]⟩
abbrev S64x64 : Shape := ⟨2, ![64, 64]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x16x64, .f32⟩
  | .hbm, ⟨1, _⟩ => ⟨S64x64, .f32⟩
  | .hbm, ⟨2, _⟩ => ⟨S64x64, .f32⟩
  | .hbm, ⟨3, _⟩ => ⟨S4x16x64, .f32⟩
  | .hbm, ⟨4, _⟩ => ⟨S4x16x64, .f32⟩
  | .hbm, ⟨5, _⟩ => ⟨S64x64, .f32⟩
  | .hbm, ⟨6, _⟩ => ⟨S4x16x64, .f32⟩
  | .hbm, ⟨7, _⟩ => ⟨S_, .f32⟩
  | .hbm, ⟨8, _⟩ => ⟨S4x16x64, .f32⟩
  | .hbm, ⟨9, _⟩ => ⟨S4x16x64, .f32⟩
  | .hbm, ⟨10, _⟩ => ⟨S_, .f32⟩
  | .hbm, ⟨11, _⟩ => ⟨S4x16x64, .f32⟩
  | .hbm, ⟨12, _⟩ => ⟨S4x16x64, .f32⟩
  | .hbm, ⟨13, _⟩ => ⟨S4x16x64, .f32⟩
  | .hbm, ⟨14, _⟩ => ⟨S_, .f32⟩
  | .hbm, ⟨15, _⟩ => ⟨S4x16x64, .f32⟩
  | .hbm, ⟨16, _⟩ => ⟨S4x16x64, .f32⟩
  | .hbm, ⟨17, _⟩ => ⟨S4x16x64, .f32⟩
  | .hbm, ⟨18, _⟩ => ⟨S_, .f32⟩
  | .hbm, ⟨19, _⟩ => ⟨S4x16x64, .f32⟩
  | .hbm, ⟨20, _⟩ => ⟨S4x16x64, .f32⟩
  | .hbm, ⟨21, _⟩ => ⟨S4x16x64, .f32⟩
  | .hbm, ⟨22, _⟩ => ⟨S_, .f32⟩
  | .hbm, ⟨23, _⟩ => ⟨S4x16x64, .f32⟩
  | .hbm, ⟨24, _⟩ => ⟨S4x16x64, .f32⟩
  | .hbm, ⟨25, _⟩ => ⟨S_, .f32⟩
  | .hbm, ⟨26, _⟩ => ⟨S4x16x64, .f32⟩
  | .hbm, ⟨27, _⟩ => ⟨S4x16x64, .f32⟩
  | .hbm, ⟨28, _⟩ => ⟨S4x16x64, .f32⟩
  | .hbm, ⟨29, _⟩ => ⟨S_, .f32⟩
  | .hbm, ⟨30, _⟩ => ⟨S4x16x64, .f32⟩
  | .hbm, ⟨31, _⟩ => ⟨S4x16x64, .f32⟩
  | .hbm, ⟨32, _⟩ => ⟨S4x16x64, .f32⟩
  | .hbm, ⟨33, _⟩ => ⟨S_, .f32⟩
  | .hbm, ⟨34, _⟩ => ⟨S4x16x64, .f32⟩
  | .hbm, ⟨35, _⟩ => ⟨S4x16x64, .f32⟩
  | .hbm, ⟨36, _⟩ => ⟨S4x16x64, .f32⟩
  | .hbm, ⟨37, _⟩ => ⟨S_, .f32⟩
  | .hbm, ⟨38, _⟩ => ⟨S4x16x64, .f32⟩
  | .hbm, ⟨39, _⟩ => ⟨S4x16x64, .f32⟩
  | _, _ => ⟨S4x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel12.lean ====
abbrev S4x256x192 : Shape := ⟨3, ![4, 256, 192]⟩
abbrev S1024x192 : Shape := ⟨2, ![1024, 192]⟩
abbrev S512x192 : Shape := ⟨2, ![512, 192]⟩

abbrev nBuf : Space → Nat
  | .hbm => 16
  | .vmem => 18
  | .smem => 0
  | _ => 0

abbrev bufTy : (tb : Table) → Fin (tcTables nBuf tb) → BufTy
  | .hbm, ⟨0, _⟩ => ⟨S4x256x192, .f32⟩
  | .hbm, ⟨1, _⟩ => ⟨S1024x192, .f32⟩
  | .hbm, ⟨2, _⟩ => ⟨S1024x192, .f32⟩
  | .hbm, ⟨3, _⟩ => ⟨S4x256x192, .f32⟩
  | .hbm, ⟨4, _⟩ => ⟨S4x256x192, .f32⟩
  | .hbm, ⟨5, _⟩ => ⟨S1024x192, .f32⟩
  | .hbm, ⟨6, _⟩ => ⟨S1024x192, .f32⟩
  | .hbm, ⟨7, _⟩ => ⟨S1024x192, .f32⟩
  | .hbm, ⟨8, _⟩ => ⟨S1024x192, .f32⟩
  | .hbm, ⟨9, _⟩ => ⟨S1024x192, .f32⟩
  | .hbm, ⟨10, _⟩ => ⟨S1024x192, .f32⟩
  | .hbm, ⟨11, _⟩ => ⟨S1024x192, .f32⟩
  | .hbm, ⟨12, _⟩ => ⟨S4x256x192, .f32⟩
  | .hbm, ⟨13, _⟩ => ⟨S4x256x192, .f32⟩
  | .hbm, ⟨14, _⟩ => ⟨S4x256x192, .f32⟩
  | .hbm, ⟨15, _⟩ => ⟨S4x256x192, .f32⟩
  | .local _ .vmem, ⟨0, _⟩ => ⟨S512x192, .f32⟩
  | .local _ .vmem, ⟨1, _⟩ => ⟨S512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | .local _ .vmem, ⟨14, _⟩ => ⟨S512x192, .f32⟩
  | .local _ .vmem, ⟨15, _⟩ => ⟨S512x192, .f32⟩
  | .local _ .vmem, ⟨16, _⟩ => ⟨S512x192, .f32⟩
  | .local _ .vmem, ⟨17, _⟩ => ⟨S512x192, .f32⟩
  | _, _ => ⟨S4x256x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel12Ideal.lean ====
abbrev S4x256x192 : Shape := ⟨3, ![4, 256, 192]⟩
abbrev S1024x192 : Shape := ⟨2, ![1024, 192]⟩
abbrev S512x192 : Shape := ⟨2, ![512, 192]⟩

abbrev nBuf : Space → Nat
  | .hbm => 16
  | .vmem => 18
  | .smem => 0
  | _ => 0

abbrev bufTy : (tb : Table) → Fin (tcTables nBuf tb) → BufTy
  | .hbm, ⟨0, _⟩ => ⟨S4x256x192, .f32⟩
  | .hbm, ⟨1, _⟩ => ⟨S1024x192, .f32⟩
  | .hbm, ⟨2, _⟩ => ⟨S1024x192, .f32⟩
  | .hbm, ⟨3, _⟩ => ⟨S4x256x192, .f32⟩
  | .hbm, ⟨4, _⟩ => ⟨S4x256x192, .f32⟩
  | .hbm, ⟨5, _⟩ => ⟨S1024x192, .f32⟩
  | .hbm, ⟨6, _⟩ => ⟨S1024x192, .f32⟩
  | .hbm, ⟨7, _⟩ => ⟨S1024x192, .f32⟩
  | .hbm, ⟨8, _⟩ => ⟨S1024x192, .f32⟩
  | .hbm, ⟨9, _⟩ => ⟨S1024x192, .f32⟩
  | .hbm, ⟨10, _⟩ => ⟨S1024x192, .f32⟩
  | .hbm, ⟨11, _⟩ => ⟨S1024x192, .f32⟩
  | .hbm, ⟨12, _⟩ => ⟨S4x256x192, .f32⟩
  | .hbm, ⟨13, _⟩ => ⟨S4x256x192, .f32⟩
  | .hbm, ⟨14, _⟩ => ⟨S4x256x192, .f32⟩
  | .hbm, ⟨15, _⟩ => ⟨S4x256x192, .f32⟩
  | .local _ .vmem, ⟨0, _⟩ => ⟨S512x192, .f32⟩
  | .local _ .vmem, ⟨1, _⟩ => ⟨S512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | .local _ .vmem, ⟨14, _⟩ => ⟨S512x192, .f32⟩
  | .local _ .vmem, ⟨15, _⟩ => ⟨S512x192, .f32⟩
  | .local _ .vmem, ⟨16, _⟩ => ⟨S512x192, .f32⟩
  | .local _ .vmem, ⟨17, _⟩ => ⟨S512x192, .f32⟩
  | _, _ => ⟨S4x256x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S4x256x192 : Shape := ⟨3, ![4, 256, 192]⟩
abbrev S1024x192 : Shape := ⟨2, ![1024, 192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x192, .f32⟩
  | .hbm, ⟨1, _⟩ => ⟨S1024x192, .f32⟩
  | .hbm, ⟨2, _⟩ => ⟨S1024x192, .f32⟩
  | .hbm, ⟨3, _⟩ => ⟨S4x256x192, .f32⟩
  | .hbm, ⟨4, _⟩ => ⟨S4x256x192, .f32⟩
  | .hbm, ⟨5, _⟩ => ⟨S1024x192, .f32⟩
  | .hbm, ⟨6, _⟩ => ⟨S4x256x192, .f32⟩
  | .hbm, ⟨7, _⟩ => ⟨S_, .f32⟩
  | .hbm, ⟨8, _⟩ => ⟨S4x256x192, .f32⟩
  | .hbm, ⟨9, _⟩ => ⟨S4x256x192, .f32⟩
  | .hbm, ⟨10, _⟩ => ⟨S_, .f32⟩
  | .hbm, ⟨11, _⟩ => ⟨S4x256x192, .f32⟩
  | .hbm, ⟨12, _⟩ => ⟨S4x256x192, .f32⟩
  | .hbm, ⟨13, _⟩ => ⟨S4x256x192, .f32⟩
  | .hbm, ⟨14, _⟩ => ⟨S_, .f32⟩
  | .hbm, ⟨15, _⟩ => ⟨S4x256x192, .f32⟩
  | .hbm, ⟨16, _⟩ => ⟨S4x256x192, .f32⟩
  | .hbm, ⟨17, _⟩ => ⟨S4x256x192, .f32⟩
  | .hbm, ⟨18, _⟩ => ⟨S_, .f32⟩
  | .hbm, ⟨19, _⟩ => ⟨S4x256x192, .f32⟩
  | .hbm, ⟨20, _⟩ => ⟨S4x256x192, .f32⟩
  | .hbm, ⟨21, _⟩ => ⟨S4x256x192, .f32⟩
  | .hbm, ⟨22, _⟩ => ⟨S_, .f32⟩
  | .hbm, ⟨23, _⟩ => ⟨S4x256x192, .f32⟩
  | .hbm, ⟨24, _⟩ => ⟨S4x256x192, .f32⟩
  | .hbm, ⟨25, _⟩ => ⟨S_, .f32⟩
  | .hbm, ⟨26, _⟩ => ⟨S4x256x192, .f32⟩
  | .hbm, ⟨27, _⟩ => ⟨S4x256x192, .f32⟩
  | .hbm, ⟨28, _⟩ => ⟨S4x256x192, .f32⟩
  | .hbm, ⟨29, _⟩ => ⟨S_, .f32⟩
  | .hbm, ⟨30, _⟩ => ⟨S4x256x192, .f32⟩
  | .hbm, ⟨31, _⟩ => ⟨S4x256x192, .f32⟩
  | .hbm, ⟨32, _⟩ => ⟨S4x256x192, .f32⟩
  | .hbm, ⟨33, _⟩ => ⟨S_, .f32⟩
  | .hbm, ⟨34, _⟩ => ⟨S4x256x192, .f32⟩
  | .hbm, ⟨35, _⟩ => ⟨S4x256x192, .f32⟩
  | .hbm, ⟨36, _⟩ => ⟨S4x256x192, .f32⟩
  | .hbm, ⟨37, _⟩ => ⟨S_, .f32⟩
  | .hbm, ⟨38, _⟩ => ⟨S4x256x192, .f32⟩
  | .hbm, ⟨39, _⟩ => ⟨S4x256x192, .f32⟩
  | _, _ => ⟨S4x256x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S4x256x256 : Shape := ⟨3, ![4, 256, 256]⟩
abbrev S1024x256 : Shape := ⟨2, ![1024, 256]⟩
abbrev S512x256 : Shape := ⟨2, ![512, 256]⟩

abbrev nBuf : Space → Nat
  | .hbm => 16
  | .vmem => 18
  | .smem => 0
  | _ => 0

abbrev bufTy : (tb : Table) → Fin (tcTables nBuf tb) → BufTy
  | .hbm, ⟨0, _⟩ => ⟨S4x256x256, .f32⟩
  | .hbm, ⟨1, _⟩ => ⟨S1024x256, .f32⟩
  | .hbm, ⟨2, _⟩ => ⟨S1024x256, .f32⟩
  | .hbm, ⟨3, _⟩ => ⟨S4x256x256, .f32⟩
  | .hbm, ⟨4, _⟩ => ⟨S4x256x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S4x256x256, .f32⟩
  | .hbm, ⟨13, _⟩ => ⟨S4x256x256, .f32⟩
  | .hbm, ⟨14, _⟩ => ⟨S4x256x256, .f32⟩
  | .hbm, ⟨15, _⟩ => ⟨S4x256x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel13Ideal.lean ====
abbrev S4x256x256 : Shape := ⟨3, ![4, 256, 256]⟩
abbrev S1024x256 : Shape := ⟨2, ![1024, 256]⟩
abbrev S512x256 : Shape := ⟨2, ![512, 256]⟩

abbrev nBuf : Space → Nat
  | .hbm => 16
  | .vmem => 18
  | .smem => 0
  | _ => 0

abbrev bufTy : (tb : Table) → Fin (tcTables nBuf tb) → BufTy
  | .hbm, ⟨0, _⟩ => ⟨S4x256x256, .f32⟩
  | .hbm, ⟨1, _⟩ => ⟨S1024x256, .f32⟩
  | .hbm, ⟨2, _⟩ => ⟨S1024x256, .f32⟩
  | .hbm, ⟨3, _⟩ => ⟨S4x256x256, .f32⟩
  | .hbm, ⟨4, _⟩ => ⟨S4x256x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S4x256x256, .f32⟩
  | .hbm, ⟨13, _⟩ => ⟨S4x256x256, .f32⟩
  | .hbm, ⟨14, _⟩ => ⟨S4x256x256, .f32⟩
  | .hbm, ⟨15, _⟩ => ⟨S4x256x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S4x256x256 : Shape := ⟨3, ![4, 256, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S1024x256, .f32⟩
  | .hbm, ⟨2, _⟩ => ⟨S1024x256, .f32⟩
  | .hbm, ⟨3, _⟩ => ⟨S4x256x256, .f32⟩
  | .hbm, ⟨4, _⟩ => ⟨S4x256x256, .f32⟩
  | .hbm, ⟨5, _⟩ => ⟨S1024x256, .f32⟩
  | .hbm, ⟨6, _⟩ => ⟨S4x256x256, .f32⟩
  | .hbm, ⟨7, _⟩ => ⟨S_, .f32⟩
  | .hbm, ⟨8, _⟩ => ⟨S4x256x256, .f32⟩
  | .hbm, ⟨9, _⟩ => ⟨S4x256x256, .f32⟩
  | .hbm, ⟨10, _⟩ => ⟨S_, .f32⟩
  | .hbm, ⟨11, _⟩ => ⟨S4x256x256, .f32⟩
  | .hbm, ⟨12, _⟩ => ⟨S4x256x256, .f32⟩
  | .hbm, ⟨13, _⟩ => ⟨S4x256x256, .f32⟩
  | .hbm, ⟨14, _⟩ => ⟨S_, .f32⟩
  | .hbm, ⟨15, _⟩ => ⟨S4x256x256, .f32⟩
  | .hbm, ⟨16, _⟩ => ⟨S4x256x256, .f32⟩
  | .hbm, ⟨17, _⟩ => ⟨S4x256x256, .f32⟩
  | .hbm, ⟨18, _⟩ => ⟨S_, .f32⟩
  | .hbm, ⟨19, _⟩ => ⟨S4x256x256, .f32⟩
  | .hbm, ⟨20, _⟩ => ⟨S4x256x256, .f32⟩
  | .hbm, ⟨21, _⟩ => ⟨S4x256x256, .f32⟩
  | .hbm, ⟨22, _⟩ => ⟨S_, .f32⟩
  | .hbm, ⟨23, _⟩ => ⟨S4x256x256, .f32⟩
  | .hbm, ⟨24, _⟩ => ⟨S4x256x256, .f32⟩
  | .hbm, ⟨25, _⟩ => ⟨S_, .f32⟩
  | .hbm, ⟨26, _⟩ => ⟨S4x256x256, .f32⟩
  | .hbm, ⟨27, _⟩ => ⟨S4x256x256, .f32⟩
  | .hbm, ⟨28, _⟩ => ⟨S4x256x256, .f32⟩
  | .hbm, ⟨29, _⟩ => ⟨S_, .f32⟩
  | .hbm, ⟨30, _⟩ => ⟨S4x256x256, .f32⟩
  | .hbm, ⟨31, _⟩ => ⟨S4x256x256, .f32⟩
  | .hbm, ⟨32, _⟩ => ⟨S4x256x256, .f32⟩
  | .hbm, ⟨33, _⟩ => ⟨S_, .f32⟩
  | .hbm, ⟨34, _⟩ => ⟨S4x256x256, .f32⟩
  | .hbm, ⟨35, _⟩ => ⟨S4x256x256, .f32⟩
  | .hbm, ⟨36, _⟩ => ⟨S4x256x256, .f32⟩
  | .hbm, ⟨37, _⟩ => ⟨S_, .f32⟩
  | .hbm, ⟨38, _⟩ => ⟨S4x256x256, .f32⟩
  | .hbm, ⟨39, _⟩ => ⟨S4x256x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S4x512x256 : Shape := ⟨3, ![4, 512, 256]⟩
abbrev S2048x256 : Shape := ⟨2, ![2048, 256]⟩
abbrev S512x256 : Shape := ⟨2, ![512, 256]⟩

abbrev nBuf : Space → Nat
  | .hbm => 16
  | .vmem => 18
  | .smem => 0
  | _ => 0

abbrev bufTy : (tb : Table) → Fin (tcTables nBuf tb) → BufTy
  | .hbm, ⟨0, _⟩ => ⟨S4x512x256, .f32⟩
  | .hbm, ⟨1, _⟩ => ⟨S2048x256, .f32⟩
  | .hbm, ⟨2, _⟩ => ⟨S2048x256, .f32⟩
  | .hbm, ⟨3, _⟩ => ⟨S4x512x256, .f32⟩
  | .hbm, ⟨4, _⟩ => ⟨S4x512x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2048x256, .f32⟩
  | .hbm, ⟨12, _⟩ => ⟨S4x512x256, .f32⟩
  | .hbm, ⟨13, _⟩ => ⟨S4x512x256, .f32⟩
  | .hbm, ⟨14, _⟩ => ⟨S4x512x256, .f32⟩
  | .hbm, ⟨15, _⟩ => ⟨S4x512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel14Ideal.lean ====
abbrev S4x512x256 : Shape := ⟨3, ![4, 512, 256]⟩
abbrev S2048x256 : Shape := ⟨2, ![2048, 256]⟩
abbrev S512x256 : Shape := ⟨2, ![512, 256]⟩

abbrev nBuf : Space → Nat
  | .hbm => 16
  | .vmem => 18
  | .smem => 0
  | _ => 0

abbrev bufTy : (tb : Table) → Fin (tcTables nBuf tb) → BufTy
  | .hbm, ⟨0, _⟩ => ⟨S4x512x256, .f32⟩
  | .hbm, ⟨1, _⟩ => ⟨S2048x256, .f32⟩
  | .hbm, ⟨2, _⟩ => ⟨S2048x256, .f32⟩
  | .hbm, ⟨3, _⟩ => ⟨S4x512x256, .f32⟩
  | .hbm, ⟨4, _⟩ => ⟨S4x512x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2048x256, .f32⟩
  | .hbm, ⟨12, _⟩ => ⟨S4x512x256, .f32⟩
  | .hbm, ⟨13, _⟩ => ⟨S4x512x256, .f32⟩
  | .hbm, ⟨14, _⟩ => ⟨S4x512x256, .f32⟩
  | .hbm, ⟨15, _⟩ => ⟨S4x512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S4x512x256 : Shape := ⟨3, ![4, 512, 256]⟩
abbrev S2048x256 : Shape := ⟨2, ![2048, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S2048x256, .f32⟩
  | .hbm, ⟨2, _⟩ => ⟨S2048x256, .f32⟩
  | .hbm, ⟨3, _⟩ => ⟨S4x512x256, .f32⟩
  | .hbm, ⟨4, _⟩ => ⟨S4x512x256, .f32⟩
  | .hbm, ⟨5, _⟩ => ⟨S2048x256, .f32⟩
  | .hbm, ⟨6, _⟩ => ⟨S4x512x256, .f32⟩
  | .hbm, ⟨7, _⟩ => ⟨S_, .f32⟩
  | .hbm, ⟨8, _⟩ => ⟨S4x512x256, .f32⟩
  | .hbm, ⟨9, _⟩ => ⟨S4x512x256, .f32⟩
  | .hbm, ⟨10, _⟩ => ⟨S_, .f32⟩
  | .hbm, ⟨11, _⟩ => ⟨S4x512x256, .f32⟩
  | .hbm, ⟨12, _⟩ => ⟨S4x512x256, .f32⟩
  | .hbm, ⟨13, _⟩ => ⟨S4x512x256, .f32⟩
  | .hbm, ⟨14, _⟩ => ⟨S_, .f32⟩
  | .hbm, ⟨15, _⟩ => ⟨S4x512x256, .f32⟩
  | .hbm, ⟨16, _⟩ => ⟨S4x512x256, .f32⟩
  | .hbm, ⟨17, _⟩ => ⟨S4x512x256, .f32⟩
  | .hbm, ⟨18, _⟩ => ⟨S_, .f32⟩
  | .hbm, ⟨19, _⟩ => ⟨S4x512x256, .f32⟩
  | .hbm, ⟨20, _⟩ => ⟨S4x512x256, .f32⟩
  | .hbm, ⟨21, _⟩ => ⟨S4x512x256, .f32⟩
  | .hbm, ⟨22, _⟩ => ⟨S_, .f32⟩
  | .hbm, ⟨23, _⟩ => ⟨S4x512x256, .f32⟩
  | .hbm, ⟨24, _⟩ => ⟨S4x512x256, .f32⟩
  | .hbm, ⟨25, _⟩ => ⟨S_, .f32⟩
  | .hbm, ⟨26, _⟩ => ⟨S4x512x256, .f32⟩
  | .hbm, ⟨27, _⟩ => ⟨S4x512x256, .f32⟩
  | .hbm, ⟨28, _⟩ => ⟨S4x512x256, .f32⟩
  | .hbm, ⟨29, _⟩ => ⟨S_, .f32⟩
  | .hbm, ⟨30, _⟩ => ⟨S4x512x256, .f32⟩
  | .hbm, ⟨31, _⟩ => ⟨S4x512x256, .f32⟩
  | .hbm, ⟨32, _⟩ => ⟨S4x512x256, .f32⟩
  | .hbm, ⟨33, _⟩ => ⟨S_, .f32⟩
  | .hbm, ⟨34, _⟩ => ⟨S4x512x256, .f32⟩
  | .hbm, ⟨35, _⟩ => ⟨S4x512x256, .f32⟩
  | .hbm, ⟨36, _⟩ => ⟨S4x512x256, .f32⟩
  | .hbm, ⟨37, _⟩ => ⟨S_, .f32⟩
  | .hbm, ⟨38, _⟩ => ⟨S4x512x256, .f32⟩
  | .hbm, ⟨39, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 16
  | .vmem => 18
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S4x256x1024, .f32⟩
  | .hbm, ⟨4, _⟩ => ⟨S4x256x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S4x256x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S4x256x1024 : Shape := ⟨3, ![4, 256, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S4x256x1024, .f32⟩
  | .hbm, ⟨4, _⟩ => ⟨S4x256x1024, .f32⟩
  | .hbm, ⟨5, _⟩ => ⟨S1024x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S_, .f32⟩
  | .hbm, ⟨11, _⟩ => ⟨S4x256x1024, .f32⟩
  | .hbm, ⟨12, _⟩ => ⟨S4x256x1024, .f32⟩
  | .hbm, ⟨13, _⟩ => ⟨S4x256x1024, .f32⟩
  | .hbm, ⟨14, _⟩ => ⟨S_, .f32⟩
  | .hbm, ⟨15, _⟩ => ⟨S4x256x1024, .f32⟩
  | .hbm, ⟨16, _⟩ => ⟨S4x256x1024, .f32⟩
  | .hbm, ⟨17, _⟩ => ⟨S4x256x1024, .f32⟩
  | .hbm, ⟨18, _⟩ => ⟨S_, .f32⟩
  | .hbm, ⟨19, _⟩ => ⟨S4x256x1024, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S_, .f32⟩
  | .hbm, ⟨26, _⟩ => ⟨S4x256x1024, .f32⟩
  | .hbm, ⟨27, _⟩ => ⟨S4x256x1024, .f32⟩
  | .hbm, ⟨28, _⟩ => ⟨S4x256x1024, .f32⟩
  | .hbm, ⟨29, _⟩ => ⟨S_, .f32⟩
  | .hbm, ⟨30, _⟩ => ⟨S4x256x1024, .f32⟩
  | .hbm, ⟨31, _⟩ => ⟨S4x256x1024, .f32⟩
  | .hbm, ⟨32, _⟩ => ⟨S4x256x1024, .f32⟩
  | .hbm, ⟨33, _⟩ => ⟨S_, .f32⟩
  | .hbm, ⟨34, _⟩ => ⟨S4x256x1024, .f32⟩
  | .hbm, ⟨35, _⟩ => ⟨S4x256x1024, .f32⟩
  | .hbm, ⟨36, _⟩ => ⟨S4x256x1024, .f32⟩
  | .hbm, ⟨37, _⟩ => ⟨S_, .f32⟩
  | .hbm, ⟨38, _⟩ => ⟨S4x256x1024, .f32⟩
  | .hbm, ⟨39, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Rows.lean ====
/-
  The arithmetic of one row of a softmax attention's gradient, over the extended reals and free of any program: the
  weights of a row of scores, the reciprocal of their sum, and the gradient of the scores, each as the kernel computes it
  (powers of two, the scale folded into the reciprocal) and as differentiating the softmax spells it (the exponential, the
  quotient's two terms apart); and that the two agree where the scores are finite (`weight_eq`, `grad_eq`).
-/
module

public import Idealize.ShloMosaic.PureOps.Ideal
public import Idealize.ShloMosaic.Lib.Pointwise
public import Mathlib.Tactic.FieldSimp
public import Mathlib.Tactic.Ring
public import Mathlib.Tactic.Positivity
public import Mathlib.Analysis.SpecialFunctions.Pow.Real
public import Mathlib.Data.EReal.Operations

@[expose] public section

noncomputable section

namespace Cert.Rows

open Idealize.ShloMosaic

variable {n : ℕ}

/-- The maximum of a row, from `−∞`. -/
def top (s : Fin n → EReal) : EReal := Finset.univ.fold max ⊥ s

/-- The weight of position `j`: two to the score less the row's maximum. -/
def weight (s : Fin n → EReal) (j : Fin n) : EReal := Ideal.exp2 (s j - top s)

/-- One over the sum of the row's weights. -/
def recip (s : Fin n → EReal) : EReal := Ideal.div 1 (∑ j, weight s j)

/-- The gradient of score `j`, given the products `p` of the output's gradient with the values: the kernel's order of
    operations, the scale `c` times the reciprocal once per row. -/
def grad (c : EReal) (s p : Fin n → EReal) (j : Fin n) : EReal :=
  weight s j * (p j * (c * recip s) - (∑ x, weight s x * (p x * (c * recip s))) * recip s)

/-- A nonnegative real factor goes through a sum of extended reals. -/
theorem mul_sum_coe {ι : Type*} (S : Finset ι) (f : ι → EReal) {c : ℝ} (hc : 0 ≤ c) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

/-- … and through a difference. -/
theorem mul_sub_coe {c : ℝ} (hc : 0 ≤ c) (x y : EReal) : (c : EReal) * (x - y) = c * x - c * y := by
  rw [sub_eq_add_neg, EReal.left_distrib_of_nonneg_of_ne_top (by exact_mod_cast hc) (EReal.coe_ne_top c), mul_neg,
    ← sub_eq_add_neg]

/-- A sum of reals, read as extended reals, is the real sum. -/
theorem sum_coe {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The maximum is an entry that none exceeds. -/
theorem top_eq_of {s : Fin n → EReal} {M : EReal} (j : Fin n) (hj : s j = M) (h : ∀ x, s x ≤ M) : top s = M := by
  unfold top
  apply le_antisymm
  · rw [Finset.fold_max_le]
    exact ⟨bot_le, fun x _ => h x⟩
  · rw [Finset.le_fold_max]
    exact Or.inr ⟨j, Finset.mem_univ j, hj.ge⟩

variable [NeZero n]

/-- A row of reals has a maximum. -/
theorem exists_max (t : Fin n → ℝ) : ∃ j, ∀ x, t x ≤ t j := by
  obtain ⟨j, -, hj⟩ := Finset.exists_max_image (Finset.univ : Finset (Fin n)) t ⟨0, Finset.mem_univ _⟩
  exact ⟨j, fun x => hj x (Finset.mem_univ x)⟩

/-- A row of finite scores `t`: the kernel's weights of `t / log 2` are positive reals, the exponentials of the scores less
    their maximum. -/
theorem weight_eq (t : Fin n → ℝ) : ∃ e : Fin n → ℝ, (∀ j, 0 < e j)
    ∧ (∀ j, weight (fun x => ((t x / Real.log 2 : ℝ) : EReal)) j = e j)
    ∧ (∀ j, Ideal.exp ((t j : EReal) - top (fun x => (t x : EReal))) = e j) := by
  obtain ⟨k, hk⟩ := exists_max t
  have hl : 0 < Real.log 2 := Real.log_pos one_lt_two
  have h1 : top (fun x => (t x : EReal)) = t k := top_eq_of k rfl fun x => by exact_mod_cast hk x
  have h2 : top (fun x => ((t x / Real.log 2 : ℝ) : EReal)) = ((t k / Real.log 2 : ℝ) : EReal) :=
    top_eq_of k rfl fun x => by exact_mod_cast div_le_div_of_nonneg_right (hk x) hl.le
  refine ⟨fun j => Real.exp (t j - t k), fun j => Real.exp_pos _, fun j => ?_, fun j => ?_⟩
  · unfold weight
    rw [h2, ← EReal.coe_sub]
    show ((Real.rpow 2 _ : ℝ) : EReal) = _
    congr 1
    show (2 : ℝ) ^ (t j / Real.log 2 - t k / Real.log 2) = _
    rw [Real.rpow_def_of_pos two_pos]
    congr 1
    field_simp
  · rw [h1, ← EReal.coe_sub]; rfl

/-- THE GRADIENT OF A ROW'S SCORES. Where the weights are positive reals `e`, the kernel's order of operations computes what
    differentiating `softmax (s) = e / L` computes: `(p / L − Σ p (1 / L²) e) e`, times the scale. -/
theorem grad_eq (s p : Fin n → EReal) (e : Fin n → ℝ) (he : ∀ j, 0 < e j) (hw : ∀ j, weight s j = e j) {c : ℝ}
    (hc : 0 ≤ c) (j : Fin n) :
    grad c s p j = (Ideal.div (p j) (∑ x, (e x : EReal))
      + -∑ x, p x * Ideal.div 1 ((∑ x, (e x : EReal)) * ∑ x, (e x : EReal)) * e x) * e j * c := by
  have hL : 0 < ∑ x, e x := Finset.sum_pos (fun x _ => he x) ⟨0, Finset.mem_univ _⟩
  unfold grad recip
  simp only [hw, sum_coe]
  set L := ∑ x, e x with hLd
  rw [← EReal.coe_mul, Ideal.div_coe hL.ne', Ideal.div_coe hL.ne', Ideal.div_coe (mul_pos hL hL).ne', one_mul, one_mul]
  have hS : ∑ x, (e x : EReal) * (p x * ((c : EReal) * ((1 / L : ℝ) : EReal)))
      = ((c * (1 / L) : ℝ) : EReal) * ∑ x, (e x : EReal) * p x := by
    rw [mul_sum_coe _ _ (mul_nonneg hc (by positivity))]
    exact Finset.sum_congr rfl fun x _ => by rw [EReal.coe_mul]; ac_rfl
  have hS' : ∑ x, p x * ((1 / (L * L) : ℝ) : EReal) * (e x : EReal)
      = ((1 / (L * L) : ℝ) : EReal) * ∑ x, (e x : EReal) * p x := by
    rw [mul_sum_coe _ _ (by positivity)]
    exact Finset.sum_congr rfl fun x _ => by ac_rfl
  rw [hS, hS', ← sub_eq_add_neg]
  have h1 : ((1 / (L * L) : ℝ) : EReal) = ((1 / L : ℝ) : EReal) * ((1 / L : ℝ) : EReal) := by
    rw [← EReal.coe_mul]; congr 1; field_simp
  have h2 : p j * ((1 / L : ℝ) : EReal) - ((1 / (L * L) : ℝ) : EReal) * ∑ x, (e x : EReal) * p x
      = ((1 / L : ℝ) : EReal) * (p j - ((1 / L : ℝ) : EReal) * ∑ x, (e x : EReal) * p x) := by
    rw [mul_sub_coe (by positivity), h1]; congr 1 <;> ac_rfl
  have h3 : p j * ((c : EReal) * ((1 / L : ℝ) : EReal)) - ((c * (1 / L) : ℝ) : EReal) * (∑ x, (e x : EReal) * p x) * ((1 / L : ℝ) : EReal)
      = ((c * (1 / L) : ℝ) : EReal) * (p j - ((1 / L : ℝ) : EReal) * ∑ x, (e x : EReal) * p x) := by
    rw [mul_sub_coe (mul_nonneg hc (by positivity)), EReal.coe_mul]; congr 1 <;> ac_rfl
  rw [h2, h3, EReal.coe_mul]
  ac_rfl

end Cert.Rows

end
-- ==== Proof.Block.lean ====
/-
  What one grid point of the kernel leaves in its three output blocks, as plain sums (`Ideal`): the products, the weights and
  the gradient of the scores of each of the two sub-blocks of 256 query rows, read at an index (`pay…_apply`), and the found
  pieces of the body's run read back as values (`out_A_4` … `out_B_6`).
-/
module

public import proofs.«01_k».proof.Proof.Rows
public import proofs.«01_k».proof.Proof.Gen.KernelIdeal.Value
public import Idealize.ShloMosaic.Lib.Pointwise
public import Idealize.ShloMosaic.Lib.Pipeline.ValueKit
public import Idealize.ShloMosaic.Lib.Tactic

@[expose] public section

set_option maxRecDepth 16384

noncomputable section

namespace Cert.KernelIdeal.Attn

open Idealize.ShloMosaic Idealize.ShloMosaic.TcCoe Idealize.SL.Sem Idealize.ShloMosaic.Tactic
open Idealize.ShloMosaic.Pipeline (Dat)
open Cert.KernelIdeal Cert.KernelIdeal.Gen Cert.Rows

theorem hz : (![0, 0] : Fin 2 → Nat) = fun _ => 0 := funext fun a => by fin_cases a <;> rfl

/-- The scale, a named constant: one over the root of 192. -/
abbrev σ : EReal := (((Real.sqrt 192)⁻¹ : ℝ) : EReal)

theorem pay4_apply (x : Vec Ideal S256x128 .bf16) (y : Vec Ideal S4096x128 .bf16) (r : Fin 256) (j : Fin 4096) :
    k0_pay4 x y (ix2 r j) = ∑ d : Fin 128, x (ix2 r d) * y (ix2 j d) := by
  unfold k0_pay4
  pointwise

theorem pay5_apply (x : Vec Ideal S256x256 .bf16) (y : Vec Ideal S4096x256 .bf16) (r : Fin 256) (j : Fin 4096) :
    k0_pay5 x y (ix2 r j) = ∑ d : Fin 256, x (ix2 r d) * y (ix2 j d) := by
  unfold k0_pay5
  pointwise

theorem pay6_apply (x : Vec Ideal S256x128 .bf16) (y : Vec Ideal S4096x128 .bf16) (r : Fin 256) (j : Fin 4096) :
    k0_pay6 x y (ix2 r j) = ∑ d : Fin 128, x (ix2 r d) * y (ix2 j d) := by
  unfold k0_pay6
  pointwise

theorem negInf : Ideal.ofBits .f32 0xFF800000#32 = ⊥ := by simp [Ideal.ofBits, Ideal.ieee]

theorem pay13_apply (v : FVec Ideal S256x4096 .f32) (r : Fin 256) (j : Fin 4096) :
    k0_pay13 v (ix2 r j) = weight (fun x => v (ix2 r x)) j := by
  unfold k0_pay13 weight top
  pointwise
  rw [negInf]
  rfl

theorem pay14_apply (v : FVec Ideal S256x4096 .f32) (r : Fin 256) (j : Fin 1) :
    k0_pay14 v (ix2 r j) = recip (fun x => v (ix2 r x)) := by
  unfold k0_pay14 recip
  pointwise
  simp only [pay13_apply]

theorem pay7_eq (x : Vec Ideal S256x256 .bf16) (y : Vec Ideal S4096x256 .bf16) :
    k0_pay7 x y = k0_pay13 (k0_pay5 x y) := rfl

theorem pay8_eq (x : Vec Ideal S256x256 .bf16) (y : Vec Ideal S4096x256 .bf16) :
    k0_pay8 x y = k0_pay14 (k0_pay5 x y) := rfl

theorem pay10_eq (v p : FVec Ideal S256x4096 .f32) (y : Vec Ideal S4096x256 .bf16) :
    k0_pay10 p (k0_pay13 v) (k0_pay14 v) y = k0_pay16 v p y := rfl

theorem pay11_eq (v p : FVec Ideal S256x4096 .f32) (a : Vec Ideal S4096x256 .f32) (y : Vec Ideal S256x256 .bf16) :
    k0_pay11 p (k0_pay13 v) (k0_pay14 v) a y = k0_pay17 v p a y := rfl

theorem pay1_eq (v : FVec Ideal S256x4096 .f32) (a : Vec Ideal S4096x128 .f32) (y : Vec Ideal S256x128 .bf16) :
    k0_pay1 (k0_pay14 v) (k0_pay18 a) (k0_pay19 v) (k0_pay20 y) = k0_pay12 (k0_pay13 v) (k0_pay14 v) a y := rfl

theorem scale_eq : Named.named (F := Ideal) κ "scale" (φ := .f32) 0x3D93CD3A#32 = σ :=
  IdealRules.named_const.ideal_named_scalar _ _ _ _ rfl

theorem pay15_apply (v p : FVec Ideal S256x4096 .f32) (r : Fin 256) (j : Fin 4096) :
    k0_pay15 v p (ix2 r j) = grad σ (fun x => v (ix2 r x)) (fun x => p (ix2 r x)) j := by
  unfold k0_pay15 grad
  pointwise
  simp only [pay13_apply, pay14_apply, scale_eq]

theorem pay16_apply (v p : FVec Ideal S256x4096 .f32) (y : Vec Ideal S4096x256 .bf16) (r : Fin 256) (j : Fin 256) :
    k0_pay16 v p y (ix2 r j)
      = ∑ x : Fin 4096, grad σ (fun x => v (ix2 r x)) (fun x => p (ix2 r x)) x * y (ix2 x j) := by
  unfold k0_pay16
  pointwise
  simp only [pay15_apply]

theorem pay17_apply (v p : FVec Ideal S256x4096 .f32) (a : Vec Ideal S4096x256 .f32) (y : Vec Ideal S256x256 .bf16)
    (r : Fin 4096) (j : Fin 256) :
    k0_pay17 v p a y (ix2 r j)
      = a (ix2 r j) + ∑ x : Fin 256, grad σ (fun z => v (ix2 x z)) (fun z => p (ix2 x z)) r * y (ix2 x j) := by
  unfold k0_pay17
  pointwise
  simp only [pay15_apply]

theorem pay12_apply (v : FVec Ideal S256x4096 .f32) (a : Vec Ideal S4096x128 .f32) (y : Vec Ideal S256x128 .bf16)
    (r : Fin 4096) (j : Fin 128) :
    k0_pay12 (k0_pay13 v) (k0_pay14 v) a y (ix2 r j)
      = a (ix2 r j) + ∑ x : Fin 256, weight (fun z => v (ix2 x z)) r * (y (ix2 x j) * recip (fun z => v (ix2 x z))) := by
  unfold k0_pay12
  pointwise
  simp only [pay13_apply, pay14_apply]

/-! ## The two sub-blocks -/

/-- Query row `r` of the first sub-block of 256 rows, and of the second. -/
abbrev lo (r : Fin 256) : Fin 512 := ⟨r.val, by omega⟩
abbrev hi (r : Fin 256) : Fin 512 := ⟨256 + r.val, by omega⟩

/-- A sum over the block's 512 rows is the sum over the first sub-block and the sum over the second. -/
theorem sum_lo_hi (f : Fin 512 → EReal) : ∑ r, f (lo r) + ∑ r, f (hi r) = ∑ R, f R :=
  (Fin.sum_univ_add (a := 256) (b := 256) f).symm

/-- The scores of query row `R` of the block against key `j`, and the products of its output gradient with value `j`. -/
def score (q : Vec Ideal S512x256 .bf16) (k : Vec Ideal S4096x256 .bf16) (R : Fin 512) (j : Fin 4096) : EReal :=
  ∑ d : Fin 256, q (ix2 R d) * k (ix2 j d)
def prod (o : Vec Ideal S512x128 .bf16) (v : Vec Ideal S4096x128 .bf16) (R : Fin 512) (j : Fin 4096) : EReal :=
  ∑ d : Fin 128, o (ix2 R d) * v (ix2 j d)

/-- What a point adds to each output block: the queries' gradient, and the block's addends to the keys' and the values'. -/
def dqAt (q : Vec Ideal S512x256 .bf16) (k : Vec Ideal S4096x256 .bf16) (v : Vec Ideal S4096x128 .bf16) (o : Vec Ideal S512x128 .bf16)
    (R : Fin 512) (d : Fin 256) : EReal :=
  ∑ j : Fin 4096, grad σ (score q k R) (prod o v R) j * k (ix2 j d)
def dkAt (q : Vec Ideal S512x256 .bf16) (k : Vec Ideal S4096x256 .bf16) (v : Vec Ideal S4096x128 .bf16) (o : Vec Ideal S512x128 .bf16)
    (j : Fin 4096) (d : Fin 256) : EReal :=
  ∑ R : Fin 512, grad σ (score q k R) (prod o v R) j * q (ix2 R d)
def dvAt (q : Vec Ideal S512x256 .bf16) (k : Vec Ideal S4096x256 .bf16) (o : Vec Ideal S512x128 .bf16)
    (j : Fin 4096) (d : Fin 128) : EReal :=
  ∑ R : Fin 512, weight (score q k R) j * (o (ix2 R d) * recip (score q k R))

section
variable (q : Vec Ideal S512x256 .bf16) (k : Vec Ideal S4096x256 .bf16) (v : Vec Ideal S4096x128 .bf16) (o : Vec Ideal S512x128 .bf16)

def qlo : Vec Ideal S256x256 .bf16 := View.ld q (Rect.unit ![0, 0] S256x256.size inb_S512x256_S256x256_0_0)
def qhi : Vec Ideal S256x256 .bf16 := View.ld q (Rect.unit ![256, 0] S256x256.size inb_S512x256_S256x256_256_0)
def olo : Vec Ideal S256x128 .bf16 := View.ld o (Rect.unit ![0, 0] S256x128.size inb_S512x128_S256x128_0_0)
def ohi : Vec Ideal S256x128 .bf16 := View.ld o (Rect.unit ![256, 0] S256x128.size inb_S512x128_S256x128_256_0)

theorem qlo_apply (r : Fin 256) (d : Fin 256) : qlo q (ix2 r d) = q (ix2 (lo r) d) :=
  View.ld_unit_apply_of q _ _ _ _ _ fun a => by
    match a with
    | ⟨0, _⟩ => show r.val = 0 + r.val; omega
    | ⟨1, _⟩ => show d.val = 0 + d.val; omega
theorem qhi_apply (r : Fin 256) (d : Fin 256) : qhi q (ix2 r d) = q (ix2 (hi r) d) :=
  View.ld_unit_apply_of q _ _ _ _ _ fun a => by
    match a with
    | ⟨0, _⟩ => rfl
    | ⟨1, _⟩ => show d.val = 0 + d.val; omega
theorem olo_apply (r : Fin 256) (d : Fin 128) : olo o (ix2 r d) = o (ix2 (lo r) d) :=
  View.ld_unit_apply_of o _ _ _ _ _ fun a => by
    match a with
    | ⟨0, _⟩ => show r.val = 0 + r.val; omega
    | ⟨1, _⟩ => show d.val = 0 + d.val; omega
theorem ohi_apply (r : Fin 256) (d : Fin 128) : ohi o (ix2 r d) = o (ix2 (hi r) d) :=
  View.ld_unit_apply_of o _ _ _ _ _ fun a => by
    match a with
    | ⟨0, _⟩ => rfl
    | ⟨1, _⟩ => show d.val = 0 + d.val; omega

theorem score_lo (r : Fin 256) : (fun j => k0_pay5 (qlo q) k (ix2 r j)) = score q k (lo r) :=
  funext fun j => by rw [pay5_apply]; simp only [qlo_apply]; rfl
theorem score_hi (r : Fin 256) : (fun j => k0_pay5 (qhi q) k (ix2 r j)) = score q k (hi r) :=
  funext fun j => by rw [pay5_apply]; simp only [qhi_apply]; rfl
theorem prod_lo (r : Fin 256) : (fun j => k0_pay4 (olo o) v (ix2 r j)) = prod o v (lo r) :=
  funext fun j => by rw [pay4_apply]; simp only [olo_apply]; rfl
theorem prod_hi (r : Fin 256) : (fun j => k0_pay6 (ohi o) v (ix2 r j)) = prod o v (hi r) :=
  funext fun j => by rw [pay6_apply]; simp only [ohi_apply]; rfl

theorem dq_pieces : View.canon (Val := Elt Ideal) (s := S512x256) (e := .f32)
    [⟨Rect.unit ![256, 0] S256x256.size inb_S512x256_S256x256_256_0, k0_pay16 (k0_pay5 (qhi q) k) (k0_pay6 (ohi o) v) k⟩,
     ⟨Rect.unit ![0, 0] S256x256.size inb_S512x256_S256x256_0_0,
      k0_pay10 (k0_pay4 (olo o) v) (k0_pay7 (qlo q) k) (k0_pay8 (qlo q) k) k⟩]
    = fun y => dqAt q k v o (y 0) (y 1) := by
  funext y
  have hy : (y 0).val < 512 := (y 0).isLt
  have hd : (y 1).val < 256 := (y 1).isLt
  refine View.canon_apply_of_pieces (Val := Elt Ideal) (e := .f32) (fun y : S512x256.Idx => dqAt q k v o (y 0) (y 1)) _ ?_ y ?_
  · intro p hp
    simp only [List.mem_cons, List.not_mem_nil, or_false] at hp
    rcases hp with rfl | rfl <;> intro x
    · obtain ⟨r, d, rfl⟩ : ∃ (r : Fin 256) (d : Fin 256), x = ix2 r d := ⟨x 0, x 1, eq_ix2 x⟩
      have e : (Rect.unit (s := S512x256) ![256, 0] S256x256.size inb_S512x256_S256x256_256_0).emb (ix2 r d) = ix2 (hi r) d := by
        funext a; apply Fin.ext
        match a with
        | ⟨0, _⟩ => show 256 + 1 * r.val = 256 + r.val; omega
        | ⟨1, _⟩ => show 0 + 1 * d.val = d.val; omega
      rw [e]
      show k0_pay16 (F := Ideal) _ _ _ (ix2 r d) = dqAt q k v o (hi r) d
      rw [pay16_apply, score_hi, prod_hi]; rfl
    · obtain ⟨r, d, rfl⟩ : ∃ (r : Fin 256) (d : Fin 256), x = ix2 r d := ⟨x 0, x 1, eq_ix2 x⟩
      have e : (Rect.unit (s := S512x256) ![0, 0] S256x256.size inb_S512x256_S256x256_0_0).emb (ix2 r d) = ix2 (lo r) d := by
        funext a; apply Fin.ext
        match a with
        | ⟨0, _⟩ => show 0 + 1 * r.val = r.val; omega
        | ⟨1, _⟩ => show 0 + 1 * d.val = d.val; omega
      rw [e]
      show k0_pay10 (F := Ideal) _ _ _ _ (ix2 r d) = dqAt q k v o (lo r) d
      rw [pay7_eq, pay8_eq, pay10_eq, pay16_apply, score_lo, prod_lo]; rfl
  · by_cases h : (y 0).val < 256
    · refine ⟨_, List.mem_cons_of_mem _ List.mem_cons_self, ?_⟩
      rw [Rect.mem_set_unit]
      intro a
      match a with
      | ⟨0, _⟩ => exact ⟨Nat.zero_le _, by show (y 0).val < 0 + 256; omega⟩
      | ⟨1, _⟩ => exact ⟨Nat.zero_le _, by show (y 1).val < 0 + 256; omega⟩
    · refine ⟨_, List.mem_cons_self, ?_⟩
      rw [Rect.mem_set_unit]
      intro a
      match a with
      | ⟨0, _⟩ => exact ⟨by show 256 ≤ (y 0).val; omega, by show (y 0).val < 256 + 256; omega⟩
      | ⟨1, _⟩ => exact ⟨Nat.zero_le _, by show (y 1).val < 0 + 256; omega⟩

theorem dk_eq (a : Vec Ideal S4096x256 .f32) :
    k0_pay17 (k0_pay5 (qhi q) k) (k0_pay6 (ohi o) v)
      (k0_pay11 (k0_pay4 (olo o) v) (k0_pay7 (qlo q) k) (k0_pay8 (qlo q) k) a (qlo q)) (qhi q)
    = fun y => a y + dkAt q k v o (y 0) (y 1) := by
  funext y
  obtain ⟨j, d, rfl⟩ : ∃ (j : Fin 4096) (d : Fin 256), y = ix2 j d := ⟨y 0, y 1, eq_ix2 y⟩
  rw [pay7_eq, pay8_eq, pay11_eq, pay17_apply, pay17_apply]
  simp only [score_lo, score_hi, prod_lo, prod_hi, qlo_apply, qhi_apply]
  rw [add_assoc, sum_lo_hi fun R => grad σ (score q k R) (prod o v R) j * q (ix2 R d)]
  rfl

theorem dv_eq (a : Vec Ideal S4096x128 .f32) :
    k0_pay1 (k0_pay14 (k0_pay5 (qhi q) k)) (k0_pay18 (k0_pay12 (k0_pay7 (qlo q) k) (k0_pay8 (qlo q) k) a (olo o)))
      (k0_pay19 (k0_pay5 (qhi q) k)) (k0_pay20 (ohi o))
    = fun y => a y + dvAt q k o (y 0) (y 1) := by
  funext y
  obtain ⟨j, d, rfl⟩ : ∃ (j : Fin 4096) (d : Fin 128), y = ix2 j d := ⟨y 0, y 1, eq_ix2 y⟩
  rw [pay7_eq, pay8_eq, pay1_eq, pay12_apply, pay12_apply]
  simp only [score_lo, score_hi, olo_apply, ohi_apply]
  rw [add_assoc, sum_lo_hi fun R => weight (score q k R) j * (o (ix2 R d) * recip (score q k R))]
  rfl

end

/-! ## The found pieces, read back -/

section
variable (c : Dev nD) (i : grid0.Coords) (arg2 : Memref sig .tc .vmem S512x256 .bf16) (harg2 : arg2.IsWhole)
  (arg3 : Memref sig .tc .vmem S4096x256 .bf16) (harg3 : arg3.IsWhole) (arg4 : Memref sig .tc .vmem S4096x128 .bf16)
  (harg4 : arg4.IsWhole) (arg5 : Memref sig .tc .vmem S512x128 .bf16) (harg5 : arg5.IsWhole)
  (arg6 : Memref sig .tc .vmem S512x256 .f32) (harg6 : arg6.IsWhole) (arg7 : Memref sig .tc .vmem S4096x256 .f32)
  (harg7 : arg7.IsWhole) (arg8 : Memref sig .tc .vmem S4096x128 .f32) (harg8 : arg8.IsWhole)
  (x0 : Vec Ideal S512x256 .bf16) (x1 : Vec Ideal S4096x256 .bf16) (x2 : Vec Ideal S4096x128 .bf16) (x3 : Vec Ideal S512x128 .bf16)

/-- A covered load after two whole stores reads the later one's payload. -/
theorem readCov_cons {S : Shape} {e : EltTy} {sp : Space} (w : View sig .tc sp S e) {off : Fin S.rank → Nat} (h : off = fun _ => 0)
    (inb : ∀ a, off a + S.size a ≤ S.size a) (p : S.Idx → Elt Ideal e) (L : List (View.Piece (Elt Ideal) S e)) :
    w.readCov ((⟨Rect.unit off S.size inb, p⟩ : View.Piece (Elt Ideal) S e) :: L) (Rect.unit off S.size inb).toLoadRect = p := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem zero5 (y : S4096x256.Idx) : (k0_pay2 (F := Ideal)) y = 0 := by unfold k0_pay2; pointwise
theorem zero6 (y : S4096x128.Idx) : (k0_pay3 (F := Ideal)) y = 0 := by unfold k0_pay3; pointwise

theorem out_A_4 (hc0 : cond0_0 i) :
    out0_A_4 c i arg2 harg2 arg3 harg3 arg4 harg4 arg5 harg5 arg6 harg6 arg7 harg7 arg8 harg8 hc0 x0 x1 x2 x3
      = fun y => dqAt x0 x1 x2 x3 (y 0) (y 1) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  simp only [View.canon_cons_unit_zero (S := S4096x256) hz, View.canon_cons_unit_zero (S := S4096x128) hz,
    readCov_cons (S := S4096x256) _ hz, readCov_cons (S := S4096x128) _ hz, View.readAt_eq_ld, harg2.read_unread,
    harg3.read_unread, harg4.read_unread, harg5.read_unread, harg7.read_unread, harg8.read_unread,
    View.ld_unit_zero (S := S4096x256) hz, View.ld_unit_zero (S := S4096x128) hz]
  exact dq_pieces x0 x1 x2 x3

theorem out_A_5 (hc0 : cond0_0 i) :
    out0_A_5 c i arg2 harg2 arg3 harg3 arg4 harg4 arg5 harg5 arg6 harg6 arg7 harg7 arg8 harg8 hc0 x0 x1 x2 x3
      = fun y => 0 + dkAt x0 x1 x2 x3 (y 0) (y 1) := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  sl_unfold_words
  simp only [View.canon_cons_unit_zero (S := S4096x256) hz, View.canon_cons_unit_zero (S := S4096x128) hz,
    readCov_cons (S := S4096x256) _ hz, readCov_cons (S := S4096x128) _ hz, View.readAt_eq_ld, harg2.read_unread,
    harg3.read_unread, harg4.read_unread, harg5.read_unread, harg7.read_unread, harg8.read_unread,
    View.ld_unit_zero (S := S4096x256) hz, View.ld_unit_zero (S := S4096x128) hz]
  exact (dk_eq x0 x1 x2 x3 (k0_pay2 (F := Ideal))).trans
    (funext fun y => congrArg (fun z : EReal => z + dkAt x0 x1 x2 x3 (y 0) (y 1)) (zero5 y))

theorem out_A_6 (hc0 : cond0_0 i) :
    out0_A_6 c i arg2 harg2 arg3 harg3 arg4 harg4 arg5 harg5 arg6 harg6 arg7 harg7 arg8 harg8 hc0 x0 x1 x2 x3
      = fun y => 0 + dvAt x0 x1 x3 (y 0) (y 1) := by
  unfold out0_A_6
  rw [View.read_writes_eq_canon _ _ _ (cover0_A_6 c i arg2 harg2 arg3 harg3 arg4 harg4 arg5 harg5 arg6 harg6 arg7 harg7 arg8 harg8 hc0 x0 x1 x2 x3)]
  unfold kernelRun0_A
  dsimp only
  sl_unfold_words
  simp only [View.canon_cons_unit_zero (S := S4096x256) hz, View.canon_cons_unit_zero (S := S4096x128) hz,
    readCov_cons (S := S4096x256) _ hz, readCov_cons (S := S4096x128) _ hz, View.readAt_eq_ld, harg2.read_unread,
    harg3.read_unread, harg4.read_unread, harg5.read_unread, harg7.read_unread, harg8.read_unread,
    View.ld_unit_zero (S := S4096x256) hz, View.ld_unit_zero (S := S4096x128) hz]
  exact (dv_eq x0 x1 x3 (k0_pay3 (F := Ideal))).trans
    (funext fun y => congrArg (fun z : EReal => z + dvAt x0 x1 x3 (y 0) (y 1)) (zero6 y))

theorem out_B_4 (hc0 : ¬cond0_0 i) (xo5 : Vec Ideal S4096x256 .f32) (xo6 : Vec Ideal S4096x128 .f32) :
    out0_B_4 c i arg2 harg2 arg3 harg3 arg4 harg4 arg5 harg5 arg6 harg6 arg7 harg7 arg8 harg8 hc0 x0 x1 x2 x3 xo5 xo6
      = fun y => dqAt x0 x1 x2 x3 (y 0) (y 1) := by
  unfold out0_B_4
  rw [View.read_writes_eq_canon _ _ _ (cover0_B_4 c i arg2 harg2 arg3 harg3 arg4 harg4 arg5 harg5 arg6 harg6 arg7 harg7 arg8 harg8 hc0 x0 x1 x2 x3 xo5 xo6)]
  unfold kernelRun0_B
  dsimp only
  sl_unfold_words
  simp only [View.canon_cons_unit_zero (S := S4096x256) hz, View.canon_cons_unit_zero (S := S4096x128) hz,
    readCov_cons (S := S4096x256) _ hz, readCov_cons (S := S4096x128) _ hz, View.readAt_eq_ld, harg2.read_unread,
    harg3.read_unread, harg4.read_unread, harg5.read_unread, harg7.read_unread, harg8.read_unread,
    View.ld_unit_zero (S := S4096x256) hz, View.ld_unit_zero (S := S4096x128) hz]
  exact dq_pieces x0 x1 x2 x3

theorem out_B_5 (hc0 : ¬cond0_0 i) (xo5 : Vec Ideal S4096x256 .f32) (xo6 : Vec Ideal S4096x128 .f32) :
    out0_B_5 c i arg2 harg2 arg3 harg3 arg4 harg4 arg5 harg5 arg6 harg6 arg7 harg7 arg8 harg8 hc0 x0 x1 x2 x3 xo5 xo6
      = fun y => xo5 y + dkAt x0 x1 x2 x3 (y 0) (y 1) := by
  unfold out0_B_5
  rw [View.read_writes_eq_canon _ _ _ (cover0_B_5 c i arg2 harg2 arg3 harg3 arg4 harg4 arg5 harg5 arg6 harg6 arg7 harg7 arg8 harg8 hc0 x0 x1 x2 x3 xo5 xo6)]
  unfold kernelRun0_B
  dsimp only
  sl_unfold_words
  simp only [View.canon_cons_unit_zero (S := S4096x256) hz, View.canon_cons_unit_zero (S := S4096x128) hz,
    readCov_cons (S := S4096x256) _ hz, readCov_cons (S := S4096x128) _ hz, View.readAt_eq_ld, harg2.read_unread,
    harg3.read_unread, harg4.read_unread, harg5.read_unread, harg7.read_unread, harg8.read_unread,
    View.ld_unit_zero (S := S4096x256) hz, View.ld_unit_zero (S := S4096x128) hz]
  exact dk_eq x0 x1 x2 x3 _

theorem out_B_6 (hc0 : ¬cond0_0 i) (xo5 : Vec Ideal S4096x256 .f32) (xo6 : Vec Ideal S4096x128 .f32) :
    out0_B_6 c i arg2 harg2 arg3 harg3 arg4 harg4 arg5 harg5 arg6 harg6 arg7 harg7 arg8 harg8 hc0 x0 x1 x2 x3 xo5 xo6
      = fun y => xo6 y + dvAt x0 x1 x3 (y 0) (y 1) := by
  unfold out0_B_6
  rw [View.read_writes_eq_canon _ _ _ (cover0_B_6 c i arg2 harg2 arg3 harg3 arg4 harg4 arg5 harg5 arg6 harg6 arg7 harg7 arg8 harg8 hc0 x0 x1 x2 x3 xo5 xo6)]
  unfold kernelRun0_B
  dsimp only
  sl_unfold_words
  simp only [View.canon_cons_unit_zero (S := S4096x256) hz, View.canon_cons_unit_zero (S := S4096x128) hz,
    readCov_cons (S := S4096x256) _ hz, readCov_cons (S := S4096x128) _ hz, View.readAt_eq_ld, harg2.read_unread,
    harg3.read_unread, harg4.read_unread, harg5.read_unread, harg7.read_unread, harg8.read_unread,
    View.ld_unit_zero (S := S4096x256) hz, View.ld_unit_zero (S := S4096x128) hz]
  exact dv_eq x0 x1 x3 _

end

end Cert.KernelIdeal.Attn

end
-- ==== Proof.KernelValue.lean ====
/-
  The kernel's three result arrays as plain sums over the arrays the region reads (`Ideal`): each input block is its rows and
  columns of its array (`iblk0_apply` …); the two accumulated outputs hold, after a point, the addends of the points of its
  head so far (`outs5`, `outs6`, by induction on the point); and the blocks written back cover the result arrays (`final4`,
  `final5`, `final6`).
-/
module

public import proofs.«01_k».proof.Proof.Block

@[expose] public section

set_option maxRecDepth 16384

noncomputable section

namespace Cert.KernelIdeal.Attn

open Idealize.ShloMosaic Idealize.ShloMosaic.TcCoe Idealize.SL.Sem Idealize.ShloMosaic.Tactic
open Idealize.ShloMosaic.Pipeline (Dat)
open Cert.KernelIdeal Cert.KernelIdeal.Gen Cert.Rows

/-! ## The results, over whole arrays -/

/-- Column `d` of head `h` in the arrays of 256 columns a head, and in those of 128; row `R` of query block `b`. -/
abbrev col (h : Fin 4) (d : Fin 256) : Fin 1024 := ⟨256 * h.val + d.val, by omega⟩
abbrev vcol (h : Fin 4) (d : Fin 128) : Fin 512 := ⟨128 * h.val + d.val, by omega⟩
abbrev row (b : Fin 8) (R : Fin 512) : Fin 4096 := ⟨512 * b.val + R.val, by omega⟩

section
variable (Q K : Vec Ideal S4096x1024 .bf16) (V O : Vec Ideal S4096x512 .bf16)

/-- Head `h`'s scores of query `r` against key `j`, and the products of the output's gradient with the values. -/
def scores (h : Fin 4) (r j : Fin 4096) : EReal := ∑ d : Fin 256, Q (ix2 r (col h d)) * K (ix2 j (col h d))
def prods (h : Fin 4) (r j : Fin 4096) : EReal := ∑ d : Fin 128, O (ix2 r (vcol h d)) * V (ix2 j (vcol h d))

/-- The gradients of the queries, the keys and the values, per head. -/
def dq (h : Fin 4) (r : Fin 4096) (d : Fin 256) : EReal :=
  ∑ j, grad σ (scores Q K h r) (prods V O h r) j * K (ix2 j (col h d))
def dk (h : Fin 4) (j : Fin 4096) (d : Fin 256) : EReal :=
  ∑ r, grad σ (scores Q K h r) (prods V O h r) j * Q (ix2 r (col h d))
def dv (h : Fin 4) (j : Fin 4096) (d : Fin 128) : EReal :=
  ∑ r, weight (scores Q K h r) j * (O (ix2 r (vcol h d)) * recip (scores Q K h r))

/-- … and as the result arrays. -/
def dqArr : Vec Ideal S4096x1024 .f32 := fun i =>
  dq Q K V O ⟨(i 1).val / 256, by have : (i 1).val < 1024 := (i 1).isLt; omega⟩ (i 0) ⟨(i 1).val % 256, Nat.mod_lt _ (by decide)⟩
def dkArr : Vec Ideal S4096x1024 .f32 := fun i =>
  dk Q K V O ⟨(i 1).val / 256, by have : (i 1).val < 1024 := (i 1).isLt; omega⟩ (i 0) ⟨(i 1).val % 256, Nat.mod_lt _ (by decide)⟩
def dvArr : Vec Ideal S4096x512 .f32 := fun i =>
  dv Q K O ⟨(i 1).val / 128, by have : (i 1).val < 512 := (i 1).isLt; omega⟩ (i 0) ⟨(i 1).val % 128, Nat.mod_lt _ (by decide)⟩

theorem dqArr_col (h : Fin 4) (r : Fin 4096) (d : Fin 256) : dqArr Q K V O (ix2 r (col h d)) = dq Q K V O h r d := by
  show dq Q K V O ⟨(256 * h.val + d.val) / 256, _⟩ r ⟨(256 * h.val + d.val) % 256, _⟩ = _
  congr 1 <;> apply Fin.ext <;> dsimp only <;> omega
theorem dkArr_col (h : Fin 4) (r : Fin 4096) (d : Fin 256) : dkArr Q K V O (ix2 r (col h d)) = dk Q K V O h r d := by
  show dk Q K V O ⟨(256 * h.val + d.val) / 256, _⟩ r ⟨(256 * h.val + d.val) % 256, _⟩ = _
  congr 1 <;> apply Fin.ext <;> dsimp only <;> omega
theorem dvArr_col (h : Fin 4) (r : Fin 4096) (d : Fin 128) : dvArr Q K O (ix2 r (vcol h d)) = dv Q K O h r d := by
  show dv Q K O ⟨(128 * h.val + d.val) / 128, _⟩ r ⟨(128 * h.val + d.val) % 128, _⟩ = _
  congr 1 <;> apply Fin.ext <;> dsimp only <;> omega
end

/-- A sum over the 4096 rows, query block by query block. -/
theorem sum_rows (f : Fin 4096 → EReal) : ∑ b : Fin 8, ∑ R : Fin 512, f (row b R) = ∑ r, f r := by
  rw [← Fintype.sum_prod_type' (f := fun b R => f (row b R))]
  refine Fintype.sum_equiv ⟨fun p => row p.1 p.2, fun r => (⟨r.val / 512, by omega⟩, ⟨r.val % 512, Nat.mod_lt _ (by decide)⟩),
    fun p => ?_, fun r => ?_⟩ _ _ fun _ => rfl
  · obtain ⟨b, R⟩ := p
    refine Prod.ext (Fin.ext ?_) (Fin.ext ?_) <;> dsimp only <;> omega
  · apply Fin.ext; dsimp only; omega

/-! ## The input blocks -/

variable (m : (ℓ : Loc nD τ sig) → Buf (Elt Ideal) ℓ) (ρ : Dev nD → PrngReg) (c : Dev nD)

/-- The head and the query block of a grid point. -/
abbrev hd (t : Fin cfg0.N) : Fin 4 := ⟨t.val / 8, by have : t.val < 32 := lt_of_lt_of_eq t.isLt N_0; omega⟩
abbrev qb (t : Fin cfg0.N) : Fin 8 := ⟨t.val % 8, Nat.mod_lt _ (by decide)⟩

theorem idx_eq : ∀ t : Fin cfg0.N, win0_0.index t = ![t.val % 8, t.val / 8] ∧ win0_1.index t = ![0, t.val / 8]
    ∧ win0_2.index t = ![0, t.val / 8] ∧ win0_3.index t = ![t.val % 8, t.val / 8] ∧ win0_4.index t = ![t.val % 8, t.val / 8]
    ∧ win0_5.index t = ![0, t.val / 8] ∧ win0_6.index t = ![0, t.val / 8] :=
  (by decide +kernel : ∀ t : Fin grid0.N, win0_0.index t = ![t.val % 8, t.val / 8] ∧ win0_1.index t = ![0, t.val / 8]
    ∧ win0_2.index t = ![0, t.val / 8] ∧ win0_3.index t = ![t.val % 8, t.val / 8] ∧ win0_4.index t = ![t.val % 8, t.val / 8]
    ∧ win0_5.index t = ![0, t.val / 8] ∧ win0_6.index t = ![0, t.val / 8])

/-- The arrays the region reads. -/
abbrev Qa : Vec Ideal S4096x1024 .bf16 := V m c main_v6
abbrev Ka : Vec Ideal S4096x1024 .bf16 := V m c main_v8
abbrev Va : Vec Ideal S4096x512 .bf16 := V m c main_v10
abbrev Oa : Vec Ideal S4096x512 .bf16 := V m c main_v12

theorem iblk0_apply (t : Fin cfg0.N) (R : Fin 512) (d : Fin 256) :
    (iblk m c 0 t : Vec Ideal S512x256 .bf16) (ix2 R d) = Qa m c (ix2 (row (qb t) R) (col (hd t) d)) := by
  have e := (idx_eq t).1
  unfold iblk
  rw [View.read_apply]
  show V m c main_v6 _ = V m c main_v6 _
  congr 1
  funext a
  apply Fin.ext
  match a with
  | ⟨0, _⟩ => show win0_0.index t 0 * 512 + 1 * R.val = 512 * (t.val % 8) + R.val; rw [e]; show t.val % 8 * 512 + _ = _; omega
  | ⟨1, _⟩ => show win0_0.index t 1 * 256 + 1 * d.val = 256 * (t.val / 8) + d.val; rw [e]; show t.val / 8 * 256 + _ = _; omega

theorem iblk1_apply (t : Fin cfg0.N) (j : Fin 4096) (d : Fin 256) :
    (iblk m c 1 t : Vec Ideal S4096x256 .bf16) (ix2 j d) = Ka m c (ix2 j (col (hd t) d)) := by
  have e := (idx_eq t).2.1
  unfold iblk
  rw [View.read_apply]
  show V m c main_v8 _ = V m c main_v8 _
  congr 1
  funext a
  apply Fin.ext
  match a with
  | ⟨0, _⟩ => show win0_1.index t 0 * 4096 + 1 * j.val = j.val; rw [e]; show 0 * 4096 + _ = _; omega
  | ⟨1, _⟩ => show win0_1.index t 1 * 256 + 1 * d.val = 256 * (t.val / 8) + d.val; rw [e]; show t.val / 8 * 256 + _ = _; omega

theorem iblk2_apply (t : Fin cfg0.N) (j : Fin 4096) (d : Fin 128) :
    (iblk m c 2 t : Vec Ideal S4096x128 .bf16) (ix2 j d) = Va m c (ix2 j (vcol (hd t) d)) := by
  have e := (idx_eq t).2.2.1
  unfold iblk
  rw [View.read_apply]
  show V m c main_v10 _ = V m c main_v10 _
  congr 1
  funext a
  apply Fin.ext
  match a with
  | ⟨0, _⟩ => show win0_2.index t 0 * 4096 + 1 * j.val = j.val; rw [e]; show 0 * 4096 + _ = _; omega
  | ⟨1, _⟩ => show win0_2.index t 1 * 128 + 1 * d.val = 128 * (t.val / 8) + d.val; rw [e]; show t.val / 8 * 128 + _ = _; omega

theorem iblk3_apply (t : Fin cfg0.N) (R : Fin 512) (d : Fin 128) :
    (iblk m c 3 t : Vec Ideal S512x128 .bf16) (ix2 R d) = Oa m c (ix2 (row (qb t) R) (vcol (hd t) d)) := by
  have e := (idx_eq t).2.2.2.1
  unfold iblk
  rw [View.read_apply]
  show V m c main_v12 _ = V m c main_v12 _
  congr 1
  funext a
  apply Fin.ext
  match a with
  | ⟨0, _⟩ => show win0_3.index t 0 * 512 + 1 * R.val = 512 * (t.val % 8) + R.val; rw [e]; show t.val % 8 * 512 + _ = _; omega
  | ⟨1, _⟩ => show win0_3.index t 1 * 128 + 1 * d.val = 128 * (t.val / 8) + d.val; rw [e]; show t.val / 8 * 128 + _ = _; omega

theorem score_iblk (t : Fin cfg0.N) (R : Fin 512) :
    score (iblk m c 0 t) (iblk m c 1 t) R = scores (Qa m c) (Ka m c) (hd t) (row (qb t) R) := by
  funext j
  unfold score scores
  exact Finset.sum_congr rfl fun d _ => by rw [iblk0_apply, iblk1_apply]

theorem prod_iblk (t : Fin cfg0.N) (R : Fin 512) :
    prod (iblk m c 3 t) (iblk m c 2 t) R = prods (Va m c) (Oa m c) (hd t) (row (qb t) R) := by
  funext j
  unfold prod prods
  exact Finset.sum_congr rfl fun d _ => by rw [iblk3_apply, iblk2_apply]

/-- What point `t` writes to the queries' gradient, and adds to the keys' and the values'. -/
theorem dqAt_iblk (t : Fin cfg0.N) (R : Fin 512) (d : Fin 256) :
    dqAt (iblk m c 0 t) (iblk m c 1 t) (iblk m c 2 t) (iblk m c 3 t) R d
      = dq (Qa m c) (Ka m c) (Va m c) (Oa m c) (hd t) (row (qb t) R) d := by
  unfold dqAt dq
  rw [score_iblk, prod_iblk]
  exact Finset.sum_congr rfl fun j _ => by rw [iblk1_apply]

def addK (t : Fin cfg0.N) (j : Fin 4096) (d : Fin 256) : EReal :=
  dkAt (iblk m c 0 t) (iblk m c 1 t) (iblk m c 2 t) (iblk m c 3 t) j d
def addV (t : Fin cfg0.N) (j : Fin 4096) (d : Fin 128) : EReal := dvAt (iblk m c 0 t) (iblk m c 1 t) (iblk m c 3 t) j d

theorem addK_eq (t : Fin cfg0.N) (j : Fin 4096) (d : Fin 256) : addK m c t j d
    = ∑ R : Fin 512, grad σ (scores (Qa m c) (Ka m c) (hd t) (row (qb t) R)) (prods (Va m c) (Oa m c) (hd t) (row (qb t) R)) j
        * Qa m c (ix2 (row (qb t) R) (col (hd t) d)) := by
  unfold addK dkAt
  exact Finset.sum_congr rfl fun R _ => by rw [score_iblk, prod_iblk, iblk0_apply]

theorem addV_eq (t : Fin cfg0.N) (j : Fin 4096) (d : Fin 128) : addV m c t j d
    = ∑ R : Fin 512, weight (scores (Qa m c) (Ka m c) (hd t) (row (qb t) R)) j
        * (Oa m c (ix2 (row (qb t) R) (vcol (hd t) d)) * recip (scores (Qa m c) (Ka m c) (hd t) (row (qb t) R))) := by
  unfold addV dvAt
  exact Finset.sum_congr rfl fun R _ => by rw [score_iblk, iblk3_apply]

/-! ## The accumulation over a head's points -/

/-- A quantity summed over the points of `n`'s head up to `n`. -/
def upTo (f : Fin cfg0.N → EReal) (n : ℕ) : EReal :=
  ∑ b ∈ Finset.range (n % 8 + 1), if h : 8 * (n / 8) + b < cfg0.N then f ⟨8 * (n / 8) + b, h⟩ else 0

theorem upTo_first (f : Fin cfg0.N → EReal) (n : ℕ) (h : n < cfg0.N) (h0 : n % 8 = 0) : upTo f n = f ⟨n, h⟩ := by
  have e : 8 * (n / 8) + 0 = n := by omega
  unfold upTo
  rw [h0, Finset.sum_range_one, dif_pos (by omega)]
  congr 1; exact Fin.ext e

theorem upTo_next (f : Fin cfg0.N → EReal) (n : ℕ) (h : n + 1 < cfg0.N) (h0 : ¬(n + 1) % 8 = 0) :
    upTo f (n + 1) = upTo f n + f ⟨n + 1, h⟩ := by
  have e : (n + 1) % 8 = n % 8 + 1 := by omega
  have e' : (n + 1) / 8 = n / 8 := by omega
  have e2 : 8 * (n / 8) + (n % 8 + 1) = n + 1 := by omega
  unfold upTo
  rw [e, e', Finset.sum_range_succ, dif_pos (by omega)]
  congr 1; congr 1; exact Fin.ext e2

/-- The outputs after a head's first point, and after another one over the point before. -/
theorem outs_first (t : Fin cfg0.N) (h0 : t.val % 8 = 0) : outsAt0 m c t.val t.isLt
    = (fun y => dqAt (iblk m c 0 t) (iblk m c 1 t) (iblk m c 2 t) (iblk m c 3 t) (y 0) (y 1),
       fun y => 0 + addK m c t (y 0) (y 1), fun y => 0 + addV m c t (y 0) (y 1)) := by
  rw [outsAt0_A m c t h0, Prod.mk.injEq, Prod.mk.injEq]
  exact ⟨out_A_4 .., out_A_5 .., out_A_6 ..⟩

theorem outs_next (t : Fin cfg0.N) (h0 : ¬t.val % 8 = 0) : outsAt0 m c t.val t.isLt
    = (fun y => dqAt (iblk m c 0 t) (iblk m c 1 t) (iblk m c 2 t) (iblk m c 3 t) (y 0) (y 1),
       fun y => (outsAt0 m c (t.val - 1) (by have := t.isLt; omega)).2.1 y + addK m c t (y 0) (y 1),
       fun y => (outsAt0 m c (t.val - 1) (by have := t.isLt; omega)).2.2 y + addV m c t (y 0) (y 1)) := by
  rw [outsAt0_B m c t h0, Prod.mk.injEq, Prod.mk.injEq]
  exact ⟨out_B_4 .., out_B_5 .., out_B_6 ..⟩

theorem outs4 (t : Fin cfg0.N) : (outsAt0 m c t.val t.isLt).1
    = fun y => dqAt (iblk m c 0 t) (iblk m c 1 t) (iblk m c 2 t) (iblk m c 3 t) (y 0) (y 1) := by
  by_cases h0 : t.val % 8 = 0
  · rw [outs_first m c t h0]
  · rw [outs_next m c t h0]

theorem outs5 (n : ℕ) : ∀ h : n < cfg0.N,
    (outsAt0 m c n h).2.1 = fun y => upTo (fun t => addK m c t (y 0) (y 1)) n := by
  induction n with
  | zero =>
    intro h
    rw [outs_first m c ⟨0, h⟩ rfl]
    funext y
    rw [upTo_first _ 0 h rfl]
    exact zero_add _
  | succ n ih =>
    intro h
    by_cases h0 : (n + 1) % 8 = 0
    · rw [outs_first m c ⟨n + 1, h⟩ h0]
      funext y
      rw [upTo_first _ _ h h0]
      exact zero_add _
    · rw [outs_next m c ⟨n + 1, h⟩ h0]
      funext y
      rw [upTo_next _ _ h h0]
      exact congrArg (· + addK m c ⟨n + 1, h⟩ (y 0) (y 1)) (congrFun (ih (Nat.lt_of_succ_lt h)) y)

theorem outs6 (n : ℕ) : ∀ h : n < cfg0.N,
    (outsAt0 m c n h).2.2 = fun y => upTo (fun t => addV m c t (y 0) (y 1)) n := by
  induction n with
  | zero =>
    intro h
    rw [outs_first m c ⟨0, h⟩ rfl]
    funext y
    rw [upTo_first _ 0 h rfl]
    exact zero_add _
  | succ n ih =>
    intro h
    by_cases h0 : (n + 1) % 8 = 0
    · rw [outs_first m c ⟨n + 1, h⟩ h0]
      funext y
      rw [upTo_first _ _ h h0]
      exact zero_add _
    · rw [outs_next m c ⟨n + 1, h⟩ h0]
      funext y
      rw [upTo_next _ _ h h0]
      exact congrArg (· + addV m c ⟨n + 1, h⟩ (y 0) (y 1)) (congrFun (ih (Nat.lt_of_succ_lt h)) y)

theorem upTo_last (f : Fin cfg0.N → EReal) (t : Fin cfg0.N) (ht : t.val % 8 = 7) :
    upTo f t.val = ∑ b : Fin 8, f ⟨8 * (t.val / 8) + b.val, by have := t.isLt; omega⟩ := by
  unfold upTo
  rw [ht, Finset.sum_range]
  exact Finset.sum_congr rfl fun b _ => dif_pos _

theorem addK_last (t : Fin cfg0.N) (ht : t.val % 8 = 7) (j : Fin 4096) (d : Fin 256) :
    upTo (fun t => addK m c t j d) t.val = dk (Qa m c) (Ka m c) (Va m c) (Oa m c) (hd t) j d := by
  rw [upTo_last _ t ht]
  unfold dk
  rw [← sum_rows]
  refine Finset.sum_congr rfl fun b _ => ?_
  rw [addK_eq]
  have eh : hd ⟨8 * (t.val / 8) + b.val, by have := t.isLt; omega⟩ = hd t := Fin.ext (by dsimp only; omega)
  have eb : qb ⟨8 * (t.val / 8) + b.val, by have := t.isLt; omega⟩ = b := Fin.ext (by dsimp only; omega)
  rw [eh, eb]

theorem addV_last (t : Fin cfg0.N) (ht : t.val % 8 = 7) (j : Fin 4096) (d : Fin 128) :
    upTo (fun t => addV m c t j d) t.val = dv (Qa m c) (Ka m c) (Oa m c) (hd t) j d := by
  rw [upTo_last _ t ht]
  unfold dv
  rw [← sum_rows]
  refine Finset.sum_congr rfl fun b _ => ?_
  rw [addV_eq]
  have eh : hd ⟨8 * (t.val / 8) + b.val, by have := t.isLt; omega⟩ = hd t := Fin.ext (by dsimp only; omega)
  have eb : qb ⟨8 * (t.val / 8) + b.val, by have := t.isLt; omega⟩ = b := Fin.ext (by dsimp only; omega)
  rw [eh, eb]

/-! ## The result arrays -/

theorem flushed5_eq (t : Fin cfg0.N) (hf : (cfg0.win 5).flush t = true) : (dats m 0 c).flushed 5 t
    = ((cfg0.win 5).blk t).view.read (Elt Ideal) (dkArr (Qa m c) (Ka m c) (Va m c) (Oa m c)) := by
  have e := (idx_eq t).2.2.2.2.2.1
  rw [Value.flushed5, outs5 m c t.val t.isLt]
  funext y
  obtain ⟨j, d, rfl⟩ : ∃ (j : Fin 4096) (d : Fin 256), y = ix2 j d := ⟨y 0, y 1, eq_ix2 y⟩
  rw [View.read_apply]
  show upTo (fun t => addK m c t j d) t.val = dkArr (Qa m c) (Ka m c) (Va m c) (Oa m c) _
  rw [addK_last m c t ((flush0_5 t).mp hf), ← dkArr_col]
  congr 1
  funext a
  apply Fin.ext
  match a with
  | ⟨0, _⟩ => show j.val = win0_5.index t 0 * 4096 + 1 * j.val; rw [e]; show _ = 0 * 4096 + _; omega
  | ⟨1, _⟩ => show 256 * (t.val / 8) + d.val = win0_5.index t 1 * 256 + 1 * d.val; rw [e]; show _ = t.val / 8 * 256 + _; omega

theorem flushed6_eq (t : Fin cfg0.N) (hf : (cfg0.win 6).flush t = true) : (dats m 0 c).flushed 6 t
    = ((cfg0.win 6).blk t).view.read (Elt Ideal) (dvArr (Qa m c) (Ka m c) (Oa m c)) := by
  have e := (idx_eq t).2.2.2.2.2.2
  rw [Value.flushed6, outs6 m c t.val t.isLt]
  funext y
  obtain ⟨j, d, rfl⟩ : ∃ (j : Fin 4096) (d : Fin 128), y = ix2 j d := ⟨y 0, y 1, eq_ix2 y⟩
  rw [View.read_apply]
  show upTo (fun t => addV m c t j d) t.val = dvArr (Qa m c) (Ka m c) (Oa m c) _
  rw [addV_last m c t ((flush0_6 t).mp hf), ← dvArr_col]
  congr 1
  funext a
  apply Fin.ext
  match a with
  | ⟨0, _⟩ => show j.val = win0_6.index t 0 * 4096 + 1 * j.val; rw [e]; show _ = 0 * 4096 + _; omega
  | ⟨1, _⟩ => show 128 * (t.val / 8) + d.val = win0_6.index t 1 * 128 + 1 * d.val; rw [e]; show _ = t.val / 8 * 128 + _; omega

theorem final4 : (dats m 0 c).arrAt 4 cfg0.N = dqArr (Qa m c) (Ka m c) (Va m c) (Oa m c) := by
  refine (dats m 0 c).arrAt_eq_of_cover 4 _ (fun t _ => ?_) (Pipeline.Window.Covers.cover _ (by decide +kernel) (Memref.isWhole_whole _))
  have e := (idx_eq t).2.2.2.2.1
  rw [Value.flushed4, outs4 m c t]
  funext y
  obtain ⟨R, d, rfl⟩ : ∃ (R : Fin 512) (d : Fin 256), y = ix2 R d := ⟨y 0, y 1, eq_ix2 y⟩
  rw [View.read_apply]
  show dqAt (iblk m c 0 t) (iblk m c 1 t) (iblk m c 2 t) (iblk m c 3 t) R d = dqArr (Qa m c) (Ka m c) (Va m c) (Oa m c) _
  rw [dqAt_iblk, ← dqArr_col]
  congr 1
  funext a
  apply Fin.ext
  match a with
  | ⟨0, _⟩ => show 512 * (t.val % 8) + R.val = win0_4.index t 0 * 512 + 1 * R.val; rw [e]; show _ = t.val % 8 * 512 + _; omega
  | ⟨1, _⟩ => show 256 * (t.val / 8) + d.val = win0_4.index t 1 * 256 + 1 * d.val; rw [e]; show _ = t.val / 8 * 256 + _; omega

theorem final5 : (dats m 0 c).arrAt 5 cfg0.N = dkArr (Qa m c) (Ka m c) (Va m c) (Oa m c) :=
  (dats m 0 c).arrAt_eq_of_cover 5 _ (flushed5_eq m c) (Pipeline.Window.Covers.cover _ (by decide +kernel) (Memref.isWhole_whole _))

theorem final6 : (dats m 0 c).arrAt 6 cfg0.N = dvArr (Qa m c) (Ka m c) (Oa m c) :=
  (dats m 0 c).arrAt_eq_of_cover 6 _ (flushed6_eq m c) (Pipeline.Window.Covers.cover _ (by decide +kernel) (Memref.isWhole_whole _))

end Cert.KernelIdeal.Attn

end
-- ==== Proof.RefValue.lean ====
/-
  The reference's results at an index (`Ideal`), per head `h`: the scores `T`, their exponentials `E` less the row's maximum,
  the products `P` of the output's gradient with the values, and the gradient `D` of the scores before their scale.
-/
module

public import proofs.«01_k».proof.Proof.Rows
public import proofs.«01_k».proof.Proof.Gen.ReferenceIdeal.Read
public import proofs.«01_k».proof.Proof.Gen.ReferenceIdeal.Run
public import Idealize.ShloMosaic.Lib.ValueIdxCore

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Read Cert.Rows

/-- The host's root of 192, and the unit of the keys' gradient, `√192 · log 2`. -/
def root : ℝ := Real.sqrt 192
def unit : ℝ := Real.sqrt 192 * Real.log 2

theorem root_pos : 0 < root := Real.sqrt_pos.mpr (by norm_num)
theorem unit_pos : 0 < unit := mul_pos root_pos (Real.log_pos one_lt_two)

theorem ofBits_192 : Ideal.ofBits .f32 0x43400000#32 = ((192 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_one : Ideal.ofBits .f32 0x3F800000#32 = 1 := by
  simp [Ideal.ofBits, Ideal.ieee, -EReal.coe_mul]; norm_num
theorem ofBits_zero : Ideal.ofBits .f32 0x00000000#32 = 0 := by simp [Ideal.ofBits, Ideal.ieee]
theorem ofBits_bot : Ideal.ofBits .f32 0xFF800000#32 = ⊥ := by simp [Ideal.ofBits, Ideal.ieee]

section
variable (x0 x1 : Vec Ideal S1x4096x4x256 .f32) (x2 : Vec Ideal S1x4096x4x128 .f32) (x3 : Vec Ideal S1x4096x512 .f32)

def T (h : Fin 4) (r j : Fin 4096) : EReal :=
  Ideal.div (∑ d : Fin 256, x0 (ValueIdx.ix4 0 r h d) * x1 (ValueIdx.ix4 0 j h d)) root
def E (h : Fin 4) (r j : Fin 4096) : EReal := Ideal.exp (T x0 x1 h r j - top (T x0 x1 h r))
def P (h : Fin 4) (r j : Fin 4096) : EReal :=
  ∑ d : Fin 128, x3 (ValueIdx.ix3 0 r ⟨128 * h.val + d.val, by omega⟩) * x2 (ValueIdx.ix4 0 j h d)
def D (h : Fin 4) (r j : Fin 4096) : EReal :=
  (Ideal.div (P x2 x3 h r j) (∑ x, E x0 x1 h r x)
    + -∑ x, P x2 x3 h r x * Ideal.div 1 ((∑ y, E x0 x1 h r y) * ∑ y, E x0 x1 h r y) * E x0 x1 h r x) * E x0 x1 h r j

theorem v1_eq (i : S_.Idx) : val_main_v1 (F := Ideal) i = root := by
  show Ideal.sqrt (Ideal.ofBits .f32 0x43400000#32) = _
  rw [ofBits_192, Ideal.sqrt_coe, if_neg (by norm_num)]
  rfl

theorem v3_eq (h : Fin 4) (r j : Fin 4096) : val_main_v3 (F := Ideal) x0 x1 (ValueIdx.ix4 0 h r j) = T x0 x1 h r j := by
  rw [val_main_v3_apply, val_main_v0_apply, val_main_v2_apply, v1_eq]
  unfold T
  refine congrArg (Ideal.div · _) (Finset.sum_congr rfl fun d _ => ?_)
  congr 2 <;> (funext a; apply Fin.ext; match a with | ⟨0, _⟩ => rfl | ⟨1, _⟩ => rfl | ⟨2, _⟩ => rfl | ⟨3, _⟩ => rfl)

theorem v4_eq (h : Fin 4) (r : Fin 4096) : val_main_v4 (F := Ideal) x0 x1 (ValueIdx.ix3 0 h r) = top (T x0 x1 h r) := by
  unfold val_main_v4
  rw [Host.reduce_eq_fold_single (s := S1x4x4096x4096) (t := S1x4x4096) (a := 3) FloatOps.maximumf _ _ _ (by decide) _]
  unfold top
  refine (congrArg₂ (fun b f => Finset.fold max b f (Finset.univ : Finset (Fin 4096))) ofBits_bot (funext fun j => ?_))
  refine Eq.trans ?_ (v3_eq x0 x1 h r j)
  refine congrArg (val_main_v3 (F := Ideal) x0 x1) (funext fun a => Fin.ext ?_)
  match a with | ⟨0, _⟩ => rfl | ⟨1, _⟩ => rfl | ⟨2, _⟩ => rfl | ⟨3, _⟩ => rfl

theorem v11_eq (h : Fin 4) (r : Fin 4096) : val_main_v11 (F := Ideal) x0 x1 (ValueIdx.ix3 0 h r) = top (T x0 x1 h r) := by
  rw [val_main_v11_apply, v4_eq, val_main_v10_apply]
  show max (Ideal.ofBits .f32 0xFF800000#32) _ = _
  rw [ofBits_bot]
  exact max_eq_right bot_le

theorem v24_eq (h : Fin 4) (r j : Fin 4096) : val_main_v24 (F := Ideal) x0 x1 (ValueIdx.ix4 0 h r j) = E x0 x1 h r j := by
  rw [val_main_v24_apply, val_main_v23_apply, v3_eq, val_main_v22_apply, val_main_v21_apply,
    show idx_main_v21 (idx_main_v22 (ValueIdx.ix4 0 h r j)) = ValueIdx.ix3 0 h r from
      funext fun a => Fin.ext (by match a with | ⟨0, _⟩ => rfl | ⟨1, _⟩ => rfl | ⟨2, _⟩ => rfl), v11_eq]
  rfl

theorem v26_eq (h : Fin 4) (r : Fin 4096) : val_main_v26 (F := Ideal) x0 x1 (ValueIdx.ix4 0 h r 0) = ∑ x, E x0 x1 h r x := by
  rw [val_main_v26_apply, val_main_v25_apply]
  show Ideal.ofBits .f32 0x00000000#32 + _ = _
  rw [ofBits_zero, zero_add]
  refine Finset.sum_congr rfl fun k _ => ?_
  rw [← v24_eq]
  refine congrArg (val_main_v24 (F := Ideal) x0 x1) (funext fun a => Fin.ext ?_)
  match a with | ⟨0, _⟩ => rfl | ⟨1, _⟩ => rfl | ⟨2, _⟩ => rfl | ⟨3, _⟩ => rfl

theorem v28_eq (h : Fin 4) (r j : Fin 4096) :
    val_main_v28 (F := Ideal) x0 x1 (ValueIdx.ix4 0 h r j) = Ideal.div (E x0 x1 h r j) (∑ x, E x0 x1 h r x) := by
  rw [val_main_v28_apply, v24_eq, val_main_v27_apply, ← v26_eq]
  refine congrArg (fun i => Ideal.div _ (val_main_v26 (F := Ideal) x0 x1 i)) (funext fun a => Fin.ext ?_)
  match a with | ⟨0, _⟩ => rfl | ⟨1, _⟩ => rfl | ⟨2, _⟩ => rfl | ⟨3, _⟩ => rfl

theorem v36_eq (h : Fin 4) (d : Fin 128) (r : Fin 4096) :
    val_main_v36 (F := Ideal) x3 (ValueIdx.ix4 0 h d r) = x3 (ValueIdx.ix3 0 r ⟨128 * h.val + d.val, by omega⟩) := by
  rw [val_main_v36_apply, val_main_v35_apply]
  refine congrArg x3 (funext fun a => Fin.ext ?_)
  have := r.isLt
  match a with
  | ⟨0, _⟩ => rfl
  | ⟨1, _⟩ => show (((0 * 4096 + r.val) * 4 + h.val) * 128 + d.val) / 512 % 4096 = r.val; omega
  | ⟨2, _⟩ => show (((0 * 4096 + r.val) * 4 + h.val) * 128 + d.val) % 512 = 128 * h.val + d.val; omega

theorem v37_eq (h : Fin 4) (r j : Fin 4096) : val_main_v37 (F := Ideal) x2 x3 (ValueIdx.ix4 0 h r j) = P x2 x3 h r j := by
  rw [val_main_v37_apply]
  unfold P
  refine Finset.sum_congr rfl fun d _ => ?_
  rw [← v36_eq x3 h d r]
  congr 2 <;> (funext a; apply Fin.ext; match a with | ⟨0, _⟩ => rfl | ⟨1, _⟩ => rfl | ⟨2, _⟩ => rfl | ⟨3, _⟩ => rfl)

theorem v43_eq (h : Fin 4) (r : Fin 4096) : val_main_v43 (F := Ideal) x0 x1 x2 x3 (ValueIdx.ix3 0 h r)
    = ∑ x, P x2 x3 h r x * Ideal.div 1 ((∑ y, E x0 x1 h r y) * ∑ y, E x0 x1 h r y) * E x0 x1 h r x := by
  rw [val_main_v43_apply]
  show Ideal.ofBits .f32 0x00000000#32 + _ = _
  rw [ofBits_zero, zero_add]
  refine Finset.sum_congr rfl fun k _ => ?_
  rw [show idx_main_v43 (ValueIdx.ix3 0 h r) k = ValueIdx.ix4 0 h r k from
      funext fun a => Fin.ext (by match a with | ⟨0, _⟩ => rfl | ⟨1, _⟩ => rfl | ⟨2, _⟩ => rfl | ⟨3, _⟩ => rfl),
    val_main_v42_apply, val_main_v41_apply, v37_eq, v24_eq, val_main_v40_apply,
    show idx_main_v40 (ValueIdx.ix4 0 h r k) = ValueIdx.ix4 0 h r 0 from
      funext fun a => Fin.ext (by match a with | ⟨0, _⟩ => rfl | ⟨1, _⟩ => rfl | ⟨2, _⟩ => rfl | ⟨3, _⟩ => rfl),
    val_main_v31_apply, val_main_v29_apply, v26_eq, val_main_v30_apply]
  show P x2 x3 h r k * Ideal.div (Ideal.ofBits .f32 0x3F800000#32) _ * _ = _
  rw [ofBits_one]
  rfl

theorem v48_eq (h : Fin 4) (r : Fin 4096) : val_main_v48 (F := Ideal) x0 x1 x2 x3 (ValueIdx.ix2 h r)
    = -val_main_v43 (F := Ideal) x0 x1 x2 x3 (ValueIdx.ix3 0 h r) := by
  have e : val_main_v45 (F := Ideal) x0 x1 x2 x3 (ValueIdx.ix4 0 h r 0) = -val_main_v43 (F := Ideal) x0 x1 x2 x3 (ValueIdx.ix3 0 h r) := by
    rw [val_main_v45_apply, val_main_v44_apply]
    refine congrArg (fun i => -val_main_v43 (F := Ideal) x0 x1 x2 x3 i) (funext fun a => Fin.ext ?_)
    have := r.isLt
    match a with
    | ⟨0, _⟩ => rfl
    | ⟨1, _⟩ => show (((0 * 4 + h.val) * 4096 + r.val) * 1 + 0) / 4096 % 4 = h.val; omega
    | ⟨2, _⟩ => show (((0 * 4 + h.val) * 4096 + r.val) * 1 + 0) % 4096 = r.val; omega
  rw [← e]
  unfold val_main_v48
  generalize val_main_v45 (F := Ideal) x0 x1 x2 x3 = y
  simp only [Host.reduceAdd, Ideal.hostReduceAdd_def]
  unfold Ideal.hostReduceAdd
  rw [show (Finset.univ.filter fun i => reducesTo_S1x4x4096x1_S4x4096_d0_3.drop i = (ValueIdx.ix2 h r : S4x4096.Idx)) = {ValueIdx.ix4 0 h r 0} from ?_,
    Finset.sum_singleton]
  · show Ideal.ofBits .f32 0x00000000#32 + _ = _
    rw [ofBits_zero, zero_add]
  · ext i
    obtain ⟨a, b, c, d, rfl⟩ : ∃ (a : Fin 1) (b : Fin 4) (c : Fin 4096) (d : Fin 1), i = ValueIdx.ix4 a b c d := ⟨_, _, _, _, ValueIdx.eq_ix4 i⟩
    obtain rfl : a = 0 := Subsingleton.elim _ _
    obtain rfl : d = 0 := Subsingleton.elim _ _
    rw [Finset.mem_filter, Finset.mem_singleton]
    constructor
    · rintro ⟨-, e⟩
      have e0 := congrArg Fin.val (congrFun e 0)
      have e1 := congrArg Fin.val (congrFun e 1)
      obtain rfl : b = h := Fin.ext e0
      obtain rfl : c = r := Fin.ext e1
      rfl
    · intro e
      obtain rfl : b = h := congrFun e 1
      obtain rfl : c = r := congrFun e 2
      refine ⟨Finset.mem_univ _, funext fun a => Fin.ext ?_⟩
      match a with | ⟨0, _⟩ => rfl | ⟨1, _⟩ => rfl

theorem v54_eq (h : Fin 4) (r j : Fin 4096) :
    val_main_v54 (F := Ideal) x0 x1 x2 x3 (ValueIdx.ix4 0 h r j) = Ideal.div (D x0 x1 x2 x3 h r j) root := by
  rw [val_main_v54_apply, val_main_v52_apply, val_main_v51_apply, val_main_v47_apply, v37_eq, v24_eq, val_main_v46_apply,
    show idx_main_v46 (ValueIdx.ix4 0 h r j) = ValueIdx.ix4 0 h r 0 from
      funext fun a => Fin.ext (by match a with | ⟨0, _⟩ => rfl | ⟨1, _⟩ => rfl | ⟨2, _⟩ => rfl | ⟨3, _⟩ => rfl),
    v26_eq, val_main_v50_apply, val_main_v49_apply,
    show idx_main_v49 (idx_main_v50 (ValueIdx.ix4 0 h r j)) = ValueIdx.ix2 h r from
      funext fun a => Fin.ext (by match a with | ⟨0, _⟩ => rfl | ⟨1, _⟩ => rfl),
    v48_eq, v43_eq, val_main_v53_apply, v1_eq]
  rfl

/-- The gradient of the queries, the keys and the values. -/
theorem v64_eq (h : Fin 4) (r : Fin 4096) (d : Fin 256) :
    val_main_v64 (F := Ideal) x0 x1 x2 x3 (ix2 r ⟨256 * h.val + d.val, by omega⟩)
      = ∑ j, Ideal.div (D x0 x1 x2 x3 h r j) root * x1 (ValueIdx.ix4 0 j h d) := by
  rw [val_main_v64_apply, val_main_v58_apply, show idx_main_v58 (idx_main_v64 (ix2 r ⟨256 * h.val + d.val, by omega⟩)) = ValueIdx.ix4 0 h r d from ?_,
    val_main_v57_apply]
  · refine Finset.sum_congr rfl fun j _ => ?_
    rw [← v54_eq]
    congr 2 <;> (funext a; apply Fin.ext; match a with | ⟨0, _⟩ => rfl | ⟨1, _⟩ => rfl | ⟨2, _⟩ => rfl | ⟨3, _⟩ => rfl)
  · funext a
    apply Fin.ext
    have := r.isLt
    match a with
    | ⟨0, _⟩ => rfl
    | ⟨1, _⟩ => show (r.val * 1024 + (256 * h.val + d.val)) / 256 % 4 = h.val; omega
    | ⟨2, _⟩ => show (r.val * 1024 + (256 * h.val + d.val)) / 1024 % 4096 = r.val; omega
    | ⟨3, _⟩ => show (r.val * 1024 + (256 * h.val + d.val)) % 256 = d.val; omega

theorem v61_eq (i : S_.Idx) : val_main_v61 (F := Ideal) i = unit := by
  rw [val_main_v61_apply]
  show Ideal.sqrt (Ideal.ofBits .f32 0x43400000#32) * Ideal.log (Ideal.ofBits .f32 0x40000000#32) = _
  rw [ofBits_192, Ideal.sqrt_coe, if_neg (by norm_num), ofBits_two, Ideal.log_coe, if_neg (by norm_num), ← EReal.coe_mul]
  rfl

theorem v65_eq (h : Fin 4) (j : Fin 4096) (d : Fin 256) :
    val_main_v65 (F := Ideal) x0 x1 x2 x3 (ix2 j ⟨256 * h.val + d.val, by omega⟩)
      = Ideal.div (∑ r, Ideal.div (D x0 x1 x2 x3 h r j) root * x0 (ValueIdx.ix4 0 r h d)) unit := by
  rw [val_main_v65_apply, val_main_v63_apply, val_main_v62_apply, v61_eq, val_main_v56_apply,
    show idx_main_v56 (idx_main_v65 (ix2 j ⟨256 * h.val + d.val, by omega⟩)) = ValueIdx.ix4 0 h j d from ?_, val_main_v55_apply]
  · refine congrArg (Ideal.div · _) (Finset.sum_congr rfl fun r _ => ?_)
    rw [← v54_eq]
    congr 2 <;> (funext a; apply Fin.ext; match a with | ⟨0, _⟩ => rfl | ⟨1, _⟩ => rfl | ⟨2, _⟩ => rfl | ⟨3, _⟩ => rfl)
  · funext a
    apply Fin.ext
    have := j.isLt
    match a with
    | ⟨0, _⟩ => rfl
    | ⟨1, _⟩ => show (j.val * 1024 + (256 * h.val + d.val)) / 256 % 4 = h.val; omega
    | ⟨2, _⟩ => show (j.val * 1024 + (256 * h.val + d.val)) / 1024 % 4096 = j.val; omega
    | ⟨3, _⟩ => show (j.val * 1024 + (256 * h.val + d.val)) % 256 = d.val; omega

theorem v66_eq (h : Fin 4) (j : Fin 4096) (d : Fin 128) :
    val_main_v66 (F := Ideal) x0 x1 x3 (ix2 j ⟨128 * h.val + d.val, by omega⟩)
      = ∑ r, x3 (ValueIdx.ix3 0 r ⟨128 * h.val + d.val, by omega⟩) * Ideal.div (E x0 x1 h r j) (∑ x, E x0 x1 h r x) := by
  rw [val_main_v66_apply, val_main_v39_apply, show idx_main_v39 (idx_main_v66 (ix2 j ⟨128 * h.val + d.val, by omega⟩)) = ValueIdx.ix4 0 h d j from ?_,
    val_main_v38_apply]
  · refine Finset.sum_congr rfl fun r _ => ?_
    rw [← v28_eq, ← v36_eq x3 h d r]
    congr 2 <;> (funext a; apply Fin.ext; match a with | ⟨0, _⟩ => rfl | ⟨1, _⟩ => rfl | ⟨2, _⟩ => rfl | ⟨3, _⟩ => rfl)
  · funext a
    apply Fin.ext
    have := j.isLt
    match a with
    | ⟨0, _⟩ => rfl
    | ⟨1, _⟩ => show (j.val * 512 + (128 * h.val + d.val)) / 128 % 4 = h.val; omega
    | ⟨2, _⟩ => show (j.val * 512 + (128 * h.val + d.val)) % 128 = d.val; omega
    | ⟨3, _⟩ => show (j.val * 512 + (128 * h.val + d.val)) / 512 % 4096 = j.val; omega

end

end Cert.ReferenceIdeal.Attn

end
-- ==== Proof.Meet.lean ====
/-
  The two programs meet (`Ideal`): what the host hands to the kernel, read at an index; a finite score of the reference is the
  kernel's times `log 2`; and each result of the kernel, per head, is the reference's.
-/
module

public import proofs.«01_k».proof.Proof.KernelValue
public import proofs.«01_k».proof.Proof.RefValue
public import proofs.«01_k».proof.Pre_finite_qk
public import proofs.«01_k».proof.Proof.Gen.Pre_finite_qk
public import Idealize.ShloMosaic.Lib.StableHlo.Run

@[expose] public section

set_option maxRecDepth 16384

noncomputable section

namespace Cert.Attn

open Idealize.ShloMosaic Idealize.ShloMosaic.TcCoe Idealize.SL.Sem
open Cert.KernelIdeal Cert.KernelIdeal.Gen Cert.KernelIdeal.Attn Cert.Rows
open Cert.ReferenceIdeal.Attn (root unit root_pos unit_pos E P D)

/-! ## The arrays the host prepares -/

section
variable (m : (ℓ : Loc nD τ sig) → Buf (Elt Ideal) ℓ) (c : Dev nD)

/-- The kernel program's arguments. -/
abbrev q0 : Vec Ideal S1x4096x4x256 .f32 := m ((c : Thread nD τ).loc main_arg0)
abbrev k0 : Vec Ideal S1x4096x4x256 .f32 := m ((c : Thread nD τ).loc main_arg1)
abbrev v0 : Vec Ideal S1x4096x4x128 .f32 := m ((c : Thread nD τ).loc main_arg2)
abbrev o0 : Vec Ideal S1x4096x512 .f32 := m ((c : Thread nD τ).loc main_arg3)

/-- Element (row `r`, head `h`, column `d`) of the 256-wide arrays and of the 128-wide, in the host's rank-4 arrays. -/
theorem cast_256 (x : Vec Ideal S1x4096x4x256 .f32) (r : Fin 4096) (h : Fin 4) (d : Fin 256) :
    shapeCast S4096x1024 x shapeCasts_S1x4096x4x256_S4096x1024 (ix2 r (col h d)) = x (ValueIdx.ix4 0 r h d) :=
  Idealize.ShloMosaic.shapeCast_apply x shapeCasts_S1x4096x4x256_S4096x1024 (ix2 r (col h d)) (ValueIdx.ix4 0 r h d) (by
    rewrite [Shape.rowMajor_val_four, Shape.rowMajor_val_two]
    show ((0 * 4096 + r.val) * 4 + h.val) * 256 + d.val = r.val * 1024 + (256 * h.val + d.val)
    omega)
theorem cast_128 (x : Vec Ideal S1x4096x4x128 .f32) (r : Fin 4096) (h : Fin 4) (d : Fin 128) :
    shapeCast S4096x512 x shapeCasts_S1x4096x4x128_S4096x512 (ix2 r (vcol h d)) = x (ValueIdx.ix4 0 r h d) :=
  Idealize.ShloMosaic.shapeCast_apply x shapeCasts_S1x4096x4x128_S4096x512 (ix2 r (vcol h d)) (ValueIdx.ix4 0 r h d) (by
    rewrite [Shape.rowMajor_val_four, Shape.rowMajor_val_two]
    show ((0 * 4096 + r.val) * 4 + h.val) * 128 + d.val = r.val * 512 + (128 * h.val + d.val)
    omega)
theorem cast_512 (x : Vec Ideal S1x4096x512 .f32) (r : Fin 4096) (e : Fin 512) :
    shapeCast S4096x512 x shapeCasts_S1x4096x512_S4096x512 (ix2 r e) = x (ValueIdx.ix3 0 r e) :=
  Idealize.ShloMosaic.shapeCast_apply x shapeCasts_S1x4096x512_S4096x512 (ix2 r e) (ValueIdx.ix3 0 r e) (by
    rewrite [Shape.rowMajor_val_three, Shape.rowMajor_val_two]
    show (0 * 4096 + r.val) * 512 + e.val = r.val * 512 + e.val
    omega)

theorem Qa_eq : Qa m c = (truncf (F := Ideal) (φ := .f32) .bf16 (shapeCast S4096x1024 (Host.divf (q0 m c) (broadcastInDim S1x4096x4x256 ![]
    bcast_S_S1x4096x4x256 (mulf (Host.sqrt (constant S_ .f32 0x43400000#32)) (Host.log (constant S_ .f32 0x40000000#32)))))
    shapeCasts_S1x4096x4x256_S4096x1024) bitsLt_bf16_f32 : FVec Ideal S4096x1024 .bf16) := by
  show StableHlo.after hostOps0 _ (Proc.devRef .tc main_v6) = _
  after_results
  rfl
theorem Ka_eq : Ka m c = (truncf (F := Ideal) (φ := .f32) .bf16 (shapeCast S4096x1024 (k0 m c) shapeCasts_S1x4096x4x256_S4096x1024) bitsLt_bf16_f32 : FVec Ideal S4096x1024 .bf16) := by
  show StableHlo.after hostOps0 _ (Proc.devRef .tc main_v8) = _
  after_results
  rfl
theorem Va_eq : Va m c = (truncf (F := Ideal) (φ := .f32) .bf16 (shapeCast S4096x512 (v0 m c) shapeCasts_S1x4096x4x128_S4096x512) bitsLt_bf16_f32 : FVec Ideal S4096x512 .bf16) := by
  show StableHlo.after hostOps0 _ (Proc.devRef .tc main_v10) = _
  after_results
  rfl
theorem Oa_eq : Oa m c = (truncf (F := Ideal) (φ := .f32) .bf16 (shapeCast S4096x512 (o0 m c) shapeCasts_S1x4096x512_S4096x512) bitsLt_bf16_f32 : FVec Ideal S4096x512 .bf16) := by
  show StableHlo.after hostOps0 _ (Proc.devRef .tc main_v12) = _
  after_results
  rfl

theorem Qa_col (r : Fin 4096) (h : Fin 4) (d : Fin 256) :
    Qa m c (ix2 r (col h d)) = Ideal.div (q0 m c (ValueIdx.ix4 0 r h d)) unit := by
  rw [Qa_eq]
  show shapeCast S4096x1024 (Host.divf (F := Ideal) (φ := .f32) (q0 m c) _) _ _ = _
  rw [cast_256]
  show Ideal.div _ (Ideal.sqrt (Ideal.ofBits .f32 0x43400000#32) * Ideal.log (Ideal.ofBits .f32 0x40000000#32)) = _
  rw [Cert.ReferenceIdeal.Attn.ofBits_192, Ideal.sqrt_coe, if_neg (by norm_num), Cert.ReferenceIdeal.Attn.ofBits_two, Ideal.log_coe,
    if_neg (by norm_num), ← EReal.coe_mul]
  rfl
theorem Ka_col (r : Fin 4096) (h : Fin 4) (d : Fin 256) : Ka m c (ix2 r (col h d)) = k0 m c (ValueIdx.ix4 0 r h d) := by
  rw [Ka_eq]; exact cast_256 _ r h d
theorem Va_col (r : Fin 4096) (h : Fin 4) (d : Fin 128) : Va m c (ix2 r (vcol h d)) = v0 m c (ValueIdx.ix4 0 r h d) := by
  rw [Va_eq]; exact cast_128 _ r h d
theorem Oa_col (r : Fin 4096) (h : Fin 4) (d : Fin 128) : Oa m c (ix2 r (vcol h d)) = o0 m c (ValueIdx.ix3 0 r (vcol h d)) := by
  rw [Oa_eq]; exact cast_512 _ r (vcol h d)

/-! ## The results -/

theorem prods_eq (h : Fin 4) (r j : Fin 4096) : prods (Va m c) (Oa m c) h r j = P (v0 m c) (o0 m c) h r j := by
  unfold prods P
  exact Finset.sum_congr rfl fun d _ => by rw [Oa_col, Va_col]

/-- With finite queries `x` and keys `y`, the kernel's arrays `Q` (the queries over the unit) and `K` of them: a row of the
    reference's scores is real, and the kernel's is that row over `log 2`. -/
theorem scores_of {Q K : Vec Ideal S4096x1024 .bf16} {x y : Vec Ideal S1x4096x4x256 .f32}
    (hQ : ∀ r h d, Q (ix2 r (col h d)) = Ideal.div (x (ValueIdx.ix4 0 r h d)) unit)
    (hK : ∀ r h d, K (ix2 r (col h d)) = y (ValueIdx.ix4 0 r h d))
    (hq : ∀ i, ∃ z : ℝ, x i = z) (hk : ∀ i, ∃ z : ℝ, y i = z) (h : Fin 4) (r : Fin 4096) :
    ∃ t : Fin 4096 → ℝ, Cert.ReferenceIdeal.Attn.T x y h r = (fun j => (t j : EReal))
      ∧ scores Q K h r = fun j => ((t j / Real.log 2 : ℝ) : EReal) := by
  choose q hq using hq
  choose k hk using hk
  refine ⟨fun j => (∑ d : Fin 256, q (ValueIdx.ix4 0 r h d) * k (ValueIdx.ix4 0 j h d)) / root, funext fun j => ?_, funext fun j => ?_⟩
  · unfold Cert.ReferenceIdeal.Attn.T
    rw [Ideal.div_coe root_pos.ne', ← Finset.sum_congr rfl fun d _ => show ((q (ValueIdx.ix4 0 r h d) * k (ValueIdx.ix4 0 j h d) : ℝ) : EReal)
      = _ from by rw [hq, hk, EReal.coe_mul], sum_coe, ← EReal.coe_mul]
    congr 1; ring
  · unfold scores
    rw [← Finset.sum_congr rfl fun d _ => show ((q (ValueIdx.ix4 0 r h d) * (1 / unit) * k (ValueIdx.ix4 0 j h d) : ℝ) : EReal)
      = _ from by rw [hQ, hK, hq, hk, Ideal.div_coe unit_pos.ne', EReal.coe_mul, EReal.coe_mul], sum_coe]
    congr 1
    rw [Finset.sum_congr rfl fun d _ => show q (ValueIdx.ix4 0 r h d) * (1 / unit) * k (ValueIdx.ix4 0 j h d)
      = q (ValueIdx.ix4 0 r h d) * k (ValueIdx.ix4 0 j h d) * (1 / unit) from by ring, ← Finset.sum_mul]
    have h1 := root_pos.ne'
    have h2 : Real.log 2 ≠ 0 := (Real.log_pos one_lt_two).ne'
    unfold unit
    unfold root at *
    field_simp

/-- The row's weights: positive reals, the reference's exponentials. -/
theorem weight_of {Q K : Vec Ideal S4096x1024 .bf16} {x y : Vec Ideal S1x4096x4x256 .f32}
    (hQ : ∀ r h d, Q (ix2 r (col h d)) = Ideal.div (x (ValueIdx.ix4 0 r h d)) unit)
    (hK : ∀ r h d, K (ix2 r (col h d)) = y (ValueIdx.ix4 0 r h d))
    (hq : ∀ i, ∃ z : ℝ, x i = z) (hk : ∀ i, ∃ z : ℝ, y i = z) (h : Fin 4) (r : Fin 4096) :
    ∃ e : Fin 4096 → ℝ, (∀ j, 0 < e j) ∧ (∀ j, weight (scores Q K h r) j = e j) ∧ ∀ j, E x y h r j = e j := by
  obtain ⟨t, ht, hs⟩ := scores_of hQ hK hq hk h r
  obtain ⟨e, he, hw, hE⟩ := weight_eq t
  refine ⟨e, he, fun j => ?_, fun j => ?_⟩
  · rw [hs]; exact hw j
  · unfold E; rw [ht]; exact hE j

theorem row_weight (hq : ∀ i, ∃ x : ℝ, q0 m c i = x) (hk : ∀ i, ∃ x : ℝ, k0 m c i = x) (h : Fin 4) (r : Fin 4096) :
    ∃ e : Fin 4096 → ℝ, (∀ j, 0 < e j) ∧ (∀ j, weight (scores (Qa m c) (Ka m c) h r) j = e j)
      ∧ ∀ j, E (q0 m c) (k0 m c) h r j = e j :=
  weight_of (Qa_col m c) (Ka_col m c) hq hk h r

theorem σ_eq : σ = ((1 / root : ℝ) : EReal) := by unfold σ root; rw [one_div]

theorem row_grad (hq : ∀ i, ∃ x : ℝ, q0 m c i = x) (hk : ∀ i, ∃ x : ℝ, k0 m c i = x) (h : Fin 4) (r j : Fin 4096) :
    grad σ (scores (Qa m c) (Ka m c) h r) (prods (Va m c) (Oa m c) h r) j
      = Ideal.div (D (q0 m c) (k0 m c) (v0 m c) (o0 m c) h r j) root := by
  obtain ⟨e, he, hw, hE⟩ := row_weight m c hq hk h r
  rw [Ideal.div_coe root_pos.ne', σ_eq, grad_eq _ _ e he hw (one_div_pos.mpr root_pos).le j,
    show prods (Va m c) (Oa m c) h r = P (v0 m c) (o0 m c) h r from funext fun j => prods_eq m c h r j]
  unfold D
  simp only [hE]

theorem dq_eq (hq : ∀ i, ∃ x : ℝ, q0 m c i = x) (hk : ∀ i, ∃ x : ℝ, k0 m c i = x) :
    dqArr (Qa m c) (Ka m c) (Va m c) (Oa m c)
      = Cert.ReferenceIdeal.Read.val_main_v64 (F := Ideal) (q0 m c) (k0 m c) (v0 m c) (o0 m c) := by
  funext y
  obtain ⟨r, h, d, rfl⟩ : ∃ (r : Fin 4096) (h : Fin 4) (d : Fin 256), y = ix2 r (col h d) := by
    have h1 : (y 1 : Nat) < 1024 := (y 1).isLt
    refine ⟨y 0, ⟨(y 1 : Nat) / 256, by omega⟩, ⟨(y 1 : Nat) % 256, by omega⟩, (eq_ix2 y).trans ?_⟩
    congr 1; apply Fin.ext; show (y 1 : Nat) = 256 * ((y 1 : Nat) / 256) + (y 1 : Nat) % 256; omega
  rw [dqArr_col, dq]
  refine Eq.trans ?_ (Cert.ReferenceIdeal.Attn.v64_eq _ _ _ _ h r d).symm
  exact Finset.sum_congr rfl fun j _ => by rw [row_grad m c hq hk, Ka_col]

theorem dk_eq (hq : ∀ i, ∃ x : ℝ, q0 m c i = x) (hk : ∀ i, ∃ x : ℝ, k0 m c i = x) :
    dkArr (Qa m c) (Ka m c) (Va m c) (Oa m c)
      = Cert.ReferenceIdeal.Read.val_main_v65 (F := Ideal) (q0 m c) (k0 m c) (v0 m c) (o0 m c) := by
  funext y
  obtain ⟨r, h, d, rfl⟩ : ∃ (r : Fin 4096) (h : Fin 4) (d : Fin 256), y = ix2 r (col h d) := by
    have h1 : (y 1 : Nat) < 1024 := (y 1).isLt
    refine ⟨y 0, ⟨(y 1 : Nat) / 256, by omega⟩, ⟨(y 1 : Nat) % 256, by omega⟩, (eq_ix2 y).trans ?_⟩
    congr 1; apply Fin.ext; show (y 1 : Nat) = 256 * ((y 1 : Nat) / 256) + (y 1 : Nat) % 256; omega
  rw [dkArr_col, dk]
  refine Eq.trans ?_ (Cert.ReferenceIdeal.Attn.v65_eq _ _ _ _ h r d).symm
  rw [Ideal.div_coe unit_pos.ne', mul_comm, mul_sum_coe _ _ (one_div_pos.mpr unit_pos).le]
  exact Finset.sum_congr rfl fun j _ => by
    rw [row_grad m c hq hk, Qa_col, Ideal.div_coe unit_pos.ne']
    ac_rfl

theorem dv_eq (hq : ∀ i, ∃ x : ℝ, q0 m c i = x) (hk : ∀ i, ∃ x : ℝ, k0 m c i = x) :
    dvArr (Qa m c) (Ka m c) (Oa m c)
      = Cert.ReferenceIdeal.Read.val_main_v66 (F := Ideal) (q0 m c) (k0 m c) (o0 m c) := by
  funext y
  obtain ⟨r, h, d, rfl⟩ : ∃ (r : Fin 4096) (h : Fin 4) (d : Fin 128), y = ix2 r (vcol h d) := by
    have h1 : (y 1 : Nat) < 512 := (y 1).isLt
    refine ⟨y 0, ⟨(y 1 : Nat) / 128, by omega⟩, ⟨(y 1 : Nat) % 128, by omega⟩, (eq_ix2 y).trans ?_⟩
    congr 1; apply Fin.ext; show (y 1 : Nat) = 128 * ((y 1 : Nat) / 128) + (y 1 : Nat) % 128; omega
  rw [dvArr_col, dv]
  refine Eq.trans ?_ (Cert.ReferenceIdeal.Attn.v66_eq _ _ _ h r d).symm
  refine Finset.sum_congr rfl fun j _ => ?_
  obtain ⟨e, he, hw, hE⟩ := row_weight m c hq hk h j
  have hL : 0 < ∑ x, e x := Finset.sum_pos (fun x _ => he x) ⟨0, Finset.mem_univ _⟩
  rw [Oa_col, hw, recip]
  simp only [hw, hE]
  rw [sum_coe, Ideal.div_coe hL.ne', Ideal.div_coe hL.ne', one_mul]
  exact mul_left_comm _ _ _

end

/-! ## The precondition -/

theorem ofBits_top : Ideal.ofBits .f32 0x7F800000#32 = ⊤ := by simp [Ideal.ofBits, Ideal.ieee]

/-- An extended real below `⊤` in absolute value is real. -/
theorem real_of_abs (x : EReal) (h : Ideal.cmp .olt (max x (-x)) ⊤ = 1#1) : ∃ y : ℝ, x = y := by
  have h : max x (-x) < ⊤ := by
    by_contra hn
    simp [Ideal.cmp, hn] at h
  induction x with
  | bot => simp at h
  | top => simp at h
  | coe y => exact ⟨y, rfl⟩

theorem andi_one : ∀ a b : BitVec 1, IntOp.andi a b = 1#1 → a = 1#1 ∧ b = 1#1 := by decide

theorem finite (q k : Vec Ideal S1x4096x4x256 .f32) (v : Vec Ideal S1x4096x4x128 .f32) (o : Vec Ideal S1x4096x512 .f32)
    (h : Cert.Pre_finite_qk.fn (F := Ideal) q k v o = fun _ => 1#1) :
    (∀ i, ∃ x : ℝ, q i = x) ∧ ∀ i, ∃ x : ℝ, k i = x := by
  constructor
  · intro i
    have := (andi_one _ _ (congrFun h i)).1
    refine real_of_abs _ ?_
    rw [← ofBits_top]
    exact this
  · intro i
    have := (andi_one _ _ (congrFun h i)).2
    refine real_of_abs _ ?_
    rw [← ofBits_top]
    exact this

end Cert.Attn

end
-- ==== Proof.FfnRms.lean ====
/-
  The gated feed-forward half-step's first region: every row divided by its root mean square and scaled by the gain, block of
  512 rows by block (`final0`: the array the region leaves, over the arrays it reads).
-/
module

public import proofs.«01_k».proof.Proof.Rows
public import proofs.«01_k».proof.Proof.Gen.Kernel2Ideal.Frame.Region0
public import Idealize.ShloMosaic.Lib.Pointwise
public import Idealize.ShloMosaic.Lib.Pipeline.Value
public import Idealize.ShloMosaic.Lib.Pipeline.ValueKit
public import Idealize.ShloMosaic.Lib.Tactic

@[expose] public section

set_option maxRecDepth 16384

noncomputable section

namespace Cert.Kernel2Ideal.Ffn

open Idealize.ShloMosaic Idealize.ShloMosaic.TcCoe Idealize.SL.Sem Idealize.ShloMosaic.Tactic
open Idealize.ShloMosaic.Pipeline (Dat)
open Cert.Kernel2Ideal Cert.Kernel2Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- One over the root mean square of a row, the small constant under the root as the program words it. -/
def rms (x : Fin 1024 → EReal) : EReal :=
  Ideal.rsqrt (Ideal.div (∑ d, x d * x d) (Ideal.ofBits .f32 0x44800000#32) + Ideal.ofBits .f32 0x358637BD#32)

/-- The normalised rows, scaled by the gain. -/
def normArr (X : Vec Ideal S4096x1024 .f32) (g : Vec Ideal S1x1024 .f32) : Vec Ideal S4096x1024 .bf16 :=
  fun i => X i * rms (fun d => X (ix2 (i 0) d)) * g (ix2 0 (i 1))

theorem pay0_apply (x : Vec Ideal S512x1024 .f32) (g : Vec Ideal S1x1024 .f32) (r : Fin 512) (d : Fin 1024) :
    k0_pay1 x g (ix2 r d) = x (ix2 r d) * rms (fun e => x (ix2 r e)) * g (ix2 0 d) := by
  unfold k0_pay1 rms
  pointwise

theorem out0_eq (x : Vec Ideal S512x1024 .f32) (g : Vec Ideal S1x1024 .f32) : out0_2 x g = k0_pay1 x g := by
  unfold out0_2
  rw [View.canon_cons_unit_zero hz2, View.ld_unit_zero hz2, View.ld_unit_zero hz2]

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem lt0 (t : Fin cfg0.N) : t.val < 8 := lt_of_lt_of_eq t.isLt N_0

theorem iblk0_0 (t : Fin cfg0.N) (r : Fin 512) (d : Fin 1024) :
    (iblk0 V c 0 t : Vec Ideal S512x1024 .f32) (ix2 r d)
      = (V c main_arg0 : Vec Ideal S4096x1024 .f32) (ix2 ⟨512 * t.val + r.val, by have := lt0 t; omega⟩ d) := by
  have e := (idx0 t).1
  unfold iblk0
  rw [View.read_apply]
  show V c main_arg0 _ = V c main_arg0 _
  refine congrArg _ (Shape.idx_ext₂ ?_ ?_)
  · show win0_0.index t 0 * 512 + 1 * r.val = 512 * t.val + r.val; rw [e]; show t.val * 512 + _ = _; omega
  · show win0_0.index t 1 * 1024 + 1 * d.val = d.val; rw [e]; show 0 * 1024 + _ = _; omega

theorem iblk0_1 (t : Fin cfg0.N) : (iblk0 V c 1 t : Vec Ideal S1x1024 .f32) = V c main_v8 := by
  have e := (idx0 t).2.1
  unfold iblk0
  funext y
  rw [View.read_apply]
  show V c main_v8 _ = V c main_v8 _
  refine congrArg _ (Shape.idx_ext₂ ?_ ?_)
  · show win0_1.index t 0 * 1 + 1 * (y 0).val = (y 0).val; rw [e]; show 0 * 1 + _ = _; omega
  · show win0_1.index t 1 * 1024 + 1 * (y 1).val = (y 1).val; rw [e]; show 0 * 1024 + _ = _; omega

/-- The array the first region leaves. -/
theorem final0 : (dat0 V c).arrAt 2 cfg0.N = normArr (V c main_arg0) (V c main_v8) := by
  refine (dat0 V c).arrAt_eq_of_cover 2 _ (fun t _ => ?_) (Pipeline.Window.Covers.cover _ (by decide +kernel) (Memref.isWhole_whole _))
  have e := (idx0 t).2.2
  show (cfg0.win 2).cut (grid0.coords t) ((dat0 V c).after 2 t) = _
  rw [after0_2, out0_eq]
  funext y
  obtain ⟨r, d, rfl⟩ : ∃ (r : Fin 512) (d : Fin 1024), y = ix2 r d := ⟨y 0, y 1, eq_ix2 y⟩
  rw [View.read_apply]
  have e' : ((cfg0.win 2).blk t).view.emb (ix2 r d) = ix2 (⟨512 * t.val + r.val, by have := lt0 t; omega⟩ : Fin 4096) d := by
    refine Shape.idx_ext₂ ?_ ?_
    · show win0_2.index t 0 * 512 + 1 * r.val = 512 * t.val + r.val; rw [e]; show t.val * 512 + _ = _; omega
    · show win0_2.index t 1 * 1024 + 1 * d.val = d.val; rw [e]; show 0 * 1024 + _ = _; omega
  rw [e']
  show k0_pay1 (F := Ideal) _ _ (ix2 r d) = normArr _ _ _
  rw [pay0_apply, iblk0_1]
  simp only [iblk0_0]
  rfl

end Cert.Kernel2Ideal.Ffn

end
-- ==== Proof.Mat.lean ====
/-
  Products of matrices entry by entry, and the blocks of a wide matrix's columns: what the programs' product kernels and the
  references' contractions both are, whatever the sizes.
-/
module

public import Idealize.ShloMosaic.Lib.Pipeline.ValueKit.Geometry
public import Idealize.ShloMosaic.PureOps.Ideal
public import Idealize.ShloMosaic.Lib.Pointwise

@[expose] public section

noncomputable section

namespace Cert.Mat

open Idealize.ShloMosaic

theorem hz2 : (![0, 0] : Fin 2 → Nat) = fun _ => 0 := funext fun a => by fin_cases a <;> rfl

/-- A matrix of `m` rows and `n` columns over the extended reals. -/
abbrev M (m n : Nat) := (⟨2, ![m, n]⟩ : Shape).Idx → EReal

variable {m k n : Nat}

/-- `A B`, `A Bᵀ` and `Aᵀ B` at row `r` and column `d`. -/
def nnAt (A : M m k) (B : M k n) (r : Fin m) (d : Fin n) : EReal := ∑ e : Fin k, A (ix2 r e) * B (ix2 e d)
def ntAt (A : M m k) (B : M n k) (r : Fin m) (d : Fin n) : EReal := ∑ e : Fin k, A (ix2 r e) * B (ix2 d e)
def tnAt (A : M k m) (B : M k n) (r : Fin m) (d : Fin n) : EReal := ∑ e : Fin k, A (ix2 e r) * B (ix2 e d)

theorem nnAt_congr {m' n' : Nat} {A : M m k} {B : M k n} {A' : M m' k} {B' : M k n'} {r : Fin m} {d : Fin n} {r' : Fin m'} {d' : Fin n'}
    (hA : ∀ e, A (ix2 r e) = A' (ix2 r' e)) (hB : ∀ e, B (ix2 e d) = B' (ix2 e d')) : nnAt A B r d = nnAt A' B' r' d' :=
  Finset.sum_congr rfl fun e _ => by rw [hA, hB]
theorem ntAt_congr {m' n' : Nat} {A : M m k} {B : M n k} {A' : M m' k} {B' : M n' k} {r : Fin m} {d : Fin n} {r' : Fin m'} {d' : Fin n'}
    (hA : ∀ e, A (ix2 r e) = A' (ix2 r' e)) (hB : ∀ e, B (ix2 d e) = B' (ix2 d' e)) : ntAt A B r d = ntAt A' B' r' d' :=
  Finset.sum_congr rfl fun e _ => by rw [hA, hB]
theorem tnAt_congr {m' n' : Nat} {A : M k m} {B : M k n} {A' : M k m'} {B' : M k n'} {r : Fin m} {d : Fin n} {r' : Fin m'} {d' : Fin n'}
    (hA : ∀ e, A (ix2 e r) = A' (ix2 e r')) (hB : ∀ e, B (ix2 e d) = B' (ix2 e d')) : tnAt A B r d = tnAt A' B' r' d' :=
  Finset.sum_congr rfl fun e _ => by rw [hA, hB]

/-- Row `r` of a tile of `b` rows, where the tile's number `n` is `e`, or zero; and where a tile holds row `i`. -/
theorem tile {n b e r : Nat} (h : n = e) : n * b + 1 * r = b * e + r := by rw [h, Nat.mul_comm, Nat.one_mul]
theorem tile0 {n b r : Nat} (h : n = 0) : n * b + 1 * r = r := by rw [h, Nat.zero_mul, Nat.zero_add, Nat.one_mul]
theorem tile1 {n e : Nat} (h : n = e) : n * 1 + 1 * 0 = e := by rw [h, Nat.mul_one]; rfl
theorem in_tile {n b e i : Nat} (h : n = e) (hi : e * b ≤ i ∧ i < e * b + b) : n * b ≤ i ∧ i < n * b + b := by rw [h]; exact hi

end Cert.Mat

end
-- ==== Proof.FfnUp.lean ====
/-
  The half-step's second region: the two up products and the gated product, shard by shard and block of 1024 rows by block, each
  block in four sub-blocks of 256 rows (`final1_3`, `final1_4`, `final1_5`: the three arrays the region leaves).
-/
module

public import proofs.«01_k».proof.Proof.FfnRms
public import proofs.«01_k».proof.Proof.Mat
public import proofs.«01_k».proof.Proof.Gen.Kernel2Ideal.Frame.Region1

@[expose] public section

set_option maxRecDepth 16384

noncomputable section

namespace Cert.Kernel2Ideal.Ffn

open Idealize.ShloMosaic Idealize.ShloMosaic.TcCoe Idealize.SL.Sem Idealize.ShloMosaic.Tactic
open Idealize.ShloMosaic.Pipeline (Dat)
open Cert.Mat (tile tile0 tile1)
open Cert.Kernel2Ideal Cert.Kernel2Ideal.Gen

theorem idx_ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext (match a with | ⟨0, _⟩ => h0 | ⟨1, _⟩ => h1 | ⟨2, _⟩ => h2)

/-- A block's leading index is zero, its axis being a unit one. -/
theorem unit_zero (y : Fin 1) : y = 0 := Subsingleton.elim _ _

/-- The gated value of the two up products. -/
def gate (a b : EReal) : EReal := a * Ideal.logistic a * b

/-- Row `R`'s product with column `f` of a shard's weights, in a block. -/
def dotAt (x : Vec Ideal S1024x1024 .bf16) (w : Vec Ideal S1x1024x704 .bf16) (R : Fin 1024) (f : Fin 704) : EReal :=
  ∑ d : Fin 1024, x (ix2 R d) * w (ValueIdx.ix3 0 d f)

/-- An up product, and the gated product of two, over whole arrays. -/
def upArr (X : Vec Ideal S4096x1024 .bf16) (W : Vec Ideal S4x1024x704 .bf16) : Vec Ideal S4x4096x704 .bf16 :=
  fun i => ∑ d : Fin 1024, X (ix2 (i 1) d) * W (ValueIdx.ix3 (i 0) d (i 2))
def gateArr (A B : Vec Ideal S4x4096x704 .bf16) : Vec Ideal S4x4096x704 .bf16 := fun i => gate (A i) (B i)

/-! ## The sub-blocks -/

/-- Row `r` of the sub-block that starts at row `o`. -/
abbrev sub (o : ℕ) (h : o + 256 ≤ 1024) (r : Fin 256) : Fin 1024 := ⟨o + r.val, by omega⟩

theorem ld_rows {e : EltTy} (x : Vec Ideal S1024x1024 e) (o : ℕ) (h : o + 256 ≤ 1024) (inb) (r : Fin 256) (d : Fin 1024) :
    View.ld x (Rect.unit ![o, 0] S256x1024.size inb) (ix2 r d) = x (ix2 (sub o h r) d) :=
  View.ld_unit_apply_of x _ _ _ _ _ fun a => by
    match a with
    | ⟨0, _⟩ => rfl
    | ⟨1, _⟩ => show d.val = 0 + d.val; omega

/-- Four pieces of 256 rows each that agree with one function of row and column are that function. -/
theorem quarters (p0 p1 p2 p3 : Vec Ideal S1x256x704 .bf16) (G : Fin 1024 → Fin 704 → EReal)
    (h0 : ∀ r f, p0 (ValueIdx.ix3 0 r f) = G (sub 0 (by decide) r) f)
    (h1 : ∀ r f, p1 (ValueIdx.ix3 0 r f) = G (sub 256 (by decide) r) f)
    (h2 : ∀ r f, p2 (ValueIdx.ix3 0 r f) = G (sub 512 (by decide) r) f)
    (h3 : ∀ r f, p3 (ValueIdx.ix3 0 r f) = G (sub 768 (by decide) r) f) :
    View.canon (Val := Elt Ideal) (s := S1x1024x704) (e := .bf16)
      [⟨Rect.unit ![0, 768, 0] S1x256x704.size inb_S1x1024x704_S1x256x704_0_768_0, p3⟩,
       ⟨Rect.unit ![0, 512, 0] S1x256x704.size inb_S1x1024x704_S1x256x704_0_512_0, p2⟩,
       ⟨Rect.unit ![0, 256, 0] S1x256x704.size inb_S1x1024x704_S1x256x704_0_256_0, p1⟩,
       ⟨Rect.unit ![0, 0, 0] S1x256x704.size inb_S1x1024x704_S1x256x704_0_0_0, p0⟩] = fun y => G (y 1) (y 2) := by
  funext y
  have hy0 : (y 0).val < 1 := (y 0).isLt
  have hy : (y 1).val < 1024 := (y 1).isLt
  have hd : (y 2).val < 704 := (y 2).isLt
  have emb : ∀ (o : ℕ) (h : o + 256 ≤ 1024) (inb) (r : Fin 256) (f : Fin 704),
      (Rect.unit (s := S1x1024x704) ![0, o, 0] S1x256x704.size inb).emb (ValueIdx.ix3 0 r f) = ValueIdx.ix3 0 (sub o h r) f := by
    intro o h inb r f
    refine idx_ext₃ rfl ?_ ?_
    · show o + 1 * r.val = o + r.val; omega
    · show 0 + 1 * f.val = f.val; omega
  refine View.canon_apply_of_pieces (Val := Elt Ideal) (e := .bf16) (fun y : S1x1024x704.Idx => G (y 1) (y 2)) _ ?_ y ?_
  · intro p hp
    simp only [List.mem_cons, List.not_mem_nil, or_false] at hp
    rcases hp with rfl | rfl | rfl | rfl <;> intro x <;>
      obtain ⟨r, f, rfl⟩ : ∃ (r : Fin 256) (f : Fin 704), x = ValueIdx.ix3 0 r f :=
        ⟨x 1, x 2, idx_ext₃ (congrArg Fin.val (unit_zero (x 0))) rfl rfl⟩
    · rw [emb 768 (by decide)]; exact h3 r f
    · rw [emb 512 (by decide)]; exact h2 r f
    · rw [emb 256 (by decide)]; exact h1 r f
    · rw [emb 0 (by decide)]; exact h0 r f
  · have mem : ∀ (o : ℕ) (inb), o ≤ (y 1).val → (y 1).val < o + 256 →
        y ∈ (Rect.unit (s := S1x1024x704) ![0, o, 0] S1x256x704.size inb).set := by
      intro o inb ha hb
      rw [Rect.mem_set_unit]
      intro a
      match a with
      | ⟨0, _⟩ => exact ⟨Nat.zero_le _, by show (y 0).val < 0 + 1; omega⟩
      | ⟨1, _⟩ => exact ⟨ha, hb⟩
      | ⟨2, _⟩ => exact ⟨Nat.zero_le _, by show (y 2).val < 0 + 704; omega⟩
    by_cases c3 : 768 ≤ (y 1).val
    · exact ⟨_, List.mem_cons_self, mem 768 inb_S1x1024x704_S1x256x704_0_768_0 c3 (by omega)⟩
    by_cases c2 : 512 ≤ (y 1).val
    · exact ⟨_, List.mem_cons_of_mem _ List.mem_cons_self, mem 512 inb_S1x1024x704_S1x256x704_0_512_0 c2 (by omega)⟩
    by_cases c1 : 256 ≤ (y 1).val
    · exact ⟨_, List.mem_cons_of_mem _ (List.mem_cons_of_mem _ List.mem_cons_self), mem 256 inb_S1x1024x704_S1x256x704_0_256_0 c1 (by omega)⟩
    · exact ⟨_, List.mem_cons_of_mem _ (List.mem_cons_of_mem _ (List.mem_cons_of_mem _ List.mem_cons_self)),
        mem 0 inb_S1x1024x704_S1x256x704_0_0_0 (Nat.zero_le _) (by omega)⟩

theorem pay1_3_apply (x : Vec Ideal S256x1024 .bf16) (w : Vec Ideal S1x1024x704 .bf16) (r : Fin 256) (f : Fin 704) :
    k1_pay3 x w (ix2 r f) = ∑ d : Fin 1024, x (ix2 r d) * w (ValueIdx.ix3 0 d f) := by
  unfold k1_pay3 k1_pay2
  pointwise
  rfl

theorem pay1_8_apply (x : Vec Ideal S256x1024 .bf16) (w : Vec Ideal S1x1024x704 .bf16) (r : Fin 256) (f : Fin 704) :
    k1_pay8 x w (ValueIdx.ix3 0 r f) = ∑ d : Fin 1024, x (ix2 r d) * w (ValueIdx.ix3 0 d f) := by
  unfold k1_pay8
  pointwise
  simp only [pay1_3_apply]

theorem pay1_11_apply (x : Vec Ideal S256x1024 .bf16) (w v : Vec Ideal S1x1024x704 .bf16) (r : Fin 256) (f : Fin 704) :
    k1_pay11 (k1_pay10 x w v) (ValueIdx.ix3 0 r f)
      = gate (∑ d : Fin 1024, x (ix2 r d) * w (ValueIdx.ix3 0 d f)) (∑ d : Fin 1024, x (ix2 r d) * v (ValueIdx.ix3 0 d f)) := by
  have e : k1_pay4 x v = k1_pay3 x v := rfl
  unfold k1_pay11 k1_pay10 gate
  rw [e]
  pointwise
  simp only [pay1_3_apply]

section
variable (x : Vec Ideal S1024x1024 .bf16) (w v : Vec Ideal S1x1024x704 .bf16)

/-- The rows of the sub-block that starts at row `o`. -/
abbrev rows (o : ℕ) (inb : ∀ a, (![o, 0] : Fin 2 → ℕ) a + S256x1024.size a ≤ S1024x1024.size a) : Vec Ideal S256x1024 .bf16 := View.ld x (Rect.unit ![o, 0] S256x1024.size inb)

theorem up_rows (o : ℕ) (h : o + 256 ≤ 1024) (inb) (r : Fin 256) (f : Fin 704) :
    k1_pay8 (rows x o inb) w (ValueIdx.ix3 0 r f) = dotAt x w (sub o h r) f := by
  rw [pay1_8_apply]; simp only [ld_rows x o h]; rfl

theorem gate_rows (o : ℕ) (h : o + 256 ≤ 1024) (inb) (r : Fin 256) (f : Fin 704) :
    k1_pay11 (k1_pay10 (rows x o inb) w v) (ValueIdx.ix3 0 r f) = gate (dotAt x w (sub o h r) f) (dotAt x v (sub o h r) f) := by
  rw [pay1_11_apply]; simp only [ld_rows x o h]; rfl

theorem out1_3_eq : out1_3 x w v = fun y => dotAt x w (y 1) (y 2) := by
  unfold out1_3 k1_pay33 k1_pay34 k1_pay30 k1_pay31 k1_pay28
  simp only [View.ld_unit_zero (S := S1x1024x704) hz3]
  exact quarters _ _ _ _ (dotAt x w) (up_rows x w 0 _ _) (up_rows x w 256 _ _) (up_rows x w 512 _ _) (up_rows x w 768 _ _)

theorem out1_4_eq : out1_4 x w v = fun y => dotAt x v (y 1) (y 2) := by
  unfold out1_4 k1_pay33 k1_pay32 k1_pay29
  simp only [View.ld_unit_zero (S := S1x1024x704) hz3]
  exact quarters _ _ _ _ (dotAt x v) (up_rows x v 0 _ _) (up_rows x v 256 _ _) (up_rows x v 512 _ _) (up_rows x v 768 _ _)

theorem out1_5_eq : out1_5 x w v = fun y => gate (dotAt x w (y 1) (y 2)) (dotAt x v (y 1) (y 2)) := by
  unfold out1_5 k1_pay33 k1_pay34 k1_pay30 k1_pay31 k1_pay32 k1_pay28 k1_pay29
  simp only [View.ld_unit_zero (S := S1x1024x704) hz3]
  exact quarters _ _ _ _ (fun R f => gate (dotAt x w R f) (dotAt x v R f)) (gate_rows x w v 0 _ _) (gate_rows x w v 256 _ _)
    (gate_rows x w v 512 _ _) (gate_rows x w v 768 _ _)
end

/-! ## The region -/

variable (V : (c : Dev nD) → (b : Ref sig .tc) → Buf (Elt Ideal) ((c : Thread nD τ).loc b)) (c : Dev nD)

theorem idx1 : ∀ t : Fin cfg1.N, win1_0.index t = ![t.val / 4, 0] ∧ win1_1.index t = ![t.val % 4, 0, 0]
    ∧ win1_2.index t = ![t.val % 4, 0, 0] ∧ win1_3.index t = ![t.val % 4, t.val / 4, 0]
    ∧ win1_4.index t = ![t.val % 4, t.val / 4, 0] ∧ win1_5.index t = ![t.val % 4, t.val / 4, 0] :=
  (by decide +kernel : ∀ t : Fin grid1.N, win1_0.index t = ![t.val / 4, 0] ∧ win1_1.index t = ![t.val % 4, 0, 0]
    ∧ win1_2.index t = ![t.val % 4, 0, 0] ∧ win1_3.index t = ![t.val % 4, t.val / 4, 0]
    ∧ win1_4.index t = ![t.val % 4, t.val / 4, 0] ∧ win1_5.index t = ![t.val % 4, t.val / 4, 0])

/-- The shard of a point, and row `R` of its block. -/
abbrev shard1 (t : Fin cfg1.N) : Fin 4 := ⟨t.val % 4, Nat.mod_lt _ (by decide)⟩
abbrev row1 (t : Fin cfg1.N) (R : Fin 1024) : Fin 4096 :=
  ⟨1024 * (t.val / 4) + R.val, by have : t.val < 16 := lt_of_lt_of_eq t.isLt N_1; omega⟩

theorem iblk1_0 (t : Fin cfg1.N) (R d : Fin 1024) :
    (iblk1 V c 0 t : Vec Ideal S1024x1024 .bf16) (ix2 R d) = (V c main_v9 : Vec Ideal S4096x1024 .bf16) (ix2 (row1 t R) d) :=
  have e := (idx1 t).1
  (View.read_apply ..).trans (congrArg (V c main_v9) (Shape.idx_ext₂ (tile (congrFun e 0)) (tile0 (congrFun e 1))))

theorem iblk1_1 (t : Fin cfg1.N) (d : Fin 1024) (f : Fin 704) : (iblk1 V c 1 t : Vec Ideal S1x1024x704 .bf16) (ValueIdx.ix3 0 d f)
    = (V c main_v2 : Vec Ideal S4x1024x704 .bf16) (ValueIdx.ix3 (shard1 t) d f) :=
  have e := (idx1 t).2.1
  (View.read_apply ..).trans (congrArg (V c main_v2) (idx_ext₃ (tile1 (congrFun e 0)) (tile0 (congrFun e 1)) (tile0 (congrFun e 2))))

theorem iblk1_2 (t : Fin cfg1.N) (d : Fin 1024) (f : Fin 704) : (iblk1 V c 2 t : Vec Ideal S1x1024x704 .bf16) (ValueIdx.ix3 0 d f)
    = (V c main_v5 : Vec Ideal S4x1024x704 .bf16) (ValueIdx.ix3 (shard1 t) d f) :=
  have e := (idx1 t).2.2.1
  (View.read_apply ..).trans (congrArg (V c main_v5) (idx_ext₃ (tile1 (congrFun e 0)) (tile0 (congrFun e 1)) (tile0 (congrFun e 2))))

theorem dot1_1 (t : Fin cfg1.N) (R : Fin 1024) (f : Fin 704) : dotAt (iblk1 V c 0 t) (iblk1 V c 1 t) R f
    = upArr (V c main_v9) (V c main_v2) (ValueIdx.ix3 (shard1 t) (row1 t R) f) := by
  unfold dotAt upArr
  exact Finset.sum_congr rfl fun d _ => by rw [iblk1_0, iblk1_1]

theorem dot1_2 (t : Fin cfg1.N) (R : Fin 1024) (f : Fin 704) : dotAt (iblk1 V c 0 t) (iblk1 V c 2 t) R f
    = upArr (V c main_v9) (V c main_v5) (ValueIdx.ix3 (shard1 t) (row1 t R) f) := by
  unfold dotAt upArr
  exact Finset.sum_congr rfl fun d _ => by rw [iblk1_0, iblk1_2]

theorem emb1_3 (t : Fin cfg1.N) (R : Fin 1024) (f : Fin 704) :
    ((cfg1.win 3).blk t).view.emb (ValueIdx.ix3 0 R f) = ValueIdx.ix3 (shard1 t) (row1 t R) f := by
  have e := (idx1 t).2.2.2.1
  refine idx_ext₃ ?_ ?_ ?_
  · show win1_3.index t 0 * 1 + 1 * 0 = t.val % 4; rw [e]; show t.val % 4 * 1 + _ = _; omega
  · show win1_3.index t 1 * 1024 + 1 * R.val = 1024 * (t.val / 4) + R.val; rw [e]; show t.val / 4 * 1024 + _ = _; omega
  · show win1_3.index t 2 * 704 + 1 * f.val = f.val; rw [e]; show 0 * 704 + _ = _; omega

theorem block1 (y : S1x1024x704.Idx) : ∃ (R : Fin 1024) (f : Fin 704), y = ValueIdx.ix3 0 R f :=
  ⟨y 1, y 2, idx_ext₃ (congrArg Fin.val (unit_zero (y 0))) rfl rfl⟩

/-- The three arrays the second region leaves. -/
theorem final1_3 : (dat1 V c).arrAt 3 cfg1.N = upArr (V c main_v9) (V c main_v2) := by
  refine (dat1 V c).arrAt_eq_of_cover 3 _ (fun t _ => ?_) (Pipeline.Window.Covers.cover _ (by decide +kernel) (Memref.isWhole_whole _))
  show (cfg1.win 3).cut (grid1.coords t) ((dat1 V c).after 3 t) = _
  rw [after1_3, out1_3_eq]
  funext y
  obtain ⟨R, f, rfl⟩ := block1 y
  rw [View.read_apply, emb1_3]
  exact dot1_1 V c t R f

theorem final1_4 : (dat1 V c).arrAt 4 cfg1.N = upArr (V c main_v9) (V c main_v5) := by
  refine (dat1 V c).arrAt_eq_of_cover 4 _ (fun t _ => ?_) (Pipeline.Window.Covers.cover _ (by decide +kernel) (Memref.isWhole_whole _))
  show (cfg1.win 4).cut (grid1.coords t) ((dat1 V c).after 4 t) = _
  rw [after1_4, out1_4_eq]
  funext y
  obtain ⟨R, f, rfl⟩ := block1 y
  rw [View.read_apply, show ((cfg1.win 4).blk t).view.emb (ValueIdx.ix3 0 R f) = _ from emb1_3 t R f]
  exact dot1_2 V c t R f

theorem final1_5 : (dat1 V c).arrAt 5 cfg1.N = gateArr (upArr (V c main_v9) (V c main_v2)) (upArr (V c main_v9) (V c main_v5)) := by
  refine (dat1 V c).arrAt_eq_of_cover 5 _ (fun t _ => ?_) (Pipeline.Window.Covers.cover _ (by decide +kernel) (Memref.isWhole_whole _))
  show (cfg1.win 5).cut (grid1.coords t) ((dat1 V c).after 5 t) = _
  rw [after1_5, out1_5_eq]
  funext y
  obtain ⟨R, f, rfl⟩ := block1 y
  rw [View.read_apply, show ((cfg1.win 5).blk t).view.emb (ValueIdx.ix3 0 R f) = _ from emb1_3 t R f]
  show gate (dotAt (iblk1 V c 0 t) (iblk1 V c 1 t) R f) (dotAt (iblk1 V c 0 t) (iblk1 V c 2 t) R f) = gate _ _
  rw [dot1_1, dot1_2]

end Cert.Kernel2Ideal.Ffn

end
-- ==== Proof.FfnDown.lean ====
/-
  The half-step's down product over the four shards with its residual (`final2`), and the gradient of the normalised rows, the
  two up products' gradients against their weights over the four shards (`final7`): the arrays these two regions leave.
-/
module

public import proofs.«01_k».proof.Proof.FfnUp
public import proofs.«01_k».proof.Proof.Gen.Kernel2Ideal.Frame.Region2
public import proofs.«01_k».proof.Proof.Gen.Kernel2Ideal.Frame.Region7

@[expose] public section

set_option maxRecDepth 16384

noncomputable section

namespace Cert.Kernel2Ideal.Ffn

open Idealize.ShloMosaic Idealize.ShloMosaic.TcCoe Idealize.SL.Sem Idealize.ShloMosaic.Tactic
open Idealize.ShloMosaic.Pipeline (Dat)
open Cert.Mat (tile tile0 tile1)
open Cert.Kernel2Ideal Cert.Kernel2Ideal.Gen

/-- One half, as the program words it. -/
abbrev half : EReal := Ideal.ofBits .f32 0x3F000000#32

/-- Shard `j`'s part of the down product, and of the gradient of the rows through an up product. -/
def downAt (U : Vec Ideal S4x4096x704 .bf16) (W : Vec Ideal S4x704x1024 .bf16) (j : Fin 4) (s : Fin 4096) (d : Fin 1024) : EReal :=
  ∑ f : Fin 704, U (ValueIdx.ix3 j s f) * W (ValueIdx.ix3 j f d)
def backAt (D : Vec Ideal S4x4096x704 .bf16) (W : Vec Ideal S4x1024x704 .bf16) (j : Fin 4) (s : Fin 4096) (d : Fin 1024) : EReal :=
  ∑ f : Fin 704, D (ValueIdx.ix3 j s f) * W (ValueIdx.ix3 j d f)

/-- The rows plus half the down product, and the gradient of the normalised rows. -/
def downArr (U : Vec Ideal S4x4096x704 .bf16) (W : Vec Ideal S4x704x1024 .bf16) (X : Vec Ideal S4096x1024 .f32) :
    Vec Ideal S4096x1024 .f32 := fun i => (∑ j, downAt U W j (i 0) (i 1)) * half + X i
def dhArr (A B : Vec Ideal S4x4096x704 .bf16) (W1 W3 : Vec Ideal S4x1024x704 .bf16) : Vec Ideal S4096x1024 .f32 :=
  fun i => ∑ j, backAt A W1 j (i 0) (i 1) + ∑ j, backAt B W3 j (i 0) (i 1)

/-! ## The blocks -/

theorem out2_apply (x0 x2 x4 x6 : Vec Ideal S1x1024x704 .bf16) (x1 x3 x5 x7 : Vec Ideal S1x704x1024 .bf16)
    (x8 : Vec Ideal S1024x1024 .f32) (R d : Fin 1024) : out2_9 x0 x1 x2 x3 x4 x5 x6 x7 x8 (ix2 R d)
      = (∑ f : Fin 704, x0 (ValueIdx.ix3 0 R f) * x1 (ValueIdx.ix3 0 f d)
          + ∑ f : Fin 704, x2 (ValueIdx.ix3 0 R f) * x3 (ValueIdx.ix3 0 f d)
          + ∑ f : Fin 704, x4 (ValueIdx.ix3 0 R f) * x5 (ValueIdx.ix3 0 f d)
          + ∑ f : Fin 704, x6 (ValueIdx.ix3 0 R f) * x7 (ValueIdx.ix3 0 f d)) * half + x8 (ix2 R d) := by
  unfold out2_9
  rw [View.canon_cons_unit_zero hz2]
  simp only [View.ld_unit_zero (S := S1x1024x704) hz3, View.ld_unit_zero (S := S1x704x1024) hz3,
    View.ld_unit_zero (S := S1024x1024) hz2]
  unfold k2_pay1 k2_pay2
  pointwise
  rfl

theorem out7_apply (x0 x2 x4 x6 x8 x10 x12 x14 : Vec Ideal S1x512x704 .bf16)
    (x1 x3 x5 x7 x9 x11 x13 x15 : Vec Ideal S1x1024x704 .bf16) (r : Fin 512) (d : Fin 1024) :
    out7_16 x0 x1 x2 x3 x4 x5 x6 x7 x8 x9 x10 x11 x12 x13 x14 x15 (ix2 r d)
      = ∑ f : Fin 704, x0 (ValueIdx.ix3 0 r f) * x1 (ValueIdx.ix3 0 d f)
        + ∑ f : Fin 704, x2 (ValueIdx.ix3 0 r f) * x3 (ValueIdx.ix3 0 d f)
        + ∑ f : Fin 704, x4 (ValueIdx.ix3 0 r f) * x5 (ValueIdx.ix3 0 d f)
        + ∑ f : Fin 704, x6 (ValueIdx.ix3 0 r f) * x7 (ValueIdx.ix3 0 d f)
        + ∑ f : Fin 704, x8 (ValueIdx.ix3 0 r f) * x9 (ValueIdx.ix3 0 d f)
        + ∑ f : Fin 704, x10 (ValueIdx.ix3 0 r f) * x11 (ValueIdx.ix3 0 d f)
        + ∑ f : Fin 704, x12 (ValueIdx.ix3 0 r f) * x13 (ValueIdx.ix3 0 d f)
        + ∑ f : Fin 704, x14 (ValueIdx.ix3 0 r f) * x15 (ValueIdx.ix3 0 d f) := by
  unfold out7_16
  rw [View.canon_cons_unit_zero hz2]
  simp only [View.ld_unit_zero (S := S1x512x704) hz3, View.ld_unit_zero (S := S1x1024x704) hz3]
  unfold k7_pay1 k7_pay2 k7_pay3
  pointwise
  rfl

/-! ## The regions -/

variable (V : (c : Dev nD) → (b : Ref sig .tc) → Buf (Elt Ideal) ((c : Thread nD τ).loc b)) (c : Dev nD)

theorem idx2 : ∀ t : Fin cfg2.N, win2_0.index t = ![0, t.val, 0] ∧ win2_1.index t = ![0, 0, 0] ∧ win2_2.index t = ![1, t.val, 0]
    ∧ win2_3.index t = ![1, 0, 0] ∧ win2_4.index t = ![2, t.val, 0] ∧ win2_5.index t = ![2, 0, 0]
    ∧ win2_6.index t = ![3, t.val, 0] ∧ win2_7.index t = ![3, 0, 0] ∧ win2_8.index t = ![t.val, 0]
    ∧ win2_9.index t = ![t.val, 0] :=
  (by decide +kernel : ∀ t : Fin grid2.N, win2_0.index t = ![0, t.val, 0] ∧ win2_1.index t = ![0, 0, 0]
    ∧ win2_2.index t = ![1, t.val, 0] ∧ win2_3.index t = ![1, 0, 0] ∧ win2_4.index t = ![2, t.val, 0]
    ∧ win2_5.index t = ![2, 0, 0] ∧ win2_6.index t = ![3, t.val, 0] ∧ win2_7.index t = ![3, 0, 0]
    ∧ win2_8.index t = ![t.val, 0] ∧ win2_9.index t = ![t.val, 0])

abbrev row2 (t : Fin cfg2.N) (R : Fin 1024) : Fin 4096 :=
  ⟨1024 * t.val + R.val, by have : t.val < 4 := lt_of_lt_of_eq t.isLt N_2; omega⟩

theorem iblk2_0 (t : Fin cfg2.N) (R : Fin 1024) (f : Fin 704) : (iblk2 V c 0 t : Vec Ideal S1x1024x704 .bf16) (ValueIdx.ix3 0 R f)
    = (V c main_v10_2 : Vec Ideal S4x4096x704 .bf16) (ValueIdx.ix3 0 (row2 t R) f) :=
  have e := (idx2 t).1
  (View.read_apply ..).trans (congrArg (V c main_v10_2) (idx_ext₃ (tile1 (congrFun e 0)) (tile (congrFun e 1)) (tile0 (congrFun e 2))))

theorem iblk2_1 (t : Fin cfg2.N) (f : Fin 704) (d : Fin 1024) : (iblk2 V c 1 t : Vec Ideal S1x704x1024 .bf16) (ValueIdx.ix3 0 f d)
    = (V c main_v7 : Vec Ideal S4x704x1024 .bf16) (ValueIdx.ix3 0 f d) :=
  have e := (idx2 t).2.1
  (View.read_apply ..).trans (congrArg (V c main_v7) (idx_ext₃ (tile1 (congrFun e 0)) (tile0 (congrFun e 1)) (tile0 (congrFun e 2))))

theorem iblk2_2 (t : Fin cfg2.N) (R : Fin 1024) (f : Fin 704) : (iblk2 V c 2 t : Vec Ideal S1x1024x704 .bf16) (ValueIdx.ix3 0 R f)
    = (V c main_v10_2 : Vec Ideal S4x4096x704 .bf16) (ValueIdx.ix3 1 (row2 t R) f) :=
  have e := (idx2 t).2.2.1
  (View.read_apply ..).trans (congrArg (V c main_v10_2) (idx_ext₃ (tile1 (congrFun e 0)) (tile (congrFun e 1)) (tile0 (congrFun e 2))))

theorem iblk2_3 (t : Fin cfg2.N) (f : Fin 704) (d : Fin 1024) : (iblk2 V c 3 t : Vec Ideal S1x704x1024 .bf16) (ValueIdx.ix3 0 f d)
    = (V c main_v7 : Vec Ideal S4x704x1024 .bf16) (ValueIdx.ix3 1 f d) :=
  have e := (idx2 t).2.2.2.1
  (View.read_apply ..).trans (congrArg (V c main_v7) (idx_ext₃ (tile1 (congrFun e 0)) (tile0 (congrFun e 1)) (tile0 (congrFun e 2))))

theorem iblk2_4 (t : Fin cfg2.N) (R : Fin 1024) (f : Fin 704) : (iblk2 V c 4 t : Vec Ideal S1x1024x704 .bf16) (ValueIdx.ix3 0 R f)
    = (V c main_v10_2 : Vec Ideal S4x4096x704 .bf16) (ValueIdx.ix3 2 (row2 t R) f) :=
  have e := (idx2 t).2.2.2.2.1
  (View.read_apply ..).trans (congrArg (V c main_v10_2) (idx_ext₃ (tile1 (congrFun e 0)) (tile (congrFun e 1)) (tile0 (congrFun e 2))))

theorem iblk2_5 (t : Fin cfg2.N) (f : Fin 704) (d : Fin 1024) : (iblk2 V c 5 t : Vec Ideal S1x704x1024 .bf16) (ValueIdx.ix3 0 f d)
    = (V c main_v7 : Vec Ideal S4x704x1024 .bf16) (ValueIdx.ix3 2 f d) :=
  have e := (idx2 t).2.2.2.2.2.1
  (View.read_apply ..).trans (congrArg (V c main_v7) (idx_ext₃ (tile1 (congrFun e 0)) (tile0 (congrFun e 1)) (tile0 (congrFun e 2))))

theorem iblk2_6 (t : Fin cfg2.N) (R : Fin 1024) (f : Fin 704) : (iblk2 V c 6 t : Vec Ideal S1x1024x704 .bf16) (ValueIdx.ix3 0 R f)
    = (V c main_v10_2 : Vec Ideal S4x4096x704 .bf16) (ValueIdx.ix3 3 (row2 t R) f) :=
  have e := (idx2 t).2.2.2.2.2.2.1
  (View.read_apply ..).trans (congrArg (V c main_v10_2) (idx_ext₃ (tile1 (congrFun e 0)) (tile (congrFun e 1)) (tile0 (congrFun e 2))))

theorem iblk2_7 (t : Fin cfg2.N) (f : Fin 704) (d : Fin 1024) : (iblk2 V c 7 t : Vec Ideal S1x704x1024 .bf16) (ValueIdx.ix3 0 f d)
    = (V c main_v7 : Vec Ideal S4x704x1024 .bf16) (ValueIdx.ix3 3 f d) :=
  have e := (idx2 t).2.2.2.2.2.2.2.1
  (View.read_apply ..).trans (congrArg (V c main_v7) (idx_ext₃ (tile1 (congrFun e 0)) (tile0 (congrFun e 1)) (tile0 (congrFun e 2))))

theorem iblk2_8 (t : Fin cfg2.N) (R d : Fin 1024) :
    (iblk2 V c 8 t : Vec Ideal S1024x1024 .f32) (ix2 R d) = (V c main_arg0 : Vec Ideal S4096x1024 .f32) (ix2 (row2 t R) d) :=
  have e := (idx2 t).2.2.2.2.2.2.2.2.1
  (View.read_apply ..).trans (congrArg (V c main_arg0) (Shape.idx_ext₂ (tile (congrFun e 0)) (tile0 (congrFun e 1))))

/-- The array the down product's region leaves. -/
theorem final2 : (dat2 V c).arrAt 9 cfg2.N = downArr (V c main_v10_2) (V c main_v7) (V c main_arg0) := by
  refine (dat2 V c).arrAt_eq_of_cover 9 _ (fun t _ => ?_) (Pipeline.Window.Covers.cover _ (by decide +kernel) (Memref.isWhole_whole _))
  have e := (idx2 t).2.2.2.2.2.2.2.2.2
  show (cfg2.win 9).cut (grid2.coords t) ((dat2 V c).after 9 t) = _
  rw [after2_9]
  funext y
  obtain ⟨R, d, rfl⟩ : ∃ (R d : Fin 1024), y = ix2 R d := ⟨y 0, y 1, eq_ix2 y⟩
  rw [View.read_apply]
  have e' : ((cfg2.win 9).blk t).view.emb (ix2 R d) = ix2 (row2 t R) d := by
    refine Shape.idx_ext₂ ?_ ?_
    · show win2_9.index t 0 * 1024 + 1 * R.val = 1024 * t.val + R.val; rw [e]; show t.val * 1024 + _ = _; omega
    · show win2_9.index t 1 * 1024 + 1 * d.val = d.val; rw [e]; show 0 * 1024 + _ = _; omega
  rw [e']
  show out2_9 (F := Ideal) _ _ _ _ _ _ _ _ _ (ix2 R d) = (∑ j, downAt _ _ j (row2 t R) d) * half + _
  rw [out2_apply, Fin.sum_univ_four]
  simp only [iblk2_0, iblk2_1, iblk2_2, iblk2_3, iblk2_4, iblk2_5, iblk2_6, iblk2_7, iblk2_8]
  rfl

theorem idx7 : ∀ t : Fin cfg7.N, win7_0.index t = ![0, t.val, 0] ∧ win7_1.index t = ![0, 0, 0] ∧ win7_2.index t = ![1, t.val, 0]
    ∧ win7_3.index t = ![1, 0, 0] ∧ win7_4.index t = ![2, t.val, 0] ∧ win7_5.index t = ![2, 0, 0]
    ∧ win7_6.index t = ![3, t.val, 0] ∧ win7_7.index t = ![3, 0, 0] ∧ win7_8.index t = ![0, t.val, 0]
    ∧ win7_9.index t = ![0, 0, 0] ∧ win7_10.index t = ![1, t.val, 0] ∧ win7_11.index t = ![1, 0, 0]
    ∧ win7_12.index t = ![2, t.val, 0] ∧ win7_13.index t = ![2, 0, 0] ∧ win7_14.index t = ![3, t.val, 0]
    ∧ win7_15.index t = ![3, 0, 0] ∧ win7_16.index t = ![t.val, 0] :=
  (by decide +kernel : ∀ t : Fin grid7.N, win7_0.index t = ![0, t.val, 0] ∧ win7_1.index t = ![0, 0, 0]
    ∧ win7_2.index t = ![1, t.val, 0] ∧ win7_3.index t = ![1, 0, 0] ∧ win7_4.index t = ![2, t.val, 0]
    ∧ win7_5.index t = ![2, 0, 0] ∧ win7_6.index t = ![3, t.val, 0] ∧ win7_7.index t = ![3, 0, 0]
    ∧ win7_8.index t = ![0, t.val, 0] ∧ win7_9.index t = ![0, 0, 0] ∧ win7_10.index t = ![1, t.val, 0]
    ∧ win7_11.index t = ![1, 0, 0] ∧ win7_12.index t = ![2, t.val, 0] ∧ win7_13.index t = ![2, 0, 0]
    ∧ win7_14.index t = ![3, t.val, 0] ∧ win7_15.index t = ![3, 0, 0] ∧ win7_16.index t = ![t.val, 0])

abbrev row7 (t : Fin cfg7.N) (r : Fin 512) : Fin 4096 :=
  ⟨512 * t.val + r.val, by have : t.val < 8 := lt_of_lt_of_eq t.isLt N_7; omega⟩

theorem iblk7_0 (t : Fin cfg7.N) (r : Fin 512) (f : Fin 704) : (iblk7 V c 0 t : Vec Ideal S1x512x704 .bf16) (ValueIdx.ix3 0 r f)
    = (V c main_v16_0 : Vec Ideal S4x4096x704 .bf16) (ValueIdx.ix3 0 (row7 t r) f) :=
  have e := (idx7 t).1
  (View.read_apply ..).trans (congrArg (V c main_v16_0) (idx_ext₃ (tile1 (congrFun e 0)) (tile (congrFun e 1)) (tile0 (congrFun e 2))))

theorem iblk7_1 (t : Fin cfg7.N) (d : Fin 1024) (f : Fin 704) : (iblk7 V c 1 t : Vec Ideal S1x1024x704 .bf16) (ValueIdx.ix3 0 d f)
    = (V c main_v2 : Vec Ideal S4x1024x704 .bf16) (ValueIdx.ix3 0 d f) :=
  have e := (idx7 t).2.1
  (View.read_apply ..).trans (congrArg (V c main_v2) (idx_ext₃ (tile1 (congrFun e 0)) (tile0 (congrFun e 1)) (tile0 (congrFun e 2))))

theorem iblk7_2 (t : Fin cfg7.N) (r : Fin 512) (f : Fin 704) : (iblk7 V c 2 t : Vec Ideal S1x512x704 .bf16) (ValueIdx.ix3 0 r f)
    = (V c main_v16_0 : Vec Ideal S4x4096x704 .bf16) (ValueIdx.ix3 1 (row7 t r) f) :=
  have e := (idx7 t).2.2.1
  (View.read_apply ..).trans (congrArg (V c main_v16_0) (idx_ext₃ (tile1 (congrFun e 0)) (tile (congrFun e 1)) (tile0 (congrFun e 2))))

theorem iblk7_3 (t : Fin cfg7.N) (d : Fin 1024) (f : Fin 704) : (iblk7 V c 3 t : Vec Ideal S1x1024x704 .bf16) (ValueIdx.ix3 0 d f)
    = (V c main_v2 : Vec Ideal S4x1024x704 .bf16) (ValueIdx.ix3 1 d f) :=
  have e := (idx7 t).2.2.2.1
  (View.read_apply ..).trans (congrArg (V c main_v2) (idx_ext₃ (tile1 (congrFun e 0)) (tile0 (congrFun e 1)) (tile0 (congrFun e 2))))

theorem iblk7_4 (t : Fin cfg7.N) (r : Fin 512) (f : Fin 704) : (iblk7 V c 4 t : Vec Ideal S1x512x704 .bf16) (ValueIdx.ix3 0 r f)
    = (V c main_v16_0 : Vec Ideal S4x4096x704 .bf16) (ValueIdx.ix3 2 (row7 t r) f) :=
  have e := (idx7 t).2.2.2.2.1
  (View.read_apply ..).trans (congrArg (V c main_v16_0) (idx_ext₃ (tile1 (congrFun e 0)) (tile (congrFun e 1)) (tile0 (congrFun e 2))))

theorem iblk7_5 (t : Fin cfg7.N) (d : Fin 1024) (f : Fin 704) : (iblk7 V c 5 t : Vec Ideal S1x1024x704 .bf16) (ValueIdx.ix3 0 d f)
    = (V c main_v2 : Vec Ideal S4x1024x704 .bf16) (ValueIdx.ix3 2 d f) :=
  have e := (idx7 t).2.2.2.2.2.1
  (View.read_apply ..).trans (congrArg (V c main_v2) (idx_ext₃ (tile1 (congrFun e 0)) (tile0 (congrFun e 1)) (tile0 (congrFun e 2))))

theorem iblk7_6 (t : Fin cfg7.N) (r : Fin 512) (f : Fin 704) : (iblk7 V c 6 t : Vec Ideal S1x512x704 .bf16) (ValueIdx.ix3 0 r f)
    = (V c main_v16_0 : Vec Ideal S4x4096x704 .bf16) (ValueIdx.ix3 3 (row7 t r) f) :=
  have e := (idx7 t).2.2.2.2.2.2.1
  (View.read_apply ..).trans (congrArg (V c main_v16_0) (idx_ext₃ (tile1 (congrFun e 0)) (tile (congrFun e 1)) (tile0 (congrFun e 2))))

theorem iblk7_7 (t : Fin cfg7.N) (d : Fin 1024) (f : Fin 704) : (iblk7 V c 7 t : Vec Ideal S1x1024x704 .bf16) (ValueIdx.ix3 0 d f)
    = (V c main_v2 : Vec Ideal S4x1024x704 .bf16) (ValueIdx.ix3 3 d f) :=
  have e := (idx7 t).2.2.2.2.2.2.2.1
  (View.read_apply ..).trans (congrArg (V c main_v2) (idx_ext₃ (tile1 (congrFun e 0)) (tile0 (congrFun e 1)) (tile0 (congrFun e 2))))

theorem iblk7_8 (t : Fin cfg7.N) (r : Fin 512) (f : Fin 704) : (iblk7 V c 8 t : Vec Ideal S1x512x704 .bf16) (ValueIdx.ix3 0 r f)
    = (V c main_v16_1 : Vec Ideal S4x4096x704 .bf16) (ValueIdx.ix3 0 (row7 t r) f) :=
  have e := (idx7 t).2.2.2.2.2.2.2.2.1
  (View.read_apply ..).trans (congrArg (V c main_v16_1) (idx_ext₃ (tile1 (congrFun e 0)) (tile (congrFun e 1)) (tile0 (congrFun e 2))))

theorem iblk7_9 (t : Fin cfg7.N) (d : Fin 1024) (f : Fin 704) : (iblk7 V c 9 t : Vec Ideal S1x1024x704 .bf16) (ValueIdx.ix3 0 d f)
    = (V c main_v5 : Vec Ideal S4x1024x704 .bf16) (ValueIdx.ix3 0 d f) :=
  have e := (idx7 t).2.2.2.2.2.2.2.2.2.1
  (View.read_apply ..).trans (congrArg (V c main_v5) (idx_ext₃ (tile1 (congrFun e 0)) (tile0 (congrFun e 1)) (tile0 (congrFun e 2))))

theorem iblk7_10 (t : Fin cfg7.N) (r : Fin 512) (f : Fin 704) : (iblk7 V c 10 t : Vec Ideal S1x512x704 .bf16) (ValueIdx.ix3 0 r f)
    = (V c main_v16_1 : Vec Ideal S4x4096x704 .bf16) (ValueIdx.ix3 1 (row7 t r) f) :=
  have e := (idx7 t).2.2.2.2.2.2.2.2.2.2.1
  (View.read_apply ..).trans (congrArg (V c main_v16_1) (idx_ext₃ (tile1 (congrFun e 0)) (tile (congrFun e 1)) (tile0 (congrFun e 2))))

theorem iblk7_11 (t : Fin cfg7.N) (d : Fin 1024) (f : Fin 704) : (iblk7 V c 11 t : Vec Ideal S1x1024x704 .bf16) (ValueIdx.ix3 0 d f)
    = (V c main_v5 : Vec Ideal S4x1024x704 .bf16) (ValueIdx.ix3 1 d f) :=
  have e := (idx7 t).2.2.2.2.2.2.2.2.2.2.2.1
  (View.read_apply ..).trans (congrArg (V c main_v5) (idx_ext₃ (tile1 (congrFun e 0)) (tile0 (congrFun e 1)) (tile0 (congrFun e 2))))

theorem iblk7_12 (t : Fin cfg7.N) (r : Fin 512) (f : Fin 704) : (iblk7 V c 12 t : Vec Ideal S1x512x704 .bf16) (ValueIdx.ix3 0 r f)
    = (V c main_v16_1 : Vec Ideal S4x4096x704 .bf16) (ValueIdx.ix3 2 (row7 t r) f) :=
  have e := (idx7 t).2.2.2.2.2.2.2.2.2.2.2.2.1
  (View.read_apply ..).trans (congrArg (V c main_v16_1) (idx_ext₃ (tile1 (congrFun e 0)) (tile (congrFun e 1)) (tile0 (congrFun e 2))))

theorem iblk7_13 (t : Fin cfg7.N) (d : Fin 1024) (f : Fin 704) : (iblk7 V c 13 t : Vec Ideal S1x1024x704 .bf16) (ValueIdx.ix3 0 d f)
    = (V c main_v5 : Vec Ideal S4x1024x704 .bf16) (ValueIdx.ix3 2 d f) :=
  have e := (idx7 t).2.2.2.2.2.2.2.2.2.2.2.2.2.1
  (View.read_apply ..).trans (congrArg (V c main_v5) (idx_ext₃ (tile1 (congrFun e 0)) (tile0 (congrFun e 1)) (tile0 (congrFun e 2))))

theorem iblk7_14 (t : Fin cfg7.N) (r : Fin 512) (f : Fin 704) : (iblk7 V c 14 t : Vec Ideal S1x512x704 .bf16) (ValueIdx.ix3 0 r f)
    = (V c main_v16_1 : Vec Ideal S4x4096x704 .bf16) (ValueIdx.ix3 3 (row7 t r) f) :=
  have e := (idx7 t).2.2.2.2.2.2.2.2.2.2.2.2.2.2.1
  (View.read_apply ..).trans (congrArg (V c main_v16_1) (idx_ext₃ (tile1 (congrFun e 0)) (tile (congrFun e 1)) (tile0 (congrFun e 2))))

theorem iblk7_15 (t : Fin cfg7.N) (d : Fin 1024) (f : Fin 704) : (iblk7 V c 15 t : Vec Ideal S1x1024x704 .bf16) (ValueIdx.ix3 0 d f)
    = (V c main_v5 : Vec Ideal S4x1024x704 .bf16) (ValueIdx.ix3 3 d f) :=
  have e := (idx7 t).2.2.2.2.2.2.2.2.2.2.2.2.2.2.2.1
  (View.read_apply ..).trans (congrArg (V c main_v5) (idx_ext₃ (tile1 (congrFun e 0)) (tile0 (congrFun e 1)) (tile0 (congrFun e 2))))

/-- The array the region of the normalised rows' gradient leaves. -/
theorem final7 : (dat7 V c).arrAt 16 cfg7.N = dhArr (V c main_v16_0) (V c main_v16_1) (V c main_v2) (V c main_v5) := by
  refine (dat7 V c).arrAt_eq_of_cover 16 _ (fun t _ => ?_) (Pipeline.Window.Covers.cover _ (by decide +kernel) (Memref.isWhole_whole _))
  have e := (idx7 t).2.2.2.2.2.2.2.2.2.2.2.2.2.2.2.2
  show (cfg7.win 16).cut (grid7.coords t) ((dat7 V c).after 16 t) = _
  rw [after7_16]
  funext y
  obtain ⟨r, d, rfl⟩ : ∃ (r : Fin 512) (d : Fin 1024), y = ix2 r d := ⟨y 0, y 1, eq_ix2 y⟩
  rw [View.read_apply]
  have e' : ((cfg7.win 16).blk t).view.emb (ix2 r d) = ix2 (row7 t r) d := by
    refine Shape.idx_ext₂ ?_ ?_
    · show win7_16.index t 0 * 512 + 1 * r.val = 512 * t.val + r.val; rw [e]; show t.val * 512 + _ = _; omega
    · show win7_16.index t 1 * 1024 + 1 * d.val = d.val; rw [e]; show 0 * 1024 + _ = _; omega
  rw [e']
  show out7_16 (F := Ideal) _ _ _ _ _ _ _ _ _ _ _ _ _ _ _ _ (ix2 r d)
    = ∑ j, backAt _ _ j (row7 t r) d + ∑ j, backAt _ _ j (row7 t r) d
  rw [out7_apply, Fin.sum_univ_four, Fin.sum_univ_four]
  simp only [iblk7_0, iblk7_1, iblk7_2, iblk7_3, iblk7_4, iblk7_5, iblk7_6, iblk7_7, iblk7_8, iblk7_9, iblk7_10, iblk7_11,
    iblk7_12, iblk7_13, iblk7_14, iblk7_15]
  simp only [← add_assoc]
  rfl

end Cert.Kernel2Ideal.Ffn

end
-- ==== Proof.FfnDownBwd.lean ====
/-
  The gradients of the half-step's two up products: the output's gradient through the down product and the gate, shard by shard
  and block of 1024 rows by block, each block in four sub-blocks of 256 rows (`final3_4`, `final3_5`).
-/
module

public import proofs.«01_k».proof.Proof.FfnDown
public import proofs.«01_k».proof.Proof.Gen.Kernel2Ideal.Frame.Region3

@[expose] public section

set_option maxRecDepth 16384

noncomputable section

namespace Cert.Kernel2Ideal.Ffn

open Idealize.ShloMosaic Idealize.ShloMosaic.TcCoe Idealize.SL.Sem Idealize.ShloMosaic.Tactic
open Idealize.ShloMosaic.Pipeline (Dat)
open Cert.Mat (tile tile0 tile1)
open Cert.Kernel2Ideal Cert.Kernel2Ideal.Gen

/-- One, as the program words it. -/
abbrev one : EReal := Ideal.ofBits .f32 0x3F800000#32

/-- The gradients of the gate's two factors, of the gradient `u` of the gated value. -/
def gradA (u a b : EReal) : EReal := u * b * (Ideal.logistic a * (one + a * (one - Ideal.logistic a)))
def gradB (u a : EReal) : EReal := u * a * Ideal.logistic a

/-- The gradient of the gated value at row `R` and column `f` of a shard, in a block. -/
def duAt (y : Vec Ideal S1024x1024 .f32) (w : Vec Ideal S1x704x1024 .bf16) (R : Fin 1024) (f : Fin 704) : EReal :=
  (∑ d : Fin 1024, y (ix2 R d) * w (ValueIdx.ix3 0 f d)) * half

/-- … over whole arrays, and the gradients of the two up products. -/
def duArr (Y : Vec Ideal S4096x1024 .f32) (W : Vec Ideal S4x704x1024 .bf16) : Vec Ideal S4x4096x704 .f32 :=
  fun i => (∑ d : Fin 1024, Y (ix2 (i 1) d) * W (ValueIdx.ix3 (i 0) (i 2) d)) * half
def daArr (Y : Vec Ideal S4096x1024 .f32) (W : Vec Ideal S4x704x1024 .bf16) (A B : Vec Ideal S4x4096x704 .bf16) :
    Vec Ideal S4x4096x704 .bf16 := fun i => gradA (duArr Y W i) (A i) (B i)
def dbArr (Y : Vec Ideal S4096x1024 .f32) (W : Vec Ideal S4x704x1024 .bf16) (A : Vec Ideal S4x4096x704 .bf16) :
    Vec Ideal S4x4096x704 .bf16 := fun i => gradB (duArr Y W i) (A i)

/-! ## The sub-blocks -/

theorem ld_subs (x : Vec Ideal S1x1024x704 .bf16) (o : ℕ) (h : o + 256 ≤ 1024) (inb) (r : Fin 256) (f : Fin 704) :
    View.ld x (Rect.unit ![0, o, 0] S1x256x704.size inb) (ValueIdx.ix3 0 r f) = x (ValueIdx.ix3 0 (sub o h r) f) :=
  View.ld_unit_apply_of x _ _ _ _ _ fun a => by
    match a with
    | ⟨0, _⟩ => rfl
    | ⟨1, _⟩ => rfl
    | ⟨2, _⟩ => show f.val = 0 + f.val; omega

theorem pay3_7_apply (y : Vec Ideal S256x1024 .f32) (w : Vec Ideal S1x704x1024 .bf16) (r : Fin 256) (f : Fin 704) :
    k3_pay7 y w (ix2 r f) = (∑ d : Fin 1024, y (ix2 r d) * w (ValueIdx.ix3 0 f d)) * half := by
  unfold k3_pay7
  pointwise
  rfl

theorem pay3_10_apply (y : Vec Ideal S256x1024 .f32) (w : Vec Ideal S1x704x1024 .bf16) (a b : Vec Ideal S1x256x704 .bf16)
    (r : Fin 256) (f : Fin 704) : k3_pay10 y w a b (ValueIdx.ix3 0 r f)
      = gradA ((∑ d : Fin 1024, y (ix2 r d) * w (ValueIdx.ix3 0 f d)) * half) (a (ValueIdx.ix3 0 r f)) (b (ValueIdx.ix3 0 r f)) := by
  unfold k3_pay10 k3_pay9 k3_pay8 gradA
  pointwise
  simp only [pay3_7_apply]

theorem pay3_12_apply (y : Vec Ideal S256x1024 .f32) (w : Vec Ideal S1x704x1024 .bf16) (a : Vec Ideal S1x256x704 .bf16)
    (r : Fin 256) (f : Fin 704) : k3_pay12 (k3_pay11 y w a) (ValueIdx.ix3 0 r f)
      = gradB ((∑ d : Fin 1024, y (ix2 r d) * w (ValueIdx.ix3 0 f d)) * half) (a (ValueIdx.ix3 0 r f)) := by
  unfold k3_pay12 k3_pay11 k3_pay9 k3_pay8 gradB
  pointwise
  simp only [pay3_7_apply]

section
variable (y : Vec Ideal S1024x1024 .f32) (w : Vec Ideal S1x704x1024 .bf16) (a b : Vec Ideal S1x1024x704 .bf16)

/-- The rows of the sub-block that starts at row `o`, of a block of rows and of a shard's block. -/
abbrev rowsY (o : ℕ) (inb : ∀ a, (![o, 0] : Fin 2 → ℕ) a + S256x1024.size a ≤ S1024x1024.size a) : Vec Ideal S256x1024 .f32 :=
  View.ld y (Rect.unit ![o, 0] S256x1024.size inb)
abbrev rowsS (o : ℕ) (inb : ∀ a, (![0, o, 0] : Fin 3 → ℕ) a + S1x256x704.size a ≤ S1x1024x704.size a) : Vec Ideal S1x256x704 .bf16 :=
  View.ld a (Rect.unit ![0, o, 0] S1x256x704.size inb)

theorem da_rows (o : ℕ) (h : o + 256 ≤ 1024) (inb inb') (r : Fin 256) (f : Fin 704) :
    k3_pay10 (rowsY y o inb) w (rowsS a o inb') (rowsS b o inb') (ValueIdx.ix3 0 r f)
      = gradA (duAt y w (sub o h r) f) (a (ValueIdx.ix3 0 (sub o h r) f)) (b (ValueIdx.ix3 0 (sub o h r) f)) := by
  rw [pay3_10_apply]; simp only [ld_rows y o h, ld_subs a o h, ld_subs b o h]; rfl

theorem db_rows (o : ℕ) (h : o + 256 ≤ 1024) (inb inb') (r : Fin 256) (f : Fin 704) :
    k3_pay12 (k3_pay11 (rowsY y o inb) w (rowsS a o inb')) (ValueIdx.ix3 0 r f)
      = gradB (duAt y w (sub o h r) f) (a (ValueIdx.ix3 0 (sub o h r) f)) := by
  rw [pay3_12_apply]; simp only [ld_rows y o h, ld_subs a o h]; rfl

theorem out3_4_eq : out3_4 y w a b = fun i => gradA (duAt y w (i 1) (i 2)) (a (ValueIdx.ix3 0 (i 1) (i 2))) (b (ValueIdx.ix3 0 (i 1) (i 2))) := by
  unfold out3_4 k3_pay27 k3_pay28 k3_pay29 k3_pay30
  simp only [View.ld_unit_zero (S := S1x704x1024) hz3]
  exact quarters _ _ _ _ (fun R f => gradA (duAt y w R f) (a (ValueIdx.ix3 0 R f)) (b (ValueIdx.ix3 0 R f)))
    (da_rows y w a b 0 _ _ _) (da_rows y w a b 256 _ _ _) (da_rows y w a b 512 _ _ _) (da_rows y w a b 768 _ _ _)

theorem out3_5_eq : out3_5 y w a b = fun i => gradB (duAt y w (i 1) (i 2)) (a (ValueIdx.ix3 0 (i 1) (i 2))) := by
  unfold out3_5 k3_pay27 k3_pay28 k3_pay29 k3_pay30
  simp only [View.ld_unit_zero (S := S1x704x1024) hz3]
  exact quarters _ _ _ _ (fun R f => gradB (duAt y w R f) (a (ValueIdx.ix3 0 R f)))
    (db_rows y w a 0 _ _ _) (db_rows y w a 256 _ _ _) (db_rows y w a 512 _ _ _) (db_rows y w a 768 _ _ _)
end

/-! ## The region -/

variable (V : (c : Dev nD) → (b : Ref sig .tc) → Buf (Elt Ideal) ((c : Thread nD τ).loc b)) (c : Dev nD)

theorem idx3 : ∀ t : Fin cfg3.N, win3_0.index t = ![t.val / 4, 0] ∧ win3_1.index t = ![t.val % 4, 0, 0]
    ∧ win3_2.index t = ![t.val % 4, t.val / 4, 0] ∧ win3_3.index t = ![t.val % 4, t.val / 4, 0]
    ∧ win3_4.index t = ![t.val % 4, t.val / 4, 0] ∧ win3_5.index t = ![t.val % 4, t.val / 4, 0] :=
  (by decide +kernel : ∀ t : Fin grid3.N, win3_0.index t = ![t.val / 4, 0] ∧ win3_1.index t = ![t.val % 4, 0, 0]
    ∧ win3_2.index t = ![t.val % 4, t.val / 4, 0] ∧ win3_3.index t = ![t.val % 4, t.val / 4, 0]
    ∧ win3_4.index t = ![t.val % 4, t.val / 4, 0] ∧ win3_5.index t = ![t.val % 4, t.val / 4, 0])

/-- The shard of a point, and row `R` of its block. -/
abbrev shard3 (t : Fin cfg3.N) : Fin 4 := ⟨t.val % 4, Nat.mod_lt _ (by decide)⟩
abbrev row3 (t : Fin cfg3.N) (R : Fin 1024) : Fin 4096 :=
  ⟨1024 * (t.val / 4) + R.val, by have : t.val < 16 := lt_of_lt_of_eq t.isLt N_3; omega⟩

theorem iblk3_0 (t : Fin cfg3.N) (R d : Fin 1024) :
    (iblk3 V c 0 t : Vec Ideal S1024x1024 .f32) (ix2 R d) = (V c main_arg5 : Vec Ideal S4096x1024 .f32) (ix2 (row3 t R) d) :=
  have e := (idx3 t).1
  (View.read_apply ..).trans (congrArg (V c main_arg5) (Shape.idx_ext₂ (tile (congrFun e 0)) (tile0 (congrFun e 1))))

theorem iblk3_1 (t : Fin cfg3.N) (f : Fin 704) (d : Fin 1024) : (iblk3 V c 1 t : Vec Ideal S1x704x1024 .bf16) (ValueIdx.ix3 0 f d)
    = (V c main_v7 : Vec Ideal S4x704x1024 .bf16) (ValueIdx.ix3 (shard3 t) f d) :=
  have e := (idx3 t).2.1
  (View.read_apply ..).trans (congrArg (V c main_v7) (idx_ext₃ (tile1 (congrFun e 0)) (tile0 (congrFun e 1)) (tile0 (congrFun e 2))))

theorem iblk3_2 (t : Fin cfg3.N) (R : Fin 1024) (f : Fin 704) : (iblk3 V c 2 t : Vec Ideal S1x1024x704 .bf16) (ValueIdx.ix3 0 R f)
    = (V c main_v10_0 : Vec Ideal S4x4096x704 .bf16) (ValueIdx.ix3 (shard3 t) (row3 t R) f) :=
  have e := (idx3 t).2.2.1
  (View.read_apply ..).trans (congrArg (V c main_v10_0) (idx_ext₃ (tile1 (congrFun e 0)) (tile (congrFun e 1)) (tile0 (congrFun e 2))))

theorem iblk3_3 (t : Fin cfg3.N) (R : Fin 1024) (f : Fin 704) : (iblk3 V c 3 t : Vec Ideal S1x1024x704 .bf16) (ValueIdx.ix3 0 R f)
    = (V c main_v10_1 : Vec Ideal S4x4096x704 .bf16) (ValueIdx.ix3 (shard3 t) (row3 t R) f) :=
  have e := (idx3 t).2.2.2.1
  (View.read_apply ..).trans (congrArg (V c main_v10_1) (idx_ext₃ (tile1 (congrFun e 0)) (tile (congrFun e 1)) (tile0 (congrFun e 2))))

theorem duAt_iblk (t : Fin cfg3.N) (R : Fin 1024) (f : Fin 704) : duAt (iblk3 V c 0 t) (iblk3 V c 1 t) R f
    = duArr (V c main_arg5) (V c main_v7) (ValueIdx.ix3 (shard3 t) (row3 t R) f) := by
  unfold duAt duArr
  exact congrArg (· * half) (Finset.sum_congr rfl fun d _ => by rw [iblk3_0, iblk3_1])

theorem emb3_4 (t : Fin cfg3.N) (R : Fin 1024) (f : Fin 704) :
    ((cfg3.win 4).blk t).view.emb (ValueIdx.ix3 0 R f) = ValueIdx.ix3 (shard3 t) (row3 t R) f := by
  have e := (idx3 t).2.2.2.2.1
  refine idx_ext₃ ?_ ?_ ?_
  · show win3_4.index t 0 * 1 + 1 * 0 = t.val % 4; rw [e]; show t.val % 4 * 1 + _ = _; omega
  · show win3_4.index t 1 * 1024 + 1 * R.val = 1024 * (t.val / 4) + R.val; rw [e]; show t.val / 4 * 1024 + _ = _; omega
  · show win3_4.index t 2 * 704 + 1 * f.val = f.val; rw [e]; show 0 * 704 + _ = _; omega

/-- The two arrays the region leaves. -/
theorem final3_4 : (dat3 V c).arrAt 4 cfg3.N = daArr (V c main_arg5) (V c main_v7) (V c main_v10_0) (V c main_v10_1) := by
  refine (dat3 V c).arrAt_eq_of_cover 4 _ (fun t _ => ?_) (Pipeline.Window.Covers.cover _ (by decide +kernel) (Memref.isWhole_whole _))
  show (cfg3.win 4).cut (grid3.coords t) ((dat3 V c).after 4 t) = _
  rw [after3_4, out3_4_eq]
  funext y
  obtain ⟨R, f, rfl⟩ := block1 y
  rw [View.read_apply, emb3_4]
  show gradA (duAt (iblk3 V c 0 t) (iblk3 V c 1 t) R f) _ _ = gradA _ _ _
  rw [duAt_iblk]
  exact congrArg₂ (gradA _) (iblk3_2 V c t R f) (iblk3_3 V c t R f)

theorem final3_5 : (dat3 V c).arrAt 5 cfg3.N = dbArr (V c main_arg5) (V c main_v7) (V c main_v10_0) := by
  refine (dat3 V c).arrAt_eq_of_cover 5 _ (fun t _ => ?_) (Pipeline.Window.Covers.cover _ (by decide +kernel) (Memref.isWhole_whole _))
  show (cfg3.win 5).cut (grid3.coords t) ((dat3 V c).after 5 t) = _
  rw [after3_5, out3_5_eq]
  funext y
  obtain ⟨R, f, rfl⟩ := block1 y
  rw [View.read_apply, show ((cfg3.win 5).blk t).view.emb (ValueIdx.ix3 0 R f) = _ from emb3_4 t R f]
  show gradB (duAt (iblk3 V c 0 t) (iblk3 V c 1 t) R f) _ = gradB _ _
  rw [duAt_iblk]
  exact congrArg (gradB _) (iblk3_2 V c t R f)

end Cert.Kernel2Ideal.Ffn

end
-- ==== Proof.FfnDw.lean ====
/-
  The gradients of the half-step's three weights, each shard's a product over all the rows (`final4`: the down product's weight,
  in two halves of 512 columns; `final5` and `final6`: the two up products' weights).
-/
module

public import proofs.«01_k».proof.Proof.FfnDownBwd
public import proofs.«01_k».proof.Proof.Gen.Kernel2Ideal.Frame.Region4
public import proofs.«01_k».proof.Proof.Gen.Kernel2Ideal.Frame.Region5
public import proofs.«01_k».proof.Proof.Gen.Kernel2Ideal.Frame.Region6

@[expose] public section

set_option maxRecDepth 16384

noncomputable section

namespace Cert.Kernel2Ideal.Ffn

open Idealize.ShloMosaic Idealize.ShloMosaic.TcCoe Idealize.SL.Sem Idealize.ShloMosaic.Tactic
open Idealize.ShloMosaic.Pipeline (Dat)
open Cert.Mat (tile tile0 tile1)
open Cert.Kernel2Ideal Cert.Kernel2Ideal.Gen

theorem hz4 : (![0, 0, 0, 0] : Fin 4 → Nat) = fun _ => 0 := funext fun a => by fin_cases a <;> rfl

theorem idx_ext₄ {n0 n1 n2 n3 : Nat} {a b : (⟨4, ![n0, n1, n2, n3]⟩ : Shape).Idx} (h0 : (a 0).val = (b 0).val) (h1 : (a 1).val = (b 1).val)
    (h2 : (a 2).val = (b 2).val) (h3 : (a 3).val = (b 3).val) : a = b :=
  funext fun k => Fin.ext <| by
    match k with
    | ⟨0, _⟩ => exact h0
    | ⟨1, _⟩ => exact h1
    | ⟨2, _⟩ => exact h2
    | ⟨3, _⟩ => exact h3

theorem block2 {m n : Nat} (y : (⟨4, ![1, 1, m, n]⟩ : Shape).Idx) : ∃ R f, y = ValueIdx.ix4 0 0 R f :=
  ⟨y 2, y 3, idx_ext₄ (by have : (y 0 : Nat) < 1 := (y 0).isLt; show (y 0 : Nat) = 0; omega)
    (by have : (y 1 : Nat) < 1 := (y 1).isLt; show (y 1 : Nat) = 0; omega) rfl rfl⟩

/-- The down product's weight: shard `j`'s gradient at row `f` and column `d`, a sum over all the rows of the batch. -/
def dw2Arr (U : Vec Ideal S4x4096x704 .bf16) (Y : Vec Ideal S4096x1024 .f32) : Vec Ideal S4x1x704x1024 .bf16 :=
  fun i => (∑ s : Fin 4096, U (ValueIdx.ix3 (i 0) s (i 2)) * Y (ix2 s (i 3))) * half

/-- An up product's weight: shard `j`'s gradient at row `d` and column `f`. -/
def dwArr (H : Vec Ideal S4096x1024 .bf16) (D : Vec Ideal S4x4096x704 .bf16) : Vec Ideal S4x1x1024x704 .bf16 :=
  fun i => ∑ s : Fin 4096, H (ix2 s (i 2)) * D (ValueIdx.ix3 (i 0) s (i 3))

theorem pay4_1_apply (u : Vec Ideal S1x4096x704 .bf16) (y : Vec Ideal S4096x512 .f32) (f : Fin 704) (d : Fin 512) :
    k4_pay1 u y (ValueIdx.ix4 0 0 f d) = (∑ s : Fin 4096, u (ValueIdx.ix3 0 s f) * y (ix2 s d)) * half := by
  unfold k4_pay1
  pointwise
  rfl

theorem pay5_1_apply (h : Vec Ideal S4096x1024 .bf16) (g : Vec Ideal S1x4096x704 .bf16) (d : Fin 1024) (f : Fin 704) :
    k5_pay1 h g (ValueIdx.ix4 0 0 d f) = ∑ s : Fin 4096, h (ix2 s d) * g (ValueIdx.ix3 0 s f) := by
  unfold k5_pay1
  pointwise
  rfl

variable (V : (c : Dev nD) → (b : Ref sig .tc) → Buf (Elt Ideal) ((c : Thread nD τ).loc b)) (c : Dev nD)

/-! ## The down product's weight -/

theorem outs4 (t : Fin cfg4.N) : outsAt4 V c t = k4_pay1 (iblk4 V c 0 t) (iblk4 V c 1 t) := by
  unfold outsAt4 out4_A_2
  rw [View.read_writes_eq_canon _ _ _ (cover4_A_2 c (grid4.coords t) (ms4_0 t) (hs4_0 t) (ms4_1 t) (hs4_1 t) (ms4_2 t) (hs4_2 t)
    (iblk4 V c 0 t) (iblk4 V c 1 t))]
  unfold kernelRun4_A
  dsimp only
  sl_unfold_words
  simp only [View.canon_cons_unit_zero (S := S1x1x704x512) hz4, View.readAt_eq_ld, (hs4_0 t).read_unread, (hs4_1 t).read_unread,
    View.ld_unit_zero (S := S1x4096x704) hz3, View.ld_unit_zero (S := S4096x512) hz2]

theorem idx4 : ∀ t : Fin cfg4.N, win4_0.index t = ![t.val / 2, 0, 0] ∧ win4_1.index t = ![0, t.val % 2]
    ∧ win4_2.index t = ![t.val / 2, 0, 0, t.val % 2] :=
  (by decide +kernel : ∀ t : Fin grid4.N, win4_0.index t = ![t.val / 2, 0, 0] ∧ win4_1.index t = ![0, t.val % 2]
    ∧ win4_2.index t = ![t.val / 2, 0, 0, t.val % 2])

/-- The shard of a point, and column `d` of its half. -/
abbrev shard4 (t : Fin cfg4.N) : Fin 4 := ⟨t.val / 2, by have : t.val < 8 := lt_of_lt_of_eq t.isLt N_4; omega⟩
abbrev col4 (t : Fin cfg4.N) (d : Fin 512) : Fin 1024 := ⟨512 * (t.val % 2) + d.val, by omega⟩

theorem iblk4_0 (t : Fin cfg4.N) (s : Fin 4096) (f : Fin 704) : (iblk4 V c 0 t : Vec Ideal S1x4096x704 .bf16) (ValueIdx.ix3 0 s f)
    = (V c main_v10_2 : Vec Ideal S4x4096x704 .bf16) (ValueIdx.ix3 (shard4 t) s f) :=
  have e := (idx4 t).1
  (View.read_apply ..).trans (congrArg (V c main_v10_2) (idx_ext₃ (tile1 (congrFun e 0)) (tile0 (congrFun e 1)) (tile0 (congrFun e 2))))

theorem iblk4_1 (t : Fin cfg4.N) (s : Fin 4096) (d : Fin 512) : (iblk4 V c 1 t : Vec Ideal S4096x512 .f32) (ix2 s d)
    = (V c main_arg5 : Vec Ideal S4096x1024 .f32) (ix2 s (col4 t d)) :=
  have e := (idx4 t).2.1
  (View.read_apply ..).trans (congrArg (V c main_arg5) (Shape.idx_ext₂ (tile0 (congrFun e 0)) (tile (congrFun e 1))))

theorem emb4_2 (t : Fin cfg4.N) (f : Fin 704) (d : Fin 512) :
    ((cfg4.win 2).blk t).view.emb (ValueIdx.ix4 0 0 f d) = ValueIdx.ix4 (shard4 t) 0 f (col4 t d) := by
  have e := (idx4 t).2.2
  refine idx_ext₄ ?_ ?_ ?_ ?_
  · show win4_2.index t 0 * 1 + 1 * 0 = t.val / 2; rw [e]; show t.val / 2 * 1 + _ = _; omega
  · show win4_2.index t 1 * 1 + 1 * 0 = 0; rw [e]; rfl
  · show win4_2.index t 2 * 704 + 1 * f.val = f.val; rw [e]; show 0 * 704 + _ = _; omega
  · show win4_2.index t 3 * 512 + 1 * d.val = 512 * (t.val % 2) + d.val; rw [e]; show t.val % 2 * 512 + _ = _; omega

theorem final4 : (dat4 V c).arrAt 2 cfg4.N = dw2Arr (V c main_v10_2) (V c main_arg5) := by
  refine (dat4 V c).arrAt_eq_of_cover 2 _ (fun t _ => ?_) (Pipeline.Window.Covers.cover _ (by decide +kernel) (Memref.isWhole_whole _))
  show (cfg4.win 2).cut (grid4.coords t) ((dat4 V c).after 2 t) = _
  rw [after4_2, outs4]
  funext y
  obtain ⟨f, d, rfl⟩ := block2 y
  rw [View.read_apply, emb4_2]
  refine (pay4_1_apply _ _ f d).trans (congrArg (· * half) (Finset.sum_congr rfl fun s _ => ?_))
  rw [iblk4_0, iblk4_1]

/-! ## The up products' weights -/

theorem outs5 (t : Fin cfg5.N) : outsAt5 V c t = k5_pay1 (iblk5 V c 0 t) (iblk5 V c 1 t) := by
  unfold outsAt5 out5_A_2
  rw [View.read_writes_eq_canon _ _ _ (cover5_A_2 c (grid5.coords t) (ms5_0 t) (hs5_0 t) (ms5_1 t) (hs5_1 t) (ms5_2 t) (hs5_2 t)
    (iblk5 V c 0 t) (iblk5 V c 1 t))]
  unfold kernelRun5_A
  dsimp only
  sl_unfold_words
  simp only [View.canon_cons_unit_zero (S := S1x1x1024x704) hz4, View.readAt_eq_ld, (hs5_0 t).read_unread, (hs5_1 t).read_unread,
    View.ld_unit_zero (S := S1x4096x704) hz3, View.ld_unit_zero (S := S4096x1024) hz2]
  try rfl

theorem idx5 : ∀ t : Fin cfg5.N, win5_0.index t = ![0, 0] ∧ win5_1.index t = ![t.val, 0, 0] ∧ win5_2.index t = ![t.val, 0, 0, 0] :=
  (by decide +kernel : ∀ t : Fin grid5.N, win5_0.index t = ![0, 0] ∧ win5_1.index t = ![t.val, 0, 0] ∧ win5_2.index t = ![t.val, 0, 0, 0])

abbrev shard5 (t : Fin cfg5.N) : Fin 4 := ⟨t.val, lt_of_lt_of_eq t.isLt N_5⟩

theorem iblk5_0 (t : Fin cfg5.N) (s : Fin 4096) (d : Fin 1024) : (iblk5 V c 0 t : Vec Ideal S4096x1024 .bf16) (ix2 s d)
    = (V c main_v9 : Vec Ideal S4096x1024 .bf16) (ix2 s d) :=
  have e := (idx5 t).1
  (View.read_apply ..).trans (congrArg (V c main_v9) (Shape.idx_ext₂ (tile0 (congrFun e 0)) (tile0 (congrFun e 1))))

theorem iblk5_1 (t : Fin cfg5.N) (s : Fin 4096) (f : Fin 704) : (iblk5 V c 1 t : Vec Ideal S1x4096x704 .bf16) (ValueIdx.ix3 0 s f)
    = (V c main_v16_0 : Vec Ideal S4x4096x704 .bf16) (ValueIdx.ix3 (shard5 t) s f) :=
  have e := (idx5 t).2.1
  (View.read_apply ..).trans (congrArg (V c main_v16_0) (idx_ext₃ (tile1 (congrFun e 0)) (tile0 (congrFun e 1)) (tile0 (congrFun e 2))))

theorem emb5_2 (t : Fin cfg5.N) (d : Fin 1024) (f : Fin 704) :
    ((cfg5.win 2).blk t).view.emb (ValueIdx.ix4 0 0 d f) = ValueIdx.ix4 (shard5 t) 0 d f := by
  have e := (idx5 t).2.2
  refine idx_ext₄ ?_ ?_ ?_ ?_
  · show win5_2.index t 0 * 1 + 1 * 0 = t.val; rw [e]; show t.val * 1 + _ = _; omega
  · show win5_2.index t 1 * 1 + 1 * 0 = 0; rw [e]; rfl
  · show win5_2.index t 2 * 1024 + 1 * d.val = d.val; rw [e]; show 0 * 1024 + _ = _; omega
  · show win5_2.index t 3 * 704 + 1 * f.val = f.val; rw [e]; show 0 * 704 + _ = _; omega

theorem final5 : (dat5 V c).arrAt 2 cfg5.N = dwArr (V c main_v9) (V c main_v16_0) := by
  refine (dat5 V c).arrAt_eq_of_cover 2 _ (fun t _ => ?_) (Pipeline.Window.Covers.cover _ (by decide +kernel) (Memref.isWhole_whole _))
  show (cfg5.win 2).cut (grid5.coords t) ((dat5 V c).after 2 t) = _
  rw [after5_2, outs5]
  funext y
  obtain ⟨d, f, rfl⟩ := block2 y
  rw [View.read_apply, emb5_2]
  refine (pay5_1_apply _ _ d f).trans ?_
  show (_ : EReal) = dwArr (V c main_v9) (V c main_v16_0) (ValueIdx.ix4 (shard5 t) 0 d f)
  unfold dwArr
  refine Finset.sum_congr rfl fun s _ => ?_
  rw [iblk5_0, iblk5_1]

theorem outs6 (t : Fin cfg6.N) : outsAt6 V c t = k5_pay1 (iblk6 V c 0 t) (iblk6 V c 1 t) := by
  unfold outsAt6 out6_A_2
  rw [View.read_writes_eq_canon _ _ _ (cover6_A_2 c (grid6.coords t) (ms6_0 t) (hs6_0 t) (ms6_1 t) (hs6_1 t) (ms6_2 t) (hs6_2 t)
    (iblk6 V c 0 t) (iblk6 V c 1 t))]
  unfold kernelRun6_A
  dsimp only
  sl_unfold_words
  simp only [View.canon_cons_unit_zero (S := S1x1x1024x704) hz4, View.readAt_eq_ld, (hs6_0 t).read_unread, (hs6_1 t).read_unread,
    View.ld_unit_zero (S := S1x4096x704) hz3, View.ld_unit_zero (S := S4096x1024) hz2]
  try rfl

theorem idx6 : ∀ t : Fin cfg6.N, win6_0.index t = ![0, 0] ∧ win6_1.index t = ![t.val, 0, 0] ∧ win6_2.index t = ![t.val, 0, 0, 0] :=
  (by decide +kernel : ∀ t : Fin grid6.N, win6_0.index t = ![0, 0] ∧ win6_1.index t = ![t.val, 0, 0] ∧ win6_2.index t = ![t.val, 0, 0, 0])

abbrev shard6 (t : Fin cfg6.N) : Fin 4 := ⟨t.val, lt_of_lt_of_eq t.isLt N_6⟩

theorem iblk6_0 (t : Fin cfg6.N) (s : Fin 4096) (d : Fin 1024) : (iblk6 V c 0 t : Vec Ideal S4096x1024 .bf16) (ix2 s d)
    = (V c main_v9 : Vec Ideal S4096x1024 .bf16) (ix2 s d) :=
  have e := (idx6 t).1
  (View.read_apply ..).trans (congrArg (V c main_v9) (Shape.idx_ext₂ (tile0 (congrFun e 0)) (tile0 (congrFun e 1))))

theorem iblk6_1 (t : Fin cfg6.N) (s : Fin 4096) (f : Fin 704) : (iblk6 V c 1 t : Vec Ideal S1x4096x704 .bf16) (ValueIdx.ix3 0 s f)
    = (V c main_v16_1 : Vec Ideal S4x4096x704 .bf16) (ValueIdx.ix3 (shard6 t) s f) :=
  have e := (idx6 t).2.1
  (View.read_apply ..).trans (congrArg (V c main_v16_1) (idx_ext₃ (tile1 (congrFun e 0)) (tile0 (congrFun e 1)) (tile0 (congrFun e 2))))

theorem emb6_2 (t : Fin cfg6.N) (d : Fin 1024) (f : Fin 704) :
    ((cfg6.win 2).blk t).view.emb (ValueIdx.ix4 0 0 d f) = ValueIdx.ix4 (shard6 t) 0 d f := by
  have e := (idx6 t).2.2
  refine idx_ext₄ ?_ ?_ ?_ ?_
  · show win6_2.index t 0 * 1 + 1 * 0 = t.val; rw [e]; show t.val * 1 + _ = _; omega
  · show win6_2.index t 1 * 1 + 1 * 0 = 0; rw [e]; rfl
  · show win6_2.index t 2 * 1024 + 1 * d.val = d.val; rw [e]; show 0 * 1024 + _ = _; omega
  · show win6_2.index t 3 * 704 + 1 * f.val = f.val; rw [e]; show 0 * 704 + _ = _; omega

theorem final6 : (dat6 V c).arrAt 2 cfg6.N = dwArr (V c main_v9) (V c main_v16_1) := by
  refine (dat6 V c).arrAt_eq_of_cover 2 _ (fun t _ => ?_) (Pipeline.Window.Covers.cover _ (by decide +kernel) (Memref.isWhole_whole _))
  show (cfg6.win 2).cut (grid6.coords t) ((dat6 V c).after 2 t) = _
  rw [after6_2, outs6]
  funext y
  obtain ⟨d, f, rfl⟩ := block2 y
  rw [View.read_apply, emb6_2]
  refine (pay5_1_apply _ _ d f).trans ?_
  show (_ : EReal) = dwArr (V c main_v9) (V c main_v16_1) (ValueIdx.ix4 (shard6 t) 0 d f)
  unfold dwArr
  refine Finset.sum_congr rfl fun s _ => ?_
  rw [iblk6_0, iblk6_1]

end Cert.Kernel2Ideal.Ffn

end
-- ==== Proof.FfnRmsBwd.lean ====
/-
  The half-step's last region: the gradient through the row normalisation, block of 512 rows by block, and the gain's gradient,
  summed over the blocks in a buffer the grid keeps (`final8_4`, `final8_5`).
-/
module

public import proofs.«01_k».proof.Proof.FfnDw
public import proofs.«01_k».proof.Proof.Gen.Kernel2Ideal.Frame.Region8

@[expose] public section

set_option maxRecDepth 16384

noncomputable section

namespace Cert.Kernel2Ideal.Ffn

open Idealize.ShloMosaic Idealize.ShloMosaic.TcCoe Idealize.SL.Sem Idealize.ShloMosaic.Tactic
open Idealize.ShloMosaic.Pipeline (Dat)
open Cert.Mat (tile tile0 tile1)
open Cert.Kernel2Ideal Cert.Kernel2Ideal.Gen

/-- A row's element over the row's root mean square. -/
def xhat (X : Vec Ideal S4096x1024 .f32) (s : Fin 4096) (d : Fin 1024) : EReal := X (ix2 s d) * rms (fun d => X (ix2 s d))

/-- The gradient of the rows: through the gain and the normalisation, and past them both. -/
def dxArr (X : Vec Ideal S4096x1024 .f32) (g : Vec Ideal S1x1024 .f32) (D Y : Vec Ideal S4096x1024 .f32) : Vec Ideal S4096x1024 .f32 :=
  fun i => rms (fun d => X (ix2 (i 0) d)) * (D i * g (ix2 0 (i 1))
    - xhat X (i 0) (i 1) * Ideal.div (∑ d : Fin 1024, D (ix2 (i 0) d) * g (ix2 0 d) * xhat X (i 0) d) (Ideal.ofBits .f32 0x44800000#32)) + Y i

/-- The gradient of the gain. -/
def dgAt (X D : Vec Ideal S4096x1024 .f32) (d : Fin 1024) : EReal := ∑ s : Fin 4096, D (ix2 s d) * xhat X s d

/-! ## The payloads -/

section
variable (x : Vec Ideal S512x1024 .f32) (g : Vec Ideal S1x1024 .f32) (D Y : Vec Ideal S512x1024 .f32)

theorem pay8_2_apply (r : Fin 512) : k8_pay2 x (ix2 r 0) = rms (fun d => x (ix2 r d)) := by
  unfold k8_pay2 rms
  pointwise

theorem pay8_3_apply (r : Fin 512) (d : Fin 1024) : k8_pay3 x (ix2 r d) = x (ix2 r d) * rms (fun d => x (ix2 r d)) := by
  unfold k8_pay3
  pointwise
  rw [pay8_2_apply]

theorem pay8_5_apply (r : Fin 512) (d : Fin 1024) : k8_pay5 x D g Y (ix2 r d)
    = rms (fun d => x (ix2 r d)) * (D (ix2 r d) * g (ix2 0 d) - x (ix2 r d) * rms (fun d => x (ix2 r d))
        * Ideal.div (∑ d : Fin 1024, D (ix2 r d) * g (ix2 0 d) * (x (ix2 r d) * rms (fun d => x (ix2 r d)))) (Ideal.ofBits .f32 0x44800000#32))
      + Y (ix2 r d) := by
  unfold k8_pay5 k8_pay4
  pointwise
  simp only [pay8_2_apply, pay8_3_apply]

/-- What a block adds to the gain's gradient. -/
def addAt (d : Fin 1024) : EReal := ∑ r : Fin 512, D (ix2 r d) * (x (ix2 r d) * rms (fun d => x (ix2 r d)))

theorem pay8_1_apply (o : Vec Ideal S1x1024 .f32) (d : Fin 1024) :
    k8_pay1 (k8_pay7 o) (k8_pay8 x D) (ix2 0 d) = o (ix2 0 d) + addAt x D d := by
  unfold k8_pay1 k8_pay7 k8_pay8 k8_pay4 addAt
  pointwise
  simp only [pay8_3_apply]
end

theorem pay8_6_apply (y : S8x1024.Idx) : (k8_pay6 (F := Ideal)) y = 0 := by unfold k8_pay6; pointwise

/-! ## What a point leaves -/

section
variable (c : Dev nD) (i : grid8.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole)
  (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole)
  (x0 : Vec Ideal S512x1024 .f32) (x1 : Vec Ideal S1x1024 .f32) (x2 x3 : Vec Ideal S512x1024 .f32) (xo5 : Vec Ideal S8x1024 .f32)

theorem out8_A_4_eq (hc0 : cond8_0 i) :
    out8_A_4 c i arg1 harg1 arg2 harg2 arg3 harg3 arg4 harg4 arg5 harg5 arg6 harg6 hc0 x0 x1 x2 x3 = k8_pay5 x0 x2 x1 x3 := by
  unfold out8_A_4
  rw [View.read_writes_eq_canon _ _ _ (cover8_A_4 c i arg1 harg1 arg2 harg2 arg3 harg3 arg4 harg4 arg5 harg5 arg6 harg6 hc0 x0 x1 x2 x3)]
  unfold kernelRun8_A
  dsimp only
  sl_unfold_words
  simp only [View.canon_cons_unit_zero (S := S512x1024) hz2, View.readAt_eq_ld, harg1.read_unread, harg2.read_unread,
    harg3.read_unread, harg4.read_unread, View.ld_unit_zero (S := S512x1024) hz2, View.ld_unit_zero (S := S1x1024) hz2]

theorem out8_B_4_eq (hc0 : ¬cond8_0 i) :
    out8_B_4 c i arg1 harg1 arg2 harg2 arg3 harg3 arg4 harg4 arg5 harg5 arg6 harg6 hc0 x0 x1 x2 x3 xo5 = k8_pay5 x0 x2 x1 x3 := by
  unfold out8_B_4
  rw [View.read_writes_eq_canon _ _ _ (cover8_B_4 c i arg1 harg1 arg2 harg2 arg3 harg3 arg4 harg4 arg5 harg5 arg6 harg6 hc0 x0 x1 x2 x3 xo5)]
  unfold kernelRun8_B
  dsimp only
  sl_unfold_words
  simp only [View.canon_cons_unit_zero (S := S512x1024) hz2, View.readAt_eq_ld, harg1.read_unread, harg2.read_unread,
    harg3.read_unread, harg4.read_unread, View.ld_unit_zero (S := S512x1024) hz2, View.ld_unit_zero (S := S1x1024) hz2]

/-- The kept buffer's first row, loaded. -/
theorem ld_row0 (z : Vec Ideal S8x1024 .f32) (inb) (d : Fin 1024) :
    View.ld z (Rect.unit ![0, 0] S1x1024.size inb) (ix2 0 d) = z (ix2 0 d) :=
  View.ld_unit_apply_of z _ _ _ _ _ fun a => by
    match a with
    | ⟨0, _⟩ => rfl
    | ⟨1, _⟩ => show d.val = 0 + d.val; omega

/-- … and stored. -/
theorem row0_read (v : View sig .tc .vmem S8x1024 .f32) (f) (w : Vec Ideal S1x1024 .f32) (L : List (View.Piece (Elt Ideal) S8x1024 .f32)) (d : Fin 1024) :
    v.read (Elt Ideal) (v.writes (Elt Ideal) f ((⟨Rect.unit ![0, 0] ![1, 1024] inb_S8x1024_S1x1024_0_0, w⟩ : View.Piece (Elt Ideal) S8x1024 .f32) :: L)) (ix2 0 d)
      = w (ix2 0 d) := by
  have hy : (Rect.unit (s := S8x1024) ![0, 0] ![1, 1024] inb_S8x1024_S1x1024_0_0).emb (ix2 (0 : Fin 1) d) = ix2 (0 : Fin 8) d :=
    Shape.idx_ext₂ rfl (by show 0 + 1 * d.val = d.val; omega)
  exact (congrArg (v.read (Elt Ideal) (v.writes (Elt Ideal) f _)) hy.symm).trans
    (View.read_writes_cons_emb v f (Rect.unit (s := S8x1024) ![0, 0] ![1, 1024] inb_S8x1024_S1x1024_0_0) w L (ix2 (0 : Fin 1) d))

theorem out8_A_5_row (hc0 : cond8_0 i) (d : Fin 1024) :
    out8_A_5 c i arg1 harg1 arg2 harg2 arg3 harg3 arg4 harg4 arg5 harg5 arg6 harg6 hc0 x0 x1 x2 x3 (ix2 0 d) = 0 + addAt x0 x2 d := by
  unfold out8_A_5 kernelRun8_A
  dsimp only
  sl_unfold_words
  rw [row0_read]
  rw [View.readCov_eq_canon_ld _ _ _ (fun y => ⟨_, List.mem_cons_self, by
    rw [Rect.mem_set_unit]; intro a
    match a with
    | ⟨0, _⟩ => exact ⟨Nat.zero_le _, (y 0).isLt⟩
    | ⟨1, _⟩ => exact ⟨Nat.zero_le _, (y 1).isLt⟩⟩)]
  simp only [View.canon_cons_unit_zero (S := S8x1024) hz2, View.readAt_eq_ld, harg1.read_unread, harg3.read_unread,
    View.ld_unit_zero (S := S512x1024) hz2]
  rw [pay8_1_apply, ld_row0, pay8_6_apply]

theorem out8_B_5_row (hc0 : ¬cond8_0 i) (d : Fin 1024) :
    out8_B_5 c i arg1 harg1 arg2 harg2 arg3 harg3 arg4 harg4 arg5 harg5 arg6 harg6 hc0 x0 x1 x2 x3 xo5 (ix2 0 d)
      = xo5 (ix2 0 d) + addAt x0 x2 d := by
  unfold out8_B_5 kernelRun8_B
  dsimp only
  sl_unfold_words
  rw [row0_read]
  simp only [View.readAt_eq_ld, harg1.read_unread, harg3.read_unread, harg6.read_unread,
    View.ld_unit_zero (S := S512x1024) hz2]
  rw [pay8_1_apply, ld_row0]
end

/-! ## The region -/

variable (V : (c : Dev nD) → (b : Ref sig .tc) → Buf (Elt Ideal) ((c : Thread nD τ).loc b)) (c : Dev nD)

theorem first8 (t : Fin cfg8.N) (h0 : t.val % 8 = 0) :
    (outsAt8 V c t.val t.isLt).1 = k8_pay5 (iblk8 V c 0 t) (iblk8 V c 2 t) (iblk8 V c 1 t) (iblk8 V c 3 t)
      ∧ ∀ d : Fin 1024, (outsAt8 V c t.val t.isLt).2 (ix2 0 d) = 0 + addAt (iblk8 V c 0 t) (iblk8 V c 2 t) d := by
  rw [outsAt8_A V c t h0]
  dsimp only
  exact ⟨out8_A_4_eq .., fun d => out8_A_5_row ..⟩

theorem next8 (t : Fin cfg8.N) (h0 : ¬t.val % 8 = 0) :
    (outsAt8 V c t.val t.isLt).1 = k8_pay5 (iblk8 V c 0 t) (iblk8 V c 2 t) (iblk8 V c 1 t) (iblk8 V c 3 t)
      ∧ ∀ d : Fin 1024, (outsAt8 V c t.val t.isLt).2 (ix2 0 d)
        = (outsAt8 V c (t.val - 1) (Nat.lt_of_le_of_lt (Nat.sub_le _ _) t.isLt)).2 (ix2 0 d) + addAt (iblk8 V c 0 t) (iblk8 V c 2 t) d := by
  rw [outsAt8_B V c t h0]
  dsimp only
  exact ⟨out8_B_4_eq .., fun d => out8_B_5_row ..⟩

theorem outs8_4 (t : Fin cfg8.N) : (outsAt8 V c t.val t.isLt).1 = k8_pay5 (iblk8 V c 0 t) (iblk8 V c 2 t) (iblk8 V c 1 t) (iblk8 V c 3 t) := by
  by_cases h0 : t.val % 8 = 0
  · exact (first8 V c t h0).1
  · exact (next8 V c t h0).1

/-- The sum of the blocks up to a point. -/
def upTo8 (f : Fin 8 → EReal) (n : ℕ) : EReal := ∑ k ∈ Finset.range (n + 1), if h : k < 8 then f ⟨k, h⟩ else 0

abbrev add8 (t : Fin cfg8.N) (d : Fin 1024) : EReal := addAt (iblk8 V c 0 t) (iblk8 V c 2 t) d

theorem outs8_5 (n : ℕ) (d : Fin 1024) : ∀ h : n < cfg8.N,
    (outsAt8 V c n h).2 (ix2 0 d) = upTo8 (fun k => add8 V c (k.cast N_8.symm) d) n := by
  have hN : cfg8.N = 8 := N_8
  induction n with
  | zero =>
    intro h
    refine ((first8 V c ⟨0, h⟩ rfl).2 d).trans ?_
    unfold upTo8
    rw [Finset.sum_range_one, dif_pos (by decide), zero_add]
    rfl
  | succ n ih =>
    intro h
    refine ((next8 V c ⟨n + 1, h⟩ (by dsimp only; omega)).2 d).trans ?_
    unfold upTo8
    rw [Finset.sum_range_succ, dif_pos (by omega)]
    exact congrArg (· + add8 V c ⟨n + 1, h⟩ d) (ih (Nat.lt_of_succ_lt h))

theorem idx8 : ∀ t : Fin cfg8.N, win8_0.index t = ![t.val, 0] ∧ win8_1.index t = ![0, 0] ∧ win8_2.index t = ![t.val, 0]
    ∧ win8_3.index t = ![t.val, 0] ∧ win8_4.index t = ![t.val, 0] ∧ win8_5.index t = ![0, 0] :=
  (by decide +kernel : ∀ t : Fin grid8.N, win8_0.index t = ![t.val, 0] ∧ win8_1.index t = ![0, 0] ∧ win8_2.index t = ![t.val, 0]
    ∧ win8_3.index t = ![t.val, 0] ∧ win8_4.index t = ![t.val, 0] ∧ win8_5.index t = ![0, 0])

/-- Row `r` of block `b`. -/
abbrev row8 (b : Fin 8) (r : Fin 512) : Fin 4096 := ⟨512 * b.val + r.val, by omega⟩

theorem sum_row8 (f : Fin 4096 → EReal) : ∑ b : Fin 8, ∑ r : Fin 512, f (row8 b r) = ∑ s, f s := by
  rw [← Fintype.sum_prod_type' (f := fun b r => f (row8 b r))]
  refine Fintype.sum_equiv ⟨fun p => row8 p.1 p.2, fun r => (⟨r.val / 512, by omega⟩, ⟨r.val % 512, Nat.mod_lt _ (by decide)⟩),
    fun p => ?_, fun r => ?_⟩ _ _ fun _ => rfl
  · obtain ⟨b, r⟩ := p
    refine Prod.ext (Fin.ext ?_) (Fin.ext ?_) <;> dsimp only <;> omega
  · apply Fin.ext; dsimp only; omega

abbrev blk8 (t : Fin cfg8.N) : Fin 8 := t.cast N_8

theorem iblk8_0 (t : Fin cfg8.N) (r : Fin 512) (d : Fin 1024) : (iblk8 V c 0 t : Vec Ideal S512x1024 .f32) (ix2 r d)
    = (V c main_arg0 : Vec Ideal S4096x1024 .f32) (ix2 (row8 (blk8 t) r) d) :=
  have e := (idx8 t).1
  (View.read_apply ..).trans (congrArg (V c main_arg0) (Shape.idx_ext₂ (tile (congrFun e 0)) (tile0 (congrFun e 1))))

theorem iblk8_2 (t : Fin cfg8.N) (r : Fin 512) (d : Fin 1024) : (iblk8 V c 2 t : Vec Ideal S512x1024 .f32) (ix2 r d)
    = (V c main_v20 : Vec Ideal S4096x1024 .f32) (ix2 (row8 (blk8 t) r) d) :=
  have e := (idx8 t).2.2.1
  (View.read_apply ..).trans (congrArg (V c main_v20) (Shape.idx_ext₂ (tile (congrFun e 0)) (tile0 (congrFun e 1))))

theorem iblk8_3 (t : Fin cfg8.N) (r : Fin 512) (d : Fin 1024) : (iblk8 V c 3 t : Vec Ideal S512x1024 .f32) (ix2 r d)
    = (V c main_arg5 : Vec Ideal S4096x1024 .f32) (ix2 (row8 (blk8 t) r) d) :=
  have e := (idx8 t).2.2.2.1
  (View.read_apply ..).trans (congrArg (V c main_arg5) (Shape.idx_ext₂ (tile (congrFun e 0)) (tile0 (congrFun e 1))))

theorem iblk8_1 (t : Fin cfg8.N) (d : Fin 1024) : (iblk8 V c 1 t : Vec Ideal S1x1024 .f32) (ix2 0 d)
    = (V c main_v15 : Vec Ideal S1x1024 .f32) (ix2 0 d) :=
  have e := (idx8 t).2.1
  (View.read_apply ..).trans (congrArg (V c main_v15) (Shape.idx_ext₂ (tile1 (congrFun e 0)) (tile0 (congrFun e 1))))

theorem emb8_4 (t : Fin cfg8.N) (r : Fin 512) (d : Fin 1024) :
    ((cfg8.win 4).blk t).view.emb (ix2 r d) = ix2 (row8 (blk8 t) r) d := by
  have e := (idx8 t).2.2.2.2.1
  refine Shape.idx_ext₂ ?_ ?_
  · show win8_4.index t 0 * 512 + 1 * r.val = 512 * t.val + r.val; rw [e]; show t.val * 512 + _ = _; omega
  · show win8_4.index t 1 * 1024 + 1 * d.val = d.val; rw [e]; show 0 * 1024 + _ = _; omega

theorem flushed8_4 (t : Fin cfg8.N) : (dat8 V c).flushed 4 t = ((cfg8.win 4).blk t).view.read (Elt Ideal)
    (dxArr (V c main_arg0) (V c main_v15) (V c main_v20) (V c main_arg5)) := by
  show (cfg8.win 4).cut (grid8.coords t) ((dat8 V c).after 4 t) = _
  rw [after8_4, outs8_4]
  funext y
  obtain ⟨r, d, rfl⟩ : ∃ (r : Fin 512) (d : Fin 1024), y = ix2 r d := ⟨y 0, y 1, eq_ix2 y⟩
  rw [View.read_apply, emb8_4]
  refine (pay8_5_apply _ _ _ _ r d).trans ?_
  show (_ : EReal) = dxArr (V c main_arg0) (V c main_v15) (V c main_v20) (V c main_arg5) (ix2 (row8 (blk8 t) r) d)
  simp only [iblk8_0, iblk8_1, iblk8_2, iblk8_3]
  rfl

theorem final8_4 : (dat8 V c).arrAt 4 cfg8.N = dxArr (V c main_arg0) (V c main_v15) (V c main_v20) (V c main_arg5) :=
  (dat8 V c).arrAt_eq_of_cover 4 _ (fun t _ => flushed8_4 V c t) (Pipeline.Window.Covers.cover _ (by decide +kernel) (Memref.isWhole_whole _))

/-- The last point. -/
abbrev last8 : Fin cfg8.N := (7 : Fin 8).cast N_8.symm

theorem emb8_5 (t : Fin cfg8.N) (y : S8x1024.Idx) : ((cfg8.win 5).blk t).view.emb y = y := by
  have e := (idx8 t).2.2.2.2.2
  refine Shape.idx_ext₂ ?_ ?_
  · show win8_5.index t 0 * 8 + 1 * (y 0).val = (y 0).val; rw [e]; show 0 * 8 + _ = _; omega
  · show win8_5.index t 1 * 1024 + 1 * (y 1).val = (y 1).val; rw [e]; show 0 * 1024 + _ = _; omega

theorem flushed8_5 (t : Fin cfg8.N) (hf : (cfg8.win 5).flush t = true) : (dat8 V c).flushed 5 t
    = ((cfg8.win 5).blk t).view.read (Elt Ideal) ((outsAt8 V c last8.val last8.isLt).2 : Vec Ideal S8x1024 .f32) := by
  have ht : t = last8 := Fin.ext (by
    have h1 := (flush8_5 t).mp hf
    have h2 : t.val < 8 := lt_of_lt_of_eq t.isLt N_8
    show t.val = 7; omega)
  subst ht
  show (cfg8.win 5).cut (grid8.coords last8) ((dat8 V c).after 5 last8) = _
  rw [after8_5]
  funext y
  rw [View.read_apply, emb8_5]
  rfl

theorem final8_5 (d : Fin 1024) : ((dat8 V c).arrAt 5 cfg8.N : Vec Ideal S8x1024 .f32) (ix2 0 d)
    = dgAt (V c main_arg0) (V c main_v20) d := by
  rw [(dat8 V c).arrAt_eq_of_cover 5 ((outsAt8 V c last8.val last8.isLt).2 : Vec Ideal S8x1024 .f32) (fun t h => flushed8_5 V c t h) (Pipeline.Window.Covers.cover _ (by decide +kernel) (Memref.isWhole_whole _))]
  refine (outs8_5 V c 7 d last8.isLt).trans ?_
  unfold upTo8 dgAt
  rw [Finset.sum_range, ← sum_row8]
  refine Finset.sum_congr rfl fun b _ => ?_
  rw [dif_pos b.isLt]
  refine Finset.sum_congr rfl fun r _ => ?_
  simp only [iblk8_0, iblk8_2]
  rfl

end Cert.Kernel2Ideal.Ffn

end
-- ==== Proof.FfnHost.lean ====
/-
  The layouts around the half-step's regions: a weight in four shards of 704 columns or rows, the gain as a one-row matrix, and
  back; and the values of the six results, over the launch arrays (`outY` … `outW2`).
-/
module

public import proofs.«01_k».proof.Proof.FfnRmsBwd

@[expose] public section

set_option maxRecDepth 16384

noncomputable section

namespace Cert.Kernel2Ideal.Ffn

open Idealize.ShloMosaic Idealize.ShloMosaic.TcCoe Idealize.SL.Sem Idealize.ShloMosaic.Tactic
open Idealize.ShloMosaic.Pipeline (Dat)
open Cert.Kernel2Ideal Cert.Kernel2Ideal.Gen

/-- Column `f` of shard `j`, and a column's shard and place in it. -/
abbrev col (j : Fin 4) (f : Fin 704) : Fin 2816 := ⟨704 * j.val + f.val, by omega⟩
abbrev shardOf (k : Fin 2816) : Fin 4 := ⟨k.val / 704, by omega⟩
abbrev inShard (k : Fin 2816) : Fin 704 := ⟨k.val % 704, Nat.mod_lt _ (by decide)⟩

/-- A weight's columns, and a weight's rows, in four shards; the gain as a matrix of one row. -/
def stackCols (W : Vec Ideal S1024x2816 .f32) : Vec Ideal S4x1024x704 .bf16 := fun i => W (ix2 (i 1) (col (i 0) (i 2)))
def stackRows (W : Vec Ideal S2816x1024 .f32) : Vec Ideal S4x704x1024 .bf16 := fun i => W (ix2 (col (i 0) (i 1)) (i 2))
def oneRow (g : Vec Ideal S1024 .f32) : Vec Ideal S1x1024 .f32 := fun i => g (ValueIdx.ix1 (i 1))

/-- … and back. -/
def flatCols (D : Vec Ideal S4x1x1024x704 .bf16) : Vec Ideal S1024x2816 .f32 :=
  fun i => D (ValueIdx.ix4 (shardOf (i 1)) 0 (i 0) (inShard (i 1)))
def flatRows (D : Vec Ideal S4x1x704x1024 .bf16) : Vec Ideal S2816x1024 .f32 :=
  fun i => D (ValueIdx.ix4 (shardOf (i 0)) 0 (inShard (i 0)) (i 1))

theorem stackCols_eq (W : Vec Ideal S1024x2816 .f32) :
    (truncf (F := Ideal) (φ := .f32) .bf16 (transpose S4x1024x704 [1, 0, 2] (shapeCast S1024x4x704 W shapeCasts_S1024x2816_S1024x4x704)
      transposes_S1024x4x704_S4x1024x704_1_0_2 : FVec Ideal S4x1024x704 .f32) bitsLt_bf16_f32 : FVec Ideal S4x1024x704 .bf16) = stackCols W := by
  funext i
  obtain ⟨j, d, f, rfl⟩ : ∃ j d f, i = ValueIdx.ix3 j d f := ⟨i 0, i 1, i 2, idx_ext₃ rfl rfl rfl⟩
  show transpose S4x1024x704 [1, 0, 2] (shapeCast S1024x4x704 W shapeCasts_S1024x2816_S1024x4x704) transposes_S1024x4x704_S4x1024x704_1_0_2 (ValueIdx.ix3 j d f) = W (ix2 d (col j f))
  rw [transpose_apply _ _ _ _ (ValueIdx.ix3 d j f) (fun b => by fin_cases b <;> rfl),
    shapeCast_apply W _ (ValueIdx.ix3 d j f) (ix2 d (col j f)) (by
      rewrite [Shape.rowMajor_val_two, Shape.rowMajor_val_three]
      show d.val * 2816 + (704 * j.val + f.val) = (d.val * 4 + j.val) * 704 + f.val
      omega)]

theorem stackRows_eq (W : Vec Ideal S2816x1024 .f32) :
    (truncf (F := Ideal) (φ := .f32) .bf16 (shapeCast S4x704x1024 W shapeCasts_S2816x1024_S4x704x1024 : FVec Ideal S4x704x1024 .f32) bitsLt_bf16_f32 : FVec Ideal S4x704x1024 .bf16)
      = stackRows W := by
  funext i
  obtain ⟨j, f, d, rfl⟩ : ∃ j f d, i = ValueIdx.ix3 j f d := ⟨i 0, i 1, i 2, idx_ext₃ rfl rfl rfl⟩
  show shapeCast S4x704x1024 W shapeCasts_S2816x1024_S4x704x1024 (ValueIdx.ix3 j f d) = W (ix2 (col j f) d)
  rw [shapeCast_apply W _ (ValueIdx.ix3 j f d) (ix2 (col j f) d) (by
      rewrite [Shape.rowMajor_val_two, Shape.rowMajor_val_three]
      show (704 * j.val + f.val) * 1024 + d.val = (j.val * 704 + f.val) * 1024 + d.val
      omega)]

theorem oneRow_eq (g : Vec Ideal S1024 .f32) : (broadcastInDim S1x1024 ![1] bcast_S1024_S1x1024_1 g : Vec Ideal S1x1024 .f32) = oneRow g := by
  funext i
  exact broadcastInDim_apply _ _ g i (ValueIdx.ix1 (i 1)) fun a => by fin_cases a; rfl

theorem flatCols_eq (D : Vec Ideal S4x1x1024x704 .bf16) :
    (extf (F := Ideal) (φ := .bf16) .f32 (shapeCast S1024x2816 (transpose S1024x4x704 [1, 0, 2] (shapeCast S4x1024x704 D shapeCasts_S4x1x1024x704_S4x1024x704)
      transposes_S4x1024x704_S1024x4x704_1_0_2) shapeCasts_S1024x4x704_S1024x2816 : FVec Ideal S1024x2816 .bf16) bitsLt_bf16_f32 : FVec Ideal S1024x2816 .f32)
      = flatCols D := by
  funext i
  obtain ⟨d, k, rfl⟩ : ∃ d k, i = ix2 d k := ⟨i 0, i 1, eq_ix2 i⟩
  show shapeCast S1024x2816 (transpose S1024x4x704 [1, 0, 2] (shapeCast S4x1024x704 D shapeCasts_S4x1x1024x704_S4x1024x704)
      transposes_S4x1024x704_S1024x4x704_1_0_2) shapeCasts_S1024x4x704_S1024x2816 (ix2 d k) = D (ValueIdx.ix4 (shardOf k) 0 d (inShard k))
  rw [shapeCast_apply _ _ (ix2 d k) (ValueIdx.ix3 d (shardOf k) (inShard k)) (by
      rewrite [Shape.rowMajor_val_two, Shape.rowMajor_val_three]
      show (d.val * 4 + k.val / 704) * 704 + k.val % 704 = d.val * 2816 + k.val
      omega),
    transpose_apply _ _ _ _ (ValueIdx.ix3 (shardOf k) d (inShard k)) (fun b => by fin_cases b <;> rfl),
    shapeCast_apply D _ (ValueIdx.ix3 (shardOf k) d (inShard k)) (ValueIdx.ix4 (shardOf k) 0 d (inShard k)) (by
      rewrite [Shape.rowMajor_val_four, Shape.rowMajor_val_three]
      show ((k.val / 704 * 1 + 0) * 1024 + d.val) * 704 + k.val % 704 = (k.val / 704 * 1024 + d.val) * 704 + k.val % 704
      omega)]

theorem flatRows_eq (D : Vec Ideal S4x1x704x1024 .bf16) :
    (extf (F := Ideal) (φ := .bf16) .f32 (shapeCast S2816x1024 D shapeCasts_S4x1x704x1024_S2816x1024 : FVec Ideal S2816x1024 .bf16) bitsLt_bf16_f32 : FVec Ideal S2816x1024 .f32)
      = flatRows D := by
  funext i
  obtain ⟨k, d, rfl⟩ : ∃ k d, i = ix2 k d := ⟨i 0, i 1, eq_ix2 i⟩
  show shapeCast S2816x1024 D shapeCasts_S4x1x704x1024_S2816x1024 (ix2 k d) = D (ValueIdx.ix4 (shardOf k) 0 (inShard k) d)
  rw [shapeCast_apply D _ (ix2 k d) (ValueIdx.ix4 (shardOf k) 0 (inShard k) d) (by
      rewrite [Shape.rowMajor_val_four, Shape.rowMajor_val_two]
      show ((k.val / 704 * 1 + 0) * 704 + k.val % 704) * 1024 + d.val = k.val * 1024 + d.val
      omega)]

theorem firstRow_eq (z : Vec Ideal S8x1024 .f32) (d : Fin 1024) :
    shapeCast S1024 (extractStridedSlice S1x1024 ![0, 0] z slices_S8x1024_S1x1024_0_0) shapeCasts_S1x1024_S1024 (ValueIdx.ix1 d) = z (ix2 0 d) := by
  rw [shapeCast_apply _ _ (ValueIdx.ix1 d) (ix2 (0 : Fin 1) d) (by
      rewrite [Shape.rowMajor_val_one, Shape.rowMajor_val_two]
      show 0 * 1024 + d.val = d.val
      omega),
    extractStridedSlice_apply _ z _ (ix2 (0 : Fin 1) d) (ix2 (0 : Fin 8) d) (fun a => by
      match a with
      | ⟨0, _⟩ => rfl
      | ⟨1, _⟩ => show d.val = 0 + d.val; omega)]

/-! ## The results -/

section
variable (X : Vec Ideal S4096x1024 .f32) (g : Vec Ideal S1024 .f32) (P1 P3 : Vec Ideal S1024x2816 .f32) (P2 : Vec Ideal S2816x1024 .f32)
  (Y : Vec Ideal S4096x1024 .f32)

/-- The normalised rows, the two up products, the gated value. -/
def hOf : Vec Ideal S4096x1024 .bf16 := normArr X (oneRow g)
def aOf : Vec Ideal S4x4096x704 .bf16 := upArr (hOf X g) (stackCols P1)
def uOf : Vec Ideal S4x4096x704 .bf16 := gateArr (aOf X g P1) (aOf X g P3)
/-- The gradients of the two up products, and of the normalised rows. -/
def daOf : Vec Ideal S4x4096x704 .bf16 := daArr Y (stackRows P2) (aOf X g P1) (aOf X g P3)
def dbOf : Vec Ideal S4x4096x704 .bf16 := dbArr Y (stackRows P2) (aOf X g P1)
def dhOf : Vec Ideal S4096x1024 .f32 := dhArr (daOf X g P1 P3 P2 Y) (dbOf X g P1 P2 Y) (stackCols P1) (stackCols P3)

def outY : Vec Ideal S4096x1024 .f32 := downArr (uOf X g P1 P3) (stackRows P2) X
def outX : Vec Ideal S4096x1024 .f32 := dxArr X (oneRow g) (dhOf X g P1 P3 P2 Y) Y
def outG : Vec Ideal S1024 .f32 := fun i => dgAt X (dhOf X g P1 P3 P2 Y) (i 0)
def outW1 : Vec Ideal S1024x2816 .f32 := flatCols (dwArr (hOf X g) (daOf X g P1 P3 P2 Y))
def outW3 : Vec Ideal S1024x2816 .f32 := flatCols (dwArr (hOf X g) (dbOf X g P1 P2 Y))
def outW2 : Vec Ideal S2816x1024 .f32 := flatRows (dw2Arr (uOf X g P1 P3) Y)
end

end Cert.Kernel2Ideal.Ffn

end
-- ==== Proof.FfnRun.lean ====
/-
  The half-step's run: what each of its nine regions finds and leaves, boundary by boundary, and the six results at the end
  (`run_final`: any execution from a launch memory ends with the arguments as launched and the results at their values).
-/
module

public import proofs.«01_k».proof.Proof.FfnHost
public import Idealize.ShloMosaic.Lib.StableHlo.Run
public import proofs.«01_k».proof.Proof.Gen.Kernel2Ideal.Frame

@[expose] public section

set_option maxRecDepth 16384

noncomputable section

namespace Cert.Kernel2Ideal.Ffn

open Idealize.ShloMosaic Idealize.ShloMosaic.TcCoe Idealize.SL.Sem Idealize.ShloMosaic.Tactic
open Idealize.ShloMosaic.Pipeline (Dat)
open Cert.Kernel2Ideal Cert.Kernel2Ideal.Gen

variable (m : (b : Loc nD τ sig) → Buf (Elt Ideal) b) (ρ : Dev nD → PrngReg) (c : Dev nD)

/-- The launch arrays. -/
abbrev X0 : Vec Ideal S4096x1024 .f32 := m ((c : Thread nD τ).loc main_arg0)
abbrev G0 : Vec Ideal S1024 .f32 := m ((c : Thread nD τ).loc main_arg1)
abbrev A0 : Vec Ideal S1024x2816 .f32 := m ((c : Thread nD τ).loc main_arg2)
abbrev B0 : Vec Ideal S1024x2816 .f32 := m ((c : Thread nD τ).loc main_arg3)
abbrev C0 : Vec Ideal S2816x1024 .f32 := m ((c : Thread nD τ).loc main_arg4)
abbrev Y0 : Vec Ideal S4096x1024 .f32 := m ((c : Thread nD τ).loc main_arg5)

/-! ## Before the first region -/

theorem v1_v2 : V1 m ρ c main_v2 = stackCols (A0 m c) := by
  refine Eq.trans ?_ (stackCols_eq (A0 m c))
  show StableHlo.after hostOps0 _ (Proc.devRef .tc main_v2) = _
  after_results
  rfl
theorem v1_v5 : V1 m ρ c main_v5 = stackCols (B0 m c) := by
  refine Eq.trans ?_ (stackCols_eq (B0 m c))
  show StableHlo.after hostOps0 _ (Proc.devRef .tc main_v5) = _
  after_results
  rfl
theorem v1_v7 : V1 m ρ c main_v7 = stackRows (C0 m c) := by
  refine Eq.trans ?_ (stackRows_eq (C0 m c))
  show StableHlo.after hostOps0 _ (Proc.devRef .tc main_v7) = _
  after_results
  rfl
theorem v1_v8 : V1 m ρ c main_v8 = oneRow (G0 m c) := by
  refine Eq.trans ?_ (oneRow_eq (G0 m c))
  show StableHlo.after hostOps0 _ (Proc.devRef .tc main_v8) = _
  after_results

/-! ## The forward regions -/

theorem v2_v9 : V2 m ρ c main_v9 = hOf (X0 m c) (G0 m c) := by
  have e0 : V1 m ρ c main_arg0 = X0 m c := (W1_args m ρ c main_arg0 (by decide))
  have e1 : V1 m ρ c main_v8 = oneRow (G0 m c) := v1_v8 m ρ c
  refine (W2_arr m ρ c 2).trans ((final0 (V1 m ρ) c).trans ?_)
  rw [e0, e1]
  rfl

theorem v3_a : V3 m ρ c main_v10_0 = aOf (X0 m c) (G0 m c) (A0 m c) := by
  have e0 : V2 m ρ c main_v9 = hOf (X0 m c) (G0 m c) := v2_v9 m ρ c
  have e1 : V2 m ρ c main_v2 = stackCols (A0 m c) := ((W2_of m ρ c main_v2 (by decide)).trans (v1_v2 m ρ c))
  refine (W3_arr m ρ c 3).trans ((final1_3 (V2 m ρ) c).trans ?_)
  rw [e0, e1]
  rfl

theorem v3_b : V3 m ρ c main_v10_1 = aOf (X0 m c) (G0 m c) (B0 m c) := by
  have e0 : V2 m ρ c main_v9 = hOf (X0 m c) (G0 m c) := v2_v9 m ρ c
  have e1 : V2 m ρ c main_v5 = stackCols (B0 m c) := ((W2_of m ρ c main_v5 (by decide)).trans (v1_v5 m ρ c))
  refine (W3_arr m ρ c 4).trans ((final1_4 (V2 m ρ) c).trans ?_)
  rw [e0, e1]
  rfl

theorem v3_u : V3 m ρ c main_v10_2 = uOf (X0 m c) (G0 m c) (A0 m c) (B0 m c) := by
  have e0 : V2 m ρ c main_v9 = hOf (X0 m c) (G0 m c) := v2_v9 m ρ c
  have e1 : V2 m ρ c main_v2 = stackCols (A0 m c) := ((W2_of m ρ c main_v2 (by decide)).trans (v1_v2 m ρ c))
  have e2 : V2 m ρ c main_v5 = stackCols (B0 m c) := ((W2_of m ρ c main_v5 (by decide)).trans (v1_v5 m ρ c))
  refine (W3_arr m ρ c 5).trans ((final1_5 (V2 m ρ) c).trans ?_)
  rw [e0, e1, e2]
  rfl

theorem v4_y : V4 m ρ c main_v11 = outY (X0 m c) (G0 m c) (A0 m c) (B0 m c) (C0 m c) := by
  have e0 : V3 m ρ c main_v10_2 = uOf (X0 m c) (G0 m c) (A0 m c) (B0 m c) := v3_u m ρ c
  have e1 : V3 m ρ c main_v7 = stackRows (C0 m c) := (((W3_of m ρ c main_v7 (by decide)).trans (W2_of m ρ c main_v7 (by decide))).trans (v1_v7 m ρ c))
  have e2 : V3 m ρ c main_arg0 = X0 m c := (W3_args m ρ c main_arg0 (by decide))
  refine (W4_arr m ρ c 9).trans ((final2 (V3 m ρ) c).trans ?_)
  rw [e0, e1, e2]
  rfl

/-! ## The backward regions -/

theorem v5_v15 : V5 m ρ c main_v15 = oneRow (G0 m c) := by
  refine Eq.trans ?_ (oneRow_eq (G0 m c))
  have e : W4 m ρ c (Proc.devRef .tc main_arg1) = G0 m c := W4_args m ρ c main_arg1 (by decide)
  rw [← e]
  show StableHlo.after hostOps3 _ (Proc.devRef .tc main_v15) = _
  after_results

theorem v6_da : V6 m ρ c main_v16_0 = daOf (X0 m c) (G0 m c) (A0 m c) (B0 m c) (C0 m c) (Y0 m c) := by
  have e0 : V5 m ρ c main_arg5 = Y0 m c := (W5_args m ρ c main_arg5 (by decide))
  have e1 : V5 m ρ c main_v7 = stackRows (C0 m c) := (((W5_of m ρ c main_v7 (by decide)).trans ((W4_of m ρ c main_v7 (by decide)).trans ((W3_of m ρ c main_v7 (by decide)).trans (W2_of m ρ c main_v7 (by decide))))).trans (v1_v7 m ρ c))
  have e2 : V5 m ρ c main_v10_0 = aOf (X0 m c) (G0 m c) (A0 m c) := (((W5_of m ρ c main_v10_0 (by decide)).trans (W4_of m ρ c main_v10_0 (by decide))).trans (v3_a m ρ c))
  have e3 : V5 m ρ c main_v10_1 = aOf (X0 m c) (G0 m c) (B0 m c) := (((W5_of m ρ c main_v10_1 (by decide)).trans (W4_of m ρ c main_v10_1 (by decide))).trans (v3_b m ρ c))
  refine (W6_arr m ρ c 4).trans ((final3_4 (V5 m ρ) c).trans ?_)
  rw [e0, e1, e2, e3]
  rfl

theorem v6_db : V6 m ρ c main_v16_1 = dbOf (X0 m c) (G0 m c) (A0 m c) (C0 m c) (Y0 m c) := by
  have e0 : V5 m ρ c main_arg5 = Y0 m c := (W5_args m ρ c main_arg5 (by decide))
  have e1 : V5 m ρ c main_v7 = stackRows (C0 m c) := (((W5_of m ρ c main_v7 (by decide)).trans ((W4_of m ρ c main_v7 (by decide)).trans ((W3_of m ρ c main_v7 (by decide)).trans (W2_of m ρ c main_v7 (by decide))))).trans (v1_v7 m ρ c))
  have e2 : V5 m ρ c main_v10_0 = aOf (X0 m c) (G0 m c) (A0 m c) := (((W5_of m ρ c main_v10_0 (by decide)).trans (W4_of m ρ c main_v10_0 (by decide))).trans (v3_a m ρ c))
  refine (W6_arr m ρ c 5).trans ((final3_5 (V5 m ρ) c).trans ?_)
  rw [e0, e1, e2]
  rfl

theorem v8_dw2 : V8 m ρ c main_v17 = dw2Arr (uOf (X0 m c) (G0 m c) (A0 m c) (B0 m c)) (Y0 m c) := by
  have e0 : V7 m ρ c main_v10_2 = uOf (X0 m c) (G0 m c) (A0 m c) (B0 m c) := (((W7_of m ρ c main_v10_2 (by decide)).trans ((W6_of m ρ c main_v10_2 (by decide)).trans ((W5_of m ρ c main_v10_2 (by decide)).trans (W4_of m ρ c main_v10_2 (by decide))))).trans (v3_u m ρ c))
  have e1 : V7 m ρ c main_arg5 = Y0 m c := (W7_args m ρ c main_arg5 (by decide))
  refine (W8_arr m ρ c 2).trans ((final4 (V7 m ρ) c).trans ?_)
  rw [e0, e1]

theorem v10_dw1 : V10 m ρ c main_v18 = dwArr (hOf (X0 m c) (G0 m c)) (daOf (X0 m c) (G0 m c) (A0 m c) (B0 m c) (C0 m c) (Y0 m c)) := by
  have e0 : V9 m ρ c main_v9 = hOf (X0 m c) (G0 m c) := (((W9_of m ρ c main_v9 (by decide)).trans ((W8_of m ρ c main_v9 (by decide)).trans ((W7_of m ρ c main_v9 (by decide)).trans ((W6_of m ρ c main_v9 (by decide)).trans ((W5_of m ρ c main_v9 (by decide)).trans ((W4_of m ρ c main_v9 (by decide)).trans (W3_of m ρ c main_v9 (by decide)))))))).trans (v2_v9 m ρ c))
  have e1 : V9 m ρ c main_v16_0 = daOf (X0 m c) (G0 m c) (A0 m c) (B0 m c) (C0 m c) (Y0 m c) := (((W9_of m ρ c main_v16_0 (by decide)).trans ((W8_of m ρ c main_v16_0 (by decide)).trans (W7_of m ρ c main_v16_0 (by decide)))).trans (v6_da m ρ c))
  refine (W10_arr m ρ c 2).trans ((final5 (V9 m ρ) c).trans ?_)
  rw [e0, e1]

theorem v12_dw3 : V12 m ρ c main_v19 = dwArr (hOf (X0 m c) (G0 m c)) (dbOf (X0 m c) (G0 m c) (A0 m c) (C0 m c) (Y0 m c)) := by
  have e0 : V11 m ρ c main_v9 = hOf (X0 m c) (G0 m c) := (((W11_of m ρ c main_v9 (by decide)).trans ((W10_of m ρ c main_v9 (by decide)).trans ((W9_of m ρ c main_v9 (by decide)).trans ((W8_of m ρ c main_v9 (by decide)).trans ((W7_of m ρ c main_v9 (by decide)).trans ((W6_of m ρ c main_v9 (by decide)).trans ((W5_of m ρ c main_v9 (by decide)).trans ((W4_of m ρ c main_v9 (by decide)).trans (W3_of m ρ c main_v9 (by decide)))))))))).trans (v2_v9 m ρ c))
  have e1 : V11 m ρ c main_v16_1 = dbOf (X0 m c) (G0 m c) (A0 m c) (C0 m c) (Y0 m c) := (((W11_of m ρ c main_v16_1 (by decide)).trans ((W10_of m ρ c main_v16_1 (by decide)).trans ((W9_of m ρ c main_v16_1 (by decide)).trans ((W8_of m ρ c main_v16_1 (by decide)).trans (W7_of m ρ c main_v16_1 (by decide)))))).trans (v6_db m ρ c))
  refine (W12_arr m ρ c 2).trans ((final6 (V11 m ρ) c).trans ?_)
  rw [e0, e1]

theorem v13_dh : V13 m ρ c main_v20 = dhOf (X0 m c) (G0 m c) (A0 m c) (B0 m c) (C0 m c) (Y0 m c) := by
  have e0 : V12 m ρ c main_v16_0 = daOf (X0 m c) (G0 m c) (A0 m c) (B0 m c) (C0 m c) (Y0 m c) := (((W12_of m ρ c main_v16_0 (by decide)).trans ((W11_of m ρ c main_v16_0 (by decide)).trans ((W10_of m ρ c main_v16_0 (by decide)).trans ((W9_of m ρ c main_v16_0 (by decide)).trans ((W8_of m ρ c main_v16_0 (by decide)).trans (W7_of m ρ c main_v16_0 (by decide))))))).trans (v6_da m ρ c))
  have e1 : V12 m ρ c main_v16_1 = dbOf (X0 m c) (G0 m c) (A0 m c) (C0 m c) (Y0 m c) := (((W12_of m ρ c main_v16_1 (by decide)).trans ((W11_of m ρ c main_v16_1 (by decide)).trans ((W10_of m ρ c main_v16_1 (by decide)).trans ((W9_of m ρ c main_v16_1 (by decide)).trans ((W8_of m ρ c main_v16_1 (by decide)).trans (W7_of m ρ c main_v16_1 (by decide))))))).trans (v6_db m ρ c))
  have e2 : V12 m ρ c main_v2 = stackCols (A0 m c) := (((W12_of m ρ c main_v2 (by decide)).trans ((W11_of m ρ c main_v2 (by decide)).trans ((W10_of m ρ c main_v2 (by decide)).trans ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans (W2_of m ρ c main_v2 (by decide)))))))))))).trans (v1_v2 m ρ c))
  have e3 : V12 m ρ c main_v5 = stackCols (B0 m c) := (((W12_of m ρ c main_v5 (by decide)).trans ((W11_of m ρ c main_v5 (by decide)).trans ((W10_of m ρ c main_v5 (by decide)).trans ((W9_of m ρ c main_v5 (by decide)).trans ((W8_of m ρ c main_v5 (by decide)).trans ((W7_of m ρ c main_v5 (by decide)).trans ((W6_of m ρ c main_v5 (by decide)).trans ((W5_of m ρ c main_v5 (by decide)).trans ((W4_of m ρ c main_v5 (by decide)).trans ((W3_of m ρ c main_v5 (by decide)).trans (W2_of m ρ c main_v5 (by decide)))))))))))).trans (v1_v5 m ρ c))
  refine (W13_arr m ρ c 16).trans ((final7 (V12 m ρ) c).trans ?_)
  rw [e0, e1, e2, e3]
  rfl

theorem v14_dx : V14 m ρ c main_v21_0 = outX (X0 m c) (G0 m c) (A0 m c) (B0 m c) (C0 m c) (Y0 m c) := by
  have e0 : V13 m ρ c main_arg0 = X0 m c := (W13_args m ρ c main_arg0 (by decide))
  have e1 : V13 m ρ c main_v15 = oneRow (G0 m c) := (((W13_of m ρ c main_v15 (by decide)).trans ((W12_of m ρ c main_v15 (by decide)).trans ((W11_of m ρ c main_v15 (by decide)).trans ((W10_of m ρ c main_v15 (by decide)).trans ((W9_of m ρ c main_v15 (by decide)).trans ((W8_of m ρ c main_v15 (by decide)).trans ((W7_of m ρ c main_v15 (by decide)).trans (W6_of m ρ c main_v15 (by decide))))))))).trans (v5_v15 m ρ c))
  have e2 : V13 m ρ c main_v20 = dhOf (X0 m c) (G0 m c) (A0 m c) (B0 m c) (C0 m c) (Y0 m c) := v13_dh m ρ c
  have e3 : V13 m ρ c main_arg5 = Y0 m c := (W13_args m ρ c main_arg5 (by decide))
  refine (W14_arr m ρ c 4).trans ((final8_4 (V13 m ρ) c).trans ?_)
  rw [e0, e1, e2, e3]
  rfl

theorem v14_dg (d : Fin 1024) : (V14 m ρ c main_v21_1 : Vec Ideal S8x1024 .f32) (ix2 0 d) = dgAt (X0 m c) (dhOf (X0 m c) (G0 m c) (A0 m c) (B0 m c) (C0 m c) (Y0 m c)) d := by
  have e0 : V13 m ρ c main_arg0 = X0 m c := (W13_args m ρ c main_arg0 (by decide))
  have e1 : V13 m ρ c main_v20 = dhOf (X0 m c) (G0 m c) (A0 m c) (B0 m c) (C0 m c) (Y0 m c) := v13_dh m ρ c
  refine (congrFun (W14_arr m ρ c 5) (ix2 0 d)).trans ((final8_5 (V13 m ρ) c d).trans ?_)
  rw [e0, e1]

/-! ## The results -/

abbrev resY := outY (X0 m c) (G0 m c) (A0 m c) (B0 m c) (C0 m c)
abbrev resX := outX (X0 m c) (G0 m c) (A0 m c) (B0 m c) (C0 m c) (Y0 m c)
abbrev resG := outG (X0 m c) (G0 m c) (A0 m c) (B0 m c) (C0 m c) (Y0 m c)
abbrev resW1 := outW1 (X0 m c) (G0 m c) (A0 m c) (B0 m c) (C0 m c) (Y0 m c)
abbrev resW3 := outW3 (X0 m c) (G0 m c) (A0 m c) (C0 m c) (Y0 m c)
abbrev resW2 := outW2 (X0 m c) (G0 m c) (A0 m c) (B0 m c) (Y0 m c)

theorem w15_y : W15 m ρ c (Proc.devRef .tc main_v11) = resY m c :=
  ((W15_of m ρ c main_v11 (by decide)).trans ((W14_of m ρ c main_v11 (by decide)).trans ((W13_of m ρ c main_v11 (by decide)).trans ((W12_of m ρ c main_v11 (by decide)).trans ((W11_of m ρ c main_v11 (by decide)).trans ((W10_of m ρ c main_v11 (by decide)).trans ((W9_of m ρ c main_v11 (by decide)).trans ((W8_of m ρ c main_v11 (by decide)).trans ((W7_of m ρ c main_v11 (by decide)).trans ((W6_of m ρ c main_v11 (by decide)).trans (W5_of m ρ c main_v11 (by decide)))))))))))).trans (v4_y m ρ c)
theorem w15_x : W15 m ρ c (Proc.devRef .tc main_v21_0) = resX m c :=
  (W15_of m ρ c main_v21_0 (by decide)).trans (v14_dx m ρ c)
theorem w15_g : W15 m ρ c (Proc.devRef .tc main_v23) = resG m c := by
  have e : W15 m ρ c (Proc.devRef .tc main_v23)
      = shapeCast S1024 (extractStridedSlice S1x1024 ![0, 0] (V14 m ρ c main_v21_1 : Vec Ideal S8x1024 .f32) slices_S8x1024_S1x1024_0_0) shapeCasts_S1x1024_S1024 := by
    show StableHlo.after hostOps9 _ (Proc.devRef .tc main_v23) = _
    after_results
    rfl
  rw [e]
  funext i
  obtain ⟨d, rfl⟩ : ∃ d, i = ValueIdx.ix1 d := ⟨i 0, funext fun a => by fin_cases a; rfl⟩
  exact (firstRow_eq _ d).trans (v14_dg m ρ c d)
theorem w15_w1 : W15 m ρ c (Proc.devRef .tc main_v27) = resW1 m c := by
  have e : V14 m ρ c main_v18 = dwArr (hOf (X0 m c) (G0 m c)) (daOf (X0 m c) (G0 m c) (A0 m c) (B0 m c) (C0 m c) (Y0 m c)) := (((W14_of m ρ c main_v18 (by decide)).trans ((W13_of m ρ c main_v18 (by decide)).trans ((W12_of m ρ c main_v18 (by decide)).trans (W11_of m ρ c main_v18 (by decide))))).trans (v10_dw1 m ρ c))
  refine Eq.trans ?_ ((flatCols_eq (V14 m ρ c main_v18)).trans (congrArg flatCols e))
  show StableHlo.after hostOps9 _ (Proc.devRef .tc main_v27) = _
  after_results
  rfl
theorem w15_w3 : W15 m ρ c (Proc.devRef .tc main_v31) = resW3 m c := by
  have e : V14 m ρ c main_v19 = dwArr (hOf (X0 m c) (G0 m c)) (dbOf (X0 m c) (G0 m c) (A0 m c) (C0 m c) (Y0 m c)) := (((W14_of m ρ c main_v19 (by decide)).trans (W13_of m ρ c main_v19 (by decide))).trans (v12_dw3 m ρ c))
  refine Eq.trans ?_ ((flatCols_eq (V14 m ρ c main_v19)).trans (congrArg flatCols e))
  show StableHlo.after hostOps9 _ (Proc.devRef .tc main_v31) = _
  after_results
  rfl
theorem w15_w2 : W15 m ρ c (Proc.devRef .tc main_v33) = resW2 m c := by
  have e : V14 m ρ c main_v17 = dw2Arr (uOf (X0 m c) (G0 m c) (A0 m c) (B0 m c)) (Y0 m c) := (((W14_of m ρ c main_v17 (by decide)).trans ((W13_of m ρ c main_v17 (by decide)).trans ((W12_of m ρ c main_v17 (by decide)).trans ((W11_of m ρ c main_v17 (by decide)).trans ((W10_of m ρ c main_v17 (by decide)).trans (W9_of m ρ c main_v17 (by decide))))))).trans (v8_dw2 m ρ c))
  refine Eq.trans ?_ ((flatRows_eq (V14 m ρ c main_v17)).trans (congrArg flatRows e))
  show StableHlo.after hostOps9 _ (Proc.devRef .tc main_v33) = _
  after_results
  rfl

end Cert.Kernel2Ideal.Ffn

namespace Cert.Kernel2Ideal.Gen

open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe Idealize.ShloMosaic.Tactic
open Idealize.ShloMosaic.Rounds
open Idealize.ShloMosaic.Pipeline (Dat Cfg Window BodyObligation cellOf)
open Cert.Kernel2Ideal.Ffn

local notation "𝕄" => MT nD τ sig Unit (Elt Ideal) ℕ (UR sig nD τ) ℕ

variable (m : (b : Loc nD τ sig) → Buf (Elt Ideal) b) (ρ : Dev nD → PrngReg)

set_option backward.isDefEq.respectTransparency.types false in
/-- The run: the arguments end as launched, the results at their values. -/
theorem run_final : θ_run defs (onTc (τ := τ) (main (F := Ideal))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v11) = resY m c
      ∧ r.2.mem ((c.tc : Thread nD τ).loc main_v21_0) = resX m c
      ∧ r.2.mem ((c.tc : Thread nD τ).loc main_v23) = resG m c
      ∧ r.2.mem ((c.tc : Thread nD τ).loc main_v27) = resW1 m c
      ∧ r.2.mem ((c.tc : Thread nD τ).loc main_v31) = resW3 m c
      ∧ r.2.mem ((c.tc : Thread nD τ).loc main_v33) = resW2 m c) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz c => ⟨⟨(h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c)⟩,
       (h c _ (mem_uc main_v11 (by decide))).trans (w15_y m ρ c),
       (h c _ (mem_uc main_v21_0 (by decide))).trans (w15_x m ρ c),
       (h c _ (mem_uc main_v23 (by decide))).trans (w15_g m ρ c),
       (h c _ (mem_uc main_v27 (by decide))).trans (w15_w1 m ρ c),
       (h c _ (mem_uc main_v31 (by decide))).trans (w15_w3 m ρ c),
       (h c _ (mem_uc main_v33 (by decide))).trans (w15_w2 m ρ c)⟩)

end Cert.Kernel2Ideal.Gen

end
-- ==== Proof.Rms.lean ====
/-
  The arithmetic of the root-mean-square normalisation and its gradient for rows of any width `w = a`, over the extended reals and
  free of any program: where the reciprocal of a row's root mean square is a real number (`rms_cases`), and the gradient through the
  normalisation (`dx_eq`: differentiating spells the mean's part as two equal terms, the kernel as one product).
-/
module

public import proofs.«01_k».proof.Proof.Rows

@[expose] public section

noncomputable section

namespace Cert.Rms

open Idealize.ShloMosaic Cert.Rows

variable {n : ℕ} {w : EReal} {a : ℝ}

abbrev minusHalf : EReal := Ideal.ofBits .f32 0xBF000000#32

theorem minusHalf_eq : minusHalf = ((-(1 / 2) : ℝ) : EReal) := by
  simp [minusHalf, Ideal.ofBits, Ideal.ieee, -EReal.coe_mul]; norm_num
theorem eps_eq : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- The mean square of a row of width `w` and the small number that keeps it from zero, and one over the mean square's root. -/
def meanSq (w : EReal) (x : Fin n → EReal) : EReal := Ideal.div (∑ d, x d * x d) w + Ideal.ofBits .f32 0x358637BD#32
def rms (w : EReal) (x : Fin n → EReal) : EReal := Ideal.rsqrt (meanSq w x)

theorem sq_nonneg_e (x : EReal) : 0 ≤ x * x := by
  induction x with
  | bot => simp
  | top => simp
  | coe y => exact_mod_cast mul_self_nonneg y

/-- An extended real whose square is below `⊤` is real. -/
theorem real_of_sq (x : EReal) (h : x * x < ⊤) : ∃ y : ℝ, x = y := by
  induction x with
  | bot => simp at h
  | top => simp at h
  | coe y => exact ⟨y, rfl⟩

/-- Either the row is of reals and its mean square a positive real, or the mean square is infinite and its reciprocal root zero. -/
theorem rms_cases (ha : 0 < a) (hw : w = a) (x : Fin n → EReal) :
    (∃ m : ℝ, 0 < m ∧ meanSq w x = m ∧ rms w x = (((Real.sqrt m)⁻¹ : ℝ) : EReal) ∧ ∀ d, ∃ y : ℝ, x d = y)
      ∨ (meanSq w x = ⊤ ∧ rms w x = 0) := by
  obtain ⟨e, he, hee⟩ := eps_eq
  have h0 : 0 ≤ ∑ d, x d * x d := Finset.sum_nonneg fun d _ => sq_nonneg_e (x d)
  have hle : ∀ d, x d * x d ≤ ∑ d, x d * x d := fun d =>
    Finset.single_le_sum (f := fun d => x d * x d) (fun d _ => sq_nonneg_e (x d)) (Finset.mem_univ d)
  unfold rms meanSq
  rw [hee, hw, Ideal.div_coe ha.ne']
  generalize (∑ d, x d * x d) = S at h0 hle
  induction S with
  | bot => simp at h0
  | top =>
    right
    rw [EReal.top_mul_coe_of_pos (by positivity), EReal.top_add_coe]
    exact ⟨rfl, Ideal.rsqrt_top⟩
  | coe s =>
    left
    have hs : 0 ≤ s := by exact_mod_cast h0
    have hm : 0 < s * (1 / a) + e := by positivity
    refine ⟨s * (1 / a) + e, hm, by rw [EReal.coe_add, EReal.coe_mul], ?_, fun d => real_of_sq _ (lt_of_le_of_lt (hle d) (EReal.coe_lt_top s))⟩
    rw [← EReal.coe_mul, ← EReal.coe_add, Ideal.rsqrt_coe, if_neg (not_lt.2 hm.le), if_neg hm.ne']

/-- Twice a real multiple is the doubled multiple. -/
theorem twice (a : ℝ) (S : EReal) : (a : EReal) * S + a * S = ((2 * a : ℝ) : EReal) * S := by
  induction S with
  | coe s => rw [← EReal.coe_mul, ← EReal.coe_mul, ← EReal.coe_add]; congr 1; ring
  | bot =>
    rcases lt_trichotomy a 0 with h | rfl | h
    · rw [EReal.coe_mul_bot_of_neg h, EReal.coe_mul_bot_of_neg (by linarith)]; rfl
    · simp
    · rw [EReal.coe_mul_bot_of_pos h, EReal.coe_mul_bot_of_pos (by linarith)]; rfl
  | top =>
    rcases lt_trichotomy a 0 with h | rfl | h
    · rw [EReal.coe_mul_top_of_neg h, EReal.coe_mul_top_of_neg (by linarith)]; rfl
    · simp
    · rw [EReal.coe_mul_top_of_pos h, EReal.coe_mul_top_of_pos (by linarith)]; rfl

/-- What differentiating the reciprocal root mean square multiplies the row by. -/
def through (w : EReal) (x G : Fin n → EReal) : EReal :=
  Ideal.div ((∑ e, x e * G e) * (minusHalf * Ideal.div (rms w x) (meanSq w x))) w

theorem dx_eq (ha : 0 < a) (hw : w = a) (x G : Fin n → EReal) (d : Fin n) (y : EReal) :
    rms w x * (G d - x d * rms w x * Ideal.div (∑ e, G e * (x e * rms w x)) w) + y
      = y + G d * rms w x + x d * through w x G + through w x G * x d := by
  unfold through
  rcases rms_cases ha hw x with ⟨m, hm, hms, hr, hx⟩ | ⟨hms, hr⟩
  · obtain ⟨t, ht⟩ := hx d
    have hs : 0 < Real.sqrt m := Real.sqrt_pos.2 hm
    have hsm : Real.sqrt m * Real.sqrt m = m := Real.mul_self_sqrt hm.le
    have hS : ∑ e, G e * (x e * rms w x) = rms w x * ∑ e, x e * G e := by
      rw [hr, mul_sum_coe _ _ (by positivity)]
      exact Finset.sum_congr rfl fun e _ => by ac_rfl
    rw [hS, hms, hr, ht, hw, minusHalf_eq, Ideal.div_coe ha.ne', Ideal.div_coe ha.ne', Ideal.div_coe hm.ne',
      mul_sub_coe (by positivity)]
    generalize (∑ e, x e * G e) = S
    generalize hR : (Real.sqrt m)⁻¹ = r
    have h1 : (r : EReal) * ((t : EReal) * r * ((r : EReal) * S * ((1 / a : ℝ) : EReal))) = ((r * (t * r * (r * (1 / a))) : ℝ) : EReal) * S := by
      simp only [EReal.coe_mul]; ac_rfl
    have h2 : S * (((-(1 / 2) : ℝ) : EReal) * ((r : EReal) * ((1 / m : ℝ) : EReal))) * ((1 / a : ℝ) : EReal)
        = ((-(1 / 2) * (r * (1 / m)) * (1 / a) : ℝ) : EReal) * S := by
      simp only [EReal.coe_mul]; ac_rfl
    have h3 : ((-(1 / 2) * (r * (1 / m)) * (1 / a) : ℝ) : EReal) * S * t = ((t * (-(1 / 2) * (r * (1 / m)) * (1 / a)) : ℝ) : EReal) * S := by
      rw [EReal.coe_mul t]; ac_rfl
    have h4 : (t : EReal) * (((-(1 / 2) * (r * (1 / m)) * (1 / a) : ℝ) : EReal) * S) = ((t * (-(1 / 2) * (r * (1 / m)) * (1 / a)) : ℝ) : EReal) * S := by
      rw [EReal.coe_mul t]; ac_rfl
    rw [h1, h2, h3, h4, add_assoc (y + G d * (r : EReal)), twice, sub_eq_add_neg, ← EReal.neg_mul, ← EReal.coe_neg]
    have h5 : -(r * (t * r * (r * (1 / a)))) = 2 * (t * (-(1 / 2) * (r * (1 / m)) * (1 / a))) := by
      have : 1 / m = r * r := by rw [← hR, ← mul_inv, hsm, one_div]
      rw [this]; ring
    rw [h5]
    ac_rfl
  · have hw0 : w ≠ 0 := by rw [hw]; exact_mod_cast ha.ne'
    have h0 : ∀ z : EReal, z ≠ 0 → Ideal.div 0 z = 0 := fun z hz => by unfold Ideal.div; rw [if_neg hz, zero_mul]
    rw [hr, hms, h0 ⊤ EReal.top_ne_zero]
    simp only [mul_zero, zero_mul, h0 w hw0, add_zero, zero_add]

end Cert.Rms

end
-- ==== Proof.FfnRow.lean ====
/-
  The arithmetic of the half-step's gradients, over the extended reals and free of any program: the normalisation and its gradient at
  the half-step's width (`rms_cases`, `dx_eq`), the gradient of the gate's first factor (`gradA_eq`), and a real factor through a
  sum (`sum_half`).
-/
module

public import proofs.«01_k».proof.Proof.Rms
public import proofs.«01_k».proof.Proof.FfnDownBwd
public import proofs.«01_k».proof.Proof.FfnRmsBwd

@[expose] public section

noncomputable section

namespace Cert.Kernel2Ideal.Ffn

open Idealize.ShloMosaic Cert.Rows

/-! ## The literals -/

abbrev width : EReal := Ideal.ofBits .f32 0x44800000#32

abbrev minusHalf : EReal := Cert.Rms.minusHalf

theorem width_eq : width = ((1024 : ℝ) : EReal) := by
  simp [width, Ideal.ofBits, Ideal.ieee, -EReal.coe_mul]; norm_num
theorem half_eq : half = ((1 / 2 : ℝ) : EReal) := by
  simp [half, Ideal.ofBits, Ideal.ieee, -EReal.coe_mul]; norm_num
theorem one_eq : one = ((1 : ℝ) : EReal) := by
  simp [one, Ideal.ofBits, Ideal.ieee, -EReal.coe_mul]; norm_num

/-! ## The reciprocal root mean square -/

/-- The mean square of a row, and the small number that keeps it from zero. -/
def meanSq (x : Fin 1024 → EReal) : EReal := Ideal.div (∑ d, x d * x d) width + Ideal.ofBits .f32 0x358637BD#32

/-- Either the row is of reals and its mean square a positive real, or the mean square is infinite and its reciprocal root zero. -/
theorem rms_cases (x : Fin 1024 → EReal) :
    (∃ m : ℝ, 0 < m ∧ meanSq x = m ∧ rms x = (((Real.sqrt m)⁻¹ : ℝ) : EReal) ∧ ∀ d, ∃ y : ℝ, x d = y)
      ∨ (meanSq x = ⊤ ∧ rms x = 0) := Cert.Rms.rms_cases (by norm_num) width_eq x

/-- A normalised entry is real, whatever the row holds. -/
theorem xhat_real (x : Fin 1024 → EReal) (d : Fin 1024) : ∃ y : ℝ, x d * rms x = y := by
  rcases rms_cases x with ⟨m, -, -, hr, hx⟩ | ⟨-, hr⟩
  · obtain ⟨y, hy⟩ := hx d
    exact ⟨y * (Real.sqrt m)⁻¹, by rw [hr, hy, EReal.coe_mul]⟩
  · exact ⟨0, by rw [hr, mul_zero]; rfl⟩

/-! ## Sums -/

theorem sum_real {ι : Type*} (S : Finset ι) (f : ι → EReal) (h : ∀ i, ∃ y : ℝ, f i = y) : ∃ y : ℝ, ∑ i ∈ S, f i = y := by
  choose g hg using h
  exact ⟨∑ i ∈ S, g i, by rw [← sum_coe]; exact Finset.sum_congr rfl fun i _ => hg i⟩

theorem mul_real {x y : EReal} (hx : ∃ a : ℝ, x = a) (hy : ∃ a : ℝ, y = a) : ∃ a : ℝ, x * y = a := by
  obtain ⟨a, rfl⟩ := hx
  obtain ⟨b, rfl⟩ := hy
  exact ⟨a * b, EReal.coe_mul a b⟩

/-- The factor one half, before a sum of products or inside each. -/
theorem sum_half {ι : Type*} (S : Finset ι) (f g : ι → EReal) : ∑ i ∈ S, half * f i * g i = (∑ i ∈ S, f i * g i) * half := by
  rw [mul_comm, half_eq, mul_sum_coe _ _ (by norm_num)]
  exact Finset.sum_congr rfl fun i _ => mul_assoc _ _ _

/-! ## The gradient through the normalisation -/

/-- What differentiating the reciprocal root mean square multiplies the row by. -/
def through (x G : Fin 1024 → EReal) : EReal :=
  Ideal.div ((∑ e, x e * G e) * (minusHalf * Ideal.div (rms x) (meanSq x))) width

theorem dx_eq (x G : Fin 1024 → EReal) (d : Fin 1024) (y : EReal) :
    rms x * (G d - x d * rms x * Ideal.div (∑ e, G e * (x e * rms x)) width) + y
      = y + G d * rms x + x d * through x G + through x G * x d :=
  Cert.Rms.dx_eq (by norm_num) width_eq x G d y

/-! ## The gradient of the gate -/

/-- Where the gated gradient `c` is real, the logistic's derivative distributes: whatever the first factor `a` is. -/
theorem gradA_eq (u a b : EReal) (h : ∃ c : ℝ, u * b = c) :
    gradA u a b = u * b * Ideal.logistic a + a * (u * b) * (Ideal.logistic a * (one - Ideal.logistic a)) := by
  obtain ⟨c, hc⟩ := h
  unfold gradA
  rw [hc, one_eq]
  induction a with
  | bot => simp
  | top =>
    have h : (1 : EReal) - 1 = 0 := by rw [← EReal.coe_one, ← EReal.coe_sub, sub_self, EReal.coe_zero]
    simp [h]
  | coe a =>
    rw [Ideal.logistic_coe]
    generalize (1 + Real.exp (-a))⁻¹ = σ
    simp only [← EReal.coe_mul, ← EReal.coe_sub, ← EReal.coe_add]
    congr 1
    ring

end Cert.Kernel2Ideal.Ffn

end
-- ==== Proof.FfnRef.lean ====
/-
  The reference's six results of the half-step at an index (`Ideal`), over its arguments: the normalised rows `H`, the up
  products `up`, the gated product `gated`, their gradients, and the gradients of the rows and of the weights.
-/
module

public import proofs.«01_k».proof.Proof.FfnRow
public import proofs.«01_k».proof.Proof.Gen.Reference2Ideal.Read
public import Idealize.ShloMosaic.Lib.ValueIdxCore

@[expose] public section

set_option maxRecDepth 16384

noncomputable section

namespace Cert.Reference2Ideal.Ffn

open Idealize.ShloMosaic Idealize.ShloMosaic.TcCoe Idealize.SL.Sem
open Cert.Reference2Ideal Cert.Reference2Ideal.Gen Cert.Reference2Ideal.Read
open Cert.Kernel2Ideal.Ffn (rms meanSq half one width minusHalf through)

variable (X Y : Vec Ideal S4096x1024 .f32) (g : Vec Ideal S1024 .f32) (P1 P3 P : Vec Ideal S1024x2816 .f32) (P2 : Vec Ideal S2816x1024 .f32)

abbrev row (s : Fin 4096) (d : Fin 1024) : EReal := X (ix2 s d)
def H (s : Fin 4096) (d : Fin 1024) : EReal := X (ix2 s d) * rms (row X s) * g (ValueIdx.ix1 d)
def up (s : Fin 4096) (f : Fin 2816) : EReal := ∑ d, H X g s d * P (ix2 d f)
def gated (s : Fin 4096) (f : Fin 2816) : EReal := up X g P1 s f * Ideal.logistic (up X g P1 s f) * up X g P3 s f
/-- The gradients of the gated product and of the two up products. -/
def dgated (s : Fin 4096) (f : Fin 2816) : EReal := ∑ d, half * Y (ix2 s d) * P2 (ix2 f d)
def dval (s : Fin 4096) (f : Fin 2816) : EReal := up X g P1 s f * Ideal.logistic (up X g P1 s f) * dgated Y P2 s f
def dgate (s : Fin 4096) (f : Fin 2816) : EReal :=
  dgated Y P2 s f * up X g P3 s f * Ideal.logistic (up X g P1 s f)
    + up X g P1 s f * (dgated Y P2 s f * up X g P3 s f) * (Ideal.logistic (up X g P1 s f) * (one - Ideal.logistic (up X g P1 s f)))
/-- The gradient of the normalised rows. -/
def dH (s : Fin 4096) (d : Fin 1024) : EReal :=
  ∑ f, dval X Y g P1 P2 s f * P3 (ix2 d f) + ∑ f, dgate X Y g P1 P3 P2 s f * P1 (ix2 d f)

theorem ofBits_zero : Ideal.ofBits .f32 0x00000000#32 = 0 := by simp [Ideal.ofBits, Ideal.ieee]
theorem one_one : Ideal.ofBits .f32 0x3F800000#32 = 1 := Cert.Kernel2Ideal.Ffn.one_eq

/-! ## Forward -/

theorem v6_eq (s : Fin 4096) : val_main_v6 (F := Ideal) X (ix2 s 0) = meanSq (row X s) := by
  rw [val_main_v6_apply, val_main_v4_apply, val_main_v2_apply, val_main_v1_apply, val_main_v3_apply, val_main_v5_apply]
  show Ideal.div (Ideal.ofBits .f32 0x00000000#32 + _) width + _ = _
  rw [ofBits_zero, zero_add]
  refine congrArg (fun S : EReal => Ideal.div S width + Ideal.ofBits .f32 0x358637BD#32) (Finset.sum_congr rfl fun k _ => ?_)
  exact congrArg (fun i => X i * X i) (funext fun a => Fin.ext (by match a with | ⟨0, _⟩ => rfl | ⟨1, _⟩ => rfl))

theorem v7_eq (s : Fin 4096) : val_main_v7 (F := Ideal) X (ix2 s 0) = rms (row X s) := by
  rw [val_main_v7_apply, v6_eq]
  rfl

theorem v12_eq (s : Fin 4096) (d : Fin 1024) : val_main_v12 (F := Ideal) X (ix2 s d) = X (ix2 s d) * rms (row X s) := by
  rw [val_main_v12_apply, val_main_v11_apply, ← v7_eq]
  exact congrArg (fun i => X (ix2 s d) * val_main_v7 (F := Ideal) X i) (funext fun a => Fin.ext (by match a with | ⟨0, _⟩ => rfl | ⟨1, _⟩ => rfl))

theorem v14_eq (s : Fin 4096) (d : Fin 1024) : val_main_v14 (F := Ideal) g (ix2 s d) = g (ValueIdx.ix1 d) := by
  rw [val_main_v14_apply, val_main_v13_apply]
  exact congrArg g (funext fun a => Fin.ext (by match a with | ⟨0, _⟩ => rfl))

theorem v15_eq (s : Fin 4096) (d : Fin 1024) : val_main_v15 (F := Ideal) X g (ix2 s d) = H X g s d := by
  rw [val_main_v15_apply, v12_eq, v14_eq]
  rfl

theorem v16_eq (s : Fin 4096) (f : Fin 2816) : val_main_v16 (F := Ideal) X g P (ix2 s f) = up X g P s f := by
  rw [val_main_v16_apply]
  unfold up
  refine Finset.sum_congr rfl fun k _ => ?_
  refine congrArg₂ (fun a b : EReal => a * b) (Eq.trans (congrArg _ (funext fun a => Fin.ext (by match a with | ⟨0, _⟩ => rfl | ⟨1, _⟩ => rfl))) (v15_eq X g s k)) (Eq.trans (congrArg _ (funext fun a => Fin.ext (by match a with | ⟨0, _⟩ => rfl | ⟨1, _⟩ => rfl))) (rfl))

theorem v18_eq (s : Fin 4096) (f : Fin 2816) : val_main_v18 (F := Ideal) X g P (ix2 s f) = up X g P s f := by
  rw [val_main_v18_apply]
  unfold up
  refine Finset.sum_congr rfl fun k _ => ?_
  refine congrArg₂ (fun a b : EReal => a * b) (Eq.trans (congrArg _ (funext fun a => Fin.ext (by match a with | ⟨0, _⟩ => rfl | ⟨1, _⟩ => rfl))) (v15_eq X g s k)) (Eq.trans (congrArg _ (funext fun a => Fin.ext (by match a with | ⟨0, _⟩ => rfl | ⟨1, _⟩ => rfl))) (rfl))

theorem v17_2_eq (s : Fin 4096) (f : Fin 2816) : val_main_v17_2 (F := Ideal) X g P1 (ix2 s f) = Ideal.logistic (up X g P1 s f) := by
  rw [val_main_v17_2_apply, val_main_call0_v3_apply, val_main_call0_v1_apply, val_main_call0_v0_apply, v16_eq, val_main_call0_v4_apply,
    val_main_call0_v2_apply]
  show Ideal.div (Ideal.ofBits .f32 0x3F800000#32) (Ideal.ofBits .f32 0x3F800000#32 + Ideal.exp (-up X g P1 s f)) = _
  rw [one_one]
  rfl

theorem v17_1_eq (s : Fin 4096) (f : Fin 2816) : val_main_v17_1 (F := Ideal) X g P1 (ix2 s f)
    = Ideal.logistic (up X g P1 s f) * (one - Ideal.logistic (up X g P1 s f)) := by
  rw [val_main_v17_1_apply, val_main_call0_v7_apply, v17_2_eq, val_main_call0_v6_apply]
  rfl

theorem v17_0_eq (s : Fin 4096) (f : Fin 2816) : val_main_v17_0 (F := Ideal) X g P1 (ix2 s f)
    = up X g P1 s f * Ideal.logistic (up X g P1 s f) := by
  rw [val_main_v17_0_apply, v16_eq, v17_2_eq]
  rfl

theorem v19_eq (s : Fin 4096) (f : Fin 2816) : val_main_v19 (F := Ideal) X g P1 P3 (ix2 s f) = gated X g P1 P3 s f := by
  rw [val_main_v19_apply, v17_0_eq, v18_eq]
  rfl

theorem y_eq (s : Fin 4096) (d : Fin 1024) : val_main_v23 (F := Ideal) X g P1 P3 P2 (ix2 s d)
    = X (ix2 s d) + half * ∑ f, gated X g P1 P3 s f * P2 (ix2 f d) := by
  rw [val_main_v23_apply, val_main_v22_apply, val_main_v20_apply, val_main_v21_apply]
  refine congrArg (fun S : EReal => X (ix2 s d) + half * S) ?_
  refine Finset.sum_congr rfl fun k _ => ?_
  refine congrArg₂ (fun a b : EReal => a * b) (Eq.trans (congrArg _ (funext fun a => Fin.ext (by match a with | ⟨0, _⟩ => rfl | ⟨1, _⟩ => rfl))) (v19_eq X g P1 P3 s k)) (Eq.trans (congrArg _ (funext fun a => Fin.ext (by match a with | ⟨0, _⟩ => rfl | ⟨1, _⟩ => rfl))) (rfl))

/-! ## Backward -/

theorem v26_eq (s : Fin 4096) (d : Fin 1024) : val_main_v26 (F := Ideal) Y (ix2 s d) = half * Y (ix2 s d) := by
  rw [val_main_v26_apply, val_main_v24_apply, val_main_v25_apply]
  refine congrArg (fun i => half * Y i) (funext fun a => Fin.ext ?_)
  have := s.isLt
  have := d.isLt
  match a with
  | ⟨0, _⟩ => show (s.val * 1024 + d.val) / 1024 = s.val; omega
  | ⟨1, _⟩ => show (s.val * 1024 + d.val) % 1024 = d.val; omega

theorem v29_eq (s : Fin 4096) (f : Fin 2816) : val_main_v29 (F := Ideal) P2 Y (ix2 s f) = dgated Y P2 s f := by
  rw [val_main_v29_apply]
  unfold dgated
  refine Finset.sum_congr rfl fun k _ => ?_
  refine congrArg₂ (fun a b : EReal => a * b) (Eq.trans (congrArg _ (funext fun a => Fin.ext (by match a with | ⟨0, _⟩ => rfl | ⟨1, _⟩ => rfl))) (v26_eq Y s k)) (Eq.trans (congrArg _ (funext fun a => Fin.ext (by match a with | ⟨0, _⟩ => rfl | ⟨1, _⟩ => rfl))) (rfl))

theorem v30_eq (s : Fin 4096) (f : Fin 2816) : val_main_v30 (F := Ideal) X g P1 P2 Y (ix2 s f) = dval X Y g P1 P2 s f := by
  rw [val_main_v30_apply, v17_0_eq, v29_eq]
  rfl

theorem v35_eq (s : Fin 4096) (f : Fin 2816) : val_main_v35 (F := Ideal) X g P1 P3 P2 Y (ix2 s f) = dgate X Y g P1 P3 P2 s f := by
  rw [val_main_v35_apply, val_main_call1_v1_apply, val_main_call1_v2_apply, val_main_call1_v0_apply, val_main_v31_apply, v17_2_eq, v17_1_eq,
    v16_eq, v18_eq, v29_eq]
  rfl

theorem v39_eq (s : Fin 4096) (d : Fin 1024) : val_main_v39 (F := Ideal) X g P1 P3 P2 Y (ix2 s d) = dH X Y g P1 P3 P2 s d := by
  have e1 : val_main_v34 (F := Ideal) X g P1 P3 P2 Y (ix2 s d) = ∑ f, dval X Y g P1 P2 s f * P3 (ix2 d f) := by
    rw [val_main_v34_apply]
    refine Finset.sum_congr rfl fun k _ => ?_
    refine congrArg₂ (fun a b : EReal => a * b) (Eq.trans (congrArg _ (funext fun a => Fin.ext (by match a with | ⟨0, _⟩ => rfl | ⟨1, _⟩ => rfl))) (v30_eq X Y g P1 P2 s k)) (Eq.trans (congrArg _ (funext fun a => Fin.ext (by match a with | ⟨0, _⟩ => rfl | ⟨1, _⟩ => rfl))) (rfl))

  have e2 : val_main_v38 (F := Ideal) X g P1 P3 P2 Y (ix2 s d) = ∑ f, dgate X Y g P1 P3 P2 s f * P1 (ix2 d f) := by
    rw [val_main_v38_apply]
    refine Finset.sum_congr rfl fun k _ => ?_
    refine congrArg₂ (fun a b : EReal => a * b) (Eq.trans (congrArg _ (funext fun a => Fin.ext (by match a with | ⟨0, _⟩ => rfl | ⟨1, _⟩ => rfl))) (v35_eq X Y g P1 P3 P2 s k)) (Eq.trans (congrArg _ (funext fun a => Fin.ext (by match a with | ⟨0, _⟩ => rfl | ⟨1, _⟩ => rfl))) (rfl))

  rw [val_main_v39_apply, e1, e2]
  rfl

theorem w2_eq (f : Fin 2816) (d : Fin 1024) : val_main_v28 (F := Ideal) X g P1 P3 Y (ix2 f d)
    = ∑ s, half * Y (ix2 s d) * gated X g P1 P3 s f := by
  rw [val_main_v28_apply, val_main_v27_apply]
  refine Finset.sum_congr rfl fun k _ => ?_
  refine congrArg₂ (fun a b : EReal => a * b) (Eq.trans (congrArg _ (funext fun a => Fin.ext (by match a with | ⟨0, _⟩ => rfl | ⟨1, _⟩ => rfl))) (v26_eq Y k d)) (Eq.trans (congrArg _ (funext fun a => Fin.ext (by match a with | ⟨0, _⟩ => rfl | ⟨1, _⟩ => rfl))) (v19_eq X g P1 P3 k f))

theorem w3_eq (d : Fin 1024) (f : Fin 2816) : val_main_v33 (F := Ideal) X g P1 P2 Y (ix2 d f)
    = ∑ s, dval X Y g P1 P2 s f * H X g s d := by
  rw [val_main_v33_apply, val_main_v32_apply]
  refine Finset.sum_congr rfl fun k _ => ?_
  refine congrArg₂ (fun a b : EReal => a * b) (Eq.trans (congrArg _ (funext fun a => Fin.ext (by match a with | ⟨0, _⟩ => rfl | ⟨1, _⟩ => rfl))) (v30_eq X Y g P1 P2 k f)) (Eq.trans (congrArg _ (funext fun a => Fin.ext (by match a with | ⟨0, _⟩ => rfl | ⟨1, _⟩ => rfl))) (v15_eq X g k d))

theorem w1_eq (d : Fin 1024) (f : Fin 2816) : val_main_v37 (F := Ideal) X g P1 P3 P2 Y (ix2 d f)
    = ∑ s, dgate X Y g P1 P3 P2 s f * H X g s d := by
  rw [val_main_v37_apply, val_main_v36_apply]
  refine Finset.sum_congr rfl fun k _ => ?_
  refine congrArg₂ (fun a b : EReal => a * b) (Eq.trans (congrArg _ (funext fun a => Fin.ext (by match a with | ⟨0, _⟩ => rfl | ⟨1, _⟩ => rfl))) (v35_eq X Y g P1 P3 P2 k f)) (Eq.trans (congrArg _ (funext fun a => Fin.ext (by match a with | ⟨0, _⟩ => rfl | ⟨1, _⟩ => rfl))) (v15_eq X g k d))

theorem g_eq (d : Fin 1024) : val_main_v45 (F := Ideal) X g P1 P3 P2 Y (ValueIdx.ix1 d)
    = ∑ s, X (ix2 s d) * rms (row X s) * dH X Y g P1 P3 P2 s d := by
  rw [val_main_v45_apply, Fin.sum_univ_one, val_main_v42_apply, val_main_v41_apply]
  show Ideal.ofBits .f32 0x00000000#32 + (Ideal.ofBits .f32 0x00000000#32 + _) = _
  rw [ofBits_zero, zero_add, zero_add]
  refine Finset.sum_congr rfl fun k _ => ?_
  rw [show idx_main_v41 (idx_main_v42 (idx_main_v45 (ValueIdx.ix1 d) 0)) k = ix2 k d from (funext fun a => Fin.ext (by
      have := d.isLt
      match a with | ⟨0, _⟩ => rfl | ⟨1, _⟩ => show 0 * 1024 + d.val = d.val; omega)),
    val_main_v40_apply, v12_eq, v39_eq]
  rfl

theorem v44_eq (s : Fin 4096) (d : Fin 1024) : val_main_v44 (F := Ideal) X g P1 P3 P2 Y (ix2 s d)
    = dH X Y g P1 P3 P2 s d * g (ValueIdx.ix1 d) := by
  rw [val_main_v44_apply, v39_eq, val_main_v43_apply, val_main_v13_apply]
  exact congrArg (fun i => dH X Y g P1 P3 P2 s d * g i) (funext fun a => Fin.ext (by match a with | ⟨0, _⟩ => rfl))

theorem v56_eq (s : Fin 4096) (d : Fin 1024) : val_main_v56 (F := Ideal) X g P1 P3 P2 Y (ix2 s d)
    = through (row X s) (fun e => dH X Y g P1 P3 P2 s e * g (ValueIdx.ix1 e)) := by
  rw [val_main_v56_apply, val_main_v55_apply, Fin.sum_univ_one,
    show idx_main_v55 (idx_main_v56 (ix2 s d)) 0 = ix2 s 0 from (funext fun a => Fin.ext (by match a with | ⟨0, _⟩ => rfl | ⟨1, _⟩ => rfl)),
    val_main_v54_apply, val_main_v52_apply, val_main_v53_apply, val_main_v48_apply, val_main_v47_apply, val_main_v10_apply, val_main_v8_apply,
    v7_eq, v6_eq, val_main_v9_apply]
  show Ideal.ofBits .f32 0x00000000#32 + Ideal.div ((Ideal.ofBits .f32 0x00000000#32 + _) * (minusHalf * Ideal.div _ _)) width = _
  rw [ofBits_zero, zero_add, zero_add]
  unfold through
  refine congrArg (fun S : EReal => Ideal.div (S * (minusHalf * Ideal.div (rms (row X s)) (meanSq (row X s)))) width) (Finset.sum_congr rfl fun k _ => ?_)
  rw [show idx_main_v47 (idx_main_v48 (ix2 s 0)) k = ix2 s k from (funext fun a => Fin.ext (by
      have := s.isLt
      match a with | ⟨0, _⟩ => show s.val * 1 + 0 = s.val; omega | ⟨1, _⟩ => rfl)),
    val_main_v46_apply, v44_eq]
  rfl

theorem x_eq (s : Fin 4096) (d : Fin 1024) : val_main_v60 (F := Ideal) X g P1 P3 P2 Y (ix2 s d)
    = Y (ix2 s d) + dH X Y g P1 P3 P2 s d * g (ValueIdx.ix1 d) * rms (row X s)
      + X (ix2 s d) * through (row X s) (fun e => dH X Y g P1 P3 P2 s e * g (ValueIdx.ix1 e))
      + through (row X s) (fun e => dH X Y g P1 P3 P2 s e * g (ValueIdx.ix1 e)) * X (ix2 s d) := by
  rw [val_main_v60_apply, val_main_v59_apply, val_main_v58_apply, val_main_v57_apply, val_main_v51_apply, val_main_v50_apply, v44_eq, v56_eq,
    val_main_v49_apply, show idx_main_v49 (ix2 s d) = ix2 s 0 from (funext fun a => Fin.ext (by match a with | ⟨0, _⟩ => rfl | ⟨1, _⟩ => rfl)), v7_eq]
  rfl

end Cert.Reference2Ideal.Ffn

end
-- ==== Proof.FfnMeet.lean ====
/-
  The half-step's two programs meet (`Ideal`): each result of the kernel is the reference's, where the gain, the value and down
  weights and the incoming gradient hold no infinity.
-/
module

public import proofs.«01_k».proof.Proof.FfnHost
public import proofs.«01_k».proof.Proof.FfnRef
public import proofs.«01_k».proof.Proof.Meet
public import proofs.«01_k».proof.Pre_finite_ffn
public import proofs.«01_k».proof.Proof.Gen.Pre_finite_ffn

@[expose] public section

set_option maxRecDepth 16384

noncomputable section

namespace Cert.Kernel2Ideal.Ffn

open Idealize.ShloMosaic Idealize.ShloMosaic.TcCoe
open Cert.Kernel2Ideal Cert.Rows
open Cert.Reference2Ideal.Ffn (row H up gated dgated dval dgate dH)
open Cert.Reference2Ideal.Read

/-! ## The precondition -/

/-- A conjunction over all of an array that holds, holds of each element. -/
theorem each_of_all {s t u : Shape} {axes : List (Fin s.rank)} (x : s.Idx → BitVec 1) (init : u.Idx → BitVec 1) (h : s.ReducesTo axes t)
    (hu : 0 < u.numel) (j : t.Idx) (e : Host.reduce IntOp.andi x init h hu j = 1#1) (i : s.Idx) (hi : h.drop i = j) : x i = 1#1 := by
  rw [Host.reduce_eq_fold] at e
  have key : ∀ S : Finset s.Idx, S.fold IntOp.andi (init (Shape.Idx.first hu)) x = 1#1 → ∀ i ∈ S, x i = 1#1 := by
    classical
    intro S
    induction S using Finset.induction_on with
    | empty => intro _ i hi; exact absurd hi (Finset.notMem_empty i)
    | insert a S ha ih =>
      intro h i hi
      rw [Finset.fold_insert ha] at h
      obtain ⟨h1, h2⟩ := Cert.Attn.andi_one _ _ h
      rcases Finset.mem_insert.1 hi with rfl | hi
      · exact h1
      · exact ih h2 i hi
  exact key _ e i (Finset.mem_filter.2 ⟨Finset.mem_univ _, hi⟩)

/-- An array whose every element is below infinity in absolute value is of reals. -/
theorem real_of_all {s u : Shape} {axes : List (Fin s.rank)} (x : FVec Ideal s .f32)
    (b : (⟨0, ![]⟩ : Shape).BroadcastsInDim s (![] : Fin 0 → Fin s.rank)) (init : u.Idx → BitVec 1)
    (h : s.ReducesTo axes ⟨0, ![]⟩) (hu : 0 < u.numel)
    (e : Host.reduce IntOp.andi (cmpf .olt (Host.absf x) (broadcastInDim s ![] b (constant (F := Ideal) ⟨0, ![]⟩ .f32 0x7F800000#32))) init h hu
      ValueIdx.ix0 = 1#1) (i : s.Idx) : ∃ y : ℝ, x i = y := by
  refine Cert.Attn.real_of_abs _ ?_
  rw [← Cert.Attn.ofBits_top]
  exact each_of_all _ _ _ _ _ e i (funext fun a => a.elim0)

section
variable (X Y : Vec Ideal S4096x1024 .f32) (g : Vec Ideal S1024 .f32) (P1 P3 P : Vec Ideal S1024x2816 .f32) (P2 : Vec Ideal S2816x1024 .f32)

theorem finite (h : Cert.Pre_finite_ffn.fn (F := Ideal) X g P1 P3 P2 Y = fun _ => 1#1) :
    (∀ i, ∃ y : ℝ, g i = y) ∧ (∀ i, ∃ y : ℝ, P3 i = y) ∧ (∀ i, ∃ y : ℝ, P2 i = y) ∧ ∀ i, ∃ y : ℝ, Y i = y := by
  obtain ⟨h3, hY⟩ := Cert.Attn.andi_one _ _ (congrFun h ValueIdx.ix0)
  obtain ⟨h2, hP2⟩ := Cert.Attn.andi_one _ _ h3
  obtain ⟨hg, hP3⟩ := Cert.Attn.andi_one _ _ h2
  exact ⟨real_of_all g _ _ _ _ hg,
    real_of_all P3 _ _ _ _ hP3,
    real_of_all P2 _ _ _ _ hP2,
    real_of_all Y _ _ _ _ hY⟩

/-! ## The shards together -/

theorem sum_col (F : Fin 2816 → EReal) : ∑ j : Fin 4, ∑ f : Fin 704, F (col j f) = ∑ k, F k := by
  rw [← Fintype.sum_prod_type' (f := fun j f => F (col j f))]
  refine Fintype.sum_equiv ⟨fun p => col p.1 p.2, fun k => (shardOf k, inShard k),
    fun p => Prod.ext (Fin.ext ?_) (Fin.ext ?_), fun k => Fin.ext ?_⟩ _ _ fun p => rfl
  · show (704 * p.1.val + p.2.val) / 704 = p.1.val; have := p.2.isLt; omega
  · show (704 * p.1.val + p.2.val) % 704 = p.2.val; have := p.2.isLt; omega
  · show 704 * (k.val / 704) + k.val % 704 = k.val; omega

theorem col_of (k : Fin 2816) : col (shardOf k) (inShard k) = k := Fin.ext (by show 704 * (k.val / 704) + k.val % 704 = k.val; omega)

/-! ## The values of the kernel, as the reference names them -/

theorem h_at (s : Fin 4096) (d : Fin 1024) : hOf X g (ix2 s d) = H X g s d := rfl
theorem a_at (j : Fin 4) (s : Fin 4096) (f : Fin 704) : aOf X g P (ValueIdx.ix3 j s f) = up X g P s (col j f) := rfl
theorem u_at (j : Fin 4) (s : Fin 4096) (f : Fin 704) : uOf X g P1 P3 (ValueIdx.ix3 j s f) = gated X g P1 P3 s (col j f) := rfl

theorem du_at (j : Fin 4) (s : Fin 4096) (f : Fin 704) : duArr Y (stackRows P2) (ValueIdx.ix3 j s f) = dgated Y P2 s (col j f) :=
  (sum_half Finset.univ (fun d => Y (ix2 s d)) fun d => P2 (ix2 (col j f) d)).symm

theorem db_at (j : Fin 4) (s : Fin 4096) (f : Fin 704) :
    dbOf X g P1 P2 Y (ValueIdx.ix3 j s f) = dval X Y g P1 P2 s (col j f) := by
  show gradB (duArr Y (stackRows P2) (ValueIdx.ix3 j s f)) (aOf X g P1 (ValueIdx.ix3 j s f)) = _
  rw [du_at, a_at]
  unfold gradB dval
  ac_rfl

variable (hg : ∀ i, ∃ y : ℝ, g i = y) (h3 : ∀ i, ∃ y : ℝ, P3 i = y) (h2 : ∀ i, ∃ y : ℝ, P2 i = y) (hY : ∀ i, ∃ y : ℝ, Y i = y)
include hg h3 h2 hY

theorem da_at (j : Fin 4) (s : Fin 4096) (f : Fin 704) :
    daOf X g P1 P3 P2 Y (ValueIdx.ix3 j s f) = dgate X Y g P1 P3 P2 s (col j f) := by
  show gradA (duArr Y (stackRows P2) (ValueIdx.ix3 j s f)) (aOf X g P1 (ValueIdx.ix3 j s f)) (aOf X g P3 (ValueIdx.ix3 j s f)) = _
  rw [du_at, a_at, a_at, gradA_eq]
  · rfl
  · refine mul_real ?_ ?_
    · exact sum_real _ _ fun d => mul_real (mul_real ⟨_, half_eq⟩ (hY _)) (h2 _)
    · exact sum_real _ _ fun d => mul_real (mul_real (xhat_real (row X s) d) (hg _)) (h3 _)

theorem dh_at (s : Fin 4096) (d : Fin 1024) : dhOf X g P1 P3 P2 Y (ix2 s d) = dH X Y g P1 P3 P2 s d := by
  show ∑ j, backAt (daOf X g P1 P3 P2 Y) (stackCols P1) j s d + ∑ j, backAt (dbOf X g P1 P2 Y) (stackCols P3) j s d = _
  unfold dH
  rw [add_comm, ← sum_col, ← sum_col]
  refine congrArg₂ (fun a b : EReal => a + b) ?_ ?_
  · exact Finset.sum_congr rfl fun j _ => Finset.sum_congr rfl fun f _ => by rw [db_at]; rfl
  · exact Finset.sum_congr rfl fun j _ => Finset.sum_congr rfl fun f _ => by rw [da_at X Y g P1 P3 P2 hg h3 h2 hY]; rfl

omit hg h3 h2 hY in
theorem meet_y : outY X g P1 P3 P2 = val_main_v23 (F := Ideal) X g P1 P3 P2 := by
  funext i
  obtain ⟨s, d, rfl⟩ : ∃ s d, i = ix2 s d := ⟨_, _, eq_ix2 i⟩
  refine Eq.trans ?_ (Cert.Reference2Ideal.Ffn.y_eq X g P1 P3 P2 s d).symm
  show (∑ j, downAt (uOf X g P1 P3) (stackRows P2) j s d) * half + X (ix2 s d) = _
  rw [← sum_col, add_comm, mul_comm half]
  rfl

theorem meet_x : outX X g P1 P3 P2 Y = val_main_v60 (F := Ideal) X g P1 P3 P2 Y := by
  funext i
  obtain ⟨s, d, rfl⟩ : ∃ s d, i = ix2 s d := ⟨_, _, eq_ix2 i⟩
  refine Eq.trans ?_ ((dx_eq (row X s) (fun e => dH X Y g P1 P3 P2 s e * g (ValueIdx.ix1 e)) d (Y (ix2 s d))).trans
    (Cert.Reference2Ideal.Ffn.x_eq X Y g P1 P3 P2 s d).symm)
  simp only [← dh_at X Y g P1 P3 P2 hg h3 h2 hY]
  rfl

theorem meet_g : outG X g P1 P3 P2 Y = val_main_v45 (F := Ideal) X g P1 P3 P2 Y := by
  funext i
  obtain ⟨d, rfl⟩ : ∃ d, i = ValueIdx.ix1 d := ⟨i 0, funext fun a => by fin_cases a; rfl⟩
  refine Eq.trans ?_ (Cert.Reference2Ideal.Ffn.g_eq X Y g P1 P3 P2 d).symm
  show dgAt X (dhOf X g P1 P3 P2 Y) d = _
  unfold dgAt
  refine Finset.sum_congr rfl fun s _ => ?_
  rw [← dh_at X Y g P1 P3 P2 hg h3 h2 hY]
  exact mul_comm _ _

theorem meet_w1 : outW1 X g P1 P3 P2 Y = val_main_v37 (F := Ideal) X g P1 P3 P2 Y := by
  funext i
  obtain ⟨d, f, rfl⟩ : ∃ d f, i = ix2 d f := ⟨_, _, eq_ix2 i⟩
  refine Eq.trans ?_ (Cert.Reference2Ideal.Ffn.w1_eq X Y g P1 P3 P2 d f).symm
  show ∑ s, hOf X g (ix2 s d) * daOf X g P1 P3 P2 Y (ValueIdx.ix3 (shardOf f) s (inShard f)) = _
  refine Finset.sum_congr rfl fun s _ => ?_
  rw [da_at X Y g P1 P3 P2 hg h3 h2 hY, col_of, h_at]
  exact mul_comm _ _

omit hg h3 h2 hY in
theorem meet_w3 : outW3 X g P1 P2 Y = val_main_v33 (F := Ideal) X g P1 P2 Y := by
  funext i
  obtain ⟨d, f, rfl⟩ : ∃ d f, i = ix2 d f := ⟨_, _, eq_ix2 i⟩
  refine Eq.trans ?_ (Cert.Reference2Ideal.Ffn.w3_eq X Y g P1 P2 d f).symm
  show ∑ s, hOf X g (ix2 s d) * dbOf X g P1 P2 Y (ValueIdx.ix3 (shardOf f) s (inShard f)) = _
  refine Finset.sum_congr rfl fun s _ => ?_
  rw [db_at, col_of, h_at]
  exact mul_comm _ _

omit hg h3 h2 hY in
theorem meet_w2 : outW2 X g P1 P3 Y = val_main_v28 (F := Ideal) X g P1 P3 Y := by
  funext i
  obtain ⟨f, d, rfl⟩ : ∃ f d, i = ix2 f d := ⟨_, _, eq_ix2 i⟩
  refine Eq.trans ?_ (Cert.Reference2Ideal.Ffn.w2_eq X Y g P1 P3 f d).symm
  show (∑ s, uOf X g P1 P3 (ValueIdx.ix3 (shardOf f) s (inShard f)) * Y (ix2 s d)) * half = _
  refine Eq.trans ?_ (sum_half Finset.univ (fun s => Y (ix2 s d)) fun s => gated X g P1 P3 s f).symm
  refine congrArg (fun S : EReal => S * half) (Finset.sum_congr rfl fun s _ => ?_)
  rw [u_at, col_of]
  exact mul_comm _ _

end

end Cert.Kernel2Ideal.Ffn

end
-- ==== Proof.MergeGate.lean ====
/-
  The gated sum of the three branches' products, 512 rows by 512 rows, and its gradient: each branch's product, the sum, each
  branch's share of the gradient and the gates' gradient (`final0_*`, `final4_*`: the arrays the two regions leave, over the
  arrays they read).
-/
module

public import proofs.«01_k».proof.Proof.Mat
public import proofs.«01_k».proof.Proof.Gen.Kernel3Ideal.Frame.Region0
public import proofs.«01_k».proof.Proof.Gen.Kernel3Ideal.Frame.Region4
public import Idealize.ShloMosaic.Lib.Pointwise
public import Idealize.ShloMosaic.Lib.Pipeline.Value
public import Idealize.ShloMosaic.Lib.Pipeline.ValueKit
public import Idealize.ShloMosaic.Lib.Tactic

@[expose] public section

set_option maxRecDepth 16384

noncomputable section

namespace Cert.Kernel3Ideal.Merge

open Idealize.ShloMosaic Idealize.ShloMosaic.TcCoe Idealize.SL.Sem Idealize.ShloMosaic.Tactic
open Idealize.ShloMosaic.Pipeline (Dat)
open Cert.Kernel3Ideal Cert.Kernel3Ideal.Gen Cert.Mat

/-- Column `d` of third `j` of a block of three, and of the gates' array. -/
abbrev third (j : Fin 3) (d : Fin 1024) : Fin 3072 := ⟨1024 * j.val + d.val, by omega⟩
abbrev gcol (j : Fin 3) (d : Fin 1024) : Fin 9216 := ⟨1024 * j.val + d.val, by omega⟩
abbrev thirdOf (e : Fin 3072) : Fin 3 := ⟨e.val / 1024, by omega⟩
abbrev inThird (e : Fin 3072) : Fin 1024 := ⟨e.val % 1024, Nat.mod_lt _ (by decide)⟩

/-- The gate of branch `j` at a row and a column. -/
def gateOf (Z : M 4096 9216) (j : Fin 3) (r : Fin 4096) (d : Fin 1024) : EReal := Ideal.logistic (Z (ix2 r (gcol j d)))

/-- One of three. -/
def pick {α : Type} (a b c : α) (j : Fin 3) : α := match j with | 0 => a | 1 => b | 2 => c

/-- The gated sum of three products. -/
def mixAt (Y0 Y1 Y2 : M 4096 512) (W0 W1 W2 : M 512 1024) (Z : M 4096 9216) (r : Fin 4096) (d : Fin 1024) : EReal :=
  gateOf Z 0 r d * nnAt Y0 W0 r d + gateOf Z 1 r d * nnAt Y1 W1 r d + gateOf Z 2 r d * nnAt Y2 W2 r d

/-- A branch's share of the gradient, and a gate's gradient. -/
def dAt (D : M 4096 1024) (Z : M 4096 9216) (j : Fin 3) (r : Fin 4096) (d : Fin 1024) : EReal := D (ix2 r d) * gateOf Z j r d
def dgAt (D P0 P1 P2 : M 4096 1024) (Z : M 4096 9216) (j : Fin 3) (r : Fin 4096) (d : Fin 1024) : EReal :=
  D (ix2 r d) * pick P0 P1 P2 j (ix2 r d) * gateOf Z j r d * (Ideal.ofBits .f32 0x3F800000#32 - gateOf Z j r d)

theorem ld_third {e : EltTy} (x : Vec Ideal S512x3072 e) (j : Fin 3) (inb) (r : Fin 512) (d : Fin 1024) :
    View.ld x (Rect.unit ![0, 1024 * j.val] S512x1024.size inb) (ix2 r d) = x (ix2 r (third j d)) :=
  View.ld_unit_apply_of x _ _ _ _ _ fun a => by
    match a with
    | ⟨0, _⟩ => show r.val = 0 + r.val; omega
    | ⟨1, _⟩ => rfl

/-- Three pieces of 1024 columns each that agree with one function of row and column are that function. -/
theorem thirds (p0 p1 p2 : Vec Ideal S512x1024 .bf16) (G : Fin 3 → Fin 512 → Fin 1024 → EReal)
    (h0 : ∀ r d, p0 (ix2 r d) = G 0 r d) (h1 : ∀ r d, p1 (ix2 r d) = G 1 r d) (h2 : ∀ r d, p2 (ix2 r d) = G 2 r d) :
    View.canon (Val := Elt Ideal) (s := S512x3072) (e := .bf16)
      [⟨Rect.unit ![0, 2048] S512x1024.size inb_S512x3072_S512x1024_0_2048, p2⟩,
       ⟨Rect.unit ![0, 1024] S512x1024.size inb_S512x3072_S512x1024_0_1024, p1⟩,
       ⟨Rect.unit ![0, 0] S512x1024.size inb_S512x3072_S512x1024_0_0, p0⟩] = fun y => G (thirdOf (y 1)) (y 0) (inThird (y 1)) := by
  funext y
  have hy : (y 0).val < 512 := (y 0).isLt
  have hd : (y 1).val < 3072 := (y 1).isLt
  have emb : ∀ (j : Fin 3) (inb) (r : Fin 512) (d : Fin 1024),
      (Rect.unit (s := S512x3072) ![0, 1024 * j.val] S512x1024.size inb).emb (ix2 r d) = ix2 r (third j d) := by
    intro j inb r d
    refine Shape.idx_ext₂ ?_ ?_
    · show 0 + 1 * r.val = r.val; omega
    · show 1024 * j.val + 1 * d.val = 1024 * j.val + d.val; omega
  have val : ∀ (j : Fin 3) (r : Fin 512) (d : Fin 1024), G (thirdOf (third j d)) r (inThird (third j d)) = G j r d := by
    intro j r d
    have e1 : thirdOf (third j d) = j := Fin.ext (by show (1024 * j.val + d.val) / 1024 = j.val; omega)
    have e2 : inThird (third j d) = d := Fin.ext (by show (1024 * j.val + d.val) % 1024 = d.val; omega)
    rw [e1, e2]
  refine View.canon_apply_of_pieces (Val := Elt Ideal) (e := .bf16) (fun y : S512x3072.Idx => G (thirdOf (y 1)) (y 0) (inThird (y 1))) _ ?_ y ?_
  · intro p hp
    simp only [List.mem_cons, List.not_mem_nil, or_false] at hp
    rcases hp with rfl | rfl | rfl <;> intro x <;>
      obtain ⟨r, d, rfl⟩ : ∃ (r : Fin 512) (d : Fin 1024), x = ix2 r d := ⟨x 0, x 1, eq_ix2 x⟩
    · exact (h2 r d).trans ((val 2 r d).symm.trans (congrArg (fun y : S512x3072.Idx => G (thirdOf (y 1)) (y 0) (inThird (y 1)))
        (emb 2 inb_S512x3072_S512x1024_0_2048 r d)).symm)
    · exact (h1 r d).trans ((val 1 r d).symm.trans (congrArg (fun y : S512x3072.Idx => G (thirdOf (y 1)) (y 0) (inThird (y 1)))
        (emb 1 inb_S512x3072_S512x1024_0_1024 r d)).symm)
    · exact (h0 r d).trans ((val 0 r d).symm.trans (congrArg (fun y : S512x3072.Idx => G (thirdOf (y 1)) (y 0) (inThird (y 1)))
        (emb 0 inb_S512x3072_S512x1024_0_0 r d)).symm)
  · have mem : ∀ (o : ℕ) (inb), o ≤ (y 1).val → (y 1).val < o + 1024 →
        y ∈ (Rect.unit (s := S512x3072) ![0, o] S512x1024.size inb).set := by
      intro o inb ha hb
      rw [Rect.mem_set_unit]
      intro a
      match a with
      | ⟨0, _⟩ => exact ⟨Nat.zero_le _, by show (y 0).val < 0 + 512; omega⟩
      | ⟨1, _⟩ => exact ⟨ha, hb⟩
    by_cases c2 : 2048 ≤ (y 1).val
    · exact ⟨_, List.mem_cons_self, mem 2048 inb_S512x3072_S512x1024_0_2048 c2 (by omega)⟩
    by_cases c1 : 1024 ≤ (y 1).val
    · exact ⟨_, List.mem_cons_of_mem _ List.mem_cons_self, mem 1024 inb_S512x3072_S512x1024_0_1024 c1 (by omega)⟩
    · exact ⟨_, List.mem_cons_of_mem _ (List.mem_cons_of_mem _ List.mem_cons_self),
        mem 0 inb_S512x3072_S512x1024_0_0 (Nat.zero_le _) (by omega)⟩

section
variable (y0 y1 y2 : Vec Ideal S512x512 .bf16) (w0 w1 w2 : Vec Ideal S512x1024 .bf16) (z : Vec Ideal S512x3072 .f32)
  (g : Vec Ideal S512x1024 .f32) (p : Vec Ideal S512x1024 .bf16) (r : Fin 512) (d : Fin 1024)

theorem pay0_2_apply : k0_pay2 y0 w0 (ix2 r d) = nnAt y0 w0 r d := by
  unfold k0_pay2
  pointwise
  rfl

theorem out0_8_eq : out0_8 y0 y1 y2 w0 w1 w2 z (ix2 r d) = nnAt y0 w0 r d := by
  unfold out0_8
  rw [View.canon_cons_unit_zero hz2, View.ld_unit_zero hz2, View.ld_unit_zero hz2]
  exact pay0_2_apply y0 w0 r d
theorem out0_9_eq : out0_9 y0 y1 y2 w0 w1 w2 z (ix2 r d) = nnAt y1 w1 r d := by
  unfold out0_9
  rw [View.canon_cons_unit_zero hz2, View.ld_unit_zero hz2, View.ld_unit_zero hz2]
  exact pay0_2_apply y1 w1 r d
theorem out0_10_eq : out0_10 y0 y1 y2 w0 w1 w2 z (ix2 r d) = nnAt y2 w2 r d := by
  unfold out0_10
  rw [View.canon_cons_unit_zero hz2, View.ld_unit_zero hz2, View.ld_unit_zero hz2]
  exact pay0_2_apply y2 w2 r d

/-- A gate of the block. -/
abbrev bsig (j : Fin 3) : EReal := Ideal.logistic (z (ix2 r (third j d)))

theorem pay0_1_apply (g0 g1 g2 : Vec Ideal S512x1024 .f32) :
    k0_pay1 (k0_pay6 y0 w0 g0 y1 w1 g1) (k0_pay7 y2 w2) g2 (ix2 r d)
      = Ideal.logistic (g0 (ix2 r d)) * nnAt y0 w0 r d + Ideal.logistic (g1 (ix2 r d)) * nnAt y1 w1 r d
        + Ideal.logistic (g2 (ix2 r d)) * nnAt y2 w2 r d := by
  have e4 : k0_pay4 y1 w1 = k0_pay2 (F := Ideal) y1 w1 := rfl
  have e7 : k0_pay7 y2 w2 = k0_pay2 (F := Ideal) y2 w2 := rfl
  unfold k0_pay1 k0_pay6
  rw [e4, e7]
  pointwise
  simp only [pay0_2_apply, zero_add]

theorem out0_7_eq : out0_7 y0 y1 y2 w0 w1 w2 z (ix2 r d)
    = bsig z r d 0 * nnAt y0 w0 r d + bsig z r d 1 * nnAt y1 w1 r d + bsig z r d 2 * nnAt y2 w2 r d := by
  unfold out0_7
  rw [View.canon_cons_unit_zero hz2]
  simp only [View.ld_unit_zero (S := S512x512) hz2, View.ld_unit_zero (S := S512x1024) hz2]
  refine (pay0_1_apply y0 y1 y2 w0 w1 w2 r d _ _ _).trans ?_
  exact congrArg₂ (fun a b : EReal => a + b) (congrArg₂ (fun a b : EReal => a + b)
    (congrArg (fun a : EReal => Ideal.logistic a * nnAt y0 w0 r d) (ld_third z 0 inb_S512x3072_S512x1024_0_0 r d))
    (congrArg (fun a : EReal => Ideal.logistic a * nnAt y1 w1 r d) (ld_third z 1 inb_S512x3072_S512x1024_0_1024 r d)))
    (congrArg (fun a : EReal => Ideal.logistic a * nnAt y2 w2 r d) (ld_third z 2 inb_S512x3072_S512x1024_0_2048 r d))

theorem pay4_6_apply (s : Vec Ideal S512x1024 .f32) : k4_pay6 g s (ix2 r d) = g (ix2 r d) * Ideal.logistic (s (ix2 r d)) := by
  unfold k4_pay6 k4_pay5 k4_pay4
  pointwise

theorem pay4_7_apply (s : Vec Ideal S512x1024 .f32) : k4_pay7 g s p (ix2 r d)
    = g (ix2 r d) * p (ix2 r d) * Ideal.logistic (s (ix2 r d)) * (Ideal.ofBits .f32 0x3F800000#32 - Ideal.logistic (s (ix2 r d))) := by
  unfold k4_pay7 k4_pay5 k4_pay4
  pointwise

variable (p0 p1 p2 : Vec Ideal S512x1024 .bf16)

theorem out4_5_eq : out4_5 g p0 p1 p2 z (ix2 r d) = g (ix2 r d) * bsig z r d 0 := by
  unfold out4_5
  rw [View.canon_cons_unit_zero hz2, View.ld_unit_zero (S := S512x1024) hz2, pay4_6_apply]
  exact congrArg (fun x : EReal => g (ix2 r d) * Ideal.logistic x) (ld_third z 0 inb_S512x3072_S512x1024_0_0 r d)
theorem out4_6_eq : out4_6 g p0 p1 p2 z (ix2 r d) = g (ix2 r d) * bsig z r d 1 := by
  unfold out4_6
  rw [View.canon_cons_unit_zero hz2, View.ld_unit_zero (S := S512x1024) hz2]
  refine (pay4_6_apply g r d _).trans ?_
  exact congrArg (fun x : EReal => g (ix2 r d) * Ideal.logistic x) (ld_third z 1 inb_S512x3072_S512x1024_0_1024 r d)
theorem out4_7_eq : out4_7 g p0 p1 p2 z (ix2 r d) = g (ix2 r d) * bsig z r d 2 := by
  unfold out4_7 k4_pay11
  rw [View.canon_cons_unit_zero hz2, View.ld_unit_zero (S := S512x1024) hz2]
  refine (pay4_6_apply g r d _).trans ?_
  exact congrArg (fun x : EReal => g (ix2 r d) * Ideal.logistic x) (ld_third z 2 inb_S512x3072_S512x1024_0_2048 r d)

/-- The gates' gradient in a block. -/
def bdg (j : Fin 3) (r : Fin 512) (d : Fin 1024) : EReal :=
  g (ix2 r d) * pick p0 p1 p2 j (ix2 r d) * bsig z r d j * (Ideal.ofBits .f32 0x3F800000#32 - bsig z r d j)

theorem out4_8_eq : out4_8 g p0 p1 p2 z = fun y => bdg z g p0 p1 p2 (thirdOf (y 1)) (y 0) (inThird (y 1)) := by
  unfold out4_8 k4_pay11
  simp only [View.ld_unit_zero (S := S512x1024) hz2]
  refine thirds _ _ _ (bdg z g p0 p1 p2) (fun r d => ?_) (fun r d => ?_) (fun r d => ?_)
  · refine (pay4_7_apply g p0 r d _).trans ?_
    rw [show View.ld z (Rect.unit ![0, 0] S512x1024.size inb_S512x3072_S512x1024_0_0) (ix2 r d) = _ from ld_third z 0 _ r d]
    rfl
  · refine (pay4_7_apply g p1 r d _).trans ?_
    rw [show View.ld z (Rect.unit ![0, 1024] S512x1024.size inb_S512x3072_S512x1024_0_1024) (ix2 r d) = _ from ld_third z 1 _ r d]
    rfl
  · refine (pay4_7_apply g p2 r d _).trans ?_
    rw [show View.ld z (Rect.unit ![0, 2048] S512x1024.size inb_S512x3072_S512x1024_0_2048) (ix2 r d) = _ from ld_third z 2 _ r d]
    rfl
end

variable (V : (c : Dev nD) → (b : Ref sig .tc) → Buf (Elt Ideal) ((c : Thread nD τ).loc b)) (c : Dev nD)

/-! ## Region 0 -/

theorem idx0 : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, _)

theorem lt0 (t : Fin cfg0.N) : t.val < 8 := lt_of_lt_of_eq t.isLt N_0

theorem iblk0_0 (t : Fin cfg0.N) (r : Fin 512) (d : Fin 512) : (iblk0 V c 0 t : Vec Ideal S512x512 .bf16) (ix2 r d)
    = (V c main_v2 : Vec Ideal S4096x512 .bf16) (ix2 (⟨512 * t.val + r.val, by have := lt0 t; omega⟩ : Fin 4096) (d : Fin 512)) :=
  have e := (idx0 t).1
  (View.read_apply ..).trans (congrArg (V c main_v2) (Shape.idx_ext₂ (tile (congrFun e 0)) (tile0 (congrFun e 1))))

theorem iblk0_1 (t : Fin cfg0.N) (r : Fin 512) (d : Fin 512) : (iblk0 V c 1 t : Vec Ideal S512x512 .bf16) (ix2 r d)
    = (V c main_v3 : Vec Ideal S4096x512 .bf16) (ix2 (⟨512 * t.val + r.val, by have := lt0 t; omega⟩ : Fin 4096) (d : Fin 512)) :=
  have e := (idx0 t).2.1
  (View.read_apply ..).trans (congrArg (V c main_v3) (Shape.idx_ext₂ (tile (congrFun e 0)) (tile0 (congrFun e 1))))

theorem iblk0_2 (t : Fin cfg0.N) (r : Fin 512) (d : Fin 512) : (iblk0 V c 2 t : Vec Ideal S512x512 .bf16) (ix2 r d)
    = (V c main_v4 : Vec Ideal S4096x512 .bf16) (ix2 (⟨512 * t.val + r.val, by have := lt0 t; omega⟩ : Fin 4096) (d : Fin 512)) :=
  have e := (idx0 t).2.2.1
  (View.read_apply ..).trans (congrArg (V c main_v4) (Shape.idx_ext₂ (tile (congrFun e 0)) (tile0 (congrFun e 1))))

theorem iblk0_3 (t : Fin cfg0.N) (r : Fin 512) (d : Fin 1024) : (iblk0 V c 3 t : Vec Ideal S512x1024 .bf16) (ix2 r d)
    = (V c main_v5 : Vec Ideal S512x1024 .bf16) (ix2 (r : Fin 512) (d : Fin 1024)) :=
  have e := (idx0 t).2.2.2.1
  (View.read_apply ..).trans (congrArg (V c main_v5) (Shape.idx_ext₂ (tile0 (congrFun e 0)) (tile0 (congrFun e 1))))

theorem iblk0_4 (t : Fin cfg0.N) (r : Fin 512) (d : Fin 1024) : (iblk0 V c 4 t : Vec Ideal S512x1024 .bf16) (ix2 r d)
    = (V c main_v6 : Vec Ideal S512x1024 .bf16) (ix2 (r : Fin 512) (d : Fin 1024)) :=
  have e := (idx0 t).2.2.2.2.1
  (View.read_apply ..).trans (congrArg (V c main_v6) (Shape.idx_ext₂ (tile0 (congrFun e 0)) (tile0 (congrFun e 1))))

theorem iblk0_5 (t : Fin cfg0.N) (r : Fin 512) (d : Fin 1024) : (iblk0 V c 5 t : Vec Ideal S512x1024 .bf16) (ix2 r d)
    = (V c main_v7 : Vec Ideal S512x1024 .bf16) (ix2 (r : Fin 512) (d : Fin 1024)) :=
  have e := (idx0 t).2.2.2.2.2.1
  (View.read_apply ..).trans (congrArg (V c main_v7) (Shape.idx_ext₂ (tile0 (congrFun e 0)) (tile0 (congrFun e 1))))

theorem iblk0_6 (t : Fin cfg0.N) (r : Fin 512) (d : Fin 3072) : (iblk0 V c 6 t : Vec Ideal S512x3072 .f32) (ix2 r d)
    = (V c main_v1 : Vec Ideal S4096x9216 .f32) (ix2 (⟨512 * t.val + r.val, by have := lt0 t; omega⟩ : Fin 4096) (⟨d.val, by omega⟩ : Fin 9216)) :=
  have e := (idx0 t).2.2.2.2.2.2.1
  (View.read_apply ..).trans (congrArg (V c main_v1) (Shape.idx_ext₂ (tile (congrFun e 0)) (tile0 (congrFun e 1))))

theorem emb0_7 (t : Fin cfg0.N) (r : Fin 512) (d : Fin 1024) :
    ((cfg0.win 7).blk t).view.emb (ix2 r d) = ix2 (⟨512 * t.val + r.val, by have := lt0 t; omega⟩ : Fin 4096) (d : Fin 1024) :=
  have e := (idx0 t).2.2.2.2.2.2.2.1
  Shape.idx_ext₂ (tile (congrFun e 0)) (tile0 (congrFun e 1))

theorem emb0_8 (t : Fin cfg0.N) (r : Fin 512) (d : Fin 1024) :
    ((cfg0.win 8).blk t).view.emb (ix2 r d) = ix2 (⟨512 * t.val + r.val, by have := lt0 t; omega⟩ : Fin 4096) (d : Fin 1024) :=
  have e := (idx0 t).2.2.2.2.2.2.2.2.1
  Shape.idx_ext₂ (tile (congrFun e 0)) (tile0 (congrFun e 1))

theorem emb0_9 (t : Fin cfg0.N) (r : Fin 512) (d : Fin 1024) :
    ((cfg0.win 9).blk t).view.emb (ix2 r d) = ix2 (⟨512 * t.val + r.val, by have := lt0 t; omega⟩ : Fin 4096) (d : Fin 1024) :=
  have e := (idx0 t).2.2.2.2.2.2.2.2.2.1
  Shape.idx_ext₂ (tile (congrFun e 0)) (tile0 (congrFun e 1))

theorem emb0_10 (t : Fin cfg0.N) (r : Fin 512) (d : Fin 1024) :
    ((cfg0.win 10).blk t).view.emb (ix2 r d) = ix2 (⟨512 * t.val + r.val, by have := lt0 t; omega⟩ : Fin 4096) (d : Fin 1024) :=
  have e := (idx0 t).2.2.2.2.2.2.2.2.2.2
  Shape.idx_ext₂ (tile (congrFun e 0)) (tile0 (congrFun e 1))

theorem final0_7 : (dat0 V c).arrAt 7 cfg0.N = (fun i => mixAt (V c main_v2 : Vec Ideal S4096x512 .bf16) (V c main_v3 : Vec Ideal S4096x512 .bf16) (V c main_v4 : Vec Ideal S4096x512 .bf16) (V c main_v5 : Vec Ideal S512x1024 .bf16) (V c main_v6 : Vec Ideal S512x1024 .bf16) (V c main_v7 : Vec Ideal S512x1024 .bf16) (V c main_v1 : Vec Ideal S4096x9216 .f32) (i 0) (i 1) : Vec Ideal S4096x1024 .bf16) := by
  refine (dat0 V c).arrAt_eq_of_cover 7 _ (fun t _ => ?_) (Pipeline.Window.Covers.cover _ (by decide +kernel) (Memref.isWhole_whole _))
  show (cfg0.win 7).cut (grid0.coords t) ((dat0 V c).after 7 t) = _
  rw [after0_7]
  funext y
  obtain ⟨r, d, rfl⟩ : ∃ (r : Fin 512) (d : Fin 1024), y = ix2 r d := ⟨y 0, y 1, eq_ix2 y⟩
  rw [View.read_apply, emb0_7]
  refine (out0_7_eq _ _ _ _ _ _ _ r d).trans ?_
  simp only [nnAt, bsig, iblk0_0, iblk0_1, iblk0_2, iblk0_3, iblk0_4, iblk0_5, iblk0_6]
  rfl

theorem final0_8 : (dat0 V c).arrAt 8 cfg0.N = (fun i => nnAt (V c main_v2 : Vec Ideal S4096x512 .bf16) (V c main_v5 : Vec Ideal S512x1024 .bf16) (i 0) (i 1) : Vec Ideal S4096x1024 .bf16) := by
  refine (dat0 V c).arrAt_eq_of_cover 8 _ (fun t _ => ?_) (Pipeline.Window.Covers.cover _ (by decide +kernel) (Memref.isWhole_whole _))
  show (cfg0.win 8).cut (grid0.coords t) ((dat0 V c).after 8 t) = _
  rw [after0_8]
  funext y
  obtain ⟨r, d, rfl⟩ : ∃ (r : Fin 512) (d : Fin 1024), y = ix2 r d := ⟨y 0, y 1, eq_ix2 y⟩
  rw [View.read_apply, emb0_8]
  refine (out0_8_eq _ _ _ _ _ _ _ r d).trans ?_
  exact nnAt_congr (fun e => iblk0_0 V c t r e) (fun e => iblk0_3 V c t e d)

theorem final0_9 : (dat0 V c).arrAt 9 cfg0.N = (fun i => nnAt (V c main_v3 : Vec Ideal S4096x512 .bf16) (V c main_v6 : Vec Ideal S512x1024 .bf16) (i 0) (i 1) : Vec Ideal S4096x1024 .bf16) := by
  refine (dat0 V c).arrAt_eq_of_cover 9 _ (fun t _ => ?_) (Pipeline.Window.Covers.cover _ (by decide +kernel) (Memref.isWhole_whole _))
  show (cfg0.win 9).cut (grid0.coords t) ((dat0 V c).after 9 t) = _
  rw [after0_9]
  funext y
  obtain ⟨r, d, rfl⟩ : ∃ (r : Fin 512) (d : Fin 1024), y = ix2 r d := ⟨y 0, y 1, eq_ix2 y⟩
  rw [View.read_apply, emb0_9]
  refine (out0_9_eq _ _ _ _ _ _ _ r d).trans ?_
  exact nnAt_congr (fun e => iblk0_1 V c t r e) (fun e => iblk0_4 V c t e d)

theorem final0_10 : (dat0 V c).arrAt 10 cfg0.N = (fun i => nnAt (V c main_v4 : Vec Ideal S4096x512 .bf16) (V c main_v7 : Vec Ideal S512x1024 .bf16) (i 0) (i 1) : Vec Ideal S4096x1024 .bf16) := by
  refine (dat0 V c).arrAt_eq_of_cover 10 _ (fun t _ => ?_) (Pipeline.Window.Covers.cover _ (by decide +kernel) (Memref.isWhole_whole _))
  show (cfg0.win 10).cut (grid0.coords t) ((dat0 V c).after 10 t) = _
  rw [after0_10]
  funext y
  obtain ⟨r, d, rfl⟩ : ∃ (r : Fin 512) (d : Fin 1024), y = ix2 r d := ⟨y 0, y 1, eq_ix2 y⟩
  rw [View.read_apply, emb0_10]
  refine (out0_10_eq _ _ _ _ _ _ _ r d).trans ?_
  exact nnAt_congr (fun e => iblk0_2 V c t r e) (fun e => iblk0_5 V c t e d)

/-! ## Region 4 -/

theorem idx4 : ∀ t : Fin cfg4.N, win4_0.index t = ![t.val, 0] ∧ win4_1.index t = ![t.val, 0] ∧ win4_2.index t = ![t.val, 0] ∧ win4_3.index t = ![t.val, 0] ∧ win4_4.index t = ![t.val, 0] ∧ win4_5.index t = ![t.val, 0] ∧ win4_6.index t = ![t.val, 0] ∧ win4_7.index t = ![t.val, 0] ∧ win4_8.index t = ![t.val, 0] :=
  (by decide +kernel : ∀ t : Fin grid4.N, _)

theorem lt4 (t : Fin cfg4.N) : t.val < 8 := lt_of_lt_of_eq t.isLt N_4

theorem iblk4_0 (t : Fin cfg4.N) (r : Fin 512) (d : Fin 1024) : (iblk4 V c 0 t : Vec Ideal S512x1024 .f32) (ix2 r d)
    = (V c main_v11 : Vec Ideal S4096x1024 .f32) (ix2 (⟨512 * t.val + r.val, by have := lt4 t; omega⟩ : Fin 4096) (d : Fin 1024)) :=
  have e := (idx4 t).1
  (View.read_apply ..).trans (congrArg (V c main_v11) (Shape.idx_ext₂ (tile (congrFun e 0)) (tile0 (congrFun e 1))))

theorem iblk4_1 (t : Fin cfg4.N) (r : Fin 512) (d : Fin 1024) : (iblk4 V c 1 t : Vec Ideal S512x1024 .bf16) (ix2 r d)
    = (V c main_v9_1 : Vec Ideal S4096x1024 .bf16) (ix2 (⟨512 * t.val + r.val, by have := lt4 t; omega⟩ : Fin 4096) (d : Fin 1024)) :=
  have e := (idx4 t).2.1
  (View.read_apply ..).trans (congrArg (V c main_v9_1) (Shape.idx_ext₂ (tile (congrFun e 0)) (tile0 (congrFun e 1))))

theorem iblk4_2 (t : Fin cfg4.N) (r : Fin 512) (d : Fin 1024) : (iblk4 V c 2 t : Vec Ideal S512x1024 .bf16) (ix2 r d)
    = (V c main_v9_2 : Vec Ideal S4096x1024 .bf16) (ix2 (⟨512 * t.val + r.val, by have := lt4 t; omega⟩ : Fin 4096) (d : Fin 1024)) :=
  have e := (idx4 t).2.2.1
  (View.read_apply ..).trans (congrArg (V c main_v9_2) (Shape.idx_ext₂ (tile (congrFun e 0)) (tile0 (congrFun e 1))))

theorem iblk4_3 (t : Fin cfg4.N) (r : Fin 512) (d : Fin 1024) : (iblk4 V c 3 t : Vec Ideal S512x1024 .bf16) (ix2 r d)
    = (V c main_v9_3 : Vec Ideal S4096x1024 .bf16) (ix2 (⟨512 * t.val + r.val, by have := lt4 t; omega⟩ : Fin 4096) (d : Fin 1024)) :=
  have e := (idx4 t).2.2.2.1
  (View.read_apply ..).trans (congrArg (V c main_v9_3) (Shape.idx_ext₂ (tile (congrFun e 0)) (tile0 (congrFun e 1))))

theorem iblk4_4 (t : Fin cfg4.N) (r : Fin 512) (d : Fin 3072) : (iblk4 V c 4 t : Vec Ideal S512x3072 .f32) (ix2 r d)
    = (V c main_v1 : Vec Ideal S4096x9216 .f32) (ix2 (⟨512 * t.val + r.val, by have := lt4 t; omega⟩ : Fin 4096) (⟨d.val, by omega⟩ : Fin 9216)) :=
  have e := (idx4 t).2.2.2.2.1
  (View.read_apply ..).trans (congrArg (V c main_v1) (Shape.idx_ext₂ (tile (congrFun e 0)) (tile0 (congrFun e 1))))

theorem emb4_5 (t : Fin cfg4.N) (r : Fin 512) (d : Fin 1024) :
    ((cfg4.win 5).blk t).view.emb (ix2 r d) = ix2 (⟨512 * t.val + r.val, by have := lt4 t; omega⟩ : Fin 4096) (d : Fin 1024) :=
  have e := (idx4 t).2.2.2.2.2.1
  Shape.idx_ext₂ (tile (congrFun e 0)) (tile0 (congrFun e 1))

theorem emb4_6 (t : Fin cfg4.N) (r : Fin 512) (d : Fin 1024) :
    ((cfg4.win 6).blk t).view.emb (ix2 r d) = ix2 (⟨512 * t.val + r.val, by have := lt4 t; omega⟩ : Fin 4096) (d : Fin 1024) :=
  have e := (idx4 t).2.2.2.2.2.2.1
  Shape.idx_ext₂ (tile (congrFun e 0)) (tile0 (congrFun e 1))

theorem emb4_7 (t : Fin cfg4.N) (r : Fin 512) (d : Fin 1024) :
    ((cfg4.win 7).blk t).view.emb (ix2 r d) = ix2 (⟨512 * t.val + r.val, by have := lt4 t; omega⟩ : Fin 4096) (d : Fin 1024) :=
  have e := (idx4 t).2.2.2.2.2.2.2.1
  Shape.idx_ext₂ (tile (congrFun e 0)) (tile0 (congrFun e 1))

theorem emb4_8 (t : Fin cfg4.N) (r : Fin 512) (d : Fin 3072) :
    ((cfg4.win 8).blk t).view.emb (ix2 r d) = ix2 (⟨512 * t.val + r.val, by have := lt4 t; omega⟩ : Fin 4096) (d : Fin 3072) :=
  have e := (idx4 t).2.2.2.2.2.2.2.2
  Shape.idx_ext₂ (tile (congrFun e 0)) (tile0 (congrFun e 1))

theorem final4_5 : (dat4 V c).arrAt 5 cfg4.N = (fun i => dAt (V c main_v11 : Vec Ideal S4096x1024 .f32) (V c main_v1 : Vec Ideal S4096x9216 .f32) 0 (i 0) (i 1) : Vec Ideal S4096x1024 .bf16) := by
  refine (dat4 V c).arrAt_eq_of_cover 5 _ (fun t _ => ?_) (Pipeline.Window.Covers.cover _ (by decide +kernel) (Memref.isWhole_whole _))
  show (cfg4.win 5).cut (grid4.coords t) ((dat4 V c).after 5 t) = _
  rw [after4_5]
  funext y
  obtain ⟨r, d, rfl⟩ : ∃ (r : Fin 512) (d : Fin 1024), y = ix2 r d := ⟨y 0, y 1, eq_ix2 y⟩
  rw [View.read_apply, emb4_5]
  refine (out4_5_eq _ _ r d _ _ _).trans ?_
  simp only [bsig, iblk4_0, iblk4_4]
  rfl

theorem final4_6 : (dat4 V c).arrAt 6 cfg4.N = (fun i => dAt (V c main_v11 : Vec Ideal S4096x1024 .f32) (V c main_v1 : Vec Ideal S4096x9216 .f32) 1 (i 0) (i 1) : Vec Ideal S4096x1024 .bf16) := by
  refine (dat4 V c).arrAt_eq_of_cover 6 _ (fun t _ => ?_) (Pipeline.Window.Covers.cover _ (by decide +kernel) (Memref.isWhole_whole _))
  show (cfg4.win 6).cut (grid4.coords t) ((dat4 V c).after 6 t) = _
  rw [after4_6]
  funext y
  obtain ⟨r, d, rfl⟩ : ∃ (r : Fin 512) (d : Fin 1024), y = ix2 r d := ⟨y 0, y 1, eq_ix2 y⟩
  rw [View.read_apply, emb4_6]
  refine (out4_6_eq _ _ r d _ _ _).trans ?_
  simp only [bsig, iblk4_0, iblk4_4]
  rfl

theorem final4_7 : (dat4 V c).arrAt 7 cfg4.N = (fun i => dAt (V c main_v11 : Vec Ideal S4096x1024 .f32) (V c main_v1 : Vec Ideal S4096x9216 .f32) 2 (i 0) (i 1) : Vec Ideal S4096x1024 .bf16) := by
  refine (dat4 V c).arrAt_eq_of_cover 7 _ (fun t _ => ?_) (Pipeline.Window.Covers.cover _ (by decide +kernel) (Memref.isWhole_whole _))
  show (cfg4.win 7).cut (grid4.coords t) ((dat4 V c).after 7 t) = _
  rw [after4_7]
  funext y
  obtain ⟨r, d, rfl⟩ : ∃ (r : Fin 512) (d : Fin 1024), y = ix2 r d := ⟨y 0, y 1, eq_ix2 y⟩
  rw [View.read_apply, emb4_7]
  refine (out4_7_eq _ _ r d _ _ _).trans ?_
  simp only [bsig, iblk4_0, iblk4_4]
  rfl

theorem final4_8 : (dat4 V c).arrAt 8 cfg4.N = (fun i => dgAt (V c main_v11 : Vec Ideal S4096x1024 .f32) (V c main_v9_1 : Vec Ideal S4096x1024 .bf16) (V c main_v9_2 : Vec Ideal S4096x1024 .bf16) (V c main_v9_3 : Vec Ideal S4096x1024 .bf16) (V c main_v1 : Vec Ideal S4096x9216 .f32) (thirdOf (i 1)) (i 0) (inThird (i 1)) : Vec Ideal S4096x3072 .bf16) := by
  refine (dat4 V c).arrAt_eq_of_cover 8 _ (fun t _ => ?_) (Pipeline.Window.Covers.cover _ (by decide +kernel) (Memref.isWhole_whole _))
  show (cfg4.win 8).cut (grid4.coords t) ((dat4 V c).after 8 t) = _
  rw [after4_8]
  funext y
  obtain ⟨r, d, rfl⟩ : ∃ (r : Fin 512) (d : Fin 3072), y = ix2 r d := ⟨y 0, y 1, eq_ix2 y⟩
  rw [View.read_apply, emb4_8, out4_8_eq]
  show bdg _ _ _ _ _ (thirdOf d) r (inThird d) = dgAt _ _ _ _ _ (thirdOf d) _ (inThird d)
  generalize thirdOf d = j
  generalize inThird d = x
  unfold bdg dgAt
  fin_cases j <;> simp only [pick, bsig, iblk4_0, iblk4_1, iblk4_2, iblk4_3, iblk4_4] <;> rfl

end Cert.Kernel3Ideal.Merge

end
-- ==== Proof.MergeProd.lean ====
/-
  The merge's products: the output projection with the residual, its two gradients, and each branch's two gradients
  (`final1`, `final2`, `final3`, `final5` … `final10`: the arrays the nine regions leave, over the arrays they read).
-/
module

public import proofs.«01_k».proof.Proof.Mat
public import proofs.«01_k».proof.Proof.Gen.Kernel3Ideal.Frame.Region1
public import proofs.«01_k».proof.Proof.Gen.Kernel3Ideal.Frame.Region2
public import proofs.«01_k».proof.Proof.Gen.Kernel3Ideal.Frame.Region3
public import proofs.«01_k».proof.Proof.Gen.Kernel3Ideal.Frame.Region5
public import proofs.«01_k».proof.Proof.Gen.Kernel3Ideal.Frame.Region6
public import proofs.«01_k».proof.Proof.Gen.Kernel3Ideal.Frame.Region7
public import proofs.«01_k».proof.Proof.Gen.Kernel3Ideal.Frame.Region8
public import proofs.«01_k».proof.Proof.Gen.Kernel3Ideal.Frame.Region9
public import proofs.«01_k».proof.Proof.Gen.Kernel3Ideal.Frame.Region10
public import Idealize.ShloMosaic.Lib.Pointwise
public import Idealize.ShloMosaic.Lib.Pipeline.Value
public import Idealize.ShloMosaic.Lib.Pipeline.ValueKit
public import Idealize.ShloMosaic.Lib.Tactic

@[expose] public section

set_option maxRecDepth 16384

noncomputable section

namespace Cert.Kernel3Ideal.Merge

open Idealize.ShloMosaic Idealize.ShloMosaic.TcCoe Idealize.SL.Sem Idealize.ShloMosaic.Tactic
open Idealize.ShloMosaic.Pipeline (Dat)
open Cert.Kernel3Ideal Cert.Kernel3Ideal.Gen Cert.Mat

/-- The output projection and the residual. -/
def outAt (A : M 4096 1024) (B : M 1024 1024) (X : M 4096 1024) (r : Fin 4096) (d : Fin 1024) : EReal := nnAt A B r d + X (ix2 r d)

theorem pay1_apply (a : Vec Ideal S512x1024 .bf16) (b : Vec Ideal S1024x1024 .bf16) (x : Vec Ideal S512x1024 .f32) (r : Fin 512) (d : Fin 1024) :
    k1_pay1 a b x (ix2 r d) = nnAt a b r d + x (ix2 r d) := by
  unfold k1_pay1
  pointwise
  rfl

theorem out1_eq (a : Vec Ideal S512x1024 .bf16) (b : Vec Ideal S1024x1024 .bf16) (x : Vec Ideal S512x1024 .f32) : out1_3 a b x = k1_pay1 a b x := by
  unfold out1_3
  rw [View.canon_cons_unit_zero hz2]
  simp only [View.ld_unit_zero (S := S512x1024) hz2, View.ld_unit_zero (S := S1024x1024) hz2]

theorem pay2_apply (a : Vec Ideal S512x1024 .f32) (b : Vec Ideal S512x1024 .bf16) (r : Fin 512) (d : Fin 512) :
    k2_pay1 a b (ix2 r d) = ntAt a b r d := by
  unfold k2_pay1
  pointwise
  rfl

theorem out2_eq (a : Vec Ideal S512x1024 .f32) (b : Vec Ideal S512x1024 .bf16) : out2_2 a b = k2_pay1 a b := by
  unfold out2_2
  rw [View.canon_cons_unit_zero hz2, View.ld_unit_zero hz2, View.ld_unit_zero hz2]

theorem pay3_apply (a : Vec Ideal S4096x1024 .bf16) (b : Vec Ideal S4096x256 .f32) (r : Fin 1024) (d : Fin 256) :
    k3_pay1 a b (ix2 r d) = tnAt a b r d := by
  unfold k3_pay1
  pointwise
  rfl

theorem out3_eq (a : Vec Ideal S4096x1024 .bf16) (b : Vec Ideal S4096x256 .f32) : out3_2 a b = k3_pay1 a b := by
  unfold out3_2
  rw [View.canon_cons_unit_zero hz2, View.ld_unit_zero hz2, View.ld_unit_zero hz2]

theorem pay5_apply (a : Vec Ideal S512x1024 .bf16) (b : Vec Ideal S512x1024 .bf16) (r : Fin 512) (d : Fin 512) :
    k5_pay1 a b (ix2 r d) = ntAt a b r d := by
  unfold k5_pay1
  pointwise
  rfl

theorem out5_eq (a : Vec Ideal S512x1024 .bf16) (b : Vec Ideal S512x1024 .bf16) : out5_2 a b = k5_pay1 a b := by
  unfold out5_2
  rw [View.canon_cons_unit_zero hz2, View.ld_unit_zero hz2, View.ld_unit_zero hz2]

theorem pay6_apply (a : Vec Ideal S4096x512 .bf16) (b : Vec Ideal S4096x512 .bf16) (r : Fin 512) (d : Fin 512) :
    k6_pay1 a b (ix2 r d) = tnAt a b r d := by
  unfold k6_pay1
  pointwise
  rfl

theorem out6_eq (a : Vec Ideal S4096x512 .bf16) (b : Vec Ideal S4096x512 .bf16) : out6_2 a b = k6_pay1 a b := by
  unfold out6_2
  rw [View.canon_cons_unit_zero hz2, View.ld_unit_zero hz2, View.ld_unit_zero hz2]

theorem pay7_apply (a : Vec Ideal S512x1024 .bf16) (b : Vec Ideal S512x1024 .bf16) (r : Fin 512) (d : Fin 512) :
    k7_pay1 a b (ix2 r d) = ntAt a b r d := by
  unfold k7_pay1
  pointwise
  rfl

theorem out7_eq (a : Vec Ideal S512x1024 .bf16) (b : Vec Ideal S512x1024 .bf16) : out7_2 a b = k7_pay1 a b := by
  unfold out7_2
  rw [View.canon_cons_unit_zero hz2, View.ld_unit_zero hz2, View.ld_unit_zero hz2]

theorem pay8_apply (a : Vec Ideal S4096x512 .bf16) (b : Vec Ideal S4096x512 .bf16) (r : Fin 512) (d : Fin 512) :
    k8_pay1 a b (ix2 r d) = tnAt a b r d := by
  unfold k8_pay1
  pointwise
  rfl

theorem out8_eq (a : Vec Ideal S4096x512 .bf16) (b : Vec Ideal S4096x512 .bf16) : out8_2 a b = k8_pay1 a b := by
  unfold out8_2
  rw [View.canon_cons_unit_zero hz2, View.ld_unit_zero hz2, View.ld_unit_zero hz2]

theorem pay9_apply (a : Vec Ideal S512x1024 .bf16) (b : Vec Ideal S512x1024 .bf16) (r : Fin 512) (d : Fin 512) :
    k9_pay1 a b (ix2 r d) = ntAt a b r d := by
  unfold k9_pay1
  pointwise
  rfl

theorem out9_eq (a : Vec Ideal S512x1024 .bf16) (b : Vec Ideal S512x1024 .bf16) : out9_2 a b = k9_pay1 a b := by
  unfold out9_2
  rw [View.canon_cons_unit_zero hz2, View.ld_unit_zero hz2, View.ld_unit_zero hz2]

theorem pay10_apply (a : Vec Ideal S4096x512 .bf16) (b : Vec Ideal S4096x512 .bf16) (r : Fin 512) (d : Fin 512) :
    k10_pay1 a b (ix2 r d) = tnAt a b r d := by
  unfold k10_pay1
  pointwise
  rfl

theorem out10_eq (a : Vec Ideal S4096x512 .bf16) (b : Vec Ideal S4096x512 .bf16) : out10_2 a b = k10_pay1 a b := by
  unfold out10_2
  rw [View.canon_cons_unit_zero hz2, View.ld_unit_zero hz2, View.ld_unit_zero hz2]

variable (V : (c : Dev nD) → (b : Ref sig .tc) → Buf (Elt Ideal) ((c : Thread nD τ).loc b)) (c : Dev nD)

/-! ## Region 1 -/

theorem idx1 : ∀ t : Fin cfg1.N, win1_0.index t = ![t.val, 0] ∧ win1_1.index t = ![0, 0] ∧ win1_2.index t = ![t.val, 0] ∧ win1_3.index t = ![t.val, 0] :=
  (by decide +kernel : ∀ t : Fin grid1.N, _)

theorem lt1 (t : Fin cfg1.N) : t.val < 8 := lt_of_lt_of_eq t.isLt N_1

theorem iblk1_0 (t : Fin cfg1.N) (r : Fin 512) (d : Fin 1024) : (iblk1 V c 0 t : Vec Ideal S512x1024 .bf16) (ix2 r d)
    = (V c main_v9_0 : Vec Ideal S4096x1024 .bf16) (ix2 (⟨512 * t.val + r.val, by have := lt1 t; omega⟩ : Fin 4096) (d : Fin 1024)) :=
  have e := (idx1 t).1
  (View.read_apply ..).trans (congrArg (V c main_v9_0) (Shape.idx_ext₂ (tile (congrFun e 0)) (tile0 (congrFun e 1))))

theorem iblk1_1 (t : Fin cfg1.N) (r : Fin 1024) (d : Fin 1024) : (iblk1 V c 1 t : Vec Ideal S1024x1024 .bf16) (ix2 r d)
    = (V c main_v8 : Vec Ideal S1024x1024 .bf16) (ix2 (r : Fin 1024) (d : Fin 1024)) :=
  have e := (idx1 t).2.1
  (View.read_apply ..).trans (congrArg (V c main_v8) (Shape.idx_ext₂ (tile0 (congrFun e 0)) (tile0 (congrFun e 1))))

theorem iblk1_2 (t : Fin cfg1.N) (r : Fin 512) (d : Fin 1024) : (iblk1 V c 2 t : Vec Ideal S512x1024 .f32) (ix2 r d)
    = (V c main_arg0 : Vec Ideal S4096x1024 .f32) (ix2 (⟨512 * t.val + r.val, by have := lt1 t; omega⟩ : Fin 4096) (d : Fin 1024)) :=
  have e := (idx1 t).2.2.1
  (View.read_apply ..).trans (congrArg (V c main_arg0) (Shape.idx_ext₂ (tile (congrFun e 0)) (tile0 (congrFun e 1))))

theorem emb1_3 (t : Fin cfg1.N) (r : Fin 512) (d : Fin 1024) :
    ((cfg1.win 3).blk t).view.emb (ix2 r d) = ix2 (⟨512 * t.val + r.val, by have := lt1 t; omega⟩ : Fin 4096) (d : Fin 1024) :=
  have e := (idx1 t).2.2.2
  Shape.idx_ext₂ (tile (congrFun e 0)) (tile0 (congrFun e 1))

theorem final1 : (dat1 V c).arrAt 3 cfg1.N = (fun i => outAt (V c main_v9_0 : Vec Ideal S4096x1024 .bf16) (V c main_v8 : Vec Ideal S1024x1024 .bf16) (V c main_arg0 : Vec Ideal S4096x1024 .f32) (i 0) (i 1) : Vec Ideal S4096x1024 .f32) := by
  refine (dat1 V c).arrAt_eq_of_cover 3 _ (fun t _ => ?_) (Pipeline.Window.Covers.cover _ (by decide +kernel) (Memref.isWhole_whole _))
  show (cfg1.win 3).cut (grid1.coords t) ((dat1 V c).after 3 t) = _
  rw [after1_3]
  funext y
  obtain ⟨r, d, rfl⟩ : ∃ (r : Fin 512) (d : Fin 1024), y = ix2 r d := ⟨y 0, y 1, eq_ix2 y⟩
  rw [View.read_apply, emb1_3, out1_eq]
  refine (pay1_apply _ _ _ r d).trans ?_
  simp only [nnAt, iblk1_0, iblk1_1, iblk1_2]
  rfl

/-! ## Region 2 -/

theorem idx2 : ∀ t : Fin cfg2.N, win2_0.index t = ![t.val / 2, 0] ∧ win2_1.index t = ![t.val % 2, 0] ∧ win2_2.index t = ![t.val / 2, t.val % 2] :=
  (by decide +kernel : ∀ t : Fin grid2.N, _)

theorem lt2 (t : Fin cfg2.N) : t.val < 16 := lt_of_lt_of_eq t.isLt N_2

theorem iblk2_0 (t : Fin cfg2.N) (r : Fin 512) (d : Fin 1024) : (iblk2 V c 0 t : Vec Ideal S512x1024 .f32) (ix2 r d)
    = (V c main_arg9 : Vec Ideal S4096x1024 .f32) (ix2 (⟨512 * (t.val / 2) + r.val, by have := lt2 t; omega⟩ : Fin 4096) (d : Fin 1024)) :=
  have e := (idx2 t).1
  (View.read_apply ..).trans (congrArg (V c main_arg9) (Shape.idx_ext₂ (tile (congrFun e 0)) (tile0 (congrFun e 1))))

theorem iblk2_1 (t : Fin cfg2.N) (r : Fin 512) (d : Fin 1024) : (iblk2 V c 1 t : Vec Ideal S512x1024 .bf16) (ix2 r d)
    = (V c main_v8 : Vec Ideal S1024x1024 .bf16) (ix2 (⟨512 * (t.val % 2) + r.val, by have := lt2 t; omega⟩ : Fin 1024) (d : Fin 1024)) :=
  have e := (idx2 t).2.1
  (View.read_apply ..).trans (congrArg (V c main_v8) (Shape.idx_ext₂ (tile (congrFun e 0)) (tile0 (congrFun e 1))))

theorem emb2_2 (t : Fin cfg2.N) (r : Fin 512) (d : Fin 512) :
    ((cfg2.win 2).blk t).view.emb (ix2 r d) = ix2 (⟨512 * (t.val / 2) + r.val, by have := lt2 t; omega⟩ : Fin 4096) (⟨512 * (t.val % 2) + d.val, by have := lt2 t; omega⟩ : Fin 1024) :=
  have e := (idx2 t).2.2
  Shape.idx_ext₂ (tile (congrFun e 0)) (tile (congrFun e 1))

theorem final2 : (dat2 V c).arrAt 2 cfg2.N = (fun i => ntAt (V c main_arg9 : Vec Ideal S4096x1024 .f32) (V c main_v8 : Vec Ideal S1024x1024 .bf16) (i 0) (i 1) : Vec Ideal S4096x1024 .f32) := by
  refine (dat2 V c).arrAt_eq_of_cover 2 _ (fun t _ => ?_) (Pipeline.Window.Covers.cover _ (by decide +kernel) (Memref.isWhole_whole _))
  show (cfg2.win 2).cut (grid2.coords t) ((dat2 V c).after 2 t) = _
  rw [after2_2]
  funext y
  obtain ⟨r, d, rfl⟩ : ∃ (r : Fin 512) (d : Fin 512), y = ix2 r d := ⟨y 0, y 1, eq_ix2 y⟩
  rw [View.read_apply, emb2_2, out2_eq]
  exact (pay2_apply _ _ r d).trans (ntAt_congr (fun e => iblk2_0 V c t r e) (fun e => iblk2_1 V c t d e))

/-! ## Region 3 -/

theorem idx3 : ∀ t : Fin cfg3.N, win3_0.index t = ![0, 0] ∧ win3_1.index t = ![0, t.val] ∧ win3_2.index t = ![0, t.val] :=
  (by decide +kernel : ∀ t : Fin grid3.N, _)

theorem lt3 (t : Fin cfg3.N) : t.val < 4 := lt_of_lt_of_eq t.isLt N_3

theorem iblk3_0 (t : Fin cfg3.N) (r : Fin 4096) (d : Fin 1024) : (iblk3 V c 0 t : Vec Ideal S4096x1024 .bf16) (ix2 r d)
    = (V c main_v9_0 : Vec Ideal S4096x1024 .bf16) (ix2 (r : Fin 4096) (d : Fin 1024)) :=
  have e := (idx3 t).1
  (View.read_apply ..).trans (congrArg (V c main_v9_0) (Shape.idx_ext₂ (tile0 (congrFun e 0)) (tile0 (congrFun e 1))))

theorem iblk3_1 (t : Fin cfg3.N) (r : Fin 4096) (d : Fin 256) : (iblk3 V c 1 t : Vec Ideal S4096x256 .f32) (ix2 r d)
    = (V c main_arg9 : Vec Ideal S4096x1024 .f32) (ix2 (r : Fin 4096) (⟨256 * t.val + d.val, by have := lt3 t; omega⟩ : Fin 1024)) :=
  have e := (idx3 t).2.1
  (View.read_apply ..).trans (congrArg (V c main_arg9) (Shape.idx_ext₂ (tile0 (congrFun e 0)) (tile (congrFun e 1))))

theorem emb3_2 (t : Fin cfg3.N) (r : Fin 1024) (d : Fin 256) :
    ((cfg3.win 2).blk t).view.emb (ix2 r d) = ix2 (r : Fin 1024) (⟨256 * t.val + d.val, by have := lt3 t; omega⟩ : Fin 1024) :=
  have e := (idx3 t).2.2
  Shape.idx_ext₂ (tile0 (congrFun e 0)) (tile (congrFun e 1))

theorem final3 : (dat3 V c).arrAt 2 cfg3.N = (fun i => tnAt (V c main_v9_0 : Vec Ideal S4096x1024 .bf16) (V c main_arg9 : Vec Ideal S4096x1024 .f32) (i 0) (i 1) : Vec Ideal S1024x1024 .f32) := by
  refine (dat3 V c).arrAt_eq_of_cover 2 _ (fun t _ => ?_) (Pipeline.Window.Covers.cover _ (by decide +kernel) (Memref.isWhole_whole _))
  show (cfg3.win 2).cut (grid3.coords t) ((dat3 V c).after 2 t) = _
  rw [after3_2]
  funext y
  obtain ⟨r, d, rfl⟩ : ∃ (r : Fin 1024) (d : Fin 256), y = ix2 r d := ⟨y 0, y 1, eq_ix2 y⟩
  rw [View.read_apply, emb3_2, out3_eq]
  exact (pay3_apply _ _ r d).trans (tnAt_congr (fun e => iblk3_0 V c t e r) (fun e => iblk3_1 V c t e d))

/-! ## Region 5 -/

theorem idx5 : ∀ t : Fin cfg5.N, win5_0.index t = ![t.val, 0] ∧ win5_1.index t = ![0, 0] ∧ win5_2.index t = ![t.val, 0] :=
  (by decide +kernel : ∀ t : Fin grid5.N, _)

theorem lt5 (t : Fin cfg5.N) : t.val < 8 := lt_of_lt_of_eq t.isLt N_5

theorem iblk5_0 (t : Fin cfg5.N) (r : Fin 512) (d : Fin 1024) : (iblk5 V c 0 t : Vec Ideal S512x1024 .bf16) (ix2 r d)
    = (V c main_v13_0 : Vec Ideal S4096x1024 .bf16) (ix2 (⟨512 * t.val + r.val, by have := lt5 t; omega⟩ : Fin 4096) (d : Fin 1024)) :=
  have e := (idx5 t).1
  (View.read_apply ..).trans (congrArg (V c main_v13_0) (Shape.idx_ext₂ (tile (congrFun e 0)) (tile0 (congrFun e 1))))

theorem iblk5_1 (t : Fin cfg5.N) (r : Fin 512) (d : Fin 1024) : (iblk5 V c 1 t : Vec Ideal S512x1024 .bf16) (ix2 r d)
    = (V c main_v5 : Vec Ideal S512x1024 .bf16) (ix2 (r : Fin 512) (d : Fin 1024)) :=
  have e := (idx5 t).2.1
  (View.read_apply ..).trans (congrArg (V c main_v5) (Shape.idx_ext₂ (tile0 (congrFun e 0)) (tile0 (congrFun e 1))))

theorem emb5_2 (t : Fin cfg5.N) (r : Fin 512) (d : Fin 512) :
    ((cfg5.win 2).blk t).view.emb (ix2 r d) = ix2 (⟨512 * t.val + r.val, by have := lt5 t; omega⟩ : Fin 4096) (d : Fin 512) :=
  have e := (idx5 t).2.2
  Shape.idx_ext₂ (tile (congrFun e 0)) (tile0 (congrFun e 1))

theorem final5 : (dat5 V c).arrAt 2 cfg5.N = (fun i => ntAt (V c main_v13_0 : Vec Ideal S4096x1024 .bf16) (V c main_v5 : Vec Ideal S512x1024 .bf16) (i 0) (i 1) : Vec Ideal S4096x512 .bf16) := by
  refine (dat5 V c).arrAt_eq_of_cover 2 _ (fun t _ => ?_) (Pipeline.Window.Covers.cover _ (by decide +kernel) (Memref.isWhole_whole _))
  show (cfg5.win 2).cut (grid5.coords t) ((dat5 V c).after 2 t) = _
  rw [after5_2]
  funext y
  obtain ⟨r, d, rfl⟩ : ∃ (r : Fin 512) (d : Fin 512), y = ix2 r d := ⟨y 0, y 1, eq_ix2 y⟩
  rw [View.read_apply, emb5_2, out5_eq]
  exact (pay5_apply _ _ r d).trans (ntAt_congr (fun e => iblk5_0 V c t r e) (fun e => iblk5_1 V c t d e))

/-! ## Region 6 -/

theorem idx6 : ∀ t : Fin cfg6.N, win6_0.index t = ![0, 0] ∧ win6_1.index t = ![0, t.val] ∧ win6_2.index t = ![0, t.val] :=
  (by decide +kernel : ∀ t : Fin grid6.N, _)

theorem lt6 (t : Fin cfg6.N) : t.val < 2 := lt_of_lt_of_eq t.isLt N_6

theorem iblk6_0 (t : Fin cfg6.N) (r : Fin 4096) (d : Fin 512) : (iblk6 V c 0 t : Vec Ideal S4096x512 .bf16) (ix2 r d)
    = (V c main_v2 : Vec Ideal S4096x512 .bf16) (ix2 (r : Fin 4096) (d : Fin 512)) :=
  have e := (idx6 t).1
  (View.read_apply ..).trans (congrArg (V c main_v2) (Shape.idx_ext₂ (tile0 (congrFun e 0)) (tile0 (congrFun e 1))))

theorem iblk6_1 (t : Fin cfg6.N) (r : Fin 4096) (d : Fin 512) : (iblk6 V c 1 t : Vec Ideal S4096x512 .bf16) (ix2 r d)
    = (V c main_v13_0 : Vec Ideal S4096x1024 .bf16) (ix2 (r : Fin 4096) (⟨512 * t.val + d.val, by have := lt6 t; omega⟩ : Fin 1024)) :=
  have e := (idx6 t).2.1
  (View.read_apply ..).trans (congrArg (V c main_v13_0) (Shape.idx_ext₂ (tile0 (congrFun e 0)) (tile (congrFun e 1))))

theorem emb6_2 (t : Fin cfg6.N) (r : Fin 512) (d : Fin 512) :
    ((cfg6.win 2).blk t).view.emb (ix2 r d) = ix2 (r : Fin 512) (⟨512 * t.val + d.val, by have := lt6 t; omega⟩ : Fin 1024) :=
  have e := (idx6 t).2.2
  Shape.idx_ext₂ (tile0 (congrFun e 0)) (tile (congrFun e 1))

theorem final6 : (dat6 V c).arrAt 2 cfg6.N = (fun i => tnAt (V c main_v2 : Vec Ideal S4096x512 .bf16) (V c main_v13_0 : Vec Ideal S4096x1024 .bf16) (i 0) (i 1) : Vec Ideal S512x1024 .f32) := by
  refine (dat6 V c).arrAt_eq_of_cover 2 _ (fun t _ => ?_) (Pipeline.Window.Covers.cover _ (by decide +kernel) (Memref.isWhole_whole _))
  show (cfg6.win 2).cut (grid6.coords t) ((dat6 V c).after 2 t) = _
  rw [after6_2]
  funext y
  obtain ⟨r, d, rfl⟩ : ∃ (r : Fin 512) (d : Fin 512), y = ix2 r d := ⟨y 0, y 1, eq_ix2 y⟩
  rw [View.read_apply, emb6_2, out6_eq]
  exact (pay6_apply _ _ r d).trans (tnAt_congr (fun e => iblk6_0 V c t e r) (fun e => iblk6_1 V c t e d))

/-! ## Region 7 -/

theorem idx7 : ∀ t : Fin cfg7.N, win7_0.index t = ![t.val, 0] ∧ win7_1.index t = ![0, 0] ∧ win7_2.index t = ![t.val, 0] :=
  (by decide +kernel : ∀ t : Fin grid7.N, _)

theorem lt7 (t : Fin cfg7.N) : t.val < 8 := lt_of_lt_of_eq t.isLt N_7

theorem iblk7_0 (t : Fin cfg7.N) (r : Fin 512) (d : Fin 1024) : (iblk7 V c 0 t : Vec Ideal S512x1024 .bf16) (ix2 r d)
    = (V c main_v13_1 : Vec Ideal S4096x1024 .bf16) (ix2 (⟨512 * t.val + r.val, by have := lt7 t; omega⟩ : Fin 4096) (d : Fin 1024)) :=
  have e := (idx7 t).1
  (View.read_apply ..).trans (congrArg (V c main_v13_1) (Shape.idx_ext₂ (tile (congrFun e 0)) (tile0 (congrFun e 1))))

theorem iblk7_1 (t : Fin cfg7.N) (r : Fin 512) (d : Fin 1024) : (iblk7 V c 1 t : Vec Ideal S512x1024 .bf16) (ix2 r d)
    = (V c main_v6 : Vec Ideal S512x1024 .bf16) (ix2 (r : Fin 512) (d : Fin 1024)) :=
  have e := (idx7 t).2.1
  (View.read_apply ..).trans (congrArg (V c main_v6) (Shape.idx_ext₂ (tile0 (congrFun e 0)) (tile0 (congrFun e 1))))

theorem emb7_2 (t : Fin cfg7.N) (r : Fin 512) (d : Fin 512) :
    ((cfg7.win 2).blk t).view.emb (ix2 r d) = ix2 (⟨512 * t.val + r.val, by have := lt7 t; omega⟩ : Fin 4096) (d : Fin 512) :=
  have e := (idx7 t).2.2
  Shape.idx_ext₂ (tile (congrFun e 0)) (tile0 (congrFun e 1))

theorem final7 : (dat7 V c).arrAt 2 cfg7.N = (fun i => ntAt (V c main_v13_1 : Vec Ideal S4096x1024 .bf16) (V c main_v6 : Vec Ideal S512x1024 .bf16) (i 0) (i 1) : Vec Ideal S4096x512 .f32) := by
  refine (dat7 V c).arrAt_eq_of_cover 2 _ (fun t _ => ?_) (Pipeline.Window.Covers.cover _ (by decide +kernel) (Memref.isWhole_whole _))
  show (cfg7.win 2).cut (grid7.coords t) ((dat7 V c).after 2 t) = _
  rw [after7_2]
  funext y
  obtain ⟨r, d, rfl⟩ : ∃ (r : Fin 512) (d : Fin 512), y = ix2 r d := ⟨y 0, y 1, eq_ix2 y⟩
  rw [View.read_apply, emb7_2, out7_eq]
  exact (pay7_apply _ _ r d).trans (ntAt_congr (fun e => iblk7_0 V c t r e) (fun e => iblk7_1 V c t d e))

/-! ## Region 8 -/

theorem idx8 : ∀ t : Fin cfg8.N, win8_0.index t = ![0, 0] ∧ win8_1.index t = ![0, t.val] ∧ win8_2.index t = ![0, t.val] :=
  (by decide +kernel : ∀ t : Fin grid8.N, _)

theorem lt8 (t : Fin cfg8.N) : t.val < 2 := lt_of_lt_of_eq t.isLt N_8

theorem iblk8_0 (t : Fin cfg8.N) (r : Fin 4096) (d : Fin 512) : (iblk8 V c 0 t : Vec Ideal S4096x512 .bf16) (ix2 r d)
    = (V c main_v3 : Vec Ideal S4096x512 .bf16) (ix2 (r : Fin 4096) (d : Fin 512)) :=
  have e := (idx8 t).1
  (View.read_apply ..).trans (congrArg (V c main_v3) (Shape.idx_ext₂ (tile0 (congrFun e 0)) (tile0 (congrFun e 1))))

theorem iblk8_1 (t : Fin cfg8.N) (r : Fin 4096) (d : Fin 512) : (iblk8 V c 1 t : Vec Ideal S4096x512 .bf16) (ix2 r d)
    = (V c main_v13_1 : Vec Ideal S4096x1024 .bf16) (ix2 (r : Fin 4096) (⟨512 * t.val + d.val, by have := lt8 t; omega⟩ : Fin 1024)) :=
  have e := (idx8 t).2.1
  (View.read_apply ..).trans (congrArg (V c main_v13_1) (Shape.idx_ext₂ (tile0 (congrFun e 0)) (tile (congrFun e 1))))

theorem emb8_2 (t : Fin cfg8.N) (r : Fin 512) (d : Fin 512) :
    ((cfg8.win 2).blk t).view.emb (ix2 r d) = ix2 (r : Fin 512) (⟨512 * t.val + d.val, by have := lt8 t; omega⟩ : Fin 1024) :=
  have e := (idx8 t).2.2
  Shape.idx_ext₂ (tile0 (congrFun e 0)) (tile (congrFun e 1))

theorem final8 : (dat8 V c).arrAt 2 cfg8.N = (fun i => tnAt (V c main_v3 : Vec Ideal S4096x512 .bf16) (V c main_v13_1 : Vec Ideal S4096x1024 .bf16) (i 0) (i 1) : Vec Ideal S512x1024 .f32) := by
  refine (dat8 V c).arrAt_eq_of_cover 2 _ (fun t _ => ?_) (Pipeline.Window.Covers.cover _ (by decide +kernel) (Memref.isWhole_whole _))
  show (cfg8.win 2).cut (grid8.coords t) ((dat8 V c).after 2 t) = _
  rw [after8_2]
  funext y
  obtain ⟨r, d, rfl⟩ : ∃ (r : Fin 512) (d : Fin 512), y = ix2 r d := ⟨y 0, y 1, eq_ix2 y⟩
  rw [View.read_apply, emb8_2, out8_eq]
  exact (pay8_apply _ _ r d).trans (tnAt_congr (fun e => iblk8_0 V c t e r) (fun e => iblk8_1 V c t e d))

/-! ## Region 9 -/

theorem idx9 : ∀ t : Fin cfg9.N, win9_0.index t = ![t.val, 0] ∧ win9_1.index t = ![0, 0] ∧ win9_2.index t = ![t.val, 0] :=
  (by decide +kernel : ∀ t : Fin grid9.N, _)

theorem lt9 (t : Fin cfg9.N) : t.val < 8 := lt_of_lt_of_eq t.isLt N_9

theorem iblk9_0 (t : Fin cfg9.N) (r : Fin 512) (d : Fin 1024) : (iblk9 V c 0 t : Vec Ideal S512x1024 .bf16) (ix2 r d)
    = (V c main_v13_2 : Vec Ideal S4096x1024 .bf16) (ix2 (⟨512 * t.val + r.val, by have := lt9 t; omega⟩ : Fin 4096) (d : Fin 1024)) :=
  have e := (idx9 t).1
  (View.read_apply ..).trans (congrArg (V c main_v13_2) (Shape.idx_ext₂ (tile (congrFun e 0)) (tile0 (congrFun e 1))))

theorem iblk9_1 (t : Fin cfg9.N) (r : Fin 512) (d : Fin 1024) : (iblk9 V c 1 t : Vec Ideal S512x1024 .bf16) (ix2 r d)
    = (V c main_v7 : Vec Ideal S512x1024 .bf16) (ix2 (r : Fin 512) (d : Fin 1024)) :=
  have e := (idx9 t).2.1
  (View.read_apply ..).trans (congrArg (V c main_v7) (Shape.idx_ext₂ (tile0 (congrFun e 0)) (tile0 (congrFun e 1))))

theorem emb9_2 (t : Fin cfg9.N) (r : Fin 512) (d : Fin 512) :
    ((cfg9.win 2).blk t).view.emb (ix2 r d) = ix2 (⟨512 * t.val + r.val, by have := lt9 t; omega⟩ : Fin 4096) (d : Fin 512) :=
  have e := (idx9 t).2.2
  Shape.idx_ext₂ (tile (congrFun e 0)) (tile0 (congrFun e 1))

theorem final9 : (dat9 V c).arrAt 2 cfg9.N = (fun i => ntAt (V c main_v13_2 : Vec Ideal S4096x1024 .bf16) (V c main_v7 : Vec Ideal S512x1024 .bf16) (i 0) (i 1) : Vec Ideal S4096x512 .bf16) := by
  refine (dat9 V c).arrAt_eq_of_cover 2 _ (fun t _ => ?_) (Pipeline.Window.Covers.cover _ (by decide +kernel) (Memref.isWhole_whole _))
  show (cfg9.win 2).cut (grid9.coords t) ((dat9 V c).after 2 t) = _
  rw [after9_2]
  funext y
  obtain ⟨r, d, rfl⟩ : ∃ (r : Fin 512) (d : Fin 512), y = ix2 r d := ⟨y 0, y 1, eq_ix2 y⟩
  rw [View.read_apply, emb9_2, out9_eq]
  exact (pay9_apply _ _ r d).trans (ntAt_congr (fun e => iblk9_0 V c t r e) (fun e => iblk9_1 V c t d e))

/-! ## Region 10 -/

theorem idx10 : ∀ t : Fin cfg10.N, win10_0.index t = ![0, 0] ∧ win10_1.index t = ![0, t.val] ∧ win10_2.index t = ![0, t.val] :=
  (by decide +kernel : ∀ t : Fin grid10.N, _)

theorem lt10 (t : Fin cfg10.N) : t.val < 2 := lt_of_lt_of_eq t.isLt N_10

theorem iblk10_0 (t : Fin cfg10.N) (r : Fin 4096) (d : Fin 512) : (iblk10 V c 0 t : Vec Ideal S4096x512 .bf16) (ix2 r d)
    = (V c main_v4 : Vec Ideal S4096x512 .bf16) (ix2 (r : Fin 4096) (d : Fin 512)) :=
  have e := (idx10 t).1
  (View.read_apply ..).trans (congrArg (V c main_v4) (Shape.idx_ext₂ (tile0 (congrFun e 0)) (tile0 (congrFun e 1))))

theorem iblk10_1 (t : Fin cfg10.N) (r : Fin 4096) (d : Fin 512) : (iblk10 V c 1 t : Vec Ideal S4096x512 .bf16) (ix2 r d)
    = (V c main_v13_2 : Vec Ideal S4096x1024 .bf16) (ix2 (r : Fin 4096) (⟨512 * t.val + d.val, by have := lt10 t; omega⟩ : Fin 1024)) :=
  have e := (idx10 t).2.1
  (View.read_apply ..).trans (congrArg (V c main_v13_2) (Shape.idx_ext₂ (tile0 (congrFun e 0)) (tile (congrFun e 1))))

theorem emb10_2 (t : Fin cfg10.N) (r : Fin 512) (d : Fin 512) :
    ((cfg10.win 2).blk t).view.emb (ix2 r d) = ix2 (r : Fin 512) (⟨512 * t.val + d.val, by have := lt10 t; omega⟩ : Fin 1024) :=
  have e := (idx10 t).2.2
  Shape.idx_ext₂ (tile0 (congrFun e 0)) (tile (congrFun e 1))

theorem final10 : (dat10 V c).arrAt 2 cfg10.N = (fun i => tnAt (V c main_v4 : Vec Ideal S4096x512 .bf16) (V c main_v13_2 : Vec Ideal S4096x1024 .bf16) (i 0) (i 1) : Vec Ideal S512x1024 .f32) := by
  refine (dat10 V c).arrAt_eq_of_cover 2 _ (fun t _ => ?_) (Pipeline.Window.Covers.cover _ (by decide +kernel) (Memref.isWhole_whole _))
  show (cfg10.win 2).cut (grid10.coords t) ((dat10 V c).after 2 t) = _
  rw [after10_2]
  funext y
  obtain ⟨r, d, rfl⟩ : ∃ (r : Fin 512) (d : Fin 512), y = ix2 r d := ⟨y 0, y 1, eq_ix2 y⟩
  rw [View.read_apply, emb10_2, out10_eq]
  exact (pay10_apply _ _ r d).trans (tnAt_congr (fun e => iblk10_0 V c t e r) (fun e => iblk10_1 V c t e d))

end Cert.Kernel3Ideal.Merge

end
-- ==== Proof.MergeRun.lean ====
/-
    The merge's run: what each of its eleven regions finds and leaves, boundary by boundary, and the nine results at the end
  (`run_final`: any execution from a launch memory ends with the arguments as launched and the results at their values).
-/
module

public import proofs.«01_k».proof.Proof.MergeGate
public import proofs.«01_k».proof.Proof.MergeProd
public import proofs.«01_k».proof.Proof.Gen.Kernel3Ideal.Frame
public import Idealize.ShloMosaic.Lib.StableHlo.Run

@[expose] public section

set_option maxRecDepth 16384

noncomputable section

namespace Cert.Kernel3Ideal.Merge

open Idealize.ShloMosaic Idealize.ShloMosaic.TcCoe Idealize.SL.Sem Idealize.ShloMosaic.Tactic
open Idealize.ShloMosaic.Pipeline (Dat)
open Cert.Kernel3Ideal Cert.Kernel3Ideal.Gen Cert.Mat

/-! ## The values, over the launch arrays -/

/-- The gates' array followed by six times 1024 columns of zeros. -/
def padZ (G : M 4096 3072) : M 4096 9216 :=
  concatenate S4096x9216 1 [⟨S4096x3072, (G : Vec Ideal S4096x3072 .f32)⟩,
    ⟨S4096x6144, (fun _ => Ideal.ofBits .f32 0x00000000#32 : Vec Ideal S4096x6144 .f32)⟩] concatenates_S4096x3072_S4096x6144_S4096x9216_d1

theorem padZ_apply (G : M 4096 3072) (j : Fin 3) (r : Fin 4096) (d : Fin 1024) :
    padZ G (ix2 r (gcol j d)) = G (ix2 r (third j d)) :=
  concatenate_pair_apply_left (t := S4096x9216) (s₁ := S4096x3072) (s₂ := S4096x6144) 1 _ _ _ _ rfl _ fun a => by
    match a with
    | ⟨0, _⟩ => rfl
    | ⟨1, _⟩ => rfl

section
variable (X : M 4096 1024) (G : M 4096 3072) (Y0 Y1 Y2 : M 4096 512) (W0 W1 W2 : M 512 1024) (O : M 1024 1024) (D : M 4096 1024)

abbrev mixArr : M 4096 1024 := fun i => mixAt Y0 Y1 Y2 W0 W1 W2 (padZ G) (i 0) (i 1)
abbrev prodArr (Y : M 4096 512) (W : M 512 1024) : M 4096 1024 := fun i => nnAt Y W (i 0) (i 1)
abbrev dmArr : M 4096 1024 := fun i => ntAt D O (i 0) (i 1)
abbrev dArr (j : Fin 3) : M 4096 1024 := fun i => dAt (dmArr O D) (padZ G) j (i 0) (i 1)
abbrev x2Arr : M 4096 1024 := fun i => outAt (mixArr G Y0 Y1 Y2 W0 W1 W2) O X (i 0) (i 1)
abbrev dgArr : M 4096 3072 := fun i => dgAt (dmArr O D) (prodArr Y0 W0) (prodArr Y1 W1) (prodArr Y2 W2) (padZ G) (thirdOf (i 1)) (i 0) (inThird (i 1))
abbrev dyArr (W : M 512 1024) (j : Fin 3) : M 4096 512 := fun i => ntAt (dArr G O D j) W (i 0) (i 1)
abbrev dwArr (Y : M 4096 512) (j : Fin 3) : M 512 1024 := fun i => tnAt Y (dArr G O D j) (i 0) (i 1)
abbrev doArr : M 1024 1024 := fun i => tnAt (mixArr G Y0 Y1 Y2 W0 W1 W2) D (i 0) (i 1)
end

variable (m : (b : Loc nD τ sig) → Buf (Elt Ideal) b) (ρ : Dev nD → PrngReg) (c : Dev nD)

/-- The launch arrays. -/
abbrev aX : M 4096 1024 := m ((c : Thread nD τ).loc main_arg0)
abbrev aG : M 4096 3072 := m ((c : Thread nD τ).loc main_arg1)
abbrev aY0 : M 4096 512 := m ((c : Thread nD τ).loc main_arg2)
abbrev aY1 : M 4096 512 := m ((c : Thread nD τ).loc main_arg3)
abbrev aY2 : M 4096 512 := m ((c : Thread nD τ).loc main_arg4)
abbrev aW0 : M 512 1024 := m ((c : Thread nD τ).loc main_arg5)
abbrev aW1 : M 512 1024 := m ((c : Thread nD τ).loc main_arg6)
abbrev aW2 : M 512 1024 := m ((c : Thread nD τ).loc main_arg7)
abbrev aO : M 1024 1024 := m ((c : Thread nD τ).loc main_arg8)
abbrev aD : M 4096 1024 := m ((c : Thread nD τ).loc main_arg9)

/-! ## Before the first region -/

theorem v1_v1 : V1 m ρ c main_v1 = padZ (aG m c) := by
  show StableHlo.after hostOps0 _ (Proc.devRef .tc main_v1) = _
  after_results
  rfl

theorem v1_v2 : V1 m ρ c main_v2 = aY0 m c := by
  show StableHlo.after hostOps0 _ (Proc.devRef .tc main_v2) = _
  after_results
  rfl

theorem v1_v3 : V1 m ρ c main_v3 = aY1 m c := by
  show StableHlo.after hostOps0 _ (Proc.devRef .tc main_v3) = _
  after_results
  rfl

theorem v1_v4 : V1 m ρ c main_v4 = aY2 m c := by
  show StableHlo.after hostOps0 _ (Proc.devRef .tc main_v4) = _
  after_results
  rfl

theorem v1_v5 : V1 m ρ c main_v5 = aW0 m c := by
  show StableHlo.after hostOps0 _ (Proc.devRef .tc main_v5) = _
  after_results
  rfl

theorem v1_v6 : V1 m ρ c main_v6 = aW1 m c := by
  show StableHlo.after hostOps0 _ (Proc.devRef .tc main_v6) = _
  after_results
  rfl

theorem v1_v7 : V1 m ρ c main_v7 = aW2 m c := by
  show StableHlo.after hostOps0 _ (Proc.devRef .tc main_v7) = _
  after_results
  rfl

theorem v1_v8 : V1 m ρ c main_v8 = aO m c := by
  show StableHlo.after hostOps0 _ (Proc.devRef .tc main_v8) = _
  after_results
  rfl

/-! ## The regions -/

theorem v2_mix : V2 m ρ c main_v9_0 = mixArr (aG m c) (aY0 m c) (aY1 m c) (aY2 m c) (aW0 m c) (aW1 m c) (aW2 m c) := by
  have e0 : V1 m ρ c main_v2 = aY0 m c := v1_v2 m ρ c
  have e1 : V1 m ρ c main_v3 = aY1 m c := v1_v3 m ρ c
  have e2 : V1 m ρ c main_v4 = aY2 m c := v1_v4 m ρ c
  have e3 : V1 m ρ c main_v5 = aW0 m c := v1_v5 m ρ c
  have e4 : V1 m ρ c main_v6 = aW1 m c := v1_v6 m ρ c
  have e5 : V1 m ρ c main_v7 = aW2 m c := v1_v7 m ρ c
  have e6 : V1 m ρ c main_v1 = padZ (aG m c) := v1_v1 m ρ c
  refine (W2_arr m ρ c 7).trans ((final0_7 (V1 m ρ) c).trans ?_)
  rw [e0, e1, e2, e3, e4, e5, e6]

theorem v2_p0 : V2 m ρ c main_v9_1 = prodArr (aY0 m c) (aW0 m c) := by
  have e0 : V1 m ρ c main_v2 = aY0 m c := v1_v2 m ρ c
  have e1 : V1 m ρ c main_v5 = aW0 m c := v1_v5 m ρ c
  refine (W2_arr m ρ c 8).trans ((final0_8 (V1 m ρ) c).trans ?_)
  rw [e0, e1]

theorem v2_p1 : V2 m ρ c main_v9_2 = prodArr (aY1 m c) (aW1 m c) := by
  have e0 : V1 m ρ c main_v3 = aY1 m c := v1_v3 m ρ c
  have e1 : V1 m ρ c main_v6 = aW1 m c := v1_v6 m ρ c
  refine (W2_arr m ρ c 9).trans ((final0_9 (V1 m ρ) c).trans ?_)
  rw [e0, e1]

theorem v2_p2 : V2 m ρ c main_v9_3 = prodArr (aY2 m c) (aW2 m c) := by
  have e0 : V1 m ρ c main_v4 = aY2 m c := v1_v4 m ρ c
  have e1 : V1 m ρ c main_v7 = aW2 m c := v1_v7 m ρ c
  refine (W2_arr m ρ c 10).trans ((final0_10 (V1 m ρ) c).trans ?_)
  rw [e0, e1]

theorem v3_x2 : V3 m ρ c main_v10 = x2Arr (aX m c) (aG m c) (aY0 m c) (aY1 m c) (aY2 m c) (aW0 m c) (aW1 m c) (aW2 m c) (aO m c) := by
  have e0 : V2 m ρ c main_v9_0 = mixArr (aG m c) (aY0 m c) (aY1 m c) (aY2 m c) (aW0 m c) (aW1 m c) (aW2 m c) := v2_mix m ρ c
  have e1 : V2 m ρ c main_v8 = aO m c := (W2_of m ρ c main_v8 (by decide)).trans (v1_v8 m ρ c)
  have e2 : V2 m ρ c main_arg0 = aX m c := W2_args m ρ c main_arg0 (by decide)
  refine (W3_arr m ρ c 3).trans ((final1 (V2 m ρ) c).trans ?_)
  rw [e0, e1, e2]

theorem v4_dm : V4 m ρ c main_v11 = dmArr (aO m c) (aD m c) := by
  have e0 : V3 m ρ c main_arg9 = aD m c := W3_args m ρ c main_arg9 (by decide)
  have e1 : V3 m ρ c main_v8 = aO m c := ((W3_of m ρ c main_v8 (by decide)).trans (W2_of m ρ c main_v8 (by decide))).trans (v1_v8 m ρ c)
  refine (W4_arr m ρ c 2).trans ((final2 (V3 m ρ) c).trans ?_)
  rw [e0, e1]

theorem v5_do : V5 m ρ c main_v12 = doArr (aG m c) (aY0 m c) (aY1 m c) (aY2 m c) (aW0 m c) (aW1 m c) (aW2 m c) (aD m c) := by
  have e0 : V4 m ρ c main_v9_0 = mixArr (aG m c) (aY0 m c) (aY1 m c) (aY2 m c) (aW0 m c) (aW1 m c) (aW2 m c) := ((W4_of m ρ c main_v9_0 (by decide)).trans (W3_of m ρ c main_v9_0 (by decide))).trans (v2_mix m ρ c)
  have e1 : V4 m ρ c main_arg9 = aD m c := W4_args m ρ c main_arg9 (by decide)
  refine (W5_arr m ρ c 2).trans ((final3 (V4 m ρ) c).trans ?_)
  rw [e0, e1]

theorem v6_d0 : V6 m ρ c main_v13_0 = dArr (aG m c) (aO m c) (aD m c) 0 := by
  have e0 : V5 m ρ c main_v11 = dmArr (aO m c) (aD m c) := (W5_of m ρ c main_v11 (by decide)).trans (v4_dm m ρ c)
  have e1 : V5 m ρ c main_v1 = padZ (aG m c) := ((W5_of m ρ c main_v1 (by decide)).trans ((W4_of m ρ c main_v1 (by decide)).trans ((W3_of m ρ c main_v1 (by decide)).trans (W2_of m ρ c main_v1 (by decide))))).trans (v1_v1 m ρ c)
  refine (W6_arr m ρ c 5).trans ((final4_5 (V5 m ρ) c).trans ?_)
  rw [e0, e1]

theorem v6_d1 : V6 m ρ c main_v13_1 = dArr (aG m c) (aO m c) (aD m c) 1 := by
  have e0 : V5 m ρ c main_v11 = dmArr (aO m c) (aD m c) := (W5_of m ρ c main_v11 (by decide)).trans (v4_dm m ρ c)
  have e1 : V5 m ρ c main_v1 = padZ (aG m c) := ((W5_of m ρ c main_v1 (by decide)).trans ((W4_of m ρ c main_v1 (by decide)).trans ((W3_of m ρ c main_v1 (by decide)).trans (W2_of m ρ c main_v1 (by decide))))).trans (v1_v1 m ρ c)
  refine (W6_arr m ρ c 6).trans ((final4_6 (V5 m ρ) c).trans ?_)
  rw [e0, e1]

theorem v6_d2 : V6 m ρ c main_v13_2 = dArr (aG m c) (aO m c) (aD m c) 2 := by
  have e0 : V5 m ρ c main_v11 = dmArr (aO m c) (aD m c) := (W5_of m ρ c main_v11 (by decide)).trans (v4_dm m ρ c)
  have e1 : V5 m ρ c main_v1 = padZ (aG m c) := ((W5_of m ρ c main_v1 (by decide)).trans ((W4_of m ρ c main_v1 (by decide)).trans ((W3_of m ρ c main_v1 (by decide)).trans (W2_of m ρ c main_v1 (by decide))))).trans (v1_v1 m ρ c)
  refine (W6_arr m ρ c 7).trans ((final4_7 (V5 m ρ) c).trans ?_)
  rw [e0, e1]

theorem v6_dg : V6 m ρ c main_v13_3 = dgArr (aG m c) (aY0 m c) (aY1 m c) (aY2 m c) (aW0 m c) (aW1 m c) (aW2 m c) (aO m c) (aD m c) := by
  have e0 : V5 m ρ c main_v11 = dmArr (aO m c) (aD m c) := (W5_of m ρ c main_v11 (by decide)).trans (v4_dm m ρ c)
  have e1 : V5 m ρ c main_v9_1 = prodArr (aY0 m c) (aW0 m c) := ((W5_of m ρ c main_v9_1 (by decide)).trans ((W4_of m ρ c main_v9_1 (by decide)).trans (W3_of m ρ c main_v9_1 (by decide)))).trans (v2_p0 m ρ c)
  have e2 : V5 m ρ c main_v9_2 = prodArr (aY1 m c) (aW1 m c) := ((W5_of m ρ c main_v9_2 (by decide)).trans ((W4_of m ρ c main_v9_2 (by decide)).trans (W3_of m ρ c main_v9_2 (by decide)))).trans (v2_p1 m ρ c)
  have e3 : V5 m ρ c main_v9_3 = prodArr (aY2 m c) (aW2 m c) := ((W5_of m ρ c main_v9_3 (by decide)).trans ((W4_of m ρ c main_v9_3 (by decide)).trans (W3_of m ρ c main_v9_3 (by decide)))).trans (v2_p2 m ρ c)
  have e4 : V5 m ρ c main_v1 = padZ (aG m c) := ((W5_of m ρ c main_v1 (by decide)).trans ((W4_of m ρ c main_v1 (by decide)).trans ((W3_of m ρ c main_v1 (by decide)).trans (W2_of m ρ c main_v1 (by decide))))).trans (v1_v1 m ρ c)
  refine (W6_arr m ρ c 8).trans ((final4_8 (V5 m ρ) c).trans ?_)
  rw [e0, e1, e2, e3, e4]

theorem v7_dy0 : V7 m ρ c main_v14 = dyArr (aG m c) (aO m c) (aD m c) (aW0 m c) 0 := by
  have e0 : V6 m ρ c main_v13_0 = dArr (aG m c) (aO m c) (aD m c) 0 := v6_d0 m ρ c
  have e1 : V6 m ρ c main_v5 = aW0 m c := ((W6_of m ρ c main_v5 (by decide)).trans ((W5_of m ρ c main_v5 (by decide)).trans ((W4_of m ρ c main_v5 (by decide)).trans ((W3_of m ρ c main_v5 (by decide)).trans (W2_of m ρ c main_v5 (by decide)))))).trans (v1_v5 m ρ c)
  refine (W7_arr m ρ c 2).trans ((final5 (V6 m ρ) c).trans ?_)
  rw [e0, e1]

theorem v8_dw0 : V8 m ρ c main_v15 = dwArr (aG m c) (aO m c) (aD m c) (aY0 m c) 0 := by
  have e0 : V7 m ρ c main_v2 = aY0 m c := ((W7_of m ρ c main_v2 (by decide)).trans ((W6_of m ρ c main_v2 (by decide)).trans ((W5_of m ρ c main_v2 (by decide)).trans ((W4_of m ρ c main_v2 (by decide)).trans ((W3_of m ρ c main_v2 (by decide)).trans (W2_of m ρ c main_v2 (by decide))))))).trans (v1_v2 m ρ c)
  have e1 : V7 m ρ c main_v13_0 = dArr (aG m c) (aO m c) (aD m c) 0 := (W7_of m ρ c main_v13_0 (by decide)).trans (v6_d0 m ρ c)
  refine (W8_arr m ρ c 2).trans ((final6 (V7 m ρ) c).trans ?_)
  rw [e0, e1]

theorem v9_dy1 : V9 m ρ c main_v16 = dyArr (aG m c) (aO m c) (aD m c) (aW1 m c) 1 := by
  have e0 : V8 m ρ c main_v13_1 = dArr (aG m c) (aO m c) (aD m c) 1 := ((W8_of m ρ c main_v13_1 (by decide)).trans (W7_of m ρ c main_v13_1 (by decide))).trans (v6_d1 m ρ c)
  have e1 : V8 m ρ c main_v6 = aW1 m c := ((W8_of m ρ c main_v6 (by decide)).trans ((W7_of m ρ c main_v6 (by decide)).trans ((W6_of m ρ c main_v6 (by decide)).trans ((W5_of m ρ c main_v6 (by decide)).trans ((W4_of m ρ c main_v6 (by decide)).trans ((W3_of m ρ c main_v6 (by decide)).trans (W2_of m ρ c main_v6 (by decide)))))))).trans (v1_v6 m ρ c)
  refine (W9_arr m ρ c 2).trans ((final7 (V8 m ρ) c).trans ?_)
  rw [e0, e1]

theorem v10_dw1 : V10 m ρ c main_v17 = dwArr (aG m c) (aO m c) (aD m c) (aY1 m c) 1 := by
  have e0 : V9 m ρ c main_v3 = aY1 m c := ((W9_of m ρ c main_v3 (by decide)).trans ((W8_of m ρ c main_v3 (by decide)).trans ((W7_of m ρ c main_v3 (by decide)).trans ((W6_of m ρ c main_v3 (by decide)).trans ((W5_of m ρ c main_v3 (by decide)).trans ((W4_of m ρ c main_v3 (by decide)).trans ((W3_of m ρ c main_v3 (by decide)).trans (W2_of m ρ c main_v3 (by decide))))))))).trans (v1_v3 m ρ c)
  have e1 : V9 m ρ c main_v13_1 = dArr (aG m c) (aO m c) (aD m c) 1 := ((W9_of m ρ c main_v13_1 (by decide)).trans ((W8_of m ρ c main_v13_1 (by decide)).trans (W7_of m ρ c main_v13_1 (by decide)))).trans (v6_d1 m ρ c)
  refine (W10_arr m ρ c 2).trans ((final8 (V9 m ρ) c).trans ?_)
  rw [e0, e1]

theorem v11_dy2 : V11 m ρ c main_v18 = dyArr (aG m c) (aO m c) (aD m c) (aW2 m c) 2 := by
  have e0 : V10 m ρ c main_v13_2 = dArr (aG m c) (aO m c) (aD m c) 2 := ((W10_of m ρ c main_v13_2 (by decide)).trans ((W9_of m ρ c main_v13_2 (by decide)).trans ((W8_of m ρ c main_v13_2 (by decide)).trans (W7_of m ρ c main_v13_2 (by decide))))).trans (v6_d2 m ρ c)
  have e1 : V10 m ρ c main_v7 = aW2 m c := ((W10_of m ρ c main_v7 (by decide)).trans ((W9_of m ρ c main_v7 (by decide)).trans ((W8_of m ρ c main_v7 (by decide)).trans ((W7_of m ρ c main_v7 (by decide)).trans ((W6_of m ρ c main_v7 (by decide)).trans ((W5_of m ρ c main_v7 (by decide)).trans ((W4_of m ρ c main_v7 (by decide)).trans ((W3_of m ρ c main_v7 (by decide)).trans (W2_of m ρ c main_v7 (by decide)))))))))).trans (v1_v7 m ρ c)
  refine (W11_arr m ρ c 2).trans ((final9 (V10 m ρ) c).trans ?_)
  rw [e0, e1]

theorem v12_dw2 : V12 m ρ c main_v19 = dwArr (aG m c) (aO m c) (aD m c) (aY2 m c) 2 := by
  have e0 : V11 m ρ c main_v4 = aY2 m c := ((W11_of m ρ c main_v4 (by decide)).trans ((W10_of m ρ c main_v4 (by decide)).trans ((W9_of m ρ c main_v4 (by decide)).trans ((W8_of m ρ c main_v4 (by decide)).trans ((W7_of m ρ c main_v4 (by decide)).trans ((W6_of m ρ c main_v4 (by decide)).trans ((W5_of m ρ c main_v4 (by decide)).trans ((W4_of m ρ c main_v4 (by decide)).trans ((W3_of m ρ c main_v4 (by decide)).trans (W2_of m ρ c main_v4 (by decide))))))))))).trans (v1_v4 m ρ c)
  have e1 : V11 m ρ c main_v13_2 = dArr (aG m c) (aO m c) (aD m c) 2 := ((W11_of m ρ c main_v13_2 (by decide)).trans ((W10_of m ρ c main_v13_2 (by decide)).trans ((W9_of m ρ c main_v13_2 (by decide)).trans ((W8_of m ρ c main_v13_2 (by decide)).trans (W7_of m ρ c main_v13_2 (by decide)))))).trans (v6_d2 m ρ c)
  refine (W12_arr m ρ c 2).trans ((final10 (V11 m ρ) c).trans ?_)
  rw [e0, e1]

/-! ## The results -/

abbrev resX2 := x2Arr (aX m c) (aG m c) (aY0 m c) (aY1 m c) (aY2 m c) (aW0 m c) (aW1 m c) (aW2 m c) (aO m c)
abbrev resDG := dgArr (aG m c) (aY0 m c) (aY1 m c) (aY2 m c) (aW0 m c) (aW1 m c) (aW2 m c) (aO m c) (aD m c)
abbrev resDO := doArr (aG m c) (aY0 m c) (aY1 m c) (aY2 m c) (aW0 m c) (aW1 m c) (aW2 m c) (aD m c)
abbrev resDY0 := dyArr (aG m c) (aO m c) (aD m c) (aW0 m c) 0
abbrev resDW0 := dwArr (aG m c) (aO m c) (aD m c) (aY0 m c) 0
abbrev resDY1 := dyArr (aG m c) (aO m c) (aD m c) (aW1 m c) 1
abbrev resDW1 := dwArr (aG m c) (aO m c) (aD m c) (aY1 m c) 1
abbrev resDY2 := dyArr (aG m c) (aO m c) (aD m c) (aW2 m c) 2
abbrev resDW2 := dwArr (aG m c) (aO m c) (aD m c) (aY2 m c) 2

theorem w13_X2 : W13 m ρ c (Proc.devRef .tc main_v10) = resX2 m c := by
  exact ((W13_of m ρ c main_v10 (by decide)).trans ((W12_of m ρ c main_v10 (by decide)).trans ((W11_of m ρ c main_v10 (by decide)).trans ((W10_of m ρ c main_v10 (by decide)).trans ((W9_of m ρ c main_v10 (by decide)).trans ((W8_of m ρ c main_v10 (by decide)).trans ((W7_of m ρ c main_v10 (by decide)).trans ((W6_of m ρ c main_v10 (by decide)).trans ((W5_of m ρ c main_v10 (by decide)).trans (W4_of m ρ c main_v10 (by decide))))))))))).trans (v3_x2 m ρ c)

theorem w13_DG : W13 m ρ c (Proc.devRef .tc main_v20) = resDG m c := by
  refine Eq.trans ?_ (((W12_of m ρ c main_v13_3 (by decide)).trans ((W11_of m ρ c main_v13_3 (by decide)).trans ((W10_of m ρ c main_v13_3 (by decide)).trans ((W9_of m ρ c main_v13_3 (by decide)).trans ((W8_of m ρ c main_v13_3 (by decide)).trans (W7_of m ρ c main_v13_3 (by decide))))))).trans (v6_dg m ρ c))
  show StableHlo.after hostOps11 _ (Proc.devRef .tc main_v20) = _
  after_results
  rfl

theorem w13_DY0 : W13 m ρ c (Proc.devRef .tc main_v21) = resDY0 m c := by
  refine Eq.trans ?_ (((W12_of m ρ c main_v14 (by decide)).trans ((W11_of m ρ c main_v14 (by decide)).trans ((W10_of m ρ c main_v14 (by decide)).trans ((W9_of m ρ c main_v14 (by decide)).trans (W8_of m ρ c main_v14 (by decide)))))).trans (v7_dy0 m ρ c))
  show StableHlo.after hostOps11 _ (Proc.devRef .tc main_v21) = _
  after_results
  rfl

theorem w13_DY1 : W13 m ρ c (Proc.devRef .tc main_v16) = resDY1 m c := by
  exact ((W13_of m ρ c main_v16 (by decide)).trans ((W12_of m ρ c main_v16 (by decide)).trans ((W11_of m ρ c main_v16 (by decide)).trans (W10_of m ρ c main_v16 (by decide))))).trans (v9_dy1 m ρ c)

theorem w13_DY2 : W13 m ρ c (Proc.devRef .tc main_v22) = resDY2 m c := by
  refine Eq.trans ?_ ((W12_of m ρ c main_v18 (by decide)).trans (v11_dy2 m ρ c))
  show StableHlo.after hostOps11 _ (Proc.devRef .tc main_v22) = _
  after_results
  rfl

theorem w13_DW0 : W13 m ρ c (Proc.devRef .tc main_v15) = resDW0 m c := by
  exact ((W13_of m ρ c main_v15 (by decide)).trans ((W12_of m ρ c main_v15 (by decide)).trans ((W11_of m ρ c main_v15 (by decide)).trans ((W10_of m ρ c main_v15 (by decide)).trans (W9_of m ρ c main_v15 (by decide)))))).trans (v8_dw0 m ρ c)

theorem w13_DW1 : W13 m ρ c (Proc.devRef .tc main_v17) = resDW1 m c := by
  exact ((W13_of m ρ c main_v17 (by decide)).trans ((W12_of m ρ c main_v17 (by decide)).trans (W11_of m ρ c main_v17 (by decide)))).trans (v10_dw1 m ρ c)

theorem w13_DW2 : W13 m ρ c (Proc.devRef .tc main_v19) = resDW2 m c := by
  exact (W13_of m ρ c main_v19 (by decide)).trans (v12_dw2 m ρ c)

theorem w13_DO : W13 m ρ c (Proc.devRef .tc main_v12) = resDO m c := by
  exact ((W13_of m ρ c main_v12 (by decide)).trans ((W12_of m ρ c main_v12 (by decide)).trans ((W11_of m ρ c main_v12 (by decide)).trans ((W10_of m ρ c main_v12 (by decide)).trans ((W9_of m ρ c main_v12 (by decide)).trans ((W8_of m ρ c main_v12 (by decide)).trans ((W7_of m ρ c main_v12 (by decide)).trans (W6_of m ρ c main_v12 (by decide))))))))).trans (v5_do m ρ c)

end Cert.Kernel3Ideal.Merge

namespace Cert.Kernel3Ideal.Gen

open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe Idealize.ShloMosaic.Tactic
open Idealize.ShloMosaic.Rounds
open Idealize.ShloMosaic.Pipeline (Dat Cfg Window BodyObligation cellOf)
open Cert.Kernel3Ideal.Merge

local notation "𝕄" => MT nD τ sig Unit (Elt Ideal) ℕ (UR sig nD τ) ℕ

variable (m : (b : Loc nD τ sig) → Buf (Elt Ideal) b) (ρ : Dev nD → PrngReg)

set_option backward.isDefEq.respectTransparency.types false in
/-- The run: the arguments end as launched, the results at their values. -/
theorem run_final : θ_run defs (onTc (τ := τ) (main (F := Ideal))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.mem ((c.tc : Thread nD τ).loc main_v10) = resX2 m c
      ∧ r.2.mem ((c.tc : Thread nD τ).loc main_v20) = resDG m c
      ∧ r.2.mem ((c.tc : Thread nD τ).loc main_v21) = resDY0 m c
      ∧ r.2.mem ((c.tc : Thread nD τ).loc main_v16) = resDY1 m c
      ∧ r.2.mem ((c.tc : Thread nD τ).loc main_v22) = resDY2 m c
      ∧ r.2.mem ((c.tc : Thread nD τ).loc main_v15) = resDW0 m c
      ∧ r.2.mem ((c.tc : Thread nD τ).loc main_v17) = resDW1 m c
      ∧ r.2.mem ((c.tc : Thread nD τ).loc main_v19) = resDW2 m c
      ∧ r.2.mem ((c.tc : Thread nD τ).loc main_v12) = resDO m c) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz c => ⟨⟨(h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩,
       (h c _ (mem_uc main_v10 (by decide))).trans (w13_X2 m ρ c),
       (h c _ (mem_uc main_v20 (by decide))).trans (w13_DG m ρ c),
       (h c _ (mem_uc main_v21 (by decide))).trans (w13_DY0 m ρ c),
       (h c _ (mem_uc main_v16 (by decide))).trans (w13_DY1 m ρ c),
       (h c _ (mem_uc main_v22 (by decide))).trans (w13_DY2 m ρ c),
       (h c _ (mem_uc main_v15 (by decide))).trans (w13_DW0 m ρ c),
       (h c _ (mem_uc main_v17 (by decide))).trans (w13_DW1 m ρ c),
       (h c _ (mem_uc main_v19 (by decide))).trans (w13_DW2 m ρ c),
       (h c _ (mem_uc main_v12 (by decide))).trans (w13_DO m ρ c)⟩)

end Cert.Kernel3Ideal.Gen

end
-- ==== Proof.MergeMeet.lean ====
/-
    The reference's nine results of the merge are the kernel's: each of the reference's values at an index, and the nine meetings.
  Addition and multiplication commute and multiplication associates on all extended reals, so nothing is asked of the entries.
-/
module

public import proofs.«01_k».proof.Proof.MergeRun
public import proofs.«01_k».proof.Proof.Gen.Reference3Ideal.Read
public import Idealize.ShloMosaic.Lib.ValueIdxCore
public import Idealize.ShloMosaic.Lib.KernelVsHost

@[expose] public section

set_option maxRecDepth 16384

noncomputable section

namespace Cert.Reference3Ideal.Merge

open Idealize.ShloMosaic Idealize.ShloMosaic.TcCoe Idealize.SL.Sem Idealize.ShloMosaic.Tactic
open Cert.Reference3Ideal Cert.Reference3Ideal.Gen Cert.Reference3Ideal.Read Cert.Mat
open Cert.Kernel3Ideal.Merge (gateOf padZ padZ_apply third thirdOf inThird pick mixAt dAt dgAt outAt mixArr prodArr dmArr dArr x2Arr dgArr dyArr dwArr doArr)

variable (X : M 4096 1024) (G : M 4096 3072) (Y Y0 Y1 Y2 : M 4096 512) (W W0 W1 W2 : M 512 1024) (O : M 1024 1024) (D : M 4096 1024)

theorem one_one : Ideal.ofBits .f32 0x3F800000#32 = 1 := by
  simp [Ideal.ofBits, Ideal.ieee, -EReal.coe_mul]; norm_num
theorem zero_zero : Ideal.ofBits .f32 0x00000000#32 = 0 := by simp [Ideal.ofBits, Ideal.ieee]

/-! ## The gates -/

theorem gate_eq (r : Fin 4096) (j : Fin 3) (d : Fin 1024) : val_main_v6 (F := Ideal) G (ValueIdx.ix3 r j d) = gateOf (padZ G) j r d := by
  have e : idx_main_v0 (ValueIdx.ix3 r j d) = ix2 r (third j d) := funext fun a => Fin.ext (by
    match a with
    | ⟨0, _⟩ => show ((r.val * 3 + j.val) * 1024 + d.val) / 3072 = r.val; omega
    | ⟨1, _⟩ => show ((r.val * 3 + j.val) * 1024 + d.val) % 3072 = 1024 * j.val + d.val; omega)
  rw [val_main_v6_apply, val_main_v5_apply, val_main_v4_apply, val_main_v3_apply, val_main_v2_apply, val_main_v1_apply, val_main_v0_apply, e]
  unfold gateOf
  rw [padZ_apply]
  show Ideal.div (Ideal.ofBits .f32 0x3F800000#32) (Ideal.ofBits .f32 0x3F800000#32 + _) = _
  rw [one_one]
  rfl

theorem gate0 (r : Fin 4096) (d : Fin 1024) : val_main_v11 (F := Ideal) G (ix2 r d) = gateOf (padZ G) 0 r d := by
  rw [val_main_v11_apply, val_main_v10_apply]
  refine (congrArg _ (funext fun a => Fin.ext ?_)).trans (gate_eq G r 0 d)
  match a with
  | ⟨0, _⟩ => show (r.val * 1024 + d.val) / 1024 = r.val; omega
  | ⟨1, _⟩ => rfl
  | ⟨2, _⟩ => show (r.val * 1024 + d.val) % 1024 = d.val; omega

theorem gate1 (r : Fin 4096) (d : Fin 1024) : val_main_v15 (F := Ideal) G (ix2 r d) = gateOf (padZ G) 1 r d := by
  rw [val_main_v15_apply, val_main_v14_apply]
  refine (congrArg _ (funext fun a => Fin.ext ?_)).trans (gate_eq G r 1 d)
  match a with
  | ⟨0, _⟩ => show (r.val * 1024 + d.val) / 1024 = r.val; omega
  | ⟨1, _⟩ => rfl
  | ⟨2, _⟩ => show (r.val * 1024 + d.val) % 1024 = d.val; omega

theorem gate2 (r : Fin 4096) (d : Fin 1024) : val_main_v20 (F := Ideal) G (ix2 r d) = gateOf (padZ G) 2 r d := by
  rw [val_main_v20_apply, val_main_v19_apply]
  refine (congrArg _ (funext fun a => Fin.ext ?_)).trans (gate_eq G r 2 d)
  match a with
  | ⟨0, _⟩ => show (r.val * 1024 + d.val) / 1024 = r.val; omega
  | ⟨1, _⟩ => rfl
  | ⟨2, _⟩ => show (r.val * 1024 + d.val) % 1024 = d.val; omega

/-! ## The products -/

theorem prod0 (r : Fin 4096) (d : Fin 1024) : val_main_v12 (F := Ideal) Y W (ix2 r d) = nnAt Y W r d := by
  rw [val_main_v12_apply]
  exact Finset.sum_congr rfl fun k _ => congrArg₂ (fun a b : EReal => a * b) (congrArg _ (funext fun a => Fin.ext (by match a with | ⟨0, _⟩ => rfl | ⟨1, _⟩ => rfl))) (congrArg _ (funext fun a => Fin.ext (by match a with | ⟨0, _⟩ => rfl | ⟨1, _⟩ => rfl)))

theorem prod1 (r : Fin 4096) (d : Fin 1024) : val_main_v16 (F := Ideal) Y W (ix2 r d) = nnAt Y W r d := by
  rw [val_main_v16_apply]
  exact Finset.sum_congr rfl fun k _ => congrArg₂ (fun a b : EReal => a * b) (congrArg _ (funext fun a => Fin.ext (by match a with | ⟨0, _⟩ => rfl | ⟨1, _⟩ => rfl))) (congrArg _ (funext fun a => Fin.ext (by match a with | ⟨0, _⟩ => rfl | ⟨1, _⟩ => rfl)))

theorem prod2 (r : Fin 4096) (d : Fin 1024) : val_main_v21 (F := Ideal) Y W (ix2 r d) = nnAt Y W r d := by
  rw [val_main_v21_apply]
  exact Finset.sum_congr rfl fun k _ => congrArg₂ (fun a b : EReal => a * b) (congrArg _ (funext fun a => Fin.ext (by match a with | ⟨0, _⟩ => rfl | ⟨1, _⟩ => rfl))) (congrArg _ (funext fun a => Fin.ext (by match a with | ⟨0, _⟩ => rfl | ⟨1, _⟩ => rfl)))

theorem mix (r : Fin 4096) (d : Fin 1024) : val_main_v23 (F := Ideal) G Y0 Y1 Y2 W0 W1 W2 (ix2 r d) = mixAt Y0 Y1 Y2 W0 W1 W2 (padZ G) r d := by
  rw [val_main_v23_apply, val_main_v18_apply, val_main_v13_apply, val_main_v17_apply, val_main_v22_apply, gate0, gate1, gate2, prod0, prod1, prod2]
  rfl

theorem dm (r : Fin 4096) (d : Fin 1024) : val_main_v28 (F := Ideal) O D (ix2 r d) = ntAt D O r d := by
  rw [val_main_v28_apply]
  exact Finset.sum_congr rfl fun k _ => congrArg₂ (fun a b : EReal => a * b) (congrArg _ (funext fun a => Fin.ext (by match a with | ⟨0, _⟩ => rfl | ⟨1, _⟩ => rfl))) (congrArg _ (funext fun a => Fin.ext (by match a with | ⟨0, _⟩ => rfl | ⟨1, _⟩ => rfl)))

theorem share0 (r : Fin 4096) (d : Fin 1024) : val_main_v44 (F := Ideal) G O D (ix2 r d) = dArr G O D 0 (ix2 r d) := by
  rw [val_main_v44_apply, gate0, dm]
  exact mul_comm _ _

theorem share1 (r : Fin 4096) (d : Fin 1024) : val_main_v36 (F := Ideal) G O D (ix2 r d) = dArr G O D 1 (ix2 r d) := by
  rw [val_main_v36_apply, gate1, dm]
  exact mul_comm _ _

theorem share2 (r : Fin 4096) (d : Fin 1024) : val_main_v29 (F := Ideal) G O D (ix2 r d) = dArr G O D 2 (ix2 r d) := by
  rw [val_main_v29_apply, gate2, dm]
  exact mul_comm _ _

/-! ## The results -/

theorem x2_eq : val_main_v25 (F := Ideal) X G Y0 Y1 Y2 W0 W1 W2 O = x2Arr X G Y0 Y1 Y2 W0 W1 W2 O := by
  funext i
  obtain ⟨r, d, rfl⟩ : ∃ r d, i = ix2 r d := ⟨i 0, i 1, eq_ix2 i⟩
  rw [val_main_v25_apply, val_main_v24_apply]
  refine (add_comm (X (ix2 r d)) _).trans (congrArg (fun a : EReal => a + X (ix2 r d)) ?_)
  exact Finset.sum_congr rfl fun k _ => congrArg₂ (fun a b : EReal => a * b)
    ((congrArg _ (funext fun a => Fin.ext (by match a with | ⟨0, _⟩ => rfl | ⟨1, _⟩ => rfl))).trans (mix G Y0 Y1 Y2 W0 W1 W2 r k)) (congrArg _ (funext fun a => Fin.ext (by match a with | ⟨0, _⟩ => rfl | ⟨1, _⟩ => rfl)))

theorem do_eq : val_main_v27 (F := Ideal) G Y0 Y1 Y2 W0 W1 W2 D = doArr G Y0 Y1 Y2 W0 W1 W2 D := by
  funext i
  obtain ⟨r, d, rfl⟩ : ∃ r d, i = ix2 r d := ⟨i 0, i 1, eq_ix2 i⟩
  rw [val_main_v27_apply, val_main_v26_apply]
  exact Finset.sum_congr rfl fun k _ => (congrArg₂ (fun a b : EReal => a * b) (congrArg _ (funext fun a => Fin.ext (by match a with | ⟨0, _⟩ => rfl | ⟨1, _⟩ => rfl)))
    ((congrArg _ (funext fun a => Fin.ext (by match a with | ⟨0, _⟩ => rfl | ⟨1, _⟩ => rfl))).trans (mix G Y0 Y1 Y2 W0 W1 W2 k r))).trans (mul_comm _ _)

theorem dy0_eq : val_main_v48 (F := Ideal) G W O D = dyArr G O D W 0 := by
  funext i
  obtain ⟨r, d, rfl⟩ : ∃ r d, i = ix2 r d := ⟨i 0, i 1, eq_ix2 i⟩
  rw [val_main_v48_apply]
  exact Finset.sum_congr rfl fun k _ => congrArg₂ (fun a b : EReal => a * b)
    ((congrArg _ (funext fun a => Fin.ext (by match a with | ⟨0, _⟩ => rfl | ⟨1, _⟩ => rfl))).trans (share0 G O D r k)) (congrArg _ (funext fun a => Fin.ext (by match a with | ⟨0, _⟩ => rfl | ⟨1, _⟩ => rfl)))

theorem dw0_eq : val_main_v47 (F := Ideal) G Y O D = dwArr G O D Y 0 := by
  funext i
  obtain ⟨r, d, rfl⟩ : ∃ r d, i = ix2 r d := ⟨i 0, i 1, eq_ix2 i⟩
  rw [val_main_v47_apply, val_main_v46_apply]
  exact Finset.sum_congr rfl fun k _ => (congrArg₂ (fun a b : EReal => a * b)
    ((congrArg _ (funext fun a => Fin.ext (by match a with | ⟨0, _⟩ => rfl | ⟨1, _⟩ => rfl))).trans (share0 G O D k d)) (congrArg _ (funext fun a => Fin.ext (by match a with | ⟨0, _⟩ => rfl | ⟨1, _⟩ => rfl)))).trans (mul_comm _ _)

theorem dy1_eq : val_main_v40 (F := Ideal) G W O D = dyArr G O D W 1 := by
  funext i
  obtain ⟨r, d, rfl⟩ : ∃ r d, i = ix2 r d := ⟨i 0, i 1, eq_ix2 i⟩
  rw [val_main_v40_apply]
  exact Finset.sum_congr rfl fun k _ => congrArg₂ (fun a b : EReal => a * b)
    ((congrArg _ (funext fun a => Fin.ext (by match a with | ⟨0, _⟩ => rfl | ⟨1, _⟩ => rfl))).trans (share1 G O D r k)) (congrArg _ (funext fun a => Fin.ext (by match a with | ⟨0, _⟩ => rfl | ⟨1, _⟩ => rfl)))

theorem dw1_eq : val_main_v39 (F := Ideal) G Y O D = dwArr G O D Y 1 := by
  funext i
  obtain ⟨r, d, rfl⟩ : ∃ r d, i = ix2 r d := ⟨i 0, i 1, eq_ix2 i⟩
  rw [val_main_v39_apply, val_main_v38_apply]
  exact Finset.sum_congr rfl fun k _ => (congrArg₂ (fun a b : EReal => a * b)
    ((congrArg _ (funext fun a => Fin.ext (by match a with | ⟨0, _⟩ => rfl | ⟨1, _⟩ => rfl))).trans (share1 G O D k d)) (congrArg _ (funext fun a => Fin.ext (by match a with | ⟨0, _⟩ => rfl | ⟨1, _⟩ => rfl)))).trans (mul_comm _ _)

theorem dy2_eq : val_main_v33 (F := Ideal) G W O D = dyArr G O D W 2 := by
  funext i
  obtain ⟨r, d, rfl⟩ : ∃ r d, i = ix2 r d := ⟨i 0, i 1, eq_ix2 i⟩
  rw [val_main_v33_apply]
  exact Finset.sum_congr rfl fun k _ => congrArg₂ (fun a b : EReal => a * b)
    ((congrArg _ (funext fun a => Fin.ext (by match a with | ⟨0, _⟩ => rfl | ⟨1, _⟩ => rfl))).trans (share2 G O D r k)) (congrArg _ (funext fun a => Fin.ext (by match a with | ⟨0, _⟩ => rfl | ⟨1, _⟩ => rfl)))

theorem dw2_eq : val_main_v32 (F := Ideal) G Y O D = dwArr G O D Y 2 := by
  funext i
  obtain ⟨r, d, rfl⟩ : ∃ r d, i = ix2 r d := ⟨i 0, i 1, eq_ix2 i⟩
  rw [val_main_v32_apply, val_main_v31_apply]
  exact Finset.sum_congr rfl fun k _ => (congrArg₂ (fun a b : EReal => a * b)
    ((congrArg _ (funext fun a => Fin.ext (by match a with | ⟨0, _⟩ => rfl | ⟨1, _⟩ => rfl))).trans (share2 G O D k d)) (congrArg _ (funext fun a => Fin.ext (by match a with | ⟨0, _⟩ => rfl | ⟨1, _⟩ => rfl)))).trans (mul_comm _ _)

/-! ## The gates' gradient -/

section
variable (x : S4096x1x1024.Idx → EReal) (v : S_.Idx → EReal) (hi : Fin 3 → Nat) (hu : 0 < S_.numel) (r : Fin 4096) (d : Fin 1024)

theorem pad_in (j : Fin 3) (h : Shape.Pads S4096x1x1024 ![0, j.val, 0] hi ![0, 0, 0] S4096x3x1024) :
    pad S4096x3x1024 ![0, j.val, 0] hi ![0, 0, 0] x v h hu (ValueIdx.ix3 r j d) = x (ValueIdx.ix3 r 0 d) :=
  pad_apply_of_inside (s := S4096x1x1024) (t := S4096x3x1024) _ _ _ x v h hu _ _ fun a => by
    match a with
    | ⟨0, _⟩ => show r.val = 0 + r.val * (0 + 1); omega
    | ⟨1, _⟩ => show j.val = j.val + 0 * (0 + 1); omega
    | ⟨2, _⟩ => show d.val = 0 + d.val * (0 + 1); omega

theorem pad_out (j l : Fin 3) (hne : l ≠ j) (h : Shape.Pads S4096x1x1024 ![0, l.val, 0] hi ![0, 0, 0] S4096x3x1024) :
    pad S4096x3x1024 ![0, l.val, 0] hi ![0, 0, 0] x v h hu (ValueIdx.ix3 r j d) = v (Shape.Idx.first hu) :=
  pad_apply_of_not_inside (s := S4096x1x1024) (t := S4096x3x1024) _ _ _ x v h hu _ 1 (by
    show ¬(l.val ≤ j.val ∧ (j.val - l.val) % (0 + 1) = 0 ∧ (j.val - l.val) / (0 + 1) < 1)
    intro hh
    have := Fin.val_ne_of_ne hne
    omega)
end

theorem slot2_in (r : Fin 4096) (d : Fin 1024) : val_main_v35 (F := Ideal) Y W O D (ValueIdx.ix3 r 2 d) = ntAt D O r d * nnAt Y W r d := by
  refine (pad_in _ _ _ _ r d 2 _).trans ?_
  rw [val_main_v34_apply, val_main_v30_apply]
  exact congrArg₂ (fun a b : EReal => a * b) ((congrArg _ (funext fun a => Fin.ext (by match a with | ⟨0, _⟩ => rfl | ⟨1, _⟩ => rfl))).trans (dm O D r d)) ((congrArg _ (funext fun a => Fin.ext (by match a with | ⟨0, _⟩ => rfl | ⟨1, _⟩ => rfl))).trans (prod2 Y W r d))
theorem slot2_out (r : Fin 4096) (d : Fin 1024) (j : Fin 3) (h : 2 ≠ j) : val_main_v35 (F := Ideal) Y W O D (ValueIdx.ix3 r j d) = 0 :=
  (pad_out _ _ _ _ r d j 2 h _).trans ((val_main_cst_2_apply _).trans zero_zero)

theorem slot1_in (r : Fin 4096) (d : Fin 1024) : val_main_v42 (F := Ideal) Y W O D (ValueIdx.ix3 r 1 d) = ntAt D O r d * nnAt Y W r d := by
  refine (pad_in _ _ _ _ r d 1 _).trans ?_
  rw [val_main_v41_apply, val_main_v37_apply]
  exact congrArg₂ (fun a b : EReal => a * b) ((congrArg _ (funext fun a => Fin.ext (by match a with | ⟨0, _⟩ => rfl | ⟨1, _⟩ => rfl))).trans (dm O D r d)) ((congrArg _ (funext fun a => Fin.ext (by match a with | ⟨0, _⟩ => rfl | ⟨1, _⟩ => rfl))).trans (prod1 Y W r d))
theorem slot1_out (r : Fin 4096) (d : Fin 1024) (j : Fin 3) (h : 1 ≠ j) : val_main_v42 (F := Ideal) Y W O D (ValueIdx.ix3 r j d) = 0 :=
  (pad_out _ _ _ _ r d j 1 h _).trans ((val_main_cst_3_apply _).trans zero_zero)

theorem slot0_in (r : Fin 4096) (d : Fin 1024) : val_main_v50 (F := Ideal) Y W O D (ValueIdx.ix3 r 0 d) = ntAt D O r d * nnAt Y W r d := by
  refine (pad_in _ _ _ _ r d 0 _).trans ?_
  rw [val_main_v49_apply, val_main_v45_apply]
  exact congrArg₂ (fun a b : EReal => a * b) ((congrArg _ (funext fun a => Fin.ext (by match a with | ⟨0, _⟩ => rfl | ⟨1, _⟩ => rfl))).trans (dm O D r d)) ((congrArg _ (funext fun a => Fin.ext (by match a with | ⟨0, _⟩ => rfl | ⟨1, _⟩ => rfl))).trans (prod0 Y W r d))
theorem slot0_out (r : Fin 4096) (d : Fin 1024) (j : Fin 3) (h : 0 ≠ j) : val_main_v50 (F := Ideal) Y W O D (ValueIdx.ix3 r j d) = 0 :=
  (pad_out _ _ _ _ r d j 0 h _).trans ((val_main_cst_4_apply _).trans zero_zero)

theorem slots (r : Fin 4096) (d : Fin 1024) (j : Fin 3) : val_main_v51 (F := Ideal) Y0 Y1 Y2 W0 W1 W2 O D (ValueIdx.ix3 r j d)
    = ntAt D O r d * pick (prodArr Y0 W0) (prodArr Y1 W1) (prodArr Y2 W2) j (ix2 r d) := by
  rw [val_main_v51_apply, val_main_v43_apply]
  show (_ + _ : EReal) + _ = _
  match j with
  | 0 => rw [slot0_in, slot1_out _ _ _ _ _ _ 0 (by decide), slot2_out _ _ _ _ _ _ 0 (by decide), zero_add, zero_add]; rfl
  | 1 => rw [slot1_in, slot0_out _ _ _ _ _ _ 1 (by decide), slot2_out _ _ _ _ _ _ 1 (by decide), zero_add, add_zero]; rfl
  | 2 => rw [slot2_in, slot0_out _ _ _ _ _ _ 2 (by decide), slot1_out _ _ _ _ _ _ 2 (by decide), add_zero, add_zero]; rfl

theorem dg_eq : val_main_v53 (F := Ideal) G Y0 Y1 Y2 W0 W1 W2 O D = dgArr G Y0 Y1 Y2 W0 W1 W2 O D := by
  funext i
  obtain ⟨r, e, rfl⟩ : ∃ r e, i = ix2 r e := ⟨i 0, i 1, eq_ix2 i⟩
  have he : idx_main_v53 (ix2 r e) = ValueIdx.ix3 r (thirdOf e) (inThird e) := funext fun a => Fin.ext (by
    match a with
    | ⟨0, _⟩ => show (r.val * 3072 + e.val) / 3072 = r.val; omega
    | ⟨1, _⟩ => show (r.val * 3072 + e.val) / 1024 % 3 = e.val / 1024; omega
    | ⟨2, _⟩ => show (r.val * 3072 + e.val) % 1024 = e.val % 1024; omega)
  rw [val_main_v53_apply, he, val_main_v52_apply, slots, val_main_v9_apply, val_main_v8_apply, val_main_v7_apply, gate_eq]
  show _ * (_ * (Ideal.ofBits .f32 0x3F800000#32 - _)) = _
  rw [← mul_assoc]
  rfl

end Cert.Reference3Ideal.Merge

end
-- ==== Proof.MergeClaim.lean ====
/-
  The merge: the reference's frame, and the equality of kernel and reference over the extended reals.
-/
module

public import proofs.«01_k».proof.Defs
public import proofs.«01_k».proof.Proof.MergeMeet
public import proofs.«01_k».proof.Proof.Gen.Reference3Ideal.Run
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

theorem merge_frame_ri : Cert.quiescent_Reference3Ideal := fun m ρ _ =>
  (θ_run Cert.Reference3Ideal.defs _ _).mono (fun r h => ⟨fun c => (h c).2.2.2.2.2.2.2.2.2,
      Idealize.ShloMosaic.sem_eq_zero_of_no_sems (by decide) r.2⟩)
    (Cert.Reference3Ideal.Value.run (F := Ideal) m ρ)

theorem merge_algebraic : Cert.algebraic_Kernel3Ideal_Reference3Ideal := by
  intro m ρ m' ρ' hpre hagree
  refine ⟨fun c => Cert.Kernel3Ideal.Merge.resX2 m c, fun c => Cert.Kernel3Ideal.Merge.resDG m c, fun c => Cert.Kernel3Ideal.Merge.resDY0 m c, fun c => Cert.Kernel3Ideal.Merge.resDY1 m c, fun c => Cert.Kernel3Ideal.Merge.resDY2 m c, fun c => Cert.Kernel3Ideal.Merge.resDW0 m c, fun c => Cert.Kernel3Ideal.Merge.resDW1 m c, fun c => Cert.Kernel3Ideal.Merge.resDW2 m c, fun c => Cert.Kernel3Ideal.Merge.resDO m c,
    (θ_run Cert.Kernel3Ideal.defs _ _).mono (fun r h c => by
      obtain ⟨kept, h0, h1, h2, h3, h4, h5, h6, h7, h8⟩ := h c
      exact ⟨h0, h1, h2, h3, h4, h5, h6, h7, h8, kept⟩) (Cert.Kernel3Ideal.Gen.run_final m ρ), ?_⟩
  refine (θ_run Cert.Reference3Ideal.defs _ _).mono (fun _ h c => ?_) (Cert.Reference3Ideal.Value.run (F := Ideal) m' ρ')
  obtain ⟨h0, h1, h2, h3, h4, h5, h6, h7, h8, hkept⟩ := h c
  obtain ⟨a0, a1, a2, a3, a4, a5, a6, a7, a8, a9⟩ := hagree c
  refine ⟨h0.trans ((Cert.Reference3Ideal.Read.val_main_v25_eq _ _ _ _ _ _ _ _ _).trans ?_),
    h1.trans ((Cert.Reference3Ideal.Read.val_main_v53_eq _ _ _ _ _ _ _ _ _).trans ?_),
    h2.trans ((Cert.Reference3Ideal.Read.val_main_v48_eq _ _ _ _).trans ?_),
    h3.trans ((Cert.Reference3Ideal.Read.val_main_v40_eq _ _ _ _).trans ?_),
    h4.trans ((Cert.Reference3Ideal.Read.val_main_v33_eq _ _ _ _).trans ?_),
    h5.trans ((Cert.Reference3Ideal.Read.val_main_v47_eq _ _ _ _).trans ?_),
    h6.trans ((Cert.Reference3Ideal.Read.val_main_v39_eq _ _ _ _).trans ?_),
    h7.trans ((Cert.Reference3Ideal.Read.val_main_v32_eq _ _ _ _).trans ?_),
    h8.trans ((Cert.Reference3Ideal.Read.val_main_v27_eq _ _ _ _ _ _ _ _).trans ?_), hkept⟩
  · rw [a0, a1, a2, a3, a4, a5, a6, a7, a8]; exact Cert.Reference3Ideal.Merge.x2_eq _ _ _ _ _ _ _ _ _
  · rw [a1, a2, a3, a4, a5, a6, a7, a8, a9]; exact Cert.Reference3Ideal.Merge.dg_eq _ _ _ _ _ _ _ _ _
  · rw [a1, a5, a8, a9]; exact Cert.Reference3Ideal.Merge.dy0_eq _ _ _ _
  · rw [a1, a6, a8, a9]; exact Cert.Reference3Ideal.Merge.dy1_eq _ _ _ _
  · rw [a1, a7, a8, a9]; exact Cert.Reference3Ideal.Merge.dy2_eq _ _ _ _
  · rw [a1, a2, a8, a9]; exact Cert.Reference3Ideal.Merge.dw0_eq _ _ _ _
  · rw [a1, a3, a8, a9]; exact Cert.Reference3Ideal.Merge.dw1_eq _ _ _ _
  · rw [a1, a4, a8, a9]; exact Cert.Reference3Ideal.Merge.dw2_eq _ _ _ _
  · rw [a1, a2, a3, a4, a5, a6, a7, a9]; exact Cert.Reference3Ideal.Merge.do_eq _ _ _ _ _ _ _ _

end Cert.Proof

end
-- ==== Proof.WinRms.lean ====
/-
  The input projection's two regions of the root-mean-square normalisation: the normalised rows scaled by the gain (`final0`), and
  the gradients of the rows and of the gain (`final10_4`, `final10_5`). The functions themselves are those of the feed-forward
  half-step's normalisation.
-/
module

public import proofs.«01_k».proof.Proof.FfnRmsBwd
public import proofs.«01_k».proof.Proof.Mat
public import proofs.«01_k».proof.Proof.Gen.Kernel4Ideal.Frame.Region0
public import proofs.«01_k».proof.Proof.Gen.Kernel4Ideal.Frame.Region10

@[expose] public section

set_option maxRecDepth 16384

noncomputable section

namespace Cert.Kernel4Ideal.Win

open Idealize.ShloMosaic Idealize.ShloMosaic.TcCoe Idealize.SL.Sem Idealize.ShloMosaic.Tactic
open Idealize.ShloMosaic.Pipeline (Dat)
open Cert.Mat (tile tile0 tile1)
open Cert.Kernel4Ideal Cert.Kernel4Ideal.Gen
open Cert.Kernel2Ideal.Ffn (hz2 hz3 rms normArr xhat dxArr dgAt addAt upTo8 row8 sum_row8 ld_row0)

theorem pay0_apply (x : Vec Ideal S512x1024 .f32) (g : Vec Ideal S1x1024 .f32) (r : Fin 512) (d : Fin 1024) :
    k0_pay1 x g (ix2 r d) = x (ix2 r d) * rms (fun e => x (ix2 r e)) * g (ix2 0 d) := by
  unfold k0_pay1 rms
  pointwise

section

theorem out0_eq (x : Vec Ideal S512x1024 .f32) (g : Vec Ideal S1x1024 .f32) : out0_2 x g = k0_pay1 x g := by
  unfold out0_2
  rw [View.canon_cons_unit_zero hz2, View.ld_unit_zero hz2, View.ld_unit_zero hz2]

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem lt0 (t : Fin cfg0.N) : t.val < 8 := lt_of_lt_of_eq t.isLt N_0

theorem iblk0_0 (t : Fin cfg0.N) (r : Fin 512) (d : Fin 1024) :
    (iblk0 V c 0 t : Vec Ideal S512x1024 .f32) (ix2 r d)
      = (V c main_arg0 : Vec Ideal S4096x1024 .f32) (ix2 ⟨512 * t.val + r.val, by have := lt0 t; omega⟩ d) := by
  have e := (idx0 t).1
  unfold iblk0
  rw [View.read_apply]
  show V c main_arg0 _ = V c main_arg0 _
  refine congrArg _ (Shape.idx_ext₂ ?_ ?_)
  · show win0_0.index t 0 * 512 + 1 * r.val = 512 * t.val + r.val; rw [e]; show t.val * 512 + _ = _; omega
  · show win0_0.index t 1 * 1024 + 1 * d.val = d.val; rw [e]; show 0 * 1024 + _ = _; omega

theorem iblk0_1 (t : Fin cfg0.N) : (iblk0 V c 1 t : Vec Ideal S1x1024 .f32) = V c main_v11 := by
  have e := (idx0 t).2.1
  unfold iblk0
  funext y
  rw [View.read_apply]
  show V c main_v11 _ = V c main_v11 _
  refine congrArg _ (Shape.idx_ext₂ ?_ ?_)
  · show win0_1.index t 0 * 1 + 1 * (y 0).val = (y 0).val; rw [e]; show 0 * 1 + _ = _; omega
  · show win0_1.index t 1 * 1024 + 1 * (y 1).val = (y 1).val; rw [e]; show 0 * 1024 + _ = _; omega

/-- The array the first region leaves. -/
theorem final0 : (dat0 V c).arrAt 2 cfg0.N = normArr (V c main_arg0) (V c main_v11) := by
  refine (dat0 V c).arrAt_eq_of_cover 2 _ (fun t _ => ?_) (Pipeline.Window.Covers.cover _ (by decide +kernel) (Memref.isWhole_whole _))
  have e := (idx0 t).2.2
  show (cfg0.win 2).cut (grid0.coords t) ((dat0 V c).after 2 t) = _
  rw [after0_2, out0_eq]
  funext y
  obtain ⟨r, d, rfl⟩ : ∃ (r : Fin 512) (d : Fin 1024), y = ix2 r d := ⟨y 0, y 1, eq_ix2 y⟩
  rw [View.read_apply]
  have e' : ((cfg0.win 2).blk t).view.emb (ix2 r d) = ix2 (⟨512 * t.val + r.val, by have := lt0 t; omega⟩ : Fin 4096) d := by
    refine Shape.idx_ext₂ ?_ ?_
    · show win0_2.index t 0 * 512 + 1 * r.val = 512 * t.val + r.val; rw [e]; show t.val * 512 + _ = _; omega
    · show win0_2.index t 1 * 1024 + 1 * d.val = d.val; rw [e]; show 0 * 1024 + _ = _; omega
  rw [e']
  show k0_pay1 (F := Ideal) _ _ (ix2 r d) = normArr _ _ _
  rw [pay0_apply, iblk0_1]
  simp only [iblk0_0]
  rfl

end

/-! ## The payloads -/

section
variable (x : Vec Ideal S512x1024 .f32) (g : Vec Ideal S1x1024 .f32) (D Y : Vec Ideal S512x1024 .f32)

theorem pay10_2_apply (r : Fin 512) : k10_pay2 x (ix2 r 0) = rms (fun d => x (ix2 r d)) := by
  unfold k10_pay2 rms
  pointwise

theorem pay10_3_apply (r : Fin 512) (d : Fin 1024) : k10_pay3 x (ix2 r d) = x (ix2 r d) * rms (fun d => x (ix2 r d)) := by
  unfold k10_pay3
  pointwise
  rw [pay10_2_apply]

theorem pay10_5_apply (r : Fin 512) (d : Fin 1024) : k10_pay5 x D g Y (ix2 r d)
    = rms (fun d => x (ix2 r d)) * (D (ix2 r d) * g (ix2 0 d) - x (ix2 r d) * rms (fun d => x (ix2 r d))
        * Ideal.div (∑ d : Fin 1024, D (ix2 r d) * g (ix2 0 d) * (x (ix2 r d) * rms (fun d => x (ix2 r d)))) (Ideal.ofBits .f32 0x44800000#32))
      + Y (ix2 r d) := by
  unfold k10_pay5 k10_pay4
  pointwise
  simp only [pay10_2_apply, pay10_3_apply]

theorem pay10_1_apply (o : Vec Ideal S1x1024 .f32) (d : Fin 1024) :
    k10_pay1 (k10_pay7 o) (k10_pay8 x D) (ix2 0 d) = o (ix2 0 d) + addAt x D d := by
  unfold k10_pay1 k10_pay7 k10_pay8 k10_pay4 addAt
  pointwise
  simp only [pay10_3_apply]
end

theorem pay10_6_apply (y : S8x1024.Idx) : (k10_pay6 (F := Ideal)) y = 0 := by unfold k10_pay6; pointwise

/-! ## What a point leaves -/

section
variable (c : Dev nD) (i : grid10.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole)
  (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole)
  (x0 : Vec Ideal S512x1024 .f32) (x1 : Vec Ideal S1x1024 .f32) (x2 x3 : Vec Ideal S512x1024 .f32) (xo5 : Vec Ideal S8x1024 .f32)

theorem out10_A_4_eq (hc0 : cond10_0 i) :
    out10_A_4 c i arg1 harg1 arg2 harg2 arg3 harg3 arg4 harg4 arg5 harg5 arg6 harg6 hc0 x0 x1 x2 x3 = k10_pay5 x0 x2 x1 x3 := by
  unfold out10_A_4
  rw [View.read_writes_eq_canon _ _ _ (cover10_A_4 c i arg1 harg1 arg2 harg2 arg3 harg3 arg4 harg4 arg5 harg5 arg6 harg6 hc0 x0 x1 x2 x3)]
  unfold kernelRun10_A
  dsimp only
  sl_unfold_words
  simp only [View.canon_cons_unit_zero (S := S512x1024) hz2, View.readAt_eq_ld, harg1.read_unread, harg2.read_unread,
    harg3.read_unread, harg4.read_unread, View.ld_unit_zero (S := S512x1024) hz2, View.ld_unit_zero (S := S1x1024) hz2]

theorem out10_B_4_eq (hc0 : ¬cond10_0 i) :
    out10_B_4 c i arg1 harg1 arg2 harg2 arg3 harg3 arg4 harg4 arg5 harg5 arg6 harg6 hc0 x0 x1 x2 x3 xo5 = k10_pay5 x0 x2 x1 x3 := by
  unfold out10_B_4
  rw [View.read_writes_eq_canon _ _ _ (cover10_B_4 c i arg1 harg1 arg2 harg2 arg3 harg3 arg4 harg4 arg5 harg5 arg6 harg6 hc0 x0 x1 x2 x3 xo5)]
  unfold kernelRun10_B
  dsimp only
  sl_unfold_words
  simp only [View.canon_cons_unit_zero (S := S512x1024) hz2, View.readAt_eq_ld, harg1.read_unread, harg2.read_unread,
    harg3.read_unread, harg4.read_unread, View.ld_unit_zero (S := S512x1024) hz2, View.ld_unit_zero (S := S1x1024) hz2]

/-- … and stored. -/
theorem row0_read (v : View sig .tc .vmem S8x1024 .f32) (f) (w : Vec Ideal S1x1024 .f32) (L : List (View.Piece (Elt Ideal) S8x1024 .f32)) (d : Fin 1024) :
    v.read (Elt Ideal) (v.writes (Elt Ideal) f ((⟨Rect.unit ![0, 0] ![1, 1024] inb_S8x1024_S1x1024_0_0, w⟩ : View.Piece (Elt Ideal) S8x1024 .f32) :: L)) (ix2 0 d)
      = w (ix2 0 d) := by
  have hy : (Rect.unit (s := S8x1024) ![0, 0] ![1, 1024] inb_S8x1024_S1x1024_0_0).emb (ix2 (0 : Fin 1) d) = ix2 (0 : Fin 8) d :=
    Shape.idx_ext₂ rfl (by show 0 + 1 * d.val = d.val; omega)
  exact (congrArg (v.read (Elt Ideal) (v.writes (Elt Ideal) f _)) hy.symm).trans
    (View.read_writes_cons_emb v f (Rect.unit (s := S8x1024) ![0, 0] ![1, 1024] inb_S8x1024_S1x1024_0_0) w L (ix2 (0 : Fin 1) d))

theorem out10_A_5_row (hc0 : cond10_0 i) (d : Fin 1024) :
    out10_A_5 c i arg1 harg1 arg2 harg2 arg3 harg3 arg4 harg4 arg5 harg5 arg6 harg6 hc0 x0 x1 x2 x3 (ix2 0 d) = 0 + addAt x0 x2 d := by
  unfold out10_A_5 kernelRun10_A
  dsimp only
  sl_unfold_words
  rw [row0_read]
  rw [View.readCov_eq_canon_ld _ _ _ (fun y => ⟨_, List.mem_cons_self, by
    rw [Rect.mem_set_unit]; intro a
    match a with
    | ⟨0, _⟩ => exact ⟨Nat.zero_le _, (y 0).isLt⟩
    | ⟨1, _⟩ => exact ⟨Nat.zero_le _, (y 1).isLt⟩⟩)]
  simp only [View.canon_cons_unit_zero (S := S8x1024) hz2, View.readAt_eq_ld, harg1.read_unread, harg3.read_unread,
    View.ld_unit_zero (S := S512x1024) hz2]
  rw [pay10_1_apply, ld_row0, pay10_6_apply]

theorem out10_B_5_row (hc0 : ¬cond10_0 i) (d : Fin 1024) :
    out10_B_5 c i arg1 harg1 arg2 harg2 arg3 harg3 arg4 harg4 arg5 harg5 arg6 harg6 hc0 x0 x1 x2 x3 xo5 (ix2 0 d)
      = xo5 (ix2 0 d) + addAt x0 x2 d := by
  unfold out10_B_5 kernelRun10_B
  dsimp only
  sl_unfold_words
  rw [row0_read]
  simp only [View.readAt_eq_ld, harg1.read_unread, harg3.read_unread, harg6.read_unread,
    View.ld_unit_zero (S := S512x1024) hz2]
  rw [pay10_1_apply, ld_row0]
end

/-! ## The region -/

variable (V : (c : Dev nD) → (b : Ref sig .tc) → Buf (Elt Ideal) ((c : Thread nD τ).loc b)) (c : Dev nD)

theorem first10 (t : Fin cfg10.N) (h0 : t.val % 8 = 0) :
    (outsAt10 V c t.val t.isLt).1 = k10_pay5 (iblk10 V c 0 t) (iblk10 V c 2 t) (iblk10 V c 1 t) (iblk10 V c 3 t)
      ∧ ∀ d : Fin 1024, (outsAt10 V c t.val t.isLt).2 (ix2 0 d) = 0 + addAt (iblk10 V c 0 t) (iblk10 V c 2 t) d := by
  rw [outsAt10_A V c t h0]
  dsimp only
  exact ⟨out10_A_4_eq .., fun d => out10_A_5_row ..⟩

theorem next10 (t : Fin cfg10.N) (h0 : ¬t.val % 8 = 0) :
    (outsAt10 V c t.val t.isLt).1 = k10_pay5 (iblk10 V c 0 t) (iblk10 V c 2 t) (iblk10 V c 1 t) (iblk10 V c 3 t)
      ∧ ∀ d : Fin 1024, (outsAt10 V c t.val t.isLt).2 (ix2 0 d)
        = (outsAt10 V c (t.val - 1) (Nat.lt_of_le_of_lt (Nat.sub_le _ _) t.isLt)).2 (ix2 0 d) + addAt (iblk10 V c 0 t) (iblk10 V c 2 t) d := by
  rw [outsAt10_B V c t h0]
  dsimp only
  exact ⟨out10_B_4_eq .., fun d => out10_B_5_row ..⟩

theorem outs10_4 (t : Fin cfg10.N) : (outsAt10 V c t.val t.isLt).1 = k10_pay5 (iblk10 V c 0 t) (iblk10 V c 2 t) (iblk10 V c 1 t) (iblk10 V c 3 t) := by
  by_cases h0 : t.val % 8 = 0
  · exact (first10 V c t h0).1
  · exact (next10 V c t h0).1

abbrev add10 (t : Fin cfg10.N) (d : Fin 1024) : EReal := addAt (iblk10 V c 0 t) (iblk10 V c 2 t) d

theorem outs10_5 (n : ℕ) (d : Fin 1024) : ∀ h : n < cfg10.N,
    (outsAt10 V c n h).2 (ix2 0 d) = upTo8 (fun k => add10 V c (k.cast N_10.symm) d) n := by
  have hN : cfg10.N = 8 := N_10
  induction n with
  | zero =>
    intro h
    refine ((first10 V c ⟨0, h⟩ rfl).2 d).trans ?_
    unfold upTo8
    rw [Finset.sum_range_one, dif_pos (by decide), zero_add]
    rfl
  | succ n ih =>
    intro h
    refine ((next10 V c ⟨n + 1, h⟩ (by dsimp only; omega)).2 d).trans ?_
    unfold upTo8
    rw [Finset.sum_range_succ, dif_pos (by omega)]
    exact congrArg (· + add10 V c ⟨n + 1, h⟩ d) (ih (Nat.lt_of_succ_lt h))

theorem idx10 : ∀ t : Fin cfg10.N, win10_0.index t = ![t.val, 0] ∧ win10_1.index t = ![0, 0] ∧ win10_2.index t = ![t.val, 0]
    ∧ win10_3.index t = ![t.val, 0] ∧ win10_4.index t = ![t.val, 0] ∧ win10_5.index t = ![0, 0] :=
  (by decide +kernel : ∀ t : Fin grid10.N, _)

abbrev blk10 (t : Fin cfg10.N) : Fin 8 := t.cast N_10

theorem iblk10_0 (t : Fin cfg10.N) (r : Fin 512) (d : Fin 1024) : (iblk10 V c 0 t : Vec Ideal S512x1024 .f32) (ix2 r d)
    = (V c main_arg0 : Vec Ideal S4096x1024 .f32) (ix2 (row8 (blk10 t) r) d) :=
  have e := (idx10 t).1
  (View.read_apply ..).trans (congrArg (V c main_arg0) (Shape.idx_ext₂ (tile (congrFun e 0)) (tile0 (congrFun e 1))))

theorem iblk10_2 (t : Fin cfg10.N) (r : Fin 512) (d : Fin 1024) : (iblk10 V c 2 t : Vec Ideal S512x1024 .f32) (ix2 r d)
    = (V c main_v34 : Vec Ideal S4096x1024 .f32) (ix2 (row8 (blk10 t) r) d) :=
  have e := (idx10 t).2.2.1
  (View.read_apply ..).trans (congrArg (V c main_v34) (Shape.idx_ext₂ (tile (congrFun e 0)) (tile0 (congrFun e 1))))

theorem iblk10_3 (t : Fin cfg10.N) (r : Fin 512) (d : Fin 1024) : (iblk10 V c 3 t : Vec Ideal S512x1024 .f32) (ix2 r d)
    = (V c main_arg4 : Vec Ideal S4096x1024 .f32) (ix2 (row8 (blk10 t) r) d) :=
  have e := (idx10 t).2.2.2.1
  (View.read_apply ..).trans (congrArg (V c main_arg4) (Shape.idx_ext₂ (tile (congrFun e 0)) (tile0 (congrFun e 1))))

theorem iblk10_1 (t : Fin cfg10.N) (d : Fin 1024) : (iblk10 V c 1 t : Vec Ideal S1x1024 .f32) (ix2 0 d)
    = (V c main_v42 : Vec Ideal S1x1024 .f32) (ix2 0 d) :=
  have e := (idx10 t).2.1
  (View.read_apply ..).trans (congrArg (V c main_v42) (Shape.idx_ext₂ (tile1 (congrFun e 0)) (tile0 (congrFun e 1))))

theorem emb10_4 (t : Fin cfg10.N) (r : Fin 512) (d : Fin 1024) :
    ((cfg10.win 4).blk t).view.emb (ix2 r d) = ix2 (row8 (blk10 t) r) d := by
  have e := (idx10 t).2.2.2.2.1
  refine Shape.idx_ext₂ ?_ ?_
  · show win10_4.index t 0 * 512 + 1 * r.val = 512 * t.val + r.val; rw [e]; show t.val * 512 + _ = _; omega
  · show win10_4.index t 1 * 1024 + 1 * d.val = d.val; rw [e]; show 0 * 1024 + _ = _; omega

theorem flushed10_4 (t : Fin cfg10.N) : (dat10 V c).flushed 4 t = ((cfg10.win 4).blk t).view.read (Elt Ideal)
    (dxArr (V c main_arg0) (V c main_v42) (V c main_v34) (V c main_arg4)) := by
  show (cfg10.win 4).cut (grid10.coords t) ((dat10 V c).after 4 t) = _
  rw [after10_4, outs10_4]
  funext y
  obtain ⟨r, d, rfl⟩ : ∃ (r : Fin 512) (d : Fin 1024), y = ix2 r d := ⟨y 0, y 1, eq_ix2 y⟩
  rw [View.read_apply, emb10_4]
  refine (pay10_5_apply _ _ _ _ r d).trans ?_
  show (_ : EReal) = dxArr (V c main_arg0) (V c main_v42) (V c main_v34) (V c main_arg4) (ix2 (row8 (blk10 t) r) d)
  simp only [iblk10_0, iblk10_1, iblk10_2, iblk10_3]
  rfl

theorem final10_4 : (dat10 V c).arrAt 4 cfg10.N = dxArr (V c main_arg0) (V c main_v42) (V c main_v34) (V c main_arg4) :=
  (dat10 V c).arrAt_eq_of_cover 4 _ (fun t _ => flushed10_4 V c t) (Pipeline.Window.Covers.cover _ (by decide +kernel) (Memref.isWhole_whole _))

/-- The last point. -/
abbrev last8 : Fin cfg10.N := (7 : Fin 8).cast N_10.symm

theorem emb10_5 (t : Fin cfg10.N) (y : S8x1024.Idx) : ((cfg10.win 5).blk t).view.emb y = y := by
  have e := (idx10 t).2.2.2.2.2
  refine Shape.idx_ext₂ ?_ ?_
  · show win10_5.index t 0 * 8 + 1 * (y 0).val = (y 0).val; rw [e]; show 0 * 8 + _ = _; omega
  · show win10_5.index t 1 * 1024 + 1 * (y 1).val = (y 1).val; rw [e]; show 0 * 1024 + _ = _; omega

theorem flushed10_5 (t : Fin cfg10.N) (hf : (cfg10.win 5).flush t = true) : (dat10 V c).flushed 5 t
    = ((cfg10.win 5).blk t).view.read (Elt Ideal) ((outsAt10 V c last8.val last8.isLt).2 : Vec Ideal S8x1024 .f32) := by
  have ht : t = last8 := Fin.ext (by
    have h1 := (flush10_5 t).mp hf
    have h2 : t.val < 8 := lt_of_lt_of_eq t.isLt N_10
    show t.val = 7; omega)
  subst ht
  show (cfg10.win 5).cut (grid10.coords last8) ((dat10 V c).after 5 last8) = _
  rw [after10_5]
  funext y
  rw [View.read_apply, emb10_5]
  rfl

theorem final10_5 (d : Fin 1024) : ((dat10 V c).arrAt 5 cfg10.N : Vec Ideal S8x1024 .f32) (ix2 0 d)
    = dgAt (V c main_arg0) (V c main_v34) d := by
  rw [(dat10 V c).arrAt_eq_of_cover 5 ((outsAt10 V c last8.val last8.isLt).2 : Vec Ideal S8x1024 .f32) (fun t h => flushed10_5 V c t h) (Pipeline.Window.Covers.cover _ (by decide +kernel) (Memref.isWhole_whole _))]
  refine (outs10_5 V c 7 d last8.isLt).trans ?_
  unfold upTo8 dgAt
  rw [Finset.sum_range, ← sum_row8]
  refine Finset.sum_congr rfl fun b _ => ?_
  rw [dif_pos b.isLt]
  refine Finset.sum_congr rfl fun r _ => ?_
  simp only [iblk10_0, iblk10_2]
  rfl

end Cert.Kernel4Ideal.Win

end
-- ==== Proof.WinProd.lean ====
/-
  The input projection's products over the columns laid out in seven segments: the projection itself, the gradient of its rows as
  the sum of seven products, and the gradient of its weights segment by segment (`final1` … `final9`: the arrays the nine regions
  leave, over the arrays they read).
-/
module

public import proofs.«01_k».proof.Proof.Mat
public import proofs.«01_k».proof.Proof.Gen.Kernel4Ideal.Frame.Region1
public import proofs.«01_k».proof.Proof.Gen.Kernel4Ideal.Frame.Region2
public import proofs.«01_k».proof.Proof.Gen.Kernel4Ideal.Frame.Region3
public import proofs.«01_k».proof.Proof.Gen.Kernel4Ideal.Frame.Region4
public import proofs.«01_k».proof.Proof.Gen.Kernel4Ideal.Frame.Region5
public import proofs.«01_k».proof.Proof.Gen.Kernel4Ideal.Frame.Region6
public import proofs.«01_k».proof.Proof.Gen.Kernel4Ideal.Frame.Region7
public import proofs.«01_k».proof.Proof.Gen.Kernel4Ideal.Frame.Region8
public import proofs.«01_k».proof.Proof.Gen.Kernel4Ideal.Frame.Region9
public import Idealize.ShloMosaic.Lib.Pointwise
public import Idealize.ShloMosaic.Lib.Pipeline.Value
public import Idealize.ShloMosaic.Lib.Pipeline.ValueKit
public import Idealize.ShloMosaic.Lib.Tactic

@[expose] public section

set_option maxRecDepth 16384

noncomputable section

namespace Cert.Kernel4Ideal.Win

open Idealize.ShloMosaic Idealize.ShloMosaic.TcCoe Idealize.SL.Sem Idealize.ShloMosaic.Tactic
open Idealize.ShloMosaic.Pipeline (Dat)
open Cert.Kernel4Ideal Cert.Kernel4Ideal.Gen Cert.Mat

/-- A segment's share of the rows' gradient: its columns begin at column `o` of the weights. -/
def segAt {w : ℕ} (A : M 4096 w) (W : M 1024 9216) (o : ℕ) (h : o + w ≤ 9216) (r : Fin 4096) (d : Fin 1024) : EReal :=
  ∑ k : Fin w, A (ix2 r k) * W (ix2 d ⟨o + k.val, by omega⟩)

/-- The seven shares, added in the segments' order. -/
def sevenAt (A0 : M 4096 3072) (A1 : M 4096 1536) (A2 : M 4096 1536) (A3 : M 4096 256) (A4 : M 4096 256) (A5 : M 4096 128) (A6 : M 4096 128) (W : M 1024 9216) (r : Fin 4096) (d : Fin 1024) : EReal :=
  segAt A0 W 0 (by decide) r d + segAt A1 W 3072 (by decide) r d + segAt A2 W 4608 (by decide) r d + segAt A3 W 6144 (by decide) r d + segAt A4 W 6400 (by decide) r d + segAt A5 W 6656 (by decide) r d + segAt A6 W 6784 (by decide) r d

theorem pay2_apply (x0 x1 : Vec Ideal S512x3072 .bf16) (x2 x3 : Vec Ideal S512x1536 .bf16) (x4 x5 : Vec Ideal S512x1536 .bf16) (x6 x7 : Vec Ideal S512x256 .bf16) (x8 x9 : Vec Ideal S512x256 .bf16) (x10 x11 : Vec Ideal S512x128 .bf16) (x12 x13 : Vec Ideal S512x128 .bf16) (r : Fin 512) (d : Fin 512) :
    k2_pay1 (k2_pay2 x0 x1 x2 x3 x4 x5 x6 x7 x8 x9) x10 x11 x12 x13 (ix2 r d)
      = ntAt x0 x1 r d + ntAt x2 x3 r d + ntAt x4 x5 r d + ntAt x6 x7 r d + ntAt x8 x9 r d + ntAt x10 x11 r d + ntAt x12 x13 r d := by
  unfold k2_pay1 k2_pay2
  pointwise
  rfl

theorem out2_eq (x0 x1 : Vec Ideal S512x3072 .bf16) (x2 x3 : Vec Ideal S512x1536 .bf16) (x4 x5 : Vec Ideal S512x1536 .bf16) (x6 x7 : Vec Ideal S512x256 .bf16) (x8 x9 : Vec Ideal S512x256 .bf16) (x10 x11 : Vec Ideal S512x128 .bf16) (x12 x13 : Vec Ideal S512x128 .bf16) :
    out2_14 x0 x1 x2 x3 x4 x5 x6 x7 x8 x9 x10 x11 x12 x13 = k2_pay1 (k2_pay2 x0 x1 x2 x3 x4 x5 x6 x7 x8 x9) x10 x11 x12 x13 := by
  unfold out2_14
  rw [View.canon_cons_unit_zero hz2]
  simp only [View.ld_unit_zero (S := S512x3072) hz2, View.ld_unit_zero (S := S512x1536) hz2, View.ld_unit_zero (S := S512x256) hz2, View.ld_unit_zero (S := S512x128) hz2]

theorem pay1_apply (a : Vec Ideal S1024x1024 .bf16) (b : Vec Ideal S1024x1152 .bf16) (r : Fin 1024) (d : Fin 1152) :
    k1_pay1 a b (ix2 r d) = nnAt a b r d := by
  unfold k1_pay1
  pointwise
  rfl

theorem out1_eq (a : Vec Ideal S1024x1024 .bf16) (b : Vec Ideal S1024x1152 .bf16) : out1_2 a b = k1_pay1 a b := by
  unfold out1_2
  rw [View.canon_cons_unit_zero hz2, View.ld_unit_zero hz2, View.ld_unit_zero hz2]

theorem pay3_apply (a : Vec Ideal S4096x1024 .bf16) (b : Vec Ideal S4096x256 .bf16) (r : Fin 1024) (d : Fin 256) :
    k3_pay1 a b (ix2 r d) = tnAt a b r d := by
  unfold k3_pay1
  pointwise
  rfl

theorem out3_eq (a : Vec Ideal S4096x1024 .bf16) (b : Vec Ideal S4096x256 .bf16) : out3_2 a b = k3_pay1 a b := by
  unfold out3_2
  rw [View.canon_cons_unit_zero hz2, View.ld_unit_zero hz2, View.ld_unit_zero hz2]

theorem pay4_apply (a : Vec Ideal S4096x1024 .bf16) (b : Vec Ideal S4096x256 .bf16) (r : Fin 1024) (d : Fin 256) :
    k4_pay1 a b (ix2 r d) = tnAt a b r d := pay3_apply a b r d

theorem out4_eq (a : Vec Ideal S4096x1024 .bf16) (b : Vec Ideal S4096x256 .bf16) : out4_2 a b = k4_pay1 a b := by
  unfold out4_2
  rw [View.canon_cons_unit_zero hz2, View.ld_unit_zero hz2, View.ld_unit_zero hz2]

theorem pay5_apply (a : Vec Ideal S4096x1024 .bf16) (b : Vec Ideal S4096x256 .bf16) (r : Fin 1024) (d : Fin 256) :
    k5_pay1 a b (ix2 r d) = tnAt a b r d := pay3_apply a b r d

theorem out5_eq (a : Vec Ideal S4096x1024 .bf16) (b : Vec Ideal S4096x256 .bf16) : out5_2 a b = k5_pay1 a b := by
  unfold out5_2
  rw [View.canon_cons_unit_zero hz2, View.ld_unit_zero hz2, View.ld_unit_zero hz2]

theorem pay6_apply (a : Vec Ideal S4096x1024 .bf16) (b : Vec Ideal S4096x256 .bf16) (r : Fin 1024) (d : Fin 256) :
    k6_pay1 a b (ix2 r d) = tnAt a b r d := pay3_apply a b r d

theorem out6_eq (a : Vec Ideal S4096x1024 .bf16) (b : Vec Ideal S4096x256 .bf16) : out6_2 a b = k6_pay1 a b := by
  unfold out6_2
  rw [View.canon_cons_unit_zero hz2, View.ld_unit_zero hz2, View.ld_unit_zero hz2]

theorem pay7_apply (a : Vec Ideal S4096x1024 .bf16) (b : Vec Ideal S4096x256 .bf16) (r : Fin 1024) (d : Fin 256) :
    k7_pay1 a b (ix2 r d) = tnAt a b r d := pay3_apply a b r d

theorem out7_eq (a : Vec Ideal S4096x1024 .bf16) (b : Vec Ideal S4096x256 .bf16) : out7_2 a b = k7_pay1 a b := by
  unfold out7_2
  rw [View.canon_cons_unit_zero hz2, View.ld_unit_zero hz2, View.ld_unit_zero hz2]

theorem pay8_apply (a : Vec Ideal S4096x1024 .bf16) (b : Vec Ideal S4096x128 .bf16) (r : Fin 1024) (d : Fin 128) :
    k8_pay1 a b (ix2 r d) = tnAt a b r d := by
  unfold k8_pay1
  pointwise
  rfl

theorem out8_eq (a : Vec Ideal S4096x1024 .bf16) (b : Vec Ideal S4096x128 .bf16) : out8_2 a b = k8_pay1 a b := by
  unfold out8_2
  rw [View.canon_cons_unit_zero hz2, View.ld_unit_zero hz2, View.ld_unit_zero hz2]

theorem pay9_apply (a : Vec Ideal S4096x1024 .bf16) (b : Vec Ideal S4096x128 .bf16) (r : Fin 1024) (d : Fin 128) :
    k9_pay1 a b (ix2 r d) = tnAt a b r d := pay8_apply a b r d

theorem out9_eq (a : Vec Ideal S4096x1024 .bf16) (b : Vec Ideal S4096x128 .bf16) : out9_2 a b = k9_pay1 a b := by
  unfold out9_2
  rw [View.canon_cons_unit_zero hz2, View.ld_unit_zero hz2, View.ld_unit_zero hz2]

variable (V : (c : Dev nD) → (b : Ref sig .tc) → Buf (Elt Ideal) ((c : Thread nD τ).loc b)) (c : Dev nD)

/-! ## Region 1 -/

theorem idx1 : ∀ t : Fin cfg1.N, win1_0.index t = ![t.val / 6, 0] ∧ win1_1.index t = ![0, t.val % 6] ∧ win1_2.index t = ![t.val / 6, t.val % 6] :=
  (by decide +kernel : ∀ t : Fin grid1.N, _)

theorem lt1 (t : Fin cfg1.N) : t.val < 24 := lt_of_lt_of_eq t.isLt N_1

theorem iblk1_0 (t : Fin cfg1.N) (r : Fin 1024) (d : Fin 1024) : (iblk1 V c 0 t : Vec Ideal S1024x1024 .bf16) (ix2 r d)
    = (V c main_v12 : Vec Ideal S4096x1024 .bf16) (ix2 (⟨1024 * (t.val / 6) + r.val, by have := lt1 t; omega⟩ : Fin 4096) (d : Fin 1024)) :=
  have e := (idx1 t).1
  (View.read_apply ..).trans (congrArg (V c main_v12) (Shape.idx_ext₂ (tile (congrFun e 0)) (tile0 (congrFun e 1))))

theorem iblk1_1 (t : Fin cfg1.N) (r : Fin 1024) (d : Fin 1152) : (iblk1 V c 1 t : Vec Ideal S1024x1152 .bf16) (ix2 r d)
    = (V c main_v10 : Vec Ideal S1024x6912 .bf16) (ix2 (r : Fin 1024) (⟨1152 * (t.val % 6) + d.val, by have := lt1 t; omega⟩ : Fin 6912)) :=
  have e := (idx1 t).2.1
  (View.read_apply ..).trans (congrArg (V c main_v10) (Shape.idx_ext₂ (tile0 (congrFun e 0)) (tile (congrFun e 1))))

theorem emb1_2 (t : Fin cfg1.N) (r : Fin 1024) (d : Fin 1152) :
    ((cfg1.win 2).blk t).view.emb (ix2 r d) = ix2 (⟨1024 * (t.val / 6) + r.val, by have := lt1 t; omega⟩ : Fin 4096) (⟨1152 * (t.val % 6) + d.val, by have := lt1 t; omega⟩ : Fin 6912) :=
  have e := (idx1 t).2.2
  Shape.idx_ext₂ (tile (congrFun e 0)) (tile (congrFun e 1))

theorem final1 : (dat1 V c).arrAt 2 cfg1.N = (fun i => nnAt (V c main_v12 : Vec Ideal S4096x1024 .bf16) (V c main_v10 : Vec Ideal S1024x6912 .bf16) (i 0) (i 1) : Vec Ideal S4096x6912 .f32) := by
  refine (dat1 V c).arrAt_eq_of_cover 2 _ (fun t _ => ?_) (Pipeline.Window.Covers.cover _ (by decide +kernel) (Memref.isWhole_whole _))
  show (cfg1.win 2).cut (grid1.coords t) ((dat1 V c).after 2 t) = _
  rw [after1_2]
  funext y
  obtain ⟨r, d, rfl⟩ : ∃ (r : Fin 1024) (d : Fin 1152), y = ix2 r d := ⟨y 0, y 1, eq_ix2 y⟩
  rw [View.read_apply, emb1_2, out1_eq]
  exact (pay1_apply _ _ r d).trans (nnAt_congr (fun e => iblk1_0 V c t r e) (fun e => iblk1_1 V c t e d))

/-! ## Region 2 -/

theorem idx2 : ∀ t : Fin cfg2.N, win2_0.index t = ![t.val / 2, 0] ∧ win2_1.index t = ![t.val % 2, 0] ∧ win2_2.index t = ![t.val / 2, 0] ∧ win2_3.index t = ![t.val % 2, 2] ∧ win2_4.index t = ![t.val / 2, 0] ∧ win2_5.index t = ![t.val % 2, 3] ∧ win2_6.index t = ![t.val / 2, 0] ∧ win2_7.index t = ![t.val % 2, 24] ∧ win2_8.index t = ![t.val / 2, 0] ∧ win2_9.index t = ![t.val % 2, 25] ∧ win2_10.index t = ![t.val / 2, 0] ∧ win2_11.index t = ![t.val % 2, 52] ∧ win2_12.index t = ![t.val / 2, 0] ∧ win2_13.index t = ![t.val % 2, 53] ∧ win2_14.index t = ![t.val / 2, t.val % 2] :=
  (by decide +kernel : ∀ t : Fin grid2.N, _)

theorem lt2 (t : Fin cfg2.N) : t.val < 16 := lt_of_lt_of_eq t.isLt N_2

theorem iblk2_0 (t : Fin cfg2.N) (r : Fin 512) (d : Fin 3072) : (iblk2 V c 0 t : Vec Ideal S512x3072 .bf16) (ix2 r d)
    = (V c main_v25 : Vec Ideal S4096x3072 .bf16) (ix2 (⟨512 * (t.val / 2) + r.val, by have := lt2 t; omega⟩ : Fin 4096) (d : Fin 3072)) :=
  have e := (idx2 t).1
  (View.read_apply ..).trans (congrArg (V c main_v25) (Shape.idx_ext₂ (tile (congrFun e 0)) (tile0 (congrFun e 1))))

theorem iblk2_1 (t : Fin cfg2.N) (r : Fin 512) (d : Fin 3072) : (iblk2 V c 1 t : Vec Ideal S512x3072 .bf16) (ix2 r d)
    = (V c main_v33 : Vec Ideal S1024x9216 .bf16) (ix2 (⟨512 * (t.val % 2) + r.val, by have := lt2 t; omega⟩ : Fin 1024) (⟨d.val, by omega⟩ : Fin 9216)) :=
  have e := (idx2 t).2.1
  (View.read_apply ..).trans (congrArg (V c main_v33) (Shape.idx_ext₂ (tile (congrFun e 0)) (tile0 (congrFun e 1))))

theorem iblk2_2 (t : Fin cfg2.N) (r : Fin 512) (d : Fin 1536) : (iblk2 V c 2 t : Vec Ideal S512x1536 .bf16) (ix2 r d)
    = (V c main_v26 : Vec Ideal S4096x1536 .bf16) (ix2 (⟨512 * (t.val / 2) + r.val, by have := lt2 t; omega⟩ : Fin 4096) (d : Fin 1536)) :=
  have e := (idx2 t).2.2.1
  (View.read_apply ..).trans (congrArg (V c main_v26) (Shape.idx_ext₂ (tile (congrFun e 0)) (tile0 (congrFun e 1))))

theorem iblk2_3 (t : Fin cfg2.N) (r : Fin 512) (d : Fin 1536) : (iblk2 V c 3 t : Vec Ideal S512x1536 .bf16) (ix2 r d)
    = (V c main_v33 : Vec Ideal S1024x9216 .bf16) (ix2 (⟨512 * (t.val % 2) + r.val, by have := lt2 t; omega⟩ : Fin 1024) (⟨1536 * (2) + d.val, by have := lt2 t; omega⟩ : Fin 9216)) :=
  have e := (idx2 t).2.2.2.1
  (View.read_apply ..).trans (congrArg (V c main_v33) (Shape.idx_ext₂ (tile (congrFun e 0)) (tile (congrFun e 1))))

theorem iblk2_4 (t : Fin cfg2.N) (r : Fin 512) (d : Fin 1536) : (iblk2 V c 4 t : Vec Ideal S512x1536 .bf16) (ix2 r d)
    = (V c main_v27 : Vec Ideal S4096x1536 .bf16) (ix2 (⟨512 * (t.val / 2) + r.val, by have := lt2 t; omega⟩ : Fin 4096) (d : Fin 1536)) :=
  have e := (idx2 t).2.2.2.2.1
  (View.read_apply ..).trans (congrArg (V c main_v27) (Shape.idx_ext₂ (tile (congrFun e 0)) (tile0 (congrFun e 1))))

theorem iblk2_5 (t : Fin cfg2.N) (r : Fin 512) (d : Fin 1536) : (iblk2 V c 5 t : Vec Ideal S512x1536 .bf16) (ix2 r d)
    = (V c main_v33 : Vec Ideal S1024x9216 .bf16) (ix2 (⟨512 * (t.val % 2) + r.val, by have := lt2 t; omega⟩ : Fin 1024) (⟨1536 * (3) + d.val, by have := lt2 t; omega⟩ : Fin 9216)) :=
  have e := (idx2 t).2.2.2.2.2.1
  (View.read_apply ..).trans (congrArg (V c main_v33) (Shape.idx_ext₂ (tile (congrFun e 0)) (tile (congrFun e 1))))

theorem iblk2_6 (t : Fin cfg2.N) (r : Fin 512) (d : Fin 256) : (iblk2 V c 6 t : Vec Ideal S512x256 .bf16) (ix2 r d)
    = (V c main_v28 : Vec Ideal S4096x256 .bf16) (ix2 (⟨512 * (t.val / 2) + r.val, by have := lt2 t; omega⟩ : Fin 4096) (d : Fin 256)) :=
  have e := (idx2 t).2.2.2.2.2.2.1
  (View.read_apply ..).trans (congrArg (V c main_v28) (Shape.idx_ext₂ (tile (congrFun e 0)) (tile0 (congrFun e 1))))

theorem iblk2_7 (t : Fin cfg2.N) (r : Fin 512) (d : Fin 256) : (iblk2 V c 7 t : Vec Ideal S512x256 .bf16) (ix2 r d)
    = (V c main_v33 : Vec Ideal S1024x9216 .bf16) (ix2 (⟨512 * (t.val % 2) + r.val, by have := lt2 t; omega⟩ : Fin 1024) (⟨256 * (24) + d.val, by have := lt2 t; omega⟩ : Fin 9216)) :=
  have e := (idx2 t).2.2.2.2.2.2.2.1
  (View.read_apply ..).trans (congrArg (V c main_v33) (Shape.idx_ext₂ (tile (congrFun e 0)) (tile (congrFun e 1))))

theorem iblk2_8 (t : Fin cfg2.N) (r : Fin 512) (d : Fin 256) : (iblk2 V c 8 t : Vec Ideal S512x256 .bf16) (ix2 r d)
    = (V c main_v29 : Vec Ideal S4096x256 .bf16) (ix2 (⟨512 * (t.val / 2) + r.val, by have := lt2 t; omega⟩ : Fin 4096) (d : Fin 256)) :=
  have e := (idx2 t).2.2.2.2.2.2.2.2.1
  (View.read_apply ..).trans (congrArg (V c main_v29) (Shape.idx_ext₂ (tile (congrFun e 0)) (tile0 (congrFun e 1))))

theorem iblk2_9 (t : Fin cfg2.N) (r : Fin 512) (d : Fin 256) : (iblk2 V c 9 t : Vec Ideal S512x256 .bf16) (ix2 r d)
    = (V c main_v33 : Vec Ideal S1024x9216 .bf16) (ix2 (⟨512 * (t.val % 2) + r.val, by have := lt2 t; omega⟩ : Fin 1024) (⟨256 * (25) + d.val, by have := lt2 t; omega⟩ : Fin 9216)) :=
  have e := (idx2 t).2.2.2.2.2.2.2.2.2.1
  (View.read_apply ..).trans (congrArg (V c main_v33) (Shape.idx_ext₂ (tile (congrFun e 0)) (tile (congrFun e 1))))

theorem iblk2_10 (t : Fin cfg2.N) (r : Fin 512) (d : Fin 128) : (iblk2 V c 10 t : Vec Ideal S512x128 .bf16) (ix2 r d)
    = (V c main_v30 : Vec Ideal S4096x128 .bf16) (ix2 (⟨512 * (t.val / 2) + r.val, by have := lt2 t; omega⟩ : Fin 4096) (d : Fin 128)) :=
  have e := (idx2 t).2.2.2.2.2.2.2.2.2.2.1
  (View.read_apply ..).trans (congrArg (V c main_v30) (Shape.idx_ext₂ (tile (congrFun e 0)) (tile0 (congrFun e 1))))

theorem iblk2_11 (t : Fin cfg2.N) (r : Fin 512) (d : Fin 128) : (iblk2 V c 11 t : Vec Ideal S512x128 .bf16) (ix2 r d)
    = (V c main_v33 : Vec Ideal S1024x9216 .bf16) (ix2 (⟨512 * (t.val % 2) + r.val, by have := lt2 t; omega⟩ : Fin 1024) (⟨128 * (52) + d.val, by have := lt2 t; omega⟩ : Fin 9216)) :=
  have e := (idx2 t).2.2.2.2.2.2.2.2.2.2.2.1
  (View.read_apply ..).trans (congrArg (V c main_v33) (Shape.idx_ext₂ (tile (congrFun e 0)) (tile (congrFun e 1))))

theorem iblk2_12 (t : Fin cfg2.N) (r : Fin 512) (d : Fin 128) : (iblk2 V c 12 t : Vec Ideal S512x128 .bf16) (ix2 r d)
    = (V c main_v31 : Vec Ideal S4096x128 .bf16) (ix2 (⟨512 * (t.val / 2) + r.val, by have := lt2 t; omega⟩ : Fin 4096) (d : Fin 128)) :=
  have e := (idx2 t).2.2.2.2.2.2.2.2.2.2.2.2.1
  (View.read_apply ..).trans (congrArg (V c main_v31) (Shape.idx_ext₂ (tile (congrFun e 0)) (tile0 (congrFun e 1))))

theorem iblk2_13 (t : Fin cfg2.N) (r : Fin 512) (d : Fin 128) : (iblk2 V c 13 t : Vec Ideal S512x128 .bf16) (ix2 r d)
    = (V c main_v33 : Vec Ideal S1024x9216 .bf16) (ix2 (⟨512 * (t.val % 2) + r.val, by have := lt2 t; omega⟩ : Fin 1024) (⟨128 * (53) + d.val, by have := lt2 t; omega⟩ : Fin 9216)) :=
  have e := (idx2 t).2.2.2.2.2.2.2.2.2.2.2.2.2.1
  (View.read_apply ..).trans (congrArg (V c main_v33) (Shape.idx_ext₂ (tile (congrFun e 0)) (tile (congrFun e 1))))

theorem emb2_14 (t : Fin cfg2.N) (r : Fin 512) (d : Fin 512) :
    ((cfg2.win 14).blk t).view.emb (ix2 r d) = ix2 (⟨512 * (t.val / 2) + r.val, by have := lt2 t; omega⟩ : Fin 4096) (⟨512 * (t.val % 2) + d.val, by have := lt2 t; omega⟩ : Fin 1024) :=
  have e := (idx2 t).2.2.2.2.2.2.2.2.2.2.2.2.2.2
  Shape.idx_ext₂ (tile (congrFun e 0)) (tile (congrFun e 1))

theorem final2 : (dat2 V c).arrAt 14 cfg2.N = (fun i => sevenAt (V c main_v25 : Vec Ideal S4096x3072 .bf16) (V c main_v26 : Vec Ideal S4096x1536 .bf16) (V c main_v27 : Vec Ideal S4096x1536 .bf16) (V c main_v28 : Vec Ideal S4096x256 .bf16) (V c main_v29 : Vec Ideal S4096x256 .bf16) (V c main_v30 : Vec Ideal S4096x128 .bf16) (V c main_v31 : Vec Ideal S4096x128 .bf16) (V c main_v33 : Vec Ideal S1024x9216 .bf16) (i 0) (i 1) : Vec Ideal S4096x1024 .f32) := by
  refine (dat2 V c).arrAt_eq_of_cover 14 _ (fun t _ => ?_) (Pipeline.Window.Covers.cover _ (by decide +kernel) (Memref.isWhole_whole _))
  show (cfg2.win 14).cut (grid2.coords t) ((dat2 V c).after 14 t) = _
  rw [after2_14]
  funext y
  obtain ⟨r, d, rfl⟩ : ∃ (r : Fin 512) (d : Fin 512), y = ix2 r d := ⟨y 0, y 1, eq_ix2 y⟩
  rw [View.read_apply, emb2_14, out2_eq]
  refine (pay2_apply _ _ _ _ _ _ _ _ _ _ _ _ _ _ r d).trans ?_
  have s0 : ntAt (iblk2 V c 0 t : Vec Ideal S512x3072 .bf16) (iblk2 V c 1 t : Vec Ideal S512x3072 .bf16) r d
      = segAt (V c main_v25 : Vec Ideal S4096x3072 .bf16) (V c main_v33 : Vec Ideal S1024x9216 .bf16) 0 (by decide) ⟨512 * (t.val / 2) + r.val, by have := lt2 t; omega⟩ ⟨512 * (t.val % 2) + d.val, by omega⟩ :=
    Finset.sum_congr rfl fun k _ => congrArg₂ (· * ·) (iblk2_0 V c t r k) ((iblk2_1 V c t d k).trans (congrArg _ (Shape.idx_ext₂ rfl (Nat.zero_add _).symm)))
  have s1 : ntAt (iblk2 V c 2 t : Vec Ideal S512x1536 .bf16) (iblk2 V c 3 t : Vec Ideal S512x1536 .bf16) r d
      = segAt (V c main_v26 : Vec Ideal S4096x1536 .bf16) (V c main_v33 : Vec Ideal S1024x9216 .bf16) 3072 (by decide) ⟨512 * (t.val / 2) + r.val, by have := lt2 t; omega⟩ ⟨512 * (t.val % 2) + d.val, by omega⟩ :=
    Finset.sum_congr rfl fun k _ => congrArg₂ (· * ·) (iblk2_2 V c t r k) ((iblk2_3 V c t d k).trans (congrArg _ (Shape.idx_ext₂ rfl rfl)))
  have s2 : ntAt (iblk2 V c 4 t : Vec Ideal S512x1536 .bf16) (iblk2 V c 5 t : Vec Ideal S512x1536 .bf16) r d
      = segAt (V c main_v27 : Vec Ideal S4096x1536 .bf16) (V c main_v33 : Vec Ideal S1024x9216 .bf16) 4608 (by decide) ⟨512 * (t.val / 2) + r.val, by have := lt2 t; omega⟩ ⟨512 * (t.val % 2) + d.val, by omega⟩ :=
    Finset.sum_congr rfl fun k _ => congrArg₂ (· * ·) (iblk2_4 V c t r k) ((iblk2_5 V c t d k).trans (congrArg _ (Shape.idx_ext₂ rfl rfl)))
  have s3 : ntAt (iblk2 V c 6 t : Vec Ideal S512x256 .bf16) (iblk2 V c 7 t : Vec Ideal S512x256 .bf16) r d
      = segAt (V c main_v28 : Vec Ideal S4096x256 .bf16) (V c main_v33 : Vec Ideal S1024x9216 .bf16) 6144 (by decide) ⟨512 * (t.val / 2) + r.val, by have := lt2 t; omega⟩ ⟨512 * (t.val % 2) + d.val, by omega⟩ :=
    Finset.sum_congr rfl fun k _ => congrArg₂ (· * ·) (iblk2_6 V c t r k) ((iblk2_7 V c t d k).trans (congrArg _ (Shape.idx_ext₂ rfl rfl)))
  have s4 : ntAt (iblk2 V c 8 t : Vec Ideal S512x256 .bf16) (iblk2 V c 9 t : Vec Ideal S512x256 .bf16) r d
      = segAt (V c main_v29 : Vec Ideal S4096x256 .bf16) (V c main_v33 : Vec Ideal S1024x9216 .bf16) 6400 (by decide) ⟨512 * (t.val / 2) + r.val, by have := lt2 t; omega⟩ ⟨512 * (t.val % 2) + d.val, by omega⟩ :=
    Finset.sum_congr rfl fun k _ => congrArg₂ (· * ·) (iblk2_8 V c t r k) ((iblk2_9 V c t d k).trans (congrArg _ (Shape.idx_ext₂ rfl rfl)))
  have s5 : ntAt (iblk2 V c 10 t : Vec Ideal S512x128 .bf16) (iblk2 V c 11 t : Vec Ideal S512x128 .bf16) r d
      = segAt (V c main_v30 : Vec Ideal S4096x128 .bf16) (V c main_v33 : Vec Ideal S1024x9216 .bf16) 6656 (by decide) ⟨512 * (t.val / 2) + r.val, by have := lt2 t; omega⟩ ⟨512 * (t.val % 2) + d.val, by omega⟩ :=
    Finset.sum_congr rfl fun k _ => congrArg₂ (· * ·) (iblk2_10 V c t r k) ((iblk2_11 V c t d k).trans (congrArg _ (Shape.idx_ext₂ rfl rfl)))
  have s6 : ntAt (iblk2 V c 12 t : Vec Ideal S512x128 .bf16) (iblk2 V c 13 t : Vec Ideal S512x128 .bf16) r d
      = segAt (V c main_v31 : Vec Ideal S4096x128 .bf16) (V c main_v33 : Vec Ideal S1024x9216 .bf16) 6784 (by decide) ⟨512 * (t.val / 2) + r.val, by have := lt2 t; omega⟩ ⟨512 * (t.val % 2) + d.val, by omega⟩ :=
    Finset.sum_congr rfl fun k _ => congrArg₂ (· * ·) (iblk2_12 V c t r k) ((iblk2_13 V c t d k).trans (congrArg _ (Shape.idx_ext₂ rfl rfl)))
  rw [s0, s1, s2, s3, s4, s5, s6]
  rfl

/-! ## Region 3 -/

theorem idx3 : ∀ t : Fin cfg3.N, win3_0.index t = ![0, 0] ∧ win3_1.index t = ![0, t.val] ∧ win3_2.index t = ![0, t.val] :=
  (by decide +kernel : ∀ t : Fin grid3.N, _)

theorem lt3 (t : Fin cfg3.N) : t.val < 12 := lt_of_lt_of_eq t.isLt N_3

theorem iblk3_0 (t : Fin cfg3.N) (r : Fin 4096) (d : Fin 1024) : (iblk3 V c 0 t : Vec Ideal S4096x1024 .bf16) (ix2 r d)
    = (V c main_v12 : Vec Ideal S4096x1024 .bf16) (ix2 (r : Fin 4096) (d : Fin 1024)) :=
  have e := (idx3 t).1
  (View.read_apply ..).trans (congrArg (V c main_v12) (Shape.idx_ext₂ (tile0 (congrFun e 0)) (tile0 (congrFun e 1))))

theorem iblk3_1 (t : Fin cfg3.N) (r : Fin 4096) (d : Fin 256) : (iblk3 V c 1 t : Vec Ideal S4096x256 .bf16) (ix2 r d)
    = (V c main_v25 : Vec Ideal S4096x3072 .bf16) (ix2 (r : Fin 4096) (⟨256 * t.val + d.val, by have := lt3 t; omega⟩ : Fin 3072)) :=
  have e := (idx3 t).2.1
  (View.read_apply ..).trans (congrArg (V c main_v25) (Shape.idx_ext₂ (tile0 (congrFun e 0)) (tile (congrFun e 1))))

theorem emb3_2 (t : Fin cfg3.N) (r : Fin 1024) (d : Fin 256) :
    ((cfg3.win 2).blk t).view.emb (ix2 r d) = ix2 (r : Fin 1024) (⟨256 * t.val + d.val, by have := lt3 t; omega⟩ : Fin 3072) :=
  have e := (idx3 t).2.2
  Shape.idx_ext₂ (tile0 (congrFun e 0)) (tile (congrFun e 1))

theorem final3 : (dat3 V c).arrAt 2 cfg3.N = (fun i => tnAt (V c main_v12 : Vec Ideal S4096x1024 .bf16) (V c main_v25 : Vec Ideal S4096x3072 .bf16) (i 0) (i 1) : Vec Ideal S1024x3072 .f32) := by
  refine (dat3 V c).arrAt_eq_of_cover 2 _ (fun t _ => ?_) (Pipeline.Window.Covers.cover _ (by decide +kernel) (Memref.isWhole_whole _))
  show (cfg3.win 2).cut (grid3.coords t) ((dat3 V c).after 2 t) = _
  rw [after3_2]
  funext y
  obtain ⟨r, d, rfl⟩ : ∃ (r : Fin 1024) (d : Fin 256), y = ix2 r d := ⟨y 0, y 1, eq_ix2 y⟩
  rw [View.read_apply, emb3_2, out3_eq]
  exact (pay3_apply _ _ r d).trans (tnAt_congr (fun e => iblk3_0 V c t e r) (fun e => iblk3_1 V c t e d))

/-! ## Region 4 -/

theorem idx4 : ∀ t : Fin cfg4.N, win4_0.index t = ![0, 0] ∧ win4_1.index t = ![0, t.val] ∧ win4_2.index t = ![0, t.val] :=
  (by decide +kernel : ∀ t : Fin grid4.N, _)

theorem lt4 (t : Fin cfg4.N) : t.val < 6 := lt_of_lt_of_eq t.isLt N_4

theorem iblk4_0 (t : Fin cfg4.N) (r : Fin 4096) (d : Fin 1024) : (iblk4 V c 0 t : Vec Ideal S4096x1024 .bf16) (ix2 r d)
    = (V c main_v12 : Vec Ideal S4096x1024 .bf16) (ix2 (r : Fin 4096) (d : Fin 1024)) :=
  have e := (idx4 t).1
  (View.read_apply ..).trans (congrArg (V c main_v12) (Shape.idx_ext₂ (tile0 (congrFun e 0)) (tile0 (congrFun e 1))))

theorem iblk4_1 (t : Fin cfg4.N) (r : Fin 4096) (d : Fin 256) : (iblk4 V c 1 t : Vec Ideal S4096x256 .bf16) (ix2 r d)
    = (V c main_v26 : Vec Ideal S4096x1536 .bf16) (ix2 (r : Fin 4096) (⟨256 * t.val + d.val, by have := lt4 t; omega⟩ : Fin 1536)) :=
  have e := (idx4 t).2.1
  (View.read_apply ..).trans (congrArg (V c main_v26) (Shape.idx_ext₂ (tile0 (congrFun e 0)) (tile (congrFun e 1))))

theorem emb4_2 (t : Fin cfg4.N) (r : Fin 1024) (d : Fin 256) :
    ((cfg4.win 2).blk t).view.emb (ix2 r d) = ix2 (r : Fin 1024) (⟨256 * t.val + d.val, by have := lt4 t; omega⟩ : Fin 1536) :=
  have e := (idx4 t).2.2
  Shape.idx_ext₂ (tile0 (congrFun e 0)) (tile (congrFun e 1))

theorem final4 : (dat4 V c).arrAt 2 cfg4.N = (fun i => tnAt (V c main_v12 : Vec Ideal S4096x1024 .bf16) (V c main_v26 : Vec Ideal S4096x1536 .bf16) (i 0) (i 1) : Vec Ideal S1024x1536 .f32) := by
  refine (dat4 V c).arrAt_eq_of_cover 2 _ (fun t _ => ?_) (Pipeline.Window.Covers.cover _ (by decide +kernel) (Memref.isWhole_whole _))
  show (cfg4.win 2).cut (grid4.coords t) ((dat4 V c).after 2 t) = _
  rw [after4_2]
  funext y
  obtain ⟨r, d, rfl⟩ : ∃ (r : Fin 1024) (d : Fin 256), y = ix2 r d := ⟨y 0, y 1, eq_ix2 y⟩
  rw [View.read_apply, emb4_2, out4_eq]
  exact (pay4_apply _ _ r d).trans (tnAt_congr (fun e => iblk4_0 V c t e r) (fun e => iblk4_1 V c t e d))

/-! ## Region 5 -/

theorem idx5 : ∀ t : Fin cfg5.N, win5_0.index t = ![0, 0] ∧ win5_1.index t = ![0, t.val] ∧ win5_2.index t = ![0, t.val] :=
  (by decide +kernel : ∀ t : Fin grid5.N, _)

theorem lt5 (t : Fin cfg5.N) : t.val < 6 := lt_of_lt_of_eq t.isLt N_5

theorem iblk5_0 (t : Fin cfg5.N) (r : Fin 4096) (d : Fin 1024) : (iblk5 V c 0 t : Vec Ideal S4096x1024 .bf16) (ix2 r d)
    = (V c main_v12 : Vec Ideal S4096x1024 .bf16) (ix2 (r : Fin 4096) (d : Fin 1024)) :=
  have e := (idx5 t).1
  (View.read_apply ..).trans (congrArg (V c main_v12) (Shape.idx_ext₂ (tile0 (congrFun e 0)) (tile0 (congrFun e 1))))

theorem iblk5_1 (t : Fin cfg5.N) (r : Fin 4096) (d : Fin 256) : (iblk5 V c 1 t : Vec Ideal S4096x256 .bf16) (ix2 r d)
    = (V c main_v27 : Vec Ideal S4096x1536 .bf16) (ix2 (r : Fin 4096) (⟨256 * t.val + d.val, by have := lt5 t; omega⟩ : Fin 1536)) :=
  have e := (idx5 t).2.1
  (View.read_apply ..).trans (congrArg (V c main_v27) (Shape.idx_ext₂ (tile0 (congrFun e 0)) (tile (congrFun e 1))))

theorem emb5_2 (t : Fin cfg5.N) (r : Fin 1024) (d : Fin 256) :
    ((cfg5.win 2).blk t).view.emb (ix2 r d) = ix2 (r : Fin 1024) (⟨256 * t.val + d.val, by have := lt5 t; omega⟩ : Fin 1536) :=
  have e := (idx5 t).2.2
  Shape.idx_ext₂ (tile0 (congrFun e 0)) (tile (congrFun e 1))

theorem final5 : (dat5 V c).arrAt 2 cfg5.N = (fun i => tnAt (V c main_v12 : Vec Ideal S4096x1024 .bf16) (V c main_v27 : Vec Ideal S4096x1536 .bf16) (i 0) (i 1) : Vec Ideal S1024x1536 .f32) := by
  refine (dat5 V c).arrAt_eq_of_cover 2 _ (fun t _ => ?_) (Pipeline.Window.Covers.cover _ (by decide +kernel) (Memref.isWhole_whole _))
  show (cfg5.win 2).cut (grid5.coords t) ((dat5 V c).after 2 t) = _
  rw [after5_2]
  funext y
  obtain ⟨r, d, rfl⟩ : ∃ (r : Fin 1024) (d : Fin 256), y = ix2 r d := ⟨y 0, y 1, eq_ix2 y⟩
  rw [View.read_apply, emb5_2, out5_eq]
  exact (pay5_apply _ _ r d).trans (tnAt_congr (fun e => iblk5_0 V c t e r) (fun e => iblk5_1 V c t e d))

/-! ## Region 6 -/

theorem idx6 : ∀ t : Fin cfg6.N, win6_0.index t = ![0, 0] ∧ win6_1.index t = ![0, 0] ∧ win6_2.index t = ![0, 0] :=
  (by decide +kernel : ∀ t : Fin grid6.N, _)

theorem iblk6_0 (t : Fin cfg6.N) (r : Fin 4096) (d : Fin 1024) : (iblk6 V c 0 t : Vec Ideal S4096x1024 .bf16) (ix2 r d)
    = (V c main_v12 : Vec Ideal S4096x1024 .bf16) (ix2 (r : Fin 4096) (d : Fin 1024)) :=
  have e := (idx6 t).1
  (View.read_apply ..).trans (congrArg (V c main_v12) (Shape.idx_ext₂ (tile0 (congrFun e 0)) (tile0 (congrFun e 1))))

theorem iblk6_1 (t : Fin cfg6.N) (r : Fin 4096) (d : Fin 256) : (iblk6 V c 1 t : Vec Ideal S4096x256 .bf16) (ix2 r d)
    = (V c main_v28 : Vec Ideal S4096x256 .bf16) (ix2 (r : Fin 4096) (d : Fin 256)) :=
  have e := (idx6 t).2.1
  (View.read_apply ..).trans (congrArg (V c main_v28) (Shape.idx_ext₂ (tile0 (congrFun e 0)) (tile0 (congrFun e 1))))

theorem emb6_2 (t : Fin cfg6.N) (r : Fin 1024) (d : Fin 256) :
    ((cfg6.win 2).blk t).view.emb (ix2 r d) = ix2 (r : Fin 1024) (d : Fin 256) :=
  have e := (idx6 t).2.2
  Shape.idx_ext₂ (tile0 (congrFun e 0)) (tile0 (congrFun e 1))

theorem final6 : (dat6 V c).arrAt 2 cfg6.N = (fun i => tnAt (V c main_v12 : Vec Ideal S4096x1024 .bf16) (V c main_v28 : Vec Ideal S4096x256 .bf16) (i 0) (i 1) : Vec Ideal S1024x256 .f32) := by
  refine (dat6 V c).arrAt_eq_of_cover 2 _ (fun t _ => ?_) (Pipeline.Window.Covers.cover _ (by decide +kernel) (Memref.isWhole_whole _))
  show (cfg6.win 2).cut (grid6.coords t) ((dat6 V c).after 2 t) = _
  rw [after6_2]
  funext y
  obtain ⟨r, d, rfl⟩ : ∃ (r : Fin 1024) (d : Fin 256), y = ix2 r d := ⟨y 0, y 1, eq_ix2 y⟩
  rw [View.read_apply, emb6_2, out6_eq]
  exact (pay6_apply _ _ r d).trans (tnAt_congr (fun e => iblk6_0 V c t e r) (fun e => iblk6_1 V c t e d))

/-! ## Region 7 -/

theorem idx7 : ∀ t : Fin cfg7.N, win7_0.index t = ![0, 0] ∧ win7_1.index t = ![0, 0] ∧ win7_2.index t = ![0, 0] :=
  (by decide +kernel : ∀ t : Fin grid7.N, _)

theorem iblk7_0 (t : Fin cfg7.N) (r : Fin 4096) (d : Fin 1024) : (iblk7 V c 0 t : Vec Ideal S4096x1024 .bf16) (ix2 r d)
    = (V c main_v12 : Vec Ideal S4096x1024 .bf16) (ix2 (r : Fin 4096) (d : Fin 1024)) :=
  have e := (idx7 t).1
  (View.read_apply ..).trans (congrArg (V c main_v12) (Shape.idx_ext₂ (tile0 (congrFun e 0)) (tile0 (congrFun e 1))))

theorem iblk7_1 (t : Fin cfg7.N) (r : Fin 4096) (d : Fin 256) : (iblk7 V c 1 t : Vec Ideal S4096x256 .bf16) (ix2 r d)
    = (V c main_v29 : Vec Ideal S4096x256 .bf16) (ix2 (r : Fin 4096) (d : Fin 256)) :=
  have e := (idx7 t).2.1
  (View.read_apply ..).trans (congrArg (V c main_v29) (Shape.idx_ext₂ (tile0 (congrFun e 0)) (tile0 (congrFun e 1))))

theorem emb7_2 (t : Fin cfg7.N) (r : Fin 1024) (d : Fin 256) :
    ((cfg7.win 2).blk t).view.emb (ix2 r d) = ix2 (r : Fin 1024) (d : Fin 256) :=
  have e := (idx7 t).2.2
  Shape.idx_ext₂ (tile0 (congrFun e 0)) (tile0 (congrFun e 1))

theorem final7 : (dat7 V c).arrAt 2 cfg7.N = (fun i => tnAt (V c main_v12 : Vec Ideal S4096x1024 .bf16) (V c main_v29 : Vec Ideal S4096x256 .bf16) (i 0) (i 1) : Vec Ideal S1024x256 .f32) := by
  refine (dat7 V c).arrAt_eq_of_cover 2 _ (fun t _ => ?_) (Pipeline.Window.Covers.cover _ (by decide +kernel) (Memref.isWhole_whole _))
  show (cfg7.win 2).cut (grid7.coords t) ((dat7 V c).after 2 t) = _
  rw [after7_2]
  funext y
  obtain ⟨r, d, rfl⟩ : ∃ (r : Fin 1024) (d : Fin 256), y = ix2 r d := ⟨y 0, y 1, eq_ix2 y⟩
  rw [View.read_apply, emb7_2, out7_eq]
  exact (pay7_apply _ _ r d).trans (tnAt_congr (fun e => iblk7_0 V c t e r) (fun e => iblk7_1 V c t e d))

/-! ## Region 8 -/

theorem idx8 : ∀ t : Fin cfg8.N, win8_0.index t = ![0, 0] ∧ win8_1.index t = ![0, 0] ∧ win8_2.index t = ![0, 0] :=
  (by decide +kernel : ∀ t : Fin grid8.N, _)

theorem iblk8_0 (t : Fin cfg8.N) (r : Fin 4096) (d : Fin 1024) : (iblk8 V c 0 t : Vec Ideal S4096x1024 .bf16) (ix2 r d)
    = (V c main_v12 : Vec Ideal S4096x1024 .bf16) (ix2 (r : Fin 4096) (d : Fin 1024)) :=
  have e := (idx8 t).1
  (View.read_apply ..).trans (congrArg (V c main_v12) (Shape.idx_ext₂ (tile0 (congrFun e 0)) (tile0 (congrFun e 1))))

theorem iblk8_1 (t : Fin cfg8.N) (r : Fin 4096) (d : Fin 128) : (iblk8 V c 1 t : Vec Ideal S4096x128 .bf16) (ix2 r d)
    = (V c main_v30 : Vec Ideal S4096x128 .bf16) (ix2 (r : Fin 4096) (d : Fin 128)) :=
  have e := (idx8 t).2.1
  (View.read_apply ..).trans (congrArg (V c main_v30) (Shape.idx_ext₂ (tile0 (congrFun e 0)) (tile0 (congrFun e 1))))

theorem emb8_2 (t : Fin cfg8.N) (r : Fin 1024) (d : Fin 128) :
    ((cfg8.win 2).blk t).view.emb (ix2 r d) = ix2 (r : Fin 1024) (d : Fin 128) :=
  have e := (idx8 t).2.2
  Shape.idx_ext₂ (tile0 (congrFun e 0)) (tile0 (congrFun e 1))

theorem final8 : (dat8 V c).arrAt 2 cfg8.N = (fun i => tnAt (V c main_v12 : Vec Ideal S4096x1024 .bf16) (V c main_v30 : Vec Ideal S4096x128 .bf16) (i 0) (i 1) : Vec Ideal S1024x128 .f32) := by
  refine (dat8 V c).arrAt_eq_of_cover 2 _ (fun t _ => ?_) (Pipeline.Window.Covers.cover _ (by decide +kernel) (Memref.isWhole_whole _))
  show (cfg8.win 2).cut (grid8.coords t) ((dat8 V c).after 2 t) = _
  rw [after8_2]
  funext y
  obtain ⟨r, d, rfl⟩ : ∃ (r : Fin 1024) (d : Fin 128), y = ix2 r d := ⟨y 0, y 1, eq_ix2 y⟩
  rw [View.read_apply, emb8_2, out8_eq]
  exact (pay8_apply _ _ r d).trans (tnAt_congr (fun e => iblk8_0 V c t e r) (fun e => iblk8_1 V c t e d))

/-! ## Region 9 -/

theorem idx9 : ∀ t : Fin cfg9.N, win9_0.index t = ![0, 0] ∧ win9_1.index t = ![0, 0] ∧ win9_2.index t = ![0, 0] :=
  (by decide +kernel : ∀ t : Fin grid9.N, _)

theorem iblk9_0 (t : Fin cfg9.N) (r : Fin 4096) (d : Fin 1024) : (iblk9 V c 0 t : Vec Ideal S4096x1024 .bf16) (ix2 r d)
    = (V c main_v12 : Vec Ideal S4096x1024 .bf16) (ix2 (r : Fin 4096) (d : Fin 1024)) :=
  have e := (idx9 t).1
  (View.read_apply ..).trans (congrArg (V c main_v12) (Shape.idx_ext₂ (tile0 (congrFun e 0)) (tile0 (congrFun e 1))))

theorem iblk9_1 (t : Fin cfg9.N) (r : Fin 4096) (d : Fin 128) : (iblk9 V c 1 t : Vec Ideal S4096x128 .bf16) (ix2 r d)
    = (V c main_v31 : Vec Ideal S4096x128 .bf16) (ix2 (r : Fin 4096) (d : Fin 128)) :=
  have e := (idx9 t).2.1
  (View.read_apply ..).trans (congrArg (V c main_v31) (Shape.idx_ext₂ (tile0 (congrFun e 0)) (tile0 (congrFun e 1))))

theorem emb9_2 (t : Fin cfg9.N) (r : Fin 1024) (d : Fin 128) :
    ((cfg9.win 2).blk t).view.emb (ix2 r d) = ix2 (r : Fin 1024) (d : Fin 128) :=
  have e := (idx9 t).2.2
  Shape.idx_ext₂ (tile0 (congrFun e 0)) (tile0 (congrFun e 1))

theorem final9 : (dat9 V c).arrAt 2 cfg9.N = (fun i => tnAt (V c main_v12 : Vec Ideal S4096x1024 .bf16) (V c main_v31 : Vec Ideal S4096x128 .bf16) (i 0) (i 1) : Vec Ideal S1024x128 .f32) := by
  refine (dat9 V c).arrAt_eq_of_cover 2 _ (fun t _ => ?_) (Pipeline.Window.Covers.cover _ (by decide +kernel) (Memref.isWhole_whole _))
  show (cfg9.win 2).cut (grid9.coords t) ((dat9 V c).after 2 t) = _
  rw [after9_2]
  funext y
  obtain ⟨r, d, rfl⟩ : ∃ (r : Fin 1024) (d : Fin 128), y = ix2 r d := ⟨y 0, y 1, eq_ix2 y⟩
  rw [View.read_apply, emb9_2, out9_eq]
  exact (pay9_apply _ _ r d).trans (tnAt_congr (fun e => iblk9_0 V c t e r) (fun e => iblk9_1 V c t e d))

end Cert.Kernel4Ideal.Win

end
-- ==== Proof.WinCols.lean ====
/-
  The columns of the input projection's weights laid out in seven segments of whole tiles, with columns of zeros between (`put`): where
  a column goes (`pos`), that the zeros add nothing to a product over the columns (`sum_put`), and that the host's slices and
  concatenations are this layout and its inverse (`put_eq_w`, `put_eq_z`, `seven_eq`, `back_z`, `back_w`).
-/
module

public import proofs.«01_k».proof.Proof.WinProd
public import proofs.«01_k».proof.Proof.FfnHost

@[expose] public section

set_option maxRecDepth 16384

noncomputable section

namespace Cert.Kernel4Ideal.Win

open Idealize.ShloMosaic Idealize.ShloMosaic.TcCoe Idealize.SL.Sem Idealize.ShloMosaic.Tactic
open Idealize.ShloMosaic.Pipeline (Dat)
open Cert.Kernel4Ideal Cert.Kernel4Ideal.Gen Cert.Mat

/-- The place of a column among the columns laid out in segments. -/
def pos (j : Fin 6752) : Fin 6912 :=
  ⟨if j.val < 3072 then j.val + 3072 else if j.val < 3104 then j.val + 3584 else if j.val < 3616 then j.val + 3040 else if j.val < 3648 then j.val + 3168 else if j.val < 3680 then j.val + 3200 else j.val - 3680, by split_ifs <;> omega⟩

/-- The column at a place, if there is one. -/
def src (p : Fin 6912) : Option (Fin 6752) :=
  if h0 : p.val < 3072 then some ⟨p.val + 3680, by omega⟩ else
  if h1 : p.val < 6144 then some ⟨p.val - 3072, by omega⟩ else
  if h2 : p.val < 6656 then some ⟨p.val - 3040, by omega⟩ else
  if h3 : p.val < 6688 then some ⟨p.val - 3584, by omega⟩ else
  if h4 : p.val < 6784 then none else
  if h5 : p.val < 6816 then some ⟨p.val - 3168, by omega⟩ else
  if h6 : p.val < 6848 then none else
  if h7 : p.val < 6880 then some ⟨p.val - 3200, by omega⟩ else
  none

theorem src_0 {p : Fin 6912} (h0 : p.val < 3072) : src p = some ⟨p.val + 3680, by omega⟩ := by
  unfold src; split_ifs <;> first | omega | rfl
theorem src_1 {p : Fin 6912} (h0 : ¬p.val < 3072) (h1 : p.val < 6144) : src p = some ⟨p.val - 3072, by omega⟩ := by
  unfold src; split_ifs <;> first | omega | rfl
theorem src_2 {p : Fin 6912} (h1 : ¬p.val < 6144) (h2 : p.val < 6656) : src p = some ⟨p.val - 3040, by omega⟩ := by
  unfold src; split_ifs <;> first | omega | rfl
theorem src_3 {p : Fin 6912} (h2 : ¬p.val < 6656) (h3 : p.val < 6688) : src p = some ⟨p.val - 3584, by omega⟩ := by
  unfold src; split_ifs <;> first | omega | rfl
theorem src_4 {p : Fin 6912} (h3 : ¬p.val < 6688) (h4 : p.val < 6784) : src p = none := by
  unfold src; split_ifs <;> first | omega | rfl
theorem src_5 {p : Fin 6912} (h4 : ¬p.val < 6784) (h5 : p.val < 6816) : src p = some ⟨p.val - 3168, by omega⟩ := by
  unfold src; split_ifs <;> first | omega | rfl
theorem src_6 {p : Fin 6912} (h5 : ¬p.val < 6816) (h6 : p.val < 6848) : src p = none := by
  unfold src; split_ifs <;> first | omega | rfl
theorem src_7 {p : Fin 6912} (h6 : ¬p.val < 6848) (h7 : p.val < 6880) : src p = some ⟨p.val - 3200, by omega⟩ := by
  unfold src; split_ifs <;> first | omega | rfl
theorem src_8 {p : Fin 6912} (h7 : ¬p.val < 6880) : src p = none := by
  unfold src; split_ifs <;> first | omega | rfl

theorem pos_of_src (p : Fin 6912) (j : Fin 6752) (e : src p = some j) : pos j = p := by
  by_cases h0 : p.val < 3072
  · rw [src_0 h0] at e; obtain rfl := Option.some.inj e
    refine Fin.ext ?_
    unfold pos; dsimp only; split_ifs <;> omega
  by_cases h1 : p.val < 6144
  · rw [src_1 h0 h1] at e; obtain rfl := Option.some.inj e
    refine Fin.ext ?_
    unfold pos; dsimp only; split_ifs <;> omega
  by_cases h2 : p.val < 6656
  · rw [src_2 h1 h2] at e; obtain rfl := Option.some.inj e
    refine Fin.ext ?_
    unfold pos; dsimp only; split_ifs <;> omega
  by_cases h3 : p.val < 6688
  · rw [src_3 h2 h3] at e; obtain rfl := Option.some.inj e
    refine Fin.ext ?_
    unfold pos; dsimp only; split_ifs <;> omega
  by_cases h4 : p.val < 6784
  · rw [src_4 h3 h4] at e; exact absurd e (by simp)
  by_cases h5 : p.val < 6816
  · rw [src_5 h4 h5] at e; obtain rfl := Option.some.inj e
    refine Fin.ext ?_
    unfold pos; dsimp only; split_ifs <;> omega
  by_cases h6 : p.val < 6848
  · rw [src_6 h5 h6] at e; exact absurd e (by simp)
  by_cases h7 : p.val < 6880
  · rw [src_7 h6 h7] at e; obtain rfl := Option.some.inj e
    refine Fin.ext ?_
    unfold pos; dsimp only; split_ifs <;> omega
  rw [src_8 h7] at e; exact absurd e (by simp)

theorem src_pos (j : Fin 6752) : src (pos j) = some j := by
  have hj := j.isLt
  by_cases k0 : j.val < 3072
  · have e : (pos j).val = j.val + 3072 := by unfold pos; dsimp only; split_ifs <;> omega
    refine (src_1 (by omega) (by omega)).trans (congrArg some (Fin.ext ?_))
    dsimp only; omega
  by_cases k1 : j.val < 3104
  · have e : (pos j).val = j.val + 3584 := by unfold pos; dsimp only; split_ifs <;> omega
    refine (src_3 (by omega) (by omega)).trans (congrArg some (Fin.ext ?_))
    dsimp only; omega
  by_cases k2 : j.val < 3616
  · have e : (pos j).val = j.val + 3040 := by unfold pos; dsimp only; split_ifs <;> omega
    refine (src_2 (by omega) (by omega)).trans (congrArg some (Fin.ext ?_))
    dsimp only; omega
  by_cases k3 : j.val < 3648
  · have e : (pos j).val = j.val + 3168 := by unfold pos; dsimp only; split_ifs <;> omega
    refine (src_5 (by omega) (by omega)).trans (congrArg some (Fin.ext ?_))
    dsimp only; omega
  by_cases k4 : j.val < 3680
  · have e : (pos j).val = j.val + 3200 := by unfold pos; dsimp only; split_ifs <;> omega
    refine (src_7 (by omega) (by omega)).trans (congrArg some (Fin.ext ?_))
    dsimp only; omega
  have e : (pos j).val = j.val - 3680 := by unfold pos; dsimp only; split_ifs <;> omega
  refine (src_0 (by omega)).trans (congrArg some (Fin.ext ?_))
  dsimp only; omega

theorem pos_injective : Function.Injective pos := fun a b e => Option.some.inj ((src_pos a).symm.trans ((congrArg src e).trans (src_pos b)))

/-- The columns laid out, zeros between. -/
def put {n : ℕ} (A : M n 6752) : M n 6912 := fun i => match src (i 1) with | some j => A (ix2 (i 0) j) | none => 0

theorem put_of {n : ℕ} (A : M n 6752) (r : Fin n) {p : Fin 6912} {j : Fin 6752} (e : src p = some j) : put A (ix2 r p) = A (ix2 r j) := by
  show (match src p with | some j => A (ix2 r j) | none => (0 : EReal)) = _
  rw [e]
theorem put_none {n : ℕ} (A : M n 6752) (r : Fin n) {p : Fin 6912} (e : src p = none) : put A (ix2 r p) = 0 := by
  show (match src p with | some j => A (ix2 r j) | none => (0 : EReal)) = _
  rw [e]
theorem put_pos {n : ℕ} (A : M n 6752) (r : Fin n) (j : Fin 6752) : put A (ix2 r (pos j)) = A (ix2 r j) := put_of A r (src_pos j)

/-- A product over the laid-out columns is the product over the columns. -/
theorem sum_put {n k : ℕ} (A : M n 6752) (B : M k 6752) (r : Fin n) (d : Fin k) :
    ∑ p, put A (ix2 r p) * put B (ix2 d p) = ntAt A B r d := by
  refine (Fintype.sum_of_injective pos pos_injective _ _ (fun p hp => ?_) fun j => ?_).symm
  · cases e : src p with
    | some j => exact absurd ⟨j, pos_of_src p j e⟩ hp
    | none => rw [put_none A r e, zero_mul]
  · rw [put_pos, put_pos]

/-! ## Reading slices and concatenations of matrices -/

theorem slice2 {n N w o : ℕ} (A : M n N) (h : (⟨2, ![n, N]⟩ : Shape).Slices ![0, o] ⟨2, ![n, w]⟩) (r : Fin n) (q : Fin w) (ho : o + q.val < N) :
    extractStridedSlice (⟨2, ![n, w]⟩ : Shape) ![0, o] A h (ix2 r q) = A (ix2 r ⟨o + q.val, ho⟩) :=
  extractStridedSlice_apply _ A h (ix2 r q) (ix2 r ⟨o + q.val, ho⟩) fun a => by
    match a with
    | ⟨0, _⟩ => exact (Nat.zero_add _).symm
    | ⟨1, _⟩ => rfl

theorem cat2 {n N w : ℕ} (xs : List ((s : Shape) × (s.Idx → EReal))) (h : Shape.Concatenates (xs.map (·.1)) (⟨2, ![n, N]⟩ : Shape) (1 : Fin 2))
    (r : Fin n) (p : Fin N) (k : ℕ) (hk : k < xs.length) (x : M n w) (hx : xs[k] = ⟨⟨2, ![n, w]⟩, x⟩) (pre : ℕ)
    (hpre : (((xs.take k).map (·.1)).map fun s => if h : s.rank = (⟨2, ![n, N]⟩ : Shape).rank then s.size ((1 : Fin 2).cast h.symm) else 0).sum = pre)
    (q : Fin w) (hq : pre + q.val = p.val) : concatenate (⟨2, ![n, N]⟩ : Shape) (1 : Fin 2) xs h (ix2 r p) = x (ix2 r q) :=
  concatenate_apply_piece (t := (⟨2, ![n, N]⟩ : Shape)) (1 : Fin 2) xs h (ix2 r p) k hk _ x hx rfl pre hpre (ix2 r q)
    (fun b hb => by
      match b with
      | ⟨0, _⟩ => rfl
      | ⟨1, _⟩ => exact absurd rfl hb) hq

theorem zero_bf16 : Ideal.ofBits .bf16 0x0000#16 = 0 := by simp [Ideal.ofBits, Ideal.ieee]

theorem slice_put {n w o : ℕ} (A : M n 6752) (h : (⟨2, ![n, 6752]⟩ : Shape).Slices ![0, o] ⟨2, ![n, w]⟩) (r : Fin n) (q : Fin w) {p : Fin 6912} {j : Fin 6752}
    (e : src p = some j) (hj : o + q.val = j.val) : extractStridedSlice (⟨2, ![n, w]⟩ : Shape) ![0, o] A h (ix2 r q) = put A (ix2 r p) :=
  (slice2 A h r q (hj ▸ j.isLt)).trans ((congrArg A (Shape.idx_ext₂ (Eq.refl r.val) hj)).trans (put_of A r e).symm)

theorem put_eq_w (A : Vec Ideal S1024x6752 .f32) :
    (concatenate S1024x6912 1 [⟨S1024x3072, (extractStridedSlice S1024x3072 ![0, 3680] (truncf (F := Ideal) (φ := .f32) .bf16 A bitsLt_bf16_f32 : FVec Ideal S1024x6752 .bf16) slices_S1024x6752_S1024x3072_0_3680 : Vec Ideal S1024x3072 .bf16)⟩,
      ⟨S1024x3072, (extractStridedSlice S1024x3072 ![0, 0] (truncf (F := Ideal) (φ := .f32) .bf16 A bitsLt_bf16_f32 : FVec Ideal S1024x6752 .bf16) slices_S1024x6752_S1024x3072_0_0 : Vec Ideal S1024x3072 .bf16)⟩,
      ⟨S1024x512, (extractStridedSlice S1024x512 ![0, 3104] (truncf (F := Ideal) (φ := .f32) .bf16 A bitsLt_bf16_f32 : FVec Ideal S1024x6752 .bf16) slices_S1024x6752_S1024x512_0_3104 : Vec Ideal S1024x512 .bf16)⟩,
      ⟨S1024x32, (extractStridedSlice S1024x32 ![0, 3072] (truncf (F := Ideal) (φ := .f32) .bf16 A bitsLt_bf16_f32 : FVec Ideal S1024x6752 .bf16) slices_S1024x6752_S1024x32_0_3072 : Vec Ideal S1024x32 .bf16)⟩,
      ⟨S1024x96, (broadcastInDim S1024x96 ![] bcast_S_S1024x96 (constant (F := Ideal) S_ .bf16 0x0000#16) : Vec Ideal S1024x96 .bf16)⟩,
      ⟨S1024x32, (extractStridedSlice S1024x32 ![0, 3616] (truncf (F := Ideal) (φ := .f32) .bf16 A bitsLt_bf16_f32 : FVec Ideal S1024x6752 .bf16) slices_S1024x6752_S1024x32_0_3616 : Vec Ideal S1024x32 .bf16)⟩,
      ⟨S1024x32, (broadcastInDim S1024x32 ![] bcast_S_S1024x32 (constant (F := Ideal) S_ .bf16 0x0000#16) : Vec Ideal S1024x32 .bf16)⟩,
      ⟨S1024x32, (extractStridedSlice S1024x32 ![0, 3648] (truncf (F := Ideal) (φ := .f32) .bf16 A bitsLt_bf16_f32 : FVec Ideal S1024x6752 .bf16) slices_S1024x6752_S1024x32_0_3648 : Vec Ideal S1024x32 .bf16)⟩,
      ⟨S1024x32, (broadcastInDim S1024x32 ![] bcast_S_S1024x32 (constant (F := Ideal) S_ .bf16 0x0000#16) : Vec Ideal S1024x32 .bf16)⟩] concatenates_S1024x3072_S1024x3072_S1024x512_S1024x32_S1024x96_S1024x32_S1024x32_S1024x32_S1024x32_S1024x6912_d1 : Vec Ideal S1024x6912 .bf16) = put A := by
  funext i
  obtain ⟨r, p, rfl⟩ : ∃ (r : Fin 1024) (p : Fin 6912), i = ix2 r p := ⟨i 0, i 1, eq_ix2 i⟩
  have hp := p.isLt
  by_cases h0 : p.val < 3072
  · exact (cat2 _ _ r p 0 (Nat.le_of_ble_eq_true rfl) _ rfl 0 rfl (⟨p.val - 0, by omega⟩ : Fin 3072) (by dsimp only; omega)).trans (slice_put A _ r _ (src_0 h0) (by dsimp only; omega))
  by_cases h1 : p.val < 6144
  · exact (cat2 _ _ r p 1 (Nat.le_of_ble_eq_true rfl) _ rfl 3072 rfl (⟨p.val - 3072, by omega⟩ : Fin 3072) (by dsimp only; omega)).trans (slice_put A _ r _ (src_1 h0 h1) (by dsimp only; omega))
  by_cases h2 : p.val < 6656
  · exact (cat2 _ _ r p 2 (Nat.le_of_ble_eq_true rfl) _ rfl 6144 rfl (⟨p.val - 6144, by omega⟩ : Fin 512) (by dsimp only; omega)).trans (slice_put A _ r _ (src_2 h1 h2) (by dsimp only; omega))
  by_cases h3 : p.val < 6688
  · exact (cat2 _ _ r p 3 (Nat.le_of_ble_eq_true rfl) _ rfl 6656 rfl (⟨p.val - 6656, by omega⟩ : Fin 32) (by dsimp only; omega)).trans (slice_put A _ r _ (src_3 h2 h3) (by dsimp only; omega))
  by_cases h4 : p.val < 6784
  · refine (cat2 _ _ r p 4 (Nat.le_of_ble_eq_true rfl) _ rfl 6688 rfl (⟨p.val - 6688, by omega⟩ : Fin 96) (by dsimp only; omega)).trans ?_
    exact zero_bf16.trans (put_none A r (src_4 h3 h4)).symm
  by_cases h5 : p.val < 6816
  · exact (cat2 _ _ r p 5 (Nat.le_of_ble_eq_true rfl) _ rfl 6784 rfl (⟨p.val - 6784, by omega⟩ : Fin 32) (by dsimp only; omega)).trans (slice_put A _ r _ (src_5 h4 h5) (by dsimp only; omega))
  by_cases h6 : p.val < 6848
  · refine (cat2 _ _ r p 6 (Nat.le_of_ble_eq_true rfl) _ rfl 6816 rfl (⟨p.val - 6816, by omega⟩ : Fin 32) (by dsimp only; omega)).trans ?_
    exact zero_bf16.trans (put_none A r (src_6 h5 h6)).symm
  by_cases h7 : p.val < 6880
  · exact (cat2 _ _ r p 7 (Nat.le_of_ble_eq_true rfl) _ rfl 6848 rfl (⟨p.val - 6848, by omega⟩ : Fin 32) (by dsimp only; omega)).trans (slice_put A _ r _ (src_7 h6 h7) (by dsimp only; omega))
  refine (cat2 _ _ r p 8 (Nat.le_of_ble_eq_true rfl) _ rfl 6880 rfl (⟨p.val - 6880, by omega⟩ : Fin 32) (by dsimp only; omega)).trans ?_
  exact zero_bf16.trans (put_none A r (src_8 h7)).symm

theorem put_eq_z (A : Vec Ideal S4096x6752 .f32) :
    (concatenate S4096x6912 1 [⟨S4096x3072, (extractStridedSlice S4096x3072 ![0, 3680] (truncf (F := Ideal) (φ := .f32) .bf16 A bitsLt_bf16_f32 : FVec Ideal S4096x6752 .bf16) slices_S4096x6752_S4096x3072_0_3680 : Vec Ideal S4096x3072 .bf16)⟩,
      ⟨S4096x3072, (extractStridedSlice S4096x3072 ![0, 0] (truncf (F := Ideal) (φ := .f32) .bf16 A bitsLt_bf16_f32 : FVec Ideal S4096x6752 .bf16) slices_S4096x6752_S4096x3072_0_0 : Vec Ideal S4096x3072 .bf16)⟩,
      ⟨S4096x512, (extractStridedSlice S4096x512 ![0, 3104] (truncf (F := Ideal) (φ := .f32) .bf16 A bitsLt_bf16_f32 : FVec Ideal S4096x6752 .bf16) slices_S4096x6752_S4096x512_0_3104 : Vec Ideal S4096x512 .bf16)⟩,
      ⟨S4096x32, (extractStridedSlice S4096x32 ![0, 3072] (truncf (F := Ideal) (φ := .f32) .bf16 A bitsLt_bf16_f32 : FVec Ideal S4096x6752 .bf16) slices_S4096x6752_S4096x32_0_3072 : Vec Ideal S4096x32 .bf16)⟩,
      ⟨S4096x96, (broadcastInDim S4096x96 ![] bcast_S_S4096x96 (constant (F := Ideal) S_ .bf16 0x0000#16) : Vec Ideal S4096x96 .bf16)⟩,
      ⟨S4096x32, (extractStridedSlice S4096x32 ![0, 3616] (truncf (F := Ideal) (φ := .f32) .bf16 A bitsLt_bf16_f32 : FVec Ideal S4096x6752 .bf16) slices_S4096x6752_S4096x32_0_3616 : Vec Ideal S4096x32 .bf16)⟩,
      ⟨S4096x32, (broadcastInDim S4096x32 ![] bcast_S_S4096x32 (constant (F := Ideal) S_ .bf16 0x0000#16) : Vec Ideal S4096x32 .bf16)⟩,
      ⟨S4096x32, (extractStridedSlice S4096x32 ![0, 3648] (truncf (F := Ideal) (φ := .f32) .bf16 A bitsLt_bf16_f32 : FVec Ideal S4096x6752 .bf16) slices_S4096x6752_S4096x32_0_3648 : Vec Ideal S4096x32 .bf16)⟩,
      ⟨S4096x32, (broadcastInDim S4096x32 ![] bcast_S_S4096x32 (constant (F := Ideal) S_ .bf16 0x0000#16) : Vec Ideal S4096x32 .bf16)⟩] concatenates_S4096x3072_S4096x3072_S4096x512_S4096x32_S4096x96_S4096x32_S4096x32_S4096x32_S4096x32_S4096x6912_d1 : Vec Ideal S4096x6912 .bf16) = put A := by
  funext i
  obtain ⟨r, p, rfl⟩ : ∃ (r : Fin 4096) (p : Fin 6912), i = ix2 r p := ⟨i 0, i 1, eq_ix2 i⟩
  have hp := p.isLt
  by_cases h0 : p.val < 3072
  · exact (cat2 _ _ r p 0 (Nat.le_of_ble_eq_true rfl) _ rfl 0 rfl (⟨p.val - 0, by omega⟩ : Fin 3072) (by dsimp only; omega)).trans (slice_put A _ r _ (src_0 h0) (by dsimp only; omega))
  by_cases h1 : p.val < 6144
  · exact (cat2 _ _ r p 1 (Nat.le_of_ble_eq_true rfl) _ rfl 3072 rfl (⟨p.val - 3072, by omega⟩ : Fin 3072) (by dsimp only; omega)).trans (slice_put A _ r _ (src_1 h0 h1) (by dsimp only; omega))
  by_cases h2 : p.val < 6656
  · exact (cat2 _ _ r p 2 (Nat.le_of_ble_eq_true rfl) _ rfl 6144 rfl (⟨p.val - 6144, by omega⟩ : Fin 512) (by dsimp only; omega)).trans (slice_put A _ r _ (src_2 h1 h2) (by dsimp only; omega))
  by_cases h3 : p.val < 6688
  · exact (cat2 _ _ r p 3 (Nat.le_of_ble_eq_true rfl) _ rfl 6656 rfl (⟨p.val - 6656, by omega⟩ : Fin 32) (by dsimp only; omega)).trans (slice_put A _ r _ (src_3 h2 h3) (by dsimp only; omega))
  by_cases h4 : p.val < 6784
  · refine (cat2 _ _ r p 4 (Nat.le_of_ble_eq_true rfl) _ rfl 6688 rfl (⟨p.val - 6688, by omega⟩ : Fin 96) (by dsimp only; omega)).trans ?_
    exact zero_bf16.trans (put_none A r (src_4 h3 h4)).symm
  by_cases h5 : p.val < 6816
  · exact (cat2 _ _ r p 5 (Nat.le_of_ble_eq_true rfl) _ rfl 6784 rfl (⟨p.val - 6784, by omega⟩ : Fin 32) (by dsimp only; omega)).trans (slice_put A _ r _ (src_5 h4 h5) (by dsimp only; omega))
  by_cases h6 : p.val < 6848
  · refine (cat2 _ _ r p 6 (Nat.le_of_ble_eq_true rfl) _ rfl 6816 rfl (⟨p.val - 6816, by omega⟩ : Fin 32) (by dsimp only; omega)).trans ?_
    exact zero_bf16.trans (put_none A r (src_6 h5 h6)).symm
  by_cases h7 : p.val < 6880
  · exact (cat2 _ _ r p 7 (Nat.le_of_ble_eq_true rfl) _ rfl 6848 rfl (⟨p.val - 6848, by omega⟩ : Fin 32) (by dsimp only; omega)).trans (slice_put A _ r _ (src_7 h6 h7) (by dsimp only; omega))
  refine (cat2 _ _ r p 8 (Nat.le_of_ble_eq_true rfl) _ rfl 6880 rfl (⟨p.val - 6880, by omega⟩ : Fin 32) (by dsimp only; omega)).trans ?_
  exact zero_bf16.trans (put_none A r (src_8 h7)).symm

/-- Columns `o`, `o + 1`, … of a matrix. -/
def colsOf (w o : ℕ) (h : o + w ≤ 6912) {n : ℕ} (Q : M n 6912) : M n w := fun i => Q (ix2 (i 0) ⟨o + (i 1).val, Nat.lt_of_lt_of_le (Nat.add_lt_add_left (i 1).isLt o) h⟩)

theorem cols_eq_0 (D : Vec Ideal S4096x6912 .bf16) :
    (extractStridedSlice S4096x3072 ![0, 0] D slices_S4096x6912_S4096x3072_0_0 : Vec Ideal S4096x3072 .bf16) = colsOf 3072 0 (by decide) D := by
  funext i
  obtain ⟨r, q, rfl⟩ : ∃ (r : Fin 4096) (q : Fin 3072), i = ix2 r q := ⟨i 0, i 1, eq_ix2 i⟩
  exact slice2 D _ r q _
theorem cols_eq_3072 (D : Vec Ideal S4096x6912 .bf16) :
    (extractStridedSlice S4096x1536 ![0, 3072] D slices_S4096x6912_S4096x1536_0_3072 : Vec Ideal S4096x1536 .bf16) = colsOf 1536 3072 (by decide) D := by
  funext i
  obtain ⟨r, q, rfl⟩ : ∃ (r : Fin 4096) (q : Fin 1536), i = ix2 r q := ⟨i 0, i 1, eq_ix2 i⟩
  exact slice2 D _ r q _
theorem cols_eq_4608 (D : Vec Ideal S4096x6912 .bf16) :
    (extractStridedSlice S4096x1536 ![0, 4608] D slices_S4096x6912_S4096x1536_0_4608 : Vec Ideal S4096x1536 .bf16) = colsOf 1536 4608 (by decide) D := by
  funext i
  obtain ⟨r, q, rfl⟩ : ∃ (r : Fin 4096) (q : Fin 1536), i = ix2 r q := ⟨i 0, i 1, eq_ix2 i⟩
  exact slice2 D _ r q _
theorem cols_eq_6144 (D : Vec Ideal S4096x6912 .bf16) :
    (extractStridedSlice S4096x256 ![0, 6144] D slices_S4096x6912_S4096x256_0_6144 : Vec Ideal S4096x256 .bf16) = colsOf 256 6144 (by decide) D := by
  funext i
  obtain ⟨r, q, rfl⟩ : ∃ (r : Fin 4096) (q : Fin 256), i = ix2 r q := ⟨i 0, i 1, eq_ix2 i⟩
  exact slice2 D _ r q _
theorem cols_eq_6400 (D : Vec Ideal S4096x6912 .bf16) :
    (extractStridedSlice S4096x256 ![0, 6400] D slices_S4096x6912_S4096x256_0_6400 : Vec Ideal S4096x256 .bf16) = colsOf 256 6400 (by decide) D := by
  funext i
  obtain ⟨r, q, rfl⟩ : ∃ (r : Fin 4096) (q : Fin 256), i = ix2 r q := ⟨i 0, i 1, eq_ix2 i⟩
  exact slice2 D _ r q _
theorem cols_eq_6656 (D : Vec Ideal S4096x6912 .bf16) :
    (extractStridedSlice S4096x128 ![0, 6656] D slices_S4096x6912_S4096x128_0_6656 : Vec Ideal S4096x128 .bf16) = colsOf 128 6656 (by decide) D := by
  funext i
  obtain ⟨r, q, rfl⟩ : ∃ (r : Fin 4096) (q : Fin 128), i = ix2 r q := ⟨i 0, i 1, eq_ix2 i⟩
  exact slice2 D _ r q _
theorem cols_eq_6784 (D : Vec Ideal S4096x6912 .bf16) :
    (extractStridedSlice S4096x128 ![0, 6784] D slices_S4096x6912_S4096x128_0_6784 : Vec Ideal S4096x128 .bf16) = colsOf 128 6784 (by decide) D := by
  funext i
  obtain ⟨r, q, rfl⟩ : ∃ (r : Fin 4096) (q : Fin 128), i = ix2 r q := ⟨i 0, i 1, eq_ix2 i⟩
  exact slice2 D _ r q _

/-- The laid-out weights followed by columns of zeros, which no segment reads. -/
def wide (W : M 1024 6912) : M 1024 9216 :=
  concatenate S1024x9216 1 [⟨S1024x6912, (W : Vec Ideal S1024x6912 .bf16)⟩,
    ⟨S1024x2304, (broadcastInDim S1024x2304 ![] bcast_S_S1024x2304 (constant (F := Ideal) S_ .bf16 0x0000#16) : Vec Ideal S1024x2304 .bf16)⟩] concatenates_S1024x6912_S1024x2304_S1024x9216_d1

theorem wide_apply (W : M 1024 6912) (d : Fin 1024) (p : Fin 9216) (h : p.val < 6912) : wide W (ix2 d p) = W (ix2 d ⟨p.val, h⟩) :=
  cat2 _ _ d p 0 (Nat.le_of_ble_eq_true rfl) W rfl 0 rfl (⟨p.val, h⟩ : Fin 6912) (Nat.zero_add _)

/-- The seven segments' products add up to the product over all laid-out columns. -/
theorem seven_eq (D : M 4096 6912) (W : M 1024 6912) (r : Fin 4096) (d : Fin 1024) :
    sevenAt (colsOf 3072 0 (by decide) D) (colsOf 1536 3072 (by decide) D) (colsOf 1536 4608 (by decide) D) (colsOf 256 6144 (by decide) D) (colsOf 256 6400 (by decide) D) (colsOf 128 6656 (by decide) D) (colsOf 128 6784 (by decide) D) (wide W) r d
      = ∑ p, D (ix2 r p) * W (ix2 d p) := by
  let F : ℕ → EReal := fun p => if h : p < 6912 then D (ix2 r ⟨p, h⟩) * W (ix2 d ⟨p, h⟩) else 0
  have seg : ∀ (w o : ℕ) (h : o + w ≤ 6912), segAt (colsOf w o h D) (wide W) o (by omega) r d = ∑ k ∈ Finset.range w, F (o + k) := by
    intro w o h
    rw [← Fin.sum_univ_eq_sum_range (fun k => F (o + k)) w]
    refine Finset.sum_congr rfl fun k _ => ?_
    have hk : o + k.val < 6912 := by omega
    show _ = F (o + k.val)
    refine Eq.trans ?_ (dif_pos hk).symm
    exact congrArg₂ (· * ·) rfl (wide_apply W d ⟨o + k.val, by omega⟩ hk)
  have all : ∑ p, D (ix2 r p) * W (ix2 d p) = ∑ k ∈ Finset.range 6912, F k := by
    rw [← Fin.sum_univ_eq_sum_range F 6912]
    refine Finset.sum_congr rfl fun p _ => ?_
    show _ = F p.val
    refine Eq.trans ?_ (dif_pos p.isLt).symm
    rfl
  unfold sevenAt
  rw [seg 3072 0 (by decide), seg 1536 3072 (by decide), seg 1536 4608 (by decide), seg 256 6144 (by decide), seg 256 6400 (by decide), seg 128 6656 (by decide), seg 128 6784 (by decide), all,
    show (6912 : ℕ) = 3072 + 1536 + 1536 + 256 + 256 + 128 + 128 from rfl,
    Finset.sum_range_add F (3072 + 1536 + 1536 + 256 + 256 + 128) 128, Finset.sum_range_add F (3072 + 1536 + 1536 + 256 + 256) 128, Finset.sum_range_add F (3072 + 1536 + 1536 + 256) 256, Finset.sum_range_add F (3072 + 1536 + 1536) 256, Finset.sum_range_add F (3072 + 1536) 1536, Finset.sum_range_add F (3072) 1536]
  simp only [Nat.zero_add, Nat.reduceAdd]

/-! ## Back -/

theorem back_z (Q : Vec Ideal S4096x6912 .f32) :
    (concatenate S4096x6752 1 [⟨S4096x3072, (extractStridedSlice S4096x3072 ![0, 3072] Q slices_S4096x6912_S4096x3072_0_3072 : Vec Ideal S4096x3072 .f32)⟩,
      ⟨S4096x32, (extractStridedSlice S4096x32 ![0, 6656] Q slices_S4096x6912_S4096x32_0_6656 : Vec Ideal S4096x32 .f32)⟩,
      ⟨S4096x512, (extractStridedSlice S4096x512 ![0, 6144] Q slices_S4096x6912_S4096x512_0_6144 : Vec Ideal S4096x512 .f32)⟩,
      ⟨S4096x32, (extractStridedSlice S4096x32 ![0, 6784] Q slices_S4096x6912_S4096x32_0_6784 : Vec Ideal S4096x32 .f32)⟩,
      ⟨S4096x32, (extractStridedSlice S4096x32 ![0, 6848] Q slices_S4096x6912_S4096x32_0_6848 : Vec Ideal S4096x32 .f32)⟩,
      ⟨S4096x3072, (extractStridedSlice S4096x3072 ![0, 0] Q slices_S4096x6912_S4096x3072_0_0 : Vec Ideal S4096x3072 .f32)⟩] concatenates_S4096x3072_S4096x32_S4096x512_S4096x32_S4096x32_S4096x3072_S4096x6752_d1 : Vec Ideal S4096x6752 .f32)
      = fun i => Q (ix2 (i 0) (pos (i 1))) := by
  funext i
  obtain ⟨r, p, rfl⟩ : ∃ (r : Fin 4096) (p : Fin 6752), i = ix2 r p := ⟨i 0, i 1, eq_ix2 i⟩
  have hp := p.isLt
  show _ = Q (ix2 r (pos p))
  by_cases k0 : p.val < 3072
  · refine (cat2 _ _ r p 0 (Nat.le_of_ble_eq_true rfl) _ rfl 0 rfl (⟨p.val - 0, by omega⟩ : Fin 3072) (by dsimp only; omega)).trans ?_
    refine (slice2 (n := 4096) Q _ r (⟨p.val - 0, by omega⟩ : Fin 3072) (by dsimp only; omega)).trans ?_
    exact congrArg Q (Shape.idx_ext₂ (Eq.refl r.val) (by dsimp only [ix2, pos]; split_ifs <;> omega))
  by_cases k1 : p.val < 3104
  · refine (cat2 _ _ r p 1 (Nat.le_of_ble_eq_true rfl) _ rfl 3072 rfl (⟨p.val - 3072, by omega⟩ : Fin 32) (by dsimp only; omega)).trans ?_
    refine (slice2 (n := 4096) Q _ r (⟨p.val - 3072, by omega⟩ : Fin 32) (by dsimp only; omega)).trans ?_
    exact congrArg Q (Shape.idx_ext₂ (Eq.refl r.val) (by dsimp only [ix2, pos]; split_ifs <;> omega))
  by_cases k2 : p.val < 3616
  · refine (cat2 _ _ r p 2 (Nat.le_of_ble_eq_true rfl) _ rfl 3104 rfl (⟨p.val - 3104, by omega⟩ : Fin 512) (by dsimp only; omega)).trans ?_
    refine (slice2 (n := 4096) Q _ r (⟨p.val - 3104, by omega⟩ : Fin 512) (by dsimp only; omega)).trans ?_
    exact congrArg Q (Shape.idx_ext₂ (Eq.refl r.val) (by dsimp only [ix2, pos]; split_ifs <;> omega))
  by_cases k3 : p.val < 3648
  · refine (cat2 _ _ r p 3 (Nat.le_of_ble_eq_true rfl) _ rfl 3616 rfl (⟨p.val - 3616, by omega⟩ : Fin 32) (by dsimp only; omega)).trans ?_
    refine (slice2 (n := 4096) Q _ r (⟨p.val - 3616, by omega⟩ : Fin 32) (by dsimp only; omega)).trans ?_
    exact congrArg Q (Shape.idx_ext₂ (Eq.refl r.val) (by dsimp only [ix2, pos]; split_ifs <;> omega))
  by_cases k4 : p.val < 3680
  · refine (cat2 _ _ r p 4 (Nat.le_of_ble_eq_true rfl) _ rfl 3648 rfl (⟨p.val - 3648, by omega⟩ : Fin 32) (by dsimp only; omega)).trans ?_
    refine (slice2 (n := 4096) Q _ r (⟨p.val - 3648, by omega⟩ : Fin 32) (by dsimp only; omega)).trans ?_
    exact congrArg Q (Shape.idx_ext₂ (Eq.refl r.val) (by dsimp only [ix2, pos]; split_ifs <;> omega))
  refine (cat2 _ _ r p 5 (Nat.le_of_ble_eq_true rfl) _ rfl 3680 rfl (⟨p.val - 3680, by omega⟩ : Fin 3072) (by dsimp only; omega)).trans ?_
  refine (slice2 (n := 4096) Q _ r (⟨p.val - 3680, by omega⟩ : Fin 3072) (by dsimp only; omega)).trans ?_
  exact congrArg Q (Shape.idx_ext₂ (Eq.refl r.val) (by dsimp only [ix2, pos]; split_ifs <;> omega))

/-- A quarter of the columns, at their places. -/
def quart (Q : M 1024 6912) (a : Fin 4) : M 1024 1688 := fun i => Q (ix2 (i 0) (pos ⟨1688 * a.val + (i 1).val, by have := (i 1).isLt; have := a.isLt; simp only [Matrix.cons_val_one, Matrix.cons_val_fin_one] at *; omega⟩))

theorem quart_0 (Q : M 1024 6912) : (concatenate S1024x1688 1 [⟨S1024x1536, (colsOf 1536 3072 (by decide) Q : Vec Ideal S1024x1536 .f32)⟩, ⟨S1024x152, (extractStridedSlice S1024x152 ![0, 0] (colsOf 1536 4608 (by decide) Q : Vec Ideal S1024x1536 .f32) slices_S1024x1536_S1024x152_0_0 : Vec Ideal S1024x152 .f32)⟩] concatenates_S1024x1536_S1024x152_S1024x1688_d1 : Vec Ideal S1024x1688 .f32) = quart Q 0 := by
  funext i
  obtain ⟨r, p, rfl⟩ : ∃ (r : Fin 1024) (p : Fin 1688), i = ix2 r p := ⟨i 0, i 1, eq_ix2 i⟩
  have hp := p.isLt
  by_cases k0 : p.val < 1536
  · refine (cat2 _ _ r p 0 (Nat.le_of_ble_eq_true rfl) _ rfl 0 rfl (⟨p.val - 0, by omega⟩ : Fin 1536) (by dsimp only; omega)).trans ?_
    exact congrArg Q (Shape.idx_ext₂ (Eq.refl r.val) (by show _ = (pos ⟨1688 * 0 + p.val, _⟩).val; dsimp only [ix2, pos]; split_ifs <;> omega))
  refine (cat2 _ _ r p 1 (Nat.le_of_ble_eq_true rfl) _ rfl 1536 rfl (⟨p.val - 1536, by omega⟩ : Fin 152) (by dsimp only; omega)).trans ?_
  refine (slice2 (n := 1024) (colsOf 1536 4608 (by decide) Q) _ r (⟨p.val - 1536, by omega⟩ : Fin 152) (by dsimp only; omega)).trans ?_
  exact congrArg Q (Shape.idx_ext₂ (Eq.refl r.val) (by show _ = (pos ⟨1688 * 0 + p.val, _⟩).val; dsimp only [ix2, pos]; split_ifs <;> omega))

theorem quart_1 (Q : M 1024 6912) : (concatenate S1024x1688 1 [⟨S1024x1384, (extractStridedSlice S1024x1384 ![0, 152] (colsOf 1536 4608 (by decide) Q : Vec Ideal S1024x1536 .f32) slices_S1024x1536_S1024x1384_0_152 : Vec Ideal S1024x1384 .f32)⟩, ⟨S1024x32, (extractStridedSlice S1024x32 ![0, 0] (colsOf 128 6656 (by decide) Q : Vec Ideal S1024x128 .f32) slices_S1024x128_S1024x32_0_0 : Vec Ideal S1024x32 .f32)⟩, ⟨S1024x256, (colsOf 256 6144 (by decide) Q : Vec Ideal S1024x256 .f32)⟩, ⟨S1024x16, (extractStridedSlice S1024x16 ![0, 0] (colsOf 256 6400 (by decide) Q : Vec Ideal S1024x256 .f32) slices_S1024x256_S1024x16_0_0 : Vec Ideal S1024x16 .f32)⟩] concatenates_S1024x1384_S1024x32_S1024x256_S1024x16_S1024x1688_d1 : Vec Ideal S1024x1688 .f32) = quart Q 1 := by
  funext i
  obtain ⟨r, p, rfl⟩ : ∃ (r : Fin 1024) (p : Fin 1688), i = ix2 r p := ⟨i 0, i 1, eq_ix2 i⟩
  have hp := p.isLt
  by_cases k0 : p.val < 1384
  · refine (cat2 _ _ r p 0 (Nat.le_of_ble_eq_true rfl) _ rfl 0 rfl (⟨p.val - 0, by omega⟩ : Fin 1384) (by dsimp only; omega)).trans ?_
    refine (slice2 (n := 1024) (colsOf 1536 4608 (by decide) Q) _ r (⟨p.val - 0, by omega⟩ : Fin 1384) (by dsimp only; omega)).trans ?_
    exact congrArg Q (Shape.idx_ext₂ (Eq.refl r.val) (by show _ = (pos ⟨1688 * 1 + p.val, _⟩).val; dsimp only [ix2, pos]; split_ifs <;> omega))
  by_cases k1 : p.val < 1416
  · refine (cat2 _ _ r p 1 (Nat.le_of_ble_eq_true rfl) _ rfl 1384 rfl (⟨p.val - 1384, by omega⟩ : Fin 32) (by dsimp only; omega)).trans ?_
    refine (slice2 (n := 1024) (colsOf 128 6656 (by decide) Q) _ r (⟨p.val - 1384, by omega⟩ : Fin 32) (by dsimp only; omega)).trans ?_
    exact congrArg Q (Shape.idx_ext₂ (Eq.refl r.val) (by show _ = (pos ⟨1688 * 1 + p.val, _⟩).val; dsimp only [ix2, pos]; split_ifs <;> omega))
  by_cases k2 : p.val < 1672
  · refine (cat2 _ _ r p 2 (Nat.le_of_ble_eq_true rfl) _ rfl 1416 rfl (⟨p.val - 1416, by omega⟩ : Fin 256) (by dsimp only; omega)).trans ?_
    exact congrArg Q (Shape.idx_ext₂ (Eq.refl r.val) (by show _ = (pos ⟨1688 * 1 + p.val, _⟩).val; dsimp only [ix2, pos]; split_ifs <;> omega))
  refine (cat2 _ _ r p 3 (Nat.le_of_ble_eq_true rfl) _ rfl 1672 rfl (⟨p.val - 1672, by omega⟩ : Fin 16) (by dsimp only; omega)).trans ?_
  refine (slice2 (n := 1024) (colsOf 256 6400 (by decide) Q) _ r (⟨p.val - 1672, by omega⟩ : Fin 16) (by dsimp only; omega)).trans ?_
  exact congrArg Q (Shape.idx_ext₂ (Eq.refl r.val) (by show _ = (pos ⟨1688 * 1 + p.val, _⟩).val; dsimp only [ix2, pos]; split_ifs <;> omega))

theorem quart_2 (Q : M 1024 6912) : (concatenate S1024x1688 1 [⟨S1024x240, (extractStridedSlice S1024x240 ![0, 16] (colsOf 256 6400 (by decide) Q : Vec Ideal S1024x256 .f32) slices_S1024x256_S1024x240_0_16 : Vec Ideal S1024x240 .f32)⟩, ⟨S1024x32, (extractStridedSlice S1024x32 ![0, 0] (colsOf 128 6784 (by decide) Q : Vec Ideal S1024x128 .f32) slices_S1024x128_S1024x32_0_0 : Vec Ideal S1024x32 .f32)⟩, ⟨S1024x32, (extractStridedSlice S1024x32 ![0, 64] (colsOf 128 6784 (by decide) Q : Vec Ideal S1024x128 .f32) slices_S1024x128_S1024x32_0_64 : Vec Ideal S1024x32 .f32)⟩, ⟨S1024x1384, (extractStridedSlice S1024x1384 ![0, 0] (colsOf 3072 0 (by decide) Q : Vec Ideal S1024x3072 .f32) slices_S1024x3072_S1024x1384_0_0 : Vec Ideal S1024x1384 .f32)⟩] concatenates_S1024x240_S1024x32_S1024x32_S1024x1384_S1024x1688_d1 : Vec Ideal S1024x1688 .f32) = quart Q 2 := by
  funext i
  obtain ⟨r, p, rfl⟩ : ∃ (r : Fin 1024) (p : Fin 1688), i = ix2 r p := ⟨i 0, i 1, eq_ix2 i⟩
  have hp := p.isLt
  by_cases k0 : p.val < 240
  · refine (cat2 _ _ r p 0 (Nat.le_of_ble_eq_true rfl) _ rfl 0 rfl (⟨p.val - 0, by omega⟩ : Fin 240) (by dsimp only; omega)).trans ?_
    refine (slice2 (n := 1024) (colsOf 256 6400 (by decide) Q) _ r (⟨p.val - 0, by omega⟩ : Fin 240) (by dsimp only; omega)).trans ?_
    exact congrArg Q (Shape.idx_ext₂ (Eq.refl r.val) (by show _ = (pos ⟨1688 * 2 + p.val, _⟩).val; dsimp only [ix2, pos]; split_ifs <;> omega))
  by_cases k1 : p.val < 272
  · refine (cat2 _ _ r p 1 (Nat.le_of_ble_eq_true rfl) _ rfl 240 rfl (⟨p.val - 240, by omega⟩ : Fin 32) (by dsimp only; omega)).trans ?_
    refine (slice2 (n := 1024) (colsOf 128 6784 (by decide) Q) _ r (⟨p.val - 240, by omega⟩ : Fin 32) (by dsimp only; omega)).trans ?_
    exact congrArg Q (Shape.idx_ext₂ (Eq.refl r.val) (by show _ = (pos ⟨1688 * 2 + p.val, _⟩).val; dsimp only [ix2, pos]; split_ifs <;> omega))
  by_cases k2 : p.val < 304
  · refine (cat2 _ _ r p 2 (Nat.le_of_ble_eq_true rfl) _ rfl 272 rfl (⟨p.val - 272, by omega⟩ : Fin 32) (by dsimp only; omega)).trans ?_
    refine (slice2 (n := 1024) (colsOf 128 6784 (by decide) Q) _ r (⟨p.val - 272, by omega⟩ : Fin 32) (by dsimp only; omega)).trans ?_
    exact congrArg Q (Shape.idx_ext₂ (Eq.refl r.val) (by show _ = (pos ⟨1688 * 2 + p.val, _⟩).val; dsimp only [ix2, pos]; split_ifs <;> omega))
  refine (cat2 _ _ r p 3 (Nat.le_of_ble_eq_true rfl) _ rfl 304 rfl (⟨p.val - 304, by omega⟩ : Fin 1384) (by dsimp only; omega)).trans ?_
  refine (slice2 (n := 1024) (colsOf 3072 0 (by decide) Q) _ r (⟨p.val - 304, by omega⟩ : Fin 1384) (by dsimp only; omega)).trans ?_
  exact congrArg Q (Shape.idx_ext₂ (Eq.refl r.val) (by show _ = (pos ⟨1688 * 2 + p.val, _⟩).val; dsimp only [ix2, pos]; split_ifs <;> omega))

theorem quart_3 (Q : M 1024 6912) : (extractStridedSlice S1024x1688 ![0, 1384] (colsOf 3072 0 (by decide) Q : Vec Ideal S1024x3072 .f32) slices_S1024x3072_S1024x1688_0_1384 : Vec Ideal S1024x1688 .f32) = quart Q 3 := by
  funext i
  obtain ⟨r, p, rfl⟩ : ∃ (r : Fin 1024) (p : Fin 1688), i = ix2 r p := ⟨i 0, i 1, eq_ix2 i⟩
  have hp := p.isLt
  refine (slice2 (n := 1024) (colsOf 3072 0 (by decide) Q) _ r p (by omega)).trans ?_
  exact congrArg Q (Shape.idx_ext₂ (Eq.refl r.val) (by show _ = (pos ⟨1688 * 3 + p.val, _⟩).val; dsimp only [ix2, pos]; split_ifs <;> omega))

theorem row3 (x : Vec Ideal S1024x1688 .f32) (r : Fin 1024) (k : Fin 1688) :
    (broadcastInDim S1x1024x1688 ![1, 2] bcast_S1024x1688_S1x1024x1688_1_2 x : Vec Ideal S1x1024x1688 .f32) (ValueIdx.ix3 0 r k) = x (ix2 r k) :=
  broadcastInDim_apply _ _ x (ValueIdx.ix3 0 r k) (ix2 r k) fun a => by
    match a with
    | ⟨0, _⟩ => rfl
    | ⟨1, _⟩ => rfl

theorem stack_at (x : Fin 4 → Vec Ideal S1024x1688 .f32) (a : Fin 4) (r : Fin 1024) (k : Fin 1688) :
    concatenate S4x1024x1688 0 [
      ⟨S1x1024x1688, (broadcastInDim S1x1024x1688 ![1, 2] bcast_S1024x1688_S1x1024x1688_1_2 (x 0) : Vec Ideal S1x1024x1688 .f32)⟩,
      ⟨S1x1024x1688, (broadcastInDim S1x1024x1688 ![1, 2] bcast_S1024x1688_S1x1024x1688_1_2 (x 1) : Vec Ideal S1x1024x1688 .f32)⟩,
      ⟨S1x1024x1688, (broadcastInDim S1x1024x1688 ![1, 2] bcast_S1024x1688_S1x1024x1688_1_2 (x 2) : Vec Ideal S1x1024x1688 .f32)⟩,
      ⟨S1x1024x1688, (broadcastInDim S1x1024x1688 ![1, 2] bcast_S1024x1688_S1x1024x1688_1_2 (x 3) : Vec Ideal S1x1024x1688 .f32)⟩]
      concatenates_S1x1024x1688_S1x1024x1688_S1x1024x1688_S1x1024x1688_S4x1024x1688_d0 (ValueIdx.ix3 a r k) = x a (ix2 r k) := by
  refine (concatenate_apply_piece (t := S4x1024x1688) 0 _ _ (ValueIdx.ix3 a r k) a.val (by exact a.isLt) S1x1024x1688
    (broadcastInDim S1x1024x1688 ![1, 2] bcast_S1024x1688_S1x1024x1688_1_2 (x a) : Vec Ideal S1x1024x1688 .f32) (by fin_cases a <;> rfl) rfl a.val
    (by fin_cases a <;> rfl) (ValueIdx.ix3 0 r k) (fun b hb => ?_) rfl).trans (row3 (x a) r k)
  match b with
  | ⟨0, _⟩ => exact absurd rfl hb
  | ⟨1, _⟩ => rfl
  | ⟨2, _⟩ => rfl

def stk (Q : M 1024 6912) : Vec Ideal S4x1024x1688 .f32 :=
  concatenate S4x1024x1688 0 [
      ⟨S1x1024x1688, (broadcastInDim S1x1024x1688 ![1, 2] bcast_S1024x1688_S1x1024x1688_1_2 (quart Q 0) : Vec Ideal S1x1024x1688 .f32)⟩,
      ⟨S1x1024x1688, (broadcastInDim S1x1024x1688 ![1, 2] bcast_S1024x1688_S1x1024x1688_1_2 (quart Q 1) : Vec Ideal S1x1024x1688 .f32)⟩,
      ⟨S1x1024x1688, (broadcastInDim S1x1024x1688 ![1, 2] bcast_S1024x1688_S1x1024x1688_1_2 (quart Q 2) : Vec Ideal S1x1024x1688 .f32)⟩,
      ⟨S1x1024x1688, (broadcastInDim S1x1024x1688 ![1, 2] bcast_S1024x1688_S1x1024x1688_1_2 (quart Q 3) : Vec Ideal S1x1024x1688 .f32)⟩]
      concatenates_S1x1024x1688_S1x1024x1688_S1x1024x1688_S1x1024x1688_S4x1024x1688_d0

/-- The four quarters, stacked, narrowed, transposed and flattened, are the columns at their places. -/
theorem stack_eq (Q : M 1024 6912) :
    (extf (F := Ideal) (φ := .bf16) .f32 (shapeCast S1024x6752 (transpose S1024x4x1688 [1, 0, 2] (truncf (F := Ideal) (φ := .f32) .bf16 (concatenate S4x1024x1688 0 [
      ⟨S1x1024x1688, (broadcastInDim S1x1024x1688 ![1, 2] bcast_S1024x1688_S1x1024x1688_1_2 (quart Q 0) : Vec Ideal S1x1024x1688 .f32)⟩,
      ⟨S1x1024x1688, (broadcastInDim S1x1024x1688 ![1, 2] bcast_S1024x1688_S1x1024x1688_1_2 (quart Q 1) : Vec Ideal S1x1024x1688 .f32)⟩,
      ⟨S1x1024x1688, (broadcastInDim S1x1024x1688 ![1, 2] bcast_S1024x1688_S1x1024x1688_1_2 (quart Q 2) : Vec Ideal S1x1024x1688 .f32)⟩,
      ⟨S1x1024x1688, (broadcastInDim S1x1024x1688 ![1, 2] bcast_S1024x1688_S1x1024x1688_1_2 (quart Q 3) : Vec Ideal S1x1024x1688 .f32)⟩]
      concatenates_S1x1024x1688_S1x1024x1688_S1x1024x1688_S1x1024x1688_S4x1024x1688_d0 : FVec Ideal S4x1024x1688 .f32) bitsLt_bf16_f32 : FVec Ideal S4x1024x1688 .bf16)
      transposes_S4x1024x1688_S1024x4x1688_1_0_2) shapeCasts_S1024x4x1688_S1024x6752 : FVec Ideal S1024x6752 .bf16) bitsLt_bf16_f32 : FVec Ideal S1024x6752 .f32)
      = fun i => Q (ix2 (i 0) (pos (i 1))) := by
  funext i
  obtain ⟨r, p, rfl⟩ : ∃ (r : Fin 1024) (p : Fin 6752), i = ix2 r p := ⟨i 0, i 1, eq_ix2 i⟩
  show shapeCast S1024x6752 (transpose S1024x4x1688 [1, 0, 2] (stk Q) transposes_S4x1024x1688_S1024x4x1688_1_0_2)
    shapeCasts_S1024x4x1688_S1024x6752 (ix2 r p) = Q (ix2 r (pos p))
  have h4 : p.val / 1688 < 4 := by omega
  rw [shapeCast_apply _ _ (ix2 r p) (ValueIdx.ix3 r (⟨p.val / 1688, h4⟩ : Fin 4) (⟨p.val % 1688, Nat.mod_lt _ (by decide)⟩ : Fin 1688)) (by
      rewrite [Shape.rowMajor_val_two, Shape.rowMajor_val_three]
      show (r.val * 4 + p.val / 1688) * 1688 + p.val % 1688 = r.val * 6752 + p.val
      omega),
    transpose_apply _ _ _ _ (ValueIdx.ix3 (⟨p.val / 1688, h4⟩ : Fin 4) r (⟨p.val % 1688, Nat.mod_lt _ (by decide)⟩ : Fin 1688)) (fun b => by fin_cases b <;> rfl)]
  refine (stack_at (quart Q) _ r _).trans ?_
  exact congrArg Q (congrArg (ix2 r) (congrArg pos (Fin.ext (Nat.div_add_mod p.val 1688))))

theorem back_w (Q : M 1024 6912) :
    (extf (F := Ideal) (φ := .bf16) .f32 (shapeCast S1024x6752 (transpose S1024x4x1688 [1, 0, 2] (truncf (F := Ideal) (φ := .f32) .bf16 (concatenate S4x1024x1688 0 [
      ⟨S1x1024x1688, (broadcastInDim S1x1024x1688 ![1, 2] bcast_S1024x1688_S1x1024x1688_1_2 (concatenate S1024x1688 1 [⟨S1024x1536, (colsOf 1536 3072 (by decide) Q : Vec Ideal S1024x1536 .f32)⟩, ⟨S1024x152, (extractStridedSlice S1024x152 ![0, 0] (colsOf 1536 4608 (by decide) Q : Vec Ideal S1024x1536 .f32) slices_S1024x1536_S1024x152_0_0 : Vec Ideal S1024x152 .f32)⟩] concatenates_S1024x1536_S1024x152_S1024x1688_d1 : Vec Ideal S1024x1688 .f32) : Vec Ideal S1x1024x1688 .f32)⟩,
      ⟨S1x1024x1688, (broadcastInDim S1x1024x1688 ![1, 2] bcast_S1024x1688_S1x1024x1688_1_2 (concatenate S1024x1688 1 [⟨S1024x1384, (extractStridedSlice S1024x1384 ![0, 152] (colsOf 1536 4608 (by decide) Q : Vec Ideal S1024x1536 .f32) slices_S1024x1536_S1024x1384_0_152 : Vec Ideal S1024x1384 .f32)⟩, ⟨S1024x32, (extractStridedSlice S1024x32 ![0, 0] (colsOf 128 6656 (by decide) Q : Vec Ideal S1024x128 .f32) slices_S1024x128_S1024x32_0_0 : Vec Ideal S1024x32 .f32)⟩, ⟨S1024x256, (colsOf 256 6144 (by decide) Q : Vec Ideal S1024x256 .f32)⟩, ⟨S1024x16, (extractStridedSlice S1024x16 ![0, 0] (colsOf 256 6400 (by decide) Q : Vec Ideal S1024x256 .f32) slices_S1024x256_S1024x16_0_0 : Vec Ideal S1024x16 .f32)⟩] concatenates_S1024x1384_S1024x32_S1024x256_S1024x16_S1024x1688_d1 : Vec Ideal S1024x1688 .f32) : Vec Ideal S1x1024x1688 .f32)⟩,
      ⟨S1x1024x1688, (broadcastInDim S1x1024x1688 ![1, 2] bcast_S1024x1688_S1x1024x1688_1_2 (concatenate S1024x1688 1 [⟨S1024x240, (extractStridedSlice S1024x240 ![0, 16] (colsOf 256 6400 (by decide) Q : Vec Ideal S1024x256 .f32) slices_S1024x256_S1024x240_0_16 : Vec Ideal S1024x240 .f32)⟩, ⟨S1024x32, (extractStridedSlice S1024x32 ![0, 0] (colsOf 128 6784 (by decide) Q : Vec Ideal S1024x128 .f32) slices_S1024x128_S1024x32_0_0 : Vec Ideal S1024x32 .f32)⟩, ⟨S1024x32, (extractStridedSlice S1024x32 ![0, 64] (colsOf 128 6784 (by decide) Q : Vec Ideal S1024x128 .f32) slices_S1024x128_S1024x32_0_64 : Vec Ideal S1024x32 .f32)⟩, ⟨S1024x1384, (extractStridedSlice S1024x1384 ![0, 0] (colsOf 3072 0 (by decide) Q : Vec Ideal S1024x3072 .f32) slices_S1024x3072_S1024x1384_0_0 : Vec Ideal S1024x1384 .f32)⟩] concatenates_S1024x240_S1024x32_S1024x32_S1024x1384_S1024x1688_d1 : Vec Ideal S1024x1688 .f32) : Vec Ideal S1x1024x1688 .f32)⟩,
      ⟨S1x1024x1688, (broadcastInDim S1x1024x1688 ![1, 2] bcast_S1024x1688_S1x1024x1688_1_2 (extractStridedSlice S1024x1688 ![0, 1384] (colsOf 3072 0 (by decide) Q : Vec Ideal S1024x3072 .f32) slices_S1024x3072_S1024x1688_0_1384 : Vec Ideal S1024x1688 .f32) : Vec Ideal S1x1024x1688 .f32)⟩]
      concatenates_S1x1024x1688_S1x1024x1688_S1x1024x1688_S1x1024x1688_S4x1024x1688_d0 : FVec Ideal S4x1024x1688 .f32) bitsLt_bf16_f32 : FVec Ideal S4x1024x1688 .bf16)
      transposes_S4x1024x1688_S1024x4x1688_1_0_2) shapeCasts_S1024x4x1688_S1024x6752 : FVec Ideal S1024x6752 .bf16) bitsLt_bf16_f32 : FVec Ideal S1024x6752 .f32)
      = fun i => Q (ix2 (i 0) (pos (i 1))) := by
  rw [quart_0, quart_1, quart_2, quart_3]
  exact stack_eq Q

end Cert.Kernel4Ideal.Win

end
-- ==== Proof.WinRun.lean ====
/-
  The input projection's run: what each of its eleven regions finds and leaves, boundary by boundary, and the four results at the
  end (`run_final`: any execution from a launch memory ends with the arguments as launched and the results at their values).
-/
module

public import proofs.«01_k».proof.Proof.WinRms
public import proofs.«01_k».proof.Proof.WinCols
public import proofs.«01_k».proof.Proof.Gen.Kernel4Ideal.Frame
public import Idealize.ShloMosaic.Lib.StableHlo.Run

@[expose] public section

set_option maxRecDepth 16384

noncomputable section

namespace Cert.Kernel4Ideal.Win

open Idealize.ShloMosaic Idealize.ShloMosaic.TcCoe Idealize.SL.Sem Idealize.ShloMosaic.Tactic
open Idealize.ShloMosaic.Pipeline (Dat)
open Cert.Kernel4Ideal Cert.Kernel4Ideal.Gen Cert.Mat
open Cert.Kernel2Ideal.Ffn (normArr dxArr dgAt oneRow oneRow_eq firstRow_eq)

/-! ## The values, over the launch arrays -/

section
variable (X : M 4096 1024) (g : Vec Ideal S1024 .f32) (W : M 1024 6752) (Z : M 4096 6752) (Y : M 4096 1024)

/-- The normalised rows; the projection over the laid-out columns; the rows' gradient; the weights' gradient over the laid-out columns. -/
abbrev hArr : M 4096 1024 := normArr X (oneRow g)
abbrev projArr : M 4096 6912 := fun i => nnAt (hArr X g) (put W) (i 0) (i 1)
abbrev dhArr : M 4096 1024 := fun i => ntAt Z W (i 0) (i 1)
abbrev dwArr : M 1024 6912 := fun i => tnAt (hArr X g) (put Z) (i 0) (i 1)
end

variable (m : (b : Loc nD τ sig) → Buf (Elt Ideal) b) (ρ : Dev nD → PrngReg) (c : Dev nD)

/-- The launch arrays. -/
abbrev aX : M 4096 1024 := m ((c : Thread nD τ).loc main_arg0)
abbrev aG : Vec Ideal S1024 .f32 := m ((c : Thread nD τ).loc main_arg1)
abbrev aW : M 1024 6752 := m ((c : Thread nD τ).loc main_arg2)
abbrev aZ : M 4096 6752 := m ((c : Thread nD τ).loc main_arg3)
abbrev aY : M 4096 1024 := m ((c : Thread nD τ).loc main_arg4)

/-! ## Before the first region -/

theorem v1_w : V1 m ρ c main_v10 = put (aW m c) := by
  refine Eq.trans ?_ (put_eq_w (aW m c))
  show StableHlo.after hostOps0 _ (Proc.devRef .tc main_v10) = _
  after_results
  rfl

theorem v1_g : V1 m ρ c main_v11 = oneRow (aG m c) := by
  refine Eq.trans ?_ (oneRow_eq (aG m c))
  show StableHlo.after hostOps0 _ (Proc.devRef .tc main_v11) = _
  after_results

/-! ## The forward regions -/

theorem v2_h : V2 m ρ c main_v12 = hArr (aX m c) (aG m c) := by
  have e0 : V1 m ρ c main_arg0 = aX m c := W1_args m ρ c main_arg0 (by decide)
  have e1 : V1 m ρ c main_v11 = oneRow (aG m c) := v1_g m ρ c
  refine (W2_arr m ρ c 2).trans ((final0 (V1 m ρ) c).trans ?_)
  rw [e0, e1]

theorem v3_z : V3 m ρ c main_v13 = projArr (aX m c) (aG m c) (aW m c) := by
  have e0 : V2 m ρ c main_v12 = hArr (aX m c) (aG m c) := v2_h m ρ c
  have e1 : V2 m ρ c main_v10 = put (aW m c) := (W2_of m ρ c main_v10 (by decide)).trans (v1_w m ρ c)
  refine (W3_arr m ρ c 2).trans ((final1 (V2 m ρ) c).trans ?_)
  rw [e0, e1]

/-! ## The columns of the rows' gradient, and the wide weights -/

theorem v4_s0 : V4 m ρ c main_v25 = colsOf 3072 0 (by decide) (put (aZ m c)) := by
  have e0 : W3 m ρ c (Proc.devRef .tc main_arg3) = aZ m c := W3_args m ρ c main_arg3 (by decide)
  rw [← e0]
  refine Eq.trans ?_ ((congrArg (fun D : Vec Ideal S4096x6912 .bf16 => (extractStridedSlice S4096x3072 ![0, 0] D slices_S4096x6912_S4096x3072_0_0 : Vec Ideal S4096x3072 .bf16)) (put_eq_z _)).trans (cols_eq_0 _))
  show StableHlo.after hostOps2 _ (Proc.devRef .tc main_v25) = _
  after_results
  rfl

theorem v4_s1 : V4 m ρ c main_v26 = colsOf 1536 3072 (by decide) (put (aZ m c)) := by
  have e0 : W3 m ρ c (Proc.devRef .tc main_arg3) = aZ m c := W3_args m ρ c main_arg3 (by decide)
  rw [← e0]
  refine Eq.trans ?_ ((congrArg (fun D : Vec Ideal S4096x6912 .bf16 => (extractStridedSlice S4096x1536 ![0, 3072] D slices_S4096x6912_S4096x1536_0_3072 : Vec Ideal S4096x1536 .bf16)) (put_eq_z _)).trans (cols_eq_3072 _))
  show StableHlo.after hostOps2 _ (Proc.devRef .tc main_v26) = _
  after_results
  rfl

theorem v4_s2 : V4 m ρ c main_v27 = colsOf 1536 4608 (by decide) (put (aZ m c)) := by
  have e0 : W3 m ρ c (Proc.devRef .tc main_arg3) = aZ m c := W3_args m ρ c main_arg3 (by decide)
  rw [← e0]
  refine Eq.trans ?_ ((congrArg (fun D : Vec Ideal S4096x6912 .bf16 => (extractStridedSlice S4096x1536 ![0, 4608] D slices_S4096x6912_S4096x1536_0_4608 : Vec Ideal S4096x1536 .bf16)) (put_eq_z _)).trans (cols_eq_4608 _))
  show StableHlo.after hostOps2 _ (Proc.devRef .tc main_v27) = _
  after_results
  rfl

theorem v4_s3 : V4 m ρ c main_v28 = colsOf 256 6144 (by decide) (put (aZ m c)) := by
  have e0 : W3 m ρ c (Proc.devRef .tc main_arg3) = aZ m c := W3_args m ρ c main_arg3 (by decide)
  rw [← e0]
  refine Eq.trans ?_ ((congrArg (fun D : Vec Ideal S4096x6912 .bf16 => (extractStridedSlice S4096x256 ![0, 6144] D slices_S4096x6912_S4096x256_0_6144 : Vec Ideal S4096x256 .bf16)) (put_eq_z _)).trans (cols_eq_6144 _))
  show StableHlo.after hostOps2 _ (Proc.devRef .tc main_v28) = _
  after_results
  rfl

theorem v4_s4 : V4 m ρ c main_v29 = colsOf 256 6400 (by decide) (put (aZ m c)) := by
  have e0 : W3 m ρ c (Proc.devRef .tc main_arg3) = aZ m c := W3_args m ρ c main_arg3 (by decide)
  rw [← e0]
  refine Eq.trans ?_ ((congrArg (fun D : Vec Ideal S4096x6912 .bf16 => (extractStridedSlice S4096x256 ![0, 6400] D slices_S4096x6912_S4096x256_0_6400 : Vec Ideal S4096x256 .bf16)) (put_eq_z _)).trans (cols_eq_6400 _))
  show StableHlo.after hostOps2 _ (Proc.devRef .tc main_v29) = _
  after_results
  rfl

theorem v4_s5 : V4 m ρ c main_v30 = colsOf 128 6656 (by decide) (put (aZ m c)) := by
  have e0 : W3 m ρ c (Proc.devRef .tc main_arg3) = aZ m c := W3_args m ρ c main_arg3 (by decide)
  rw [← e0]
  refine Eq.trans ?_ ((congrArg (fun D : Vec Ideal S4096x6912 .bf16 => (extractStridedSlice S4096x128 ![0, 6656] D slices_S4096x6912_S4096x128_0_6656 : Vec Ideal S4096x128 .bf16)) (put_eq_z _)).trans (cols_eq_6656 _))
  show StableHlo.after hostOps2 _ (Proc.devRef .tc main_v30) = _
  after_results
  rfl

theorem v4_s6 : V4 m ρ c main_v31 = colsOf 128 6784 (by decide) (put (aZ m c)) := by
  have e0 : W3 m ρ c (Proc.devRef .tc main_arg3) = aZ m c := W3_args m ρ c main_arg3 (by decide)
  rw [← e0]
  refine Eq.trans ?_ ((congrArg (fun D : Vec Ideal S4096x6912 .bf16 => (extractStridedSlice S4096x128 ![0, 6784] D slices_S4096x6912_S4096x128_0_6784 : Vec Ideal S4096x128 .bf16)) (put_eq_z _)).trans (cols_eq_6784 _))
  show StableHlo.after hostOps2 _ (Proc.devRef .tc main_v31) = _
  after_results
  rfl

theorem v4_wide : V4 m ρ c main_v33 = wide (put (aW m c)) := by
  have e0 : W3 m ρ c (Proc.devRef .tc main_v10) = put (aW m c) := ((W3_of m ρ c main_v10 (by decide)).trans (W2_of m ρ c main_v10 (by decide))).trans (v1_w m ρ c)
  rw [← e0]
  show StableHlo.after hostOps2 _ (Proc.devRef .tc main_v33) = _
  after_results
  rfl

/-! ## The backward regions -/

theorem v5_dh : V5 m ρ c main_v34 = dhArr (aW m c) (aZ m c) := by
  have e0 : V4 m ρ c main_v25 = colsOf 3072 0 (by decide) (put (aZ m c)) := v4_s0 m ρ c
  have e1 : V4 m ρ c main_v26 = colsOf 1536 3072 (by decide) (put (aZ m c)) := v4_s1 m ρ c
  have e2 : V4 m ρ c main_v27 = colsOf 1536 4608 (by decide) (put (aZ m c)) := v4_s2 m ρ c
  have e3 : V4 m ρ c main_v28 = colsOf 256 6144 (by decide) (put (aZ m c)) := v4_s3 m ρ c
  have e4 : V4 m ρ c main_v29 = colsOf 256 6400 (by decide) (put (aZ m c)) := v4_s4 m ρ c
  have e5 : V4 m ρ c main_v30 = colsOf 128 6656 (by decide) (put (aZ m c)) := v4_s5 m ρ c
  have e6 : V4 m ρ c main_v31 = colsOf 128 6784 (by decide) (put (aZ m c)) := v4_s6 m ρ c
  have e7 : V4 m ρ c main_v33 = wide (put (aW m c)) := v4_wide m ρ c
  refine (W5_arr m ρ c 14).trans ((final2 (V4 m ρ) c).trans ?_)
  rw [e0, e1, e2, e3, e4, e5, e6, e7]
  funext i
  exact (seven_eq (put (aZ m c)) (put (aW m c)) (i 0) (i 1)).trans (sum_put (aZ m c) (aW m c) (i 0) (i 1))

theorem v6_dw : V6 m ρ c main_v35 = colsOf 3072 0 (by decide) (dwArr (aX m c) (aG m c) (aZ m c)) := by
  have e0 : V5 m ρ c main_v12 = hArr (aX m c) (aG m c) := ((W5_of m ρ c main_v12 (by decide)).trans ((W4_of m ρ c main_v12 (by decide)).trans (W3_of m ρ c main_v12 (by decide)))).trans (v2_h m ρ c)
  have e1 : V5 m ρ c main_v25 = colsOf 3072 0 (by decide) (put (aZ m c)) := (W5_of m ρ c main_v25 (by decide)).trans (v4_s0 m ρ c)
  refine (W6_arr m ρ c 2).trans ((final3 (V5 m ρ) c).trans ?_)
  rw [e0, e1]
  rfl

theorem v7_dw : V7 m ρ c main_v36 = colsOf 1536 3072 (by decide) (dwArr (aX m c) (aG m c) (aZ m c)) := by
  have e0 : V6 m ρ c main_v12 = hArr (aX m c) (aG m c) := ((W6_of m ρ c main_v12 (by decide)).trans ((W5_of m ρ c main_v12 (by decide)).trans ((W4_of m ρ c main_v12 (by decide)).trans (W3_of m ρ c main_v12 (by decide))))).trans (v2_h m ρ c)
  have e1 : V6 m ρ c main_v26 = colsOf 1536 3072 (by decide) (put (aZ m c)) := ((W6_of m ρ c main_v26 (by decide)).trans (W5_of m ρ c main_v26 (by decide))).trans (v4_s1 m ρ c)
  refine (W7_arr m ρ c 2).trans ((final4 (V6 m ρ) c).trans ?_)
  rw [e0, e1]
  rfl

theorem v8_dw : V8 m ρ c main_v37 = colsOf 1536 4608 (by decide) (dwArr (aX m c) (aG m c) (aZ m c)) := by
  have e0 : V7 m ρ c main_v12 = hArr (aX m c) (aG m c) := ((W7_of m ρ c main_v12 (by decide)).trans ((W6_of m ρ c main_v12 (by decide)).trans ((W5_of m ρ c main_v12 (by decide)).trans ((W4_of m ρ c main_v12 (by decide)).trans (W3_of m ρ c main_v12 (by decide)))))).trans (v2_h m ρ c)
  have e1 : V7 m ρ c main_v27 = colsOf 1536 4608 (by decide) (put (aZ m c)) := ((W7_of m ρ c main_v27 (by decide)).trans ((W6_of m ρ c main_v27 (by decide)).trans (W5_of m ρ c main_v27 (by decide)))).trans (v4_s2 m ρ c)
  refine (W8_arr m ρ c 2).trans ((final5 (V7 m ρ) c).trans ?_)
  rw [e0, e1]
  rfl

theorem v9_dw : V9 m ρ c main_v38 = colsOf 256 6144 (by decide) (dwArr (aX m c) (aG m c) (aZ m c)) := by
  have e0 : V8 m ρ c main_v12 = hArr (aX m c) (aG m c) := ((W8_of m ρ c main_v12 (by decide)).trans ((W7_of m ρ c main_v12 (by decide)).trans ((W6_of m ρ c main_v12 (by decide)).trans ((W5_of m ρ c main_v12 (by decide)).trans ((W4_of m ρ c main_v12 (by decide)).trans (W3_of m ρ c main_v12 (by decide))))))).trans (v2_h m ρ c)
  have e1 : V8 m ρ c main_v28 = colsOf 256 6144 (by decide) (put (aZ m c)) := ((W8_of m ρ c main_v28 (by decide)).trans ((W7_of m ρ c main_v28 (by decide)).trans ((W6_of m ρ c main_v28 (by decide)).trans (W5_of m ρ c main_v28 (by decide))))).trans (v4_s3 m ρ c)
  refine (W9_arr m ρ c 2).trans ((final6 (V8 m ρ) c).trans ?_)
  rw [e0, e1]
  rfl

theorem v10_dw : V10 m ρ c main_v39 = colsOf 256 6400 (by decide) (dwArr (aX m c) (aG m c) (aZ m c)) := by
  have e0 : V9 m ρ c main_v12 = hArr (aX m c) (aG m c) := ((W9_of m ρ c main_v12 (by decide)).trans ((W8_of m ρ c main_v12 (by decide)).trans ((W7_of m ρ c main_v12 (by decide)).trans ((W6_of m ρ c main_v12 (by decide)).trans ((W5_of m ρ c main_v12 (by decide)).trans ((W4_of m ρ c main_v12 (by decide)).trans (W3_of m ρ c main_v12 (by decide)))))))).trans (v2_h m ρ c)
  have e1 : V9 m ρ c main_v29 = colsOf 256 6400 (by decide) (put (aZ m c)) := ((W9_of m ρ c main_v29 (by decide)).trans ((W8_of m ρ c main_v29 (by decide)).trans ((W7_of m ρ c main_v29 (by decide)).trans ((W6_of m ρ c main_v29 (by decide)).trans (W5_of m ρ c main_v29 (by decide)))))).trans (v4_s4 m ρ c)
  refine (W10_arr m ρ c 2).trans ((final7 (V9 m ρ) c).trans ?_)
  rw [e0, e1]
  rfl

theorem v11_dw : V11 m ρ c main_v40 = colsOf 128 6656 (by decide) (dwArr (aX m c) (aG m c) (aZ m c)) := by
  have e0 : V10 m ρ c main_v12 = hArr (aX m c) (aG m c) := ((W10_of m ρ c main_v12 (by decide)).trans ((W9_of m ρ c main_v12 (by decide)).trans ((W8_of m ρ c main_v12 (by decide)).trans ((W7_of m ρ c main_v12 (by decide)).trans ((W6_of m ρ c main_v12 (by decide)).trans ((W5_of m ρ c main_v12 (by decide)).trans ((W4_of m ρ c main_v12 (by decide)).trans (W3_of m ρ c main_v12 (by decide))))))))).trans (v2_h m ρ c)
  have e1 : V10 m ρ c main_v30 = colsOf 128 6656 (by decide) (put (aZ m c)) := ((W10_of m ρ c main_v30 (by decide)).trans ((W9_of m ρ c main_v30 (by decide)).trans ((W8_of m ρ c main_v30 (by decide)).trans ((W7_of m ρ c main_v30 (by decide)).trans ((W6_of m ρ c main_v30 (by decide)).trans (W5_of m ρ c main_v30 (by decide))))))).trans (v4_s5 m ρ c)
  refine (W11_arr m ρ c 2).trans ((final8 (V10 m ρ) c).trans ?_)
  rw [e0, e1]
  rfl

theorem v12_dw : V12 m ρ c main_v41 = colsOf 128 6784 (by decide) (dwArr (aX m c) (aG m c) (aZ m c)) := by
  have e0 : V11 m ρ c main_v12 = hArr (aX m c) (aG m c) := ((W11_of m ρ c main_v12 (by decide)).trans ((W10_of m ρ c main_v12 (by decide)).trans ((W9_of m ρ c main_v12 (by decide)).trans ((W8_of m ρ c main_v12 (by decide)).trans ((W7_of m ρ c main_v12 (by decide)).trans ((W6_of m ρ c main_v12 (by decide)).trans ((W5_of m ρ c main_v12 (by decide)).trans ((W4_of m ρ c main_v12 (by decide)).trans (W3_of m ρ c main_v12 (by decide)))))))))).trans (v2_h m ρ c)
  have e1 : V11 m ρ c main_v31 = colsOf 128 6784 (by decide) (put (aZ m c)) := ((W11_of m ρ c main_v31 (by decide)).trans ((W10_of m ρ c main_v31 (by decide)).trans ((W9_of m ρ c main_v31 (by decide)).trans ((W8_of m ρ c main_v31 (by decide)).trans ((W7_of m ρ c main_v31 (by decide)).trans ((W6_of m ρ c main_v31 (by decide)).trans (W5_of m ρ c main_v31 (by decide)))))))).trans (v4_s6 m ρ c)
  refine (W12_arr m ρ c 2).trans ((final9 (V11 m ρ) c).trans ?_)
  rw [e0, e1]
  rfl

theorem v13_g : V13 m ρ c main_v42 = oneRow (aG m c) := by
  have e0 : W12 m ρ c (Proc.devRef .tc main_arg1) = aG m c := W12_args m ρ c main_arg1 (by decide)
  rw [← e0]
  refine Eq.trans ?_ (oneRow_eq _)
  show StableHlo.after hostOps10 _ (Proc.devRef .tc main_v42) = _
  after_results

theorem v14_dx : V14 m ρ c main_v43_0 = dxArr (aX m c) (oneRow (aG m c)) (dhArr (aW m c) (aZ m c)) (aY m c) := by
  have e0 : V13 m ρ c main_arg0 = aX m c := W13_args m ρ c main_arg0 (by decide)
  have e1 : V13 m ρ c main_v42 = oneRow (aG m c) := v13_g m ρ c
  have e2 : V13 m ρ c main_v34 = dhArr (aW m c) (aZ m c) := ((W13_of m ρ c main_v34 (by decide)).trans ((W12_of m ρ c main_v34 (by decide)).trans ((W11_of m ρ c main_v34 (by decide)).trans ((W10_of m ρ c main_v34 (by decide)).trans ((W9_of m ρ c main_v34 (by decide)).trans ((W8_of m ρ c main_v34 (by decide)).trans ((W7_of m ρ c main_v34 (by decide)).trans (W6_of m ρ c main_v34 (by decide))))))))).trans (v5_dh m ρ c)
  have e3 : V13 m ρ c main_arg4 = aY m c := W13_args m ρ c main_arg4 (by decide)
  refine (W14_arr m ρ c 4).trans ((final10_4 (V13 m ρ) c).trans ?_)
  rw [e0, e1, e2, e3]

theorem v14_dg (d : Fin 1024) : (V14 m ρ c main_v43_1 : Vec Ideal S8x1024 .f32) (ix2 0 d) = dgAt (aX m c) (dhArr (aW m c) (aZ m c)) d := by
  have e0 : V13 m ρ c main_arg0 = aX m c := W13_args m ρ c main_arg0 (by decide)
  have e1 : V13 m ρ c main_v34 = dhArr (aW m c) (aZ m c) := ((W13_of m ρ c main_v34 (by decide)).trans ((W12_of m ρ c main_v34 (by decide)).trans ((W11_of m ρ c main_v34 (by decide)).trans ((W10_of m ρ c main_v34 (by decide)).trans ((W9_of m ρ c main_v34 (by decide)).trans ((W8_of m ρ c main_v34 (by decide)).trans ((W7_of m ρ c main_v34 (by decide)).trans (W6_of m ρ c main_v34 (by decide))))))))).trans (v5_dh m ρ c)
  refine (congrFun (W14_arr m ρ c 5) (ix2 0 d)).trans ((final10_5 (V13 m ρ) c d).trans ?_)
  rw [e0, e1]

/-! ## The results -/

abbrev resZ : M 4096 6752 := fun i => projArr (aX m c) (aG m c) (aW m c) (ix2 (i 0) (pos (i 1)))
abbrev resX := dxArr (aX m c) (oneRow (aG m c)) (dhArr (aW m c) (aZ m c)) (aY m c)
abbrev resG : Vec Ideal S1024 .f32 := fun i => dgAt (aX m c) (dhArr (aW m c) (aZ m c)) (i 0)
abbrev resW : M 1024 6752 := fun i => dwArr (aX m c) (aG m c) (aZ m c) (ix2 (i 0) (pos (i 1)))

theorem w15_z : W15 m ρ c (Proc.devRef .tc main_v71) = resZ m c := by
  have e : W14 m ρ c (Proc.devRef .tc main_v13) = projArr (aX m c) (aG m c) (aW m c) := ((W14_of m ρ c main_v13 (by decide)).trans ((W13_of m ρ c main_v13 (by decide)).trans ((W12_of m ρ c main_v13 (by decide)).trans ((W11_of m ρ c main_v13 (by decide)).trans ((W10_of m ρ c main_v13 (by decide)).trans ((W9_of m ρ c main_v13 (by decide)).trans ((W8_of m ρ c main_v13 (by decide)).trans ((W7_of m ρ c main_v13 (by decide)).trans ((W6_of m ρ c main_v13 (by decide)).trans ((W5_of m ρ c main_v13 (by decide)).trans (W4_of m ρ c main_v13 (by decide)))))))))))).trans (v3_z m ρ c)
  refine Eq.trans ?_ (back_z (projArr (aX m c) (aG m c) (aW m c)))
  rw [← e]
  show StableHlo.after hostOps11 _ (Proc.devRef .tc main_v71) = _
  after_results
  rfl
theorem w15_x : W15 m ρ c (Proc.devRef .tc main_v43_0) = resX m c :=
  (W15_of m ρ c main_v43_0 (by decide)).trans (v14_dx m ρ c)
theorem w15_g : W15 m ρ c (Proc.devRef .tc main_v73) = resG m c := by
  have e : W15 m ρ c (Proc.devRef .tc main_v73)
      = shapeCast S1024 (extractStridedSlice S1x1024 ![0, 0] (V14 m ρ c main_v43_1 : Vec Ideal S8x1024 .f32) slices_S8x1024_S1x1024_0_0) shapeCasts_S1x1024_S1024 := by
    show StableHlo.after hostOps11 _ (Proc.devRef .tc main_v73) = _
    after_results
    rfl
  rw [e]
  funext i
  obtain ⟨d, rfl⟩ : ∃ d, i = ValueIdx.ix1 d := ⟨i 0, funext fun a => by fin_cases a; rfl⟩
  exact (firstRow_eq _ d).trans (v14_dg m ρ c d)
theorem w15_w : W15 m ρ c (Proc.devRef .tc main_v64) = resW m c := by
  have e0 : W14 m ρ c (Proc.devRef .tc main_v35) = colsOf 3072 0 (by decide) (dwArr (aX m c) (aG m c) (aZ m c)) := ((W14_of m ρ c main_v35 (by decide)).trans ((W13_of m ρ c main_v35 (by decide)).trans ((W12_of m ρ c main_v35 (by decide)).trans ((W11_of m ρ c main_v35 (by decide)).trans ((W10_of m ρ c main_v35 (by decide)).trans ((W9_of m ρ c main_v35 (by decide)).trans ((W8_of m ρ c main_v35 (by decide)).trans (W7_of m ρ c main_v35 (by decide))))))))).trans (v6_dw m ρ c)
  have e1 : W14 m ρ c (Proc.devRef .tc main_v36) = colsOf 1536 3072 (by decide) (dwArr (aX m c) (aG m c) (aZ m c)) := ((W14_of m ρ c main_v36 (by decide)).trans ((W13_of m ρ c main_v36 (by decide)).trans ((W12_of m ρ c main_v36 (by decide)).trans ((W11_of m ρ c main_v36 (by decide)).trans ((W10_of m ρ c main_v36 (by decide)).trans ((W9_of m ρ c main_v36 (by decide)).trans (W8_of m ρ c main_v36 (by decide)))))))).trans (v7_dw m ρ c)
  have e2 : W14 m ρ c (Proc.devRef .tc main_v37) = colsOf 1536 4608 (by decide) (dwArr (aX m c) (aG m c) (aZ m c)) := ((W14_of m ρ c main_v37 (by decide)).trans ((W13_of m ρ c main_v37 (by decide)).trans ((W12_of m ρ c main_v37 (by decide)).trans ((W11_of m ρ c main_v37 (by decide)).trans ((W10_of m ρ c main_v37 (by decide)).trans (W9_of m ρ c main_v37 (by decide))))))).trans (v8_dw m ρ c)
  have e3 : W14 m ρ c (Proc.devRef .tc main_v38) = colsOf 256 6144 (by decide) (dwArr (aX m c) (aG m c) (aZ m c)) := ((W14_of m ρ c main_v38 (by decide)).trans ((W13_of m ρ c main_v38 (by decide)).trans ((W12_of m ρ c main_v38 (by decide)).trans ((W11_of m ρ c main_v38 (by decide)).trans (W10_of m ρ c main_v38 (by decide)))))).trans (v9_dw m ρ c)
  have e4 : W14 m ρ c (Proc.devRef .tc main_v39) = colsOf 256 6400 (by decide) (dwArr (aX m c) (aG m c) (aZ m c)) := ((W14_of m ρ c main_v39 (by decide)).trans ((W13_of m ρ c main_v39 (by decide)).trans ((W12_of m ρ c main_v39 (by decide)).trans (W11_of m ρ c main_v39 (by decide))))).trans (v10_dw m ρ c)
  have e5 : W14 m ρ c (Proc.devRef .tc main_v40) = colsOf 128 6656 (by decide) (dwArr (aX m c) (aG m c) (aZ m c)) := ((W14_of m ρ c main_v40 (by decide)).trans ((W13_of m ρ c main_v40 (by decide)).trans (W12_of m ρ c main_v40 (by decide)))).trans (v11_dw m ρ c)
  have e6 : W14 m ρ c (Proc.devRef .tc main_v41) = colsOf 128 6784 (by decide) (dwArr (aX m c) (aG m c) (aZ m c)) := ((W14_of m ρ c main_v41 (by decide)).trans (W13_of m ρ c main_v41 (by decide))).trans (v12_dw m ρ c)
  refine Eq.trans ?_ (back_w (dwArr (aX m c) (aG m c) (aZ m c)))
  rw [← e0, ← e1, ← e2, ← e3, ← e4, ← e5, ← e6]
  show StableHlo.after hostOps11 (W14 m ρ c) (Proc.devRef .tc main_v64) = _
  generalize W14 m ρ c = V
  after_results
  rfl

end Cert.Kernel4Ideal.Win

namespace Cert.Kernel4Ideal.Gen

open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe Idealize.ShloMosaic.Tactic
open Idealize.ShloMosaic.Rounds
open Idealize.ShloMosaic.Pipeline (Dat Cfg Window BodyObligation cellOf)
open Cert.Kernel4Ideal.Win

local notation "𝕄" => MT nD τ sig Unit (Elt Ideal) ℕ (UR sig nD τ) ℕ

variable (m : (b : Loc nD τ sig) → Buf (Elt Ideal) b) (ρ : Dev nD → PrngReg)

set_option backward.isDefEq.respectTransparency.types false in
/-- The run: the arguments end as launched, the results at their values. -/
theorem run_final : θ_run defs (onTc (τ := τ) (main (F := Ideal))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v71) = resZ m c
      ∧ r.2.mem ((c.tc : Thread nD τ).loc main_v43_0) = resX m c
      ∧ r.2.mem ((c.tc : Thread nD τ).loc main_v73) = resG m c
      ∧ r.2.mem ((c.tc : Thread nD τ).loc main_v64) = resW m c) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz c => ⟨⟨(h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c)⟩,
       (h c _ (mem_uc main_v71 (by decide))).trans (w15_z m ρ c),
       (h c _ (mem_uc main_v43_0 (by decide))).trans (w15_x m ρ c),
       (h c _ (mem_uc main_v73 (by decide))).trans (w15_g m ρ c),
       (h c _ (mem_uc main_v64 (by decide))).trans (w15_w m ρ c)⟩)

end Cert.Kernel4Ideal.Gen

end
-- ==== Proof.WinMeet.lean ====
/-
  The input projection's reference, read out of its program value by value, and what the kernel's results say at the same element:
  the same sums of products, of the same normalised rows; the gradient through the normalisation meets by `dx_eq` (`meet_z`, `meet_x`, `meet_g`, `meet_w`).
-/
module

public import proofs.«01_k».proof.Proof.FfnMeet
public import proofs.«01_k».proof.Proof.WinRun
public import proofs.«01_k».proof.Proof.Gen.Reference4Ideal.Read

@[expose] public section

set_option maxRecDepth 16384

noncomputable section

namespace Cert.Reference4Ideal.Win

open Idealize.ShloMosaic Idealize.ShloMosaic.TcCoe Idealize.SL.Sem
open Cert.Reference4Ideal Cert.Reference4Ideal.Gen Cert.Reference4Ideal.Read Cert.Mat
open Cert.Kernel2Ideal.Ffn (rms meanSq width minusHalf through dgAt dxArr dx_eq)
open Cert.Reference2Ideal.Ffn (row H ofBits_zero)
open Cert.Kernel4Ideal.Win (hArr projArr dhArr dwArr put put_pos pos)

variable (X Y : Vec Ideal S4096x1024 .f32) (g : Vec Ideal S1024 .f32) (W : Vec Ideal S1024x6752 .f32) (Z : Vec Ideal S4096x6752 .f32)

/-- The gradient of the normalised rows. -/
abbrev dH (s : Fin 4096) (d : Fin 1024) : EReal := ntAt Z W s d

/-! ## The reference -/

theorem v6_eq (s : Fin 4096) : val_main_v6 (F := Ideal) X (ix2 s 0) = meanSq (row X s) := by
  rw [val_main_v6_apply, val_main_v4_apply, val_main_v2_apply, val_main_v1_apply, val_main_v3_apply, val_main_v5_apply]
  show Ideal.div (Ideal.ofBits .f32 0x00000000#32 + _) width + _ = _
  rw [ofBits_zero, zero_add]
  refine congrArg (fun S : EReal => Ideal.div S width + Ideal.ofBits .f32 0x358637BD#32) (Finset.sum_congr rfl fun k _ => ?_)
  exact congrArg (fun i => X i * X i) (funext fun a => Fin.ext (by match a with | ⟨0, _⟩ => rfl | ⟨1, _⟩ => rfl))

theorem v7_eq (s : Fin 4096) : val_main_v7 (F := Ideal) X (ix2 s 0) = rms (row X s) := by
  rw [val_main_v7_apply, v6_eq]
  rfl

theorem v12_eq (s : Fin 4096) (d : Fin 1024) : val_main_v12 (F := Ideal) X (ix2 s d) = X (ix2 s d) * rms (row X s) := by
  rw [val_main_v12_apply, val_main_v11_apply, ← v7_eq]
  exact congrArg (fun i => X (ix2 s d) * val_main_v7 (F := Ideal) X i) (funext fun a => Fin.ext (by match a with | ⟨0, _⟩ => rfl | ⟨1, _⟩ => rfl))

theorem v14_eq (s : Fin 4096) (d : Fin 1024) : val_main_v14 (F := Ideal) g (ix2 s d) = g (ValueIdx.ix1 d) := by
  rw [val_main_v14_apply, val_main_v13_apply]
  exact congrArg g (funext fun a => Fin.ext (by match a with | ⟨0, _⟩ => rfl))

theorem v15_eq (s : Fin 4096) (d : Fin 1024) : val_main_v15 (F := Ideal) X g (ix2 s d) = H X g s d := by
  rw [val_main_v15_apply, v12_eq, v14_eq]
  rfl

theorem z_eq (s : Fin 4096) (f : Fin 6752) : val_main_v16 (F := Ideal) X g W (ix2 s f) = ∑ d, H X g s d * W (ix2 d f) := by
  rw [val_main_v16_apply]
  refine Finset.sum_congr rfl fun k _ => ?_
  exact congrArg₂ (fun a b : EReal => a * b) (Eq.trans (congrArg _ (funext fun a => Fin.ext (by match a with | ⟨0, _⟩ => rfl | ⟨1, _⟩ => rfl))) (v15_eq X g s k)) (congrArg _ (funext fun a => Fin.ext (by match a with | ⟨0, _⟩ => rfl | ⟨1, _⟩ => rfl)))

theorem v19_eq (s : Fin 4096) (d : Fin 1024) : val_main_v19 (F := Ideal) W Z (ix2 s d) = dH W Z s d := by
  rw [val_main_v19_apply]
  refine Finset.sum_congr rfl fun k _ => ?_
  exact congrArg₂ (fun a b : EReal => a * b) (congrArg _ (funext fun a => Fin.ext (by match a with | ⟨0, _⟩ => rfl | ⟨1, _⟩ => rfl))) (congrArg _ (funext fun a => Fin.ext (by match a with | ⟨0, _⟩ => rfl | ⟨1, _⟩ => rfl)))

theorem w_eq (d : Fin 1024) (f : Fin 6752) : val_main_v18 (F := Ideal) X g Z (ix2 d f) = ∑ s, Z (ix2 s f) * H X g s d := by
  rw [val_main_v18_apply, val_main_v17_apply]
  refine Finset.sum_congr rfl fun k _ => ?_
  exact congrArg₂ (fun a b : EReal => a * b) (congrArg _ (funext fun a => Fin.ext (by match a with | ⟨0, _⟩ => rfl | ⟨1, _⟩ => rfl))) (Eq.trans (congrArg _ (funext fun a => Fin.ext (by match a with | ⟨0, _⟩ => rfl | ⟨1, _⟩ => rfl))) (v15_eq X g k d))

theorem g_eq (d : Fin 1024) : val_main_v25 (F := Ideal) X W Z (ValueIdx.ix1 d)
    = ∑ s, X (ix2 s d) * rms (row X s) * dH W Z s d := by
  rw [val_main_v25_apply, Fin.sum_univ_one, val_main_v22_apply, val_main_v21_apply]
  show Ideal.ofBits .f32 0x00000000#32 + (Ideal.ofBits .f32 0x00000000#32 + _) = _
  rw [ofBits_zero, zero_add, zero_add]
  refine Finset.sum_congr rfl fun k _ => ?_
  rw [show idx_main_v21 (idx_main_v22 (idx_main_v25 (ValueIdx.ix1 d) 0)) k = ix2 k d from (funext fun a => Fin.ext (by
      have := d.isLt
      match a with | ⟨0, _⟩ => rfl | ⟨1, _⟩ => show 0 * 1024 + d.val = d.val; omega)),
    val_main_v20_apply, v12_eq, v19_eq]
  rfl

theorem v24_eq (s : Fin 4096) (d : Fin 1024) : val_main_v24 (F := Ideal) g W Z (ix2 s d)
    = dH W Z s d * g (ValueIdx.ix1 d) := by
  rw [val_main_v24_apply, v19_eq, val_main_v23_apply, val_main_v13_apply]
  exact congrArg (fun i => dH W Z s d * g i) (funext fun a => Fin.ext (by match a with | ⟨0, _⟩ => rfl))

theorem v36_eq (s : Fin 4096) (d : Fin 1024) : val_main_v36 (F := Ideal) X g W Z (ix2 s d)
    = through (row X s) (fun e => dH W Z s e * g (ValueIdx.ix1 e)) := by
  rw [val_main_v36_apply, val_main_v35_apply, Fin.sum_univ_one,
    show idx_main_v35 (idx_main_v36 (ix2 s d)) 0 = ix2 s 0 from (funext fun a => Fin.ext (by match a with | ⟨0, _⟩ => rfl | ⟨1, _⟩ => rfl)),
    val_main_v34_apply, val_main_v32_apply, val_main_v33_apply, val_main_v28_apply, val_main_v27_apply, val_main_v10_apply, val_main_v8_apply,
    v7_eq, v6_eq, val_main_v9_apply]
  show Ideal.ofBits .f32 0x00000000#32 + Ideal.div ((Ideal.ofBits .f32 0x00000000#32 + _) * (minusHalf * Ideal.div _ _)) width = _
  rw [ofBits_zero, zero_add, zero_add]
  unfold through
  refine congrArg (fun S : EReal => Ideal.div (S * (minusHalf * Ideal.div (rms (row X s)) (meanSq (row X s)))) width) (Finset.sum_congr rfl fun k _ => ?_)
  rw [show idx_main_v27 (idx_main_v28 (ix2 s 0)) k = ix2 s k from (funext fun a => Fin.ext (by
      have := s.isLt
      match a with | ⟨0, _⟩ => show s.val * 1 + 0 = s.val; omega | ⟨1, _⟩ => rfl)),
    val_main_v26_apply, v24_eq]
  rfl

theorem x_eq (s : Fin 4096) (d : Fin 1024) : val_main_v40 (F := Ideal) X g W Z Y (ix2 s d)
    = Y (ix2 s d) + dH W Z s d * g (ValueIdx.ix1 d) * rms (row X s)
      + X (ix2 s d) * through (row X s) (fun e => dH W Z s e * g (ValueIdx.ix1 e))
      + through (row X s) (fun e => dH W Z s e * g (ValueIdx.ix1 e)) * X (ix2 s d) := by
  rw [val_main_v40_apply, val_main_v39_apply, val_main_v38_apply, val_main_v37_apply, val_main_v31_apply, val_main_v30_apply, v24_eq, v36_eq,
    val_main_v29_apply, show idx_main_v29 (ix2 s d) = ix2 s 0 from (funext fun a => Fin.ext (by match a with | ⟨0, _⟩ => rfl | ⟨1, _⟩ => rfl)), v7_eq]
  rfl

/-! ## The kernel -/

theorem meet_z : (fun i => projArr X g W (ix2 (i 0) (pos (i 1))) : M 4096 6752) = val_main_v16 (F := Ideal) X g W := by
  funext i
  obtain ⟨s, f, rfl⟩ : ∃ s f, i = ix2 s f := ⟨_, _, eq_ix2 i⟩
  refine Eq.trans ?_ (z_eq X g W s f).symm
  show nnAt (hArr X g) (put W) s (pos f) = _
  refine Finset.sum_congr rfl fun k _ => ?_
  rw [put_pos]
  rfl

theorem meet_g : (fun i => dgAt X (dhArr W Z) (i 0) : Vec Ideal S1024 .f32) = val_main_v25 (F := Ideal) X W Z := by
  funext i
  obtain ⟨d, rfl⟩ : ∃ d, i = ValueIdx.ix1 d := ⟨i 0, funext fun a => by fin_cases a; rfl⟩
  refine Eq.trans ?_ (g_eq X W Z d).symm
  show dgAt X (dhArr W Z) d = _
  unfold dgAt
  exact Finset.sum_congr rfl fun s _ => mul_comm _ _

theorem meet_w : (fun i => dwArr X g Z (ix2 (i 0) (pos (i 1))) : M 1024 6752) = val_main_v18 (F := Ideal) X g Z := by
  funext i
  obtain ⟨d, f, rfl⟩ : ∃ d f, i = ix2 d f := ⟨_, _, eq_ix2 i⟩
  refine Eq.trans ?_ (w_eq X g Z d f).symm
  show tnAt (hArr X g) (put Z) d (pos f) = _
  refine Finset.sum_congr rfl fun k _ => ?_
  rw [put_pos]
  exact mul_comm _ _

theorem meet_x : dxArr X (Cert.Kernel2Ideal.Ffn.oneRow g) (dhArr W Z) Y = val_main_v40 (F := Ideal) X g W Z Y := by
  funext i
  obtain ⟨s, d, rfl⟩ : ∃ s d, i = ix2 s d := ⟨_, _, eq_ix2 i⟩
  exact (dx_eq (row X s) (fun e => dH W Z s e * g (ValueIdx.ix1 e)) d (Y (ix2 s d))).trans (x_eq X Y g W Z s d).symm

end Cert.Reference4Ideal.Win

end
-- ==== Proof.WinClaim.lean ====
/-
  The input projection: the reference's frame, and the equality of kernel and reference over the extended reals.
-/
module

public import proofs.«01_k».proof.Defs
public import proofs.«01_k».proof.Proof.WinMeet
public import proofs.«01_k».proof.Proof.Gen.Reference4Ideal.Run
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

theorem win_frame_ri : Cert.quiescent_Reference4Ideal := fun m ρ _ =>
  (θ_run Cert.Reference4Ideal.defs _ _).mono (fun r h => ⟨fun c => (h c).2.2.2.2,
      Idealize.ShloMosaic.sem_eq_zero_of_no_sems (by decide) r.2⟩)
    (Cert.Reference4Ideal.Value.run (F := Ideal) m ρ)

theorem win_algebraic : Cert.algebraic_Kernel4Ideal_Reference4Ideal := by
  intro m ρ m' ρ' hpre hagree
  refine ⟨fun c => Cert.Kernel4Ideal.Win.resZ m c, fun c => Cert.Kernel4Ideal.Win.resX m c, fun c => Cert.Kernel4Ideal.Win.resG m c, fun c => Cert.Kernel4Ideal.Win.resW m c,
    (θ_run Cert.Kernel4Ideal.defs _ _).mono (fun r h c => by
      obtain ⟨kept, h0, h1, h2, h3⟩ := h c
      exact ⟨h0, h1, h2, h3, kept⟩) (Cert.Kernel4Ideal.Gen.run_final m ρ), ?_⟩
  refine (θ_run Cert.Reference4Ideal.defs _ _).mono (fun _ h c => ?_) (Cert.Reference4Ideal.Value.run (F := Ideal) m' ρ')
  obtain ⟨h0, h1, h2, h3, hkept⟩ := h c
  obtain ⟨a0, a1, a2, a3, a4⟩ := hagree c
  refine ⟨h0.trans ((Cert.Reference4Ideal.Read.val_main_v16_eq _ _ _).trans ?_),
    h1.trans ((Cert.Reference4Ideal.Read.val_main_v40_eq m' c).trans ?_),
    h2.trans ((Cert.Reference4Ideal.Read.val_main_v25_eq _ _ _).trans ?_),
    h3.trans ((Cert.Reference4Ideal.Read.val_main_v18_eq _ _ _).trans ?_), hkept⟩
  · rw [a0, a1, a2]; exact (Cert.Reference4Ideal.Win.meet_z _ _ _).symm
  · rw [a0, a1, a2, a3, a4]; exact (Cert.Reference4Ideal.Win.meet_x _ _ _ _ _).symm
  · rw [a0, a2, a3]; exact (Cert.Reference4Ideal.Win.meet_g _ _ _).symm
  · rw [a0, a1, a3]; exact (Cert.Reference4Ideal.Win.meet_w _ _ _).symm

end Cert.Proof

end
-- ==== Proof.AttnRun.lean ====
/-
  The attention's result as the kernel computes it (`Ideal`): a point's block, row by row, is the weighted sum of the values
  times the reciprocal of the weights' sum (`out_eq`); the blocks written back cover the result array (`final3`); and the
  host's cast after the call leaves it (`run_value`). The scores, weights and index lemmas are those of the attention's gradient.
-/
module

public import proofs.«01_k».proof.Proof.KernelValue
public import proofs.«01_k».proof.Proof.Meet
public import proofs.«01_k».proof.Proof.Gen.Kernel5Ideal.Frame
public import Idealize.ShloMosaic.Lib.StableHlo.Run

@[expose] public section

set_option maxRecDepth 16384

noncomputable section

namespace Cert.Kernel5Ideal.Attn

open Idealize.ShloMosaic Idealize.ShloMosaic.TcCoe Idealize.SL.Sem Idealize.ShloMosaic.Tactic
open Idealize.ShloMosaic.Pipeline (Dat)
open Cert.Kernel5Ideal Cert.Kernel5Ideal.Gen Cert.Rows
open Cert.KernelIdeal.Attn (hz lo hi score scores col vcol row qlo qhi qlo_apply qhi_apply score_lo score_hi)

/-! ## One point's block -/

/-- The result of query row `R` of the block, column `d`. -/
def outAt (q : Vec Ideal S512x256 .bf16) (k : Vec Ideal S4096x256 .bf16) (v : Vec Ideal S4096x128 .bf16) (R : Fin 512) (d : Fin 128) : EReal :=
  (∑ j : Fin 4096, weight (score q k R) j * v (ix2 j d)) * recip (score q k R)

theorem pay1_apply (e : FVec Ideal S256x4096 .f32) (l : FVec Ideal S256x1 .f32) (v : Vec Ideal S4096x128 .bf16) (r : Fin 256) (d : Fin 128) :
    k0_pay1 e l v (ix2 r d) = (∑ j : Fin 4096, e (ix2 r j) * v (ix2 j d)) * l (ix2 r 0) := by
  unfold k0_pay1
  pointwise

theorem pay3_eq (x : Vec Ideal S256x256 .bf16) (y : Vec Ideal S4096x256 .bf16) :
    k0_pay3 x y = Cert.KernelIdeal.Gen.k0_pay13 (Cert.KernelIdeal.Gen.k0_pay5 x y) := rfl

theorem pay4_eq (x : Vec Ideal S256x256 .bf16) (y : Vec Ideal S4096x256 .bf16) :
    k0_pay4 x y = Cert.KernelIdeal.Gen.k0_pay14 (Cert.KernelIdeal.Gen.k0_pay5 x y) := rfl

theorem pay2_eq (x : Vec Ideal S256x256 .bf16) (y : Vec Ideal S4096x256 .bf16) (v : Vec Ideal S4096x128 .bf16) :
    k0_pay2 x y v = k0_pay1 (k0_pay3 x y) (k0_pay4 x y) v := rfl

section
variable (q : Vec Ideal S512x256 .bf16) (k : Vec Ideal S4096x256 .bf16) (v : Vec Ideal S4096x128 .bf16)

theorem out_lo (r : Fin 256) (d : Fin 128) : k0_pay1 (k0_pay3 (qlo q) k) (k0_pay4 (qlo q) k) v (ix2 r d) = outAt q k v (lo r) d := by
  rw [pay1_apply, pay3_eq, pay4_eq, Cert.KernelIdeal.Attn.pay14_apply, score_lo]
  unfold outAt
  exact congrArg (· * _) (Finset.sum_congr rfl fun j _ => by rw [Cert.KernelIdeal.Attn.pay13_apply, score_lo])

theorem out_hi (r : Fin 256) (d : Fin 128) : k0_pay1 (k0_pay3 (qhi q) k) (k0_pay4 (qhi q) k) v (ix2 r d) = outAt q k v (hi r) d := by
  rw [pay1_apply, pay3_eq, pay4_eq, Cert.KernelIdeal.Attn.pay14_apply, score_hi]
  unfold outAt
  exact congrArg (· * _) (Finset.sum_congr rfl fun j _ => by rw [Cert.KernelIdeal.Attn.pay13_apply, score_hi])

theorem out_eq : out0_3 q k v = fun y => outAt q k v (y 0) (y 1) := by
  have e : out0_3 q k v = View.canon (Val := Elt Ideal) (s := S512x128) (e := .bf16)
      [⟨r0_5, k0_pay1 (k0_pay3 (qhi q) k) (k0_pay4 (qhi q) k) v⟩, ⟨r0_4, k0_pay1 (k0_pay3 (qlo q) k) (k0_pay4 (qlo q) k) v⟩] := by
    unfold out0_3
    rw [View.ld_unit_zero (S := S4096x256) hz, View.ld_unit_zero (S := S4096x128) hz]
    rfl
  rw [e]
  funext y
  refine View.canon_apply_of_pieces (Val := Elt Ideal) (e := .bf16) (fun y : S512x128.Idx => outAt q k v (y 0) (y 1)) _ ?_ y (cover0_3 _ _ y)
  intro p hp
  simp only [List.mem_cons, List.not_mem_nil, or_false] at hp
  rcases hp with rfl | rfl <;> intro x <;>
    obtain ⟨r, d, rfl⟩ : ∃ (r : Fin 256) (d : Fin 128), x = ix2 r d := ⟨x 0, x 1, eq_ix2 x⟩
  · rw [show r0_5.emb (ix2 r d) = ix2 (hi r) d from funext fun a => Fin.ext (by
      match a with
      | ⟨0, _⟩ => show 256 + 1 * r.val = 256 + r.val; omega
      | ⟨1, _⟩ => show 0 + 1 * d.val = d.val; omega)]
    exact out_hi q k v r d
  · rw [show r0_4.emb (ix2 r d) = ix2 (lo r) d from funext fun a => Fin.ext (by
      match a with
      | ⟨0, _⟩ => show 0 + 1 * r.val = r.val; omega
      | ⟨1, _⟩ => show 0 + 1 * d.val = d.val; omega)]
    exact out_lo q k v r d

end

/-! ## The result array -/

/-- The result over whole arrays, per head, and as the array. -/
def out (Q K : Vec Ideal S4096x1024 .bf16) (V : Vec Ideal S4096x512 .bf16) (h : Fin 4) (r : Fin 4096) (d : Fin 128) : EReal :=
  (∑ j, weight (scores Q K h r) j * V (ix2 j (vcol h d))) * recip (scores Q K h r)

def outArr (Q K : Vec Ideal S4096x1024 .bf16) (V : Vec Ideal S4096x512 .bf16) : Vec Ideal S4096x512 .bf16 := fun i =>
  out Q K V ⟨(i 1).val / 128, by have : (i 1).val < 512 := (i 1).isLt; omega⟩ (i 0) ⟨(i 1).val % 128, Nat.mod_lt _ (by decide)⟩

theorem outArr_col (Q K : Vec Ideal S4096x1024 .bf16) (V : Vec Ideal S4096x512 .bf16) (h : Fin 4) (r : Fin 4096) (d : Fin 128) :
    outArr Q K V (ix2 r (vcol h d)) = out Q K V h r d := by
  show out Q K V ⟨(128 * h.val + d.val) / 128, _⟩ r ⟨(128 * h.val + d.val) % 128, _⟩ = _
  congr 1 <;> apply Fin.ext <;> dsimp only <;> omega

variable (m : (ℓ : Loc nD τ sig) → Buf (Elt Ideal) ℓ) (ρ : Dev nD → PrngReg) (c : Dev nD)

/-- The head and the query block of a grid point. -/
abbrev hd (t : Fin cfg0.N) : Fin 4 := ⟨t.val / 8, by have : t.val < 32 := lt_of_lt_of_eq t.isLt N_0; omega⟩
abbrev qb (t : Fin cfg0.N) : Fin 8 := ⟨t.val % 8, Nat.mod_lt _ (by decide)⟩

theorem idx_eq : ∀ t : Fin cfg0.N, win0_0.index t = ![t.val % 8, t.val / 8] ∧ win0_1.index t = ![0, t.val / 8]
    ∧ win0_2.index t = ![0, t.val / 8] ∧ win0_3.index t = ![t.val % 8, t.val / 8] :=
  (by decide +kernel : ∀ t : Fin grid0.N, win0_0.index t = ![t.val % 8, t.val / 8] ∧ win0_1.index t = ![0, t.val / 8]
    ∧ win0_2.index t = ![0, t.val / 8] ∧ win0_3.index t = ![t.val % 8, t.val / 8])

/-- The arrays the region reads. -/
abbrev Qa : Vec Ideal S4096x1024 .bf16 := V m c main_v6
abbrev Ka : Vec Ideal S4096x1024 .bf16 := V m c main_v8
abbrev Va : Vec Ideal S4096x512 .bf16 := V m c main_v10

theorem iblk0_apply (t : Fin cfg0.N) (R : Fin 512) (d : Fin 256) :
    (iblk m c 0 t : Vec Ideal S512x256 .bf16) (ix2 R d) = Qa m c (ix2 (row (qb t) R) (col (hd t) d)) := by
  have e := (idx_eq t).1
  unfold iblk
  rw [View.read_apply]
  show V m c main_v6 _ = V m c main_v6 _
  congr 1
  funext a
  apply Fin.ext
  match a with
  | ⟨0, _⟩ => show win0_0.index t 0 * 512 + 1 * R.val = 512 * (t.val % 8) + R.val; rw [e]; show t.val % 8 * 512 + _ = _; omega
  | ⟨1, _⟩ => show win0_0.index t 1 * 256 + 1 * d.val = 256 * (t.val / 8) + d.val; rw [e]; show t.val / 8 * 256 + _ = _; omega

theorem iblk1_apply (t : Fin cfg0.N) (j : Fin 4096) (d : Fin 256) :
    (iblk m c 1 t : Vec Ideal S4096x256 .bf16) (ix2 j d) = Ka m c (ix2 j (col (hd t) d)) := by
  have e := (idx_eq t).2.1
  unfold iblk
  rw [View.read_apply]
  show V m c main_v8 _ = V m c main_v8 _
  congr 1
  funext a
  apply Fin.ext
  match a with
  | ⟨0, _⟩ => show win0_1.index t 0 * 4096 + 1 * j.val = j.val; rw [e]; show 0 * 4096 + _ = _; omega
  | ⟨1, _⟩ => show win0_1.index t 1 * 256 + 1 * d.val = 256 * (t.val / 8) + d.val; rw [e]; show t.val / 8 * 256 + _ = _; omega

theorem iblk2_apply (t : Fin cfg0.N) (j : Fin 4096) (d : Fin 128) :
    (iblk m c 2 t : Vec Ideal S4096x128 .bf16) (ix2 j d) = Va m c (ix2 j (vcol (hd t) d)) := by
  have e := (idx_eq t).2.2.1
  unfold iblk
  rw [View.read_apply]
  show V m c main_v10 _ = V m c main_v10 _
  congr 1
  funext a
  apply Fin.ext
  match a with
  | ⟨0, _⟩ => show win0_2.index t 0 * 4096 + 1 * j.val = j.val; rw [e]; show 0 * 4096 + _ = _; omega
  | ⟨1, _⟩ => show win0_2.index t 1 * 128 + 1 * d.val = 128 * (t.val / 8) + d.val; rw [e]; show t.val / 8 * 128 + _ = _; omega

theorem outAt_iblk (t : Fin cfg0.N) (R : Fin 512) (d : Fin 128) :
    outAt (iblk m c 0 t) (iblk m c 1 t) (iblk m c 2 t) R d = out (Qa m c) (Ka m c) (Va m c) (hd t) (row (qb t) R) d := by
  have e : score (iblk m c 0 t) (iblk m c 1 t) R = scores (Qa m c) (Ka m c) (hd t) (row (qb t) R) := by
    funext j
    unfold score scores
    exact Finset.sum_congr rfl fun d _ => by rw [iblk0_apply, iblk1_apply]
  unfold outAt out
  rw [e]
  exact congrArg (· * _) (Finset.sum_congr rfl fun j _ => by rw [iblk2_apply])

theorem final3 : (dats m 0 c).arrAt 3 cfg0.N = outArr (Qa m c) (Ka m c) (Va m c) := by
  refine (dats m 0 c).arrAt_eq_of_cover 3 _ (fun t _ => ?_) (Pipeline.Window.Covers.cover _ (by decide +kernel) (Memref.isWhole_whole _))
  have e := (idx_eq t).2.2.2
  show (cfg0.win 3).cut (grid0.coords t) ((dats m 0 c).after 3 t) = _
  rw [after0_3, out_eq]
  funext y
  obtain ⟨R, d, rfl⟩ : ∃ (R : Fin 512) (d : Fin 128), y = ix2 R d := ⟨y 0, y 1, eq_ix2 y⟩
  rw [View.read_apply]
  show outAt (iblk m c 0 t) (iblk m c 1 t) (iblk m c 2 t) R d = outArr (Qa m c) (Ka m c) (Va m c) _
  rw [outAt_iblk, ← outArr_col]
  congr 1
  funext a
  apply Fin.ext
  match a with
  | ⟨0, _⟩ => show 512 * (t.val % 8) + R.val = win0_3.index t 0 * 512 + 1 * R.val; rw [e]; show _ = t.val % 8 * 512 + _; omega
  | ⟨1, _⟩ => show 128 * (t.val / 8) + d.val = win0_3.index t 1 * 128 + 1 * d.val; rw [e]; show _ = t.val / 8 * 128 + _; omega

/-- The program's result: the array of the call, cast. -/
def res : Vec Ideal S4096x512 .f32 := fun i => outArr (Qa m c) (Ka m c) (Va m c) i

theorem tail_eq : Pipeline.afterTail₀ cfgs (dats m) 0 (V0 m) [hostOps1] c main_v12 = res m c := by
  have e : Pipeline.withArrays spec0 c (V0 m c) (fun w => (dats m 0 c).arrAt w cfg0.N) (Proc.devRef .tc main_v11)
      = outArr (Qa m c) (Ka m c) (Va m c) :=
    (Pipeline.withArrays_arr spec0 winFacts0.arr_inj c (V0 m c) _ 3).trans (final3 m c)
  unfold Pipeline.afterTail₀ res
  show StableHlo.after hostOps1 (Pipeline.withArrays spec0 c (V0 m c) (fun w => (dats m 0 c).arrAt w cfg0.N)) (Proc.devRef .tc main_v12) = _
  rw [← e]
  generalize Pipeline.withArrays spec0 c (V0 m c) (fun w => (dats m 0 c).arrAt w cfg0.N) = W
  after_results
  rfl

theorem run_value : θ_run defs (onTc (τ := τ) (main (F := Ideal))) ⟨m, fun _ => 0, ρ⟩ (fun r => ∀ c : Dev nD,
      r.2.mem ((c.tc : Thread nD τ).loc main_v12) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-! ## The arrays the host prepares -/

abbrev q0 : Vec Ideal S1x4096x4x256 .f32 := m ((c : Thread nD τ).loc main_arg0)
abbrev k0 : Vec Ideal S1x4096x4x256 .f32 := m ((c : Thread nD τ).loc main_arg1)
abbrev v0 : Vec Ideal S1x4096x4x128 .f32 := m ((c : Thread nD τ).loc main_arg2)

theorem Qa_eq : Qa m c = (truncf (F := Ideal) (φ := .f32) .bf16 (shapeCast S4096x1024 (Host.divf (q0 m c) (broadcastInDim S1x4096x4x256 ![]
    bcast_S_S1x4096x4x256 (mulf (Host.sqrt (constant S_ .f32 0x43400000#32)) (Host.log (constant S_ .f32 0x40000000#32)))))
    shapeCasts_S1x4096x4x256_S4096x1024) bitsLt_bf16_f32 : FVec Ideal S4096x1024 .bf16) := by
  show StableHlo.after hostOps0 _ (Proc.devRef .tc main_v6) = _
  after_results
  rfl

theorem Ka_eq : Ka m c = (truncf (F := Ideal) (φ := .f32) .bf16 (shapeCast S4096x1024 (k0 m c) shapeCasts_S1x4096x4x256_S4096x1024) bitsLt_bf16_f32 : FVec Ideal S4096x1024 .bf16) := by
  show StableHlo.after hostOps0 _ (Proc.devRef .tc main_v8) = _
  after_results
  rfl

theorem Va_eq : Va m c = (truncf (F := Ideal) (φ := .f32) .bf16 (shapeCast S4096x512 (v0 m c) shapeCasts_S1x4096x4x128_S4096x512) bitsLt_bf16_f32 : FVec Ideal S4096x512 .bf16) := by
  show StableHlo.after hostOps0 _ (Proc.devRef .tc main_v10) = _
  after_results
  rfl

theorem Qa_col (r : Fin 4096) (h : Fin 4) (d : Fin 256) :
    Qa m c (ix2 r (col h d)) = Ideal.div (q0 m c (ValueIdx.ix4 0 r h d)) Cert.ReferenceIdeal.Attn.unit := by
  rw [Qa_eq]
  show shapeCast S4096x1024 (Host.divf (F := Ideal) (φ := .f32) (q0 m c) _) _ _ = _
  rw [Cert.Attn.cast_256]
  show Ideal.div _ (Ideal.sqrt (Ideal.ofBits .f32 0x43400000#32) * Ideal.log (Ideal.ofBits .f32 0x40000000#32)) = _
  rw [Cert.ReferenceIdeal.Attn.ofBits_192, Ideal.sqrt_coe, if_neg (by norm_num), Cert.ReferenceIdeal.Attn.ofBits_two, Ideal.log_coe,
    if_neg (by norm_num), ← EReal.coe_mul]
  rfl

theorem Ka_col (r : Fin 4096) (h : Fin 4) (d : Fin 256) : Ka m c (ix2 r (col h d)) = k0 m c (ValueIdx.ix4 0 r h d) := by
  rw [Ka_eq]; exact Cert.Attn.cast_256 _ r h d

theorem Va_col (r : Fin 4096) (h : Fin 4) (d : Fin 128) : Va m c (ix2 r (vcol h d)) = v0 m c (ValueIdx.ix4 0 r h d) := by
  rw [Va_eq]; exact Cert.Attn.cast_128 _ r h d

end Cert.Kernel5Ideal.Attn

end
-- ==== Proof.AttnClaim.lean ====
/-
  The attention's result: the reference's value at an index, its equality with the kernel's where the queries and the keys are
  finite, the reference's frame, and the claim.
-/
module

public import proofs.«01_k».proof.Defs
public import proofs.«01_k».proof.Proof.AttnRun
public import proofs.«01_k».proof.Proof.Gen.Reference5Ideal.Run
public import proofs.«01_k».proof.Proof.Gen.Reference5Ideal.Read
public import proofs.«01_k».proof.Proof.Gen.Pre_finite_qk3
public import Idealize.ShloMosaic.Lib.Quiescent
public import Idealize.ShloMosaic.Adequacy
public import Idealize.ShloMosaic.Init

@[expose] public section

set_option maxRecDepth 16384

noncomputable section

namespace Cert.Reference5Ideal.Attn

open Idealize.ShloMosaic Idealize.ShloMosaic.TcCoe Idealize.SL.Sem
open Cert.Reference5Ideal Cert.Reference5Ideal.Gen Cert.Reference5Ideal.Read Cert.Rows
open Cert.KernelIdeal.Attn (vcol)
open Cert.ReferenceIdeal.Attn (E unit)

variable (x0 x1 : Vec Ideal S1x4096x4x256 .f32) (x2 : Vec Ideal S1x4096x4x128 .f32)

/-- The softmax of this program is the one its gradient's reference takes. -/
theorem v14_same : val_main_v14 (F := Ideal) x0 x1 = Cert.ReferenceIdeal.Read.val_main_v28 (F := Ideal) x0 x1 := rfl

theorem v18_eq (h : Fin 4) (r : Fin 4096) (d : Fin 128) : val_main_v18 (F := Ideal) x0 x1 x2 (ix2 r (vcol h d))
    = ∑ j : Fin 4096, x2 (ValueIdx.ix4 0 j h d) * Ideal.div (E x0 x1 h r j) (∑ x, E x0 x1 h r x) := by
  have e : idx_main_v16 (idx_main_v17 (idx_main_v18 (ix2 r (vcol h d)))) = ValueIdx.ix4 0 h d r := by
    have hr := r.isLt
    have hd := d.isLt
    have hh := h.isLt
    funext a
    apply Fin.ext
    match a with
    | ⟨0, _⟩ => rfl
    | ⟨1, _⟩ =>
      show ((0 * 4096 + (r.val * 512 + (128 * h.val + d.val)) / 512 % 4096) * 512 + (r.val * 512 + (128 * h.val + d.val)) % 512) / 128 % 4 = h.val
      omega
    | ⟨2, _⟩ =>
      show ((0 * 4096 + (r.val * 512 + (128 * h.val + d.val)) / 512 % 4096) * 512 + (r.val * 512 + (128 * h.val + d.val)) % 512) % 128 = d.val
      omega
    | ⟨3, _⟩ =>
      show ((0 * 4096 + (r.val * 512 + (128 * h.val + d.val)) / 512 % 4096) * 512 + (r.val * 512 + (128 * h.val + d.val)) % 512) / 512 % 4096 = r.val
      omega
  rw [val_main_v18_apply, val_main_v17_apply, val_main_v16_apply, e, val_main_v15_apply]
  refine Finset.sum_congr rfl fun j _ => ?_
  rw [v14_same, ← Cert.ReferenceIdeal.Attn.v28_eq]
  congr 2 <;> (funext a; apply Fin.ext; match a with | ⟨0, _⟩ => rfl | ⟨1, _⟩ => rfl | ⟨2, _⟩ => rfl | ⟨3, _⟩ => rfl)

/-- THE TWO MEET: with finite queries and keys the kernel's array is the reference's. -/
theorem meet {Q K : Vec Ideal Cert.Kernel5Ideal.S4096x1024 .bf16} {V : Vec Ideal S4096x512 .bf16}
    (hQ : ∀ r h d, Q (ix2 r (Cert.KernelIdeal.Attn.col h d)) = Ideal.div (x0 (ValueIdx.ix4 0 r h d)) unit)
    (hK : ∀ r h d, K (ix2 r (Cert.KernelIdeal.Attn.col h d)) = x1 (ValueIdx.ix4 0 r h d))
    (hV : ∀ r h d, V (ix2 r (vcol h d)) = x2 (ValueIdx.ix4 0 r h d))
    (hq : ∀ i, ∃ z : ℝ, x0 i = z) (hk : ∀ i, ∃ z : ℝ, x1 i = z) :
    (fun i => Cert.Kernel5Ideal.Attn.outArr Q K V i : Vec Ideal S4096x512 .f32) = val_main_v18 (F := Ideal) x0 x1 x2 := by
  funext y
  obtain ⟨r, h, d, rfl⟩ : ∃ (r : Fin 4096) (h : Fin 4) (d : Fin 128), y = ix2 r (vcol h d) := by
    have h1 : (y 1 : Nat) < 512 := (y 1).isLt
    refine ⟨y 0, ⟨(y 1 : Nat) / 128, by omega⟩, ⟨(y 1 : Nat) % 128, by omega⟩, (eq_ix2 y).trans ?_⟩
    congr 1; apply Fin.ext; show (y 1 : Nat) = 128 * ((y 1 : Nat) / 128) + (y 1 : Nat) % 128; omega
  refine (Cert.Kernel5Ideal.Attn.outArr_col Q K V h r d).trans (Eq.trans ?_ (v18_eq x0 x1 x2 h r d).symm)
  obtain ⟨e, he, hw, hE⟩ := Cert.Attn.weight_of hQ hK hq hk h r
  have hL : 0 < ∑ x, e x := Finset.sum_pos (fun x _ => he x) ⟨0, Finset.mem_univ _⟩
  unfold Cert.Kernel5Ideal.Attn.out recip
  simp only [hw, hE, hV]
  rw [sum_coe, Ideal.div_coe hL.ne', one_mul, mul_comm, mul_sum_coe _ _ (one_div_pos.mpr hL).le]
  refine Finset.sum_congr rfl fun j _ => ?_
  rw [Ideal.div_coe hL.ne']
  ac_rfl

end Cert.Reference5Ideal.Attn

namespace Cert.Proof

open Idealize.ShloMosaic Idealize.ShloMosaic.TcCoe Idealize.SL.Sem

theorem attn_frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem finite_qk3 (q k : Vec Ideal Cert.Pre_finite_qk3.S1x4096x4x256 .f32) (v : Vec Ideal Cert.Pre_finite_qk3.S1x4096x4x128 .f32)
    (h : Cert.Pre_finite_qk3.fn (F := Ideal) q k v = fun _ => 1#1) :
    (∀ i, ∃ x : ℝ, q i = x) ∧ ∀ i, ∃ x : ℝ, k i = x := by
  constructor <;> intro i
  · refine Cert.Attn.real_of_abs _ ?_
    rw [← Cert.Attn.ofBits_top]
    exact (Cert.Attn.andi_one _ _ (congrFun h i)).1
  · refine Cert.Attn.real_of_abs _ ?_
    rw [← Cert.Attn.ofBits_top]
    exact (Cert.Attn.andi_one _ _ (congrFun h i)).2

theorem attn_algebraic : Cert.algebraic_Kernel5Ideal_Reference5Ideal_pre_finite_qk3 := by
  intro m ρ m' ρ' hpre hagree
  refine ⟨fun c => Cert.Kernel5Ideal.Attn.res m c, Cert.Kernel5Ideal.Attn.run_value m ρ, ?_⟩
  refine (θ_run Cert.Reference5Ideal.defs _ _).mono (fun _ h c => ?_) (Cert.Reference5Ideal.Value.run (F := Ideal) m' ρ')
  obtain ⟨h0, hkept⟩ := h c
  obtain ⟨a0, a1, a2⟩ := hagree c
  obtain ⟨hq, hk⟩ := finite_qk3 _ _ _ (hpre c)
  refine ⟨h0.trans ((Cert.Reference5Ideal.Read.val_main_v18_eq _ _ _).trans ?_), hkept⟩
  rw [a0, a1, a2]
  exact (Cert.Reference5Ideal.Attn.meet _ _ _ (Cert.Kernel5Ideal.Attn.Qa_col m c) (Cert.Kernel5Ideal.Attn.Ka_col m c)
    (Cert.Kernel5Ideal.Attn.Va_col m c) hq hk).symm

end Cert.Proof

end
-- ==== Proof.LatentProd.lean ====
/-
  The products of the latents' gradient: the weights' gradients (`final0`, `final1`) and the normed latents' gradients (`final2`,
  `final3`), each the array its region leaves, over the arrays it reads.
-/
module

public import proofs.«01_k».proof.Proof.Mat
public import proofs.«01_k».proof.Proof.Gen.Kernel6Ideal.Frame
public import Idealize.ShloMosaic.Lib.Pointwise
public import Idealize.ShloMosaic.Lib.Pipeline.Value
public import Idealize.ShloMosaic.Lib.Pipeline.ValueKit
public import Idealize.ShloMosaic.Lib.Tactic

@[expose] public section

set_option maxRecDepth 16384

noncomputable section

namespace Cert.Kernel6Ideal.Latent

open Idealize.ShloMosaic Idealize.ShloMosaic.TcCoe Idealize.SL.Sem Idealize.ShloMosaic.Tactic
open Idealize.ShloMosaic.Pipeline (Dat)
open Cert.Kernel6Ideal Cert.Kernel6Ideal.Gen Cert.Mat

theorem pay0_apply (a : Vec Ideal S4096x256 .bf16) (b : Vec Ideal S4096x512 .bf16) (r : Fin 256) (d : Fin 512) :
    k0_pay1 a b (ix2 r d) = tnAt a b r d := by
  unfold k0_pay1
  pointwise
  rfl

theorem out0_eq (a : Vec Ideal S4096x256 .bf16) (b : Vec Ideal S4096x512 .bf16) : out0_2 a b = k0_pay1 a b := by
  unfold out0_2
  rw [View.canon_cons_unit_zero hz2, View.ld_unit_zero hz2, View.ld_unit_zero hz2]

theorem pay1_apply (a : Vec Ideal S4096x256 .bf16) (b : Vec Ideal S4096x512 .bf16) (r : Fin 256) (d : Fin 512) :
    k1_pay1 a b (ix2 r d) = tnAt a b r d := by
  unfold k1_pay1
  pointwise
  rfl

theorem out1_eq (a : Vec Ideal S4096x256 .bf16) (b : Vec Ideal S4096x512 .bf16) : out1_2 a b = k1_pay1 a b := by
  unfold out1_2
  rw [View.canon_cons_unit_zero hz2, View.ld_unit_zero hz2, View.ld_unit_zero hz2]

theorem pay2_apply (a : Vec Ideal S512x1024 .bf16) (b : Vec Ideal S256x1024 .bf16) (r : Fin 512) (d : Fin 256) :
    k2_pay1 a b (ix2 r d) = ntAt a b r d := by
  unfold k2_pay1
  pointwise
  rfl

theorem out2_eq (a : Vec Ideal S512x1024 .bf16) (b : Vec Ideal S256x1024 .bf16) : out2_2 a b = k2_pay1 a b := by
  unfold out2_2
  rw [View.canon_cons_unit_zero hz2, View.ld_unit_zero hz2, View.ld_unit_zero hz2]

theorem pay3_apply (a : Vec Ideal S512x1024 .bf16) (b : Vec Ideal S256x1024 .bf16) (r : Fin 512) (d : Fin 256) :
    k3_pay1 a b (ix2 r d) = ntAt a b r d := by
  unfold k3_pay1
  pointwise
  rfl

theorem out3_eq (a : Vec Ideal S512x1024 .bf16) (b : Vec Ideal S256x1024 .bf16) : out3_2 a b = k3_pay1 a b := by
  unfold out3_2
  rw [View.canon_cons_unit_zero hz2, View.ld_unit_zero hz2, View.ld_unit_zero hz2]

variable (V : (c : Dev nD) → (b : Ref sig .tc) → Buf (Elt Ideal) ((c : Thread nD τ).loc b)) (c : Dev nD)

/-! ## Region 0 -/

theorem idx0 : ∀ t : Fin cfg0.N, win0_0.index t = ![0, 0] ∧ win0_1.index t = ![0, t.val] ∧ win0_2.index t = ![0, t.val] :=
  (by decide +kernel : ∀ t : Fin grid0.N, _)

theorem lt0 (t : Fin cfg0.N) : t.val < 2 := lt_of_lt_of_eq t.isLt N_0

theorem iblk0_0 (t : Fin cfg0.N) (r : Fin 4096) (d : Fin 256) : (iblk0 V c 0 t : Vec Ideal S4096x256 .bf16) (ix2 r d)
    = (V c main_v16 : Vec Ideal S4096x256 .bf16) (ix2 (r : Fin 4096) (d : Fin 256)) :=
  have e := (idx0 t).1
  (View.read_apply ..).trans (congrArg (V c main_v16) (Shape.idx_ext₂ (tile0 (congrFun e 0)) (tile0 (congrFun e 1))))

theorem iblk0_1 (t : Fin cfg0.N) (r : Fin 4096) (d : Fin 512) : (iblk0 V c 1 t : Vec Ideal S4096x512 .bf16) (ix2 r d)
    = (V c main_v45 : Vec Ideal S4096x1024 .bf16) (ix2 (r : Fin 4096) (⟨512 * t.val + d.val, by have := lt0 t; omega⟩ : Fin 1024)) :=
  have e := (idx0 t).2.1
  (View.read_apply ..).trans (congrArg (V c main_v45) (Shape.idx_ext₂ (tile0 (congrFun e 0)) (tile (congrFun e 1))))

theorem emb0_2 (t : Fin cfg0.N) (r : Fin 256) (d : Fin 512) :
    ((cfg0.win 2).blk t).view.emb (ix2 r d) = ix2 (r : Fin 256) (⟨512 * t.val + d.val, by have := lt0 t; omega⟩ : Fin 1024) :=
  have e := (idx0 t).2.2
  Shape.idx_ext₂ (tile0 (congrFun e 0)) (tile (congrFun e 1))

theorem final0 : (dat0 V c).arrAt 2 cfg0.N = (fun i => tnAt (V c main_v16 : Vec Ideal S4096x256 .bf16) (V c main_v45 : Vec Ideal S4096x1024 .bf16) (i 0) (i 1) : Vec Ideal S256x1024 .f32) := by
  refine (dat0 V c).arrAt_eq_of_cover 2 _ (fun t _ => ?_) (Pipeline.Window.Covers.cover _ (by decide +kernel) (Memref.isWhole_whole _))
  show (cfg0.win 2).cut (grid0.coords t) ((dat0 V c).after 2 t) = _
  rw [after0_2]
  funext y
  obtain ⟨r, d, rfl⟩ : ∃ (r : Fin 256) (d : Fin 512), y = ix2 r d := ⟨y 0, y 1, eq_ix2 y⟩
  rw [View.read_apply, emb0_2, out0_eq]
  exact (pay0_apply _ _ r d).trans (tnAt_congr (fun e => iblk0_0 V c t e r) (fun e => iblk0_1 V c t e d))

/-! ## Region 1 -/

theorem idx1 : ∀ t : Fin cfg1.N, win1_0.index t = ![0, 0] ∧ win1_1.index t = ![0, t.val] ∧ win1_2.index t = ![0, t.val] :=
  (by decide +kernel : ∀ t : Fin grid1.N, _)

theorem lt1 (t : Fin cfg1.N) : t.val < 2 := lt_of_lt_of_eq t.isLt N_1

theorem iblk1_0 (t : Fin cfg1.N) (r : Fin 4096) (d : Fin 256) : (iblk1 V c 0 t : Vec Ideal S4096x256 .bf16) (ix2 r d)
    = (V c main_v30 : Vec Ideal S4096x256 .bf16) (ix2 (r : Fin 4096) (d : Fin 256)) :=
  have e := (idx1 t).1
  (View.read_apply ..).trans (congrArg (V c main_v30) (Shape.idx_ext₂ (tile0 (congrFun e 0)) (tile0 (congrFun e 1))))

theorem iblk1_1 (t : Fin cfg1.N) (r : Fin 4096) (d : Fin 512) : (iblk1 V c 1 t : Vec Ideal S4096x512 .bf16) (ix2 r d)
    = (V c main_v46 : Vec Ideal S4096x1024 .bf16) (ix2 (r : Fin 4096) (⟨512 * t.val + d.val, by have := lt1 t; omega⟩ : Fin 1024)) :=
  have e := (idx1 t).2.1
  (View.read_apply ..).trans (congrArg (V c main_v46) (Shape.idx_ext₂ (tile0 (congrFun e 0)) (tile (congrFun e 1))))

theorem emb1_2 (t : Fin cfg1.N) (r : Fin 256) (d : Fin 512) :
    ((cfg1.win 2).blk t).view.emb (ix2 r d) = ix2 (r : Fin 256) (⟨512 * t.val + d.val, by have := lt1 t; omega⟩ : Fin 1024) :=
  have e := (idx1 t).2.2
  Shape.idx_ext₂ (tile0 (congrFun e 0)) (tile (congrFun e 1))

theorem final1 : (dat1 V c).arrAt 2 cfg1.N = (fun i => tnAt (V c main_v30 : Vec Ideal S4096x256 .bf16) (V c main_v46 : Vec Ideal S4096x1024 .bf16) (i 0) (i 1) : Vec Ideal S256x1024 .f32) := by
  refine (dat1 V c).arrAt_eq_of_cover 2 _ (fun t _ => ?_) (Pipeline.Window.Covers.cover _ (by decide +kernel) (Memref.isWhole_whole _))
  show (cfg1.win 2).cut (grid1.coords t) ((dat1 V c).after 2 t) = _
  rw [after1_2]
  funext y
  obtain ⟨r, d, rfl⟩ : ∃ (r : Fin 256) (d : Fin 512), y = ix2 r d := ⟨y 0, y 1, eq_ix2 y⟩
  rw [View.read_apply, emb1_2, out1_eq]
  exact (pay1_apply _ _ r d).trans (tnAt_congr (fun e => iblk1_0 V c t e r) (fun e => iblk1_1 V c t e d))

/-! ## Region 2 -/

theorem idx2 : ∀ t : Fin cfg2.N, win2_0.index t = ![t.val, 0] ∧ win2_1.index t = ![0, 0] ∧ win2_2.index t = ![t.val, 0] :=
  (by decide +kernel : ∀ t : Fin grid2.N, _)

theorem lt2 (t : Fin cfg2.N) : t.val < 8 := lt_of_lt_of_eq t.isLt N_2

theorem iblk2_0 (t : Fin cfg2.N) (r : Fin 512) (d : Fin 1024) : (iblk2 V c 0 t : Vec Ideal S512x1024 .bf16) (ix2 r d)
    = (V c main_v45 : Vec Ideal S4096x1024 .bf16) (ix2 (⟨512 * t.val + r.val, by have := lt2 t; omega⟩ : Fin 4096) (d : Fin 1024)) :=
  have e := (idx2 t).1
  (View.read_apply ..).trans (congrArg (V c main_v45) (Shape.idx_ext₂ (tile (congrFun e 0)) (tile0 (congrFun e 1))))

theorem iblk2_1 (t : Fin cfg2.N) (r : Fin 256) (d : Fin 1024) : (iblk2 V c 1 t : Vec Ideal S256x1024 .bf16) (ix2 r d)
    = (V c main_v37 : Vec Ideal S256x1024 .bf16) (ix2 (r : Fin 256) (d : Fin 1024)) :=
  have e := (idx2 t).2.1
  (View.read_apply ..).trans (congrArg (V c main_v37) (Shape.idx_ext₂ (tile0 (congrFun e 0)) (tile0 (congrFun e 1))))

theorem emb2_2 (t : Fin cfg2.N) (r : Fin 512) (d : Fin 256) :
    ((cfg2.win 2).blk t).view.emb (ix2 r d) = ix2 (⟨512 * t.val + r.val, by have := lt2 t; omega⟩ : Fin 4096) (d : Fin 256) :=
  have e := (idx2 t).2.2
  Shape.idx_ext₂ (tile (congrFun e 0)) (tile0 (congrFun e 1))

theorem final2 : (dat2 V c).arrAt 2 cfg2.N = (fun i => ntAt (V c main_v45 : Vec Ideal S4096x1024 .bf16) (V c main_v37 : Vec Ideal S256x1024 .bf16) (i 0) (i 1) : Vec Ideal S4096x256 .f32) := by
  refine (dat2 V c).arrAt_eq_of_cover 2 _ (fun t _ => ?_) (Pipeline.Window.Covers.cover _ (by decide +kernel) (Memref.isWhole_whole _))
  show (cfg2.win 2).cut (grid2.coords t) ((dat2 V c).after 2 t) = _
  rw [after2_2]
  funext y
  obtain ⟨r, d, rfl⟩ : ∃ (r : Fin 512) (d : Fin 256), y = ix2 r d := ⟨y 0, y 1, eq_ix2 y⟩
  rw [View.read_apply, emb2_2, out2_eq]
  exact (pay2_apply _ _ r d).trans (ntAt_congr (fun e => iblk2_0 V c t r e) (fun e => iblk2_1 V c t d e))

/-! ## Region 3 -/

theorem idx3 : ∀ t : Fin cfg3.N, win3_0.index t = ![t.val, 0] ∧ win3_1.index t = ![0, 0] ∧ win3_2.index t = ![t.val, 0] :=
  (by decide +kernel : ∀ t : Fin grid3.N, _)

theorem lt3 (t : Fin cfg3.N) : t.val < 8 := lt_of_lt_of_eq t.isLt N_3

theorem iblk3_0 (t : Fin cfg3.N) (r : Fin 512) (d : Fin 1024) : (iblk3 V c 0 t : Vec Ideal S512x1024 .bf16) (ix2 r d)
    = (V c main_v46 : Vec Ideal S4096x1024 .bf16) (ix2 (⟨512 * t.val + r.val, by have := lt3 t; omega⟩ : Fin 4096) (d : Fin 1024)) :=
  have e := (idx3 t).1
  (View.read_apply ..).trans (congrArg (V c main_v46) (Shape.idx_ext₂ (tile (congrFun e 0)) (tile0 (congrFun e 1))))

theorem iblk3_1 (t : Fin cfg3.N) (r : Fin 256) (d : Fin 1024) : (iblk3 V c 1 t : Vec Ideal S256x1024 .bf16) (ix2 r d)
    = (V c main_v38 : Vec Ideal S256x1024 .bf16) (ix2 (r : Fin 256) (d : Fin 1024)) :=
  have e := (idx3 t).2.1
  (View.read_apply ..).trans (congrArg (V c main_v38) (Shape.idx_ext₂ (tile0 (congrFun e 0)) (tile0 (congrFun e 1))))

theorem emb3_2 (t : Fin cfg3.N) (r : Fin 512) (d : Fin 256) :
    ((cfg3.win 2).blk t).view.emb (ix2 r d) = ix2 (⟨512 * t.val + r.val, by have := lt3 t; omega⟩ : Fin 4096) (d : Fin 256) :=
  have e := (idx3 t).2.2
  Shape.idx_ext₂ (tile (congrFun e 0)) (tile0 (congrFun e 1))

theorem final3 : (dat3 V c).arrAt 2 cfg3.N = (fun i => ntAt (V c main_v46 : Vec Ideal S4096x1024 .bf16) (V c main_v38 : Vec Ideal S256x1024 .bf16) (i 0) (i 1) : Vec Ideal S4096x256 .f32) := by
  refine (dat3 V c).arrAt_eq_of_cover 2 _ (fun t _ => ?_) (Pipeline.Window.Covers.cover _ (by decide +kernel) (Memref.isWhole_whole _))
  show (cfg3.win 2).cut (grid3.coords t) ((dat3 V c).after 2 t) = _
  rw [after3_2]
  funext y
  obtain ⟨r, d, rfl⟩ : ∃ (r : Fin 512) (d : Fin 256), y = ix2 r d := ⟨y 0, y 1, eq_ix2 y⟩
  rw [View.read_apply, emb3_2, out3_eq]
  exact (pay3_apply _ _ r d).trans (ntAt_congr (fun e => iblk3_0 V c t r e) (fun e => iblk3_1 V c t d e))

end Cert.Kernel6Ideal.Latent

end
-- ==== Proof.LatentRms.lean ====
/-
  The two regions of the latents' normalisation, going back: the gradients of the latents (`final4_3`, `final5_3`) and of their gains
  (`final4_4`, `final5_4`, accumulated over the row tiles). The two regions differ in the columns of z they read.
-/
module

public import proofs.«01_k».proof.Proof.FfnRmsBwd
public import proofs.«01_k».proof.Proof.Rms
public import proofs.«01_k».proof.Proof.Mat
public import proofs.«01_k».proof.Proof.Gen.Kernel6Ideal.Frame

@[expose] public section

set_option maxRecDepth 16384

noncomputable section

namespace Cert.Kernel6Ideal.Latent

open Idealize.ShloMosaic Idealize.ShloMosaic.TcCoe Idealize.SL.Sem Idealize.ShloMosaic.Tactic
open Idealize.ShloMosaic.Pipeline (Dat)
open Cert.Kernel6Ideal Cert.Kernel6Ideal.Gen Cert.Mat
open Cert.Kernel2Ideal.Ffn (upTo8 row8 sum_row8)

/-- A latent's width, and one over the root mean square of its row. -/
abbrev width : EReal := Ideal.ofBits .f32 0x43800000#32
abbrev rms (x : Fin 256 → EReal) : EReal := Cert.Rms.rms width x

/-- Block `b` of 256 columns of z. -/
def zcol (b : Fin 27) (Z : M 4096 6912) : M 4096 256 := fun i => Z (ix2 (i 0 : Fin 4096) ⟨256 * b.val + (i 1).val, by have h : (i 1).val < 256 := (i 1).isLt; omega⟩)

/-- A normalised entry; the gradient of the latent's rows, and of its gain. -/
def xhat (X : M 4096 256) (s : Fin 4096) (d : Fin 256) : EReal := X (ix2 s d) * rms (fun e => X (ix2 s e))
def dxArr (X : M 4096 256) (g : M 1 256) (D : M 4096 256) : M 4096 256 := fun i =>
  rms (fun e => X (ix2 (i 0) e)) * (D i * g (ix2 0 (i 1)) - xhat X (i 0) (i 1) * Ideal.div (∑ e : Fin 256, D (ix2 (i 0) e) * g (ix2 0 e) * xhat X (i 0) e) width)
def dgAt (X D : M 4096 256) (d : Fin 256) : EReal := ∑ s : Fin 4096, D (ix2 s d) * xhat X s d

/-- The gain's gradient over one tile of rows. -/
def addAt (x D : M 512 256) (d : Fin 256) : EReal := ∑ r : Fin 512, D (ix2 r d) * (x (ix2 r d) * rms (fun e => x (ix2 r e)))

/-! ## The payloads -/

section
variable (x D : Vec Ideal S512x256 .f32) (g : Vec Ideal S1x256 .f32)

theorem pay4_2_apply (r : Fin 512) : k4_pay2 x (ix2 r 0) = rms (fun d => x (ix2 r d)) := by
  unfold k4_pay2 k4_pay1 rms Cert.Rms.rms Cert.Rms.meanSq
  pointwise

theorem pay4_3_apply (r : Fin 512) (d : Fin 256) : k4_pay3 x (ix2 r d) = x (ix2 r d) * rms (fun d => x (ix2 r d)) := by
  unfold k4_pay3 k4_pay1
  pointwise
  rw [pay4_2_apply]

theorem pay4_5_apply (r : Fin 512) (d : Fin 256) : k4_pay5 x D g (ix2 r d)
    = rms (fun d => x (ix2 r d)) * (D (ix2 r d) * g (ix2 0 d) - x (ix2 r d) * rms (fun d => x (ix2 r d))
        * Ideal.div (∑ d : Fin 256, D (ix2 r d) * g (ix2 0 d) * (x (ix2 r d) * rms (fun d => x (ix2 r d)))) width) := by
  unfold k4_pay5 k4_pay4
  pointwise
  simp only [pay4_2_apply, pay4_3_apply]

theorem pay4_7_apply (o : Vec Ideal S1x256 .f32) (d : Fin 256) : k4_pay7 x D o (ix2 0 d) = o (ix2 0 d) + addAt x D d := by
  unfold k4_pay7 k4_pay4 addAt
  pointwise
  simp only [pay4_3_apply]

theorem pay5_5_apply (r : Fin 512) (d : Fin 256) : k5_pay5 x D g (ix2 r d)
    = rms (fun d => x (ix2 r d)) * (D (ix2 r d) * g (ix2 0 d) - x (ix2 r d) * rms (fun d => x (ix2 r d))
        * Ideal.div (∑ d : Fin 256, D (ix2 r d) * g (ix2 0 d) * (x (ix2 r d) * rms (fun d => x (ix2 r d)))) width) := pay4_5_apply x D g r d
theorem pay5_7_apply (o : Vec Ideal S1x256 .f32) (d : Fin 256) : k5_pay7 x D o (ix2 0 d) = o (ix2 0 d) + addAt x D d := pay4_7_apply x D o d
end

theorem pay4_6_apply (y : S8x256.Idx) : (k4_pay6 (F := Ideal)) y = 0 := by unfold k4_pay6; pointwise
theorem pay5_6_apply (y : S8x256.Idx) : (k5_pay6 (F := Ideal)) y = 0 := pay4_6_apply y

/-- The first of the gain's eight rows, loaded … -/
theorem ld_row0 (z : Vec Ideal S8x256 .f32) (inb) (d : Fin 256) : View.ld z (Rect.unit ![0, 0] S1x256.size inb) (ix2 0 d) = z (ix2 0 d) :=
  View.ld_unit_apply_of z _ _ _ _ _ fun a => by
    match a with
    | ⟨0, _⟩ => rfl
    | ⟨1, _⟩ => show d.val = 0 + d.val; omega

/-- … and stored. -/
theorem row0_read (v : View sig .tc .vmem S8x256 .f32) (f) (w : Vec Ideal S1x256 .f32) (L : List (View.Piece (Elt Ideal) S8x256 .f32)) (d : Fin 256) :
    v.read (Elt Ideal) (v.writes (Elt Ideal) f ((⟨Rect.unit ![0, 0] ![1, 256] inb_S8x256_S1x256_0_0, w⟩ : View.Piece (Elt Ideal) S8x256 .f32) :: L)) (ix2 0 d)
      = w (ix2 0 d) := by
  have hy : (Rect.unit (s := S8x256) ![0, 0] ![1, 256] inb_S8x256_S1x256_0_0).emb (ix2 (0 : Fin 1) d) = ix2 (0 : Fin 8) d :=
    Shape.idx_ext₂ rfl (by show 0 + 1 * d.val = d.val; omega)
  exact (congrArg (v.read (Elt Ideal) (v.writes (Elt Ideal) f _)) hy.symm).trans
    (View.read_writes_cons_emb v f (Rect.unit (s := S8x256) ![0, 0] ![1, 256] inb_S8x256_S1x256_0_0) w L (ix2 (0 : Fin 1) d))

/-! ## Region 4 -/

section
variable (c : Dev nD) (i : grid4.Coords) (arg1 : Memref sig .tc .vmem S512x256 .f32) (harg1 : arg1.IsWhole) (arg2 : Memref sig .tc .vmem S1x256 .f32) (harg2 : arg2.IsWhole) (arg3 : Memref sig .tc .vmem S512x256 .f32) (harg3 : arg3.IsWhole)
  (arg4 : Memref sig .tc .vmem S512x256 .bf16) (harg4 : arg4.IsWhole) (arg5 : Memref sig .tc .vmem S8x256 .f32) (harg5 : arg5.IsWhole)
  (x0 : Vec Ideal S512x256 .f32) (x1 : Vec Ideal S1x256 .f32) (x2 : Vec Ideal S512x256 .f32) (xo4 : Vec Ideal S8x256 .f32)

theorem out4_A_3_eq (hc0 : cond4_0 i) :
    out4_A_3 c i arg1 harg1 arg2 harg2 arg3 harg3 arg4 harg4 arg5 harg5 hc0 x0 x1 x2 = k4_pay5 x0 x2 x1 := by
  unfold out4_A_3
  rw [View.read_writes_eq_canon _ _ _ (cover4_A_3 c i arg1 harg1 arg2 harg2 arg3 harg3 arg4 harg4 arg5 harg5 hc0 x0 x1 x2)]
  unfold kernelRun4_A
  dsimp only
  sl_unfold_words
  simp only [View.canon_cons_unit_zero (S := S512x256) hz2, View.readAt_eq_ld, harg1.read_unread, harg2.read_unread,
    harg3.read_unread, View.ld_unit_zero (S := S512x256) hz2, View.ld_unit_zero (S := S1x256) hz2]

theorem out4_B_3_eq (hc0 : ¬cond4_0 i) :
    out4_B_3 c i arg1 harg1 arg2 harg2 arg3 harg3 arg4 harg4 arg5 harg5 hc0 x0 x1 x2 xo4 = k4_pay5 x0 x2 x1 := by
  unfold out4_B_3
  rw [View.read_writes_eq_canon _ _ _ (cover4_B_3 c i arg1 harg1 arg2 harg2 arg3 harg3 arg4 harg4 arg5 harg5 hc0 x0 x1 x2 xo4)]
  unfold kernelRun4_B
  dsimp only
  sl_unfold_words
  simp only [View.canon_cons_unit_zero (S := S512x256) hz2, View.readAt_eq_ld, harg1.read_unread, harg2.read_unread,
    harg3.read_unread, View.ld_unit_zero (S := S512x256) hz2, View.ld_unit_zero (S := S1x256) hz2]

theorem out4_A_4_row (hc0 : cond4_0 i) (d : Fin 256) :
    out4_A_4 c i arg1 harg1 arg2 harg2 arg3 harg3 arg4 harg4 arg5 harg5 hc0 x0 x1 x2 (ix2 0 d) = 0 + addAt x0 x2 d := by
  unfold out4_A_4 kernelRun4_A
  dsimp only
  sl_unfold_words
  rw [row0_read]
  rw [View.readCov_eq_canon_ld _ _ _ (fun y => ⟨_, List.mem_cons_self, by
    rw [Rect.mem_set_unit]; intro a
    match a with
    | ⟨0, _⟩ => exact ⟨Nat.zero_le _, (y 0).isLt⟩
    | ⟨1, _⟩ => exact ⟨Nat.zero_le _, (y 1).isLt⟩⟩)]
  simp only [View.canon_cons_unit_zero (S := S8x256) hz2, View.readAt_eq_ld, harg1.read_unread, harg3.read_unread,
    View.ld_unit_zero (S := S512x256) hz2]
  rw [pay4_7_apply, ld_row0, pay4_6_apply]

theorem out4_B_4_row (hc0 : ¬cond4_0 i) (d : Fin 256) :
    out4_B_4 c i arg1 harg1 arg2 harg2 arg3 harg3 arg4 harg4 arg5 harg5 hc0 x0 x1 x2 xo4 (ix2 0 d) = xo4 (ix2 0 d) + addAt x0 x2 d := by
  unfold out4_B_4 kernelRun4_B
  dsimp only
  sl_unfold_words
  rw [row0_read]
  simp only [View.readAt_eq_ld, harg1.read_unread, harg3.read_unread, harg5.read_unread, View.ld_unit_zero (S := S512x256) hz2]
  rw [pay4_7_apply, ld_row0]
end

section
variable (V : (c : Dev nD) → (b : Ref sig .tc) → Buf (Elt Ideal) ((c : Thread nD τ).loc b)) (c : Dev nD)

abbrev add4 (t : Fin cfg4.N) (d : Fin 256) : EReal := addAt (iblk4 V c 0 t) (iblk4 V c 2 t) d

theorem first4 (t : Fin cfg4.N) (h0 : t.val % 8 = 0) :
    (outsAt4 V c t.val t.isLt).1 = k4_pay5 (iblk4 V c 0 t) (iblk4 V c 2 t) (iblk4 V c 1 t)
      ∧ ∀ d : Fin 256, (outsAt4 V c t.val t.isLt).2 (ix2 0 d) = 0 + add4 V c t d := by
  rw [outsAt4_A V c t h0]
  dsimp only
  exact ⟨out4_A_3_eq .., fun d => out4_A_4_row ..⟩

theorem next4 (t : Fin cfg4.N) (h0 : ¬t.val % 8 = 0) :
    (outsAt4 V c t.val t.isLt).1 = k4_pay5 (iblk4 V c 0 t) (iblk4 V c 2 t) (iblk4 V c 1 t)
      ∧ ∀ d : Fin 256, (outsAt4 V c t.val t.isLt).2 (ix2 0 d)
        = (outsAt4 V c (t.val - 1) (Nat.lt_of_le_of_lt (Nat.sub_le _ _) t.isLt)).2 (ix2 0 d) + add4 V c t d := by
  rw [outsAt4_B V c t h0]
  dsimp only
  exact ⟨out4_B_3_eq .., fun d => out4_B_4_row ..⟩

theorem outs4_3 (t : Fin cfg4.N) : (outsAt4 V c t.val t.isLt).1 = k4_pay5 (iblk4 V c 0 t) (iblk4 V c 2 t) (iblk4 V c 1 t) := by
  by_cases h0 : t.val % 8 = 0
  · exact (first4 V c t h0).1
  · exact (next4 V c t h0).1

theorem outs4_4 (n : ℕ) (d : Fin 256) : ∀ h : n < cfg4.N,
    (outsAt4 V c n h).2 (ix2 0 d) = upTo8 (fun k => add4 V c (k.cast N_4.symm) d) n := by
  have hN : cfg4.N = 8 := N_4
  induction n with
  | zero =>
    intro h
    refine ((first4 V c ⟨0, h⟩ rfl).2 d).trans ?_
    unfold upTo8
    rw [Finset.sum_range_one, dif_pos (by decide), zero_add]
    rfl
  | succ n ih =>
    intro h
    refine ((next4 V c ⟨n + 1, h⟩ (by dsimp only; omega)).2 d).trans ?_
    unfold upTo8
    rw [Finset.sum_range_succ, dif_pos (by omega)]
    exact congrArg (· + add4 V c ⟨n + 1, h⟩ d) (ih (Nat.lt_of_succ_lt h))

theorem idx4 : ∀ t : Fin cfg4.N, win4_0.index t = ![t.val, 18] ∧ win4_1.index t = ![0, 0] ∧ win4_2.index t = ![t.val, 0]
    ∧ win4_3.index t = ![t.val, 0] ∧ win4_4.index t = ![0, 0] :=
  (by decide +kernel : ∀ t : Fin grid4.N, _)

abbrev blk4 (t : Fin cfg4.N) : Fin 8 := t.cast N_4
abbrev last4 : Fin cfg4.N := (7 : Fin 8).cast N_4.symm

theorem iblk4_0 (t : Fin cfg4.N) (r : Fin 512) (d : Fin 256) : (iblk4 V c 0 t : Vec Ideal S512x256 .f32) (ix2 r d)
    = zcol 18 (V c main_v2) (ix2 (row8 (blk4 t) r) d) :=
  have e := (idx4 t).1
  (View.read_apply ..).trans (congrArg (V c main_v2) (Shape.idx_ext₂ (tile (congrFun e 0)) (tile (congrFun e 1))))

theorem iblk4_1 (t : Fin cfg4.N) (d : Fin 256) : (iblk4 V c 1 t : Vec Ideal S1x256 .f32) (ix2 0 d) = (V c main_v51 : Vec Ideal S1x256 .f32) (ix2 0 d) :=
  have e := (idx4 t).2.1
  (View.read_apply ..).trans (congrArg (V c main_v51) (Shape.idx_ext₂ (tile0 (congrFun e 0)) (tile0 (congrFun e 1))))

theorem iblk4_2 (t : Fin cfg4.N) (r : Fin 512) (d : Fin 256) : (iblk4 V c 2 t : Vec Ideal S512x256 .f32) (ix2 r d)
    = (V c main_v49 : Vec Ideal S4096x256 .f32) (ix2 (row8 (blk4 t) r) d) :=
  have e := (idx4 t).2.2.1
  (View.read_apply ..).trans (congrArg (V c main_v49) (Shape.idx_ext₂ (tile (congrFun e 0)) (tile0 (congrFun e 1))))

theorem emb4_3 (t : Fin cfg4.N) (r : Fin 512) (d : Fin 256) : ((cfg4.win 3).blk t).view.emb (ix2 r d) = ix2 (row8 (blk4 t) r) d := by
  have e := (idx4 t).2.2.2.1
  exact Shape.idx_ext₂ (tile (congrFun e 0)) (tile0 (congrFun e 1))

theorem emb4_4 (t : Fin cfg4.N) (y : S8x256.Idx) : ((cfg4.win 4).blk t).view.emb y = y := by
  have e := (idx4 t).2.2.2.2
  exact Shape.idx_ext₂ (tile0 (congrFun e 0)) (tile0 (congrFun e 1))

theorem final4_3 : (dat4 V c).arrAt 3 cfg4.N = (dxArr (zcol 18 (V c main_v2)) (V c main_v51) (V c main_v49) : Vec Ideal S4096x256 .bf16) := by
  refine (dat4 V c).arrAt_eq_of_cover 3 _ (fun t _ => ?_) (Pipeline.Window.Covers.cover _ (by decide +kernel) (Memref.isWhole_whole _))
  show (cfg4.win 3).cut (grid4.coords t) ((dat4 V c).after 3 t) = _
  rw [after4_3, outs4_3]
  funext y
  obtain ⟨r, d, rfl⟩ : ∃ (r : Fin 512) (d : Fin 256), y = ix2 r d := ⟨y 0, y 1, eq_ix2 y⟩
  rw [View.read_apply, emb4_3]
  refine (pay4_5_apply _ _ _ r d).trans ?_
  show (_ : EReal) = dxArr (zcol 18 (V c main_v2)) (V c main_v51) (V c main_v49) (ix2 (row8 (blk4 t) r) d)
  simp only [iblk4_0, iblk4_1, iblk4_2]
  rfl

theorem flushed4_4 (t : Fin cfg4.N) (hf : (cfg4.win 4).flush t = true) : (dat4 V c).flushed 4 t
    = ((cfg4.win 4).blk t).view.read (Elt Ideal) ((outsAt4 V c last4.val last4.isLt).2 : Vec Ideal S8x256 .f32) := by
  have ht : t = last4 := Fin.ext (by
    have h1 := (flush4_4 t).mp hf
    have h2 : t.val < 8 := lt_of_lt_of_eq t.isLt N_4
    show t.val = 7; omega)
  subst ht
  show (cfg4.win 4).cut (grid4.coords last4) ((dat4 V c).after 4 last4) = _
  rw [after4_4]
  funext y
  rw [View.read_apply, emb4_4]
  rfl

theorem final4_4 (d : Fin 256) : ((dat4 V c).arrAt 4 cfg4.N : Vec Ideal S8x256 .f32) (ix2 0 d) = dgAt (zcol 18 (V c main_v2)) (V c main_v49) d := by
  rw [(dat4 V c).arrAt_eq_of_cover 4 ((outsAt4 V c last4.val last4.isLt).2 : Vec Ideal S8x256 .f32) (fun t h => flushed4_4 V c t h) (Pipeline.Window.Covers.cover _ (by decide +kernel) (Memref.isWhole_whole _))]
  refine (outs4_4 V c 7 d last4.isLt).trans ?_
  unfold upTo8 dgAt
  rw [Finset.sum_range, ← sum_row8]
  refine Finset.sum_congr rfl fun b _ => ?_
  rw [dif_pos b.isLt]
  refine Finset.sum_congr rfl fun r _ => ?_
  simp only [iblk4_0, iblk4_2]
  rfl
end

/-! ## Region 5 -/

section
variable (c : Dev nD) (i : grid5.Coords) (arg1 : Memref sig .tc .vmem S512x256 .f32) (harg1 : arg1.IsWhole) (arg2 : Memref sig .tc .vmem S1x256 .f32) (harg2 : arg2.IsWhole) (arg3 : Memref sig .tc .vmem S512x256 .f32) (harg3 : arg3.IsWhole)
  (arg4 : Memref sig .tc .vmem S512x256 .bf16) (harg4 : arg4.IsWhole) (arg5 : Memref sig .tc .vmem S8x256 .f32) (harg5 : arg5.IsWhole)
  (x0 : Vec Ideal S512x256 .f32) (x1 : Vec Ideal S1x256 .f32) (x2 : Vec Ideal S512x256 .f32) (xo4 : Vec Ideal S8x256 .f32)

theorem out5_A_3_eq (hc0 : cond5_0 i) :
    out5_A_3 c i arg1 harg1 arg2 harg2 arg3 harg3 arg4 harg4 arg5 harg5 hc0 x0 x1 x2 = k5_pay5 x0 x2 x1 := by
  unfold out5_A_3
  rw [View.read_writes_eq_canon _ _ _ (cover5_A_3 c i arg1 harg1 arg2 harg2 arg3 harg3 arg4 harg4 arg5 harg5 hc0 x0 x1 x2)]
  unfold kernelRun5_A
  dsimp only
  sl_unfold_words
  simp only [View.canon_cons_unit_zero (S := S512x256) hz2, View.readAt_eq_ld, harg1.read_unread, harg2.read_unread,
    harg3.read_unread, View.ld_unit_zero (S := S512x256) hz2, View.ld_unit_zero (S := S1x256) hz2]

theorem out5_B_3_eq (hc0 : ¬cond5_0 i) :
    out5_B_3 c i arg1 harg1 arg2 harg2 arg3 harg3 arg4 harg4 arg5 harg5 hc0 x0 x1 x2 xo4 = k5_pay5 x0 x2 x1 := by
  unfold out5_B_3
  rw [View.read_writes_eq_canon _ _ _ (cover5_B_3 c i arg1 harg1 arg2 harg2 arg3 harg3 arg4 harg4 arg5 harg5 hc0 x0 x1 x2 xo4)]
  unfold kernelRun5_B
  dsimp only
  sl_unfold_words
  simp only [View.canon_cons_unit_zero (S := S512x256) hz2, View.readAt_eq_ld, harg1.read_unread, harg2.read_unread,
    harg3.read_unread, View.ld_unit_zero (S := S512x256) hz2, View.ld_unit_zero (S := S1x256) hz2]

theorem out5_A_4_row (hc0 : cond5_0 i) (d : Fin 256) :
    out5_A_4 c i arg1 harg1 arg2 harg2 arg3 harg3 arg4 harg4 arg5 harg5 hc0 x0 x1 x2 (ix2 0 d) = 0 + addAt x0 x2 d := by
  unfold out5_A_4 kernelRun5_A
  dsimp only
  sl_unfold_words
  rw [row0_read]
  rw [View.readCov_eq_canon_ld _ _ _ (fun y => ⟨_, List.mem_cons_self, by
    rw [Rect.mem_set_unit]; intro a
    match a with
    | ⟨0, _⟩ => exact ⟨Nat.zero_le _, (y 0).isLt⟩
    | ⟨1, _⟩ => exact ⟨Nat.zero_le _, (y 1).isLt⟩⟩)]
  simp only [View.canon_cons_unit_zero (S := S8x256) hz2, View.readAt_eq_ld, harg1.read_unread, harg3.read_unread,
    View.ld_unit_zero (S := S512x256) hz2]
  rw [pay5_7_apply, ld_row0, pay5_6_apply]

theorem out5_B_4_row (hc0 : ¬cond5_0 i) (d : Fin 256) :
    out5_B_4 c i arg1 harg1 arg2 harg2 arg3 harg3 arg4 harg4 arg5 harg5 hc0 x0 x1 x2 xo4 (ix2 0 d) = xo4 (ix2 0 d) + addAt x0 x2 d := by
  unfold out5_B_4 kernelRun5_B
  dsimp only
  sl_unfold_words
  rw [row0_read]
  simp only [View.readAt_eq_ld, harg1.read_unread, harg3.read_unread, harg5.read_unread, View.ld_unit_zero (S := S512x256) hz2]
  rw [pay5_7_apply, ld_row0]
end

section
variable (V : (c : Dev nD) → (b : Ref sig .tc) → Buf (Elt Ideal) ((c : Thread nD τ).loc b)) (c : Dev nD)

abbrev add5 (t : Fin cfg5.N) (d : Fin 256) : EReal := addAt (iblk5 V c 0 t) (iblk5 V c 2 t) d

theorem first5 (t : Fin cfg5.N) (h0 : t.val % 8 = 0) :
    (outsAt5 V c t.val t.isLt).1 = k5_pay5 (iblk5 V c 0 t) (iblk5 V c 2 t) (iblk5 V c 1 t)
      ∧ ∀ d : Fin 256, (outsAt5 V c t.val t.isLt).2 (ix2 0 d) = 0 + add5 V c t d := by
  rw [outsAt5_A V c t h0]
  dsimp only
  exact ⟨out5_A_3_eq .., fun d => out5_A_4_row ..⟩

theorem next5 (t : Fin cfg5.N) (h0 : ¬t.val % 8 = 0) :
    (outsAt5 V c t.val t.isLt).1 = k5_pay5 (iblk5 V c 0 t) (iblk5 V c 2 t) (iblk5 V c 1 t)
      ∧ ∀ d : Fin 256, (outsAt5 V c t.val t.isLt).2 (ix2 0 d)
        = (outsAt5 V c (t.val - 1) (Nat.lt_of_le_of_lt (Nat.sub_le _ _) t.isLt)).2 (ix2 0 d) + add5 V c t d := by
  rw [outsAt5_B V c t h0]
  dsimp only
  exact ⟨out5_B_3_eq .., fun d => out5_B_4_row ..⟩

theorem outs5_3 (t : Fin cfg5.N) : (outsAt5 V c t.val t.isLt).1 = k5_pay5 (iblk5 V c 0 t) (iblk5 V c 2 t) (iblk5 V c 1 t) := by
  by_cases h0 : t.val % 8 = 0
  · exact (first5 V c t h0).1
  · exact (next5 V c t h0).1

theorem outs5_4 (n : ℕ) (d : Fin 256) : ∀ h : n < cfg5.N,
    (outsAt5 V c n h).2 (ix2 0 d) = upTo8 (fun k => add5 V c (k.cast N_5.symm) d) n := by
  have hN : cfg5.N = 8 := N_5
  induction n with
  | zero =>
    intro h
    refine ((first5 V c ⟨0, h⟩ rfl).2 d).trans ?_
    unfold upTo8
    rw [Finset.sum_range_one, dif_pos (by decide), zero_add]
    rfl
  | succ n ih =>
    intro h
    refine ((next5 V c ⟨n + 1, h⟩ (by dsimp only; omega)).2 d).trans ?_
    unfold upTo8
    rw [Finset.sum_range_succ, dif_pos (by omega)]
    exact congrArg (· + add5 V c ⟨n + 1, h⟩ d) (ih (Nat.lt_of_succ_lt h))

theorem idx5 : ∀ t : Fin cfg5.N, win5_0.index t = ![t.val, 19] ∧ win5_1.index t = ![0, 0] ∧ win5_2.index t = ![t.val, 0]
    ∧ win5_3.index t = ![t.val, 0] ∧ win5_4.index t = ![0, 0] :=
  (by decide +kernel : ∀ t : Fin grid5.N, _)

abbrev blk5 (t : Fin cfg5.N) : Fin 8 := t.cast N_5
abbrev last5 : Fin cfg5.N := (7 : Fin 8).cast N_5.symm

theorem iblk5_0 (t : Fin cfg5.N) (r : Fin 512) (d : Fin 256) : (iblk5 V c 0 t : Vec Ideal S512x256 .f32) (ix2 r d)
    = zcol 19 (V c main_v2) (ix2 (row8 (blk5 t) r) d) :=
  have e := (idx5 t).1
  (View.read_apply ..).trans (congrArg (V c main_v2) (Shape.idx_ext₂ (tile (congrFun e 0)) (tile (congrFun e 1))))

theorem iblk5_1 (t : Fin cfg5.N) (d : Fin 256) : (iblk5 V c 1 t : Vec Ideal S1x256 .f32) (ix2 0 d) = (V c main_v53 : Vec Ideal S1x256 .f32) (ix2 0 d) :=
  have e := (idx5 t).2.1
  (View.read_apply ..).trans (congrArg (V c main_v53) (Shape.idx_ext₂ (tile0 (congrFun e 0)) (tile0 (congrFun e 1))))

theorem iblk5_2 (t : Fin cfg5.N) (r : Fin 512) (d : Fin 256) : (iblk5 V c 2 t : Vec Ideal S512x256 .f32) (ix2 r d)
    = (V c main_v50 : Vec Ideal S4096x256 .f32) (ix2 (row8 (blk5 t) r) d) :=
  have e := (idx5 t).2.2.1
  (View.read_apply ..).trans (congrArg (V c main_v50) (Shape.idx_ext₂ (tile (congrFun e 0)) (tile0 (congrFun e 1))))

theorem emb5_3 (t : Fin cfg5.N) (r : Fin 512) (d : Fin 256) : ((cfg5.win 3).blk t).view.emb (ix2 r d) = ix2 (row8 (blk5 t) r) d := by
  have e := (idx5 t).2.2.2.1
  exact Shape.idx_ext₂ (tile (congrFun e 0)) (tile0 (congrFun e 1))

theorem emb5_4 (t : Fin cfg5.N) (y : S8x256.Idx) : ((cfg5.win 4).blk t).view.emb y = y := by
  have e := (idx5 t).2.2.2.2
  exact Shape.idx_ext₂ (tile0 (congrFun e 0)) (tile0 (congrFun e 1))

theorem final5_3 : (dat5 V c).arrAt 3 cfg5.N = (dxArr (zcol 19 (V c main_v2)) (V c main_v53) (V c main_v50) : Vec Ideal S4096x256 .bf16) := by
  refine (dat5 V c).arrAt_eq_of_cover 3 _ (fun t _ => ?_) (Pipeline.Window.Covers.cover _ (by decide +kernel) (Memref.isWhole_whole _))
  show (cfg5.win 3).cut (grid5.coords t) ((dat5 V c).after 3 t) = _
  rw [after5_3, outs5_3]
  funext y
  obtain ⟨r, d, rfl⟩ : ∃ (r : Fin 512) (d : Fin 256), y = ix2 r d := ⟨y 0, y 1, eq_ix2 y⟩
  rw [View.read_apply, emb5_3]
  refine (pay5_5_apply _ _ _ r d).trans ?_
  show (_ : EReal) = dxArr (zcol 19 (V c main_v2)) (V c main_v53) (V c main_v50) (ix2 (row8 (blk5 t) r) d)
  simp only [iblk5_0, iblk5_1, iblk5_2]
  rfl

theorem flushed5_4 (t : Fin cfg5.N) (hf : (cfg5.win 4).flush t = true) : (dat5 V c).flushed 4 t
    = ((cfg5.win 4).blk t).view.read (Elt Ideal) ((outsAt5 V c last5.val last5.isLt).2 : Vec Ideal S8x256 .f32) := by
  have ht : t = last5 := Fin.ext (by
    have h1 := (flush5_4 t).mp hf
    have h2 : t.val < 8 := lt_of_lt_of_eq t.isLt N_5
    show t.val = 7; omega)
  subst ht
  show (cfg5.win 4).cut (grid5.coords last5) ((dat5 V c).after 4 last5) = _
  rw [after5_4]
  funext y
  rw [View.read_apply, emb5_4]
  rfl

theorem final5_4 (d : Fin 256) : ((dat5 V c).arrAt 4 cfg5.N : Vec Ideal S8x256 .f32) (ix2 0 d) = dgAt (zcol 19 (V c main_v2)) (V c main_v50) d := by
  rw [(dat5 V c).arrAt_eq_of_cover 4 ((outsAt5 V c last5.val last5.isLt).2 : Vec Ideal S8x256 .f32) (fun t h => flushed5_4 V c t h) (Pipeline.Window.Covers.cover _ (by decide +kernel) (Memref.isWhole_whole _))]
  refine (outs5_4 V c 7 d last5.isLt).trans ?_
  unfold upTo8 dgAt
  rw [Finset.sum_range, ← sum_row8]
  refine Finset.sum_congr rfl fun b _ => ?_
  rw [dif_pos b.isLt]
  refine Finset.sum_congr rfl fun r _ => ?_
  simp only [iblk5_0, iblk5_2]
  rfl
end

end Cert.Kernel6Ideal.Latent

end
-- ==== Proof.LatentCols.lean ====
/-
  The columns of the queries' up-projection: the heads' 192 columns among 256 slots (`slots`, `back`), the sum over slots that is the sum over
  columns (`sum_slots`), and the latents' columns of z (`zcol_q`, `zcol_kv`).
-/
module

public import proofs.«01_k».proof.Proof.LatentRms
public import proofs.«01_k».proof.Proof.WinCols

@[expose] public section

set_option maxRecDepth 16384

noncomputable section

namespace Cert.Kernel6Ideal.Latent

open Idealize.ShloMosaic Idealize.ShloMosaic.TcCoe Idealize.SL.Sem Idealize.ShloMosaic.Tactic
open Idealize.ShloMosaic.Pipeline (Dat)
open Cert.Kernel6Ideal Cert.Kernel6Ideal.Gen Cert.Mat
open Cert.Kernel4Ideal.Win (cat2 zero_bf16)

/-! ## Columns and slots -/

/-- The slot of a column: in its head, the first 160 stay, the last 32 move up by 32. -/
def slot (k : Fin 768) : Fin 1024 := ⟨256 * (k.val / 192) + if k.val % 192 < 160 then k.val % 192 else k.val % 192 + 32, by split <;> omega⟩

theorem slot_injective : Function.Injective slot := fun a b h => by
  have e := congrArg Fin.val h
  unfold slot at e
  dsimp only at e
  refine Fin.ext ?_
  split at e <;> split at e <;> omega

/-- A matrix over the slots, zero where no column is. -/
def slots {n : ℕ} (A : M n 768) : M n 1024 := fun i =>
  if h : (i 1).val % 256 < 160 then A (ix2 (i 0) ⟨192 * ((i 1).val / 256) + (i 1).val % 256, by have h : (i 1).val < 1024 := (i 1).isLt; omega⟩)
  else if h : 192 ≤ (i 1).val % 256 ∧ (i 1).val % 256 < 224 then
    A (ix2 (i 0) ⟨192 * ((i 1).val / 256) + ((i 1).val % 256 - 32), by have h : (i 1).val < 1024 := (i 1).isLt; omega⟩)
  else 0

/-- A matrix over the slots, read at the columns. -/
def back {n : ℕ} (D : M n 1024) : M n 768 := fun i => D (ix2 (i 0) (slot (i 1)))

section
variable {n : ℕ} (A : M n 768) (r : Fin n)

theorem slots_low {p : Fin 1024} (h : p.val % 256 < 160) : slots A (ix2 r p) = A (ix2 r ⟨192 * (p.val / 256) + p.val % 256, by omega⟩) := dif_pos h
theorem slots_high {p : Fin 1024} (h : 192 ≤ p.val % 256 ∧ p.val % 256 < 224) :
    slots A (ix2 r p) = A (ix2 r ⟨192 * (p.val / 256) + (p.val % 256 - 32), by omega⟩) :=
  (dif_neg (show ¬ p.val % 256 < 160 by omega)).trans (dif_pos h)
theorem slots_none {p : Fin 1024} (h : ¬ p.val % 256 < 160) (h' : ¬ (192 ≤ p.val % 256 ∧ p.val % 256 < 224)) : slots A (ix2 r p) = 0 :=
  (dif_neg h).trans (dif_neg h')

theorem slots_slot (k : Fin 768) : slots A (ix2 r (slot k)) = A (ix2 r k) := by
  have hk := k.isLt
  by_cases h : k.val % 192 < 160
  · have e : (slot k).val = 256 * (k.val / 192) + k.val % 192 := congrArg (256 * (k.val / 192) + ·) (if_pos h)
    exact (slots_low A r (by omega)).trans (congrArg A (congrArg (ix2 r) (Fin.ext (by dsimp only; omega))))
  · have e : (slot k).val = 256 * (k.val / 192) + (k.val % 192 + 32) := congrArg (256 * (k.val / 192) + ·) (if_neg h)
    exact (slots_high A r (by omega)).trans (congrArg A (congrArg (ix2 r) (Fin.ext (by dsimp only; omega))))

theorem slot_of {p : Fin 1024} (h : p.val % 256 < 160 ∨ (192 ≤ p.val % 256 ∧ p.val % 256 < 224)) : p ∈ Set.range slot := by
  have hp := p.isLt
  rcases h with h | h
  · refine ⟨⟨192 * (p.val / 256) + p.val % 256, by omega⟩, Fin.ext ?_⟩
    unfold slot
    dsimp only
    split <;> omega
  · refine ⟨⟨192 * (p.val / 256) + (p.val % 256 - 32), by omega⟩, Fin.ext ?_⟩
    unfold slot
    dsimp only
    split <;> omega
end

theorem sum_slots {n k : ℕ} (A : M n 768) (B : M k 768) (r : Fin n) (d : Fin k) : ∑ p, slots A (ix2 r p) * slots B (ix2 d p) = ∑ j, A (ix2 r j) * B (ix2 d j) := by
  refine (Fintype.sum_of_injective slot slot_injective _ _ (fun p hp => ?_) fun j => ?_).symm
  · rw [slots_none A r (fun h => hp (slot_of (Or.inl h))) (fun h => hp (slot_of (Or.inr h))), zero_mul]
  · rw [slots_slot, slots_slot]

/-! ## The host's layouts -/

theorem cat3 {a b w u : ℕ} (xs : List ((s : Shape) × (s.Idx → EReal))) (h : Shape.Concatenates (xs.map (·.1)) (⟨3, ![a, b, w]⟩ : Shape) (2 : Fin 3))
    (r : Fin a) (q : Fin b) (j : Fin w) (k : ℕ) (hk : k < xs.length) (x : (⟨3, ![a, b, u]⟩ : Shape).Idx → EReal) (hx : xs[k] = ⟨⟨3, ![a, b, u]⟩, x⟩) (pre : ℕ)
    (hpre : (((xs.take k).map (·.1)).map fun s => if h : s.rank = (⟨3, ![a, b, w]⟩ : Shape).rank then s.size ((2 : Fin 3).cast h.symm) else 0).sum = pre)
    (e : Fin u) (he : pre + e.val = j.val) : concatenate (⟨3, ![a, b, w]⟩ : Shape) (2 : Fin 3) xs h (ValueIdx.ix3 r q j) = x (ValueIdx.ix3 r q e) :=
  concatenate_apply_piece (t := (⟨3, ![a, b, w]⟩ : Shape)) (2 : Fin 3) xs h (ValueIdx.ix3 r q j) k hk _ x hx rfl pre hpre (ValueIdx.ix3 r q e)
    (fun b hb => by
      match b with
      | ⟨0, _⟩ => rfl
      | ⟨1, _⟩ => rfl
      | ⟨2, _⟩ => exact absurd rfl hb) he

theorem slice3 {a b w u o : ℕ} (A : (⟨3, ![a, b, w]⟩ : Shape).Idx → EReal) (h : (⟨3, ![a, b, w]⟩ : Shape).Slices ![0, 0, o] ⟨3, ![a, b, u]⟩) (r : Fin a) (q : Fin b) (e : Fin u) (j : Fin w)
    (hj : o + e.val = j.val) : extractStridedSlice (⟨3, ![a, b, u]⟩ : Shape) ![0, 0, o] A h (ValueIdx.ix3 r q e) = A (ValueIdx.ix3 r q j) :=
  extractStridedSlice_apply _ A h (ValueIdx.ix3 r q e) (ValueIdx.ix3 r q j) fun a => by
    match a with
    | ⟨0, _⟩ => exact (Nat.zero_add _).symm
    | ⟨1, _⟩ => exact (Nat.zero_add _).symm
    | ⟨2, _⟩ => exact hj.symm

theorem split3 {a b w N : ℕ} (A : M a N) (h : (⟨2, ![a, N]⟩ : Shape).ShapeCasts ⟨3, ![a, b, w]⟩) (r : Fin a) (q : Fin b) (j : Fin w) (p : Fin N) (hN : N = b * w) (hp : q.val * w + j.val = p.val) :
    shapeCast (⟨3, ![a, b, w]⟩ : Shape) A h (ValueIdx.ix3 r q j) = A (ix2 r p) :=
  shapeCast_apply _ _ _ _ (by
    rewrite [Shape.rowMajor_val_two, Shape.rowMajor_val_three]
    show r.val * N + p.val = (r.val * b + q.val) * w + j.val
    rw [← hp, show r.val * N = r.val * (b * w) from congrArg _ hN]; ring)

theorem join3 {a b w N : ℕ} (A : (⟨3, ![a, b, w]⟩ : Shape).Idx → EReal) (h : (⟨3, ![a, b, w]⟩ : Shape).ShapeCasts ⟨2, ![a, N]⟩) (r : Fin a) (q : Fin b) (j : Fin w) (p : Fin N) (hN : N = b * w) (hp : q.val * w + j.val = p.val) :
    shapeCast (⟨2, ![a, N]⟩ : Shape) A h (ix2 r p) = A (ValueIdx.ix3 r q j) :=
  shapeCast_apply _ _ _ _ (by
    rewrite [Shape.rowMajor_val_two, Shape.rowMajor_val_three]
    show (r.val * b + q.val) * w + j.val = r.val * N + p.val
    rw [← hp, show r.val * N = r.val * (b * w) from congrArg _ hN]; ring)

/-- The host's slots, of any number of rows. -/
theorem layout_eq {n : ℕ} (A : M n 768) (h₁ : (⟨2, ![n, 768]⟩ : Shape).ShapeCasts ⟨3, ![n, 4, 192]⟩) (h₂ : (⟨3, ![n, 4, 192]⟩ : Shape).Slices ![0, 0, 0] ⟨3, ![n, 4, 160]⟩)
    (h₃ : (⟨3, ![n, 4, 192]⟩ : Shape).Slices ![0, 0, 160] ⟨3, ![n, 4, 32]⟩) (z : (⟨3, ![n, 4, 32]⟩ : Shape).Idx → EReal) (hz : ∀ i, z i = 0)
    (h₄ : Shape.Concatenates [⟨3, ![n, 4, 160]⟩, ⟨3, ![n, 4, 32]⟩, ⟨3, ![n, 4, 32]⟩, ⟨3, ![n, 4, 32]⟩] (⟨3, ![n, 4, 256]⟩ : Shape) (2 : Fin 3))
    (h₅ : (⟨3, ![n, 4, 256]⟩ : Shape).ShapeCasts ⟨2, ![n, 1024]⟩) :
    shapeCast (⟨2, ![n, 1024]⟩ : Shape) (concatenate (⟨3, ![n, 4, 256]⟩ : Shape) (2 : Fin 3)
      [⟨⟨3, ![n, 4, 160]⟩, extractStridedSlice (⟨3, ![n, 4, 160]⟩ : Shape) ![0, 0, 0] (shapeCast (⟨3, ![n, 4, 192]⟩ : Shape) A h₁) h₂⟩, ⟨⟨3, ![n, 4, 32]⟩, z⟩,
       ⟨⟨3, ![n, 4, 32]⟩, extractStridedSlice (⟨3, ![n, 4, 32]⟩ : Shape) ![0, 0, 160] (shapeCast (⟨3, ![n, 4, 192]⟩ : Shape) A h₁) h₃⟩, ⟨⟨3, ![n, 4, 32]⟩, z⟩] h₄) h₅ = slots A := by
  funext i
  obtain ⟨r, p, rfl⟩ : ∃ (r : Fin n) (p : Fin 1024), i = ix2 r p := ⟨i 0, i 1, eq_ix2 i⟩
  have hp := p.isLt
  refine (join3 _ h₅ r (⟨p.val / 256, by omega⟩ : Fin 4) (⟨p.val % 256, by omega⟩ : Fin 256) p rfl (by dsimp only; omega)).trans ?_
  by_cases h0 : p.val % 256 < 160
  · refine (cat3 _ _ r _ _ 0 (Nat.le_of_ble_eq_true rfl) _ rfl 0 rfl (⟨p.val % 256, h0⟩ : Fin 160) (by dsimp only; omega)).trans ?_
    refine (slice3 _ h₂ r _ _ (⟨p.val % 256, by omega⟩ : Fin 192) (by dsimp only; omega)).trans ?_
    exact (split3 A h₁ r _ _ (⟨192 * (p.val / 256) + p.val % 256, by omega⟩ : Fin 768) rfl (by dsimp only; omega)).trans (slots_low A r h0).symm
  by_cases h1 : p.val % 256 < 192
  · refine (cat3 _ _ r _ _ 1 (Nat.le_of_ble_eq_true rfl) _ rfl 160 rfl (⟨p.val % 256 - 160, by omega⟩ : Fin 32) (by dsimp only; omega)).trans ?_
    exact (hz _).trans (slots_none A r h0 (by omega)).symm
  by_cases h2 : p.val % 256 < 224
  · refine (cat3 _ _ r _ _ 2 (Nat.le_of_ble_eq_true rfl) _ rfl 192 rfl (⟨p.val % 256 - 192, by omega⟩ : Fin 32) (by dsimp only; omega)).trans ?_
    refine (slice3 _ h₃ r _ _ (⟨p.val % 256 - 32, by omega⟩ : Fin 192) (by dsimp only; omega)).trans ?_
    exact (split3 A h₁ r _ _ (⟨192 * (p.val / 256) + (p.val % 256 - 32), by omega⟩ : Fin 768) rfl (by dsimp only; omega)).trans (slots_high A r ⟨by omega, h2⟩).symm
  · refine (cat3 _ _ r _ _ 3 (Nat.le_of_ble_eq_true rfl) _ rfl 224 rfl (⟨p.val % 256 - 224, by omega⟩ : Fin 32) (by dsimp only; omega)).trans ?_
    exact (hz _).trans (slots_none A r h0 (by omega)).symm

/-- The host's columns, back out of the slots. -/
theorem back_eq (D : Vec Ideal S256x1024 .f32) :
    shapeCast S256x768 (concatenate S256x4x192 2 [⟨S256x4x160, extractStridedSlice S256x4x160 ![0, 0, 0] (shapeCast S256x4x256 D shapeCasts_S256x1024_S256x4x256) slices_S256x4x256_S256x4x160_0_0_0⟩,
      ⟨S256x4x32, extractStridedSlice S256x4x32 ![0, 0, 192] (shapeCast S256x4x256 D shapeCasts_S256x1024_S256x4x256) slices_S256x4x256_S256x4x32_0_0_192⟩]
      concatenates_S256x4x160_S256x4x32_S256x4x192_d2) shapeCasts_S256x4x192_S256x768 = back D := by
  funext i
  obtain ⟨r, k, rfl⟩ : ∃ (r : Fin 256) (k : Fin 768), i = ix2 r k := ⟨i 0, i 1, eq_ix2 i⟩
  have hk := k.isLt
  refine (join3 _ _ r (⟨k.val / 192, by omega⟩ : Fin 4) (⟨k.val % 192, by omega⟩ : Fin 192) k rfl (by dsimp only; omega)).trans ?_
  by_cases h0 : k.val % 192 < 160
  · have e : (slot k).val = 256 * (k.val / 192) + k.val % 192 := congrArg (256 * (k.val / 192) + ·) (if_pos h0)
    refine (cat3 _ _ r _ _ 0 (Nat.le_of_ble_eq_true rfl) _ rfl 0 rfl (⟨k.val % 192, h0⟩ : Fin 160) (by dsimp only; omega)).trans ?_
    refine (slice3 _ _ r _ _ (⟨k.val % 192, by omega⟩ : Fin 256) (by dsimp only; omega)).trans ?_
    exact split3 D _ r _ _ (slot k) rfl (by dsimp only; omega)
  · have e : (slot k).val = 256 * (k.val / 192) + (k.val % 192 + 32) := congrArg (256 * (k.val / 192) + ·) (if_neg h0)
    refine (cat3 _ _ r _ _ 1 (Nat.le_of_ble_eq_true rfl) _ rfl 160 rfl (⟨k.val % 192 - 160, by omega⟩ : Fin 32) (by dsimp only; omega)).trans ?_
    refine (slice3 _ _ r _ _ (⟨k.val % 192 + 32, by omega⟩ : Fin 256) (by dsimp only; omega)).trans ?_
    exact split3 D _ r _ _ (slot k) rfl (by dsimp only; omega)

/-! ## The latents' columns of z, and the gains' rows -/

section
variable (o : M 4096 4608) (X Y : M 4096 256) (u : M 4096 1792)

/-- The columns of z: zeros, the two latents, zeros. -/
abbrev zOf : M 4096 6912 := concatenate S4096x6912 1 [⟨S4096x4608, o⟩, ⟨S4096x256, X⟩, ⟨S4096x256, Y⟩, ⟨S4096x1792, u⟩] concatenates_S4096x4608_S4096x256_S4096x256_S4096x1792_S4096x6912_d1

theorem zcol_q : zcol 18 (zOf o X Y u) = X := by
  funext i
  obtain ⟨r, d, rfl⟩ : ∃ (r : Fin 4096) (d : Fin 256), i = ix2 r d := ⟨i 0, i 1, eq_ix2 i⟩
  exact cat2 [⟨S4096x4608, o⟩, ⟨S4096x256, X⟩, ⟨S4096x256, Y⟩, ⟨S4096x1792, u⟩] concatenates_S4096x4608_S4096x256_S4096x256_S4096x1792_S4096x6912_d1 r ⟨4608 + d.val, by omega⟩ 1 (Nat.le_of_ble_eq_true rfl) X rfl 4608 rfl d rfl
theorem zcol_kv : zcol 19 (zOf o X Y u) = Y := by
  funext i
  obtain ⟨r, d, rfl⟩ : ∃ (r : Fin 4096) (d : Fin 256), i = ix2 r d := ⟨i 0, i 1, eq_ix2 i⟩
  exact cat2 [⟨S4096x4608, o⟩, ⟨S4096x256, X⟩, ⟨S4096x256, Y⟩, ⟨S4096x1792, u⟩] concatenates_S4096x4608_S4096x256_S4096x256_S4096x1792_S4096x6912_d1 r ⟨4864 + d.val, by omega⟩ 2 (Nat.le_of_ble_eq_true rfl) Y rfl 4864 rfl d rfl
end

/-- A gain as a row. -/
def oneRow (g : Vec Ideal S256 .f32) : M 1 256 := fun i => g (ValueIdx.ix1 (i 1))

theorem oneRow_eq (g : Vec Ideal S256 .f32) : (broadcastInDim S1x256 ![1] bcast_S256_S1x256_1 g : Vec Ideal S1x256 .f32) = oneRow g := by
  funext i
  exact broadcastInDim_apply _ _ g i (ValueIdx.ix1 (i 1)) fun a => by fin_cases a; rfl

theorem firstRow_eq (z : Vec Ideal S8x256 .f32) (d : Fin 256) :
    shapeCast S256 (extractStridedSlice S1x256 ![0, 0] z slices_S8x256_S1x256_0_0) shapeCasts_S1x256_S256 (ValueIdx.ix1 d) = z (ix2 0 d) := by
  rw [shapeCast_apply _ _ (ValueIdx.ix1 d) (ix2 (0 : Fin 1) d) (by
      rewrite [Shape.rowMajor_val_one, Shape.rowMajor_val_two]
      show 0 * 256 + d.val = d.val
      omega)]
  exact extractStridedSlice_apply _ z _ (ix2 (0 : Fin 1) d) (ix2 (0 : Fin 8) d) (fun a => by
      match a with
      | ⟨0, _⟩ => rfl
      | ⟨1, _⟩ => exact (Nat.zero_add _).symm)

end Cert.Kernel6Ideal.Latent

end
-- ==== Proof.LatentRun.lean ====
/-
  The latents' gradient, run: what each of its six regions finds and leaves, boundary by boundary, and the six results at the
  end (`run_final`: any execution from a launch memory ends with the arguments as launched and the results at their values).
-/
module

public import proofs.«01_k».proof.Proof.LatentProd
public import proofs.«01_k».proof.Proof.LatentCols
public import proofs.«01_k».proof.Proof.Gen.Kernel6Ideal.Frame
public import proofs.«01_k».proof.Proof.Gen.Reference6Ideal.Read
public import Idealize.ShloMosaic.Lib.StableHlo.Run

@[expose] public section

set_option maxRecDepth 16384

noncomputable section

namespace Cert.Kernel6Ideal.Latent

open Idealize.ShloMosaic Idealize.ShloMosaic.TcCoe Idealize.SL.Sem Idealize.ShloMosaic.Tactic
open Idealize.ShloMosaic.Pipeline (Dat)
open Cert.Kernel6Ideal Cert.Kernel6Ideal.Gen Cert.Mat
open Cert.Kernel4Ideal.Win (zero_bf16)

variable (m : (b : Loc nD τ sig) → Buf (Elt Ideal) b) (ρ : Dev nD → PrngReg) (c : Dev nD)

/-- The launch arrays. -/
abbrev aQ : M 4096 256 := m ((c : Thread nD τ).loc main_arg0)
abbrev aK : M 4096 256 := m ((c : Thread nD τ).loc main_arg1)
abbrev aGq : Vec Ideal S256 .f32 := m ((c : Thread nD τ).loc main_arg2)
abbrev aGk : Vec Ideal S256 .f32 := m ((c : Thread nD τ).loc main_arg3)
abbrev aWq : M 256 768 := m ((c : Thread nD τ).loc main_arg4)
abbrev aWk : M 256 1024 := m ((c : Thread nD τ).loc main_arg5)
abbrev aDq : M 4096 768 := m ((c : Thread nD τ).loc main_arg6)
abbrev aDk : M 4096 1024 := m ((c : Thread nD τ).loc main_arg7)

/-! ## The values -/

/-- The normalised latents, by the same host operations as in the reference; z. -/
abbrev qn : M 4096 256 := Cert.Reference6Ideal.Read.val_main_v15 (F := Ideal) (aQ m c) (aGq m c)
abbrev kn : M 4096 256 := Cert.Reference6Ideal.Read.val_main_v32 (F := Ideal) (aK m c) (aGk m c)
abbrev zArr : M 4096 6912 := zOf (broadcastInDim S4096x4608 ![] bcast_S_S4096x4608 (constant (F := Ideal) S_ .f32 0x00000000#32)) (aQ m c) (aK m c)
  (broadcastInDim S4096x1792 ![] bcast_S_S4096x1792 (constant (F := Ideal) S_ .f32 0x00000000#32))
/-- The gradients of the normalised latents, and of the queries' up-projection over the slots. -/
abbrev dqn : M 4096 256 := fun i => ntAt (slots (aDq m c)) (slots (aWq m c)) (i 0) (i 1)
abbrev dkn : M 4096 256 := fun i => ntAt (aDk m c) (aWk m c) (i 0) (i 1)
abbrev dwq : M 256 1024 := fun i => tnAt (qn m c) (slots (aDq m c)) (i 0) (i 1)

/-- The results. -/
abbrev resQ : M 4096 256 := dxArr (aQ m c) (oneRow (aGq m c)) (dqn m c)
abbrev resK : M 4096 256 := dxArr (aK m c) (oneRow (aGk m c)) (dkn m c)
abbrev resGq : Vec Ideal S256 .f32 := fun i => dgAt (aQ m c) (dqn m c) (i 0)
abbrev resGk : Vec Ideal S256 .f32 := fun i => dgAt (aK m c) (dkn m c) (i 0)
abbrev resWq : M 256 768 := back (dwq m c)
abbrev resWk : M 256 1024 := fun i => tnAt (kn m c) (aDk m c) (i 0) (i 1)

/-! ## Before the first region -/

theorem v1_z : V1 m ρ c main_v2 = zArr m c := by
  show StableHlo.after hostOps0 _ (Proc.devRef .tc main_v2) = _
  after_results
  rfl

theorem v1_qn : V1 m ρ c main_v16 = qn m c := by
  show StableHlo.after hostOps0 _ (Proc.devRef .tc main_v16) = _
  after_results
  rfl

theorem v1_kn : V1 m ρ c main_v30 = kn m c := by
  show StableHlo.after hostOps0 _ (Proc.devRef .tc main_v30) = _
  after_results
  rfl

theorem v1_wq : V1 m ρ c main_v37 = slots (aWq m c) := by
  refine Eq.trans ?_ (layout_eq (aWq m c) shapeCasts_S256x768_S256x4x192 slices_S256x4x192_S256x4x160_0_0_0 slices_S256x4x192_S256x4x32_0_0_160
    (broadcastInDim S256x4x32 ![] bcast_S_S256x4x32 (constant (F := Ideal) S_ .bf16 0x0000#16)) (fun _ => zero_bf16)
    concatenates_S256x4x160_S256x4x32_S256x4x32_S256x4x32_S256x4x256_d2 shapeCasts_S256x4x256_S256x1024)
  show StableHlo.after hostOps0 _ (Proc.devRef .tc main_v37) = _
  after_results
  rfl

theorem v1_dq : V1 m ρ c main_v45 = slots (aDq m c) := by
  refine Eq.trans ?_ (layout_eq (aDq m c) shapeCasts_S4096x768_S4096x4x192 slices_S4096x4x192_S4096x4x160_0_0_0 slices_S4096x4x192_S4096x4x32_0_0_160
    (broadcastInDim S4096x4x32 ![] bcast_S_S4096x4x32 (constant (F := Ideal) S_ .bf16 0x0000#16)) (fun _ => zero_bf16)
    concatenates_S4096x4x160_S4096x4x32_S4096x4x32_S4096x4x32_S4096x4x256_d2 shapeCasts_S4096x4x256_S4096x1024)
  show StableHlo.after hostOps0 _ (Proc.devRef .tc main_v45) = _
  after_results
  rfl

theorem v1_wk : V1 m ρ c main_v38 = aWk m c := by
  show StableHlo.after hostOps0 _ (Proc.devRef .tc main_v38) = _
  after_results
  rfl

theorem v1_dk : V1 m ρ c main_v46 = aDk m c := by
  show StableHlo.after hostOps0 _ (Proc.devRef .tc main_v46) = _
  after_results
  rfl

/-! ## The products -/

theorem v2_dwq : V2 m ρ c main_v47 = dwq m c := by
  have e0 : V1 m ρ c main_v16 = qn m c := v1_qn m ρ c
  have e1 : V1 m ρ c main_v45 = slots (aDq m c) := v1_dq m ρ c
  refine (W2_arr m ρ c 2).trans ((final0 (V1 m ρ) c).trans ?_)
  rw [e0, e1]

theorem v3_dwk : V3 m ρ c main_v48 = resWk m c := by
  have e0 : V2 m ρ c main_v30 = kn m c := (W2_of m ρ c main_v30 (by decide)).trans (v1_kn m ρ c)
  have e1 : V2 m ρ c main_v46 = aDk m c := (W2_of m ρ c main_v46 (by decide)).trans (v1_dk m ρ c)
  refine (W3_arr m ρ c 2).trans ((final1 (V2 m ρ) c).trans ?_)
  rw [e0, e1]

theorem v4_dqn : V4 m ρ c main_v49 = dqn m c := by
  have e0 : V3 m ρ c main_v45 = slots (aDq m c) := ((W3_of m ρ c main_v45 (by decide)).trans (W2_of m ρ c main_v45 (by decide))).trans (v1_dq m ρ c)
  have e1 : V3 m ρ c main_v37 = slots (aWq m c) := ((W3_of m ρ c main_v37 (by decide)).trans (W2_of m ρ c main_v37 (by decide))).trans (v1_wq m ρ c)
  refine (W4_arr m ρ c 2).trans ((final2 (V3 m ρ) c).trans ?_)
  rw [e0, e1]

theorem v5_dkn : V5 m ρ c main_v50 = dkn m c := by
  have e0 : V4 m ρ c main_v46 = aDk m c := ((W4_of m ρ c main_v46 (by decide)).trans ((W3_of m ρ c main_v46 (by decide)).trans (W2_of m ρ c main_v46 (by decide)))).trans (v1_dk m ρ c)
  have e1 : V4 m ρ c main_v38 = aWk m c := ((W4_of m ρ c main_v38 (by decide)).trans ((W3_of m ρ c main_v38 (by decide)).trans (W2_of m ρ c main_v38 (by decide)))).trans (v1_wk m ρ c)
  refine (W5_arr m ρ c 2).trans ((final3 (V4 m ρ) c).trans ?_)
  rw [e0, e1]

/-! ## The norms -/

theorem v6_g : V6 m ρ c main_v51 = oneRow (aGq m c) := by
  have e0 : W5 m ρ c (Proc.devRef .tc main_arg2) = aGq m c := W5_args m ρ c main_arg2 (by decide)
  rw [← e0]
  refine Eq.trans ?_ (oneRow_eq _)
  show StableHlo.after hostOps4 _ (Proc.devRef .tc main_v51) = _
  after_results

theorem v7_x : V7 m ρ c main_v52_0 = resQ m c := by
  have e0 : V6 m ρ c main_v2 = zArr m c := ((W6_of m ρ c main_v2 (by decide)).trans ((W5_of m ρ c main_v2 (by decide)).trans ((W4_of m ρ c main_v2 (by decide)).trans ((W3_of m ρ c main_v2 (by decide)).trans (W2_of m ρ c main_v2 (by decide)))))).trans (v1_z m ρ c)
  have e1 : V6 m ρ c main_v51 = oneRow (aGq m c) := v6_g m ρ c
  have e2 : V6 m ρ c main_v49 = dqn m c := ((W6_of m ρ c main_v49 (by decide)).trans (W5_of m ρ c main_v49 (by decide))).trans (v4_dqn m ρ c)
  refine (W7_arr m ρ c 3).trans ((final4_3 (V6 m ρ) c).trans ?_)
  rw [e0, e1, e2]
  rw [zcol_q _ (aQ m c) (aK m c) _]

theorem v7_g (d : Fin 256) : (V7 m ρ c main_v52_1 : Vec Ideal S8x256 .f32) (ix2 0 d) = dgAt (aQ m c) (dqn m c) d := by
  have e0 : V6 m ρ c main_v2 = zArr m c := ((W6_of m ρ c main_v2 (by decide)).trans ((W5_of m ρ c main_v2 (by decide)).trans ((W4_of m ρ c main_v2 (by decide)).trans ((W3_of m ρ c main_v2 (by decide)).trans (W2_of m ρ c main_v2 (by decide)))))).trans (v1_z m ρ c)
  have e1 : V6 m ρ c main_v49 = dqn m c := ((W6_of m ρ c main_v49 (by decide)).trans (W5_of m ρ c main_v49 (by decide))).trans (v4_dqn m ρ c)
  refine (congrFun (W7_arr m ρ c 4) (ix2 0 d)).trans ((final4_4 (V6 m ρ) c d).trans ?_)
  rw [e0, e1, zcol_q _ (aQ m c) (aK m c) _]

theorem v8_g : V8 m ρ c main_v53 = oneRow (aGk m c) := by
  have e0 : W7 m ρ c (Proc.devRef .tc main_arg3) = aGk m c := W7_args m ρ c main_arg3 (by decide)
  rw [← e0]
  refine Eq.trans ?_ (oneRow_eq _)
  show StableHlo.after hostOps5 _ (Proc.devRef .tc main_v53) = _
  after_results

theorem v9_x : V9 m ρ c main_v54_0 = resK m c := by
  have e0 : V8 m ρ c main_v2 = zArr m c := ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans (W2_of m ρ c main_v2 (by decide)))))))).trans (v1_z m ρ c)
  have e1 : V8 m ρ c main_v53 = oneRow (aGk m c) := v8_g m ρ c
  have e2 : V8 m ρ c main_v50 = dkn m c := ((W8_of m ρ c main_v50 (by decide)).trans ((W7_of m ρ c main_v50 (by decide)).trans (W6_of m ρ c main_v50 (by decide)))).trans (v5_dkn m ρ c)
  refine (W9_arr m ρ c 3).trans ((final5_3 (V8 m ρ) c).trans ?_)
  rw [e0, e1, e2]
  rw [zcol_kv _ (aQ m c) (aK m c) _]

theorem v9_g (d : Fin 256) : (V9 m ρ c main_v54_1 : Vec Ideal S8x256 .f32) (ix2 0 d) = dgAt (aK m c) (dkn m c) d := by
  have e0 : V8 m ρ c main_v2 = zArr m c := ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans (W2_of m ρ c main_v2 (by decide)))))))).trans (v1_z m ρ c)
  have e1 : V8 m ρ c main_v50 = dkn m c := ((W8_of m ρ c main_v50 (by decide)).trans ((W7_of m ρ c main_v50 (by decide)).trans (W6_of m ρ c main_v50 (by decide)))).trans (v5_dkn m ρ c)
  refine (congrFun (W9_arr m ρ c 4) (ix2 0 d)).trans ((final5_4 (V8 m ρ) c d).trans ?_)
  rw [e0, e1, zcol_kv _ (aQ m c) (aK m c) _]

/-! ## The results -/

theorem w10_x : W10 m ρ c (Proc.devRef .tc main_v55) = resQ m c := by
  have e0 : W9 m ρ c (Proc.devRef .tc main_v52_0) = resQ m c := ((W9_of m ρ c main_v52_0 (by decide)).trans (W8_of m ρ c main_v52_0 (by decide))).trans (v7_x m ρ c)
  rw [← e0]
  show StableHlo.after hostOps6 _ (Proc.devRef .tc main_v55) = _
  after_results
  rfl

theorem w10_y : W10 m ρ c (Proc.devRef .tc main_v56) = resK m c := by
  have e0 : W9 m ρ c (Proc.devRef .tc main_v54_0) = resK m c := v9_x m ρ c
  rw [← e0]
  show StableHlo.after hostOps6 _ (Proc.devRef .tc main_v56) = _
  after_results
  rfl

theorem w10_g7 : W10 m ρ c (Proc.devRef .tc main_v58) = resGq m c := by
  have e : W10 m ρ c (Proc.devRef .tc main_v58)
      = shapeCast S256 (extractStridedSlice S1x256 ![0, 0] (V9 m ρ c main_v52_1 : Vec Ideal S8x256 .f32) slices_S8x256_S1x256_0_0) shapeCasts_S1x256_S256 := by
    show StableHlo.after hostOps6 _ (Proc.devRef .tc main_v58) = _
    after_results
    rfl
  have e9 : V9 m ρ c main_v52_1 = V7 m ρ c main_v52_1 := ((W9_of m ρ c main_v52_1 (by decide)).trans (W8_of m ρ c main_v52_1 (by decide)))
  rw [e, e9]
  funext i
  obtain ⟨d, rfl⟩ : ∃ d, i = ValueIdx.ix1 d := ⟨i 0, funext fun a => by fin_cases a; rfl⟩
  exact (firstRow_eq _ d).trans (v7_g m ρ c d)

theorem w10_g9 : W10 m ρ c (Proc.devRef .tc main_v60) = resGk m c := by
  have e : W10 m ρ c (Proc.devRef .tc main_v60)
      = shapeCast S256 (extractStridedSlice S1x256 ![0, 0] (V9 m ρ c main_v54_1 : Vec Ideal S8x256 .f32) slices_S8x256_S1x256_0_0) shapeCasts_S1x256_S256 := by
    show StableHlo.after hostOps6 _ (Proc.devRef .tc main_v60) = _
    after_results
    rfl
  rw [e]
  funext i
  obtain ⟨d, rfl⟩ : ∃ d, i = ValueIdx.ix1 d := ⟨i 0, funext fun a => by fin_cases a; rfl⟩
  exact (firstRow_eq _ d).trans (v9_g m ρ c d)

theorem w10_wq : W10 m ρ c (Proc.devRef .tc main_v65) = resWq m c := by
  have e0 : W9 m ρ c (Proc.devRef .tc main_v47) = dwq m c := ((W9_of m ρ c main_v47 (by decide)).trans ((W8_of m ρ c main_v47 (by decide)).trans ((W7_of m ρ c main_v47 (by decide)).trans ((W6_of m ρ c main_v47 (by decide)).trans ((W5_of m ρ c main_v47 (by decide)).trans ((W4_of m ρ c main_v47 (by decide)).trans (W3_of m ρ c main_v47 (by decide)))))))).trans (v2_dwq m ρ c)
  refine Eq.trans ?_ (back_eq (dwq m c))
  rw [← e0]
  show StableHlo.after hostOps6 _ (Proc.devRef .tc main_v65) = _
  after_results
  rfl

theorem w10_wk : W10 m ρ c (Proc.devRef .tc main_v48) = resWk m c :=
  ((W10_of m ρ c main_v48 (by decide)).trans ((W9_of m ρ c main_v48 (by decide)).trans ((W8_of m ρ c main_v48 (by decide)).trans ((W7_of m ρ c main_v48 (by decide)).trans ((W6_of m ρ c main_v48 (by decide)).trans ((W5_of m ρ c main_v48 (by decide)).trans (W4_of m ρ c main_v48 (by decide)))))))).trans (v3_dwk m ρ c)

end Cert.Kernel6Ideal.Latent

namespace Cert.Kernel6Ideal.Gen

open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe Idealize.ShloMosaic.Tactic
open Idealize.ShloMosaic.Rounds
open Idealize.ShloMosaic.Pipeline (Dat Cfg Window BodyObligation cellOf)
open Cert.Kernel6Ideal.Latent

local notation "𝕄" => MT nD τ sig Unit (Elt Ideal) ℕ (UR sig nD τ) ℕ

variable (m : (b : Loc nD τ sig) → Buf (Elt Ideal) b) (ρ : Dev nD → PrngReg)

set_option backward.isDefEq.respectTransparency.types false in
/-- The run: the arguments end as launched, the results at their values. -/
theorem run_final : θ_run defs (onTc (τ := τ) (main (F := Ideal))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v55) = resQ m c
      ∧ r.2.mem ((c.tc : Thread nD τ).loc main_v56) = resK m c
      ∧ r.2.mem ((c.tc : Thread nD τ).loc main_v58) = resGq m c
      ∧ r.2.mem ((c.tc : Thread nD τ).loc main_v60) = resGk m c
      ∧ r.2.mem ((c.tc : Thread nD τ).loc main_v65) = resWq m c
      ∧ r.2.mem ((c.tc : Thread nD τ).loc main_v48) = resWk m c) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz c => ⟨⟨(h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩,
       (h c _ (mem_uc main_v55 (by decide))).trans (w10_x m ρ c),
       (h c _ (mem_uc main_v56 (by decide))).trans (w10_y m ρ c),
       (h c _ (mem_uc main_v58 (by decide))).trans (w10_g7 m ρ c),
       (h c _ (mem_uc main_v60 (by decide))).trans (w10_g9 m ρ c),
       (h c _ (mem_uc main_v65 (by decide))).trans (w10_wq m ρ c),
       (h c _ (mem_uc main_v48 (by decide))).trans (w10_wk m ρ c)⟩)

end Cert.Kernel6Ideal.Gen

end
-- ==== Proof.LatentMeet.lean ====
/-
  The latents' reference, read out of its program value by value, and what the kernel's results say at the same element. The queries' half of
  the reference is the keys' half at the up-projection and gradient laid out over the slots (`q_dn`), so one reading serves both.
-/
module

public import proofs.«01_k».proof.Proof.LatentRun
public import proofs.«01_k».proof.Proof.Rms
public import proofs.«01_k».proof.Proof.FfnRef

@[expose] public section

set_option maxRecDepth 16384

noncomputable section

namespace Cert.Reference6Ideal.Latent

open Idealize.ShloMosaic Idealize.ShloMosaic.TcCoe Idealize.SL.Sem
open Cert.Reference6Ideal Cert.Reference6Ideal.Gen Cert.Reference6Ideal.Read Cert.Mat
open Cert.Rms (meanSq through minusHalf dx_eq)
open Cert.Kernel6Ideal.Latent (rms width dgAt dxArr oneRow slots back slot slots_slot sum_slots)
open Cert.Reference2Ideal.Ffn (ofBits_zero)

variable (X : Vec Ideal S4096x256 .f32) (g : Vec Ideal S256 .f32) (W : Vec Ideal S256x1024 .f32) (Z : Vec Ideal S4096x1024 .f32)
  (A : Vec Ideal S256x768 .f32) (B : Vec Ideal S4096x768 .f32)

/-- A row of the latent; the gradient of the normalised latent. -/
abbrev row (s : Fin 4096) : Fin 256 → EReal := fun d => X (ix2 s d)
abbrev dN : M 4096 256 := fun i => ntAt Z W (i 0) (i 1)

theorem width_eq : width = ((256 : ℝ) : EReal) := by simp [width, Ideal.ofBits, Ideal.ieee, -EReal.coe_mul]; norm_num

/-! ## The queries' half by the keys' half -/

theorem q_dn : val_main_v59 (F := Ideal) A B = val_main_v36 (F := Ideal) (slots A) (slots B) := by
  funext i
  obtain ⟨s, d, rfl⟩ : ∃ s d, i = ix2 s d := ⟨_, _, eq_ix2 i⟩
  rw [val_main_v59_apply, val_main_v36_apply]
  refine Eq.trans (Finset.sum_congr rfl fun k _ => ?_) ((sum_slots B A s d).symm.trans (Finset.sum_congr rfl fun p _ => ?_))
  · exact congrArg₂ (fun a b : EReal => a * b) (congrArg _ (funext fun a => Fin.ext (by match a with | ⟨0, _⟩ => rfl | ⟨1, _⟩ => rfl))) (congrArg _ (funext fun a => Fin.ext (by match a with | ⟨0, _⟩ => rfl | ⟨1, _⟩ => rfl)))
  · exact congrArg₂ (fun a b : EReal => a * b) (congrArg _ (funext fun a => Fin.ext (by match a with | ⟨0, _⟩ => rfl | ⟨1, _⟩ => rfl))) (congrArg _ (funext fun a => Fin.ext (by match a with | ⟨0, _⟩ => rfl | ⟨1, _⟩ => rfl)))

theorem q_g : val_main_v65 (F := Ideal) X A B = val_main_v42 (F := Ideal) X (slots A) (slots B) := by
  unfold val_main_v65 val_main_v62 val_main_v61 val_main_v60
  rw [q_dn]
  rfl

theorem q_out : val_main_v64 (F := Ideal) g A B = val_main_v41 (F := Ideal) g (slots A) (slots B) := by
  unfold val_main_v64
  rw [q_dn]
  rfl

theorem q_x : val_main_v79 (F := Ideal) X g A B = val_main_v56 (F := Ideal) X g (slots A) (slots B) := by
  unfold val_main_v79 val_main_v78 val_main_v77 val_main_v76 val_main_v75 val_main_v74 val_main_v73 val_main_v71 val_main_v70 val_main_v68 val_main_v67 val_main_v66
  rw [q_out]
  rfl

/-! ## The reference -/

theorem v23_eq (s : Fin 4096) : val_main_v23 (F := Ideal) X (ix2 s 0) = meanSq width (row X s) := by
  rw [val_main_v23_apply, val_main_v21_apply, val_main_v19_apply, val_main_v18_apply, val_main_v20_apply, val_main_v22_apply]
  show Ideal.div (Ideal.ofBits .f32 0x00000000#32 + _) width + _ = _
  rw [ofBits_zero, zero_add]
  refine congrArg (fun S : EReal => Ideal.div S width + Ideal.ofBits .f32 0x358637BD#32) (Finset.sum_congr rfl fun k _ => ?_)
  exact congrArg (fun i => X i * X i) (funext fun a => Fin.ext (by match a with | ⟨0, _⟩ => rfl | ⟨1, _⟩ => rfl))

theorem v24_eq (s : Fin 4096) : val_main_v24 (F := Ideal) X (ix2 s 0) = rms (row X s) := by
  rw [val_main_v24_apply, v23_eq]
  rfl

theorem v29_eq (s : Fin 4096) (d : Fin 256) : val_main_v29 (F := Ideal) X (ix2 s d) = X (ix2 s d) * rms (row X s) := by
  rw [val_main_v29_apply, val_main_v28_apply, ← v24_eq]
  exact congrArg (fun i => X (ix2 s d) * val_main_v24 (F := Ideal) X i) (funext fun a => Fin.ext (by match a with | ⟨0, _⟩ => rfl | ⟨1, _⟩ => rfl))

theorem v36_eq (s : Fin 4096) (d : Fin 256) : val_main_v36 (F := Ideal) W Z (ix2 s d) = ntAt Z W s d := by
  rw [val_main_v36_apply]
  exact Finset.sum_congr rfl fun k _ => congrArg₂ (fun a b : EReal => a * b) (congrArg _ (funext fun a => Fin.ext (by match a with | ⟨0, _⟩ => rfl | ⟨1, _⟩ => rfl))) (congrArg _ (funext fun a => Fin.ext (by match a with | ⟨0, _⟩ => rfl | ⟨1, _⟩ => rfl)))

theorem g_eq (d : Fin 256) : val_main_v42 (F := Ideal) X W Z (ValueIdx.ix1 d) = ∑ s, X (ix2 s d) * rms (row X s) * ntAt Z W s d := by
  rw [val_main_v42_apply, Fin.sum_univ_one, val_main_v39_apply, val_main_v38_apply]
  show Ideal.ofBits .f32 0x00000000#32 + (Ideal.ofBits .f32 0x00000000#32 + _) = _
  rw [ofBits_zero, zero_add, zero_add]
  refine Finset.sum_congr rfl fun k _ => ?_
  rw [show idx_main_v38 (idx_main_v39 (idx_main_v42 (ValueIdx.ix1 d) 0)) k = ix2 k d from (funext fun a => Fin.ext (by
      have := d.isLt
      match a with | ⟨0, _⟩ => rfl | ⟨1, _⟩ => show 0 * 256 + d.val = d.val; omega)),
    val_main_v37_apply, v29_eq, v36_eq]
  rfl

theorem v41_eq (s : Fin 4096) (d : Fin 256) : val_main_v41 (F := Ideal) g W Z (ix2 s d) = ntAt Z W s d * g (ValueIdx.ix1 d) := by
  rw [val_main_v41_apply, v36_eq, val_main_v40_apply, val_main_v30_apply]
  exact congrArg (fun i => ntAt Z W s d * g i) (funext fun a => Fin.ext (by match a with | ⟨0, _⟩ => rfl))

theorem v52_eq (s : Fin 4096) (d : Fin 256) : val_main_v52 (F := Ideal) X g W Z (ix2 s d) = through width (row X s) (fun e => ntAt Z W s e * g (ValueIdx.ix1 e)) := by
  rw [val_main_v52_apply, val_main_v51_apply, Fin.sum_univ_one,
    show idx_main_v51 (idx_main_v52 (ix2 s d)) 0 = ix2 s 0 from (funext fun a => Fin.ext (by match a with | ⟨0, _⟩ => rfl | ⟨1, _⟩ => rfl)),
    val_main_v50_apply, val_main_v48_apply, val_main_v49_apply, val_main_v45_apply, val_main_v44_apply, val_main_v27_apply, val_main_v25_apply,
    v24_eq, v23_eq, val_main_v26_apply]
  show Ideal.ofBits .f32 0x00000000#32 + Ideal.div ((Ideal.ofBits .f32 0x00000000#32 + _) * (minusHalf * Ideal.div _ _)) width = _
  rw [ofBits_zero, zero_add, zero_add]
  unfold through
  refine congrArg (fun S : EReal => Ideal.div (S * (minusHalf * Ideal.div (rms (row X s)) (meanSq width (row X s)))) width) (Finset.sum_congr rfl fun k _ => ?_)
  rw [show idx_main_v44 (idx_main_v45 (ix2 s 0)) k = ix2 s k from (funext fun a => Fin.ext (by
      have := s.isLt
      match a with | ⟨0, _⟩ => show s.val * 1 + 0 = s.val; omega | ⟨1, _⟩ => rfl)),
    val_main_v43_apply, v41_eq]
  rfl

theorem x_eq (s : Fin 4096) (d : Fin 256) : val_main_v56 (F := Ideal) X g W Z (ix2 s d)
    = ntAt Z W s d * g (ValueIdx.ix1 d) * rms (row X s) + X (ix2 s d) * through width (row X s) (fun e => ntAt Z W s e * g (ValueIdx.ix1 e))
      + through width (row X s) (fun e => ntAt Z W s e * g (ValueIdx.ix1 e)) * X (ix2 s d) := by
  rw [val_main_v56_apply, val_main_v55_apply, val_main_v54_apply, val_main_v53_apply, val_main_v47_apply, v41_eq, v52_eq,
    val_main_v46_apply, show idx_main_v46 (ix2 s d) = ix2 s 0 from (funext fun a => Fin.ext (by match a with | ⟨0, _⟩ => rfl | ⟨1, _⟩ => rfl)), v24_eq]
  rfl

/-! ## The kernel -/

theorem meet_gk : (fun i => dgAt X (dN W Z) (i 0) : Vec Ideal S256 .f32) = val_main_v42 (F := Ideal) X W Z := by
  funext i
  obtain ⟨d, rfl⟩ : ∃ d, i = ValueIdx.ix1 d := ⟨i 0, funext fun a => by fin_cases a; rfl⟩
  refine Eq.trans ?_ (g_eq X W Z d).symm
  show dgAt X (dN W Z) d = _
  unfold dgAt
  exact Finset.sum_congr rfl fun s _ => mul_comm _ _

theorem meet_xk : dxArr X (oneRow g) (dN W Z) = val_main_v56 (F := Ideal) X g W Z := by
  funext i
  obtain ⟨s, d, rfl⟩ : ∃ s d, i = ix2 s d := ⟨_, _, eq_ix2 i⟩
  have h := dx_eq (by norm_num) width_eq (row X s) (fun e => ntAt Z W s e * g (ValueIdx.ix1 e)) d 0
  rw [add_zero, zero_add] at h
  exact h.trans (x_eq X g W Z s d).symm

theorem meet_wk : (fun i => tnAt (val_main_v32 (F := Ideal) X g) Z (i 0) (i 1) : M 256 1024) = val_main_v35 (F := Ideal) X g Z := by
  funext i
  obtain ⟨d, f, rfl⟩ : ∃ d f, i = ix2 d f := ⟨_, _, eq_ix2 i⟩
  rw [val_main_v35_apply, val_main_v34_apply]
  show tnAt (val_main_v32 (F := Ideal) X g) Z d f = _
  refine Finset.sum_congr rfl fun k _ => (mul_comm _ _).trans ?_
  exact congrArg₂ (fun a b : EReal => a * b) (congrArg _ (funext fun a => Fin.ext (by match a with | ⟨0, _⟩ => rfl | ⟨1, _⟩ => rfl))) (congrArg _ (funext fun a => Fin.ext (by match a with | ⟨0, _⟩ => rfl | ⟨1, _⟩ => rfl)))

theorem meet_gq : (fun i => dgAt X (dN (slots A) (slots B)) (i 0) : Vec Ideal S256 .f32) = val_main_v65 (F := Ideal) X A B :=
  (meet_gk X (slots A) (slots B)).trans (q_g X A B).symm

theorem meet_xq : dxArr X (oneRow g) (dN (slots A) (slots B)) = val_main_v79 (F := Ideal) X g A B :=
  (meet_xk X g (slots A) (slots B)).trans (q_x X g A B).symm

theorem meet_wq : back (fun i => tnAt (val_main_v15 (F := Ideal) X g) (slots B) (i 0) (i 1) : M 256 1024) = val_main_v58 (F := Ideal) X g B := by
  funext i
  obtain ⟨d, f, rfl⟩ : ∃ d f, i = ix2 d f := ⟨_, _, eq_ix2 i⟩
  rw [val_main_v58_apply, val_main_v57_apply]
  show tnAt (val_main_v15 (F := Ideal) X g) (slots B) d (slot f) = _
  refine Finset.sum_congr rfl fun k _ => ?_
  rw [slots_slot]
  exact (mul_comm _ _).trans (congrArg₂ (fun a b : EReal => a * b) (congrArg _ (funext fun a => Fin.ext (by match a with | ⟨0, _⟩ => rfl | ⟨1, _⟩ => rfl))) (congrArg _ (funext fun a => Fin.ext (by match a with | ⟨0, _⟩ => rfl | ⟨1, _⟩ => rfl))))

end Cert.Reference6Ideal.Latent

end
-- ==== Proof.LatentClaim.lean ====
/-
  The latents' gradient: the reference's frame, and the equality of kernel and reference over the extended reals.
-/
module

public import proofs.«01_k».proof.Defs
public import proofs.«01_k».proof.Proof.LatentMeet
public import proofs.«01_k».proof.Proof.Gen.Reference6Ideal.Run
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

theorem latent_frame_ri : Cert.quiescent_Reference6Ideal := fun m ρ _ =>
  (θ_run Cert.Reference6Ideal.defs _ _).mono (fun r h => ⟨fun c => (h c).2.2.2.2.2.2,
      Idealize.ShloMosaic.sem_eq_zero_of_no_sems (by decide) r.2⟩)
    (Cert.Reference6Ideal.Value.run (F := Ideal) m ρ)

theorem latent_algebraic : Cert.algebraic_Kernel6Ideal_Reference6Ideal := by
  intro m ρ m' ρ' hpre hagree
  refine ⟨fun c => Cert.Kernel6Ideal.Latent.resQ m c, fun c => Cert.Kernel6Ideal.Latent.resK m c, fun c => Cert.Kernel6Ideal.Latent.resGq m c, fun c => Cert.Kernel6Ideal.Latent.resGk m c, fun c => Cert.Kernel6Ideal.Latent.resWq m c, fun c => Cert.Kernel6Ideal.Latent.resWk m c,
    (θ_run Cert.Kernel6Ideal.defs _ _).mono (fun r h c => by
      obtain ⟨kept, h0, h1, h2, h3, h4, h5⟩ := h c
      exact ⟨h0, h1, h2, h3, h4, h5, kept⟩) (Cert.Kernel6Ideal.Gen.run_final m ρ), ?_⟩
  refine (θ_run Cert.Reference6Ideal.defs _ _).mono (fun _ h c => ?_) (Cert.Reference6Ideal.Value.run (F := Ideal) m' ρ')
  obtain ⟨h0, h1, h2, h3, h4, h5, hkept⟩ := h c
  obtain ⟨a0, a1, a2, a3, a4, a5, a6, a7⟩ := hagree c
  refine ⟨h0.trans ((Cert.Reference6Ideal.Read.val_main_v79_eq m' c).trans ?_),
    h1.trans ((Cert.Reference6Ideal.Read.val_main_v56_eq m' c).trans ?_),
    h2.trans ((Cert.Reference6Ideal.Read.val_main_v65_eq _ _ _).trans ?_),
    h3.trans ((Cert.Reference6Ideal.Read.val_main_v42_eq _ _ _).trans ?_),
    h4.trans ((Cert.Reference6Ideal.Read.val_main_v58_eq _ _ _).trans ?_),
    h5.trans ((Cert.Reference6Ideal.Read.val_main_v35_eq _ _ _).trans ?_), hkept⟩
  · rw [a0, a2, a4, a6]; exact (Cert.Reference6Ideal.Latent.meet_xq _ _ _ _).symm
  · rw [a1, a3, a5, a7]; exact (Cert.Reference6Ideal.Latent.meet_xk _ _ _ _).symm
  · rw [a0, a4, a6]; exact (Cert.Reference6Ideal.Latent.meet_gq _ _ _).symm
  · rw [a1, a5, a7]; exact (Cert.Reference6Ideal.Latent.meet_gk _ _ _).symm
  · rw [a0, a2, a6]; exact (Cert.Reference6Ideal.Latent.meet_wq _ _ _).symm
  · rw [a1, a3, a7]; exact (Cert.Reference6Ideal.Latent.meet_wk _ _ _).symm

end Cert.Proof

end
-- ==== Proof.AdamRun.lean ====
/-
  The optimiser's step of the weights that every device holds whole, as the kernel computes it (`Ideal`): the three arrays the call
  writes are `delta`, `newM` and `newV` of the four packed arrays it reads (`final4` … `final6`); the packing laid out and read back
  gives each weight's own array (`back`); so each result is the same function of the weight's own arrays (`res0` … `res12`).
-/
module

public import proofs.«01_k».proof.Proof.Gen.Kernel7Ideal.Frame
public import Idealize.ShloMosaic.Lib.Pipeline.Value
public import Idealize.ShloMosaic.Lib.KernelVsHost
public import Idealize.ShloMosaic.Lib.Pointwise
public import Idealize.ShloMosaic.Lib.Pipeline.ValueKit
public import Idealize.ShloMosaic.Lib.StableHlo.Run

@[expose] public section

set_option maxRecDepth 16384

noncomputable section

namespace Cert.Kernel7Ideal.Adam

open Idealize.ShloMosaic Idealize.ShloMosaic.TcCoe Idealize.SL.Sem Idealize.ShloMosaic.Tactic
open Idealize.ShloMosaic.Pipeline (Dat)
open Cert.Kernel7Ideal Cert.Kernel7Ideal.Gen

/-! ## One step, entry by entry -/

section
variable {s : Shape} (w g m v : FVec Ideal s .f32)

/-- The new first moment. -/
def newM : FVec Ideal s .f32 := fun i => Ideal.ofBits .f32 0x3F666666#32 * m i + Ideal.ofBits .f32 0x3DCCCCCD#32 * g i

/-- The new second moment. -/
def newV : FVec Ideal s .f32 := fun i => Ideal.ofBits .f32 0x3F7FBE77#32 * v i + Ideal.ofBits .f32 0x3A83126F#32 * (g i * g i)

/-- The step. -/
def delta : FVec Ideal s .f32 := fun i => Ideal.ofBits .f32 0xBA83126F#32 * (Ideal.div (Ideal.div (newM g m i) (Ideal.ofBits .f32 0x3F26BD02#32))
  (Ideal.sqrt (Ideal.div (newV g v i) (Ideal.ofBits .f32 0x3C231ACC#32)) + Ideal.ofBits .f32 0x322BCC77#32) + Ideal.ofBits .f32 0x3C23D70A#32 * w i)

end

/-! ## The three arrays the call writes -/

variable (m : (ℓ : Loc nD τ sig) → Buf (Elt Ideal) ℓ) (c : Dev nD)

theorem pay2_eq (g a : Vec Ideal S16x128 .f32) : k0_pay2 g a = newM g a := by
  unfold k0_pay2 k0_pay1; rw [shapeCast_self, shapeCast_self]; rfl

theorem pay3_eq (g b : Vec Ideal S16x128 .f32) : k0_pay3 g b = newV g b := by
  unfold k0_pay3 k0_pay1; rw [shapeCast_self, shapeCast_self]; rfl

theorem pay4_eq (w g a b : Vec Ideal S16x128 .f32) : k0_pay4 g a b w = delta w g a b := by
  unfold k0_pay4; rw [shapeCast_self, pay2_eq, pay3_eq]; rfl

theorem final4 : (dats m 0 c).arrAt 4 cfg0.N = delta (V m c main_v15) (V m c main_v31) (V m c main_v47) (V m c main_v63) := by
  refine (dats m 0 c).arrAt_eq_of_covers 4 _ (by decide +kernel) fun t hf y => ?_
  blk_simp; rw [after0_4]; frame_out
  rw [pay4_eq]; rfl

theorem final5 : (dats m 0 c).arrAt 5 cfg0.N = newM (V m c main_v31) (V m c main_v47) := by
  refine (dats m 0 c).arrAt_eq_of_covers 5 _ (by decide +kernel) fun t hf y => ?_
  blk_simp; rw [after0_5]; frame_out
  rw [pay2_eq]; rfl

theorem final6 : (dats m 0 c).arrAt 6 cfg0.N = newV (V m c main_v31) (V m c main_v63) := by
  refine (dats m 0 c).arrAt_eq_of_covers 6 _ (by decide +kernel) fun t hf y => ?_
  blk_simp; rw [after0_6]; frame_out
  rw [pay3_eq]; rfl

/-! ## The packing -/

/-- Arrays laid end to end, with zeros behind, in rows of 128. -/
abbrev pk (xs : List ((s : Shape) × (s.Idx → EReal))) (h : Shape.Concatenates (xs.map (·.1)) S33824 0) : Vec Ideal S272x128 .f32 :=
  shapeCast S272x128 (pad S34816 ![0] ![992] ![0] (concatenate S33824 0 xs h) (sitofp (F := Ideal) .f32 (constantI S_ 32 0#32))
    pads_S33824_S34816_09920 h_S_) shapeCasts_S34816_S272x128

/-- `n` entries from entry `o` on, as an array of shape `s`. -/
abbrev un {s : Shape} {n o : ℕ} (h : S34816.Slices ![o] ⟨1, ![n]⟩) (h' : Shape.ShapeCasts ⟨1, ![n]⟩ s) (y : Vec Ideal S272x128 .f32) : Vec Ideal s .f32 :=
  shapeCast s (extractStridedSlice ⟨1, ![n]⟩ ![o] (shapeCast S34816 y shapeCasts_S272x128_S34816) h) h'

/-- The pieces' shapes, in their order. -/
abbrev pieces : List Shape := [S4096, S4096, S256, S256, S14880, S1024, S1024, S512, S1024, S1024, S768, S768, S4096]

/-- What is read back at a piece's place is the piece. -/
theorem back {s : Shape} {n o : ℕ} (h : S34816.Slices ![o] ⟨1, ![n]⟩) (h' : Shape.ShapeCasts ⟨1, ![n]⟩ s) (a : s.Idx → EReal) (h0 : Shape.ShapeCasts s ⟨1, ![n]⟩)
    (xs : List ((s : Shape) × (s.Idx → EReal))) (hc : Shape.Concatenates (xs.map (·.1)) S33824 0) (k : ℕ) (hk : k < xs.length)
    (hx : xs[k] = ⟨⟨1, ![n]⟩, shapeCast ⟨1, ![n]⟩ a h0⟩)
    (hL : xs.map (·.1) = pieces)
    (hpre : ((pieces.take k).map fun s => if h : s.rank = S33824.rank then s.size ((0 : Fin S33824.rank).cast h.symm) else 0).sum = o)
    (hn : o + n ≤ 33824) : un h h' (pk xs hc) = a := by
  have e : extractStridedSlice ⟨1, ![n]⟩ ![o] (shapeCast S34816 (pk xs hc) shapeCasts_S272x128_S34816) h = shapeCast ⟨1, ![n]⟩ a h0 := by
    unfold pk
    rw [shapeCast_shapeCast]
    funext j
    have hj : (j 0).val < n := (j 0).isLt
    rw [extractStridedSlice_apply _ _ _ j (ValueIdx.ix1 ⟨o + (j 0).val, by omega⟩) (fun a => by match a with | ⟨0, _⟩ => rfl),
      pad_apply_of_inside _ _ _ _ _ _ _ _ (ValueIdx.ix1 ⟨o + (j 0).val, by omega⟩) (fun a => by match a with | ⟨0, _⟩ => show o + (j 0).val = 0 + (o + (j 0).val) * 1; omega)]
    exact concatenate_apply_piece (t := S33824) 0 xs hc _ k hk _ _ hx rfl o (by rw [List.map_take, hL]; exact hpre) j (fun b hb => by match b with | ⟨0, _⟩ => exact absurd rfl hb) rfl
  rw [un, e, shapeCast_shapeCast]

/-- What the buffer `r` of the device holds at the start. -/
abbrev A (r : Ref sig .tc) := m ((c.tc : Thread nD τ).loc r)

/-- The thirteen arrays, flattened. -/
abbrev flat (a0 : S4x1024.Idx → EReal) (a1 : S4x1024.Idx → EReal) (a2 : S4x64.Idx → EReal) (a3 : S4x64.Idx → EReal) (a4 : S4x8x15x31.Idx → EReal) (a5 : S4x256.Idx → EReal) (a6 : S4x256.Idx → EReal) (a7 : S4x128.Idx → EReal) (a8 : S4x256.Idx → EReal) (a9 : S4x256.Idx → EReal) (a10 : S4x192.Idx → EReal) (a11 : S4x192.Idx → EReal) (a12 : S4x1024.Idx → EReal) : List ((s : Shape) × (s.Idx → EReal)) :=
  [⟨_, shapeCast _ a0 shapeCasts_S4x1024_S4096⟩, ⟨_, shapeCast _ a1 shapeCasts_S4x1024_S4096⟩, ⟨_, shapeCast _ a2 shapeCasts_S4x64_S256⟩, ⟨_, shapeCast _ a3 shapeCasts_S4x64_S256⟩, ⟨_, shapeCast _ a4 shapeCasts_S4x8x15x31_S14880⟩, ⟨_, shapeCast _ a5 shapeCasts_S4x256_S1024⟩, ⟨_, shapeCast _ a6 shapeCasts_S4x256_S1024⟩, ⟨_, shapeCast _ a7 shapeCasts_S4x128_S512⟩, ⟨_, shapeCast _ a8 shapeCasts_S4x256_S1024⟩, ⟨_, shapeCast _ a9 shapeCasts_S4x256_S1024⟩, ⟨_, shapeCast _ a10 shapeCasts_S4x192_S768⟩, ⟨_, shapeCast _ a11 shapeCasts_S4x192_S768⟩, ⟨_, shapeCast _ a12 shapeCasts_S4x1024_S4096⟩]

abbrev L0 := flat (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12)

theorem pk0_eq : V m c main_v15 = pk (L0 m c) concatenates_S4096_S4096_S256_S256_S14880_S1024_S1024_S512_S1024_S1024_S768_S768_S4096_S33824_d0 := by
  show V0 m c (Proc.devRef .tc main_v15) = _
  simp only [V0, List.flatten_cons, List.flatten_nil, List.cons_append, List.nil_append]
  after_results
  rfl

abbrev L1 := flat (A m c main_arg13) (A m c main_arg14) (A m c main_arg15) (A m c main_arg16) (A m c main_arg17) (A m c main_arg18) (A m c main_arg19) (A m c main_arg20) (A m c main_arg21) (A m c main_arg22) (A m c main_arg23) (A m c main_arg24) (A m c main_arg25)

theorem pk1_eq : V m c main_v31 = pk (L1 m c) concatenates_S4096_S4096_S256_S256_S14880_S1024_S1024_S512_S1024_S1024_S768_S768_S4096_S33824_d0 := by
  show V0 m c (Proc.devRef .tc main_v31) = _
  simp only [V0, List.flatten_cons, List.flatten_nil, List.cons_append, List.nil_append]
  after_results
  rfl

abbrev L2 := flat (A m c main_arg26) (A m c main_arg27) (A m c main_arg28) (A m c main_arg29) (A m c main_arg30) (A m c main_arg31) (A m c main_arg32) (A m c main_arg33) (A m c main_arg34) (A m c main_arg35) (A m c main_arg36) (A m c main_arg37) (A m c main_arg38)

theorem pk2_eq : V m c main_v47 = pk (L2 m c) concatenates_S4096_S4096_S256_S256_S14880_S1024_S1024_S512_S1024_S1024_S768_S768_S4096_S33824_d0 := by
  show V0 m c (Proc.devRef .tc main_v47) = _
  simp only [V0, List.flatten_cons, List.flatten_nil, List.cons_append, List.nil_append]
  after_results
  rfl

abbrev L3 := flat (A m c main_arg39) (A m c main_arg40) (A m c main_arg41) (A m c main_arg42) (A m c main_arg43) (A m c main_arg44) (A m c main_arg45) (A m c main_arg46) (A m c main_arg47) (A m c main_arg48) (A m c main_arg49) (A m c main_arg50) (A m c main_arg51)

theorem pk3_eq : V m c main_v63 = pk (L3 m c) concatenates_S4096_S4096_S256_S256_S14880_S1024_S1024_S512_S1024_S1024_S768_S768_S4096_S33824_d0 := by
  show V0 m c (Proc.devRef .tc main_v63) = _
  simp only [V0, List.flatten_cons, List.flatten_nil, List.cons_append, List.nil_append]
  after_results
  rfl

/-! ## The results -/

/-- What the device holds when the call has returned. -/
abbrev Z : Valuation τ sig (Elt Ideal) := Pipeline.withArrays spec0 c (V0 m c) (fun w => (dats m 0 c).arrAt w cfg0.N)

theorem Z4 : Z m c (Proc.devRef .tc main_v64_0) = delta (V m c main_v15) (V m c main_v31) (V m c main_v47) (V m c main_v63) :=
  (Pipeline.withArrays_arr spec0 winFacts0.arr_inj c (V0 m c) _ 4).trans (final4 m c)

theorem Z5 : Z m c (Proc.devRef .tc main_v64_1) = newM (V m c main_v31) (V m c main_v47) :=
  (Pipeline.withArrays_arr spec0 winFacts0.arr_inj c (V0 m c) _ 5).trans (final5 m c)

theorem Z6 : Z m c (Proc.devRef .tc main_v64_2) = newV (V m c main_v31) (V m c main_v63) :=
  (Pipeline.withArrays_arr spec0 winFacts0.arr_inj c (V0 m c) _ 6).trans (final6 m c)

/-- What a buffer holds at the end. -/
abbrev End (r : Ref sig .tc) := Pipeline.afterTail₀ cfgs (dats m) 0 (V0 m) [hostOps1] c r

theorem meet_of {α β γ : Type} {a a' : α} {b b' : β} {d d' : γ} {x : α} (h : a = a' ∧ b = b' ∧ d = d') {y : β} {z : γ} (k : a' = x ∧ b' = y ∧ d' = z) :
    a = x ∧ b = y ∧ d = z := ⟨h.1.trans k.1, h.2.1.trans k.2.1, h.2.2.trans k.2.2⟩

/-- Reading back commutes with a step, so the results at a piece's place are those of the pieces there. -/
theorem at_piece {s : Shape} {n o : ℕ} (h : S34816.Slices ![o] ⟨1, ![n]⟩) (h' : Shape.ShapeCasts ⟨1, ![n]⟩ s) (w g a b : FVec Ideal s .f32)
    (h0 : Shape.ShapeCasts s ⟨1, ![n]⟩) (k : ℕ) (hk : k < 13)
    (x0 : (L0 m c)[k]'hk = ⟨⟨1, ![n]⟩, shapeCast ⟨1, ![n]⟩ w h0⟩) (x1 : (L1 m c)[k]'hk = ⟨⟨1, ![n]⟩, shapeCast ⟨1, ![n]⟩ g h0⟩)
    (x2 : (L2 m c)[k]'hk = ⟨⟨1, ![n]⟩, shapeCast ⟨1, ![n]⟩ a h0⟩) (x3 : (L3 m c)[k]'hk = ⟨⟨1, ![n]⟩, shapeCast ⟨1, ![n]⟩ b h0⟩)
    (hpre : ((pieces.take k).map fun s => if h : s.rank = S33824.rank then s.size ((0 : Fin S33824.rank).cast h.symm) else 0).sum = o)
    (hn : o + n ≤ 33824) :
    un h h' (Z m c (Proc.devRef .tc main_v64_0)) = delta w g a b ∧ un h h' (Z m c (Proc.devRef .tc main_v64_1)) = newM g a
      ∧ un h h' (Z m c (Proc.devRef .tc main_v64_2)) = newV g b := by
  have e0 := (congrArg (un h h') (pk0_eq m c)).trans (back h h' w h0 _ _ k hk x0 rfl hpre hn)
  have e1 := (congrArg (un h h') (pk1_eq m c)).trans (back h h' g h0 _ _ k hk x1 rfl hpre hn)
  have e2 := (congrArg (un h h') (pk2_eq m c)).trans (back h h' a h0 _ _ k hk x2 rfl hpre hn)
  have e3 := (congrArg (un h h') (pk3_eq m c)).trans (back h h' b h0 _ _ k hk x3 rfl hpre hn)
  rw [Z4, Z5, Z6, ← e0, ← e1, ← e2, ← e3]
  exact ⟨rfl, rfl, rfl⟩

theorem res0 : End m c main_v67 = delta (A m c main_arg0) (A m c main_arg13) (A m c main_arg26) (A m c main_arg39)
    ∧ End m c main_v70 = newM (A m c main_arg13) (A m c main_arg26) ∧ End m c main_v73 = newV (A m c main_arg13) (A m c main_arg39) := by
  refine meet_of ⟨?_, ?_, ?_⟩ (at_piece m c slices_S34816_S4096_0 shapeCasts_S4096_S4x1024 _ _ _ _ _ 0 (by decide) rfl rfl rfl rfl (by decide +kernel) (by decide)) <;>
    (show StableHlo.after hostOps1 _ _ = _; after_results; rfl)

theorem res1 : End m c main_v76 = delta (A m c main_arg1) (A m c main_arg14) (A m c main_arg27) (A m c main_arg40)
    ∧ End m c main_v79 = newM (A m c main_arg14) (A m c main_arg27) ∧ End m c main_v82 = newV (A m c main_arg14) (A m c main_arg40) := by
  refine meet_of ⟨?_, ?_, ?_⟩ (at_piece m c slices_S34816_S4096_4096 shapeCasts_S4096_S4x1024 _ _ _ _ _ 1 (by decide) rfl rfl rfl rfl (by decide +kernel) (by decide)) <;>
    (show StableHlo.after hostOps1 _ _ = _; after_results; rfl)

theorem res2 : End m c main_v85 = delta (A m c main_arg2) (A m c main_arg15) (A m c main_arg28) (A m c main_arg41)
    ∧ End m c main_v88 = newM (A m c main_arg15) (A m c main_arg28) ∧ End m c main_v91 = newV (A m c main_arg15) (A m c main_arg41) := by
  refine meet_of ⟨?_, ?_, ?_⟩ (at_piece m c slices_S34816_S256_8192 shapeCasts_S256_S4x64 _ _ _ _ _ 2 (by decide) rfl rfl rfl rfl (by decide +kernel) (by decide)) <;>
    (show StableHlo.after hostOps1 _ _ = _; after_results; rfl)

theorem res3 : End m c main_v94 = delta (A m c main_arg3) (A m c main_arg16) (A m c main_arg29) (A m c main_arg42)
    ∧ End m c main_v97 = newM (A m c main_arg16) (A m c main_arg29) ∧ End m c main_v100 = newV (A m c main_arg16) (A m c main_arg42) := by
  refine meet_of ⟨?_, ?_, ?_⟩ (at_piece m c slices_S34816_S256_8448 shapeCasts_S256_S4x64 _ _ _ _ _ 3 (by decide) rfl rfl rfl rfl (by decide +kernel) (by decide)) <;>
    (show StableHlo.after hostOps1 _ _ = _; after_results; rfl)

theorem res4 : End m c main_v103 = delta (A m c main_arg4) (A m c main_arg17) (A m c main_arg30) (A m c main_arg43)
    ∧ End m c main_v106 = newM (A m c main_arg17) (A m c main_arg30) ∧ End m c main_v109 = newV (A m c main_arg17) (A m c main_arg43) := by
  refine meet_of ⟨?_, ?_, ?_⟩ (at_piece m c slices_S34816_S14880_8704 shapeCasts_S14880_S4x8x15x31 _ _ _ _ _ 4 (by decide) rfl rfl rfl rfl (by decide +kernel) (by decide)) <;>
    (show StableHlo.after hostOps1 _ _ = _; after_results; rfl)

theorem res5 : End m c main_v112 = delta (A m c main_arg5) (A m c main_arg18) (A m c main_arg31) (A m c main_arg44)
    ∧ End m c main_v115 = newM (A m c main_arg18) (A m c main_arg31) ∧ End m c main_v118 = newV (A m c main_arg18) (A m c main_arg44) := by
  refine meet_of ⟨?_, ?_, ?_⟩ (at_piece m c slices_S34816_S1024_23584 shapeCasts_S1024_S4x256 _ _ _ _ _ 5 (by decide) rfl rfl rfl rfl (by decide +kernel) (by decide)) <;>
    (show StableHlo.after hostOps1 _ _ = _; after_results; rfl)

theorem res6 : End m c main_v121 = delta (A m c main_arg6) (A m c main_arg19) (A m c main_arg32) (A m c main_arg45)
    ∧ End m c main_v124 = newM (A m c main_arg19) (A m c main_arg32) ∧ End m c main_v127 = newV (A m c main_arg19) (A m c main_arg45) := by
  refine meet_of ⟨?_, ?_, ?_⟩ (at_piece m c slices_S34816_S1024_24608 shapeCasts_S1024_S4x256 _ _ _ _ _ 6 (by decide) rfl rfl rfl rfl (by decide +kernel) (by decide)) <;>
    (show StableHlo.after hostOps1 _ _ = _; after_results; rfl)

theorem res7 : End m c main_v130 = delta (A m c main_arg7) (A m c main_arg20) (A m c main_arg33) (A m c main_arg46)
    ∧ End m c main_v133 = newM (A m c main_arg20) (A m c main_arg33) ∧ End m c main_v136 = newV (A m c main_arg20) (A m c main_arg46) := by
  refine meet_of ⟨?_, ?_, ?_⟩ (at_piece m c slices_S34816_S512_25632 shapeCasts_S512_S4x128 _ _ _ _ _ 7 (by decide) rfl rfl rfl rfl (by decide +kernel) (by decide)) <;>
    (show StableHlo.after hostOps1 _ _ = _; after_results; rfl)

theorem res8 : End m c main_v139 = delta (A m c main_arg8) (A m c main_arg21) (A m c main_arg34) (A m c main_arg47)
    ∧ End m c main_v142 = newM (A m c main_arg21) (A m c main_arg34) ∧ End m c main_v145 = newV (A m c main_arg21) (A m c main_arg47) := by
  refine meet_of ⟨?_, ?_, ?_⟩ (at_piece m c slices_S34816_S1024_26144 shapeCasts_S1024_S4x256 _ _ _ _ _ 8 (by decide) rfl rfl rfl rfl (by decide +kernel) (by decide)) <;>
    (show StableHlo.after hostOps1 _ _ = _; after_results; rfl)

theorem res9 : End m c main_v148 = delta (A m c main_arg9) (A m c main_arg22) (A m c main_arg35) (A m c main_arg48)
    ∧ End m c main_v151 = newM (A m c main_arg22) (A m c main_arg35) ∧ End m c main_v154 = newV (A m c main_arg22) (A m c main_arg48) := by
  refine meet_of ⟨?_, ?_, ?_⟩ (at_piece m c slices_S34816_S1024_27168 shapeCasts_S1024_S4x256 _ _ _ _ _ 9 (by decide) rfl rfl rfl rfl (by decide +kernel) (by decide)) <;>
    (show StableHlo.after hostOps1 _ _ = _; after_results; rfl)

theorem res10 : End m c main_v157 = delta (A m c main_arg10) (A m c main_arg23) (A m c main_arg36) (A m c main_arg49)
    ∧ End m c main_v160 = newM (A m c main_arg23) (A m c main_arg36) ∧ End m c main_v163 = newV (A m c main_arg23) (A m c main_arg49) := by
  refine meet_of ⟨?_, ?_, ?_⟩ (at_piece m c slices_S34816_S768_28192 shapeCasts_S768_S4x192 _ _ _ _ _ 10 (by decide) rfl rfl rfl rfl (by decide +kernel) (by decide)) <;>
    (show StableHlo.after hostOps1 _ _ = _; after_results; rfl)

theorem res11 : End m c main_v166 = delta (A m c main_arg11) (A m c main_arg24) (A m c main_arg37) (A m c main_arg50)
    ∧ End m c main_v169 = newM (A m c main_arg24) (A m c main_arg37) ∧ End m c main_v172 = newV (A m c main_arg24) (A m c main_arg50) := by
  refine meet_of ⟨?_, ?_, ?_⟩ (at_piece m c slices_S34816_S768_28960 shapeCasts_S768_S4x192 _ _ _ _ _ 11 (by decide) rfl rfl rfl rfl (by decide +kernel) (by decide)) <;>
    (show StableHlo.after hostOps1 _ _ = _; after_results; rfl)

theorem res12 : End m c main_v175 = delta (A m c main_arg12) (A m c main_arg25) (A m c main_arg38) (A m c main_arg51)
    ∧ End m c main_v178 = newM (A m c main_arg25) (A m c main_arg38) ∧ End m c main_v181 = newV (A m c main_arg25) (A m c main_arg51) := by
  refine meet_of ⟨?_, ?_, ?_⟩ (at_piece m c slices_S34816_S4096_29728 shapeCasts_S4096_S4x1024 _ _ _ _ _ 12 (by decide) rfl rfl rfl rfl (by decide +kernel) (by decide)) <;>
    (show StableHlo.after hostOps1 _ _ = _; after_results; rfl)

end Cert.Kernel7Ideal.Adam

end
-- ==== Proof.AdamClaim.lean ====
/-
  The optimiser's step: the reference's frame, and the equality of kernel and reference over the extended reals.
-/
module

public import proofs.«01_k».proof.Defs
public import proofs.«01_k».proof.Proof.AdamRun
public import proofs.«01_k».proof.Proof.Gen.Reference7Ideal.Run
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.Kernel7Ideal Cert.Kernel7Ideal.Adam

theorem adam_frame_ri : Cert.quiescent_Reference7Ideal := fun m ρ _ =>
  (θ_run Cert.Reference7Ideal.defs _ _).mono (fun r h => ⟨fun c => (h c).2.2.2.2.2.2.2.2.2.2.2.2.2.2.2.2.2.2.2.2.2.2.2.2.2.2.2.2.2.2.2.2.2.2.2.2.2.2.2,
      Idealize.ShloMosaic.sem_eq_zero_of_no_sems (by decide) r.2⟩)
    (Cert.Reference7Ideal.Value.run (F := Ideal) m ρ)

theorem adam_algebraic : Cert.algebraic_Kernel7Ideal_Reference7Ideal := by
  intro m ρ m' ρ' hpre hagree
  refine ⟨fun c => delta (A m c main_arg0) (A m c main_arg13) (A m c main_arg26) (A m c main_arg39),
    fun c => delta (A m c main_arg1) (A m c main_arg14) (A m c main_arg27) (A m c main_arg40),
    fun c => delta (A m c main_arg2) (A m c main_arg15) (A m c main_arg28) (A m c main_arg41),
    fun c => delta (A m c main_arg3) (A m c main_arg16) (A m c main_arg29) (A m c main_arg42),
    fun c => delta (A m c main_arg4) (A m c main_arg17) (A m c main_arg30) (A m c main_arg43),
    fun c => delta (A m c main_arg5) (A m c main_arg18) (A m c main_arg31) (A m c main_arg44),
    fun c => delta (A m c main_arg6) (A m c main_arg19) (A m c main_arg32) (A m c main_arg45),
    fun c => delta (A m c main_arg7) (A m c main_arg20) (A m c main_arg33) (A m c main_arg46),
    fun c => delta (A m c main_arg8) (A m c main_arg21) (A m c main_arg34) (A m c main_arg47),
    fun c => delta (A m c main_arg9) (A m c main_arg22) (A m c main_arg35) (A m c main_arg48),
    fun c => delta (A m c main_arg10) (A m c main_arg23) (A m c main_arg36) (A m c main_arg49),
    fun c => delta (A m c main_arg11) (A m c main_arg24) (A m c main_arg37) (A m c main_arg50),
    fun c => delta (A m c main_arg12) (A m c main_arg25) (A m c main_arg38) (A m c main_arg51),
    fun c => newM (A m c main_arg13) (A m c main_arg26),
    fun c => newM (A m c main_arg14) (A m c main_arg27),
    fun c => newM (A m c main_arg15) (A m c main_arg28),
    fun c => newM (A m c main_arg16) (A m c main_arg29),
    fun c => newM (A m c main_arg17) (A m c main_arg30),
    fun c => newM (A m c main_arg18) (A m c main_arg31),
    fun c => newM (A m c main_arg19) (A m c main_arg32),
    fun c => newM (A m c main_arg20) (A m c main_arg33),
    fun c => newM (A m c main_arg21) (A m c main_arg34),
    fun c => newM (A m c main_arg22) (A m c main_arg35),
    fun c => newM (A m c main_arg23) (A m c main_arg36),
    fun c => newM (A m c main_arg24) (A m c main_arg37),
    fun c => newM (A m c main_arg25) (A m c main_arg38),
    fun c => newV (A m c main_arg13) (A m c main_arg39),
    fun c => newV (A m c main_arg14) (A m c main_arg40),
    fun c => newV (A m c main_arg15) (A m c main_arg41),
    fun c => newV (A m c main_arg16) (A m c main_arg42),
    fun c => newV (A m c main_arg17) (A m c main_arg43),
    fun c => newV (A m c main_arg18) (A m c main_arg44),
    fun c => newV (A m c main_arg19) (A m c main_arg45),
    fun c => newV (A m c main_arg20) (A m c main_arg46),
    fun c => newV (A m c main_arg21) (A m c main_arg47),
    fun c => newV (A m c main_arg22) (A m c main_arg48),
    fun c => newV (A m c main_arg23) (A m c main_arg49),
    fun c => newV (A m c main_arg24) (A m c main_arg50),
    fun c => newV (A m c main_arg25) (A m c main_arg51),
    (θ_run Cert.Kernel7Ideal.defs _ _).mono (fun r h c => ?_) (θ_run_and (Cert.Kernel7Ideal.Gen.unchanged m ρ) (Cert.Kernel7Ideal.Gen.run_main m ρ)), ?_⟩
  · refine ⟨((h.2 c).2 _ (Pipeline.mem_restRefs_of main_v67 (by decide) (by decide))).trans (res0 m c).1,
      ((h.2 c).2 _ (Pipeline.mem_restRefs_of main_v76 (by decide) (by decide))).trans (res1 m c).1,
      ((h.2 c).2 _ (Pipeline.mem_restRefs_of main_v85 (by decide) (by decide))).trans (res2 m c).1,
      ((h.2 c).2 _ (Pipeline.mem_restRefs_of main_v94 (by decide) (by decide))).trans (res3 m c).1,
      ((h.2 c).2 _ (Pipeline.mem_restRefs_of main_v103 (by decide) (by decide))).trans (res4 m c).1,
      ((h.2 c).2 _ (Pipeline.mem_restRefs_of main_v112 (by decide) (by decide))).trans (res5 m c).1,
      ((h.2 c).2 _ (Pipeline.mem_restRefs_of main_v121 (by decide) (by decide))).trans (res6 m c).1,
      ((h.2 c).2 _ (Pipeline.mem_restRefs_of main_v130 (by decide) (by decide))).trans (res7 m c).1,
      ((h.2 c).2 _ (Pipeline.mem_restRefs_of main_v139 (by decide) (by decide))).trans (res8 m c).1,
      ((h.2 c).2 _ (Pipeline.mem_restRefs_of main_v148 (by decide) (by decide))).trans (res9 m c).1,
      ((h.2 c).2 _ (Pipeline.mem_restRefs_of main_v157 (by decide) (by decide))).trans (res10 m c).1,
      ((h.2 c).2 _ (Pipeline.mem_restRefs_of main_v166 (by decide) (by decide))).trans (res11 m c).1,
      ((h.2 c).2 _ (Pipeline.mem_restRefs_of main_v175 (by decide) (by decide))).trans (res12 m c).1,
      ((h.2 c).2 _ (Pipeline.mem_restRefs_of main_v70 (by decide) (by decide))).trans (res0 m c).2.1,
      ((h.2 c).2 _ (Pipeline.mem_restRefs_of main_v79 (by decide) (by decide))).trans (res1 m c).2.1,
      ((h.2 c).2 _ (Pipeline.mem_restRefs_of main_v88 (by decide) (by decide))).trans (res2 m c).2.1,
      ((h.2 c).2 _ (Pipeline.mem_restRefs_of main_v97 (by decide) (by decide))).trans (res3 m c).2.1,
      ((h.2 c).2 _ (Pipeline.mem_restRefs_of main_v106 (by decide) (by decide))).trans (res4 m c).2.1,
      ((h.2 c).2 _ (Pipeline.mem_restRefs_of main_v115 (by decide) (by decide))).trans (res5 m c).2.1,
      ((h.2 c).2 _ (Pipeline.mem_restRefs_of main_v124 (by decide) (by decide))).trans (res6 m c).2.1,
      ((h.2 c).2 _ (Pipeline.mem_restRefs_of main_v133 (by decide) (by decide))).trans (res7 m c).2.1,
      ((h.2 c).2 _ (Pipeline.mem_restRefs_of main_v142 (by decide) (by decide))).trans (res8 m c).2.1,
      ((h.2 c).2 _ (Pipeline.mem_restRefs_of main_v151 (by decide) (by decide))).trans (res9 m c).2.1,
      ((h.2 c).2 _ (Pipeline.mem_restRefs_of main_v160 (by decide) (by decide))).trans (res10 m c).2.1,
      ((h.2 c).2 _ (Pipeline.mem_restRefs_of main_v169 (by decide) (by decide))).trans (res11 m c).2.1,
      ((h.2 c).2 _ (Pipeline.mem_restRefs_of main_v178 (by decide) (by decide))).trans (res12 m c).2.1,
      ((h.2 c).2 _ (Pipeline.mem_restRefs_of main_v73 (by decide) (by decide))).trans (res0 m c).2.2,
      ((h.2 c).2 _ (Pipeline.mem_restRefs_of main_v82 (by decide) (by decide))).trans (res1 m c).2.2,
      ((h.2 c).2 _ (Pipeline.mem_restRefs_of main_v91 (by decide) (by decide))).trans (res2 m c).2.2,
      ((h.2 c).2 _ (Pipeline.mem_restRefs_of main_v100 (by decide) (by decide))).trans (res3 m c).2.2,
      ((h.2 c).2 _ (Pipeline.mem_restRefs_of main_v109 (by decide) (by decide))).trans (res4 m c).2.2,
      ((h.2 c).2 _ (Pipeline.mem_restRefs_of main_v118 (by decide) (by decide))).trans (res5 m c).2.2,
      ((h.2 c).2 _ (Pipeline.mem_restRefs_of main_v127 (by decide) (by decide))).trans (res6 m c).2.2,
      ((h.2 c).2 _ (Pipeline.mem_restRefs_of main_v136 (by decide) (by decide))).trans (res7 m c).2.2,
      ((h.2 c).2 _ (Pipeline.mem_restRefs_of main_v145 (by decide) (by decide))).trans (res8 m c).2.2,
      ((h.2 c).2 _ (Pipeline.mem_restRefs_of main_v154 (by decide) (by decide))).trans (res9 m c).2.2,
      ((h.2 c).2 _ (Pipeline.mem_restRefs_of main_v163 (by decide) (by decide))).trans (res10 m c).2.2,
      ((h.2 c).2 _ (Pipeline.mem_restRefs_of main_v172 (by decide) (by decide))).trans (res11 m c).2.2,
      ((h.2 c).2 _ (Pipeline.mem_restRefs_of main_v181 (by decide) (by decide))).trans (res12 m c).2.2, h.1 c⟩
  refine (θ_run Cert.Reference7Ideal.defs _ _).mono (fun _ h c => ?_) (Cert.Reference7Ideal.Value.run (F := Ideal) m' ρ')
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, hkept⟩ := h c
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51⟩ := hagree c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, h21.trans ?_, h22.trans ?_, h23.trans ?_, h24.trans ?_, h25.trans ?_, h26.trans ?_, h27.trans ?_, h28.trans ?_, h29.trans ?_, h30.trans ?_, h31.trans ?_, h32.trans ?_, h33.trans ?_, h34.trans ?_, h35.trans ?_, h36.trans ?_, h37.trans ?_, h38.trans ?_, hkept⟩
  all_goals dsimp only [A]; simp only [← a0, ← a1, ← a2, ← a3, ← a4, ← a5, ← a6, ← a7, ← a8, ← a9, ← a10, ← a11, ← a12, ← a13, ← a14, ← a15, ← a16, ← a17, ← a18, ← a19, ← a20, ← a21, ← a22, ← a23, ← a24, ← a25, ← a26, ← a27, ← a28, ← a29, ← a30, ← a31, ← a32, ← a33, ← a34, ← a35, ← a36, ← a37, ← a38, ← a39, ← a40, ← a41, ← a42, ← a43, ← a44, ← a45, ← a46, ← a47, ← a48, ← a49, ← a50, ← a51]; rfl

end Cert.Proof

end
-- ==== Proof.AdamShards.lean ====
/-
  The optimiser's step of the weights held in shards, one program for each shape (`Kernel8` … `Kernel15`): the sum of the gradient's two
  halves and `delta`, `newM`, `newV` at it, array by array (`final`) and as results (`res`); the reference's frame, and the equality of
  kernel and reference over the extended reals.
-/
module

public import proofs.«01_k».proof.Defs
public import proofs.«01_k».proof.Proof.AdamRun
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem Idealize.ShloMosaic.Tactic
open Cert.Kernel7Ideal.Adam (newM newV delta)

namespace Cert.Adam

/-- The sum of two halves. -/
abbrev both {s : Shape} (p q : FVec Ideal s .f32) : FVec Ideal s .f32 := addf p q

/-- The four arrays of a step, in the layout of the halves. -/
abbrev Flat {t : Shape} (w p q a b x0 x1 x2 x3 : FVec Ideal t .f32) : Prop :=
  x0 = both p q ∧ x1 = delta w (both p q) a b ∧ x2 = newM (both p q) a ∧ x3 = newV (both p q) b

/-- The four results of a step: the gradient, and what the optimiser makes of it. -/
abbrev Four {s t : Shape} (h : t.ShapeCasts s) (w : FVec Ideal s .f32) (p q : FVec Ideal t .f32) (a b y0 y1 y2 y3 : FVec Ideal s .f32) : Prop :=
  y0 = shapeCast s (both p q) h ∧ y1 = delta w (shapeCast s (both p q) h) a b ∧ y2 = newM (shapeCast s (both p q) h) a ∧ y3 = newV (shapeCast s (both p q) h) b

/-- The step at arrays laid out in another shape, read back. -/
theorem four {s t : Shape} (h : t.ShapeCasts s) (h' : s.ShapeCasts t) (w a b : FVec Ideal s .f32) (p q x0 x1 x2 x3 : FVec Ideal t .f32)
    (e : Flat (shapeCast t w h') p q (shapeCast t a h') (shapeCast t b h') x0 x1 x2 x3) :
    Four h w p q a b (shapeCast s x0 h) (shapeCast s x1 h) (shapeCast s x2 h) (shapeCast s x3 h) := by
  have ew : shapeCast s (shapeCast t w h') h = w := shapeCast_shapeCast ..
  have ea : shapeCast s (shapeCast t a h') h = a := shapeCast_shapeCast ..
  have eb : shapeCast s (shapeCast t b h') h = b := shapeCast_shapeCast ..
  obtain ⟨rfl, rfl, rfl, rfl⟩ := e
  unfold Four
  rw [← ew, ← ea, ← eb, shapeCast_shapeCast, shapeCast_shapeCast, shapeCast_shapeCast]
  exact ⟨rfl, rfl, rfl, rfl⟩

end Cert.Adam

open Cert.Adam

namespace Cert.Kernel8Ideal.Adam

open Cert.Kernel8Ideal Cert.Kernel8Ideal.Gen

variable (m : (ℓ : Loc nD τ sig) → Buf (Elt Ideal) ℓ) (c : Dev nD)

theorem final : Flat (V m c main_v0) (V m c main_arg1) (V m c main_arg2) (V m c main_v1) (V m c main_v2)
    ((dats m 0 c).arrAt 5 cfg0.N) ((dats m 0 c).arrAt 6 cfg0.N) ((dats m 0 c).arrAt 7 cfg0.N) ((dats m 0 c).arrAt 8 cfg0.N) := by
  refine ⟨?_, ?_, ?_, ?_⟩ <;> refine (dats m 0 c).arrAt_eq_of_covers _ _ (by decide +kernel) fun t hf y => ?_
  all_goals
    blk_simp
    first | rw [after0_5] | rw [after0_6] | rw [after0_7] | rw [after0_8]
    frame_out
    try simp only [k0_pay1, k0_pay3, k0_pay4, k0_pay5, k0_pay6, shapeCast_self]
    rfl

abbrev A (r : Ref sig .tc) := m ((c.tc : Thread nD τ).loc r)

theorem res : let End (r : Ref sig .tc) := Pipeline.afterTail₀ cfgs (dats m) 0 (V0 m) [hostOps1] c r
    Four shapeCasts_S4096x704_S4x1024x704 (A m c main_arg0) (A m c main_arg1) (A m c main_arg2) (A m c main_arg3) (A m c main_arg4)
    (End main_v4) (End main_v5) (End main_v6) (End main_v7) := by
  let L (a : FVec Ideal S4x1024x704 .f32) := shapeCast S4096x704 a shapeCasts_S4x1024x704_S4096x704
  have v : V m c main_arg1 = A m c main_arg1 ∧ V m c main_arg2 = A m c main_arg2 ∧ V m c main_v0 = L (A m c main_arg0)
      ∧ V m c main_v1 = L (A m c main_arg3) ∧ V m c main_v2 = L (A m c main_arg4) := by
    refine ⟨?_, ?_, ?_, ?_, ?_⟩ <;>
      (show V0 m c (Proc.devRef .tc _) = _; simp only [V0, List.flatten_cons, List.flatten_nil, List.cons_append, List.nil_append]; after_results; try rfl)
  have e := final m c
  rw [v.1, v.2.1, v.2.2.1, v.2.2.2.1, v.2.2.2.2] at e
  have h := Pipeline.withArrays_arr spec0 winFacts0.arr_inj c (V0 m c) (fun w => (dats m 0 c).arrAt w cfg0.N)
  have r := four shapeCasts_S4096x704_S4x1024x704 shapeCasts_S4x1024x704_S4096x704 _ _ _ _ _ _ _ _ _ ⟨(h 5).trans e.1, (h 6).trans e.2.1, (h 7).trans e.2.2.1, (h 8).trans e.2.2.2⟩
  refine ⟨Eq.trans ?_ r.1, Eq.trans ?_ r.2.1, Eq.trans ?_ r.2.2.1, Eq.trans ?_ r.2.2.2⟩ <;> (show StableHlo.after hostOps1 _ _ = _; after_results; rfl)

end Cert.Kernel8Ideal.Adam

namespace Cert.Kernel9Ideal.Adam

open Cert.Kernel9Ideal Cert.Kernel9Ideal.Gen

variable (m : (ℓ : Loc nD τ sig) → Buf (Elt Ideal) ℓ) (c : Dev nD)

theorem final : Flat (V m c main_v0) (V m c main_arg1) (V m c main_arg2) (V m c main_v1) (V m c main_v2)
    ((dats m 0 c).arrAt 5 cfg0.N) ((dats m 0 c).arrAt 6 cfg0.N) ((dats m 0 c).arrAt 7 cfg0.N) ((dats m 0 c).arrAt 8 cfg0.N) := by
  refine ⟨?_, ?_, ?_, ?_⟩ <;> refine (dats m 0 c).arrAt_eq_of_covers _ _ (by decide +kernel) fun t hf y => ?_
  all_goals
    blk_simp
    first | rw [after0_5] | rw [after0_6] | rw [after0_7] | rw [after0_8]
    frame_out
    try simp only [k0_pay1, k0_pay3, k0_pay4, k0_pay5, k0_pay6, shapeCast_self]
    rfl

abbrev A (r : Ref sig .tc) := m ((c.tc : Thread nD τ).loc r)

theorem res : let End (r : Ref sig .tc) := Pipeline.afterTail₀ cfgs (dats m) 0 (V0 m) [hostOps1] c r
    Four shapeCasts_S2816x1024_S4x704x1024 (A m c main_arg0) (A m c main_arg1) (A m c main_arg2) (A m c main_arg3) (A m c main_arg4)
    (End main_v4) (End main_v5) (End main_v6) (End main_v7) := by
  let L (a : FVec Ideal S4x704x1024 .f32) := shapeCast S2816x1024 a shapeCasts_S4x704x1024_S2816x1024
  have v : V m c main_arg1 = A m c main_arg1 ∧ V m c main_arg2 = A m c main_arg2 ∧ V m c main_v0 = L (A m c main_arg0)
      ∧ V m c main_v1 = L (A m c main_arg3) ∧ V m c main_v2 = L (A m c main_arg4) := by
    refine ⟨?_, ?_, ?_, ?_, ?_⟩ <;>
      (show V0 m c (Proc.devRef .tc _) = _; simp only [V0, List.flatten_cons, List.flatten_nil, List.cons_append, List.nil_append]; after_results; try rfl)
  have e := final m c
  rw [v.1, v.2.1, v.2.2.1, v.2.2.2.1, v.2.2.2.2] at e
  have h := Pipeline.withArrays_arr spec0 winFacts0.arr_inj c (V0 m c) (fun w => (dats m 0 c).arrAt w cfg0.N)
  have r := four shapeCasts_S2816x1024_S4x704x1024 shapeCasts_S4x704x1024_S2816x1024 _ _ _ _ _ _ _ _ _ ⟨(h 5).trans e.1, (h 6).trans e.2.1, (h 7).trans e.2.2.1, (h 8).trans e.2.2.2⟩
  refine ⟨Eq.trans ?_ r.1, Eq.trans ?_ r.2.1, Eq.trans ?_ r.2.2.1, Eq.trans ?_ r.2.2.2⟩ <;> (show StableHlo.after hostOps1 _ _ = _; after_results; rfl)

end Cert.Kernel9Ideal.Adam

namespace Cert.Kernel10Ideal.Adam

open Cert.Kernel10Ideal Cert.Kernel10Ideal.Gen

variable (m : (ℓ : Loc nD τ sig) → Buf (Elt Ideal) ℓ) (c : Dev nD)

theorem final : Flat (V m c main_v0) (V m c main_arg1) (V m c main_arg2) (V m c main_v1) (V m c main_v2)
    ((dats m 0 c).arrAt 5 cfg0.N) ((dats m 0 c).arrAt 6 cfg0.N) ((dats m 0 c).arrAt 7 cfg0.N) ((dats m 0 c).arrAt 8 cfg0.N) := by
  refine ⟨?_, ?_, ?_, ?_⟩ <;> refine (dats m 0 c).arrAt_eq_of_covers _ _ (by decide +kernel) fun t hf y => ?_
  all_goals
    blk_simp
    first | rw [after0_5] | rw [after0_6] | rw [after0_7] | rw [after0_8]
    frame_out
    try simp only [k0_pay1, k0_pay3, k0_pay4, k0_pay5, k0_pay6, shapeCast_self]
    rfl

abbrev A (r : Ref sig .tc) := m ((c.tc : Thread nD τ).loc r)

theorem res : let End (r : Ref sig .tc) := Pipeline.afterTail₀ cfgs (dats m) 0 (V0 m) [hostOps1] c r
    Four shapeCasts_S4096x1688_S4x1024x1688 (A m c main_arg0) (A m c main_arg1) (A m c main_arg2) (A m c main_arg3) (A m c main_arg4)
    (End main_v4) (End main_v5) (End main_v6) (End main_v7) := by
  let L (a : FVec Ideal S4x1024x1688 .f32) := shapeCast S4096x1688 a shapeCasts_S4x1024x1688_S4096x1688
  have v : V m c main_arg1 = A m c main_arg1 ∧ V m c main_arg2 = A m c main_arg2 ∧ V m c main_v0 = L (A m c main_arg0)
      ∧ V m c main_v1 = L (A m c main_arg3) ∧ V m c main_v2 = L (A m c main_arg4) := by
    refine ⟨?_, ?_, ?_, ?_, ?_⟩ <;>
      (show V0 m c (Proc.devRef .tc _) = _; simp only [V0, List.flatten_cons, List.flatten_nil, List.cons_append, List.nil_append]; after_results; try rfl)
  have e := final m c
  rw [v.1, v.2.1, v.2.2.1, v.2.2.2.1, v.2.2.2.2] at e
  have h := Pipeline.withArrays_arr spec0 winFacts0.arr_inj c (V0 m c) (fun w => (dats m 0 c).arrAt w cfg0.N)
  have r := four shapeCasts_S4096x1688_S4x1024x1688 shapeCasts_S4x1024x1688_S4096x1688 _ _ _ _ _ _ _ _ _ ⟨(h 5).trans e.1, (h 6).trans e.2.1, (h 7).trans e.2.2.1, (h 8).trans e.2.2.2⟩
  refine ⟨Eq.trans ?_ r.1, Eq.trans ?_ r.2.1, Eq.trans ?_ r.2.2.1, Eq.trans ?_ r.2.2.2⟩ <;> (show StableHlo.after hostOps1 _ _ = _; after_results; rfl)

end Cert.Kernel10Ideal.Adam

namespace Cert.Kernel11Ideal.Adam

open Cert.Kernel11Ideal Cert.Kernel11Ideal.Gen

variable (m : (ℓ : Loc nD τ sig) → Buf (Elt Ideal) ℓ) (c : Dev nD)

theorem final : Flat (V m c main_v0) (V m c main_arg1) (V m c main_arg2) (V m c main_v1) (V m c main_v2)
    ((dats m 0 c).arrAt 5 cfg0.N) ((dats m 0 c).arrAt 6 cfg0.N) ((dats m 0 c).arrAt 7 cfg0.N) ((dats m 0 c).arrAt 8 cfg0.N) := by
  refine ⟨?_, ?_, ?_, ?_⟩ <;> refine (dats m 0 c).arrAt_eq_of_covers _ _ (by decide +kernel) fun t hf y => ?_
  all_goals
    blk_simp
    first | rw [after0_5] | rw [after0_6] | rw [after0_7] | rw [after0_8]
    frame_out
    try simp only [k0_pay1, k0_pay3, k0_pay4, k0_pay5, k0_pay6, shapeCast_self]
    rfl

abbrev A (r : Ref sig .tc) := m ((c.tc : Thread nD τ).loc r)

theorem res : let End (r : Ref sig .tc) := Pipeline.afterTail₀ cfgs (dats m) 0 (V0 m) [hostOps1] c r
    Four shapeCasts_S64x64_S4x16x64 (A m c main_arg0) (A m c main_arg1) (A m c main_arg2) (A m c main_arg3) (A m c main_arg4)
    (End main_v4) (End main_v5) (End main_v6) (End main_v7) := by
  let L (a : FVec Ideal S4x16x64 .f32) := shapeCast S64x64 a shapeCasts_S4x16x64_S64x64
  have v : V m c main_arg1 = A m c main_arg1 ∧ V m c main_arg2 = A m c main_arg2 ∧ V m c main_v0 = L (A m c main_arg0)
      ∧ V m c main_v1 = L (A m c main_arg3) ∧ V m c main_v2 = L (A m c main_arg4) := by
    refine ⟨?_, ?_, ?_, ?_, ?_⟩ <;>
      (show V0 m c (Proc.devRef .tc _) = _; simp only [V0, List.flatten_cons, List.flatten_nil, List.cons_append, List.nil_append]; after_results; try rfl)
  have e := final m c
  rw [v.1, v.2.1, v.2.2.1, v.2.2.2.1, v.2.2.2.2] at e
  have h := Pipeline.withArrays_arr spec0 winFacts0.arr_inj c (V0 m c) (fun w => (dats m 0 c).arrAt w cfg0.N)
  have r := four shapeCasts_S64x64_S4x16x64 shapeCasts_S4x16x64_S64x64 _ _ _ _ _ _ _ _ _ ⟨(h 5).trans e.1, (h 6).trans e.2.1, (h 7).trans e.2.2.1, (h 8).trans e.2.2.2⟩
  refine ⟨Eq.trans ?_ r.1, Eq.trans ?_ r.2.1, Eq.trans ?_ r.2.2.1, Eq.trans ?_ r.2.2.2⟩ <;> (show StableHlo.after hostOps1 _ _ = _; after_results; rfl)

end Cert.Kernel11Ideal.Adam

namespace Cert.Kernel12Ideal.Adam

open Cert.Kernel12Ideal Cert.Kernel12Ideal.Gen

variable (m : (ℓ : Loc nD τ sig) → Buf (Elt Ideal) ℓ) (c : Dev nD)

theorem final : Flat (V m c main_v0) (V m c main_arg1) (V m c main_arg2) (V m c main_v1) (V m c main_v2)
    ((dats m 0 c).arrAt 5 cfg0.N) ((dats m 0 c).arrAt 6 cfg0.N) ((dats m 0 c).arrAt 7 cfg0.N) ((dats m 0 c).arrAt 8 cfg0.N) := by
  refine ⟨?_, ?_, ?_, ?_⟩ <;> refine (dats m 0 c).arrAt_eq_of_covers _ _ (by decide +kernel) fun t hf y => ?_
  all_goals
    blk_simp
    first | rw [after0_5] | rw [after0_6] | rw [after0_7] | rw [after0_8]
    frame_out
    try simp only [k0_pay1, k0_pay3, k0_pay4, k0_pay5, k0_pay6, shapeCast_self]
    rfl

abbrev A (r : Ref sig .tc) := m ((c.tc : Thread nD τ).loc r)

theorem res : let End (r : Ref sig .tc) := Pipeline.afterTail₀ cfgs (dats m) 0 (V0 m) [hostOps1] c r
    Four shapeCasts_S1024x192_S4x256x192 (A m c main_arg0) (A m c main_arg1) (A m c main_arg2) (A m c main_arg3) (A m c main_arg4)
    (End main_v4) (End main_v5) (End main_v6) (End main_v7) := by
  let L (a : FVec Ideal S4x256x192 .f32) := shapeCast S1024x192 a shapeCasts_S4x256x192_S1024x192
  have v : V m c main_arg1 = A m c main_arg1 ∧ V m c main_arg2 = A m c main_arg2 ∧ V m c main_v0 = L (A m c main_arg0)
      ∧ V m c main_v1 = L (A m c main_arg3) ∧ V m c main_v2 = L (A m c main_arg4) := by
    refine ⟨?_, ?_, ?_, ?_, ?_⟩ <;>
      (show V0 m c (Proc.devRef .tc _) = _; simp only [V0, List.flatten_cons, List.flatten_nil, List.cons_append, List.nil_append]; after_results; try rfl)
  have e := final m c
  rw [v.1, v.2.1, v.2.2.1, v.2.2.2.1, v.2.2.2.2] at e
  have h := Pipeline.withArrays_arr spec0 winFacts0.arr_inj c (V0 m c) (fun w => (dats m 0 c).arrAt w cfg0.N)
  have r := four shapeCasts_S1024x192_S4x256x192 shapeCasts_S4x256x192_S1024x192 _ _ _ _ _ _ _ _ _ ⟨(h 5).trans e.1, (h 6).trans e.2.1, (h 7).trans e.2.2.1, (h 8).trans e.2.2.2⟩
  refine ⟨Eq.trans ?_ r.1, Eq.trans ?_ r.2.1, Eq.trans ?_ r.2.2.1, Eq.trans ?_ r.2.2.2⟩ <;> (show StableHlo.after hostOps1 _ _ = _; after_results; rfl)

end Cert.Kernel12Ideal.Adam

namespace Cert.Kernel13Ideal.Adam

open Cert.Kernel13Ideal Cert.Kernel13Ideal.Gen

variable (m : (ℓ : Loc nD τ sig) → Buf (Elt Ideal) ℓ) (c : Dev nD)

theorem final : Flat (V m c main_v0) (V m c main_arg1) (V m c main_arg2) (V m c main_v1) (V m c main_v2)
    ((dats m 0 c).arrAt 5 cfg0.N) ((dats m 0 c).arrAt 6 cfg0.N) ((dats m 0 c).arrAt 7 cfg0.N) ((dats m 0 c).arrAt 8 cfg0.N) := by
  refine ⟨?_, ?_, ?_, ?_⟩ <;> refine (dats m 0 c).arrAt_eq_of_covers _ _ (by decide +kernel) fun t hf y => ?_
  all_goals
    blk_simp
    first | rw [after0_5] | rw [after0_6] | rw [after0_7] | rw [after0_8]
    frame_out
    try simp only [k0_pay1, k0_pay3, k0_pay4, k0_pay5, k0_pay6, shapeCast_self]
    rfl

abbrev A (r : Ref sig .tc) := m ((c.tc : Thread nD τ).loc r)

theorem res : let End (r : Ref sig .tc) := Pipeline.afterTail₀ cfgs (dats m) 0 (V0 m) [hostOps1] c r
    Four shapeCasts_S1024x256_S4x256x256 (A m c main_arg0) (A m c main_arg1) (A m c main_arg2) (A m c main_arg3) (A m c main_arg4)
    (End main_v4) (End main_v5) (End main_v6) (End main_v7) := by
  let L (a : FVec Ideal S4x256x256 .f32) := shapeCast S1024x256 a shapeCasts_S4x256x256_S1024x256
  have v : V m c main_arg1 = A m c main_arg1 ∧ V m c main_arg2 = A m c main_arg2 ∧ V m c main_v0 = L (A m c main_arg0)
      ∧ V m c main_v1 = L (A m c main_arg3) ∧ V m c main_v2 = L (A m c main_arg4) := by
    refine ⟨?_, ?_, ?_, ?_, ?_⟩ <;>
      (show V0 m c (Proc.devRef .tc _) = _; simp only [V0, List.flatten_cons, List.flatten_nil, List.cons_append, List.nil_append]; after_results; try rfl)
  have e := final m c
  rw [v.1, v.2.1, v.2.2.1, v.2.2.2.1, v.2.2.2.2] at e
  have h := Pipeline.withArrays_arr spec0 winFacts0.arr_inj c (V0 m c) (fun w => (dats m 0 c).arrAt w cfg0.N)
  have r := four shapeCasts_S1024x256_S4x256x256 shapeCasts_S4x256x256_S1024x256 _ _ _ _ _ _ _ _ _ ⟨(h 5).trans e.1, (h 6).trans e.2.1, (h 7).trans e.2.2.1, (h 8).trans e.2.2.2⟩
  refine ⟨Eq.trans ?_ r.1, Eq.trans ?_ r.2.1, Eq.trans ?_ r.2.2.1, Eq.trans ?_ r.2.2.2⟩ <;> (show StableHlo.after hostOps1 _ _ = _; after_results; rfl)

end Cert.Kernel13Ideal.Adam

namespace Cert.Kernel14Ideal.Adam

open Cert.Kernel14Ideal Cert.Kernel14Ideal.Gen

variable (m : (ℓ : Loc nD τ sig) → Buf (Elt Ideal) ℓ) (c : Dev nD)

theorem final : Flat (V m c main_v0) (V m c main_arg1) (V m c main_arg2) (V m c main_v1) (V m c main_v2)
    ((dats m 0 c).arrAt 5 cfg0.N) ((dats m 0 c).arrAt 6 cfg0.N) ((dats m 0 c).arrAt 7 cfg0.N) ((dats m 0 c).arrAt 8 cfg0.N) := by
  refine ⟨?_, ?_, ?_, ?_⟩ <;> refine (dats m 0 c).arrAt_eq_of_covers _ _ (by decide +kernel) fun t hf y => ?_
  all_goals
    blk_simp
    first | rw [after0_5] | rw [after0_6] | rw [after0_7] | rw [after0_8]
    frame_out
    try simp only [k0_pay1, k0_pay3, k0_pay4, k0_pay5, k0_pay6, shapeCast_self]
    rfl

abbrev A (r : Ref sig .tc) := m ((c.tc : Thread nD τ).loc r)

theorem res : let End (r : Ref sig .tc) := Pipeline.afterTail₀ cfgs (dats m) 0 (V0 m) [hostOps1] c r
    Four shapeCasts_S2048x256_S4x512x256 (A m c main_arg0) (A m c main_arg1) (A m c main_arg2) (A m c main_arg3) (A m c main_arg4)
    (End main_v4) (End main_v5) (End main_v6) (End main_v7) := by
  let L (a : FVec Ideal S4x512x256 .f32) := shapeCast S2048x256 a shapeCasts_S4x512x256_S2048x256
  have v : V m c main_arg1 = A m c main_arg1 ∧ V m c main_arg2 = A m c main_arg2 ∧ V m c main_v0 = L (A m c main_arg0)
      ∧ V m c main_v1 = L (A m c main_arg3) ∧ V m c main_v2 = L (A m c main_arg4) := by
    refine ⟨?_, ?_, ?_, ?_, ?_⟩ <;>
      (show V0 m c (Proc.devRef .tc _) = _; simp only [V0, List.flatten_cons, List.flatten_nil, List.cons_append, List.nil_append]; after_results; try rfl)
  have e := final m c
  rw [v.1, v.2.1, v.2.2.1, v.2.2.2.1, v.2.2.2.2] at e
  have h := Pipeline.withArrays_arr spec0 winFacts0.arr_inj c (V0 m c) (fun w => (dats m 0 c).arrAt w cfg0.N)
  have r := four shapeCasts_S2048x256_S4x512x256 shapeCasts_S4x512x256_S2048x256 _ _ _ _ _ _ _ _ _ ⟨(h 5).trans e.1, (h 6).trans e.2.1, (h 7).trans e.2.2.1, (h 8).trans e.2.2.2⟩
  refine ⟨Eq.trans ?_ r.1, Eq.trans ?_ r.2.1, Eq.trans ?_ r.2.2.1, Eq.trans ?_ r.2.2.2⟩ <;> (show StableHlo.after hostOps1 _ _ = _; after_results; rfl)

end Cert.Kernel14Ideal.Adam

namespace Cert.Kernel15Ideal.Adam

open Cert.Kernel15Ideal Cert.Kernel15Ideal.Gen

variable (m : (ℓ : Loc nD τ sig) → Buf (Elt Ideal) ℓ) (c : Dev nD)

theorem final : Flat (V m c main_v0) (V m c main_arg1) (V m c main_arg2) (V m c main_v1) (V m c main_v2)
    ((dats m 0 c).arrAt 5 cfg0.N) ((dats m 0 c).arrAt 6 cfg0.N) ((dats m 0 c).arrAt 7 cfg0.N) ((dats m 0 c).arrAt 8 cfg0.N) := by
  refine ⟨?_, ?_, ?_, ?_⟩ <;> refine (dats m 0 c).arrAt_eq_of_covers _ _ (by decide +kernel) fun t hf y => ?_
  all_goals
    blk_simp
    first | rw [after0_5] | rw [after0_6] | rw [after0_7] | rw [after0_8]
    frame_out
    try simp only [k0_pay1, k0_pay3, k0_pay4, k0_pay5, k0_pay6, shapeCast_self]
    rfl

abbrev A (r : Ref sig .tc) := m ((c.tc : Thread nD τ).loc r)

theorem res : let End (r : Ref sig .tc) := Pipeline.afterTail₀ cfgs (dats m) 0 (V0 m) [hostOps1] c r
    Four shapeCasts_S1024x1024_S4x256x1024 (A m c main_arg0) (A m c main_arg1) (A m c main_arg2) (A m c main_arg3) (A m c main_arg4)
    (End main_v4) (End main_v5) (End main_v6) (End main_v7) := by
  let L (a : FVec Ideal S4x256x1024 .f32) := shapeCast S1024x1024 a shapeCasts_S4x256x1024_S1024x1024
  have v : V m c main_arg1 = A m c main_arg1 ∧ V m c main_arg2 = A m c main_arg2 ∧ V m c main_v0 = L (A m c main_arg0)
      ∧ V m c main_v1 = L (A m c main_arg3) ∧ V m c main_v2 = L (A m c main_arg4) := by
    refine ⟨?_, ?_, ?_, ?_, ?_⟩ <;>
      (show V0 m c (Proc.devRef .tc _) = _; simp only [V0, List.flatten_cons, List.flatten_nil, List.cons_append, List.nil_append]; after_results; try rfl)
  have e := final m c
  rw [v.1, v.2.1, v.2.2.1, v.2.2.2.1, v.2.2.2.2] at e
  have h := Pipeline.withArrays_arr spec0 winFacts0.arr_inj c (V0 m c) (fun w => (dats m 0 c).arrAt w cfg0.N)
  have r := four shapeCasts_S1024x1024_S4x256x1024 shapeCasts_S4x256x1024_S1024x1024 _ _ _ _ _ _ _ _ _ ⟨(h 5).trans e.1, (h 6).trans e.2.1, (h 7).trans e.2.2.1, (h 8).trans e.2.2.2⟩
  refine ⟨Eq.trans ?_ r.1, Eq.trans ?_ r.2.1, Eq.trans ?_ r.2.2.1, Eq.trans ?_ r.2.2.2⟩ <;> (show StableHlo.after hostOps1 _ _ = _; after_results; rfl)

end Cert.Kernel15Ideal.Adam

namespace Cert.Proof

theorem shard8_frame_ri : Cert.quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

open Cert.Kernel8Ideal Cert.Kernel8Ideal.Gen Cert.Kernel8Ideal.Adam in
theorem shard8_algebraic : Cert.algebraic_Kernel8Ideal_Reference8Ideal := by
  intro m ρ m' ρ' hpre hagree
  refine ⟨fun c => _, fun c => _, fun c => _, fun c => _, (θ_run Cert.Kernel8Ideal.defs _ _).mono (fun r h c =>
    have k := fun r hr hs => (h.2 c).2 r (Pipeline.mem_restRefs_of r hr hs)
    ⟨(k main_v4 (by decide) (by decide)).trans (res m c).1, (k main_v5 (by decide) (by decide)).trans (res m c).2.1,
      (k main_v6 (by decide) (by decide)).trans (res m c).2.2.1, (k main_v7 (by decide) (by decide)).trans (res m c).2.2.2, h.1 c⟩)
    (θ_run_and (unchanged m ρ) (run_main m ρ)),
    (θ_run Cert.Reference8Ideal.defs _ _).mono (fun _ h c => ?_) (Cert.Reference8Ideal.Value.run (F := Ideal) m' ρ')⟩
  obtain ⟨a0, a1, a2, a3, a4⟩ := hagree c
  obtain ⟨h0, h1, h2, h3, hkept⟩ := h c
  refine ⟨h0.trans ?_, h1.trans ?_, h2.trans ?_, h3.trans ?_, hkept⟩
  all_goals dsimp only [A]; rw [← a1, ← a2]; try rw [← a0]
  all_goals try rw [← a3]
  all_goals try rw [← a4]
  all_goals rfl

theorem shard9_frame_ri : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

open Cert.Kernel9Ideal Cert.Kernel9Ideal.Gen Cert.Kernel9Ideal.Adam in
theorem shard9_algebraic : Cert.algebraic_Kernel9Ideal_Reference9Ideal := by
  intro m ρ m' ρ' hpre hagree
  refine ⟨fun c => _, fun c => _, fun c => _, fun c => _, (θ_run Cert.Kernel9Ideal.defs _ _).mono (fun r h c =>
    have k := fun r hr hs => (h.2 c).2 r (Pipeline.mem_restRefs_of r hr hs)
    ⟨(k main_v4 (by decide) (by decide)).trans (res m c).1, (k main_v5 (by decide) (by decide)).trans (res m c).2.1,
      (k main_v6 (by decide) (by decide)).trans (res m c).2.2.1, (k main_v7 (by decide) (by decide)).trans (res m c).2.2.2, h.1 c⟩)
    (θ_run_and (unchanged m ρ) (run_main m ρ)),
    (θ_run Cert.Reference9Ideal.defs _ _).mono (fun _ h c => ?_) (Cert.Reference9Ideal.Value.run (F := Ideal) m' ρ')⟩
  obtain ⟨a0, a1, a2, a3, a4⟩ := hagree c
  obtain ⟨h0, h1, h2, h3, hkept⟩ := h c
  refine ⟨h0.trans ?_, h1.trans ?_, h2.trans ?_, h3.trans ?_, hkept⟩
  all_goals dsimp only [A]; rw [← a1, ← a2]; try rw [← a0]
  all_goals try rw [← a3]
  all_goals try rw [← a4]
  all_goals rfl

theorem shard10_frame_ri : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

open Cert.Kernel10Ideal Cert.Kernel10Ideal.Gen Cert.Kernel10Ideal.Adam in
theorem shard10_algebraic : Cert.algebraic_Kernel10Ideal_Reference10Ideal := by
  intro m ρ m' ρ' hpre hagree
  refine ⟨fun c => _, fun c => _, fun c => _, fun c => _, (θ_run Cert.Kernel10Ideal.defs _ _).mono (fun r h c =>
    have k := fun r hr hs => (h.2 c).2 r (Pipeline.mem_restRefs_of r hr hs)
    ⟨(k main_v4 (by decide) (by decide)).trans (res m c).1, (k main_v5 (by decide) (by decide)).trans (res m c).2.1,
      (k main_v6 (by decide) (by decide)).trans (res m c).2.2.1, (k main_v7 (by decide) (by decide)).trans (res m c).2.2.2, h.1 c⟩)
    (θ_run_and (unchanged m ρ) (run_main m ρ)),
    (θ_run Cert.Reference10Ideal.defs _ _).mono (fun _ h c => ?_) (Cert.Reference10Ideal.Value.run (F := Ideal) m' ρ')⟩
  obtain ⟨a0, a1, a2, a3, a4⟩ := hagree c
  obtain ⟨h0, h1, h2, h3, hkept⟩ := h c
  refine ⟨h0.trans ?_, h1.trans ?_, h2.trans ?_, h3.trans ?_, hkept⟩
  all_goals dsimp only [A]; rw [← a1, ← a2]; try rw [← a0]
  all_goals try rw [← a3]
  all_goals try rw [← a4]
  all_goals rfl

theorem shard11_frame_ri : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

open Cert.Kernel11Ideal Cert.Kernel11Ideal.Gen Cert.Kernel11Ideal.Adam in
theorem shard11_algebraic : Cert.algebraic_Kernel11Ideal_Reference11Ideal := by
  intro m ρ m' ρ' hpre hagree
  refine ⟨fun c => _, fun c => _, fun c => _, fun c => _, (θ_run Cert.Kernel11Ideal.defs _ _).mono (fun r h c =>
    have k := fun r hr hs => (h.2 c).2 r (Pipeline.mem_restRefs_of r hr hs)
    ⟨(k main_v4 (by decide) (by decide)).trans (res m c).1, (k main_v5 (by decide) (by decide)).trans (res m c).2.1,
      (k main_v6 (by decide) (by decide)).trans (res m c).2.2.1, (k main_v7 (by decide) (by decide)).trans (res m c).2.2.2, h.1 c⟩)
    (θ_run_and (unchanged m ρ) (run_main m ρ)),
    (θ_run Cert.Reference11Ideal.defs _ _).mono (fun _ h c => ?_) (Cert.Reference11Ideal.Value.run (F := Ideal) m' ρ')⟩
  obtain ⟨a0, a1, a2, a3, a4⟩ := hagree c
  obtain ⟨h0, h1, h2, h3, hkept⟩ := h c
  refine ⟨h0.trans ?_, h1.trans ?_, h2.trans ?_, h3.trans ?_, hkept⟩
  all_goals dsimp only [A]; rw [← a1, ← a2]; try rw [← a0]
  all_goals try rw [← a3]
  all_goals try rw [← a4]
  all_goals rfl

theorem shard12_frame_ri : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

open Cert.Kernel12Ideal Cert.Kernel12Ideal.Gen Cert.Kernel12Ideal.Adam in
theorem shard12_algebraic : Cert.algebraic_Kernel12Ideal_Reference12Ideal := by
  intro m ρ m' ρ' hpre hagree
  refine ⟨fun c => _, fun c => _, fun c => _, fun c => _, (θ_run Cert.Kernel12Ideal.defs _ _).mono (fun r h c =>
    have k := fun r hr hs => (h.2 c).2 r (Pipeline.mem_restRefs_of r hr hs)
    ⟨(k main_v4 (by decide) (by decide)).trans (res m c).1, (k main_v5 (by decide) (by decide)).trans (res m c).2.1,
      (k main_v6 (by decide) (by decide)).trans (res m c).2.2.1, (k main_v7 (by decide) (by decide)).trans (res m c).2.2.2, h.1 c⟩)
    (θ_run_and (unchanged m ρ) (run_main m ρ)),
    (θ_run Cert.Reference12Ideal.defs _ _).mono (fun _ h c => ?_) (Cert.Reference12Ideal.Value.run (F := Ideal) m' ρ')⟩
  obtain ⟨a0, a1, a2, a3, a4⟩ := hagree c
  obtain ⟨h0, h1, h2, h3, hkept⟩ := h c
  refine ⟨h0.trans ?_, h1.trans ?_, h2.trans ?_, h3.trans ?_, hkept⟩
  all_goals dsimp only [A]; rw [← a1, ← a2]; try rw [← a0]
  all_goals try rw [← a3]
  all_goals try rw [← a4]
  all_goals rfl

theorem shard13_frame_ri : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

open Cert.Kernel13Ideal Cert.Kernel13Ideal.Gen Cert.Kernel13Ideal.Adam in
theorem shard13_algebraic : Cert.algebraic_Kernel13Ideal_Reference13Ideal := by
  intro m ρ m' ρ' hpre hagree
  refine ⟨fun c => _, fun c => _, fun c => _, fun c => _, (θ_run Cert.Kernel13Ideal.defs _ _).mono (fun r h c =>
    have k := fun r hr hs => (h.2 c).2 r (Pipeline.mem_restRefs_of r hr hs)
    ⟨(k main_v4 (by decide) (by decide)).trans (res m c).1, (k main_v5 (by decide) (by decide)).trans (res m c).2.1,
      (k main_v6 (by decide) (by decide)).trans (res m c).2.2.1, (k main_v7 (by decide) (by decide)).trans (res m c).2.2.2, h.1 c⟩)
    (θ_run_and (unchanged m ρ) (run_main m ρ)),
    (θ_run Cert.Reference13Ideal.defs _ _).mono (fun _ h c => ?_) (Cert.Reference13Ideal.Value.run (F := Ideal) m' ρ')⟩
  obtain ⟨a0, a1, a2, a3, a4⟩ := hagree c
  obtain ⟨h0, h1, h2, h3, hkept⟩ := h c
  refine ⟨h0.trans ?_, h1.trans ?_, h2.trans ?_, h3.trans ?_, hkept⟩
  all_goals dsimp only [A]; rw [← a1, ← a2]; try rw [← a0]
  all_goals try rw [← a3]
  all_goals try rw [← a4]
  all_goals rfl

theorem shard14_frame_ri : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

open Cert.Kernel14Ideal Cert.Kernel14Ideal.Gen Cert.Kernel14Ideal.Adam in
theorem shard14_algebraic : Cert.algebraic_Kernel14Ideal_Reference14Ideal := by
  intro m ρ m' ρ' hpre hagree
  refine ⟨fun c => _, fun c => _, fun c => _, fun c => _, (θ_run Cert.Kernel14Ideal.defs _ _).mono (fun r h c =>
    have k := fun r hr hs => (h.2 c).2 r (Pipeline.mem_restRefs_of r hr hs)
    ⟨(k main_v4 (by decide) (by decide)).trans (res m c).1, (k main_v5 (by decide) (by decide)).trans (res m c).2.1,
      (k main_v6 (by decide) (by decide)).trans (res m c).2.2.1, (k main_v7 (by decide) (by decide)).trans (res m c).2.2.2, h.1 c⟩)
    (θ_run_and (unchanged m ρ) (run_main m ρ)),
    (θ_run Cert.Reference14Ideal.defs _ _).mono (fun _ h c => ?_) (Cert.Reference14Ideal.Value.run (F := Ideal) m' ρ')⟩
  obtain ⟨a0, a1, a2, a3, a4⟩ := hagree c
  obtain ⟨h0, h1, h2, h3, hkept⟩ := h c
  refine ⟨h0.trans ?_, h1.trans ?_, h2.trans ?_, h3.trans ?_, hkept⟩
  all_goals dsimp only [A]; rw [← a1, ← a2]; try rw [← a0]
  all_goals try rw [← a3]
  all_goals try rw [← a4]
  all_goals rfl

theorem shard15_frame_ri : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

open Cert.Kernel15Ideal Cert.Kernel15Ideal.Gen Cert.Kernel15Ideal.Adam in
theorem shard15_algebraic : Cert.algebraic_Kernel15Ideal_Reference15Ideal := by
  intro m ρ m' ρ' hpre hagree
  refine ⟨fun c => _, fun c => _, fun c => _, fun c => _, (θ_run Cert.Kernel15Ideal.defs _ _).mono (fun r h c =>
    have k := fun r hr hs => (h.2 c).2 r (Pipeline.mem_restRefs_of r hr hs)
    ⟨(k main_v4 (by decide) (by decide)).trans (res m c).1, (k main_v5 (by decide) (by decide)).trans (res m c).2.1,
      (k main_v6 (by decide) (by decide)).trans (res m c).2.2.1, (k main_v7 (by decide) (by decide)).trans (res m c).2.2.2, h.1 c⟩)
    (θ_run_and (unchanged m ρ) (run_main m ρ)),
    (θ_run Cert.Reference15Ideal.defs _ _).mono (fun _ h c => ?_) (Cert.Reference15Ideal.Value.run (F := Ideal) m' ρ')⟩
  obtain ⟨a0, a1, a2, a3, a4⟩ := hagree c
  obtain ⟨h0, h1, h2, h3, hkept⟩ := h c
  refine ⟨h0.trans ?_, h1.trans ?_, h2.trans ?_, h3.trans ?_, hkept⟩
  all_goals dsimp only [A]; rw [← a1, ← a2]; try rw [← a0]
  all_goals try rw [← a3]
  all_goals try rw [← a4]
  all_goals rfl

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_qk
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Pre_finite_ffn
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Pre_finite_qk3
public import proofs.«01_k».proof.Proof.Meet
public import proofs.«01_k».proof.Proof.FfnRun
public import proofs.«01_k».proof.Proof.FfnMeet
public import proofs.«01_k».proof.Proof.MergeClaim
public import proofs.«01_k».proof.Proof.WinClaim
public import proofs.«01_k».proof.Proof.AttnClaim
public import proofs.«01_k».proof.Proof.LatentClaim
public import proofs.«01_k».proof.Proof.AdamClaim
public import proofs.«01_k».proof.Proof.AdamShards
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The idealized kernel's run from finite queries and keys: its results are the reference's terms of its arguments. -/
theorem kernel_run (m : (ℓ : Loc Cert.KernelIdeal.nD Cert.KernelIdeal.τ Cert.KernelIdeal.sig) → Buf (Elt Ideal) ℓ)
    (ρ : Dev Cert.KernelIdeal.nD → PrngReg) (hpre : Pre_KernelIdeal_finite_qk m) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v13_0)
          = Cert.ReferenceIdeal.Read.val_main_v64 (F := Ideal) (Cert.Attn.q0 m c) (Cert.Attn.k0 m c) (Cert.Attn.v0 m c) (Cert.Attn.o0 m c)
        ∧ r.2.mem ((c.tc : Thread Cert.KernelIdeal.nD Cert.KernelIdeal.τ).loc Cert.KernelIdeal.main_v13_1)
          = Cert.ReferenceIdeal.Read.val_main_v65 (F := Ideal) (Cert.Attn.q0 m c) (Cert.Attn.k0 m c) (Cert.Attn.v0 m c) (Cert.Attn.o0 m c)
        ∧ r.2.mem ((c.tc : Thread Cert.KernelIdeal.nD Cert.KernelIdeal.τ).loc Cert.KernelIdeal.main_v13_2)
          = Cert.ReferenceIdeal.Read.val_main_v66 (F := Ideal) (Cert.Attn.q0 m c) (Cert.Attn.k0 m c) (Cert.Attn.o0 m c)
        ∧ r.2.mem ((c.tc : Thread Cert.KernelIdeal.nD Cert.KernelIdeal.τ).loc Cert.KernelIdeal.main_arg0) = Cert.Attn.q0 m c
        ∧ r.2.mem ((c.tc : Thread Cert.KernelIdeal.nD Cert.KernelIdeal.τ).loc Cert.KernelIdeal.main_arg1) = Cert.Attn.k0 m c
        ∧ r.2.mem ((c.tc : Thread Cert.KernelIdeal.nD Cert.KernelIdeal.τ).loc Cert.KernelIdeal.main_arg2) = Cert.Attn.v0 m c
        ∧ r.2.mem ((c.tc : Thread Cert.KernelIdeal.nD Cert.KernelIdeal.τ).loc Cert.KernelIdeal.main_arg3) = Cert.Attn.o0 m c :=
  (θ_run Cert.KernelIdeal.defs _ _).mono (fun r h c => by
    obtain ⟨h4, h5, h6, hkept⟩ := h c
    obtain ⟨hq, hk⟩ := Cert.Attn.finite _ _ _ _ (hpre c)
    exact ⟨h4.trans ((Cert.KernelIdeal.Attn.final4 m c).trans (Cert.Attn.dq_eq m c hq hk)),
      h5.trans ((Cert.KernelIdeal.Attn.final5 m c).trans (Cert.Attn.dk_eq m c hq hk)),
      h6.trans ((Cert.KernelIdeal.Attn.final6 m c).trans (Cert.Attn.dv_eq m c hq hk)), hkept⟩)
    (Cert.KernelIdeal.Value.run_blocks m ρ)

theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "scale" .f32 0x3D93CD3A#32 (((Real.sqrt 192)⁻¹ : ℝ) : EReal) rfl

theorem algebraic : Cert.algebraic_KernelIdeal_ReferenceIdeal_pre_finite_qk := by
  intro m ρ m' ρ' hpre hagree
  refine ⟨_, _, _, kernel_run m ρ hpre, ?_⟩
  refine (θ_run Cert.ReferenceIdeal.defs _ _).mono (fun _ h c => ?_) (Cert.ReferenceIdeal.Value.run (F := Ideal) m' ρ')
  obtain ⟨h0, h1, h2, hkept⟩ := h c
  obtain ⟨a0, a1, a2, a3⟩ := hagree c
  refine ⟨h0.trans ((Cert.ReferenceIdeal.Read.val_main_v64_eq m' c).trans ?_), h1.trans ((Cert.ReferenceIdeal.Read.val_main_v65_eq m' c).trans ?_),
    h2.trans ((Cert.ReferenceIdeal.Read.val_main_v66_eq _ _ _).trans ?_), hkept⟩
  · rw [a0, a1, a2, a3]
  · rw [a0, a1, a2, a3]
  · rw [a0, a1, a3]

/-! ## The feed-forward half-step -/

theorem ffn_run (m : (ℓ : Loc Cert.Kernel2Ideal.nD Cert.Kernel2Ideal.τ Cert.Kernel2Ideal.sig) → Buf (Elt Ideal) ℓ)
    (ρ : Dev Cert.Kernel2Ideal.nD → PrngReg) (hpre : Pre_Kernel2Ideal_finite_ffn m) :
    θ_run (Cert.Kernel2Ideal.defs (F := Ideal)) (onTc (τ := Cert.Kernel2Ideal.τ) (Cert.Kernel2Ideal.main (F := Ideal))) ⟨m, fun _ => 0, ρ⟩
      fun r => ∀ c : Dev Cert.Kernel2Ideal.nD,
        r.2.mem ((c.tc : Thread Cert.Kernel2Ideal.nD Cert.Kernel2Ideal.τ).loc Cert.Kernel2Ideal.main_v11) = Cert.Reference2Ideal.Read.val_main_v23 (F := Ideal) (Cert.Kernel2Ideal.Ffn.X0 m c) (Cert.Kernel2Ideal.Ffn.G0 m c) (Cert.Kernel2Ideal.Ffn.A0 m c) (Cert.Kernel2Ideal.Ffn.B0 m c) (Cert.Kernel2Ideal.Ffn.C0 m c)
        ∧ r.2.mem ((c.tc : Thread Cert.Kernel2Ideal.nD Cert.Kernel2Ideal.τ).loc Cert.Kernel2Ideal.main_v21_0) = Cert.Reference2Ideal.Read.val_main_v60 (F := Ideal) (Cert.Kernel2Ideal.Ffn.X0 m c) (Cert.Kernel2Ideal.Ffn.G0 m c) (Cert.Kernel2Ideal.Ffn.A0 m c) (Cert.Kernel2Ideal.Ffn.B0 m c) (Cert.Kernel2Ideal.Ffn.C0 m c) (Cert.Kernel2Ideal.Ffn.Y0 m c)
        ∧ r.2.mem ((c.tc : Thread Cert.Kernel2Ideal.nD Cert.Kernel2Ideal.τ).loc Cert.Kernel2Ideal.main_v23) = Cert.Reference2Ideal.Read.val_main_v45 (F := Ideal) (Cert.Kernel2Ideal.Ffn.X0 m c) (Cert.Kernel2Ideal.Ffn.G0 m c) (Cert.Kernel2Ideal.Ffn.A0 m c) (Cert.Kernel2Ideal.Ffn.B0 m c) (Cert.Kernel2Ideal.Ffn.C0 m c) (Cert.Kernel2Ideal.Ffn.Y0 m c)
        ∧ r.2.mem ((c.tc : Thread Cert.Kernel2Ideal.nD Cert.Kernel2Ideal.τ).loc Cert.Kernel2Ideal.main_v27) = Cert.Reference2Ideal.Read.val_main_v37 (F := Ideal) (Cert.Kernel2Ideal.Ffn.X0 m c) (Cert.Kernel2Ideal.Ffn.G0 m c) (Cert.Kernel2Ideal.Ffn.A0 m c) (Cert.Kernel2Ideal.Ffn.B0 m c) (Cert.Kernel2Ideal.Ffn.C0 m c) (Cert.Kernel2Ideal.Ffn.Y0 m c)
        ∧ r.2.mem ((c.tc : Thread Cert.Kernel2Ideal.nD Cert.Kernel2Ideal.τ).loc Cert.Kernel2Ideal.main_v31) = Cert.Reference2Ideal.Read.val_main_v33 (F := Ideal) (Cert.Kernel2Ideal.Ffn.X0 m c) (Cert.Kernel2Ideal.Ffn.G0 m c) (Cert.Kernel2Ideal.Ffn.A0 m c) (Cert.Kernel2Ideal.Ffn.C0 m c) (Cert.Kernel2Ideal.Ffn.Y0 m c)
        ∧ r.2.mem ((c.tc : Thread Cert.Kernel2Ideal.nD Cert.Kernel2Ideal.τ).loc Cert.Kernel2Ideal.main_v33) = Cert.Reference2Ideal.Read.val_main_v28 (F := Ideal) (Cert.Kernel2Ideal.Ffn.X0 m c) (Cert.Kernel2Ideal.Ffn.G0 m c) (Cert.Kernel2Ideal.Ffn.A0 m c) (Cert.Kernel2Ideal.Ffn.B0 m c) (Cert.Kernel2Ideal.Ffn.Y0 m c)
        ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
        ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
        ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5) :=
  (θ_run Cert.Kernel2Ideal.defs _ _).mono (fun r h c => by
    obtain ⟨kept, hy, hx, hg, h1, h3, h2⟩ := h c
    obtain ⟨fg, f3, f2, fY⟩ := Cert.Kernel2Ideal.Ffn.finite _ _ _ _ _ _ (hpre c)
    exact ⟨hy.trans (Cert.Kernel2Ideal.Ffn.meet_y _ _ _ _ _),
      hx.trans (Cert.Kernel2Ideal.Ffn.meet_x _ _ _ _ _ _ fg f3 f2 fY),
      hg.trans (Cert.Kernel2Ideal.Ffn.meet_g _ _ _ _ _ _ fg f3 f2 fY),
      h1.trans (Cert.Kernel2Ideal.Ffn.meet_w1 _ _ _ _ _ _ fg f3 f2 fY),
      h3.trans (Cert.Kernel2Ideal.Ffn.meet_w3 _ _ _ _ _),
      h2.trans (Cert.Kernel2Ideal.Ffn.meet_w2 _ _ _ _ _), kept⟩)
    (Cert.Kernel2Ideal.Gen.run_final m ρ)

theorem ffn_frame_ri : Cert.quiescent_Reference2Ideal := fun m ρ _ =>
  (θ_run Cert.Reference2Ideal.defs _ _).mono (fun r h => ⟨fun c => (h c).2.2.2.2.2.2,
      Idealize.ShloMosaic.sem_eq_zero_of_no_sems (by decide) r.2⟩)
    (Cert.Reference2Ideal.Value.run (F := Ideal) m ρ)

theorem ffn_algebraic : Cert.algebraic_Kernel2Ideal_Reference2Ideal_pre_finite_ffn := by
  intro m ρ m' ρ' hpre hagree
  refine ⟨_, _, _, _, _, _, ffn_run m ρ hpre, ?_⟩
  refine (θ_run Cert.Reference2Ideal.defs _ _).mono (fun _ h c => ?_) (Cert.Reference2Ideal.Value.run (F := Ideal) m' ρ')
  obtain ⟨hy, hx, hg, h1, h3, h2, hkept⟩ := h c
  obtain ⟨a0, a1, a2, a3, a4, a5⟩ := hagree c
  refine ⟨hy.trans ((Cert.Reference2Ideal.Read.val_main_v23_eq _ _ _ _ _).trans ?_), hx.trans ((Cert.Reference2Ideal.Read.val_main_v60_eq m' c).trans ?_),
    hg.trans ((Cert.Reference2Ideal.Read.val_main_v45_eq m' c).trans ?_), h1.trans ((Cert.Reference2Ideal.Read.val_main_v37_eq m' c).trans ?_),
    h3.trans ((Cert.Reference2Ideal.Read.val_main_v33_eq _ _ _ _ _).trans ?_), h2.trans ((Cert.Reference2Ideal.Read.val_main_v28_eq _ _ _ _ _).trans ?_), hkept⟩
  · rw [a0, a1, a2, a3, a4]
  · rw [a0, a1, a2, a3, a4, a5]
  · rw [a0, a1, a2, a3, a4, a5]
  · rw [a0, a1, a2, a3, a4, a5]
  · rw [a0, a1, a2, a4, a5]
  · rw [a0, a1, a2, a3, a5]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite_qk.Gen.facts, Cert.Pre_finite_ffn.Gen.facts, Cert.Pre_finite_qk3.Gen.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Kernel2.Gen.frame m ρ, fun m ρ _ => Cert.Kernel2Ideal.Gen.frame m ρ, fun m ρ _ => Cert.Kernel2Ideal.Gen.frame m ρ,
  ffn_frame_ri, fun m ρ _ => ffn_frame_ri m ρ trivial,
  fun m ρ _ => Cert.Kernel3.Gen.frame m ρ, fun m ρ _ => Cert.Kernel3Ideal.Gen.frame m ρ, merge_frame_ri,
  fun m ρ _ => Cert.Kernel4.Gen.frame m ρ, fun m ρ _ => Cert.Kernel4Ideal.Gen.frame m ρ, win_frame_ri,
  fun m ρ _ => Cert.Kernel5.Gen.frame m ρ, fun m ρ _ => Cert.Kernel5Ideal.Gen.frame m ρ, fun m ρ _ => Cert.Kernel5Ideal.Gen.frame m ρ,
  attn_frame_ri, fun m ρ _ => attn_frame_ri m ρ trivial,
  fun m ρ _ => Cert.Kernel6.Gen.frame m ρ, fun m ρ _ => Cert.Kernel6Ideal.Gen.frame m ρ, latent_frame_ri,
  fun m ρ _ => Cert.Kernel7.Gen.frame m ρ, fun m ρ _ => Cert.Kernel7Ideal.Gen.frame m ρ, adam_frame_ri,
  fun m ρ _ => Cert.Kernel8.Gen.frame m ρ, fun m ρ _ => Cert.Kernel8Ideal.Gen.frame m ρ, shard8_frame_ri,
  fun m ρ _ => Cert.Kernel9.Gen.frame m ρ, fun m ρ _ => Cert.Kernel9Ideal.Gen.frame m ρ, shard9_frame_ri,
  fun m ρ _ => Cert.Kernel10.Gen.frame m ρ, fun m ρ _ => Cert.Kernel10Ideal.Gen.frame m ρ, shard10_frame_ri,
  fun m ρ _ => Cert.Kernel11.Gen.frame m ρ, fun m ρ _ => Cert.Kernel11Ideal.Gen.frame m ρ, shard11_frame_ri,
  fun m ρ _ => Cert.Kernel12.Gen.frame m ρ, fun m ρ _ => Cert.Kernel12Ideal.Gen.frame m ρ, shard12_frame_ri,
  fun m ρ _ => Cert.Kernel13.Gen.frame m ρ, fun m ρ _ => Cert.Kernel13Ideal.Gen.frame m ρ, shard13_frame_ri,
  fun m ρ _ => Cert.Kernel14.Gen.frame m ρ, fun m ρ _ => Cert.Kernel14Ideal.Gen.frame m ρ, shard14_frame_ri,
  fun m ρ _ => Cert.Kernel15.Gen.frame m ρ, fun m ρ _ => Cert.Kernel15Ideal.Gen.frame m ρ, shard15_frame_ri,
  preserves, algebraic, trivial, ffn_algebraic, trivial, merge_algebraic, trivial, win_algebraic, trivial, attn_algebraic, trivial, latent_algebraic, trivial, adam_algebraic, trivial, shard8_algebraic, trivial, shard9_algebraic, trivial, shard10_algebraic, trivial, shard11_algebraic, trivial, shard12_algebraic, trivial, shard13_algebraic, trivial, shard14_algebraic, trivial, shard15_algebraic⟩

end Cert.Proof

end
